-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3_0)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v3_2)) (v5 : (c : Dev Cert.KernelIdeal.nD) → Buf (Elt Ideal) ((c.tc : Thread Cert.KernelIdeal.nD Cert.KernelIdeal.τ).loc Cert.KernelIdeal.main_v3_3)) (v6 : (c : Dev Cert.KernelIdeal.nD) → Buf (Elt Ideal) ((c.tc : Thread Cert.KernelIdeal.nD Cert.KernelIdeal.τ).loc Cert.KernelIdeal.main_v3_4)) (v7 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_v3_3) = v5 c
          ∧ r.2.mem ((c.tc : Thread Cert.KernelIdeal.nD Cert.KernelIdeal.τ).loc Cert.KernelIdeal.main_v3_4) = v6 c
          ∧ r.2.mem ((c.tc : Thread Cert.KernelIdeal.nD Cert.KernelIdeal.τ).loc Cert.KernelIdeal.main_v3_5) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_v63) = v5 c
          ∧ r.2.mem ((c.tc : Thread Cert.ReferenceIdeal.nD Cert.ReferenceIdeal.τ).loc Cert.ReferenceIdeal.main_v64) = v6 c
          ∧ r.2.mem ((c.tc : Thread Cert.ReferenceIdeal.nD Cert.ReferenceIdeal.τ).loc Cert.ReferenceIdeal.main_v60) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v64)) (v1 : (c : Dev Cert.Kernel2Ideal.nD) → Buf (Elt Ideal) ((c.tc : Thread Cert.Kernel2Ideal.nD Cert.Kernel2Ideal.τ).loc Cert.Kernel2Ideal.main_v68)) (v2 : (c : Dev Cert.Kernel2Ideal.nD) → Buf (Elt Ideal) ((c.tc : Thread Cert.Kernel2Ideal.nD Cert.Kernel2Ideal.τ).loc Cert.Kernel2Ideal.main_v95)) (v3 : (c : Dev Cert.Kernel2Ideal.nD) → Buf (Elt Ideal) ((c.tc : Thread Cert.Kernel2Ideal.nD Cert.Kernel2Ideal.τ).loc Cert.Kernel2Ideal.main_v122)) (v4 : (c : Dev Cert.Kernel2Ideal.nD) → Buf (Elt Ideal) ((c.tc : Thread Cert.Kernel2Ideal.nD Cert.Kernel2Ideal.τ).loc Cert.Kernel2Ideal.main_v123)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v64) = v0 c
          ∧ r.2.mem ((c.tc : Thread Cert.Kernel2Ideal.nD Cert.Kernel2Ideal.τ).loc Cert.Kernel2Ideal.main_v68) = v1 c
          ∧ r.2.mem ((c.tc : Thread Cert.Kernel2Ideal.nD Cert.Kernel2Ideal.τ).loc Cert.Kernel2Ideal.main_v95) = v2 c
          ∧ r.2.mem ((c.tc : Thread Cert.Kernel2Ideal.nD Cert.Kernel2Ideal.τ).loc Cert.Kernel2Ideal.main_v122) = v3 c
          ∧ r.2.mem ((c.tc : Thread Cert.Kernel2Ideal.nD Cert.Kernel2Ideal.τ).loc Cert.Kernel2Ideal.main_v123) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v114) = v0 c
          ∧ r.2.mem ((c.tc : Thread Cert.Reference2Ideal.nD Cert.Reference2Ideal.τ).loc Cert.Reference2Ideal.main_v166) = v1 c
          ∧ r.2.mem ((c.tc : Thread Cert.Reference2Ideal.nD Cert.Reference2Ideal.τ).loc Cert.Reference2Ideal.main_v165) = v2 c
          ∧ r.2.mem ((c.tc : Thread Cert.Reference2Ideal.nD Cert.Reference2Ideal.τ).loc Cert.Reference2Ideal.main_v164) = v3 c
          ∧ r.2.mem ((c.tc : Thread Cert.Reference2Ideal.nD Cert.Reference2Ideal.τ).loc Cert.Reference2Ideal.main_v138) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v41_0)) (v1 : (c : Dev Cert.Kernel3Ideal.nD) → Buf (Elt Ideal) ((c.tc : Thread Cert.Kernel3Ideal.nD Cert.Kernel3Ideal.τ).loc Cert.Kernel3Ideal.main_v41_1)) (v2 : (c : Dev Cert.Kernel3Ideal.nD) → Buf (Elt Ideal) ((c.tc : Thread Cert.Kernel3Ideal.nD Cert.Kernel3Ideal.τ).loc Cert.Kernel3Ideal.main_v41_2)) (v3 : (c : Dev Cert.Kernel3Ideal.nD) → Buf (Elt Ideal) ((c.tc : Thread Cert.Kernel3Ideal.nD Cert.Kernel3Ideal.τ).loc Cert.Kernel3Ideal.main_v41_3)) (v4 : (c : Dev Cert.Kernel3Ideal.nD) → Buf (Elt Ideal) ((c.tc : Thread Cert.Kernel3Ideal.nD Cert.Kernel3Ideal.τ).loc Cert.Kernel3Ideal.main_v41_4)) (v5 : (c : Dev Cert.Kernel3Ideal.nD) → Buf (Elt Ideal) ((c.tc : Thread Cert.Kernel3Ideal.nD Cert.Kernel3Ideal.τ).loc Cert.Kernel3Ideal.main_v41_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41_0) = v0 c
          ∧ r.2.mem ((c.tc : Thread Cert.Kernel3Ideal.nD Cert.Kernel3Ideal.τ).loc Cert.Kernel3Ideal.main_v41_1) = v1 c
          ∧ r.2.mem ((c.tc : Thread Cert.Kernel3Ideal.nD Cert.Kernel3Ideal.τ).loc Cert.Kernel3Ideal.main_v41_2) = v2 c
          ∧ r.2.mem ((c.tc : Thread Cert.Kernel3Ideal.nD Cert.Kernel3Ideal.τ).loc Cert.Kernel3Ideal.main_v41_3) = v3 c
          ∧ r.2.mem ((c.tc : Thread Cert.Kernel3Ideal.nD Cert.Kernel3Ideal.τ).loc Cert.Kernel3Ideal.main_v41_4) = v4 c
          ∧ r.2.mem ((c.tc : Thread Cert.Kernel3Ideal.nD Cert.Kernel3Ideal.τ).loc Cert.Kernel3Ideal.main_v41_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v107) = v0 c
          ∧ r.2.mem ((c.tc : Thread Cert.Reference3Ideal.nD Cert.Reference3Ideal.τ).loc Cert.Reference3Ideal.main_v157) = v1 c
          ∧ r.2.mem ((c.tc : Thread Cert.Reference3Ideal.nD Cert.Reference3Ideal.τ).loc Cert.Reference3Ideal.main_v158) = v2 c
          ∧ r.2.mem ((c.tc : Thread Cert.Reference3Ideal.nD Cert.Reference3Ideal.τ).loc Cert.Reference3Ideal.main_v159) = v3 c
          ∧ r.2.mem ((c.tc : Thread Cert.Reference3Ideal.nD Cert.Reference3Ideal.τ).loc Cert.Reference3Ideal.main_v161) = v4 c
          ∧ r.2.mem ((c.tc : Thread Cert.Reference3Ideal.nD Cert.Reference3Ideal.τ).loc Cert.Reference3Ideal.main_v163) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v5_0)) (v5 : (c : Dev Cert.Kernel4Ideal.nD) → Buf (Elt Ideal) ((c.tc : Thread Cert.Kernel4Ideal.nD Cert.Kernel4Ideal.τ).loc Cert.Kernel4Ideal.main_v5_1)) (v6 : (c : Dev Cert.Kernel4Ideal.nD) → Buf (Elt Ideal) ((c.tc : Thread Cert.Kernel4Ideal.nD Cert.Kernel4Ideal.τ).loc Cert.Kernel4Ideal.main_v5_2)) (v7 : (c : Dev Cert.Kernel4Ideal.nD) → Buf (Elt Ideal) ((c.tc : Thread Cert.Kernel4Ideal.nD Cert.Kernel4Ideal.τ).loc Cert.Kernel4Ideal.main_v5_3)) (v8 : (c : Dev Cert.Kernel4Ideal.nD) → Buf (Elt Ideal) ((c.tc : Thread Cert.Kernel4Ideal.nD Cert.Kernel4Ideal.τ).loc Cert.Kernel4Ideal.main_v5_4)) (v9 : (c : Dev Cert.Kernel4Ideal.nD) → Buf (Elt Ideal) ((c.tc : Thread Cert.Kernel4Ideal.nD Cert.Kernel4Ideal.τ).loc Cert.Kernel4Ideal.main_v5_5)) (v10 : (c : Dev Cert.Kernel4Ideal.nD) → Buf (Elt Ideal) ((c.tc : Thread Cert.Kernel4Ideal.nD Cert.Kernel4Ideal.τ).loc Cert.Kernel4Ideal.main_v5_6)) (v11 : (c : Dev Cert.Kernel4Ideal.nD) → Buf (Elt Ideal) ((c.tc : Thread Cert.Kernel4Ideal.nD Cert.Kernel4Ideal.τ).loc Cert.Kernel4Ideal.main_v5_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v5_0) = v4 c
          ∧ r.2.mem ((c.tc : Thread Cert.Kernel4Ideal.nD Cert.Kernel4Ideal.τ).loc Cert.Kernel4Ideal.main_v5_1) = v5 c
          ∧ r.2.mem ((c.tc : Thread Cert.Kernel4Ideal.nD Cert.Kernel4Ideal.τ).loc Cert.Kernel4Ideal.main_v5_2) = v6 c
          ∧ r.2.mem ((c.tc : Thread Cert.Kernel4Ideal.nD Cert.Kernel4Ideal.τ).loc Cert.Kernel4Ideal.main_v5_3) = v7 c
          ∧ r.2.mem ((c.tc : Thread Cert.Kernel4Ideal.nD Cert.Kernel4Ideal.τ).loc Cert.Kernel4Ideal.main_v5_4) = v8 c
          ∧ r.2.mem ((c.tc : Thread Cert.Kernel4Ideal.nD Cert.Kernel4Ideal.τ).loc Cert.Kernel4Ideal.main_v5_5) = v9 c
          ∧ r.2.mem ((c.tc : Thread Cert.Kernel4Ideal.nD Cert.Kernel4Ideal.τ).loc Cert.Kernel4Ideal.main_v5_6) = v10 c
          ∧ r.2.mem ((c.tc : Thread Cert.Kernel4Ideal.nD Cert.Kernel4Ideal.τ).loc Cert.Kernel4Ideal.main_v5_7) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_v79) = v3 c
          ∧ r.2.mem ((c.tc : Thread Cert.Reference4Ideal.nD Cert.Reference4Ideal.τ).loc Cert.Reference4Ideal.main_v64) = v4 c
          ∧ r.2.mem ((c.tc : Thread Cert.Reference4Ideal.nD Cert.Reference4Ideal.τ).loc Cert.Reference4Ideal.main_v82) = v5 c
          ∧ r.2.mem ((c.tc : Thread Cert.Reference4Ideal.nD Cert.Reference4Ideal.τ).loc Cert.Reference4Ideal.main_v83) = v6 c
          ∧ r.2.mem ((c.tc : Thread Cert.Reference4Ideal.nD Cert.Reference4Ideal.τ).loc Cert.Reference4Ideal.main_v84) = v7 c
          ∧ r.2.mem ((c.tc : Thread Cert.Reference4Ideal.nD Cert.Reference4Ideal.τ).loc Cert.Reference4Ideal.main_v85) = v8 c
          ∧ r.2.mem ((c.tc : Thread Cert.Reference4Ideal.nD Cert.Reference4Ideal.τ).loc Cert.Reference4Ideal.main_v81) = v9 c
          ∧ r.2.mem ((c.tc : Thread Cert.Reference4Ideal.nD Cert.Reference4Ideal.τ).loc Cert.Reference4Ideal.main_v86) = v10 c
          ∧ r.2.mem ((c.tc : Thread Cert.Reference4Ideal.nD Cert.Reference4Ideal.τ).loc Cert.Reference4Ideal.main_v87) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1x1024 .f32) (main_arg2 : FVec F S1024x5632 .f32) (main_arg3 : FVec F S2816x1024 .f32) (main_arg4 : FVec F S8192x1024 .f32) : IVec S8192x1024 1 × IVec S1x1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite2.lean ====
abbrev S8192x1024 : Shape := ⟨2, ![8192, 1024]⟩
abbrev S8192x256 : Shape := ⟨2, ![8192, 256]⟩
abbrev S1x16 : Shape := ⟨2, ![1, 16]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S1x16 : S_.BroadcastsInDim S1x16 (![] : Fin 0 → Fin S1x16.rank)

variable [Facts]

def fn {F : FTy → Type} [FloatOps F] (main_arg0 : FVec F S8192x1024 .f32) (main_arg1 : FVec F S8192x256 .f32) (main_arg2 : FVec F S8192x256 .f32) (main_arg3 : FVec F S1x16 .f32) (main_arg4 : FVec F S8192x1024 .f32) : IVec S8192x1024 1 × IVec S8192x256 1 × IVec S8192x256 1 × IVec S1x16 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite3.lean ====
abbrev S8192x1024 : Shape := ⟨2, ![8192, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x3072 : S_.BroadcastsInDim S1024x3072 (![] : Fin 0 → Fin S1024x3072.rank)
  bcast_S_S3x1024 : S_.BroadcastsInDim S3x1024 (![] : Fin 0 → Fin S3x1024.rank)
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1x1024 .f32) (main_arg2 : FVec F S1024x3072 .f32) (main_arg3 : FVec F S3x1024 .f32) (main_arg4 : FVec F S1024x1024 .f32) (main_arg5 : FVec F S8192x1024 .f32) : IVec S8192x1024 1 × IVec S1x1024 1 × IVec S1024x3072 1 × IVec S3x1024 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S3x1024 .f32 := Host.absf main_arg3
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite4.lean ====
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S8192x1024 .f32) (main_v2 : IVec S8192x1024 1) (main_v5 : IVec S8192x1024 1) (main_v8 : IVec S1024x1024 1) (main_v11 : IVec S1x1024 1) (main_v14 : IVec S1024x5632 1) (main_v17 : IVec S2816x1024 1) : IVec S8192x1024 1 × IVec S8192x1024 1 × IVec S1024x1024 1 × IVec S1x1024 1 × IVec S1024x5632 1 × IVec S2816x1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1024x1024 .f32) (main_arg3 : FVec F S1x1024 .f32) (main_arg4 : FVec F S1024x5632 .f32) (main_arg5 : FVec F S2816x1024 .f32) (main_arg6 : FVec F S8192x1024 .f32) : IVec S8192x1024 1 × IVec S8192x1024 1 × IVec S1024x1024 1 × IVec S1x1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Kernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩
abbrev S8192x2816 : Shape := ⟨2, ![8192, 2816]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S256x768 : Shape := ⟨2, ![256, 768]⟩
abbrev S256 : Shape := ⟨1, ![256]⟩
abbrev S256x1 : Shape := ⟨2, ![256, 1]⟩
abbrev S1024 : Shape := ⟨1, ![1024]⟩

abbrev nBuf : Space → Nat
  | .hbm => 15
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024x5632, .bf16⟩
  | .hbm, ⟨6, _⟩ => ⟨S2816x1024, .bf16⟩
  | .hbm, ⟨7, _⟩ => ⟨S8192x1024, .f32⟩
  | .hbm, ⟨8, _⟩ => ⟨S8192x5632, .f32⟩
  | .hbm, ⟨9, _⟩ => ⟨S8192x1024, .f32⟩
  | .hbm, ⟨10, _⟩ => ⟨S8192x2816, .bf16⟩
  | .hbm, ⟨11, _⟩ => ⟨S8192x5632, .bf16⟩
  | .hbm, ⟨12, _⟩ => ⟨S8192x1024, .bf16⟩
  | .hbm, ⟨13, _⟩ => ⟨S8192x1024, .bf16⟩
  | .hbm, ⟨14, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x5632, .f32⟩
  | .local _ .vmem, ⟨8, _⟩ => ⟨S512x5632, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x5632, .f32⟩
  | .local _ .vmem, ⟨15, _⟩ => ⟨S256x5632, .f32⟩
  | .local _ .vmem, ⟨16, _⟩ => ⟨S1024x5632, .bf16⟩
  | .local _ .vmem, ⟨17, _⟩ => ⟨S2816x1024, .bf16⟩
  | .local _ .vmem, ⟨18, _⟩ => ⟨S256x1024, .f32⟩
  | .local _ .vmem, ⟨19, _⟩ => ⟨S256x1024, .f32⟩
  | .local _ .vmem, ⟨20, _⟩ => ⟨S256x2816, .bf16⟩
  | .local _ .vmem, ⟨21, _⟩ => ⟨S256x2816, .bf16⟩
  | .local _ .vmem, ⟨22, _⟩ => ⟨S256x5632, .bf16⟩
  | .local _ .vmem, ⟨23, _⟩ => ⟨S256x5632, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x5632 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x5632 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2816 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x5632 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S7x1024 : Shape := ⟨2, ![7, 1024]⟩
abbrev S8x1024 : Shape := ⟨2, ![8, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x5632, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S8192x2816, .f32⟩
  | .hbm, ⟨81, _⟩ => ⟨S_, .f32⟩
  | .hbm, ⟨82, _⟩ => ⟨S8192x2816, .f32⟩
  | .hbm, ⟨83, _⟩ => ⟨S8192x2816, .f32⟩
  | .hbm, ⟨84, _⟩ => ⟨S_, .f32⟩
  | .hbm, ⟨85, _⟩ => ⟨S8192x2816, .f32⟩
  | .hbm, ⟨86, _⟩ => ⟨S8192x2816, .f32⟩
  | .hbm, ⟨87, _⟩ => ⟨S_, .f32⟩
  | .hbm, ⟨88, _⟩ => ⟨S8192x2816, .f32⟩
  | .hbm, ⟨89, _⟩ => ⟨S8192x2816, .f32⟩
  | .hbm, ⟨90, _⟩ => ⟨S8192x2816, .f32⟩
  | .hbm, ⟨91, _⟩ => ⟨S8192x2816, .f32⟩
  | .hbm, ⟨92, _⟩ => ⟨S8192x2816, .f32⟩
  | .hbm, ⟨93, _⟩ => ⟨S8192x1024, .f32⟩
  | .hbm, ⟨94, _⟩ => ⟨S8192x2816, .f32⟩
  | .hbm, ⟨95, _⟩ => ⟨S8192x2816, .f32⟩
  | .hbm, ⟨96, _⟩ => ⟨S8192x2816, .f32⟩
  | .hbm, ⟨97, _⟩ => ⟨S8192x2816, .f32⟩
  | .hbm, ⟨98, _⟩ => ⟨S8192x2816, .f32⟩
  | .hbm, ⟨99, _⟩ => ⟨S8192x2816, .f32⟩
  | .hbm, ⟨100, _⟩ => ⟨S8192x2816, .f32⟩
  | .hbm, ⟨101, _⟩ => ⟨S8192x5632, .f32⟩
  | .hbm, ⟨102, _⟩ => ⟨S_, .f32⟩
  | .hbm, ⟨103, _⟩ => ⟨S7x1024, .f32⟩
  | .hbm, ⟨104, _⟩ => ⟨S8x1024, .f32⟩
  | .hbm, ⟨105, _⟩ => ⟨S8192x2816, .bf16⟩
  | .hbm, ⟨106, _⟩ => ⟨S8192x5632, .bf16⟩
  | .hbm, ⟨107, _⟩ => ⟨S8192x1024, .bf16⟩
  | .hbm, ⟨108, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_v51_2 : Ref sig .tc := ⟨.hbm, 86, rfl⟩
abbrev main_call2_cst_1 : Ref sig .tc := ⟨.hbm, 87, rfl⟩
abbrev main_call2_v6 : Ref sig .tc := ⟨.hbm, 88, rfl⟩
abbrev main_call2_v7 : Ref sig .tc := ⟨.hbm, 89, rfl⟩
abbrev main_v51_1 : Ref sig .tc := ⟨.hbm, 90, rfl⟩
abbrev main_v51_0 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v57 : Ref sig .tc := ⟨.hbm, 100, rfl⟩
abbrev main_v58 : Ref sig .tc := ⟨.hbm, 101, rfl⟩
abbrev main_cst_7 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩

abbrev nD : Nat := 1
abbrev τ : Topo := Topo.v7x

variable {F : FTy → Type} [FloatOps F]
-- ==== Kernel2.lean ====
abbrev S8192x1024 : Shape := ⟨2, ![8192, 1024]⟩
abbrev S8192x256 : Shape := ⟨2, ![8192, 256]⟩
abbrev S1x16 : Shape := ⟨2, ![1, 16]⟩
abbrev S16 : Shape := ⟨1, ![16]⟩
abbrev S_ : Shape := ⟨0, ![]⟩
abbrev S4x2x1x2x1 : Shape := ⟨5, ![4, 2, 1, 2, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1x128x1x128 : Shape := ⟨5, ![1, 1, 128, 1, 128]⟩
abbrev S4x2x128x2x128 : Shape := ⟨5, ![4, 2, 128, 2, 128]⟩
abbrev S4x256x256 : Shape := ⟨3, ![4, 256, 256]⟩
abbrev S8192x64 : Shape := ⟨2, ![8192, 64]⟩
abbrev S8192x128 : Shape := ⟨2, ![8192, 128]⟩
abbrev S8192x512 : Shape := ⟨2, ![8192, 512]⟩
abbrev S128x1024 : Shape := ⟨2, ![128, 1024]⟩
abbrev S128x512 : Shape := ⟨2, ![128, 512]⟩
abbrev S256x128 : Shape := ⟨2, ![256, 128]⟩
abbrev S512x128 : Shape := ⟨2, ![512, 128]⟩
abbrev S256x512 : Shape := ⟨2, ![256, 512]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S8x128 : Shape := ⟨2, ![8, 128]⟩
abbrev S8064x512 : Shape := ⟨2, ![8064, 512]⟩

abbrev nBuf : Space → Nat
  | .hbm => 153
  | .vmem => 39
  | .smem => 0
  | _ => 0

abbrev hbmTy0_0 (i : Nat) : BufTy := match i % 128 with
  | 0 => ⟨S8192x1024, .f32⟩
  | 1 => ⟨S8192x256, .f32⟩
  | 2 => ⟨S8192x256, .f32⟩
  | 3 => ⟨S1x16, .f32⟩
  | 4 => ⟨S8192x1024, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S16, .f32⟩
  | 19 => ⟨S4x2x1x2x1, .f32⟩
  | 20 => ⟨S128, .i32⟩
  | 21 => ⟨S128x1, .i32⟩
  | 22 => ⟨S128, .i32⟩
  | 23 => ⟨S1x128, .i32⟩
  | 24 => ⟨S128x128, .i32⟩
  | 25 => ⟨S128x128, .i32⟩
  | 26 => ⟨S128x128, .i1⟩
  | 27 => ⟨S128x128, .i32⟩
  | 28 => ⟨S128x128, .i32⟩
  | 29 => ⟨S128x128, .i32⟩
  | 30 => ⟨S_, .i32⟩
  | 31 => ⟨S128x1, .i32⟩
  | 32 => ⟨S128x1, .i32⟩
  | 33 => ⟨S128x128, .i32⟩
  | 34 => ⟨S128x128, .i32⟩
  | 35 => ⟨S128x128, .i32⟩
  | 36 => ⟨S128x128, .i32⟩
  | 37 => ⟨S128x128, .f32⟩
  | 38 => ⟨S4x2x1x2x1, .f32⟩
  | 39 => ⟨S1x1x128x1x128, .f32⟩
  | 40 => ⟨S4x2x128x2x128, .f32⟩
  | 41 => ⟨S4x2x128x2x128, .f32⟩
  | 42 => ⟨S4x2x128x2x128, .f32⟩
  | 43 => ⟨S4x2x1x2x1, .f32⟩
  | 44 => ⟨S4x2x128x2x128, .f32⟩
  | 45 => ⟨S4x256x256, .f32⟩
  | 46 => ⟨S4x256x256, .f32⟩
  | 47 => ⟨S_, .f32⟩
  | 48 => ⟨S8192x1024, .f32⟩
  | 49 => ⟨S8192x1024, .f32⟩
  | 50 => ⟨S8192x1024, .bf16⟩
  | 51 => ⟨S8192x64, .f32⟩
  | 52 => ⟨S8192x64, .f32⟩
  | 53 => ⟨S8192x64, .f32⟩
  | 54 => ⟨S8192x64, .f32⟩
  | 55 => ⟨S8192x128, .f32⟩
  | 56 => ⟨S8192x128, .f32⟩
  | 57 => ⟨S8192x128, .f32⟩
  | 58 => ⟨S8192x128, .f32⟩
  | 59 => ⟨S8192x256, .f32⟩
  | 60 => ⟨S8192x256, .f32⟩
  | 61 => ⟨S8192x512, .f32⟩
  | 62 => ⟨S8192x512, .bf16⟩
  | 63 => ⟨S8192x64, .f32⟩
  | 64 => ⟨S8192x64, .f32⟩
  | 65 => ⟨S8192x64, .f32⟩
  | 66 => ⟨S8192x64, .f32⟩
  | 67 => ⟨S8192x128, .f32⟩
  | 68 => ⟨S8192x128, .f32⟩
  | 69 => ⟨S8192x128, .f32⟩
  | 70 => ⟨S8192x128, .f32⟩
  | 71 => ⟨S8192x256, .f32⟩
  | 72 => ⟨S8192x256, .f32⟩
  | 73 => ⟨S8192x512, .f32⟩
  | 74 => ⟨S8192x512, .bf16⟩
  | 75 => ⟨S8192x1024, .bf16⟩
  | 76 => ⟨S8192x1024, .bf16⟩
  | 77 => ⟨S8192x1024, .f32⟩
  | 78 => ⟨S8192x512, .bf16⟩
  | 79 => ⟨S8192x512, .bf16⟩
  | 80 => ⟨S8192x512, .bf16⟩
  | 81 => ⟨S8192x512, .bf16⟩
  | 82 => ⟨S8x128, .f32⟩
  | 83 => ⟨S_, .f32⟩
  | 84 => ⟨S8192x1024, .f32⟩
  | 85 => ⟨S8192x1024, .f32⟩
  | 86 => ⟨S8192x512, .i32⟩
  | 87 => ⟨S_, .i32⟩
  | 88 => ⟨S8192x512, .i32⟩
  | 89 => ⟨S8192x512, .i32⟩
  | 90 => ⟨S_, .i32⟩
  | 91 => ⟨S8192x512, .i32⟩
  | 92 => ⟨S8192x512, .i1⟩
  | 93 => ⟨S8192x512, .f32⟩
  | 94 => ⟨S8064x512, .f32⟩
  | 95 => ⟨S_, .f32⟩
  | 96 => ⟨S128x512, .f32⟩
  | 97 => ⟨S8192x512, .f32⟩
  | 98 => ⟨S8192x512, .f32⟩
  | 99 => ⟨S_, .f32⟩
  | 100 => ⟨S_, .f32⟩
  | 101 => ⟨S8192x512, .f32⟩
  | 102 => ⟨S8192x512, .f32⟩
  | 103 => ⟨S8192x512, .f32⟩
  | 104 => ⟨S8192x64, .f32⟩
  | 105 => ⟨S8192x64, .f32⟩
  | 106 => ⟨S8192x64, .f32⟩
  | 107 => ⟨S8192x64, .f32⟩
  | 108 => ⟨S8192x64, .f32⟩
  | 109 => ⟨S8192x64, .f32⟩
  | 110 => ⟨S8192x64, .f32⟩
  | 111 => ⟨S8192x64, .f32⟩
  | 112 => ⟨S8192x64, .f32⟩
  | 113 => ⟨S8192x64, .f32⟩
  | 114 => ⟨S8192x64, .f32⟩
  | 115 => ⟨S8192x64, .f32⟩
  | 116 => ⟨S8192x128, .f32⟩
  | 117 => ⟨S8192x128, .f32⟩
  | 118 => ⟨S8192x256, .f32⟩
  | 119 => ⟨S8192x512, .i32⟩
  | 120 => ⟨S_, .i32⟩
  | 121 => ⟨S8192x512, .i32⟩
  | 122 => ⟨S8192x512, .i32⟩
  | 123 => ⟨S_, .i32⟩
  | 124 => ⟨S8192x512, .i32⟩
  | 125 => ⟨S8192x512, .i1⟩
  | 126 => ⟨S8192x512, .f32⟩
  | 127 => ⟨S8064x512, .f32⟩
  | _ => ⟨S8192x1024, .f32⟩

abbrev hbmTy0_1 (i : Nat) : BufTy := match i % 128 with
  | 0 => ⟨S_, .f32⟩
  | 1 => ⟨S128x512, .f32⟩
  | 2 => ⟨S8192x512, .f32⟩
  | 3 => ⟨S8192x512, .f32⟩
  | 4 => ⟨S_, .f32⟩
  | 5 => ⟨S_, .f32⟩
  | 6 => ⟨S8192x512, .f32⟩
  | 7 => ⟨S8192x512, .f32⟩
  | 8 => ⟨S8192x512, .f32⟩
  | 9 => ⟨S8192x64, .f32⟩
  | 10 => ⟨S8192x64, .f32⟩
  | 11 => ⟨S8192x64, .f32⟩
  | 12 => ⟨S8192x64, .f32⟩
  | 13 => ⟨S8192x64, .f32⟩
  | 14 => ⟨S8192x64, .f32⟩
  | 15 => ⟨S8192x64, .f32⟩
  | 16 => ⟨S8192x64, .f32⟩
  | 17 => ⟨S8192x64, .f32⟩
  | 18 => ⟨S8192x64, .f32⟩
  | 19 => ⟨S8192x64, .f32⟩
  | 20 => ⟨S8192x64, .f32⟩
  | 21 => ⟨S8192x128, .f32⟩
  | 22 => ⟨S8192x128, .f32⟩
  | 23 => ⟨S8192x256, .f32⟩
  | 24 => ⟨S1x16, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S4x256x256, .f32⟩
  | .local _ .vmem, ⟨11, _⟩ => ⟨S4x256x256, .f32⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S128x1024, .bf16⟩
  | .local _ .vmem, ⟨25, _⟩ => ⟨S128x1024, .bf16⟩
  | .local _ .vmem, ⟨26, _⟩ => ⟨S4x256x256, .f32⟩
  | .local _ .vmem, ⟨27, _⟩ => ⟨S4x256x256, .f32⟩
  | .local _ .vmem, ⟨28, _⟩ => ⟨S128x1024, .f32⟩
  | .local _ .vmem, ⟨29, _⟩ => ⟨S128x1024, .f32⟩
  | .local _ .vmem, ⟨30, _⟩ => ⟨S128x512, .bf16⟩
  | .local _ .vmem, ⟨31, _⟩ => ⟨S128x512, .bf16⟩
  | .local _ .vmem, ⟨32, _⟩ => ⟨S128x512, .bf16⟩
  | .local _ .vmem, ⟨33, _⟩ => ⟨S128x512, .bf16⟩
  | .local _ .vmem, ⟨34, _⟩ => ⟨S128x512, .bf16⟩
  | .local _ .vmem, ⟨35, _⟩ => ⟨S128x512, .bf16⟩
  | .local _ .vmem, ⟨36, _⟩ => ⟨S128x512, .bf16⟩
  | .local _ .vmem, ⟨37, _⟩ => ⟨S128x512, .bf16⟩
  | .local _ .vmem, ⟨38, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66_0 : Ref sig .tc := ⟨.hbm, 77, rfl⟩
abbrev main_v66_1 : Ref sig .tc := ⟨.hbm, 78, rfl⟩
abbrev main_v66_2 : Ref sig .tc := ⟨.hbm, 79, rfl⟩
abbrev main_v66_3 : Ref sig .tc := ⟨.hbm, 80, rfl⟩
abbrev main_v66_4 : Ref sig .tc := ⟨.hbm, 81, rfl⟩
abbrev main_v66_5 : Ref sig .tc := ⟨.hbm, 82, rfl⟩
abbrev main_cst_4 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_c_5 : Ref sig .tc := ⟨.hbm, 87, rfl⟩
abbrev main_v70 : Ref sig .tc := ⟨.hbm, 88, rfl⟩
abbrev main_v71 : Ref sig .tc := ⟨.hbm, 89, rfl⟩
abbrev main_c_6 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_7 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_8 : Ref sig .tc := ⟨.hbm, 99, rfl⟩
abbrev main_call1_v0 : Ref sig .tc := ⟨.hbm, 100, rfl⟩
abbrev main_call1_v1 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_c_9 : Ref sig .tc := ⟨.hbm, 120, rfl⟩
abbrev main_v97 : Ref sig .tc := ⟨.hbm, 121, rfl⟩
abbrev main_v98 : Ref sig .tc := ⟨.hbm, 122, rfl⟩
abbrev main_c_10 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_11 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_12 : Ref sig .tc := ⟨.hbm, 132, rfl⟩
abbrev main_call2_v0 : Ref sig .tc := ⟨.hbm, 133, rfl⟩
abbrev main_call2_v1 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc1_stg13_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem12_1 : DmaSem sig := 37
abbrev cc1_sem13_0 : DmaSem sig := 38

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_11 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_12 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S4x256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S4x256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S128x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 1 → Memref sig .tc .vmem S8x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]
-- ==== Kernel2Ideal.lean ====
variable {F : FTy → Type} [FloatOps F] [Named F]
def κ : String → Option EReal := fun
  | "mask" => some ⊥
  | _ => none
-- ==== Reference2Ideal.lean ====
abbrev S8192x1024 : Shape := ⟨2, ![8192, 1024]⟩
abbrev S8192x256 : Shape := ⟨2, ![8192, 256]⟩
abbrev S1x16 : Shape := ⟨2, ![1, 16]⟩
abbrev S4x2048x4x4x64 : Shape := ⟨5, ![4, 2048, 4, 4, 64]⟩
abbrev S4x2048x4x64 : Shape := ⟨4, ![4, 2048, 4, 64]⟩
abbrev S4x16x128x4x4x64 : Shape := ⟨6, ![4, 16, 128, 4, 4, 64]⟩
abbrev S4x128x4x64 : Shape := ⟨4, ![4, 128, 4, 64]⟩
abbrev S_ : Shape := ⟨0, ![]⟩
abbrev S4x2176x4x64 : Shape := ⟨4, ![4, 2176, 4, 64]⟩
abbrev S4x17x128x4x64 : Shape := ⟨5, ![4, 17, 128, 4, 64]⟩
abbrev S4x16x128x4x64 : Shape := ⟨5, ![4, 16, 128, 4, 64]⟩
abbrev S4x16x256x4x64 : Shape := ⟨5, ![4, 16, 256, 4, 64]⟩
abbrev S4x16x4x256x128x4 : Shape := ⟨6, ![4, 16, 4, 256, 128, 4]⟩
abbrev S4x16x4x4x128x256 : Shape := ⟨6, ![4, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x1x4x4x128x256 : Shape := ⟨6, ![1, 1, 4, 4, 128, 256]⟩
abbrev S1x16x1x1x128x256 : Shape := ⟨6, ![1, 16, 1, 1, 128, 256]⟩
abbrev S1x1x4x4x1x1 : Shape := ⟨6, ![1, 1, 4, 4, 1, 1]⟩
abbrev S4x16x4x4x128x1 : Shape := ⟨6, ![4, 16, 4, 4, 128, 1]⟩
abbrev S4x16x4x4x128x257 : Shape := ⟨6, ![4, 16, 4, 4, 128, 257]⟩
abbrev S4x16x4x4x128 : Shape := ⟨5, ![4, 16, 4, 4, 128]⟩
abbrev S4x16x4x64x4x128 : Shape := ⟨6, ![4, 16, 4, 64, 4, 128]⟩
abbrev S4x16x4x64x256 : Shape := ⟨5, ![4, 16, 4, 64, 256]⟩
abbrev S4x16x4x128x4x64 : Shape := ⟨6, ![4, 16, 4, 128, 4, 64]⟩
abbrev S4x16x4x256x64 : Shape := ⟨5, ![4, 16, 4, 256, 64]⟩

abbrev nBuf : Space → Nat
  | .hbm => 215
  | .vmem => 0
  | .smem => 0
  | _ => 0

abbrev hbmTy0_0 (i : Nat) : BufTy := match i % 128 with
  | 0 => ⟨S8192x1024, .f32⟩
  | 1 => ⟨S8192x256, .f32⟩
  | 2 => ⟨S8192x256, .f32⟩
  | 3 => ⟨S1x16, .f32⟩
  | 4 => ⟨S8192x1024, .f32⟩
  | 5 => ⟨S4x2048x4x4x64, .f32⟩
  | 6 => ⟨S4x2048x4x64, .f32⟩
  | 7 => ⟨S4x2048x4x64, .f32⟩
  | 8 => ⟨S4x16x128x4x4x64, .f32⟩
  | 9 => ⟨S4x128x4x64, .f32⟩
  | 10 => ⟨S_, .f32⟩
  | 11 => ⟨S4x128x4x64, .f32⟩
  | 12 => ⟨S4x2176x4x64, .f32⟩
  | 13 => ⟨S_, .f32⟩
  | 14 => ⟨S4x128x4x64, .f32⟩
  | 15 => ⟨S4x17x128x4x64, .f32⟩
  | 16 => ⟨S4x16x128x4x64, .f32⟩
  | 17 => ⟨S4x16x128x4x64, .f32⟩
  | 18 => ⟨S4x16x256x4x64, .f32⟩
  | 19 => ⟨S4x128x4x64, .f32⟩
  | 20 => ⟨S_, .f32⟩
  | 21 => ⟨S4x128x4x64, .f32⟩
  | 22 => ⟨S4x2176x4x64, .f32⟩
  | 23 => ⟨S_, .f32⟩
  | 24 => ⟨S4x128x4x64, .f32⟩
  | 25 => ⟨S4x17x128x4x64, .f32⟩
  | 26 => ⟨S4x16x128x4x64, .f32⟩
  | 27 => ⟨S4x16x128x4x64, .f32⟩
  | 28 => ⟨S4x16x256x4x64, .f32⟩
  | 29 => ⟨S4x16x4x256x128x4, .f32⟩
  | 30 => ⟨S4x16x4x4x128x256, .f32⟩
  | 31 => ⟨S_, .f32⟩
  | 32 => ⟨S4x16x4x4x128x256, .f32⟩
  | 33 => ⟨S4x16x4x4x128x256, .f32⟩
  | 34 => ⟨S128, .i32⟩
  | 35 => ⟨S128x1, .i32⟩
  | 36 => ⟨S256, .i32⟩
  | 37 => ⟨S1x256, .i32⟩
  | 38 => ⟨S_, .i32⟩
  | 39 => ⟨S128x1, .i32⟩
  | 40 => ⟨S128x1, .i32⟩
  | 41 => ⟨S128x256, .i32⟩
  | 42 => ⟨S128x256, .i32⟩
  | 43 => ⟨S128x256, .i32⟩
  | 44 => ⟨S16, .i32⟩
  | 45 => ⟨S_, .i32⟩
  | 46 => ⟨S16, .i32⟩
  | 47 => ⟨S16, .i32⟩
  | 48 => ⟨S_, .i32⟩
  | 49 => ⟨S16, .i32⟩
  | 50 => ⟨S16, .i32⟩
  | 51 => ⟨S16x1x1, .i32⟩
  | 52 => ⟨S1x1x256, .i32⟩
  | 53 => ⟨S16x1x256, .i32⟩
  | 54 => ⟨S16x1x256, .i32⟩
  | 55 => ⟨S16x1x256, .i32⟩
  | 56 => ⟨S_, .i32⟩
  | 57 => ⟨S128x256, .i32⟩
  | 58 => ⟨S128x256, .i1⟩
  | 59 => ⟨S1x128x256, .i1⟩
  | 60 => ⟨S_, .i32⟩
  | 61 => ⟨S128x256, .i32⟩
  | 62 => ⟨S128x256, .i1⟩
  | 63 => ⟨S1x128x256, .i1⟩
  | 64 => ⟨S1x128x256, .i1⟩
  | 65 => ⟨S_, .i32⟩
  | 66 => ⟨S16x1x256, .i32⟩
  | 67 => ⟨S16x1x256, .i1⟩
  | 68 => ⟨S16x128x256, .i1⟩
  | 69 => ⟨S16x128x256, .i1⟩
  | 70 => ⟨S16x128x256, .i1⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S16, .f32⟩
  | 85 => ⟨S4x4, .f32⟩
  | 86 => ⟨S4x4x1x1, .f32⟩
  | 87 => ⟨S4x4x1x1, .f32⟩
  | 88 => ⟨S128x256, .f32⟩
  | 89 => ⟨S1x1x128x256, .f32⟩
  | 90 => ⟨S4x4x128x256, .f32⟩
  | 91 => ⟨S4x4x128x256, .f32⟩
  | 92 => ⟨S4x4x128x256, .f32⟩
  | 93 => ⟨S1x1x4x4x128x256, .f32⟩
  | 94 => ⟨S4x16x4x4x128x256, .f32⟩
  | 95 => ⟨S4x16x4x4x128x256, .f32⟩
  | 96 => ⟨S1x16x1x1x128x256, .i1⟩
  | 97 => ⟨S_, .f32⟩
  | 98 => ⟨S_, .f32⟩
  | 99 => ⟨S4x16x4x4x128x256, .i1⟩
  | 100 => ⟨S4x16x4x4x128x256, .f32⟩
  | 101 => ⟨S4x16x4x4x128x256, .f32⟩
  | 102 => ⟨S_, .f32⟩
  | 103 => ⟨S4x16x4x4x128x256, .f32⟩
  | 104 => ⟨S4x4, .f32⟩
  | 105 => ⟨S1x1x4x4x1x1, .f32⟩
  | 106 => ⟨S4x16x4x4x128x1, .f32⟩
  | 107 => ⟨S4x16x4x4x128x257, .f32⟩
  | 108 => ⟨S_, .f32⟩
  | 109 => ⟨S4x16x4x4x128, .f32⟩
  | 110 => ⟨S4x16x4x4x128x1, .f32⟩
  | 111 => ⟨S4x16x4x4x128x257, .f32⟩
  | 112 => ⟨S4x16x4x4x128x257, .i1⟩
  | 113 => ⟨S4x16x4x4x128x257, .f32⟩
  | 114 => ⟨S_, .f32⟩
  | 115 => ⟨S4x16x4x4x128, .f32⟩
  | 116 => ⟨S_, .f32⟩
  | 117 => ⟨S4x16x4x4x128, .f32⟩
  | 118 => ⟨S4x16x4x4x128, .f32⟩
  | 119 => ⟨S_, .f32⟩
  | 120 => ⟨S4x16x4x4x128, .f32⟩
  | 121 => ⟨S4x16x4x4x128, .i1⟩
  | 122 => ⟨S_, .f32⟩
  | 123 => ⟨S4x16x4x4x128, .f32⟩
  | 124 => ⟨S4x16x4x4x128, .i1⟩
  | 125 => ⟨S_, .f32⟩
  | 126 => ⟨S4x16x4x4x128, .f32⟩
  | 127 => ⟨S_, .f32⟩
  | _ => ⟨S8192x1024, .f32⟩

abbrev hbmTy0_1 (i : Nat) : BufTy := match i % 128 with
  | 0 => ⟨S4x16x4x4x128, .f32⟩
  | 1 => ⟨S_, .f32⟩
  | 2 => ⟨S4x16x4x4x128, .f32⟩
  | 3 => ⟨S4x16x4x4x128, .f32⟩
  | 4 => ⟨S4x16x4x4x128, .f32⟩
  | 5 => ⟨S4x16x4x4x128x1, .f32⟩
  | 6 => ⟨S4x16x4x4x128x257, .f32⟩
  | 7 => ⟨S4x16x4x4x128x257, .f32⟩
  | 8 => ⟨S4x16x4x4x128x257, .f32⟩
  | 9 => ⟨S_, .f32⟩
  | 10 => ⟨S4x16x4x4x128, .f32⟩
  | 11 => ⟨S4x16x4x4x128x1, .f32⟩
  | 12 => ⟨S4x16x4x4x128x257, .f32⟩
  | 13 => ⟨S4x16x4x4x128x257, .f32⟩
  | 14 => ⟨S4x16x4x4x128x1, .f32⟩
  | 15 => ⟨S_, .f32⟩
  | 16 => ⟨S4x16x4x4x128x1, .f32⟩
  | 17 => ⟨S4x16x4x4x128x1, .f32⟩
  | 18 => ⟨S4x16x4x4x128x256, .f32⟩
  | 19 => ⟨S4x16x4x64x4x128, .f32⟩
  | 20 => ⟨S4x16x128x4x4x64, .f32⟩
  | 21 => ⟨S8192x1024, .f32⟩
  | 22 => ⟨S8192x1024, .bf16⟩
  | 23 => ⟨S4x16x128x4x4x64, .f32⟩
  | 24 => ⟨S4x16x4x64x4x128, .f32⟩
  | 25 => ⟨S4x16x4x4x128x256, .f32⟩
  | 26 => ⟨S4x16x4x64x256, .f32⟩
  | 27 => ⟨S4x16x256x4x64, .f32⟩
  | 28 => ⟨S_, .f32⟩
  | 29 => ⟨S4x16x4x4x128x257, .f32⟩
  | 30 => ⟨S4x16x4x4x128x257, .f32⟩
  | 31 => ⟨S4x16x4x4x128x257, .f32⟩
  | 32 => ⟨S4x16x4x4x128x257, .f32⟩
  | 33 => ⟨S_, .f32⟩
  | 34 => ⟨S4x16x4x4x128, .f32⟩
  | 35 => ⟨S4x16x4x4x128x1, .f32⟩
  | 36 => ⟨S4x16x4x4x128x1, .f32⟩
  | 37 => ⟨S4x16x4x4x128x257, .f32⟩
  | 38 => ⟨S4x16x4x4x128x257, .f32⟩
  | 39 => ⟨S_, .f32⟩
  | 40 => ⟨S4x16x4x4x128, .f32⟩
  | 41 => ⟨S4x16x4x4x128x257, .f32⟩
  | 42 => ⟨S4x16x4x4x128x257, .f32⟩
  | 43 => ⟨S4x16x4x4x128x257, .f32⟩
  | 44 => ⟨S4x16x4x4x128x256, .f32⟩
  | 45 => ⟨S4x16x4x4x128x1, .f32⟩
  | 46 => ⟨S_, .f32⟩
  | 47 => ⟨S4x4, .f32⟩
  | 48 => ⟨S1x1x4x4x1x1, .f32⟩
  | 49 => ⟨S_, .f32⟩
  | 50 => ⟨S4x4, .f32⟩
  | 51 => ⟨S1x16, .f32⟩
  | 52 => ⟨S_, .f32⟩
  | 53 => ⟨S4x16x4x4x128x256, .f32⟩
  | 54 => ⟨S4x16x4x4x128x256, .f32⟩
  | 55 => ⟨S_, .f32⟩
  | 56 => ⟨S4x16x4x4x128x256, .f32⟩
  | 57 => ⟨S4x16x4x4x128x256, .f32⟩
  | 58 => ⟨S4x16x4x256x128x4, .f32⟩
  | 59 => ⟨S4x16x4x128x4x64, .f32⟩
  | 60 => ⟨S4x16x128x4x4x64, .f32⟩
  | 61 => ⟨S4x16x4x256x64, .f32⟩
  | 62 => ⟨S4x16x256x4x64, .f32⟩
  | 63 => ⟨S4x16x128x4x64, .f32⟩
  | 64 => ⟨S4x16x128x4x64, .f32⟩
  | 65 => ⟨S_, .f32⟩
  | 66 => ⟨S4x17x128x4x64, .f32⟩
  | 67 => ⟨S_, .f32⟩
  | 68 => ⟨S4x17x128x4x64, .f32⟩
  | 69 => ⟨S4x17x128x4x64, .f32⟩
  | 70 => ⟨S4x2176x4x64, .f32⟩
  | 71 => ⟨S4x128x4x64, .f32⟩
  | 72 => ⟨S4x2048x4x64, .f32⟩
  | 73 => ⟨S4x16x128x4x64, .f32⟩
  | 74 => ⟨S4x16x128x4x64, .f32⟩
  | 75 => ⟨S_, .f32⟩
  | 76 => ⟨S4x17x128x4x64, .f32⟩
  | 77 => ⟨S_, .f32⟩
  | 78 => ⟨S4x17x128x4x64, .f32⟩
  | 79 => ⟨S4x17x128x4x64, .f32⟩
  | 80 => ⟨S4x2176x4x64, .f32⟩
  | 81 => ⟨S4x128x4x64, .f32⟩
  | 82 => ⟨S4x2048x4x64, .f32⟩
  | 83 => ⟨S4x2048x4x4x64, .f32⟩
  | 84 => ⟨S8192x256, .f32⟩
  | 85 => ⟨S8192x256, .f32⟩
  | 86 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_call0_v0 : Ref sig .tc := ⟨.hbm, 98, rfl⟩
abbrev main_v77_1 : Ref sig .tc := ⟨.hbm, 99, rfl⟩
abbrev main_call0_v2 : Ref sig .tc := ⟨.hbm, 100, rfl⟩
abbrev main_v77_0 : Ref sig .tc := ⟨.hbm, 101, rfl⟩
abbrev main_call0_cst : Ref sig .tc := ⟨.hbm, 102, rfl⟩
abbrev main_v77_2 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_15 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_v93 : Ref sig .tc := ⟨.hbm, 124, rfl⟩
abbrev main_cst_19 : Ref sig .tc := ⟨.hbm, 125, rfl⟩
abbrev main_v94 : Ref sig .tc := ⟨.hbm, 126, rfl⟩
abbrev main_cst_20 : Ref sig .tc := ⟨.hbm, 127, rfl⟩
abbrev main_v95 : Ref sig .tc := ⟨.hbm, 128, rfl⟩
abbrev main_cst_21 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_22 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_23 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_24 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_25 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_26 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_27 : Ref sig .tc := ⟨.hbm, 174, rfl⟩
abbrev main_v135 : Ref sig .tc := ⟨.hbm, 175, rfl⟩
abbrev main_v136 : Ref sig .tc := ⟨.hbm, 176, rfl⟩
abbrev main_cst_28 : Ref sig .tc := ⟨.hbm, 177, rfl⟩
abbrev main_v137 : Ref sig .tc := ⟨.hbm, 178, rfl⟩
abbrev main_v138 : Ref sig .tc := ⟨.hbm, 179, rfl⟩
abbrev main_call1_cst : Ref sig .tc := ⟨.hbm, 180, rfl⟩
abbrev main_call1_v0 : Ref sig .tc := ⟨.hbm, 181, rfl⟩
abbrev main_v139 : Ref sig .tc := ⟨.hbm, 182, rfl⟩
abbrev main_cst_29 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_30 : Ref sig .tc := ⟨.hbm, 193, rfl⟩
abbrev main_v149 : Ref sig .tc := ⟨.hbm, 194, rfl⟩
abbrev main_cst_31 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_cst_32 : Ref sig .tc := ⟨.hbm, 203, rfl⟩
abbrev main_v157 : Ref sig .tc := ⟨.hbm, 204, rfl⟩
abbrev main_cst_33 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S4x2048x1024 : Shape := ⟨3, ![4, 2048, 1024]⟩
abbrev S4x2x1024 : Shape := ⟨3, ![4, 2, 1024]⟩
abbrev S4x2050x1024 : Shape := ⟨3, ![4, 2050, 1024]⟩
abbrev S1x1x1024 : Shape := ⟨3, ![1, 1, 1024]⟩
abbrev S8x1024 : Shape := ⟨2, ![8, 1024]⟩
abbrev S512x1024 : Shape := ⟨2, ![512, 1024]⟩
abbrev S512x3072 : Shape := ⟨2, ![512, 3072]⟩
abbrev S1024 : Shape := ⟨1, ![1024]⟩
abbrev S512 : Shape := ⟨1, ![512]⟩
abbrev S512x1 : Shape := ⟨2, ![512, 1]⟩

abbrev nBuf : Space → Nat
  | .hbm => 57
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S8192x1024, .f32⟩
  | .hbm, ⟨6, _⟩ => ⟨S1024x3072, .bf16⟩
  | .hbm, ⟨7, _⟩ => ⟨S1024x1024, .bf16⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x3072, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S4x2048x1024, .f32⟩
  | .hbm, ⟨30, _⟩ => ⟨S_, .f32⟩
  | .hbm, ⟨31, _⟩ => ⟨S4x2x1024, .f32⟩
  | .hbm, ⟨32, _⟩ => ⟨S4x2050x1024, .f32⟩
  | .hbm, ⟨33, _⟩ => ⟨S1x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | .hbm, ⟨38, _⟩ => ⟨S1x1024, .f32⟩
  | .hbm, ⟨39, _⟩ => ⟨S4x2048x1024, .f32⟩
  | .hbm, ⟨40, _⟩ => ⟨S1x1x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S1x1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S8192x1024, .f32⟩
  | .hbm, ⟨50, _⟩ => ⟨S8192x3072, .bf16⟩
  | .hbm, ⟨51, _⟩ => ⟨S8192x1024, .f32⟩
  | .hbm, ⟨52, _⟩ => ⟨S8192x3072, .bf16⟩
  | .hbm, ⟨53, _⟩ => ⟨S8192x1024, .bf16⟩
  | .hbm, ⟨54, _⟩ => ⟨S8192x1024, .bf16⟩
  | .hbm, ⟨55, _⟩ => ⟨S8x1024, .f32⟩
  | .hbm, ⟨56, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x3072, .bf16⟩
  | .local _ .vmem, ⟨6, _⟩ => ⟨S512x3072, .bf16⟩
  | .local _ .vmem, ⟨7, _⟩ => ⟨S512x1024, .f32⟩
  | .local _ .vmem, ⟨8, _⟩ => ⟨S512x1024, .f32⟩
  | .local _ .vmem, ⟨9, _⟩ => ⟨S3x1024, .f32⟩
  | .local _ .vmem, ⟨10, _⟩ => ⟨S1024x3072, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x3072, .bf16⟩
  | .local _ .vmem, ⟨15, _⟩ => ⟨S512x3072, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S8x1024, .f32⟩
  | .local _ .vmem, ⟨21, _⟩ => ⟨S8x1024, .f32⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41_0 : Ref sig .tc := ⟨.hbm, 51, rfl⟩
abbrev main_v41_1 : Ref sig .tc := ⟨.hbm, 52, rfl⟩
abbrev main_v41_2 : Ref sig .tc := ⟨.hbm, 53, rfl⟩
abbrev main_v41_3 : Ref sig .tc := ⟨.hbm, 54, rfl⟩
abbrev main_v41_4 : Ref sig .tc := ⟨.hbm, 55, rfl⟩
abbrev main_v41_5 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S8192x1024 : Shape := ⟨2, ![8192, 1024]⟩
abbrev S1x1024 : Shape := ⟨2, ![1, 1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S4x2048x1024 : Shape := ⟨3, ![4, 2048, 1024]⟩
abbrev S4x2x1024 : Shape := ⟨3, ![4, 2, 1024]⟩
abbrev S4x2050x1024 : Shape := ⟨3, ![4, 2050, 1024]⟩
abbrev S1x1x1024 : Shape := ⟨3, ![1, 1, 1024]⟩
abbrev S1024 : Shape := ⟨1, ![1024]⟩
abbrev S5x1024 : Shape := ⟨2, ![5, 1024]⟩
abbrev S8x1024 : Shape := ⟨2, ![8, 1024]⟩
abbrev S7x1024 : Shape := ⟨2, ![7, 1024]⟩

abbrev nBuf : Space → Nat
  | .hbm => 199
  | .vmem => 0
  | .smem => 0
  | _ => 0

abbrev hbmTy0_0 (i : Nat) : BufTy := match i % 128 with
  | 0 => ⟨S8192x1024, .f32⟩
  | 1 => ⟨S1x1024, .f32⟩
  | 2 => ⟨S1024x3072, .f32⟩
  | 3 => ⟨S3x1024, .f32⟩
  | 4 => ⟨S1024x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S8192x3072, .f32⟩
  | 26 => ⟨S8192x1024, .f32⟩
  | 27 => ⟨S8192x1024, .f32⟩
  | 28 => ⟨S8192x1024, .f32⟩
  | 29 => ⟨S8192x1024, .f32⟩
  | 30 => ⟨S4x2048x1024, .f32⟩
  | 31 => ⟨S_, .f32⟩
  | 32 => ⟨S4x2x1024, .f32⟩
  | 33 => ⟨S4x2050x1024, .f32⟩
  | 34 => ⟨S_, .f32⟩
  | 35 => ⟨S4x2x1024, .f32⟩
  | 36 => ⟨S1x1024, .f32⟩
  | 37 => ⟨S4x2048x1024, .f32⟩
  | 38 => ⟨S1x1x1024, .f32⟩
  | 39 => ⟨S4x2048x1024, .f32⟩
  | 40 => ⟨S4x2048x1024, .f32⟩
  | 41 => ⟨S1x1024, .f32⟩
  | 42 => ⟨S4x2048x1024, .f32⟩
  | 43 => ⟨S1x1x1024, .f32⟩
  | 44 => ⟨S4x2048x1024, .f32⟩
  | 45 => ⟨S4x2048x1024, .f32⟩
  | 46 => ⟨S4x2048x1024, .f32⟩
  | 47 => ⟨S1x1024, .f32⟩
  | 48 => ⟨S4x2048x1024, .f32⟩
  | 49 => ⟨S1x1x1024, .f32⟩
  | 50 => ⟨S4x2048x1024, .f32⟩
  | 51 => ⟨S4x2048x1024, .f32⟩
  | 52 => ⟨S4x2048x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S_, .f32⟩
  | 66 => ⟨S1024, .f32⟩
  | 67 => ⟨S1x1x1024, .f32⟩
  | 68 => ⟨S_, .f32⟩
  | 69 => ⟨S1024, .f32⟩
  | 70 => ⟨S1x1024, .f32⟩
  | 71 => ⟨S_, .f32⟩
  | 72 => ⟨S4x2050x1024, .f32⟩
  | 73 => ⟨S_, .f32⟩
  | 74 => ⟨S3x1024, .f32⟩
  | 75 => ⟨S4x2048x1024, .f32⟩
  | 76 => ⟨S4x2048x1024, .f32⟩
  | 77 => ⟨S4x2048x1024, .f32⟩
  | 78 => ⟨S_, .f32⟩
  | 79 => ⟨S1024, .f32⟩
  | 80 => ⟨S1x1x1024, .f32⟩
  | 81 => ⟨S_, .f32⟩
  | 82 => ⟨S1024, .f32⟩
  | 83 => ⟨S1x1024, .f32⟩
  | 84 => ⟨S_, .f32⟩
  | 85 => ⟨S4x2050x1024, .f32⟩
  | 86 => ⟨S4x2050x1024, .f32⟩
  | 87 => ⟨S_, .f32⟩
  | 88 => ⟨S3x1024, .f32⟩
  | 89 => ⟨S3x1024, .f32⟩
  | 90 => ⟨S4x2048x1024, .f32⟩
  | 91 => ⟨S4x2048x1024, .f32⟩
  | 92 => ⟨S4x2048x1024, .f32⟩
  | 93 => ⟨S_, .f32⟩
  | 94 => ⟨S1024, .f32⟩
  | 95 => ⟨S1x1x1024, .f32⟩
  | 96 => ⟨S_, .f32⟩
  | 97 => ⟨S1024, .f32⟩
  | 98 => ⟨S1x1024, .f32⟩
  | 99 => ⟨S_, .f32⟩
  | 100 => ⟨S4x2050x1024, .f32⟩
  | 101 => ⟨S4x2050x1024, .f32⟩
  | 102 => ⟨S_, .f32⟩
  | 103 => ⟨S3x1024, .f32⟩
  | 104 => ⟨S3x1024, .f32⟩
  | 105 => ⟨S4x2x1024, .f32⟩
  | 106 => ⟨S4x2048x1024, .f32⟩
  | 107 => ⟨S8192x1024, .f32⟩
  | 108 => ⟨S8192x1024, .f32⟩
  | 109 => ⟨S8192x1024, .f32⟩
  | 110 => ⟨S8192x3072, .f32⟩
  | 111 => ⟨S8192x1024, .f32⟩
  | 112 => ⟨S8192x1024, .f32⟩
  | 113 => ⟨S_, .f32⟩
  | 114 => ⟨S1024, .f32⟩
  | 115 => ⟨S1x1024, .f32⟩
  | 116 => ⟨S8192x1024, .f32⟩
  | 117 => ⟨S8192x1024, .f32⟩
  | 118 => ⟨S8192x1024, .f32⟩
  | 119 => ⟨S_, .f32⟩
  | 120 => ⟨S8192, .f32⟩
  | 121 => ⟨S8192x1, .f32⟩
  | 122 => ⟨S8192x1024, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S4x2048x1024, .f32⟩
  | 13 => ⟨S_, .f32⟩
  | 14 => ⟨S4x2x1024, .f32⟩
  | 15 => ⟨S4x2050x1024, .f32⟩
  | 16 => ⟨S_, .f32⟩
  | 17 => ⟨S4x2x1024, .f32⟩
  | 18 => ⟨S1x1024, .f32⟩
  | 19 => ⟨S4x2048x1024, .f32⟩
  | 20 => ⟨S1x1x1024, .f32⟩
  | 21 => ⟨S4x2048x1024, .f32⟩
  | 22 => ⟨S4x2048x1024, .f32⟩
  | 23 => ⟨S1x1024, .f32⟩
  | 24 => ⟨S4x2048x1024, .f32⟩
  | 25 => ⟨S1x1x1024, .f32⟩
  | 26 => ⟨S4x2048x1024, .f32⟩
  | 27 => ⟨S4x2048x1024, .f32⟩
  | 28 => ⟨S4x2048x1024, .f32⟩
  | 29 => ⟨S1x1024, .f32⟩
  | 30 => ⟨S4x2048x1024, .f32⟩
  | 31 => ⟨S1x1x1024, .f32⟩
  | 32 => ⟨S4x2048x1024, .f32⟩
  | 33 => ⟨S4x2048x1024, .f32⟩
  | 34 => ⟨S4x2048x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S4x2048x1024, .f32⟩
  | 42 => ⟨S4x2048x1024, .f32⟩
  | 43 => ⟨S4x2048x1024, .f32⟩
  | 44 => ⟨S_, .f32⟩
  | 45 => ⟨S4x2050x1024, .f32⟩
  | 46 => ⟨S4x2048x1024, .f32⟩
  | 47 => ⟨S4x2048x1024, .f32⟩
  | 48 => ⟨S_, .f32⟩
  | 49 => ⟨S4x2050x1024, .f32⟩
  | 50 => ⟨S4x2050x1024, .f32⟩
  | 51 => ⟨S4x2048x1024, .f32⟩
  | 52 => ⟨S4x2048x1024, .f32⟩
  | 53 => ⟨S_, .f32⟩
  | 54 => ⟨S4x2050x1024, .f32⟩
  | 55 => ⟨S4x2050x1024, .f32⟩
  | 56 => ⟨S4x2x1024, .f32⟩
  | 57 => ⟨S4x2048x1024, .f32⟩
  | 58 => ⟨S8192x1024, .f32⟩
  | 59 => ⟨S8192x1024, .f32⟩
  | 60 => ⟨S8192x1024, .f32⟩
  | 61 => ⟨S8192x3072, .f32⟩
  | 62 => ⟨S8192x3072, .bf16⟩
  | 63 => ⟨S8192x1024, .bf16⟩
  | 64 => ⟨S8192x1024, .bf16⟩
  | 65 => ⟨S_, .f32⟩
  | 66 => ⟨S5x1024, .f32⟩
  | 67 => ⟨S8x1024, .f32⟩
  | 68 => ⟨S_, .f32⟩
  | 69 => ⟨S7x1024, .f32⟩
  | 70 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_cst_14 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_18 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_19 : Ref sig .tc := ⟨.hbm, 126, rfl⟩
abbrev main_v100 : Ref sig .tc := ⟨.hbm, 127, rfl⟩
abbrev main_v101 : Ref sig .tc := ⟨.hbm, 128, rfl⟩
abbrev main_cst_20 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_21 : Ref sig .tc := ⟨.hbm, 141, rfl⟩
abbrev main_v113 : Ref sig .tc := ⟨.hbm, 142, rfl⟩
abbrev main_v114 : Ref sig .tc := ⟨.hbm, 143, rfl⟩
abbrev main_cst_22 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_cst_23 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_24 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_cst_25 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_cst_26 : Ref sig .tc := ⟨.hbm, 193, rfl⟩
abbrev main_v160 : Ref sig .tc := ⟨.hbm, 194, rfl⟩
abbrev main_v161 : Ref sig .tc := ⟨.hbm, 195, rfl⟩
abbrev main_cst_27 : Ref sig .tc := ⟨.hbm, 196, rfl⟩
abbrev main_v162 : Ref sig .tc := ⟨.hbm, 197, rfl⟩
abbrev main_v163 : Ref sig .tc := ⟨.hbm, 198, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S8192x5632 : Shape := ⟨2, ![8192, 5632]⟩
abbrev S8x128 : Shape := ⟨2, ![8, 128]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩
abbrev S1 : Shape := ⟨1, ![1]⟩
abbrev S1x1 : Shape := ⟨2, ![1, 1]⟩
abbrev S8192x2816 : Shape := ⟨2, ![8192, 2816]⟩
abbrev S8x1024 : Shape := ⟨2, ![8, 1024]⟩
abbrev S256x2816 : Shape := ⟨2, ![256, 2816]⟩
abbrev S1024 : Shape := ⟨1, ![1024]⟩

abbrev nBuf : Space → Nat
  | .hbm => 23
  | .vmem => 42
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S8192x1024, .f32⟩
  | .hbm, ⟨7, _⟩ => ⟨S1024x5632, .bf16⟩
  | .hbm, ⟨8, _⟩ => ⟨S2816x1024, .bf16⟩
  | .hbm, ⟨9, _⟩ => ⟨S1024x1024, .bf16⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S8192x5632, .f32⟩
  | .hbm, ⟨14, _⟩ => ⟨S8x128, .f32⟩
  | .hbm, ⟨15, _⟩ => ⟨S8192x1024, .f32⟩
  | .hbm, ⟨16, _⟩ => ⟨S8192x2816, .bf16⟩
  | .hbm, ⟨17, _⟩ => ⟨S8192x5632, .bf16⟩
  | .hbm, ⟨18, _⟩ => ⟨S8192x1024, .bf16⟩
  | .hbm, ⟨19, _⟩ => ⟨S8192x1024, .bf16⟩
  | .hbm, ⟨20, _⟩ => ⟨S8x1024, .f32⟩
  | .hbm, ⟨21, _⟩ => ⟨S8192x1024, .bf16⟩
  | .hbm, ⟨22, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S256x1024, .bf16⟩
  | .local _ .vmem, ⟨6, _⟩ => ⟨S256x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x5632, .f32⟩
  | .local _ .vmem, ⟨15, _⟩ => ⟨S256x5632, .f32⟩
  | .local _ .vmem, ⟨16, _⟩ => ⟨S8x128, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S256x5632, .f32⟩
  | .local _ .vmem, ⟨23, _⟩ => ⟨S256x5632, .f32⟩
  | .local _ .vmem, ⟨24, _⟩ => ⟨S1024x5632, .bf16⟩
  | .local _ .vmem, ⟨25, _⟩ => ⟨S2816x1024, .bf16⟩
  | .local _ .vmem, ⟨26, _⟩ => ⟨S1024x1024, .bf16⟩
  | .local _ .vmem, ⟨27, _⟩ => ⟨S256x1024, .f32⟩
  | .local _ .vmem, ⟨28, _⟩ => ⟨S256x1024, .f32⟩
  | .local _ .vmem, ⟨29, _⟩ => ⟨S256x2816, .bf16⟩
  | .local _ .vmem, ⟨30, _⟩ => ⟨S256x2816, .bf16⟩
  | .local _ .vmem, ⟨31, _⟩ => ⟨S256x5632, .bf16⟩
  | .local _ .vmem, ⟨32, _⟩ => ⟨S256x5632, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S8x1024, .f32⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg11_1 : Ref sig .tc := ⟨.vmem, 36, rfl⟩
abbrev cc1_stg12_0 : Ref sig .tc := ⟨.vmem, 37, rfl⟩
abbrev cc1_stg13_0 : Ref sig .tc := ⟨.vmem, 38, rfl⟩
abbrev cc1_stg13_1 : Ref sig .tc := ⟨.vmem, 39, rfl⟩
abbrev cc1_stg14_0 : Ref sig .tc := ⟨.vmem, 40, rfl⟩
abbrev cc1_stg14_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28
abbrev cc1_sem8_0 : DmaSem sig := 29
abbrev cc1_sem8_1 : DmaSem sig := 30
abbrev cc1_sem9_0 : DmaSem sig := 31
abbrev cc1_sem9_1 : DmaSem sig := 32
abbrev cc1_sem10_0 : DmaSem sig := 33
abbrev cc1_sem10_1 : DmaSem sig := 34
abbrev cc1_sem11_0 : DmaSem sig := 35
abbrev cc1_sem11_1 : DmaSem sig := 36
abbrev cc1_sem12_0 : DmaSem sig := 37
abbrev cc1_sem13_0 : DmaSem sig := 38
abbrev cc1_sem13_1 : DmaSem sig := 39
abbrev cc1_sem14_0 : DmaSem sig := 40
abbrev cc1_sem14_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x5632 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x5632 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x2816 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x5632 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S8x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S256x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== Reference4Ideal.lean ====
abbrev S8192x1024 : Shape := ⟨2, ![8192, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 143
  | .vmem => 0
  | .smem => 0
  | _ => 0

abbrev hbmTy0_0 (i : Nat) : BufTy := match i % 128 with
  | 0 => ⟨S8192x1024, .f32⟩
  | 1 => ⟨S8192x1024, .f32⟩
  | 2 => ⟨S1024x1024, .f32⟩
  | 3 => ⟨S1x1024, .f32⟩
  | 4 => ⟨S1024x5632, .f32⟩
  | 5 => ⟨S2816x1024, .f32⟩
  | 6 => ⟨S8192x1024, .f32⟩
  | 7 => ⟨S8192x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S8192x5632, .f32⟩
  | 29 => ⟨S8192x2816, .f32⟩
  | 30 => ⟨S8192x2816, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S8192x2816, .f32⟩
  | 43 => ⟨S8192x2816, .f32⟩
  | 44 => ⟨S8192x2816, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192, .f32⟩
  | 54 => ⟨S_, .f32⟩
  | 55 => ⟨S8192, .f32⟩
  | 56 => ⟨S8192, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S8192, .f32⟩
  | 65 => ⟨S_, .f32⟩
  | 66 => ⟨S8192, .f32⟩
  | 67 => ⟨S8192, .f32⟩
  | 68 => ⟨S8192x1024, .f32⟩
  | 69 => ⟨S8192x1024, .f32⟩
  | 70 => ⟨S8192x2816, .f32⟩
  | 71 => ⟨S8192x2816, .f32⟩
  | 72 => ⟨S8192x2816, .f32⟩
  | 73 => ⟨S8192x2816, .f32⟩
  | 74 => ⟨S8192x2816, .f32⟩
  | 75 => ⟨S8192x2816, .f32⟩
  | 76 => ⟨S8192x2816, .f32⟩
  | 77 => ⟨S8192x5632, .f32⟩
  | 78 => ⟨S8192x1024, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S8192x1024, .f32⟩
  | 85 => ⟨S8192x1024, .f32⟩
  | 86 => ⟨S_, .f32⟩
  | 87 => ⟨S8192, .f32⟩
  | 88 => ⟨S8192x1, .f32⟩
  | 89 => ⟨S8192x1024, .f32⟩
  | 90 => ⟨S8192x1024, .f32⟩
  | 91 => ⟨S8192x1024, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x2816, .f32⟩
  | 105 => ⟨S8192x2816, .f32⟩
  | 106 => ⟨S8192x2816, .f32⟩
  | 107 => ⟨S8192x2816, .f32⟩
  | 108 => ⟨S_, .f32⟩
  | 109 => ⟨S8192x2816, .f32⟩
  | 110 => ⟨S8192x2816, .f32⟩
  | 111 => ⟨S_, .f32⟩
  | 112 => ⟨S8192x2816, .f32⟩
  | 113 => ⟨S8192x2816, .f32⟩
  | 114 => ⟨S_, .f32⟩
  | 115 => ⟨S8192x2816, .f32⟩
  | 116 => ⟨S8192x2816, .f32⟩
  | 117 => ⟨S8192x2816, .f32⟩
  | 118 => ⟨S8192x2816, .f32⟩
  | 119 => ⟨S8192x2816, .f32⟩
  | 120 => ⟨S8192x1024, .f32⟩
  | 121 => ⟨S8192x2816, .f32⟩
  | 122 => ⟨S8192x2816, .f32⟩
  | 123 => ⟨S8192x2816, .f32⟩
  | 124 => ⟨S8192x2816, .f32⟩
  | 125 => ⟨S8192x2816, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x5632, .f32⟩
  | 1 => ⟨S8192x1024, .f32⟩
  | 2 => ⟨S8192x1024, .f32⟩
  | 3 => ⟨S_, .f32⟩
  | 4 => ⟨S_, .f32⟩
  | 5 => ⟨S8x128, .f32⟩
  | 6 => ⟨S_, .f32⟩
  | 7 => ⟨S7x1024, .f32⟩
  | 8 => ⟨S8x1024, .f32⟩
  | 9 => ⟨S8192x2816, .bf16⟩
  | 10 => ⟨S8192x5632, .bf16⟩
  | 11 => ⟨S8192x1024, .bf16⟩
  | 12 => ⟨S8192x1024, .bf16⟩
  | 13 => ⟨S8192x1024, .bf16⟩
  | 14 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v20_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v20_1 : Ref sig .tc := ⟨.hbm, 42, rfl⟩
abbrev main_v20_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_cst_8 : Ref sig .tc := ⟨.hbm, 61, rfl⟩
abbrev main_cst_9 : Ref sig .tc := ⟨.hbm, 62, rfl⟩
abbrev main_v33 : Ref sig .tc := ⟨.hbm, 63, rfl⟩
abbrev main_v34 : Ref sig .tc := ⟨.hbm, 64, rfl⟩
abbrev main_cst_10 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_11 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_13 : Ref sig .tc := ⟨.hbm, 93, rfl⟩
abbrev main_v57 : Ref sig .tc := ⟨.hbm, 94, rfl⟩
abbrev main_v58 : Ref sig .tc := ⟨.hbm, 95, rfl⟩
abbrev main_cst_14 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_v68_2 : Ref sig .tc := ⟨.hbm, 113, rfl⟩
abbrev main_call2_cst_1 : Ref sig .tc := ⟨.hbm, 114, rfl⟩
abbrev main_call2_v6 : Ref sig .tc := ⟨.hbm, 115, rfl⟩
abbrev main_call2_v7 : Ref sig .tc := ⟨.hbm, 116, rfl⟩
abbrev main_v68_1 : Ref sig .tc := ⟨.hbm, 117, rfl⟩
abbrev main_v68_0 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_15 : Ref sig .tc := ⟨.hbm, 131, rfl⟩
abbrev main_v78 : Ref sig .tc := ⟨.hbm, 132, rfl⟩
abbrev main_v79 : Ref sig .tc := ⟨.hbm, 133, rfl⟩
abbrev main_cst_16 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x1536 : Shape := ⟨2, ![1024, 1536]⟩
abbrev S1x64 : Shape := ⟨2, ![1, 64]⟩
abbrev S4x16x256x4x64 : Shape := ⟨5, ![4, 16, 256, 4, 64]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S4x16x128x4x64 : Shape := ⟨5, ![4, 16, 128, 4, 64]⟩
abbrev S8192x256 : Shape := ⟨2, ![8192, 256]⟩
abbrev S8192x64 : Shape := ⟨2, ![8192, 64]⟩
abbrev S8192x128 : Shape := ⟨2, ![8192, 128]⟩
abbrev S8192x512 : Shape := ⟨2, ![8192, 512]⟩
abbrev S1x128 : Shape := ⟨2, ![1, 128]⟩
abbrev S8x1024 : Shape := ⟨2, ![8, 1024]⟩
abbrev S8x128 : Shape := ⟨2, ![8, 128]⟩
abbrev S512x1024 : Shape := ⟨2, ![512, 1024]⟩
abbrev S512x512 : Shape := ⟨2, ![512, 512]⟩
abbrev S128x512 : Shape := ⟨2, ![128, 512]⟩
abbrev S512x1536 : Shape := ⟨2, ![512, 1536]⟩
abbrev S384x512 : Shape := ⟨2, ![384, 512]⟩
abbrev S512x128 : Shape := ⟨2, ![512, 128]⟩
abbrev S512 : Shape := ⟨1, ![512]⟩
abbrev S512x1 : Shape := ⟨2, ![512, 1]⟩
abbrev S128 : Shape := ⟨1, ![128]⟩
abbrev S1024 : Shape := ⟨1, ![1024]⟩
abbrev S2x64 : Shape := ⟨2, ![2, 64]⟩

abbrev nBuf : Space → Nat
  | .hbm => 140
  | .vmem => 32
  | .smem => 0
  | _ => 0

abbrev hbmTy0_0 (i : Nat) : BufTy := match i % 128 with
  | 0 => ⟨S8192x1024, .f32⟩
  | 1 => ⟨S1x1024, .f32⟩
  | 2 => ⟨S1024x1536, .f32⟩
  | 3 => ⟨S1x64, .f32⟩
  | 4 => ⟨S1x64, .f32⟩
  | 5 => ⟨S8192x1024, .f32⟩
  | 6 => ⟨S8192x1024, .f32⟩
  | 7 => ⟨S4x16x256x4x64, .f32⟩
  | 8 => ⟨S4x16x256x4x64, .f32⟩
  | 9 => ⟨S1024x1536, .bf16⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S8192x1024, .bf16⟩
  | 26 => ⟨S8192x1536, .f32⟩
  | 27 => ⟨S_, .f32⟩
  | 28 => ⟨S8192x1024, .f32⟩
  | 29 => ⟨S8192x1024, .f32⟩
  | 30 => ⟨S4x16x128x4x64, .f32⟩
  | 31 => ⟨S8192x256, .f32⟩
  | 32 => ⟨S8192x64, .f32⟩
  | 33 => ⟨S8192x256, .f32⟩
  | 34 => ⟨S8192x64, .f32⟩
  | 35 => ⟨S8192x256, .f32⟩
  | 36 => ⟨S8192x64, .f32⟩
  | 37 => ⟨S8192x256, .f32⟩
  | 38 => ⟨S8192x64, .f32⟩
  | 39 => ⟨S_, .f32⟩
  | 40 => ⟨S8192x64, .f32⟩
  | 41 => ⟨S_, .f32⟩
  | 42 => ⟨S8192x64, .f32⟩
  | 43 => ⟨S_, .f32⟩
  | 44 => ⟨S8192x64, .f32⟩
  | 45 => ⟨S_, .f32⟩
  | 46 => ⟨S8192x64, .f32⟩
  | 47 => ⟨S8192x128, .f32⟩
  | 48 => ⟨S8192x128, .f32⟩
  | 49 => ⟨S8192x128, .f32⟩
  | 50 => ⟨S8192x128, .f32⟩
  | 51 => ⟨S8192x256, .f32⟩
  | 52 => ⟨S8192x256, .f32⟩
  | 53 => ⟨S8192x512, .f32⟩
  | 54 => ⟨S8192x512, .bf16⟩
  | 55 => ⟨S4x16x128x4x64, .f32⟩
  | 56 => ⟨S8192x256, .f32⟩
  | 57 => ⟨S8192x64, .f32⟩
  | 58 => ⟨S8192x256, .f32⟩
  | 59 => ⟨S8192x64, .f32⟩
  | 60 => ⟨S8192x256, .f32⟩
  | 61 => ⟨S8192x64, .f32⟩
  | 62 => ⟨S8192x256, .f32⟩
  | 63 => ⟨S8192x64, .f32⟩
  | 64 => ⟨S_, .f32⟩
  | 65 => ⟨S8192x64, .f32⟩
  | 66 => ⟨S_, .f32⟩
  | 67 => ⟨S8192x64, .f32⟩
  | 68 => ⟨S_, .f32⟩
  | 69 => ⟨S8192x64, .f32⟩
  | 70 => ⟨S_, .f32⟩
  | 71 => ⟨S8192x64, .f32⟩
  | 72 => ⟨S8192x128, .f32⟩
  | 73 => ⟨S8192x128, .f32⟩
  | 74 => ⟨S8192x128, .f32⟩
  | 75 => ⟨S8192x128, .f32⟩
  | 76 => ⟨S8192x256, .f32⟩
  | 77 => ⟨S8192x256, .f32⟩
  | 78 => ⟨S8192x512, .f32⟩
  | 79 => ⟨S8192x512, .bf16⟩
  | 80 => ⟨S4x16x128x4x64, .f32⟩
  | 81 => ⟨S8192x256, .f32⟩
  | 82 => ⟨S8192x64, .f32⟩
  | 83 => ⟨S8192x256, .f32⟩
  | 84 => ⟨S8192x64, .f32⟩
  | 85 => ⟨S8192x256, .f32⟩
  | 86 => ⟨S8192x64, .f32⟩
  | 87 => ⟨S8192x256, .f32⟩
  | 88 => ⟨S8192x64, .f32⟩
  | 89 => ⟨S_, .f32⟩
  | 90 => ⟨S8192x64, .f32⟩
  | 91 => ⟨S_, .f32⟩
  | 92 => ⟨S8192x64, .f32⟩
  | 93 => ⟨S_, .f32⟩
  | 94 => ⟨S8192x64, .f32⟩
  | 95 => ⟨S_, .f32⟩
  | 96 => ⟨S8192x64, .f32⟩
  | 97 => ⟨S8192x128, .f32⟩
  | 98 => ⟨S8192x128, .f32⟩
  | 99 => ⟨S8192x128, .f32⟩
  | 100 => ⟨S8192x128, .f32⟩
  | 101 => ⟨S8192x256, .f32⟩
  | 102 => ⟨S8192x256, .f32⟩
  | 103 => ⟨S8192x512, .f32⟩
  | 104 => ⟨S8192x512, .bf16⟩
  | 105 => ⟨S4x16x128x4x64, .f32⟩
  | 106 => ⟨S8192x256, .f32⟩
  | 107 => ⟨S8192x64, .f32⟩
  | 108 => ⟨S8192x256, .f32⟩
  | 109 => ⟨S8192x64, .f32⟩
  | 110 => ⟨S8192x256, .f32⟩
  | 111 => ⟨S8192x64, .f32⟩
  | 112 => ⟨S8192x256, .f32⟩
  | 113 => ⟨S8192x64, .f32⟩
  | 114 => ⟨S_, .f32⟩
  | 115 => ⟨S8192x64, .f32⟩
  | 116 => ⟨S_, .f32⟩
  | 117 => ⟨S8192x64, .f32⟩
  | 118 => ⟨S_, .f32⟩
  | 119 => ⟨S8192x64, .f32⟩
  | 120 => ⟨S_, .f32⟩
  | 121 => ⟨S8192x64, .f32⟩
  | 122 => ⟨S8192x128, .f32⟩
  | 123 => ⟨S8192x128, .f32⟩
  | 124 => ⟨S8192x128, .f32⟩
  | 125 => ⟨S8192x128, .f32⟩
  | 126 => ⟨S8192x256, .f32⟩
  | 127 => ⟨S8192x256, .f32⟩
  | _ => ⟨S8192x1024, .f32⟩

abbrev hbmTy0_1 (i : Nat) : BufTy := match i % 128 with
  | 0 => ⟨S8192x512, .f32⟩
  | 1 => ⟨S8192x512, .bf16⟩
  | 2 => ⟨S1x128, .f32⟩
  | 3 => ⟨S1x128, .f32⟩
  | 4 => ⟨S8192x1024, .f32⟩
  | 5 => ⟨S8192x1536, .bf16⟩
  | 6 => ⟨S8192x1024, .bf16⟩
  | 7 => ⟨S8x1024, .f32⟩
  | 8 => ⟨S8x128, .f32⟩
  | 9 => ⟨S2x64, .f32⟩
  | 10 => ⟨S2x64, .f32⟩
  | 11 => ⟨S2x64, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S128x512, .bf16⟩
  | .local _ .vmem, ⟨13, _⟩ => ⟨S128x512, .bf16⟩
  | .local _ .vmem, ⟨14, _⟩ => ⟨S512x1536, .f32⟩
  | .local _ .vmem, ⟨15, _⟩ => ⟨S512x1536, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1024x1536, .bf16⟩
  | .local _ .vmem, ⟨22, _⟩ => ⟨S1x128, .f32⟩
  | .local _ .vmem, ⟨23, _⟩ => ⟨S1x128, .f32⟩
  | .local _ .vmem, ⟨24, _⟩ => ⟨S512x1024, .f32⟩
  | .local _ .vmem, ⟨25, _⟩ => ⟨S512x1024, .f32⟩
  | .local _ .vmem, ⟨26, _⟩ => ⟨S512x1536, .bf16⟩
  | .local _ .vmem, ⟨27, _⟩ => ⟨S512x1536, .bf16⟩
  | .local _ .vmem, ⟨28, _⟩ => ⟨S512x1024, .bf16⟩
  | .local _ .vmem, ⟨29, _⟩ => ⟨S512x1024, .bf16⟩
  | .local _ .vmem, ⟨30, _⟩ => ⟨S8x1024, .f32⟩
  | .local _ .vmem, ⟨31, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_cst_17 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103_0 : Ref sig .tc := ⟨.hbm, 132, rfl⟩
abbrev main_v103_1 : Ref sig .tc := ⟨.hbm, 133, rfl⟩
abbrev main_v103_2 : Ref sig .tc := ⟨.hbm, 134, rfl⟩
abbrev main_v103_3 : Ref sig .tc := ⟨.hbm, 135, rfl⟩
abbrev main_v103_4 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference5Ideal.lean ====
abbrev S8192x1024 : Shape := ⟨2, ![8192, 1024]⟩
abbrev S1x1024 : Shape := ⟨2, ![1, 1024]⟩
abbrev S1024x1536 : Shape := ⟨2, ![1024, 1536]⟩
abbrev S1x64 : Shape := ⟨2, ![1, 64]⟩
abbrev S4x16x256x4x64 : Shape := ⟨5, ![4, 16, 256, 4, 64]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S4x2048x4x4x64 : Shape := ⟨5, ![4, 2048, 4, 4, 64]⟩
abbrev S8192x256 : Shape := ⟨2, ![8192, 256]⟩
abbrev S4x2048x4x64 : Shape := ⟨4, ![4, 2048, 4, 64]⟩
abbrev S64 : Shape := ⟨1, ![64]⟩
abbrev S4x2048x4x4 : Shape := ⟨4, ![4, 2048, 4, 4]⟩
abbrev S4x2048x4x4x1 : Shape := ⟨5, ![4, 2048, 4, 4, 1]⟩
abbrev S1x1x1x1x64 : Shape := ⟨5, ![1, 1, 1, 1, 64]⟩
abbrev S4x2048x4 : Shape := ⟨3, ![4, 2048, 4]⟩
abbrev S4x2048x4x1 : Shape := ⟨4, ![4, 2048, 4, 1]⟩
abbrev S1x1x1x64 : Shape := ⟨4, ![1, 1, 1, 64]⟩
abbrev S4x128x4x64 : Shape := ⟨4, ![4, 128, 4, 64]⟩
abbrev S4x2176x4x64 : Shape := ⟨4, ![4, 2176, 4, 64]⟩
abbrev S4x17x128x4x64 : Shape := ⟨5, ![4, 17, 128, 4, 64]⟩
abbrev S4x16x128x4x64 : Shape := ⟨5, ![4, 16, 128, 4, 64]⟩
abbrev S1024 : Shape := ⟨1, ![1024]⟩
abbrev S7x1024 : Shape := ⟨2, ![7, 1024]⟩
abbrev S8x1024 : Shape := ⟨2, ![8, 1024]⟩
abbrev S2x64 : Shape := ⟨2, ![2, 64]⟩

abbrev nBuf : Space → Nat
  | .hbm => 352
  | .vmem => 0
  | .smem => 0
  | _ => 0

abbrev hbmTy0_0 (i : Nat) : BufTy := match i % 128 with
  | 0 => ⟨S8192x1024, .f32⟩
  | 1 => ⟨S1x1024, .f32⟩
  | 2 => ⟨S1024x1536, .f32⟩
  | 3 => ⟨S1x64, .f32⟩
  | 4 => ⟨S1x64, .f32⟩
  | 5 => ⟨S8192x1024, .f32⟩
  | 6 => ⟨S8192x1024, .f32⟩
  | 7 => ⟨S4x16x256x4x64, .f32⟩
  | 8 => ⟨S4x16x256x4x64, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S8192x1536, .f32⟩
  | 29 => ⟨S8192x1024, .f32⟩
  | 30 => ⟨S4x2048x4x4x64, .f32⟩
  | 31 => ⟨S8192x256, .f32⟩
  | 32 => ⟨S4x2048x4x64, .f32⟩
  | 33 => ⟨S8192x256, .f32⟩
  | 34 => ⟨S4x2048x4x64, .f32⟩
  | 35 => ⟨S64, .f32⟩
  | 36 => ⟨S4x2048x4x4x64, .f32⟩
  | 37 => ⟨S_, .f32⟩
  | 38 => ⟨S4x2048x4x4, .f32⟩
  | 39 => ⟨S4x2048x4x4x1, .f32⟩
  | 40 => ⟨S_, .f32⟩
  | 41 => ⟨S4x2048x4x4x1, .f32⟩
  | 42 => ⟨S4x2048x4x4x1, .f32⟩
  | 43 => ⟨S_, .f32⟩
  | 44 => ⟨S4x2048x4x4x1, .f32⟩
  | 45 => ⟨S4x2048x4x4x1, .f32⟩
  | 46 => ⟨S4x2048x4x4x1, .f32⟩
  | 47 => ⟨S4x2048x4x4x1, .f32⟩
  | 48 => ⟨S_, .f32⟩
  | 49 => ⟨S4x2048x4x4x1, .f32⟩
  | 50 => ⟨S4x2048x4x4x1, .f32⟩
  | 51 => ⟨S4x2048x4x4x64, .f32⟩
  | 52 => ⟨S4x2048x4x4x64, .f32⟩
  | 53 => ⟨S1x1x1x1x64, .f32⟩
  | 54 => ⟨S4x2048x4x4x64, .f32⟩
  | 55 => ⟨S4x2048x4x4x64, .f32⟩
  | 56 => ⟨S8192x1024, .f32⟩
  | 57 => ⟨S64, .f32⟩
  | 58 => ⟨S4x2048x4x64, .f32⟩
  | 59 => ⟨S_, .f32⟩
  | 60 => ⟨S4x2048x4, .f32⟩
  | 61 => ⟨S4x2048x4x1, .f32⟩
  | 62 => ⟨S_, .f32⟩
  | 63 => ⟨S4x2048x4x1, .f32⟩
  | 64 => ⟨S4x2048x4x1, .f32⟩
  | 65 => ⟨S_, .f32⟩
  | 66 => ⟨S4x2048x4x1, .f32⟩
  | 67 => ⟨S4x2048x4x1, .f32⟩
  | 68 => ⟨S4x2048x4x1, .f32⟩
  | 69 => ⟨S4x2048x4x1, .f32⟩
  | 70 => ⟨S_, .f32⟩
  | 71 => ⟨S4x2048x4x1, .f32⟩
  | 72 => ⟨S4x2048x4x1, .f32⟩
  | 73 => ⟨S4x2048x4x64, .f32⟩
  | 74 => ⟨S4x2048x4x64, .f32⟩
  | 75 => ⟨S1x1x1x64, .f32⟩
  | 76 => ⟨S4x2048x4x64, .f32⟩
  | 77 => ⟨S4x2048x4x64, .f32⟩
  | 78 => ⟨S4x128x4x64, .f32⟩
  | 79 => ⟨S_, .f32⟩
  | 80 => ⟨S4x128x4x64, .f32⟩
  | 81 => ⟨S4x2176x4x64, .f32⟩
  | 82 => ⟨S_, .f32⟩
  | 83 => ⟨S4x128x4x64, .f32⟩
  | 84 => ⟨S4x17x128x4x64, .f32⟩
  | 85 => ⟨S4x16x128x4x64, .f32⟩
  | 86 => ⟨S4x16x128x4x64, .f32⟩
  | 87 => ⟨S4x16x256x4x64, .f32⟩
  | 88 => ⟨S4x128x4x64, .f32⟩
  | 89 => ⟨S_, .f32⟩
  | 90 => ⟨S4x128x4x64, .f32⟩
  | 91 => ⟨S4x2176x4x64, .f32⟩
  | 92 => ⟨S_, .f32⟩
  | 93 => ⟨S4x128x4x64, .f32⟩
  | 94 => ⟨S4x17x128x4x64, .f32⟩
  | 95 => ⟨S4x16x128x4x64, .f32⟩
  | 96 => ⟨S4x16x128x4x64, .f32⟩
  | 97 => ⟨S4x16x256x4x64, .f32⟩
  | 98 => ⟨S4x16x128x4x64, .f32⟩
  | 99 => ⟨S4x16x128x4x64, .f32⟩
  | 100 => ⟨S_, .f32⟩
  | 101 => ⟨S4x17x128x4x64, .f32⟩
  | 102 => ⟨S_, .f32⟩
  | 103 => ⟨S4x17x128x4x64, .f32⟩
  | 104 => ⟨S4x17x128x4x64, .f32⟩
  | 105 => ⟨S4x2176x4x64, .f32⟩
  | 106 => ⟨S4x128x4x64, .f32⟩
  | 107 => ⟨S4x2048x4x64, .f32⟩
  | 108 => ⟨S4x16x128x4x64, .f32⟩
  | 109 => ⟨S4x16x128x4x64, .f32⟩
  | 110 => ⟨S_, .f32⟩
  | 111 => ⟨S4x17x128x4x64, .f32⟩
  | 112 => ⟨S_, .f32⟩
  | 113 => ⟨S4x17x128x4x64, .f32⟩
  | 114 => ⟨S4x17x128x4x64, .f32⟩
  | 115 => ⟨S4x2176x4x64, .f32⟩
  | 116 => ⟨S4x128x4x64, .f32⟩
  | 117 => ⟨S4x2048x4x64, .f32⟩
  | 118 => ⟨S4x2048x4x64, .f32⟩
  | 119 => ⟨S_, .f32⟩
  | 120 => ⟨S64, .f32⟩
  | 121 => ⟨S1x1x1x64, .f32⟩
  | 122 => ⟨S4x2048x4x64, .f32⟩
  | 123 => ⟨S4x2048x4x64, .f32⟩
  | 124 => ⟨S_, .f32⟩
  | 125 => ⟨S64, .f32⟩
  | 126 => ⟨S4x2048x4x64, .f32⟩
  | 127 => ⟨S_, .f32⟩
  | _ => ⟨S8192x1024, .f32⟩

abbrev hbmTy0_1 (i : Nat) : BufTy := match i % 128 with
  | 0 => ⟨S4x2048x4, .f32⟩
  | 1 => ⟨S4x2048x4x1, .f32⟩
  | 2 => ⟨S4x2048x4x64, .f32⟩
  | 3 => ⟨S4x2048x4x64, .f32⟩
  | 4 => ⟨S4x2048x4x1, .f32⟩
  | 5 => ⟨S_, .f32⟩
  | 6 => ⟨S4x2048x4x1, .f32⟩
  | 7 => ⟨S4x2048x4x1, .f32⟩
  | 8 => ⟨S_, .f32⟩
  | 9 => ⟨S4x2048x4, .f32⟩
  | 10 => ⟨S4x2048x4x64, .f32⟩
  | 11 => ⟨S4x2048x4x64, .f32⟩
  | 12 => ⟨S4x2048x4x64, .f32⟩
  | 13 => ⟨S4x2048x4x64, .f32⟩
  | 14 => ⟨S4x2048x4x64, .f32⟩
  | 15 => ⟨S1x64, .f32⟩
  | 16 => ⟨S4x2048x4x4x64, .f32⟩
  | 17 => ⟨S4x2048x4x4x64, .f32⟩
  | 18 => ⟨S_, .f32⟩
  | 19 => ⟨S64, .f32⟩
  | 20 => ⟨S1x1x1x1x64, .f32⟩
  | 21 => ⟨S4x2048x4x4x64, .f32⟩
  | 22 => ⟨S4x2048x4x4x64, .f32⟩
  | 23 => ⟨S_, .f32⟩
  | 24 => ⟨S64, .f32⟩
  | 25 => ⟨S4x2048x4x4x64, .f32⟩
  | 26 => ⟨S_, .f32⟩
  | 27 => ⟨S4x2048x4x4, .f32⟩
  | 28 => ⟨S4x2048x4x4x1, .f32⟩
  | 29 => ⟨S4x2048x4x4x64, .f32⟩
  | 30 => ⟨S4x2048x4x4x64, .f32⟩
  | 31 => ⟨S4x2048x4x4x1, .f32⟩
  | 32 => ⟨S_, .f32⟩
  | 33 => ⟨S4x2048x4x4x1, .f32⟩
  | 34 => ⟨S4x2048x4x4x1, .f32⟩
  | 35 => ⟨S_, .f32⟩
  | 36 => ⟨S4x2048x4x4, .f32⟩
  | 37 => ⟨S4x2048x4x4x64, .f32⟩
  | 38 => ⟨S4x2048x4x4x64, .f32⟩
  | 39 => ⟨S4x2048x4x4x64, .f32⟩
  | 40 => ⟨S4x2048x4x4x64, .f32⟩
  | 41 => ⟨S4x2048x4x4x64, .f32⟩
  | 42 => ⟨S1x64, .f32⟩
  | 43 => ⟨S8192x256, .f32⟩
  | 44 => ⟨S_, .f32⟩
  | 45 => ⟨S8192x1536, .f32⟩
  | 46 => ⟨S8192x256, .f32⟩
  | 47 => ⟨S_, .f32⟩
  | 48 => ⟨S8192x1536, .f32⟩
  | 49 => ⟨S8192x1536, .f32⟩
  | 50 => ⟨S8192x1024, .f32⟩
  | 51 => ⟨S_, .f32⟩
  | 52 => ⟨S8192x1536, .f32⟩
  | 53 => ⟨S8192x1536, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S8192x1024, .f32⟩
  | 60 => ⟨S8192x1024, .f32⟩
  | 61 => ⟨S8192x1024, .f32⟩
  | 62 => ⟨S_, .f32⟩
  | 63 => ⟨S8192, .f32⟩
  | 64 => ⟨S8192x1, .f32⟩
  | 65 => ⟨S8192x1024, .f32⟩
  | 66 => ⟨S8192x1024, .f32⟩
  | 67 => ⟨S8192x1024, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S4x2048x4x4x64, .f32⟩
  | 81 => ⟨S8192x256, .f32⟩
  | 82 => ⟨S4x2048x4x64, .f32⟩
  | 83 => ⟨S8192x256, .f32⟩
  | 84 => ⟨S4x2048x4x64, .f32⟩
  | 85 => ⟨S64, .f32⟩
  | 86 => ⟨S4x2048x4x4x64, .f32⟩
  | 87 => ⟨S_, .f32⟩
  | 88 => ⟨S4x2048x4x4, .f32⟩
  | 89 => ⟨S4x2048x4x4x1, .f32⟩
  | 90 => ⟨S_, .f32⟩
  | 91 => ⟨S4x2048x4x4x1, .f32⟩
  | 92 => ⟨S4x2048x4x4x1, .f32⟩
  | 93 => ⟨S_, .f32⟩
  | 94 => ⟨S4x2048x4x4x1, .f32⟩
  | 95 => ⟨S4x2048x4x4x1, .f32⟩
  | 96 => ⟨S4x2048x4x4x1, .f32⟩
  | 97 => ⟨S4x2048x4x4x1, .f32⟩
  | 98 => ⟨S_, .f32⟩
  | 99 => ⟨S4x2048x4x4x1, .f32⟩
  | 100 => ⟨S4x2048x4x4x1, .f32⟩
  | 101 => ⟨S4x2048x4x4x64, .f32⟩
  | 102 => ⟨S4x2048x4x4x64, .f32⟩
  | 103 => ⟨S1x1x1x1x64, .f32⟩
  | 104 => ⟨S4x2048x4x4x64, .f32⟩
  | 105 => ⟨S4x2048x4x4x64, .f32⟩
  | 106 => ⟨S8192x1024, .f32⟩
  | 107 => ⟨S64, .f32⟩
  | 108 => ⟨S4x2048x4x64, .f32⟩
  | 109 => ⟨S_, .f32⟩
  | 110 => ⟨S4x2048x4, .f32⟩
  | 111 => ⟨S4x2048x4x1, .f32⟩
  | 112 => ⟨S_, .f32⟩
  | 113 => ⟨S4x2048x4x1, .f32⟩
  | 114 => ⟨S4x2048x4x1, .f32⟩
  | 115 => ⟨S_, .f32⟩
  | 116 => ⟨S4x2048x4x1, .f32⟩
  | 117 => ⟨S4x2048x4x1, .f32⟩
  | 118 => ⟨S4x2048x4x1, .f32⟩
  | 119 => ⟨S4x2048x4x1, .f32⟩
  | 120 => ⟨S_, .f32⟩
  | 121 => ⟨S4x2048x4x1, .f32⟩
  | 122 => ⟨S4x2048x4x1, .f32⟩
  | 123 => ⟨S4x2048x4x64, .f32⟩
  | 124 => ⟨S4x2048x4x64, .f32⟩
  | 125 => ⟨S1x1x1x64, .f32⟩
  | 126 => ⟨S4x2048x4x64, .f32⟩
  | 127 => ⟨S4x2048x4x64, .f32⟩
  | _ => ⟨S8192x1024, .f32⟩

abbrev hbmTy0_2 (i : Nat) : BufTy := match i % 128 with
  | 0 => ⟨S4x128x4x64, .f32⟩
  | 1 => ⟨S_, .f32⟩
  | 2 => ⟨S4x128x4x64, .f32⟩
  | 3 => ⟨S4x2176x4x64, .f32⟩
  | 4 => ⟨S_, .f32⟩
  | 5 => ⟨S4x128x4x64, .f32⟩
  | 6 => ⟨S4x17x128x4x64, .f32⟩
  | 7 => ⟨S4x16x128x4x64, .f32⟩
  | 8 => ⟨S4x16x128x4x64, .f32⟩
  | 9 => ⟨S4x16x256x4x64, .f32⟩
  | 10 => ⟨S4x128x4x64, .f32⟩
  | 11 => ⟨S_, .f32⟩
  | 12 => ⟨S4x128x4x64, .f32⟩
  | 13 => ⟨S4x2176x4x64, .f32⟩
  | 14 => ⟨S_, .f32⟩
  | 15 => ⟨S4x128x4x64, .f32⟩
  | 16 => ⟨S4x17x128x4x64, .f32⟩
  | 17 => ⟨S4x16x128x4x64, .f32⟩
  | 18 => ⟨S4x16x128x4x64, .f32⟩
  | 19 => ⟨S4x16x256x4x64, .f32⟩
  | 20 => ⟨S4x16x128x4x64, .f32⟩
  | 21 => ⟨S4x16x128x4x64, .f32⟩
  | 22 => ⟨S_, .f32⟩
  | 23 => ⟨S4x17x128x4x64, .f32⟩
  | 24 => ⟨S_, .f32⟩
  | 25 => ⟨S4x17x128x4x64, .f32⟩
  | 26 => ⟨S4x17x128x4x64, .f32⟩
  | 27 => ⟨S4x2176x4x64, .f32⟩
  | 28 => ⟨S4x128x4x64, .f32⟩
  | 29 => ⟨S4x2048x4x64, .f32⟩
  | 30 => ⟨S4x16x128x4x64, .f32⟩
  | 31 => ⟨S4x16x128x4x64, .f32⟩
  | 32 => ⟨S_, .f32⟩
  | 33 => ⟨S4x17x128x4x64, .f32⟩
  | 34 => ⟨S_, .f32⟩
  | 35 => ⟨S4x17x128x4x64, .f32⟩
  | 36 => ⟨S4x17x128x4x64, .f32⟩
  | 37 => ⟨S4x2176x4x64, .f32⟩
  | 38 => ⟨S4x128x4x64, .f32⟩
  | 39 => ⟨S4x2048x4x64, .f32⟩
  | 40 => ⟨S4x2048x4x64, .f32⟩
  | 41 => ⟨S4x2048x4x64, .f32⟩
  | 42 => ⟨S4x2048x4x64, .f32⟩
  | 43 => ⟨S_, .f32⟩
  | 44 => ⟨S4x2048x4, .f32⟩
  | 45 => ⟨S4x2048x4x1, .f32⟩
  | 46 => ⟨S4x2048x4x64, .f32⟩
  | 47 => ⟨S4x2048x4x64, .f32⟩
  | 48 => ⟨S4x2048x4x1, .f32⟩
  | 49 => ⟨S_, .f32⟩
  | 50 => ⟨S4x2048x4x1, .f32⟩
  | 51 => ⟨S4x2048x4x1, .f32⟩
  | 52 => ⟨S_, .f32⟩
  | 53 => ⟨S4x2048x4, .f32⟩
  | 54 => ⟨S4x2048x4x64, .f32⟩
  | 55 => ⟨S4x2048x4x64, .f32⟩
  | 56 => ⟨S4x2048x4x64, .f32⟩
  | 57 => ⟨S4x2048x4x64, .f32⟩
  | 58 => ⟨S4x2048x4x64, .f32⟩
  | 59 => ⟨S4x2048x4x4x64, .f32⟩
  | 60 => ⟨S4x2048x4x4x64, .f32⟩
  | 61 => ⟨S4x2048x4x4x64, .f32⟩
  | 62 => ⟨S4x2048x4x4x64, .f32⟩
  | 63 => ⟨S_, .f32⟩
  | 64 => ⟨S4x2048x4x4, .f32⟩
  | 65 => ⟨S4x2048x4x4x1, .f32⟩
  | 66 => ⟨S4x2048x4x4x64, .f32⟩
  | 67 => ⟨S4x2048x4x4x64, .f32⟩
  | 68 => ⟨S4x2048x4x4x1, .f32⟩
  | 69 => ⟨S_, .f32⟩
  | 70 => ⟨S4x2048x4x4x1, .f32⟩
  | 71 => ⟨S4x2048x4x4x1, .f32⟩
  | 72 => ⟨S_, .f32⟩
  | 73 => ⟨S4x2048x4x4, .f32⟩
  | 74 => ⟨S4x2048x4x4x64, .f32⟩
  | 75 => ⟨S4x2048x4x4x64, .f32⟩
  | 76 => ⟨S4x2048x4x4x64, .f32⟩
  | 77 => ⟨S4x2048x4x4x64, .f32⟩
  | 78 => ⟨S4x2048x4x4x64, .f32⟩
  | 79 => ⟨S8192x256, .f32⟩
  | 80 => ⟨S_, .f32⟩
  | 81 => ⟨S8192x1536, .f32⟩
  | 82 => ⟨S8192x256, .f32⟩
  | 83 => ⟨S_, .f32⟩
  | 84 => ⟨S8192x1536, .f32⟩
  | 85 => ⟨S8192x1536, .f32⟩
  | 86 => ⟨S8192x1024, .f32⟩
  | 87 => ⟨S_, .f32⟩
  | 88 => ⟨S8192x1536, .f32⟩
  | 89 => ⟨S8192x1536, .f32⟩
  | 90 => ⟨S_, .f32⟩
  | 91 => ⟨S7x1024, .f32⟩
  | 92 => ⟨S8x1024, .f32⟩
  | 93 => ⟨S8192x1536, .bf16⟩
  | 94 => ⟨S8192x1024, .bf16⟩
  | 95 => ⟨S2x64, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_cst_16 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_20 : Ref sig .tc := ⟨.hbm, 124, rfl⟩
abbrev main_v94 : Ref sig .tc := ⟨.hbm, 125, rfl⟩
abbrev main_v95 : Ref sig .tc := ⟨.hbm, 126, rfl⟩
abbrev main_cst_21 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_22 : Ref sig .tc := ⟨.hbm, 133, rfl⟩
abbrev main_v101 : Ref sig .tc := ⟨.hbm, 134, rfl⟩
abbrev main_v102 : Ref sig .tc := ⟨.hbm, 135, rfl⟩
abbrev main_cst_23 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_24 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_25 : Ref sig .tc := ⟨.hbm, 151, rfl⟩
abbrev main_v116 : Ref sig .tc := ⟨.hbm, 152, rfl⟩
abbrev main_v117 : Ref sig .tc := ⟨.hbm, 153, rfl⟩
abbrev main_cst_26 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_27 : Ref sig .tc := ⟨.hbm, 160, rfl⟩
abbrev main_v123 : Ref sig .tc := ⟨.hbm, 161, rfl⟩
abbrev main_v124 : Ref sig .tc := ⟨.hbm, 162, rfl⟩
abbrev main_cst_28 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_29 : Ref sig .tc := ⟨.hbm, 172, rfl⟩
abbrev main_v133 : Ref sig .tc := ⟨.hbm, 173, rfl⟩
abbrev main_v134 : Ref sig .tc := ⟨.hbm, 174, rfl⟩
abbrev main_cst_30 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_31 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_32 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_33 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_34 : Ref sig .tc := ⟨.hbm, 197, rfl⟩
abbrev main_v153 : Ref sig .tc := ⟨.hbm, 198, rfl⟩
abbrev main_v154 : Ref sig .tc := ⟨.hbm, 199, rfl⟩
abbrev main_cst_35 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_36 : Ref sig .tc := ⟨.hbm, 215, rfl⟩
abbrev main_v169 : Ref sig .tc := ⟨.hbm, 216, rfl⟩
abbrev main_v170 : Ref sig .tc := ⟨.hbm, 217, rfl⟩
abbrev main_cst_37 : Ref sig .tc := ⟨.hbm, 218, rfl⟩
abbrev main_v171 : Ref sig .tc := ⟨.hbm, 219, rfl⟩
abbrev main_v172 : Ref sig .tc := ⟨.hbm, 220, rfl⟩
abbrev main_cst_38 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_39 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_40 : Ref sig .tc := ⟨.hbm, 237, rfl⟩
abbrev main_v187 : Ref sig .tc := ⟨.hbm, 238, rfl⟩
abbrev main_v188 : Ref sig .tc := ⟨.hbm, 239, rfl⟩
abbrev main_cst_41 : Ref sig .tc := ⟨.hbm, 240, rfl⟩
abbrev main_v189 : Ref sig .tc := ⟨.hbm, 241, rfl⟩
abbrev main_v190 : Ref sig .tc := ⟨.hbm, 242, rfl⟩
abbrev main_cst_42 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_cst_43 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_cst_44 : Ref sig .tc := ⟨.hbm, 257, rfl⟩
abbrev main_v203 : Ref sig .tc := ⟨.hbm, 258, rfl⟩
abbrev main_v204 : Ref sig .tc := ⟨.hbm, 259, rfl⟩
abbrev main_cst_45 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_cst_46 : Ref sig .tc := ⟨.hbm, 267, rfl⟩
abbrev main_v211 : Ref sig .tc := ⟨.hbm, 268, rfl⟩
abbrev main_v212 : Ref sig .tc := ⟨.hbm, 269, rfl⟩
abbrev main_cst_47 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_cst_48 : Ref sig .tc := ⟨.hbm, 278, rfl⟩
abbrev main_v220 : Ref sig .tc := ⟨.hbm, 279, rfl⟩
abbrev main_cst_49 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_cst_50 : Ref sig .tc := ⟨.hbm, 288, rfl⟩
abbrev main_v228 : Ref sig .tc := ⟨.hbm, 289, rfl⟩
abbrev main_cst_51 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_cst_52 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_cst_53 : Ref sig .tc := ⟨.hbm, 305, rfl⟩
abbrev main_v242 : Ref sig .tc := ⟨.hbm, 306, rfl⟩
abbrev main_v243 : Ref sig .tc := ⟨.hbm, 307, rfl⟩
abbrev main_cst_54 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_cst_55 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_cst_56 : Ref sig .tc := ⟨.hbm, 325, rfl⟩
abbrev main_v259 : Ref sig .tc := ⟨.hbm, 326, rfl⟩
abbrev main_v260 : Ref sig .tc := ⟨.hbm, 327, rfl⟩
abbrev main_cst_57 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_cst_58 : Ref sig .tc := ⟨.hbm, 336, rfl⟩
abbrev main_v268 : Ref sig .tc := ⟨.hbm, 337, rfl⟩
abbrev main_v269 : Ref sig .tc := ⟨.hbm, 338, rfl⟩
abbrev main_cst_59 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_cst_60 : Ref sig .tc := ⟨.hbm, 343, rfl⟩
abbrev main_v273 : Ref sig .tc := ⟨.hbm, 344, rfl⟩
abbrev main_v274 : Ref sig .tc := ⟨.hbm, 345, rfl⟩
abbrev main_cst_61 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩

abbrev nD : Nat := 1
abbrev τ : Topo := Topo.v7x

variable {F : FTy → Type} [FloatOps F]
-- ==== Proof.Reals.lean ====
/-
  Arrays of reals.  Where every argument is finite, every array the two programs compute holds reals.  `Is X f` says that
  the array `X` holds, at each index, the real that `f` gives at that index's coordinates.  The lemmas below carry the
  statement through the operations, so that what a block computes and what the reference computes can both be read off
  as functions on the reals, of natural-number coordinates.
-/
module

public import Idealize.ShloMosaic.Lib.Pipeline.Value
public import Idealize.ShloMosaic.Lib.ValueIdx
public import Idealize.ShloMosaic.Lib.IdealHost
public import Idealize.ShloMosaic.PureOps.Ideal.Laws
public import Mathlib.Data.EReal.Operations
public import Mathlib.Analysis.SpecialFunctions.Exp

@[expose] public section

noncomputable section

namespace Cert.Reals

open Idealize.ShloMosaic
open scoped BigOperators

/-- The array `X` holds the reals `f`, a function of the coordinates. -/
def Is {S : Shape} (X : S.Idx → EReal) (f : (Fin S.rank → ℕ) → ℝ) : Prop :=
  ∀ i : S.Idx, X i = ((f fun a => (i a).val : ℝ) : EReal)

abbrev fn1 (A : ℕ → ℝ) : (Fin 1 → ℕ) → ℝ := fun v => A (v 0)
abbrev fn2 (A : ℕ → ℕ → ℝ) : (Fin 2 → ℕ) → ℝ := fun v => A (v 0) (v 1)

abbrev Is1 {m : ℕ} (X : (⟨1, ![m]⟩ : Shape).Idx → EReal) (A : ℕ → ℝ) : Prop := Is (S := ⟨1, ![m]⟩) X (fn1 A)
abbrev Is2 {m n : ℕ} (X : (⟨2, ![m, n]⟩ : Shape).Idx → EReal) (A : ℕ → ℕ → ℝ) : Prop := Is (S := ⟨2, ![m, n]⟩) X (fn2 A)

section Pointwise
variable {S : Shape} {φ ψ : FTy} {X Y : S.Idx → EReal} {f g : (Fin S.rank → ℕ) → ℝ}

/-- Another function with the same values inside the shape. -/
theorem Is.to (h : Is X f) (hf : ∀ v : Fin S.rank → ℕ, (∀ a, v a < S.size a) → f v = g v) : Is X g :=
  fun i => (h i).trans (congrArg _ (hf _ fun a => (i a).isLt))

theorem Is.eq (h : Is X f) (h' : Is Y f) : X = Y := funext fun i => (h i).trans (h' i).symm

theorem Is.mul (h : Is X f) (h' : Is Y g) : Is (mulf (F := Ideal) (φ := φ) X Y) fun v => f v * g v := fun i => by
  show X i * Y i = _; rw [h i, h' i, EReal.coe_mul]
theorem Is.add (h : Is X f) (h' : Is Y g) : Is (addf (F := Ideal) (φ := φ) X Y) fun v => f v + g v := fun i => by
  show X i + Y i = _; rw [h i, h' i, EReal.coe_add]
theorem Is.sub (h : Is X f) (h' : Is Y g) : Is (subf (F := Ideal) (φ := φ) X Y) fun v => f v - g v := fun i => by
  show X i - Y i = _; rw [h i, h' i, EReal.coe_sub]

theorem div_coe_coe (a b : ℝ) (h : b ≠ 0) : Ideal.div (a : EReal) (b : EReal) = ((a / b : ℝ) : EReal) := by
  rw [Ideal.div_coe h, ← EReal.coe_mul, mul_one_div]

theorem Is.div (h : Is X f) (h' : Is Y g) (h0 : ∀ v, g v ≠ 0) :
    Is (divf (F := Ideal) (φ := φ) X Y) fun v => f v / g v := fun i => by
  show Ideal.div (X i) (Y i) = _; rw [h i, h' i, div_coe_coe _ _ (h0 _)]
theorem Is.hdiv (h : Is X f) (h' : Is Y g) (h0 : ∀ v, g v ≠ 0) :
    Is (Host.divf (F := Ideal) (φ := φ) X Y) fun v => f v / g v := fun i => by
  show Ideal.div (X i) (Y i) = _; rw [h i, h' i, div_coe_coe _ _ (h0 _)]
theorem Is.exp (h : Is X f) : Is (exp (F := Ideal) (φ := φ) X) fun v => Real.exp (f v) := fun i => by
  show Ideal.exp (X i) = _; rw [h i]; rfl
theorem Is.hexp (h : Is X f) : Is (Host.exp (F := Ideal) (φ := φ) X) fun v => Real.exp (f v) := fun i => by
  show Ideal.exp (X i) = _; rw [h i]; rfl
theorem Is.hneg (h : Is X f) : Is (Host.negf (F := Ideal) (φ := φ) X) fun v => -f v := fun i => by
  show -(X i) = _; rw [h i, EReal.coe_neg]

theorem rsqrt_coe_pos (a : ℝ) (h : 0 < a) : Ideal.rsqrt (a : EReal) = (((Real.sqrt a)⁻¹ : ℝ) : EReal) := by
  rw [Ideal.rsqrt_coe, if_neg (not_lt.2 h.le), if_neg h.ne']
theorem Is.rsqrt (h : Is X f) (h0 : ∀ v, 0 < f v) :
    Is (rsqrt (F := Ideal) (φ := φ) X) fun v => (Real.sqrt (f v))⁻¹ := fun i => by
  show Ideal.rsqrt (X i) = _; rw [h i, rsqrt_coe_pos _ (h0 _)]
theorem Is.hrsqrt (h : Is X f) (h0 : ∀ v, 0 < f v) :
    Is (Host.rsqrt (F := Ideal) (φ := φ) X) fun v => (Real.sqrt (f v))⁻¹ := fun i => by
  show Ideal.rsqrt (X i) = _; rw [h i, rsqrt_coe_pos _ (h0 _)]

theorem Is.trunc (h : Is X f) {hw : ψ.bits < φ.bits} : Is (truncf (F := Ideal) (φ := φ) ψ X hw) f := h
theorem Is.ext (h : Is X f) {hw : φ.bits < ψ.bits} : Is (extf (F := Ideal) (φ := φ) ψ X hw) f := h
theorem Is.hconvert (h : Is X f) : Is (Host.convertf (F := Ideal) (φ := φ) ψ X) f := h

theorem is_const {x : EReal} {r : ℝ} (h : x = r) : Is (S := S) (broadcast S x) fun _ => r := fun _ => h
theorem is_constant {b : BitVec φ.bits} {r : ℝ} (h : Ideal.ofBits φ b = r) :
    Is (S := S) (constant (F := Ideal) S φ b) fun _ => r := fun _ => h

theorem Is.shapeCast_self (h : Is X f) {hc : S.ShapeCasts S} : Is (shapeCast S X hc) f := by
  rw [Idealize.ShloMosaic.shapeCast_self]; exact h
end Pointwise

/-! ## The constants -/

theorem bits_zero : Ideal.ofBits .f32 0x00000000#32 = ((0 : ℝ) : EReal) := by simp
theorem bits_one : Ideal.ofBits .f32 0x3F800000#32 = ((1 : ℝ) : EReal) := by simp
theorem bits_1024 : Ideal.ofBits .f32 0x44800000#32 = ((1024 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul, -EReal.coe_neg]; norm_num

/-- The norm's epsilon: the real its f32 literal denotes. -/
def eps : ℝ := 8796093 * (2 : ℝ) ^ (-43 : ℤ)
theorem eps_pos : 0 < eps := by unfold eps; positivity
theorem bits_eps : Ideal.ofBits .f32 0x358637BD#32 = (eps : EReal) := by
  unfold eps
  simp [Ideal.ofBits, Ideal.ieee, -EReal.coe_mul]

/-! ## Sums of reals -/

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-! ## Reading at the coordinates -/

section Two
variable {m n k : ℕ} {φ ψ : FTy}

/-- A box of an array, loaded. -/
theorem Is2.ld {X : (⟨2, ![m, n]⟩ : Shape).Idx → Elt Ideal .f32} {A : ℕ → ℕ → ℝ} (h : Is2 X A)
    {r c p q : ℕ} {inb : ∀ a, (![r, c] : Fin 2 → ℕ) a + (![p, q] : Fin 2 → ℕ) a ≤ (⟨2, ![m, n]⟩ : Shape).size a} :
    Is2 (m := p) (n := q) (View.ld (Val := Elt Ideal) (e' := .f32) X (Rect.unit (s := ⟨2, ![m, n]⟩) ![r, c] ![p, q] inb))
      fun i j => A (r + i) (c + j) := fun i => by
  refine (h _).trans ?_
  show ((A (r + 1 * (i 0).val) (c + 1 * (i 1).val) : ℝ) : EReal) = _
  rw [one_mul, one_mul]

theorem Is2.ldb {X : (⟨2, ![m, n]⟩ : Shape).Idx → Elt Ideal .bf16} {A : ℕ → ℕ → ℝ} (h : Is2 X A)
    {r c p q : ℕ} {inb : ∀ a, (![r, c] : Fin 2 → ℕ) a + (![p, q] : Fin 2 → ℕ) a ≤ (⟨2, ![m, n]⟩ : Shape).size a} :
    Is2 (m := p) (n := q) (View.ld (Val := Elt Ideal) (e' := .bf16) X (Rect.unit (s := ⟨2, ![m, n]⟩) ![r, c] ![p, q] inb))
      fun i j => A (r + i) (c + j) := fun i => by
  refine (h _).trans ?_
  show ((A (r + 1 * (i 0).val) (c + 1 * (i 1).val) : ℝ) : EReal) = _
  rw [one_mul, one_mul]

theorem Is2.slice {X : (⟨2, ![m, n]⟩ : Shape).Idx → EReal} {A : ℕ → ℕ → ℝ} (h : Is2 X A)
    {p q : ℕ} (r c : ℕ) {hs : (⟨2, ![m, n]⟩ : Shape).Slices ![r, c] ⟨2, ![p, q]⟩} :
    Is2 (m := p) (n := q) (extractStridedSlice ⟨2, ![p, q]⟩ ![r, c] X hs) fun i j => A (r + i) (c + j) := fun i =>
  h _

/-- The sum along the rows. -/
theorem Is2.sumRow {X : (⟨2, ![m, n]⟩ : Shape).Idx → EReal} {A : ℕ → ℕ → ℝ} (h : Is2 X A)
    {acc : BitVec φ.bits} {hr : (⟨2, ![m, n]⟩ : Shape).Reduces [1] ⟨1, ![m]⟩} {hφ : FKind.Formats φ} {hacc : acc = FKind.add.neutral φ hφ} :
    Is1 (m := m) (multiReduction (F := Ideal) (φ := φ) .add [1] ⟨1, ![m]⟩ X acc hr hφ hacc) fun i => ∑ j ∈ Finset.range n, A i j := fun i => by
  rw [Ideal.multiReduction_add_single]
  show _ = ((∑ j ∈ Finset.range n, A (i 0).val j : ℝ) : EReal)
  rw [Finset.sum_range, ← coe_sum]
  refine Finset.sum_congr rfl fun k _ => (h _).trans ?_
  exact congrArg _ (congrArg₂ A rfl rfl)

/-- The sum down the columns. -/
theorem Is2.sumCol {X : (⟨2, ![m, n]⟩ : Shape).Idx → EReal} {A : ℕ → ℕ → ℝ} (h : Is2 X A)
    {acc : BitVec φ.bits} {hr : (⟨2, ![m, n]⟩ : Shape).Reduces [0] ⟨1, ![n]⟩} {hφ : FKind.Formats φ} {hacc : acc = FKind.add.neutral φ hφ} :
    Is1 (m := n) (multiReduction (F := Ideal) (φ := φ) .add [0] ⟨1, ![n]⟩ X acc hr hφ hacc) fun j => ∑ i ∈ Finset.range m, A i j := fun i => by
  rw [Ideal.multiReduction_add_single]
  show _ = ((∑ j ∈ Finset.range m, A j (i 0).val : ℝ) : EReal)
  rw [Finset.sum_range, ← coe_sum]
  refine Finset.sum_congr rfl fun k _ => (h _).trans ?_
  exact congrArg _ (congrArg₂ A rfl rfl)

/-- A vector as a column. -/
theorem Is1.col {X : (⟨1, ![m]⟩ : Shape).Idx → EReal} {A : ℕ → ℝ} (h : Is1 X A) {hc : (⟨1, ![m]⟩ : Shape).ShapeCasts ⟨2, ![m, 1]⟩} :
    Is2 (m := m) (n := 1) (shapeCast ⟨2, ![m, 1]⟩ X hc) fun i _ => A i := fun i => by
  rw [shapeCast_apply X hc i (fun a => match a with | ⟨0, _⟩ => ⟨(i 0).val, (i 0).isLt⟩) (by
    rw [Shape.rowMajor_val_one, Shape.rowMajor_val_two]
    have h1 : (i 1).val < 1 := (i 1).isLt
    show (i 0).val = (i 0).val * 1 + (i 1).val
    omega)]
  exact h _

/-- A vector as a row. -/
theorem Is1.row {X : (⟨1, ![n]⟩ : Shape).Idx → EReal} {A : ℕ → ℝ} (h : Is1 X A) {hc : (⟨1, ![n]⟩ : Shape).ShapeCasts ⟨2, ![1, n]⟩} :
    Is2 (m := 1) (n := n) (shapeCast ⟨2, ![1, n]⟩ X hc) fun _ j => A j := fun i => by
  rw [shapeCast_apply X hc i (fun a => match a with | ⟨0, _⟩ => ⟨(i 1).val, (i 1).isLt⟩) (by
    rw [Shape.rowMajor_val_one, Shape.rowMajor_val_two]
    have h1 : (i 0).val < 1 := (i 0).isLt
    show (i 1).val = (i 0).val * n + (i 1).val
    have h0 : (i 0).val = 0 := by omega
    rw [h0]; omega)]
  exact h _

/-- A column repeated. -/
theorem Is2.bcol {X : (⟨2, ![m, 1]⟩ : Shape).Idx → EReal} {A : ℕ → ℕ → ℝ} (h : Is2 X A) {hb : (⟨2, ![m, 1]⟩ : Shape).Broadcasts ⟨2, ![m, n]⟩} :
    Is2 (m := m) (n := n) (broadcastTo ⟨2, ![m, n]⟩ X hb) fun i _ => A i 0 := fun i => by
  have hm : 0 < m := lt_of_le_of_lt (Nat.zero_le _) (i 0).isLt
  rw [broadcastTo_apply X hb i (fun a => match a with | ⟨0, _⟩ => ⟨(i 0).val, (i 0).isLt⟩ | ⟨1, _⟩ => ⟨0, Nat.one_pos⟩) (fun a => by
    match a with
    | ⟨0, _⟩ =>
      show (i 0).val = if m = 1 then 0 else (i 0).val
      split
      · next h1 => have : (i 0).val < m := (i 0).isLt; omega
      · rfl
    | ⟨1, _⟩ => rfl)]
  exact h _

/-- A row repeated. -/
theorem Is2.brow {X : (⟨2, ![1, n]⟩ : Shape).Idx → EReal} {A : ℕ → ℕ → ℝ} (h : Is2 X A) {hb : (⟨2, ![1, n]⟩ : Shape).Broadcasts ⟨2, ![m, n]⟩} :
    Is2 (m := m) (n := n) (broadcastTo ⟨2, ![m, n]⟩ X hb) fun _ j => A 0 j := fun i => by
  rw [broadcastTo_apply X hb i (fun a => match a with | ⟨0, _⟩ => ⟨0, Nat.one_pos⟩ | ⟨1, _⟩ => ⟨(i 1).val, (i 1).isLt⟩) (fun a => by
    match a with
    | ⟨0, _⟩ => rfl
    | ⟨1, _⟩ =>
      show (i 1).val = if n = 1 then 0 else (i 1).val
      split
      · next h1 => have : (i 1).val < n := (i 1).isLt; omega
      · rfl)]
  exact h _

end Two

/-! ## Products of matrices -/

section Mat
variable {m n k : ℕ} {φ₁ φ₂ : FTy}

/-- Rows by columns, from the operand indices the product names. -/
theorem dot_rc {d : DotDims ⟨2, ![m, k]⟩ ⟨2, ![k, n]⟩ ⟨2, ![m, n]⟩}
    (hd : d.lhsContracting = [1] ∧ d.rhsContracting = [0] ∧ d.lhsNonContracting = [0] ∧ d.rhsNonContracting = [1] ∧ d.lhsBatch = [] ∧ d.rhsBatch = [])
    {L : (⟨2, ![m, k]⟩ : Shape).Idx → EReal} {R : (⟨2, ![k, n]⟩ : Shape).Idx → EReal} {A B : ℕ → ℕ → ℝ} (hL : Is2 L A) (hR : Is2 R B)
    (j : (⟨2, ![m, n]⟩ : Shape).Idx) :
    ∑ q : d.contr.Idx, L (d.lhsIdx j q) * R (d.rhsIdx j q) = ((∑ q ∈ Finset.range k, A (j 0).val q * B q (j 1).val : ℝ) : EReal) := by
  obtain ⟨lc, rc, ln, rn, lb, rb, wf⟩ := d
  obtain ⟨h1, h2, h3, h4, h5, h6⟩ := hd
  dsimp only at h1 h2 h3 h4 h5 h6
  subst h1 h2 h3 h4 h5 h6
  set d : DotDims ⟨2, ![m, k]⟩ ⟨2, ![k, n]⟩ ⟨2, ![m, n]⟩ := ⟨[1], [0], [0], [1], [], [], wf⟩ with hd
  rw [← Equiv.sum_comp (ValueIdx.contrEquiv1 d k rfl rfl).symm, Finset.sum_range, ← coe_sum]
  refine Finset.sum_congr rfl fun q _ => ?_
  have hq := ValueIdx.contrEquiv1_symm_val d k rfl rfl q
  rw [hL, hR, ← EReal.coe_mul]
  have l0 : (d.lhsIdx j ((ValueIdx.contrEquiv1 d k rfl rfl).symm q) 0).val = (j 0).val := by
    unfold DotDims.lhsIdx
    rw [dif_neg (show ¬(0 : Fin 2) ∈ ([] : List (Fin 2)) by decide), dif_pos (show (0 : Fin 2) ∈ ([0] : List (Fin 2)) by decide)]
    rfl
  have l1 : (d.lhsIdx j ((ValueIdx.contrEquiv1 d k rfl rfl).symm q) 1).val = q.val :=
    (d.lhsIdx_val_of_single rfl j _).trans hq
  have r0 : (d.rhsIdx j ((ValueIdx.contrEquiv1 d k rfl rfl).symm q) 0).val = q.val :=
    (d.rhsIdx_val_of_single rfl j _).trans hq
  have r1 : (d.rhsIdx j ((ValueIdx.contrEquiv1 d k rfl rfl).symm q) 1).val = (j 1).val := by
    unfold DotDims.rhsIdx
    rw [dif_neg (show ¬(1 : Fin 2) ∈ ([] : List (Fin 2)) by decide), dif_pos (show (1 : Fin 2) ∈ ([1] : List (Fin 2)) by decide)]
    rfl
  exact congrArg _ (congrArg₂ (· * ·) (congrArg₂ A l0 l1) (congrArg₂ B r0 r1))

/-- Rows by rows. -/
theorem dot_rr {d : DotDims ⟨2, ![m, k]⟩ ⟨2, ![n, k]⟩ ⟨2, ![m, n]⟩}
    (hd : d.lhsContracting = [1] ∧ d.rhsContracting = [1] ∧ d.lhsNonContracting = [0] ∧ d.rhsNonContracting = [0] ∧ d.lhsBatch = [] ∧ d.rhsBatch = [])
    {L : (⟨2, ![m, k]⟩ : Shape).Idx → EReal} {R : (⟨2, ![n, k]⟩ : Shape).Idx → EReal} {A B : ℕ → ℕ → ℝ} (hL : Is2 L A) (hR : Is2 R B)
    (j : (⟨2, ![m, n]⟩ : Shape).Idx) :
    ∑ q : d.contr.Idx, L (d.lhsIdx j q) * R (d.rhsIdx j q) = ((∑ q ∈ Finset.range k, A (j 0).val q * B (j 1).val q : ℝ) : EReal) := by
  obtain ⟨lc, rc, ln, rn, lb, rb, wf⟩ := d
  obtain ⟨h1, h2, h3, h4, h5, h6⟩ := hd
  dsimp only at h1 h2 h3 h4 h5 h6
  subst h1 h2 h3 h4 h5 h6
  set d : DotDims ⟨2, ![m, k]⟩ ⟨2, ![n, k]⟩ ⟨2, ![m, n]⟩ := ⟨[1], [1], [0], [0], [], [], wf⟩ with hd
  rw [← Equiv.sum_comp (ValueIdx.contrEquiv1 d k rfl rfl).symm, Finset.sum_range, ← coe_sum]
  refine Finset.sum_congr rfl fun q _ => ?_
  have hq := ValueIdx.contrEquiv1_symm_val d k rfl rfl q
  rw [hL, hR, ← EReal.coe_mul]
  have l0 : (d.lhsIdx j ((ValueIdx.contrEquiv1 d k rfl rfl).symm q) 0).val = (j 0).val := by
    unfold DotDims.lhsIdx
    rw [dif_neg (show ¬(0 : Fin 2) ∈ ([] : List (Fin 2)) by decide), dif_pos (show (0 : Fin 2) ∈ ([0] : List (Fin 2)) by decide)]
    rfl
  have l1 : (d.lhsIdx j ((ValueIdx.contrEquiv1 d k rfl rfl).symm q) 1).val = q.val :=
    (d.lhsIdx_val_of_single rfl j _).trans hq
  have r1 : (d.rhsIdx j ((ValueIdx.contrEquiv1 d k rfl rfl).symm q) 1).val = q.val :=
    (d.rhsIdx_val_of_single rfl j _).trans hq
  have r0 : (d.rhsIdx j ((ValueIdx.contrEquiv1 d k rfl rfl).symm q) 0).val = (j 1).val := by
    unfold DotDims.rhsIdx
    rw [dif_neg (show ¬(0 : Fin 2) ∈ ([] : List (Fin 2)) by decide), dif_pos (show (0 : Fin 2) ∈ ([0] : List (Fin 2)) by decide)]
    rfl
  exact congrArg _ (congrArg₂ (· * ·) (congrArg₂ A l0 l1) (congrArg₂ B r0 r1))

theorem Is2.dot {d : DotDims ⟨2, ![m, k]⟩ ⟨2, ![k, n]⟩ ⟨2, ![m, n]⟩} {L : (⟨2, ![m, k]⟩ : Shape).Idx → EReal} {R : (⟨2, ![k, n]⟩ : Shape).Idx → EReal}
    {A B : ℕ → ℕ → ℝ} (hL : Is2 L A) (hR : Is2 R B)
    (hd : d.lhsContracting = [1] ∧ d.rhsContracting = [0] ∧ d.lhsNonContracting = [0] ∧ d.rhsNonContracting = [1] ∧ d.lhsBatch = [] ∧ d.rhsBatch = []
      := by exact ⟨rfl, rfl, rfl, rfl, rfl, rfl⟩) :
    Is2 (m := m) (n := n) (matmul (F := Ideal) (φ₁ := φ₁) (φ₂ := φ₂) d none L R (constant ⟨2, ![m, n]⟩ .f32 0x00000000#32))
      fun i j => ∑ q ∈ Finset.range k, A i q * B q j := fun j =>
  (Ideal.matmul_constant_zero_apply (φ₁ := φ₁) (φ₂ := φ₂) d none L R j).trans (dot_rc hd hL hR j)

theorem Is2.dotT {d : DotDims ⟨2, ![m, k]⟩ ⟨2, ![n, k]⟩ ⟨2, ![m, n]⟩} {L : (⟨2, ![m, k]⟩ : Shape).Idx → EReal} {R : (⟨2, ![n, k]⟩ : Shape).Idx → EReal}
    {A B : ℕ → ℕ → ℝ} (hL : Is2 L A) (hR : Is2 R B)
    (hd : d.lhsContracting = [1] ∧ d.rhsContracting = [1] ∧ d.lhsNonContracting = [0] ∧ d.rhsNonContracting = [0] ∧ d.lhsBatch = [] ∧ d.rhsBatch = []
      := by exact ⟨rfl, rfl, rfl, rfl, rfl, rfl⟩) :
    Is2 (m := m) (n := n) (matmul (F := Ideal) (φ₁ := φ₁) (φ₂ := φ₂) d none L R (constant ⟨2, ![m, n]⟩ .f32 0x00000000#32))
      fun i j => ∑ q ∈ Finset.range k, A i q * B j q := fun j =>
  (Ideal.matmul_constant_zero_apply (φ₁ := φ₁) (φ₂ := φ₂) d none L R j).trans (dot_rr hd hL hR j)

theorem Is2.hdot {d : DotDims ⟨2, ![m, k]⟩ ⟨2, ![k, n]⟩ ⟨2, ![m, n]⟩} {L : (⟨2, ![m, k]⟩ : Shape).Idx → EReal} {R : (⟨2, ![k, n]⟩ : Shape).Idx → EReal}
    {A B : ℕ → ℕ → ℝ} (hL : Is2 L A) (hR : Is2 R B)
    (hd : d.lhsContracting = [1] ∧ d.rhsContracting = [0] ∧ d.lhsNonContracting = [0] ∧ d.rhsNonContracting = [1] ∧ d.lhsBatch = [] ∧ d.rhsBatch = []
      := by exact ⟨rfl, rfl, rfl, rfl, rfl, rfl⟩) :
    Is2 (m := m) (n := n) (Host.dotGeneral (F := Ideal) (φ₁ := φ₁) (φ₂ := φ₂) d none L R)
      fun i j => ∑ q ∈ Finset.range k, A i q * B q j := fun j =>
  (Ideal.dotGeneral_apply (φ₁ := φ₁) (φ₂ := φ₂) d none _ L R j).trans (dot_rc hd hL hR j)

theorem Is2.hdotT {d : DotDims ⟨2, ![m, k]⟩ ⟨2, ![n, k]⟩ ⟨2, ![m, n]⟩} {L : (⟨2, ![m, k]⟩ : Shape).Idx → EReal} {R : (⟨2, ![n, k]⟩ : Shape).Idx → EReal}
    {A B : ℕ → ℕ → ℝ} (hL : Is2 L A) (hR : Is2 R B)
    (hd : d.lhsContracting = [1] ∧ d.rhsContracting = [1] ∧ d.lhsNonContracting = [0] ∧ d.rhsNonContracting = [0] ∧ d.lhsBatch = [] ∧ d.rhsBatch = []
      := by exact ⟨rfl, rfl, rfl, rfl, rfl, rfl⟩) :
    Is2 (m := m) (n := n) (Host.dotGeneral (F := Ideal) (φ₁ := φ₁) (φ₂ := φ₂) d none L R)
      fun i j => ∑ q ∈ Finset.range k, A i q * B j q := fun j =>
  (Ideal.dotGeneral_apply (φ₁ := φ₁) (φ₂ := φ₂) d none _ L R j).trans (dot_rr hd hL hR j)
end Mat

/-! ## The host's layout operations and sums -/

section HostTwo
variable {m n : ℕ} {φ ψ : FTy}

/-- A scalar spread over a shape. -/
theorem is_bscalar {T : Shape} {x : (⟨0, ![]⟩ : Shape).Idx → EReal} {r : ℝ} (h : ∀ i, x i = (r : EReal))
    {dims : Fin 0 → Fin T.rank} {hb : (⟨0, ![]⟩ : Shape).BroadcastsInDim T dims} : Is (S := T) (broadcastInDim T dims hb x) fun _ => r :=
  fun _ => h _

theorem Is1.hcol {X : (⟨1, ![m]⟩ : Shape).Idx → EReal} {A : ℕ → ℝ} (h : Is1 X A)
    {hb : (⟨1, ![m]⟩ : Shape).BroadcastsInDim ⟨2, ![m, 1]⟩ ![0]} :
    Is2 (m := m) (n := 1) (broadcastInDim ⟨2, ![m, 1]⟩ ![0] hb X) fun i _ => A i := fun i => by
  rw [broadcastInDim_apply ![0] hb X i (fun a => match a with | ⟨0, _⟩ => ⟨(i 0).val, (i 0).isLt⟩) (fun a => by
    match a with
    | ⟨0, _⟩ =>
      show (i 0).val = if m = 1 then 0 else (i 0).val
      split
      · next h1 => have : (i 0).val < m := (i 0).isLt; omega
      · rfl)]
  exact h _

theorem Is1.hcols {X : (⟨1, ![m]⟩ : Shape).Idx → EReal} {A : ℕ → ℝ} (h : Is1 X A)
    {hb : (⟨1, ![m]⟩ : Shape).BroadcastsInDim ⟨2, ![m, n]⟩ ![0]} :
    Is2 (m := m) (n := n) (broadcastInDim ⟨2, ![m, n]⟩ ![0] hb X) fun i _ => A i := fun i => by
  rw [broadcastInDim_apply ![0] hb X i (fun a => match a with | ⟨0, _⟩ => ⟨(i 0).val, (i 0).isLt⟩) (fun a => by
    match a with
    | ⟨0, _⟩ =>
      show (i 0).val = if m = 1 then 0 else (i 0).val
      split
      · next h1 => have : (i 0).val < m := (i 0).isLt; omega
      · rfl)]
  exact h _

theorem Is2.hbcol {X : (⟨2, ![m, 1]⟩ : Shape).Idx → EReal} {A : ℕ → ℕ → ℝ} (h : Is2 X A)
    {hb : (⟨2, ![m, 1]⟩ : Shape).BroadcastsInDim ⟨2, ![m, n]⟩ ![0, 1]} :
    Is2 (m := m) (n := n) (broadcastInDim ⟨2, ![m, n]⟩ ![0, 1] hb X) fun i _ => A i 0 := fun i => by
  rw [broadcastInDim_apply ![0, 1] hb X i (fun a => match a with | ⟨0, _⟩ => ⟨(i 0).val, (i 0).isLt⟩ | ⟨1, _⟩ => ⟨0, Nat.one_pos⟩) (fun a => by
    match a with
    | ⟨0, _⟩ =>
      show (i 0).val = if m = 1 then 0 else (i 0).val
      split
      · next h1 => have : (i 0).val < m := (i 0).isLt; omega
      · rfl
    | ⟨1, _⟩ => rfl)]
  exact h _

theorem Is2.hbrow {X : (⟨2, ![1, n]⟩ : Shape).Idx → EReal} {A : ℕ → ℕ → ℝ} (h : Is2 X A)
    {hb : (⟨2, ![1, n]⟩ : Shape).BroadcastsInDim ⟨2, ![m, n]⟩ ![0, 1]} :
    Is2 (m := m) (n := n) (broadcastInDim ⟨2, ![m, n]⟩ ![0, 1] hb X) fun _ j => A 0 j := fun i => by
  rw [broadcastInDim_apply ![0, 1] hb X i (fun a => match a with | ⟨0, _⟩ => ⟨0, Nat.one_pos⟩ | ⟨1, _⟩ => ⟨(i 1).val, (i 1).isLt⟩) (fun a => by
    match a with
    | ⟨0, _⟩ => rfl
    | ⟨1, _⟩ =>
      show (i 1).val = if n = 1 then 0 else (i 1).val
      split
      · next h1 => have : (i 1).val < n := (i 1).isLt; omega
      · rfl)]
  exact h _

theorem Is2.hsumRow {X : (⟨2, ![m, n]⟩ : Shape).Idx → EReal} {A : ℕ → ℕ → ℝ} (h : Is2 X A) {u : Shape} {init : u.Idx → EReal}
    {h' : (⟨2, ![m, n]⟩ : Shape).ReducesTo [1] ⟨1, ![m]⟩} {hu : 0 < u.numel} (h0 : ∀ i, init i = ((0 : ℝ) : EReal))
    (hr : (⟨2, ![m, n]⟩ : Shape).Reduces [1] ⟨1, ![m]⟩ := by decide) :
    Is1 (m := m) (Host.reduceAdd (F := Ideal) (φ := φ) (axes := [1]) (t := ⟨1, ![m]⟩) X init h' hu)
      fun i => ∑ j ∈ Finset.range n, A i j := fun i => by
  refine (Ideal.hostReduceAdd_single h' hr X (init (Shape.Idx.first hu)) i).trans ?_
  rw [h0, EReal.coe_zero, zero_add]
  show _ = ((∑ j ∈ Finset.range n, A (i 0).val j : ℝ) : EReal)
  rw [Finset.sum_range, ← coe_sum]
  exact Finset.sum_congr rfl fun k _ => (h _).trans (congrArg _ (congrArg₂ A rfl rfl))

theorem Is2.hsumCol {X : (⟨2, ![m, n]⟩ : Shape).Idx → EReal} {A : ℕ → ℕ → ℝ} (h : Is2 X A) {u : Shape} {init : u.Idx → EReal}
    {h' : (⟨2, ![m, n]⟩ : Shape).ReducesTo [0] ⟨1, ![n]⟩} {hu : 0 < u.numel} (h0 : ∀ i, init i = ((0 : ℝ) : EReal))
    (hr : (⟨2, ![m, n]⟩ : Shape).Reduces [0] ⟨1, ![n]⟩ := by decide) :
    Is1 (m := n) (Host.reduceAdd (F := Ideal) (φ := φ) (axes := [0]) (t := ⟨1, ![n]⟩) X init h' hu)
      fun j => ∑ i ∈ Finset.range m, A i j := fun i => by
  refine (Ideal.hostReduceAdd_single h' hr X (init (Shape.Idx.first hu)) i).trans ?_
  rw [h0, EReal.coe_zero, zero_add]
  show _ = ((∑ j ∈ Finset.range m, A j (i 0).val : ℝ) : EReal)
  rw [Finset.sum_range, ← coe_sum]
  exact Finset.sum_congr rfl fun k _ => (h _).trans (congrArg _ (congrArg₂ A rfl rfl))

/-- Two arrays side by side. -/
theorem Is2.beside {p q : ℕ} {X : (⟨2, ![m, p]⟩ : Shape).Idx → EReal} {Y : (⟨2, ![m, q]⟩ : Shape).Idx → EReal} {A B : ℕ → ℕ → ℝ}
    (h : Is2 X A) (h' : Is2 Y B) {hc : Shape.Concatenates [⟨2, ![m, p]⟩, ⟨2, ![m, q]⟩] ⟨2, ![m, n]⟩ 1} (hn : p + q = n) :
    Is2 (m := m) (n := n) (concatenate ⟨2, ![m, n]⟩ 1 [⟨⟨2, ![m, p]⟩, X⟩, ⟨⟨2, ![m, q]⟩, Y⟩] hc)
      fun i j => if j < p then A i j else B i (j - p) := fun i => by
  have hi1 : (i 1).val < n := (i 1).isLt
  show _ = ((if (i 1).val < p then A (i 0).val (i 1).val else B (i 0).val ((i 1).val - p) : ℝ) : EReal)
  by_cases hp : (i 1).val < p
  · rw [if_pos hp, concatenate_pair_apply_left 1 X Y hc i rfl
      (fun a => match a with | ⟨0, _⟩ => ⟨(i 0).val, (i 0).isLt⟩ | ⟨1, _⟩ => ⟨(i 1).val, hp⟩)
      (fun b => match b with | ⟨0, _⟩ => rfl | ⟨1, _⟩ => rfl)]
    exact h _
  · rw [if_neg hp, concatenate_pair_apply_right 1 X Y hc i rfl rfl
      (fun a => match a with | ⟨0, _⟩ => ⟨(i 0).val, (i 0).isLt⟩ | ⟨1, _⟩ => ⟨(i 1).val - p, show (i 1).val - p < q by omega⟩)
      (fun b hb => match b with | ⟨0, _⟩ => rfl | ⟨1, _⟩ => absurd rfl hb)
      (show (i 1).val - p + p = (i 1).val by omega)]
    exact h' _

/-- Two arrays one above the other. -/
theorem Is2.above {p q : ℕ} {X : (⟨2, ![p, n]⟩ : Shape).Idx → EReal} {Y : (⟨2, ![q, n]⟩ : Shape).Idx → EReal} {A B : ℕ → ℕ → ℝ}
    (h : Is2 X A) (h' : Is2 Y B) {hc : Shape.Concatenates [⟨2, ![p, n]⟩, ⟨2, ![q, n]⟩] ⟨2, ![m, n]⟩ 0} (hn : p + q = m) :
    Is2 (m := m) (n := n) (concatenate ⟨2, ![m, n]⟩ 0 [⟨⟨2, ![p, n]⟩, X⟩, ⟨⟨2, ![q, n]⟩, Y⟩] hc)
      fun i j => if i < p then A i j else B (i - p) j := fun i => by
  have hi1 : (i 0).val < m := (i 0).isLt
  show _ = ((if (i 0).val < p then A (i 0).val (i 1).val else B ((i 0).val - p) (i 1).val : ℝ) : EReal)
  by_cases hp : (i 0).val < p
  · rw [if_pos hp, concatenate_pair_apply_left 0 X Y hc i rfl
      (fun a => match a with | ⟨0, _⟩ => ⟨(i 0).val, hp⟩ | ⟨1, _⟩ => ⟨(i 1).val, (i 1).isLt⟩)
      (fun b => match b with | ⟨0, _⟩ => rfl | ⟨1, _⟩ => rfl)]
    exact h _
  · rw [if_neg hp, concatenate_pair_apply_right 0 X Y hc i rfl rfl
      (fun a => match a with | ⟨0, _⟩ => ⟨(i 0).val - p, show (i 0).val - p < q by omega⟩ | ⟨1, _⟩ => ⟨(i 1).val, (i 1).isLt⟩)
      (fun b hb => match b with | ⟨0, _⟩ => absurd rfl hb | ⟨1, _⟩ => rfl)
      (show (i 0).val - p + p = (i 0).val by omega)]
    exact h' _
end HostTwo

end Cert.Reals

end
-- ==== Proof.Math.lean ====
/-
  The feed-forward layer on the reals: RMSNorm, the gated product, and their gradients, as functions of
  natural-number coordinates.
-/
module

public import Mathlib.Analysis.SpecialFunctions.Exp
public import Idealize.ShloMosaic.PureOps.Ideal
public import Mathlib.Tactic.Ring
public import Mathlib.Tactic.FieldSimp
public import Mathlib.Tactic.Positivity

@[expose] public section

noncomputable section

namespace Cert.Math

open scoped BigOperators

/-! ## RMSNorm over 1024 columns -/

/-- A row's mean square plus the epsilon. -/
def msq (e : ℝ) (x : ℕ → ℕ → ℝ) (i : ℕ) : ℝ := (∑ k ∈ Finset.range 1024, x i k * x i k) / 1024 + e

theorem msq_pos {e : ℝ} (he : 0 < e) (x : ℕ → ℕ → ℝ) (i : ℕ) : 0 < msq e x i :=
  add_pos_of_nonneg_of_pos (div_nonneg (Finset.sum_nonneg fun _ _ => mul_self_nonneg _) (by norm_num)) he

/-- The row's factor. -/
def rs (e : ℝ) (x : ℕ → ℕ → ℝ) (i : ℕ) : ℝ := (Real.sqrt (msq e x i))⁻¹

/-- The row normalised. -/
def xn (e : ℝ) (x : ℕ → ℕ → ℝ) (i k : ℕ) : ℝ := x i k * rs e x i

/-- The row normalised and scaled by the gain `g`. -/
def nrm (e : ℝ) (x : ℕ → ℕ → ℝ) (g : ℕ → ℝ) (i k : ℕ) : ℝ := xn e x i k * g k

/-- The gradient of the normalised row's input: `d` is the gradient of `xn`. -/
def nrmBack (e : ℝ) (x d : ℕ → ℕ → ℝ) (i k : ℕ) : ℝ :=
  rs e x i * (d i k - xn e x i k * ((∑ j ∈ Finset.range 1024, d i j * xn e x i j) / 1024))

/-- The chain rule's own form of it: through the factor and through the mean square, which is a product of two equal factors. -/
theorem nrmBack_eq {e : ℝ} (he : 0 < e) (x d : ℕ → ℕ → ℝ) (c : ℝ) (i k : ℕ) (q : ℝ)
    (hq : q = (∑ j ∈ Finset.range 1024, x i j * d i j) * (-(1 / 2) * (rs e x i / msq e x i)) / 1024) :
    c + d i k * rs e x i + x i k * q + q * x i k = c + nrmBack e x d i k := by
  have hv := msq_pos he x i
  have hr : rs e x i / msq e x i = rs e x i * (rs e x i * rs e x i) := by
    have h2 : rs e x i * rs e x i = (msq e x i)⁻¹ := by
      unfold rs
      rw [← mul_inv, Real.mul_self_sqrt hv.le]
    rw [h2, div_eq_mul_inv]
  have hs : ∑ j ∈ Finset.range 1024, d i j * xn e x i j = rs e x i * ∑ j ∈ Finset.range 1024, x i j * d i j := by
    rw [Finset.mul_sum]
    refine Finset.sum_congr rfl fun j _ => ?_
    unfold xn; ring
  unfold nrmBack
  rw [hs, hq, hr]
  unfold xn
  ring

/-! ## The gated product -/

def sgm (t : ℝ) : ℝ := 1 / (1 + Real.exp (-t))

theorem sgm_den (t : ℝ) : 1 + Real.exp t ≠ 0 := (add_pos one_pos (Real.exp_pos _)).ne'

/-- The product of rows by columns. -/
def mm (n : ℕ) (A B : ℕ → ℕ → ℝ) (i j : ℕ) : ℝ := ∑ k ∈ Finset.range n, A i k * B k j

/-- The product of rows by rows. -/
def mmT (n : ℕ) (A B : ℕ → ℕ → ℝ) (i j : ℕ) : ℝ := ∑ k ∈ Finset.range n, A i k * B j k

section Ffn
variable (e : ℝ) (x : ℕ → ℕ → ℝ) (g : ℕ → ℝ) (wgu wd ct : ℕ → ℕ → ℝ)

/-- Gate and up projection side by side, each 2816 wide. -/
def gu : ℕ → ℕ → ℝ := mm 1024 (nrm e x g) wgu

/-- The activation, from the two halves of `z`. -/
def act (z : ℕ → ℕ → ℝ) (i j : ℕ) : ℝ := z i j * sgm (z i j) * z i (2816 + j)

/-- The layer's result. -/
def out (i k : ℕ) : ℝ := x i k + mm 2816 (act (gu e x g wgu)) wd i k

/-- The activation's gradient. -/
def dact : ℕ → ℕ → ℝ := mmT 1024 ct wd

/-- The gradient of a gate and of an up projection, from both and the activation's gradient. -/
def gate (z u da : ℕ → ℕ → ℝ) (i j : ℕ) : ℝ := da i j * u i j * (sgm (z i j) + z i j * sgm (z i j) * (1 - sgm (z i j)))
def up (z da : ℕ → ℕ → ℝ) (i j : ℕ) : ℝ := da i j * (z i j * sgm (z i j))

/-- The two side by side, `z` the forward's two halves. -/
def dguOf (z da : ℕ → ℕ → ℝ) (i j : ℕ) : ℝ :=
  if j < 2816 then gate z (fun i j => z i (2816 + j)) da i j else up z da i (j - 2816)
def dgu : ℕ → ℕ → ℝ := dguOf (gu e x g wgu) (dact wd ct)

/-- The gradient of the normalised rows, and of the input: the residual's and the norm's. -/
def dhOf (z wgu wd ct : ℕ → ℕ → ℝ) : ℕ → ℕ → ℝ := mmT 5632 (dguOf z (dact wd ct)) wgu
def dxOf (e : ℝ) (x : ℕ → ℕ → ℝ) (g : ℕ → ℝ) (z wgu wd ct : ℕ → ℕ → ℝ) (i k : ℕ) : ℝ :=
  ct i k + nrmBack e x (fun i k => dhOf z wgu wd ct i k * g k) i k
def dh : ℕ → ℕ → ℝ := dhOf (gu e x g wgu) wgu wd ct
def dx : ℕ → ℕ → ℝ := dxOf e x g (gu e x g wgu) wgu wd ct

/-- The gain's gradient. -/
def dgain (k : ℕ) : ℝ := ∑ i ∈ Finset.range 8192, dh e x g wgu wd ct i k * xn e x i k
def dgainRows (i k : ℕ) : ℝ := if i < 1 then dgain e x g wgu wd ct k else 0

end Ffn

end Cert.Math

end
-- ==== Proof.Blocks.lean ====
/-
  What the kernels' bodies have in common, on blocks of reals: the factor of a block's rows, the sigmoid, a box of an array
  loaded or stored, a product summed by parts.
-/
module

public import proofs.«01_k».proof.Proof.Reals
public import proofs.«01_k».proof.Proof.Math
public import Idealize.ShloMosaic.Lib.Pipeline.ReadBack

@[expose] public section

noncomputable section

namespace Cert.Reals

open scoped BigOperators
open Cert.Math Idealize.ShloMosaic

section Pointwise
variable {S : Shape} {X : S.Idx → EReal} {f : (Fin S.rank → ℕ) → ℝ} {φ ψ : FTy}

/-- The sigmoid, as a body computes it. -/
theorem Is.sgm {o o' z : EReal} (h : Is X f) (h1 : o = ((1 : ℝ) : EReal)) (h1' : o' = ((1 : ℝ) : EReal)) (h0 : z = ((0 : ℝ) : EReal)) :
    Is (divf (F := Ideal) (φ := φ) (broadcast S o)
      (addf (F := Ideal) (φ := φ) (broadcast S o') (Idealize.ShloMosaic.exp (F := Ideal) (φ := φ) (subf (F := Ideal) (φ := φ) (broadcast S z) X))))
      fun v => Math.sgm (f v) :=
  ((is_const h1).div ((is_const h1').add ((is_const h0).sub h).exp) fun v => sgm_den _).to fun v _ => by
    simp only [Math.sgm, zero_sub]

/-- The gated product, as a body computes it and rounds it. -/
theorem Is.gated {Y : S.Idx → EReal} {g : (Fin S.rank → ℕ) → ℝ} {o o' z : EReal} (h : Is X f) (hY : Is Y g)
    (h1 : o = ((1 : ℝ) : EReal)) (h1' : o' = ((1 : ℝ) : EReal)) (h0 : z = ((0 : ℝ) : EReal)) {hw : ψ.bits < φ.bits} :
    Is (truncf (F := Ideal) (φ := φ) ψ (mulf (F := Ideal) (φ := φ) (mulf (F := Ideal) (φ := φ) X (divf (F := Ideal) (φ := φ) (broadcast S o)
      (addf (F := Ideal) (φ := φ) (broadcast S o') (Idealize.ShloMosaic.exp (F := Ideal) (φ := φ) (subf (F := Ideal) (φ := φ) (broadcast S z) X))))) Y) hw)
      fun v => f v * Math.sgm (f v) * g v :=
  ((h.mul (h.sgm h1 h1' h0)).mul hY).trunc

end Pointwise

section Matrices
variable {m n : ℕ} {φ : FTy}

/-- The factor of each row of a block of 1024 columns, as a body computes it. -/
theorem Is2.rs {X : (⟨2, ![m, 1024]⟩ : Shape).Idx → EReal} {x : ℕ → ℕ → ℝ} (h : Is2 X x)
    {hr : (⟨2, ![m, 1024]⟩ : Shape).Reduces [1] ⟨1, ![m]⟩} {hφ : FKind.Formats .f32} {hacc : (0x00000000#32 : BitVec FTy.f32.bits) = FKind.add.neutral .f32 hφ}
    {hc : (⟨1, ![m]⟩ : Shape).ShapeCasts ⟨2, ![m, 1]⟩} :
    Is2 (m := m) (n := 1) (Idealize.ShloMosaic.rsqrt (F := Ideal) (φ := .f32) (addf (F := Ideal) (φ := .f32) (divf (F := Ideal) (φ := .f32)
      (shapeCast ⟨2, ![m, 1]⟩ (multiReduction (F := Ideal) (φ := .f32) .add [1] ⟨1, ![m]⟩ (mulf (F := Ideal) (φ := .f32) X X) 0x00000000#32 hr hφ hacc) hc)
      (broadcast ⟨2, ![m, 1]⟩ (Scalar.ofBits (F := Ideal) .f32 0x44800000#32))) (broadcast ⟨2, ![m, 1]⟩ (Scalar.ofBits (F := Ideal) .f32 0x358637BD#32))))
      fun i _ => Math.rs eps x i := by
  have h2 : Is2 (mulf (F := Ideal) (φ := .f32) X X) fun i k => x i k * x i k := h.mul h
  exact ((h2.sumRow.col.div (is_const bits_1024) fun _ => by norm_num).add (is_const bits_eps)).rsqrt
    (fun v => msq_pos eps_pos x _) |>.to fun v _ => rfl

/-- The array of which every element is the real `A` gives there. -/
def at2 (m n : ℕ) (A : ℕ → ℕ → ℝ) (y : (⟨2, ![m, n]⟩ : Shape).Idx) : EReal := ((A (y 0).val (y 1).val : ℝ) : EReal)

/-- A store into a box of an array of which the whole is `A`. -/
theorem Is2.piece {A : ℕ → ℕ → ℝ} {r c p q : ℕ} {P : (⟨2, ![p, q]⟩ : Shape).Idx → EReal}
    (h : Is2 (m := p) (n := q) P fun i j => A (r + i) (c + j))
    {inb : ∀ a, (![r, c] : Fin 2 → ℕ) a + (![p, q] : Fin 2 → ℕ) a ≤ (⟨2, ![m, n]⟩ : Shape).size a} (x : (⟨2, ![p, q]⟩ : Shape).Idx) :
    P x = at2 m n A ((Rect.unit (s := ⟨2, ![m, n]⟩) ![r, c] ![p, q] inb).emb x) := by
  refine (h x).trans ?_
  show _ = ((A (r + 1 * (x 0).val) (c + 1 * (x 1).val) : ℝ) : EReal)
  rw [one_mul, one_mul]

/-- Stores that are boxes of `A` and cover the array leave `A`. -/
theorem is2_canonf {A : ℕ → ℕ → ℝ} {L : List (View.Piece (Elt Ideal) ⟨2, ![m, n]⟩ .f32)}
    (hc : ∀ y, ∃ p ∈ L, y ∈ p.1.set) (h : View.PiecesOf (at2 m n A) L) : Is2 (m := m) (n := n) (View.canon L) A := fun y =>
  View.canon_apply_of_pieces (at2 m n A) L h.mem y (hc y)
theorem is2_canonb {A : ℕ → ℕ → ℝ} {L : List (View.Piece (Elt Ideal) ⟨2, ![m, n]⟩ .bf16)}
    (hc : ∀ y, ∃ p ∈ L, y ∈ p.1.set) (h : View.PiecesOf (at2 m n A) L) : Is2 (m := m) (n := n) (View.canon L) A := fun y =>
  View.canon_apply_of_pieces (at2 m n A) L h.mem y (hc y)

/-- The place of a tile's element in the array: the tile's index times its size, plus the place within. -/
theorem coe_tile (A : ℕ → ℕ → ℝ) {p q a : ℕ} (hp : p = a) (hq : q = 0) (r s i j : ℕ) :
    ((A (p * r + i) (q * s + j) : ℝ) : EReal) = ((A (a * r + i) j : ℝ) : EReal) := by rw [hp, hq, Nat.zero_mul, Nat.zero_add]
theorem coe_whole (A : ℕ → ℕ → ℝ) {p q : ℕ} (hp : p = 0) (hq : q = 0) (r s i j : ℕ) :
    ((A (p * r + i) (q * s + j) : ℝ) : EReal) = ((A i j : ℝ) : EReal) := by rw [hp, hq, Nat.zero_mul, Nat.zero_add, Nat.zero_mul, Nat.zero_add]

/-- A store into the first row over what the buffer held: the row's new contents, the other rows as they were. -/
theorem is2_firstRow {sig : RefSig} {κ : Kind} {sp : Space} {v : View sig κ sp ⟨2, ![m, n]⟩ .f32} {f : v.ty.Contents (Elt Ideal)}
    {L : List (View.Piece (Elt Ideal) ⟨2, ![m, n]⟩ .f32)} {P : (⟨2, ![1, n]⟩ : Shape).Idx → Elt Ideal .f32} {A B : ℕ → ℕ → ℝ}
    {inb : ∀ a, (![0, 0] : Fin 2 → ℕ) a + (![1, n] : Fin 2 → ℕ) a ≤ (⟨2, ![m, n]⟩ : Shape).size a}
    (hP : Is2 (m := 1) (n := n) P A) (hL : Is2 (m := m) (n := n) (v.read (Elt Ideal) (v.writes (Elt Ideal) f L)) B) :
    Is2 (m := m) (n := n) (v.read (Elt Ideal) (v.writes (Elt Ideal) f (⟨Rect.unit (s := ⟨2, ![m, n]⟩) ![0, 0] ![1, n] inb, P⟩ :: L)))
      fun i k => if i < 1 then A i k else B i k := fun y => by
  by_cases h : (y 0).val < 1
  · refine (View.read_writes_cons_hit_of_coords v f (Rect.unit (s := ⟨2, ![m, n]⟩) ![0, 0] ![1, n] inb) P L
      (fun a => match a with | ⟨0, _⟩ => ⟨(y 0).val, h⟩ | ⟨1, _⟩ => ⟨(y 1).val, (y 1).isLt⟩) y fun a => ?_).trans ?_
    · match a with
      | ⟨0, _⟩ => show (y 0).val = 0 + 1 * (y 0).val; omega
      | ⟨1, _⟩ => show (y 1).val = 0 + 1 * (y 1).val; omega
    · refine (hP _).trans ?_
      show ((A (y 0).val (y 1).val : ℝ) : EReal) = ((if (y 0).val < 1 then A (y 0).val (y 1).val else B (y 0).val (y 1).val : ℝ) : EReal)
      rw [if_pos h]
  · refine (View.read_writes_cons_miss_of_axis v f _ L y 0 0 1 rfl rfl rfl (Or.inr (Nat.le_of_not_lt h))).trans ?_
    refine (hL y).trans ?_
    show ((B (y 0).val (y 1).val : ℝ) : EReal) = ((if (y 0).val < 1 then A (y 0).val (y 1).val else B (y 0).val (y 1).val : ℝ) : EReal)
    rw [if_neg h]

/-- A store into the whole of the buffer, over anything. -/
theorem is2_fill {sig : RefSig} {κ : Kind} {sp : Space} {v : View sig κ sp ⟨2, ![m, n]⟩ .f32} {f : v.ty.Contents (Elt Ideal)}
    {L : List (View.Piece (Elt Ideal) ⟨2, ![m, n]⟩ .f32)} {P : (⟨2, ![m, n]⟩ : Shape).Idx → Elt Ideal .f32} {A : ℕ → ℕ → ℝ}
    {inb : ∀ a, (![0, 0] : Fin 2 → ℕ) a + (![m, n] : Fin 2 → ℕ) a ≤ (⟨2, ![m, n]⟩ : Shape).size a} (hP : Is2 (m := m) (n := n) P A) :
    Is2 (m := m) (n := n) (v.read (Elt Ideal) (v.writes (Elt Ideal) f (⟨Rect.unit (s := ⟨2, ![m, n]⟩) ![0, 0] ![m, n] inb, P⟩ :: L))) A := fun y => by
  refine (View.read_writes_cons_hit_of_coords v f (Rect.unit (s := ⟨2, ![m, n]⟩) ![0, 0] ![m, n] inb) P L y y fun a => ?_).trans (hP y)
  match a with
  | ⟨0, _⟩ => show (y 0).val = 0 + 1 * (y 0).val; omega
  | ⟨1, _⟩ => show (y 1).val = 0 + 1 * (y 1).val; omega

end Matrices

end Cert.Reals

namespace Cert.Math

open scoped BigOperators

/-- A sum over 2816, in the kernel's three parts. -/
theorem sum_parts (f : ℕ → ℝ) : ∑ k ∈ Finset.range 2816, f k
    = (∑ k ∈ Finset.range 1024, f k) + (∑ k ∈ Finset.range 1024, f (1024 + k)) + ∑ k ∈ Finset.range 768, f (2048 + k) := by
  rw [show (2816 : ℕ) = 1024 + 1024 + 768 from rfl, Finset.sum_range_add, Finset.sum_range_add]

theorem sum_halves (f : ℕ → ℝ) : ∑ k ∈ Finset.range 5632, f k
    = (∑ k ∈ Finset.range 2816, f k) + ∑ k ∈ Finset.range 2816, f (2816 + k) := by
  rw [show (5632 : ℕ) = 2816 + 2816 from rfl, Finset.sum_range_add]

theorem dguOf_gate (z da : ℕ → ℕ → ℝ) (i j : ℕ) (h : j < 2816) : dguOf z da i j = gate z (fun i j => z i (2816 + j)) da i j := if_pos h
theorem dguOf_up (z da : ℕ → ℕ → ℝ) (i j : ℕ) : dguOf z da i (2816 + j) = up z da i j := by
  rw [dguOf, if_neg (by omega), Nat.add_sub_cancel_left]

/-- The gradient of the normalised rows, in the order in which the kernel sums it. -/
theorem dhOf_parts (z wgu wd ct : ℕ → ℕ → ℝ) (i k : ℕ) (da : ℕ → ℕ → ℝ) (hda : da = dact wd ct) :
    dhOf z wgu wd ct i k
      = 0 + (∑ j ∈ Finset.range 1024, gate z (fun i j => z i (2816 + j)) da i j * wgu k j)
        + (∑ j ∈ Finset.range 1024, up z da i j * wgu k (2816 + j))
        + (∑ j ∈ Finset.range 1024, gate z (fun i j => z i (2816 + j)) da i (1024 + j) * wgu k (1024 + j))
        + (∑ j ∈ Finset.range 1024, up z da i (1024 + j) * wgu k (2816 + (1024 + j)))
        + (∑ j ∈ Finset.range 768, gate z (fun i j => z i (2816 + j)) da i (2048 + j) * wgu k (2048 + j))
        + ∑ j ∈ Finset.range 768, up z da i (2048 + j) * wgu k (2816 + (2048 + j)) := by
  subst hda
  have h1 : ∀ j ∈ Finset.range 2816, dguOf z (dact wd ct) i j * wgu k j = gate z (fun i j => z i (2816 + j)) (dact wd ct) i j * wgu k j := fun j hj => by
    rw [dguOf_gate _ _ _ _ (Finset.mem_range.mp hj)]
  have h2 : ∀ j ∈ Finset.range 2816, dguOf z (dact wd ct) i (2816 + j) * wgu k (2816 + j) = up z (dact wd ct) i j * wgu k (2816 + j) := fun j _ => by
    rw [dguOf_up]
  unfold dhOf mmT
  rw [sum_halves, Finset.sum_congr rfl h1, Finset.sum_congr rfl h2, sum_parts, sum_parts]
  ring

end Cert.Math

end
-- ==== Proof.Fwd.lean ====
/-
  One block of the forward call: 512 rows of the layer's result and of the two projections.
-/
module

public import proofs.«01_k».proof.Proof.Gen.KernelIdeal.Frame
public import proofs.«01_k».proof.Proof.Blocks

@[expose] public section

set_option maxRecDepth 16384

noncomputable section

namespace Cert.KernelIdeal.Fwd

open Cert.KernelIdeal Cert.KernelIdeal.Gen Cert.Reals Cert.Math Idealize.ShloMosaic Idealize.ShloMosaic.Tactic

variable {v0 : Vec Ideal S512x1024 .f32} {v1 : Vec Ideal S1x1024 .f32} {x g : ℕ → ℕ → ℝ}

theorem pay2 (h0 : Is2 v0 x) (h1 : Is2 v1 g) : Is2 (k0_pay2 (F := Ideal) v0 v1) (nrm eps x (g 0)) :=
  ((h0.mul (h0.rs).bcol).mul h1.brow).trunc |>.to fun v _ => rfl

variable {w w' : Vec Ideal S1024x1024 .bf16} {A B C : ℕ → ℕ → ℝ}

theorem pay3 (h0 : Is2 v0 x) (h1 : Is2 v1 g) (hw : Is2 w A) : Is2 (k0_pay3 (F := Ideal) v0 v1 w) (mm 1024 (nrm eps x (g 0)) A) :=
  (pay2 h0 h1).dot (hw.shapeCast_self) |>.to fun v _ => rfl

theorem pay4 (h0 : Is2 v0 x) (h1 : Is2 v1 g) (hw : Is2 w A) : Is2 (k0_pay4 (F := Ideal) v0 v1 w) (mm 1024 (nrm eps x (g 0)) A) :=
  (pay2 h0 h1).dot (hw.shapeCast_self) |>.to fun v _ => rfl

theorem pay5 (h0 : Is2 v0 x) (h1 : Is2 v1 g) (hw : Is2 w A) (hw' : Is2 w' B) : Is2 (k0_pay5 (F := Ideal) v0 v1 w w')
    fun i j => mm 1024 (nrm eps x (g 0)) A i j * sgm (mm 1024 (nrm eps x (g 0)) A i j) * mm 1024 (nrm eps x (g 0)) B i j :=
  (((pay3 h0 h1 hw).mul ((pay3 h0 h1 hw).sgm bits_one bits_one bits_zero)).mul (pay4 h0 h1 hw')).trunc |>.to fun v _ => rfl

theorem pay6 (hw : Is2 w A) : Is2 (k0_pay6 (F := Ideal) w) A := hw.shapeCast_self

variable {h : Vec Ideal S512x1024 .bf16} {H : ℕ → ℕ → ℝ} {u u' : Vec Ideal S1024x768 .bf16} {d : Vec Ideal S768x1024 .bf16}

theorem pay7 (h0 : Is2 h H) (hw : Is2 w A) : Is2 (k0_pay7 (F := Ideal) h w) (mm 1024 H A) :=
  h0.dot hw.shapeCast_self |>.to fun v _ => rfl

theorem pay8 (h0 : Is2 h H) (hw : Is2 w A) : Is2 (k0_pay8 (F := Ideal) h w) (mm 1024 H A) :=
  h0.dot hw.shapeCast_self |>.to fun v _ => rfl

theorem pay10 (h0 : Is2 h H) (hw : Is2 u A) : Is2 (k0_pay10 (F := Ideal) h u) (mm 1024 H A) :=
  h0.dot hw.shapeCast_self |>.to fun v _ => rfl

theorem pay11 (h0 : Is2 h H) (hw : Is2 u A) : Is2 (k0_pay11 (F := Ideal) h u) (mm 1024 H A) :=
  h0.dot hw.shapeCast_self |>.to fun v _ => rfl

theorem pay9 {a : Vec Ideal S512x1024 .bf16} {e w2 : Vec Ideal S1024x1024 .bf16} {D E : ℕ → ℕ → ℝ}
    (h0 : Is2 v0 x) (hh : Is2 h H) (ha : Is2 a D) (he : Is2 e E) (hw : Is2 w A) (hw' : Is2 w' B) (hw2 : Is2 w2 C) :
    Is2 (k0_pay9 (F := Ideal) v0 h a e w w' w2) fun i j => x i j + mm 1024 D E i j
      + mm 1024 (fun i j => mm 1024 H A i j * sgm (mm 1024 H A i j) * mm 1024 H B i j) C i j :=
  (h0.add (ha.dot he)).add (Is2.dot (A := fun i j => mm 1024 H A i j * sgm (mm 1024 H A i j) * mm 1024 H B i j)
    ((pay7 hh hw).gated (pay8 hh hw') bits_one bits_one bits_zero) hw2.shapeCast_self) |>.to fun v _ => rfl

theorem pay1 {s : Vec Ideal S512x1024 .f32} {z z' : Vec Ideal S512x768 .f32} {D : ℕ → ℕ → ℝ}
    (hs : Is2 s D) (hz : Is2 z A) (hz' : Is2 z' B) (hd : Is2 d C) :
    Is2 (k0_pay1 (F := Ideal) s z z' d) fun i j => D i j + mm 768 (fun i j => A i j * sgm (A i j) * B i j) C i j :=
  hs.add (Is2.dot (A := fun i j => A i j * sgm (A i j) * B i j) (hz.gated hz' bits_one bits_one bits_zero) hd.shapeCast_self) |>.to fun v _ => rfl

variable (c : Dev nD) (i : grid0.Coords) (a1 : Memref sig .tc .vmem S512x1024 .f32) (h1 : a1.IsWhole) (a2 : Memref sig .tc .vmem S1x1024 .f32) (h2 : a2.IsWhole)
  (a3 : Memref sig .tc .vmem S1024x5632 .bf16) (h3 : a3.IsWhole) (a4 : Memref sig .tc .vmem S2816x1024 .bf16) (h4 : a4.IsWhole)
  (a5 : Memref sig .tc .vmem S512x1024 .f32) (h5 : a5.IsWhole) (a6 : Memref sig .tc .vmem S512x5632 .f32) (h6 : a6.IsWhole)
  (x0 : Vec Ideal S512x1024 .f32) (x1 : Vec Ideal S1x1024 .f32) (x2 : Vec Ideal S1024x5632 .bf16) (x3 : Vec Ideal S2816x1024 .bf16)

theorem out5 {X G W D : ℕ → ℕ → ℝ} (e0 : Is2 x0 X) (e1 : Is2 x1 G) (e2 : Is2 x2 W) (e3 : Is2 x3 D) :
    Is2 (out0_A_5 c i a1 h1 a2 h2 a3 h3 a4 h4 a5 h5 a6 h6 x0 x1 x2 x3) (gu eps X (G 0) W) := by
  unfold out0_A_5
  rw [View.read_writes_eq_canon _ _ _ (cover0_A_5 c i a1 h1 a2 h2 a3 h3 a4 h4 a5 h5 a6 h6 x0 x1 x2 x3)]
  refine is2_canonf (cover0_A_5 c i a1 h1 a2 h2 a3 h3 a4 h4 a5 h5 a6 h6 x0 x1 x2 x3) ?_
  unfold kernelRun0_A
  dsimp only
  sl_unfold_words
  simp only [View.readAt_eq_ld, h1.read_unread, h2.read_unread, h3.read_unread, h4.read_unread]
  have hx := e0.ld (r := 0) (c := 0) (p := 512) (q := 1024) (inb := inb_S512x1024_S512x1024_0_0)
  have hg := e1.ld (r := 0) (c := 0) (p := 1) (q := 1024) (inb := inb_S1x1024_S1x1024_0_0)
  have hh := pay2 hx hg
  refine ⟨Is2.piece (inb := inb_S512x5632_S512x768_0_4864) (pay11 hh (e2.ldb (inb := inb_S1024x5632_S1024x768_0_4864)) |>.to ?_),
    Is2.piece (inb := inb_S512x5632_S512x768_0_2048) (pay10 hh (e2.ldb (inb := inb_S1024x5632_S1024x768_0_2048)) |>.to ?_),
    Is2.piece (inb := inb_S512x5632_S512x1024_0_3840) (pay8 hh (e2.ldb (inb := inb_S1024x5632_S1024x1024_0_3840)) |>.to ?_),
    Is2.piece (inb := inb_S512x5632_S512x1024_0_1024) (pay7 hh (e2.ldb (inb := inb_S1024x5632_S1024x1024_0_1024)) |>.to ?_),
    Is2.piece (inb := inb_S512x5632_S512x1024_0_2816) (pay4 hx hg (e2.ldb (inb := inb_S1024x5632_S1024x1024_0_2816)) |>.to ?_),
    Is2.piece (inb := inb_S512x5632_S512x1024_0_0) (pay3 hx hg (e2.ldb (inb := inb_S1024x5632_S1024x1024_0_0)) |>.to ?_), trivial⟩ <;>
  exact fun v _ => by simp only [fn2, gu, mm, zero_add]

theorem out4 {X G W D : ℕ → ℕ → ℝ} (e0 : Is2 x0 X) (e1 : Is2 x1 G) (e2 : Is2 x2 W) (e3 : Is2 x3 D) :
    Is2 (out0_A_4 c i a1 h1 a2 h2 a3 h3 a4 h4 a5 h5 a6 h6 x0 x1 x2 x3) (out eps X (G 0) W D) := by
  unfold out0_A_4
  rw [View.read_writes_eq_canon _ _ _ (cover0_A_4 c i a1 h1 a2 h2 a3 h3 a4 h4 a5 h5 a6 h6 x0 x1 x2 x3)]
  refine is2_canonf (cover0_A_4 c i a1 h1 a2 h2 a3 h3 a4 h4 a5 h5 a6 h6 x0 x1 x2 x3) ?_
  unfold kernelRun0_A
  dsimp only
  sl_unfold_words
  simp only [View.readAt_eq_ld, h1.read_unread, h2.read_unread, h3.read_unread, h4.read_unread]
  have hx := e0.ld (r := 0) (c := 0) (p := 512) (q := 1024) (inb := inb_S512x1024_S512x1024_0_0)
  have hg := e1.ld (r := 0) (c := 0) (p := 1) (q := 1024) (inb := inb_S1x1024_S1x1024_0_0)
  have hh := pay2 hx hg
  have h9 := pay9 hx hh (pay5 hx hg (e2.ldb (inb := inb_S1024x5632_S1024x1024_0_0)) (e2.ldb (inb := inb_S1024x5632_S1024x1024_0_2816)))
    (pay6 (e3.ldb (inb := inb_S2816x1024_S1024x1024_0_0))) (e2.ldb (inb := inb_S1024x5632_S1024x1024_0_1024)) (e2.ldb (inb := inb_S1024x5632_S1024x1024_0_3840)) (e3.ldb (inb := inb_S2816x1024_S1024x1024_1024_0))
  have h1 := pay1 h9 (pay10 hh (e2.ldb (inb := inb_S1024x5632_S1024x768_0_2048))) (pay11 hh (e2.ldb (inb := inb_S1024x5632_S1024x768_0_4864)))
    (e3.ldb (inb := inb_S2816x1024_S768x1024_2048_0))
  clear hh hx hg h9 e0 e1 e2 e3
  refine ⟨Is2.piece (inb := inb_S512x1024_S512x1024_0_0) ?_, trivial⟩
  refine h1.to fun v _ => ?_
  clear h1
  simp only [fn2, out, zero_add, mm, sum_parts, ← add_assoc, act, gu, Nat.reduceAdd]

end Cert.KernelIdeal.Fwd

end
-- ==== Proof.FwdArray.lean ====
/-
  The arrays the forward call leaves: each block of 512 rows is the layer on the same rows of its input.
-/
module

public import proofs.«01_k».proof.Proof.Fwd
public import Idealize.ShloMosaic.Lib.Pipeline.ValueKit

@[expose] public section

set_option maxRecDepth 16384

noncomputable section

namespace Cert.KernelIdeal.Fwd

open Cert.KernelIdeal Cert.KernelIdeal.Gen Cert.Reals Cert.Math Idealize.ShloMosaic Idealize.ShloMosaic.TcCoe Idealize.ShloMosaic.Pipeline

variable (V : (c : Dev nD) → (b : Ref sig .tc) → Buf (Elt Ideal) ((c : Thread nD τ).loc b)) (c : Dev nD)
  {X G W D : ℕ → ℕ → ℝ}

theorem at_x (t : Fin cfg0.N) : win0_0.index t 0 = t.val ∧ win0_0.index t 1 = 0 :=
  (by decide +kernel : ∀ t : Fin grid0.N, win0_0.index t 0 = t.val ∧ win0_0.index t 1 = 0) t
theorem at_g (t : Fin cfg0.N) : win0_1.index t 0 = 0 ∧ win0_1.index t 1 = 0 :=
  (by decide +kernel : ∀ t : Fin grid0.N, win0_1.index t 0 = 0 ∧ win0_1.index t 1 = 0) t
theorem at_w (t : Fin cfg0.N) : win0_2.index t 0 = 0 ∧ win0_2.index t 1 = 0 :=
  (by decide +kernel : ∀ t : Fin grid0.N, win0_2.index t 0 = 0 ∧ win0_2.index t 1 = 0) t
theorem at_d (t : Fin cfg0.N) : win0_3.index t 0 = 0 ∧ win0_3.index t 1 = 0 :=
  (by decide +kernel : ∀ t : Fin grid0.N, win0_3.index t 0 = 0 ∧ win0_3.index t 1 = 0) t
theorem at_o (t : Fin cfg0.N) : win0_4.index t 0 = t.val ∧ win0_4.index t 1 = 0 :=
  (by decide +kernel : ∀ t : Fin grid0.N, win0_4.index t 0 = t.val ∧ win0_4.index t 1 = 0) t
theorem at_u (t : Fin cfg0.N) : win0_5.index t 0 = t.val ∧ win0_5.index t 1 = 0 :=
  (by decide +kernel : ∀ t : Fin grid0.N, win0_5.index t 0 = t.val ∧ win0_5.index t 1 = 0) t

theorem blk_x (h : Is2 (V c main_arg0) X) (t : Fin cfg0.N) : Is2 (m := 512) (n := 1024) (iblk0 V c 0 t) fun i k => X (t.val * 512 + i) k := fun y => by
  blk_simp [iblk0]
  refine (h _).trans ?_
  blk_simp
  exact coe_tile X (at_x t).1 (at_x t).2 512 1024 (y 0).val (y 1).val
theorem blk_g (h : Is2 (V c main_arg1) G) (t : Fin cfg0.N) : Is2 (m := 1) (n := 1024) (iblk0 V c 1 t) fun i k => G i k := fun y => by
  blk_simp [iblk0]
  refine (h _).trans ?_
  blk_simp
  exact coe_whole G (at_g t).1 (at_g t).2 1 1024 (y 0).val (y 1).val
theorem blk_w (h : Is2 (V c main_v0) W) (t : Fin cfg0.N) : Is2 (m := 1024) (n := 5632) (iblk0 V c 2 t) fun i k => W i k := fun y => by
  blk_simp [iblk0]
  refine (h _).trans ?_
  blk_simp
  exact coe_whole W (at_w t).1 (at_w t).2 1024 5632 (y 0).val (y 1).val
theorem blk_d (h : Is2 (V c main_v1) D) (t : Fin cfg0.N) : Is2 (m := 2816) (n := 1024) (iblk0 V c 3 t) fun i k => D i k := fun y => by
  blk_simp [iblk0]
  refine (h _).trans ?_
  blk_simp
  exact coe_whole D (at_d t).1 (at_d t).2 2816 1024 (y 0).val (y 1).val

theorem covers_o : (cfg0.win 4).Covers := by decide +kernel
theorem covers_u : (cfg0.win 5).Covers := by decide +kernel

variable (hx : Is2 (V c main_arg0) X) (hg : Is2 (V c main_arg1) G) (hw : Is2 (V c main_v0) W) (hd : Is2 (V c main_v1) D)
include hx hg hw hd

theorem outs_o (t : Fin cfg0.N) : Is2 (m := 512) (n := 1024) (outsAt0 V c t).1 fun i k => out eps X (G 0) W D (t.val * 512 + i) k := by
  unfold outsAt0
  dsimp only
  refine (out4 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (blk_x V c hx t) (blk_g V c hg t) (blk_w V c hw t) (blk_d V c hd t)).to fun v _ => ?_
  rfl
theorem outs_u (t : Fin cfg0.N) : Is2 (m := 512) (n := 5632) (outsAt0 V c t).2 fun i k => gu eps X (G 0) W (t.val * 512 + i) k := by
  unfold outsAt0
  dsimp only
  refine (out5 c (grid0.coords t) (ms0_0 t) (hs0_0 t) (ms0_1 t) (hs0_1 t) (ms0_2 t) (hs0_2 t) (ms0_3 t) (hs0_3 t) (ms0_4 t) (hs0_4 t) (ms0_5 t) (hs0_5 t) (iblk0 V c 0 t) (iblk0 V c 1 t) (iblk0 V c 2 t) (iblk0 V c 3 t) (blk_x V c hx t) (blk_g V c hg t) (blk_w V c hw t) (blk_d V c hd t)).to fun v _ => ?_
  rfl

/-- The layer's result, all rows. -/
theorem arr_out : Is2 (m := 8192) (n := 1024) ((dat0 V c).arrAt 4 cfg0.N) (out eps X (G 0) W D) :=
  (dat0 V c).arrAt_forall_of_covers 4 (fun i v => v = ((fn2 (out eps X (G 0) W D) fun a => (i a).val : ℝ) : EReal)) covers_o fun t hf y => by
    blk_simp
    rw [after0_4]
    exact (outs_o V c hx hg hw hd t y).trans (coe_tile (out eps X (G 0) W D) (at_o t).1 (at_o t).2 512 1024 (y 0).val (y 1).val).symm

/-- The two projections, all rows. -/
theorem arr_gu : Is2 (m := 8192) (n := 5632) ((dat0 V c).arrAt 5 cfg0.N) (gu eps X (G 0) W) :=
  (dat0 V c).arrAt_forall_of_covers 5 (fun i v => v = ((fn2 (gu eps X (G 0) W) fun a => (i a).val : ℝ) : EReal)) covers_u fun t hf y => by
    blk_simp
    rw [after0_5]
    exact (outs_u V c hx hg hw hd t y).trans (coe_tile (gu eps X (G 0) W) (at_u t).1 (at_u t).2 512 5632 (y 0).val (y 1).val).symm

end Cert.KernelIdeal.Fwd

end
-- ==== Proof.Bwd.lean ====
/-
  The backward call's payloads: what each value of the body is, from the block's reals.
-/
module

public import proofs.«01_k».proof.Proof.Gen.KernelIdeal.Frame
public import proofs.«01_k».proof.Proof.Blocks

@[expose] public section

set_option maxRecDepth 16384

noncomputable section

namespace Cert.KernelIdeal.Bwd

open Cert.KernelIdeal Cert.KernelIdeal.Gen Cert.Reals Cert.Math Idealize.ShloMosaic Idealize.ShloMosaic.Tactic

/-! ## The activation and its gradient, a part of the columns at a time -/

section Wide
variable {v3 v7 v9 : Vec Ideal S256x1024 .f32} {v11 v36 v40 : Vec Ideal S1024x1024 .bf16} {C Z U D W W' A B E : ℕ → ℕ → ℝ}
  {v4 v31 v33 : Vec Ideal S256x1024 .bf16} {v6 v69 : Vec Ideal S256x1024 .f32}

theorem pay4 (h : Is2 v3 C) : Is2 (k1_pay4 (F := Ideal) v3) C := h.trunc
theorem pay5 : Is2 (k1_pay5 (F := Ideal)) fun _ _ => 0 := is_const bits_zero
theorem pay6 (h : Is2 v7 Z) : Is2 (k1_pay6 (F := Ideal) v7) Z := h.shapeCast_self
theorem pay8 (h : Is2 v3 C) (hd : Is2 v11 D) : Is2 (k1_pay8 (F := Ideal) v3 v11) (mmT 1024 C D) :=
  (pay4 h).dotT hd.shapeCast_self |>.to fun v _ => rfl
theorem pay9 (h : Is2 v7 Z) : Is2 (k1_pay9 (F := Ideal) v7) fun i j => sgm (Z i j) :=
  (pay6 h).sgm bits_one bits_one bits_zero
theorem pay10 (h : Is2 v7 Z) : Is2 (k1_pay10 (F := Ideal) v7) fun i j => Z i j * sgm (Z i j) :=
  (pay6 h).mul (pay9 h)
theorem pay11 (h : Is2 v7 Z) (hu : Is2 v9 U) : Is2 (k1_pay11 (F := Ideal) v7 v9) fun i j => Z i j * sgm (Z i j) * U i j :=
  ((pay10 h).mul hu.shapeCast_self).trunc
theorem pay12 (hc : Is2 v3 C) (h : Is2 v7 Z) (hu : Is2 v9 U) (hd : Is2 v11 D) : Is2 (k1_pay12 (F := Ideal) v3 v7 v9 v11) (gate Z U (mmT 1024 C D)) :=
  (((pay8 hc hd).mul hu.shapeCast_self).mul ((pay9 h).add ((pay10 h).mul ((is_const bits_one).sub (pay9 h))))).trunc
theorem pay13 (hc : Is2 v3 C) (h : Is2 v7 Z) (hd : Is2 v11 D) : Is2 (k1_pay13 (F := Ideal) v3 v7 v11) (up Z (mmT 1024 C D)) :=
  ((pay8 hc hd).mul (pay10 h)).trunc
theorem pay14 (h6 : Is2 v6 E) (ha : Is2 v31 A) (hb : Is2 v33 B) (hw : Is2 v36 W) (hw' : Is2 v40 W') :
    Is2 (k1_pay14 (F := Ideal) v6 v31 v33 v36 v40) fun i j => E i j + mmT 1024 A W i j + mmT 1024 B W' i j :=
  (h6.add (ha.dotT hw.shapeCast_self)).add (hb.dotT hw'.shapeCast_self)

theorem pay17 (h : Is2 v4 C) (hd : Is2 v11 D) : Is2 (k1_pay17 (F := Ideal) v4 v11) (mmT 1024 C D) := h.dotT hd.shapeCast_self
theorem pay20 (h : Is2 v7 Z) (hu : Is2 v9 U) : Is2 (k1_pay20 (F := Ideal) v7 v9) fun i j => Z i j * sgm (Z i j) * U i j := pay11 h hu
theorem pay21 (hc : Is2 v4 C) (h : Is2 v7 Z) (hu : Is2 v9 U) (hd : Is2 v11 D) : Is2 (k1_pay21 (F := Ideal) v4 v7 v9 v11) (gate Z U (mmT 1024 C D)) :=
  (((pay17 hc hd).mul hu.shapeCast_self).mul ((pay9 h).add ((pay10 h).mul ((is_const bits_one).sub (pay9 h))))).trunc
theorem pay22 (hc : Is2 v4 C) (h : Is2 v7 Z) (hd : Is2 v11 D) : Is2 (k1_pay22 (F := Ideal) v4 v7 v11) (up Z (mmT 1024 C D)) :=
  (pay17 hc hd).mul (pay10 h)
theorem pay23 (h : Is2 v69 B) : Is2 (k1_pay23 (F := Ideal) v69) B := h.trunc
theorem pay24 (h6 : Is2 v6 E) (ha : Is2 v31 A) (hb : Is2 v69 B) (hw : Is2 v36 W) (hw' : Is2 v40 W') :
    Is2 (k1_pay24 (F := Ideal) v6 v31 v69 v36 v40) fun i j => E i j + mmT 1024 A W i j + mmT 1024 B W' i j :=
  (h6.add (ha.dotT hw.shapeCast_self)).add ((pay23 hb).dotT hw'.shapeCast_self)

end Wide

section Narrow
variable {v81 v83 v87 v95 v99 v103 : Vec Ideal S256x768 .f32} {v85 : Vec Ideal S768x1024 .bf16} {v4 : Vec Ideal S256x1024 .bf16}
  {v80 : Vec Ideal S256x1024 .f32} {v110 v114 : Vec Ideal S1024x768 .bf16} {C Z U D W W' A A' B B' E G X : ℕ → ℕ → ℝ}
  {v118 v3 v135 v137 v117 : Vec Ideal S256x1024 .f32} {v126 v140 : Vec Ideal S256x1 .f32} {v127 v151 : Vec Ideal S1x1024 .f32}

theorem pay25 (h : Is2 v81 Z) : Is2 (k1_pay25 (F := Ideal) v81) Z := h.shapeCast_self
theorem pay27 (h : Is2 v4 C) (hd : Is2 v85 D) : Is2 (k1_pay27 (F := Ideal) v4 v85) (mmT 1024 C D) := h.dotT hd.shapeCast_self
theorem pay28 (h : Is2 v81 Z) : Is2 (k1_pay28 (F := Ideal) v81) fun i j => sgm (Z i j) := (pay25 h).sgm bits_one bits_one bits_zero
theorem pay29 (h : Is2 v81 Z) : Is2 (k1_pay29 (F := Ideal) v81) fun i j => Z i j * sgm (Z i j) := (pay25 h).mul (pay28 h)
theorem pay30 (h : Is2 v81 Z) (hu : Is2 v83 U) : Is2 (k1_pay30 (F := Ideal) v81 v83) fun i j => Z i j * sgm (Z i j) * U i j :=
  ((pay29 h).mul hu.shapeCast_self).trunc
theorem pay31 (hc : Is2 v4 C) (hu : Is2 v83 U) (hd : Is2 v85 D) : Is2 (k1_pay31 (F := Ideal) v4 v83 v85) fun i j => mmT 1024 C D i j * U i j :=
  (pay27 hc hd).mul hu.shapeCast_self
theorem pay32 (h : Is2 v81 Z) : Is2 (k1_pay32 (F := Ideal) v81) fun i j => sgm (Z i j) + Z i j * sgm (Z i j) * (1 - sgm (Z i j)) :=
  (pay28 h).add ((pay29 h).mul ((is_const bits_one).sub (pay28 h)))
theorem pay33 (ha : Is2 v99 A) (hb : Is2 v103 A') : Is2 (k1_pay33 (F := Ideal) v99 v103) fun i j => A i j * A' i j := (ha.mul hb).trunc
theorem pay34 (ha : Is2 v87 B) (hb : Is2 v95 B') : Is2 (k1_pay34 (F := Ideal) v87 v95) fun i j => B i j * B' i j := (ha.mul hb).trunc
theorem pay35 (h80 : Is2 v80 E) (hb : Is2 v87 B) (hb' : Is2 v95 B') (ha : Is2 v99 A) (ha' : Is2 v103 A') (hw : Is2 v110 W) (hw' : Is2 v114 W') :
    Is2 (k1_pay35 (F := Ideal) v80 v87 v95 v99 v103 v110 v114)
      fun i j => E i j + mmT 768 (fun i j => A i j * A' i j) W i j + mmT 768 (fun i j => B i j * B' i j) W' i j :=
  (h80.add ((pay33 ha ha').dotT hw.shapeCast_self)).add ((pay34 hb hb').dotT hw'.shapeCast_self)

/-! ## The norm's gradient -/

theorem pay36 (h : Is2 v118 X) : Is2 (k1_pay36 (F := Ideal) v118) fun i _ => rs eps X i := h.rs
theorem pay37 (h : Is2 v118 X) (hg : Is2 v127 G) : Is2 (k1_pay37 (F := Ideal) v118 v127) (nrm eps X (G 0)) :=
  ((h.mul (pay36 h).bcol).mul hg.brow).trunc
theorem pay38 (h : Is2 v118 X) : Is2 (k1_pay38 (F := Ideal) v118) (xn eps X) := h.mul (pay36 h).bcol
theorem pay39 (h : Is2 (k1_pay35 (F := Ideal) v80 v87 v95 v99 v103 v110 v114) E) (hg : Is2 v127 G) :
    Is2 (k1_pay39 (F := Ideal) v80 v87 v95 v99 v103 v110 v114 v127) fun i k => E i k * G 0 k := h.mul hg.brow
theorem pay40 (h : Is2 (k1_pay35 (F := Ideal) v80 v87 v95 v99 v103 v110 v114) E) (hx : Is2 v118 X) (hg : Is2 v127 G) :
    Is2 (k1_pay40 (F := Ideal) v80 v87 v95 v99 v103 v110 v114 v118 v127) fun i _ => ∑ k ∈ Finset.range 1024, E i k * G 0 k * xn eps X i k := by
  have hm : Is2 (mulf (F := Ideal) (φ := .f32) (k1_pay39 (F := Ideal) v80 v87 v95 v99 v103 v110 v114 v127) (k1_pay38 (F := Ideal) v118))
    fun i k => E i k * G 0 k * xn eps X i k := (pay39 h hg).mul (pay38 hx)
  exact hm.sumRow.col

theorem pay1 (hd : Is2 v117 E) (hx : Is2 v135 X) (ho : Is2 v151 G) :
    Is2 (k1_pay1 (F := Ideal) v117 v135 v151) fun i k => G i k + ∑ j ∈ Finset.range 256, E j k * X j k := by
  have hm : Is2 (mulf (F := Ideal) (φ := .f32) v117 v135) fun i k => E i k * X i k := hd.mul hx
  exact ho.shapeCast_self.add hm.sumCol.row

theorem pay2 (h3 : Is2 v3 C) (h126 : Is2 v126 fun i _ => rs eps X i) (hx : Is2 v135 (xn eps X)) (hd : Is2 v137 D)
    (hs : Is2 v140 fun i _ => ∑ k ∈ Finset.range 1024, D i k * xn eps X i k) :
    Is2 (k1_pay2 (F := Ideal) v3 v126 v135 v137 v140) fun i k => C i k + nrmBack eps X D i k := by
  have hq : Is2 (divf (F := Ideal) (φ := .f32) v140 (broadcast S256x1 (Scalar.ofBits (F := Ideal) .f32 0x44800000#32)))
    fun i _ => (∑ k ∈ Finset.range 1024, D i k * xn eps X i k) / 1024 := hs.div (is_const bits_1024) fun _ => by norm_num
  exact h3.add (h126.bcol.mul (hd.sub (hx.mul hq.bcol)))

theorem pay3 : Is2 (k1_pay3 (F := Ideal)) fun _ _ => 0 := is_const bits_zero

end Narrow

end Cert.KernelIdeal.Bwd

end
-- ==== Proof.BwdBlock.lean ====
/-
  One block of the backward call: 256 rows of each result, and the row that the gain's gradient grows by.
-/
module

public import proofs.«01_k».proof.Proof.Bwd

@[expose] public section

set_option maxRecDepth 16384

noncomputable section

namespace Cert.KernelIdeal.Bwd

open Cert.KernelIdeal Cert.KernelIdeal.Gen Cert.Reals Cert.Math Idealize.ShloMosaic Idealize.ShloMosaic.Tactic

variable (c : Dev nD) (i : grid1.Coords)
  (a1 : Memref sig .tc .vmem S256x1024 .f32) (h1 : a1.IsWhole)
  (a2 : Memref sig .tc .vmem S256x1024 .f32) (h2 : a2.IsWhole)
  (a3 : Memref sig .tc .vmem S1x1024 .f32) (h3 : a3.IsWhole)
  (a4 : Memref sig .tc .vmem S256x5632 .f32) (h4 : a4.IsWhole)
  (a5 : Memref sig .tc .vmem S1024x5632 .bf16) (h5 : a5.IsWhole)
  (a6 : Memref sig .tc .vmem S2816x1024 .bf16) (h6 : a6.IsWhole)
  (a7 : Memref sig .tc .vmem S256x1024 .f32) (h7 : a7.IsWhole)
  (a8 : Memref sig .tc .vmem S256x2816 .bf16) (h8 : a8.IsWhole)
  (a9 : Memref sig .tc .vmem S256x5632 .bf16) (h9 : a9.IsWhole)
  (a10 : Memref sig .tc .vmem S256x1024 .bf16) (h10 : a10.IsWhole)
  (a11 : Memref sig .tc .vmem S256x1024 .bf16) (h11 : a11.IsWhole)
  (a12 : Memref sig .tc .vmem S8x1024 .f32) (h12 : a12.IsWhole)
  (x0 : Vec Ideal S256x1024 .f32) (x1 : Vec Ideal S256x1024 .f32) (x2 : Vec Ideal S1x1024 .f32) (x3 : Vec Ideal S256x5632 .f32) (x4 : Vec Ideal S1024x5632 .bf16) (x5 : Vec Ideal S2816x1024 .bf16)

/-- A part of the up half, and of the gate half, from the part's own columns. -/
theorem up_part (Z D C : ℕ → ℕ → ℝ) (o p : ℕ) (hp : 2816 + o = p) (i j : ℕ) :
    dguOf Z (dact D C) (0 + i) (p + j)
      = up (fun i j => Z (0 + i) (o + j)) (mmT 1024 (fun i j => C (0 + i) (0 + j)) fun i j => D (o + i) (0 + j)) i j := by
  rw [← hp, Nat.add_assoc, dguOf_up]
  simp only [up, dact, mmT, zero_add]

theorem gate_part (Z D C : ℕ → ℕ → ℝ) (o p : ℕ) (hp : 2816 + o = p) (i j : ℕ) {n : ℕ} (hj : j < n) (hn : o + n ≤ 2816) :
    dguOf Z (dact D C) (0 + i) (o + j)
      = gate (fun i j => Z (0 + i) (o + j)) (fun i j => Z (0 + i) (p + j))
          (mmT 1024 (fun i j => C (0 + i) (0 + j)) fun i j => D (o + i) (0 + j)) i j := by
  rw [← hp, dguOf_gate _ _ _ _ (by omega)]
  simp only [gate, dact, mmT, zero_add, Nat.add_assoc]

/-- The gradient of the normalised rows: the six products, summed in the body's order. -/
theorem pay35_dh {Ct Z W D : ℕ → ℕ → ℝ} (e0 : Is2 x0 Ct) (e3 : Is2 x3 Z) (e4 : Is2 x4 W) (e5 : Is2 x5 D) :
    Is2 (k1_pay35 (F := Ideal)
      (k1_pay24
        (k1_pay14 k1_pay5
          (k1_pay12 (View.ld x0 (Rect.unit ![0, 0] ![256, 1024] inb_S256x1024_S256x1024_0_0)) (View.ld x3 (Rect.unit ![0, 0] ![256, 1024] inb_S256x5632_S256x1024_0_0))
            (View.ld x3 (Rect.unit ![0, 2816] ![256, 1024] inb_S256x5632_S256x1024_0_2816)) (View.ld x5 (Rect.unit ![0, 0] ![1024, 1024] inb_S2816x1024_S1024x1024_0_0)))
          (k1_pay13 (View.ld x0 (Rect.unit ![0, 0] ![256, 1024] inb_S256x1024_S256x1024_0_0)) (View.ld x3 (Rect.unit ![0, 0] ![256, 1024] inb_S256x5632_S256x1024_0_0)) (View.ld x5 (Rect.unit ![0, 0] ![1024, 1024] inb_S2816x1024_S1024x1024_0_0)))
          (View.ld x4 (Rect.unit ![0, 0] ![1024, 1024] inb_S1024x5632_S1024x1024_0_0)) (View.ld x4 (Rect.unit ![0, 2816] ![1024, 1024] inb_S1024x5632_S1024x1024_0_2816)))
        (k1_pay21 (k1_pay4 (View.ld x0 (Rect.unit ![0, 0] ![256, 1024] inb_S256x1024_S256x1024_0_0))) (View.ld x3 (Rect.unit ![0, 1024] ![256, 1024] inb_S256x5632_S256x1024_0_1024))
          (View.ld x3 (Rect.unit ![0, 3840] ![256, 1024] inb_S256x5632_S256x1024_0_3840)) (View.ld x5 (Rect.unit ![1024, 0] ![1024, 1024] inb_S2816x1024_S1024x1024_1024_0)))
        (k1_pay22 (k1_pay4 (View.ld x0 (Rect.unit ![0, 0] ![256, 1024] inb_S256x1024_S256x1024_0_0))) (View.ld x3 (Rect.unit ![0, 1024] ![256, 1024] inb_S256x5632_S256x1024_0_1024)) (View.ld x5 (Rect.unit ![1024, 0] ![1024, 1024] inb_S2816x1024_S1024x1024_1024_0)))
        (View.ld x4 (Rect.unit ![0, 1024] ![1024, 1024] inb_S1024x5632_S1024x1024_0_1024)) (View.ld x4 (Rect.unit ![0, 3840] ![1024, 1024] inb_S1024x5632_S1024x1024_0_3840)))
      (k1_pay27 (k1_pay4 (View.ld x0 (Rect.unit ![0, 0] ![256, 1024] inb_S256x1024_S256x1024_0_0))) (View.ld x5 (Rect.unit ![2048, 0] ![768, 1024] inb_S2816x1024_S768x1024_2048_0)))
      (k1_pay29 (View.ld x3 (Rect.unit ![0, 2048] ![256, 768] inb_S256x5632_S256x768_0_2048)))
      (k1_pay31 (k1_pay4 (View.ld x0 (Rect.unit ![0, 0] ![256, 1024] inb_S256x1024_S256x1024_0_0))) (View.ld x3 (Rect.unit ![0, 4864] ![256, 768] inb_S256x5632_S256x768_0_4864)) (View.ld x5 (Rect.unit ![2048, 0] ![768, 1024] inb_S2816x1024_S768x1024_2048_0)))
      (k1_pay32 (View.ld x3 (Rect.unit ![0, 2048] ![256, 768] inb_S256x5632_S256x768_0_2048)))
      (View.ld x4 (Rect.unit ![0, 2048] ![1024, 768] inb_S1024x5632_S1024x768_0_2048)) (View.ld x4 (Rect.unit ![0, 4864] ![1024, 768] inb_S1024x5632_S1024x768_0_4864)))
      (dhOf Z W D Ct) := by
  have h14 := pay14 pay5 (pay12 (e0.ld (inb := inb_S256x1024_S256x1024_0_0)) (e3.ld (inb := inb_S256x5632_S256x1024_0_0)) (e3.ld (inb := inb_S256x5632_S256x1024_0_2816)) (e5.ldb (inb := inb_S2816x1024_S1024x1024_0_0)))
    (pay13 (e0.ld (inb := inb_S256x1024_S256x1024_0_0)) (e3.ld (inb := inb_S256x5632_S256x1024_0_0)) (e5.ldb (inb := inb_S2816x1024_S1024x1024_0_0))) (e4.ldb (inb := inb_S1024x5632_S1024x1024_0_0)) (e4.ldb (inb := inb_S1024x5632_S1024x1024_0_2816))
  have h24 := pay24 h14 (pay21 (pay4 (e0.ld (inb := inb_S256x1024_S256x1024_0_0))) (e3.ld (inb := inb_S256x5632_S256x1024_0_1024)) (e3.ld (inb := inb_S256x5632_S256x1024_0_3840)) (e5.ldb (inb := inb_S2816x1024_S1024x1024_1024_0)))
    (pay22 (pay4 (e0.ld (inb := inb_S256x1024_S256x1024_0_0))) (e3.ld (inb := inb_S256x5632_S256x1024_0_1024)) (e5.ldb (inb := inb_S2816x1024_S1024x1024_1024_0))) (e4.ldb (inb := inb_S1024x5632_S1024x1024_0_1024)) (e4.ldb (inb := inb_S1024x5632_S1024x1024_0_3840))
  have h35 := pay35 h24 (pay27 (pay4 (e0.ld (inb := inb_S256x1024_S256x1024_0_0))) (e5.ldb (inb := inb_S2816x1024_S768x1024_2048_0))) (pay29 (e3.ld (inb := inb_S256x5632_S256x768_0_2048)))
    (pay31 (pay4 (e0.ld (inb := inb_S256x1024_S256x1024_0_0))) (e3.ld (inb := inb_S256x5632_S256x768_0_4864)) (e5.ldb (inb := inb_S2816x1024_S768x1024_2048_0))) (pay32 (e3.ld (inb := inb_S256x5632_S256x768_0_2048))) (e4.ldb (inb := inb_S1024x5632_S1024x768_0_2048)) (e4.ldb (inb := inb_S1024x5632_S1024x768_0_4864))
  refine h35.to fun v _ => ?_
  show _ = dhOf Z W D Ct (v 0) (v 1)
  rw [dhOf_parts Z W D Ct _ _ _ rfl]
  simp only [mmT, zero_add, gate, up, dact, ← add_assoc, Nat.reduceAdd]

section First
variable (hc : cond1_0 i) {Ct X G Z W D : ℕ → ℕ → ℝ}

theorem outA_9 (e0 : Is2 x0 Ct) (e1 : Is2 x1 X) (e2 : Is2 x2 G) (e3 : Is2 x3 Z) (e4 : Is2 x4 W) (e5 : Is2 x5 D) :
    Is2 (out1_A_9 c i a1 h1 a2 h2 a3 h3 a4 h4 a5 h5 a6 h6 a7 h7 a8 h8 a9 h9 a10 h10 a11 h11 a12 h12 hc x0 x1 x2 x3 x4 x5) (nrm eps X (G 0)) := by
  unfold out1_A_9
  rw [View.read_writes_eq_canon _ _ _ (cover1_A_9 c i a1 h1 a2 h2 a3 h3 a4 h4 a5 h5 a6 h6 a7 h7 a8 h8 a9 h9 a10 h10 a11 h11 a12 h12 hc x0 x1 x2 x3 x4 x5)]
  refine is2_canonb (cover1_A_9 c i a1 h1 a2 h2 a3 h3 a4 h4 a5 h5 a6 h6 a7 h7 a8 h8 a9 h9 a10 h10 a11 h11 a12 h12 hc x0 x1 x2 x3 x4 x5) ?_
  unfold kernelRun1_A
  dsimp only
  sl_unfold_words
  simp only [View.readAt_eq_ld, h1.read_unread, h2.read_unread, h3.read_unread, h4.read_unread, h5.read_unread, h6.read_unread]
  refine ⟨Is2.piece (inb := inb_S256x1024_S256x1024_0_0) (pay37 (e1.ld (inb := inb_S256x1024_S256x1024_0_0)) (e2.ld (inb := inb_S1x1024_S1x1024_0_0)) |>.to ?_), trivial⟩
  exact fun v _ => by simp only [fn2, zero_add, nrm, xn, rs, msq]

theorem outA_10 (e0 : Is2 x0 Ct) (e1 : Is2 x1 X) (e2 : Is2 x2 G) (e3 : Is2 x3 Z) (e4 : Is2 x4 W) (e5 : Is2 x5 D) :
    Is2 (out1_A_10 c i a1 h1 a2 h2 a3 h3 a4 h4 a5 h5 a6 h6 a7 h7 a8 h8 a9 h9 a10 h10 a11 h11 a12 h12 hc x0 x1 x2 x3 x4 x5) Ct := by
  unfold out1_A_10
  rw [View.read_writes_eq_canon _ _ _ (cover1_A_10 c i a1 h1 a2 h2 a3 h3 a4 h4 a5 h5 a6 h6 a7 h7 a8 h8 a9 h9 a10 h10 a11 h11 a12 h12 hc x0 x1 x2 x3 x4 x5)]
  refine is2_canonb (cover1_A_10 c i a1 h1 a2 h2 a3 h3 a4 h4 a5 h5 a6 h6 a7 h7 a8 h8 a9 h9 a10 h10 a11 h11 a12 h12 hc x0 x1 x2 x3 x4 x5) ?_
  unfold kernelRun1_A
  dsimp only
  sl_unfold_words
  simp only [View.readAt_eq_ld, h1.read_unread, h2.read_unread, h3.read_unread, h4.read_unread, h5.read_unread, h6.read_unread]
  refine ⟨Is2.piece (inb := inb_S256x1024_S256x1024_0_0) (pay4 (e0.ld (inb := inb_S256x1024_S256x1024_0_0)) |>.to ?_), trivial⟩
  exact fun v _ => by simp only [fn2, zero_add]

theorem outA_7 (e0 : Is2 x0 Ct) (e1 : Is2 x1 X) (e2 : Is2 x2 G) (e3 : Is2 x3 Z) (e4 : Is2 x4 W) (e5 : Is2 x5 D) :
    Is2 (out1_A_7 c i a1 h1 a2 h2 a3 h3 a4 h4 a5 h5 a6 h6 a7 h7 a8 h8 a9 h9 a10 h10 a11 h11 a12 h12 hc x0 x1 x2 x3 x4 x5) (act Z) := by
  unfold out1_A_7
  rw [View.read_writes_eq_canon _ _ _ (cover1_A_7 c i a1 h1 a2 h2 a3 h3 a4 h4 a5 h5 a6 h6 a7 h7 a8 h8 a9 h9 a10 h10 a11 h11 a12 h12 hc x0 x1 x2 x3 x4 x5)]
  refine is2_canonb (cover1_A_7 c i a1 h1 a2 h2 a3 h3 a4 h4 a5 h5 a6 h6 a7 h7 a8 h8 a9 h9 a10 h10 a11 h11 a12 h12 hc x0 x1 x2 x3 x4 x5) ?_
  unfold kernelRun1_A
  dsimp only
  sl_unfold_words
  simp only [View.readAt_eq_ld, h1.read_unread, h2.read_unread, h3.read_unread, h4.read_unread, h5.read_unread, h6.read_unread]
  refine ⟨Is2.piece (inb := inb_S256x2816_S256x768_0_2048) (pay30 (e3.ld (inb := inb_S256x5632_S256x768_0_2048)) (e3.ld (inb := inb_S256x5632_S256x768_0_4864)) |>.to ?_),
    Is2.piece (inb := inb_S256x2816_S256x1024_0_1024) (pay20 (e3.ld (inb := inb_S256x5632_S256x1024_0_1024)) (e3.ld (inb := inb_S256x5632_S256x1024_0_3840)) |>.to ?_),
    Is2.piece (inb := inb_S256x2816_S256x1024_0_0) (pay11 (e3.ld (inb := inb_S256x5632_S256x1024_0_0)) (e3.ld (inb := inb_S256x5632_S256x1024_0_2816)) |>.to ?_), trivial⟩ <;>
  exact fun v _ => by simp only [fn2, zero_add, act, ← add_assoc, Nat.reduceAdd]

theorem outA_8 (e0 : Is2 x0 Ct) (e1 : Is2 x1 X) (e2 : Is2 x2 G) (e3 : Is2 x3 Z) (e4 : Is2 x4 W) (e5 : Is2 x5 D) :
    Is2 (out1_A_8 c i a1 h1 a2 h2 a3 h3 a4 h4 a5 h5 a6 h6 a7 h7 a8 h8 a9 h9 a10 h10 a11 h11 a12 h12 hc x0 x1 x2 x3 x4 x5) (dguOf Z (dact D Ct)) := by
  unfold out1_A_8
  rw [View.read_writes_eq_canon _ _ _ (cover1_A_8 c i a1 h1 a2 h2 a3 h3 a4 h4 a5 h5 a6 h6 a7 h7 a8 h8 a9 h9 a10 h10 a11 h11 a12 h12 hc x0 x1 x2 x3 x4 x5)]
  refine is2_canonb (cover1_A_8 c i a1 h1 a2 h2 a3 h3 a4 h4 a5 h5 a6 h6 a7 h7 a8 h8 a9 h9 a10 h10 a11 h11 a12 h12 hc x0 x1 x2 x3 x4 x5) ?_
  unfold kernelRun1_A
  dsimp only
  sl_unfold_words
  simp only [View.readAt_eq_ld, h1.read_unread, h2.read_unread, h3.read_unread, h4.read_unread, h5.read_unread, h6.read_unread]
  refine ⟨Is2.piece (inb := inb_S256x5632_S256x768_0_4864) (pay34 (pay27 (pay4 (e0.ld (inb := inb_S256x1024_S256x1024_0_0))) (e5.ldb (inb := inb_S2816x1024_S768x1024_2048_0))) (pay29 (e3.ld (inb := inb_S256x5632_S256x768_0_2048))) |>.to fun v _ => (up_part Z D Ct 2048 4864 rfl _ _).symm),
    Is2.piece (inb := inb_S256x5632_S256x768_0_2048) (pay33 (pay31 (pay4 (e0.ld (inb := inb_S256x1024_S256x1024_0_0))) (e3.ld (inb := inb_S256x5632_S256x768_0_4864)) (e5.ldb (inb := inb_S2816x1024_S768x1024_2048_0))) (pay32 (e3.ld (inb := inb_S256x5632_S256x768_0_2048))) |>.to fun v h => (gate_part Z D Ct 2048 4864 rfl _ _ (h 1) (by decide)).symm),
    Is2.piece (inb := inb_S256x5632_S256x1024_0_3840) (pay23 (pay22 (pay4 (e0.ld (inb := inb_S256x1024_S256x1024_0_0))) (e3.ld (inb := inb_S256x5632_S256x1024_0_1024)) (e5.ldb (inb := inb_S2816x1024_S1024x1024_1024_0))) |>.to fun v _ => (up_part Z D Ct 1024 3840 rfl _ _).symm),
    Is2.piece (inb := inb_S256x5632_S256x1024_0_1024) (pay21 (pay4 (e0.ld (inb := inb_S256x1024_S256x1024_0_0))) (e3.ld (inb := inb_S256x5632_S256x1024_0_1024)) (e3.ld (inb := inb_S256x5632_S256x1024_0_3840)) (e5.ldb (inb := inb_S2816x1024_S1024x1024_1024_0)) |>.to fun v h => (gate_part Z D Ct 1024 3840 rfl _ _ (h 1) (by decide)).symm),
    Is2.piece (inb := inb_S256x5632_S256x1024_0_2816) (pay13 (e0.ld (inb := inb_S256x1024_S256x1024_0_0)) (e3.ld (inb := inb_S256x5632_S256x1024_0_0)) (e5.ldb (inb := inb_S2816x1024_S1024x1024_0_0)) |>.to fun v _ => (up_part Z D Ct 0 2816 rfl _ _).symm),
    Is2.piece (inb := inb_S256x5632_S256x1024_0_0) (pay12 (e0.ld (inb := inb_S256x1024_S256x1024_0_0)) (e3.ld (inb := inb_S256x5632_S256x1024_0_0)) (e3.ld (inb := inb_S256x5632_S256x1024_0_2816)) (e5.ldb (inb := inb_S2816x1024_S1024x1024_0_0)) |>.to fun v h => (gate_part Z D Ct 0 2816 rfl _ _ (h 1) (by decide)).symm), trivial⟩

theorem outA_6 (e0 : Is2 x0 Ct) (e1 : Is2 x1 X) (e2 : Is2 x2 G) (e3 : Is2 x3 Z) (e4 : Is2 x4 W) (e5 : Is2 x5 D) :
    Is2 (out1_A_6 c i a1 h1 a2 h2 a3 h3 a4 h4 a5 h5 a6 h6 a7 h7 a8 h8 a9 h9 a10 h10 a11 h11 a12 h12 hc x0 x1 x2 x3 x4 x5) (dxOf eps X (G 0) Z W D Ct) := by
  unfold out1_A_6
  rw [View.read_writes_eq_canon _ _ _ (cover1_A_6 c i a1 h1 a2 h2 a3 h3 a4 h4 a5 h5 a6 h6 a7 h7 a8 h8 a9 h9 a10 h10 a11 h11 a12 h12 hc x0 x1 x2 x3 x4 x5)]
  refine is2_canonf (cover1_A_6 c i a1 h1 a2 h2 a3 h3 a4 h4 a5 h5 a6 h6 a7 h7 a8 h8 a9 h9 a10 h10 a11 h11 a12 h12 hc x0 x1 x2 x3 x4 x5) ?_
  unfold kernelRun1_A
  dsimp only
  sl_unfold_words
  simp only [View.readAt_eq_ld, h1.read_unread, h2.read_unread, h3.read_unread, h4.read_unread, h5.read_unread, h6.read_unread]
  have h35 := (pay35_dh x0 x3 x4 x5 e0 e3 e4 e5)
  have eG : Is2 (View.ld x2 (Rect.unit ![0, 0] ![1, 1024] inb_S1x1024_S1x1024_0_0)) G := (e2.ld (inb := inb_S1x1024_S1x1024_0_0)).to fun v _ => by simp only [fn2, zero_add]
  have eX : Is2 (View.ld x1 (Rect.unit ![0, 0] ![256, 1024] inb_S256x1024_S256x1024_0_0)) X := (e1.ld (inb := inb_S256x1024_S256x1024_0_0)).to fun v _ => by simp only [fn2, zero_add]
  refine ⟨Is2.piece (inb := inb_S256x1024_S256x1024_0_0) (pay2 (e0.ld (inb := inb_S256x1024_S256x1024_0_0)) (pay36 eX) (pay38 eX) (pay39 h35 eG) (pay40 h35 eX eG) |>.to ?_), trivial⟩
  exact fun v _ => by simp only [fn2, dxOf, zero_add]

theorem outA_11 (e0 : Is2 x0 Ct) (e1 : Is2 x1 X) (e2 : Is2 x2 G) (e3 : Is2 x3 Z) (e4 : Is2 x4 W) (e5 : Is2 x5 D) :
    Is2 (out1_A_11 c i a1 h1 a2 h2 a3 h3 a4 h4 a5 h5 a6 h6 a7 h7 a8 h8 a9 h9 a10 h10 a11 h11 a12 h12 hc x0 x1 x2 x3 x4 x5) fun i k => if i < 1 then ∑ j ∈ Finset.range 256, dhOf Z W D Ct j k * xn eps X j k else 0 := by
  unfold out1_A_11 kernelRun1_A
  dsimp only
  sl_unfold_words
  simp only [View.readAt_eq_ld, h1.read_unread, h2.read_unread, h3.read_unread, h4.read_unread, h5.read_unread, h6.read_unread]
  rw [View.readCov_fill _ _ _ _ _ fun a => by fin_cases a <;> rfl]
  have hr := pay1 (pay35_dh x0 x3 x4 x5 e0 e3 e4 e5) (pay38 (e1.ld (inb := inb_S256x1024_S256x1024_0_0))) (pay3.ld (inb := inb_S8x1024_S1x1024_0_0))
  exact (is2_firstRow (inb := inb_S8x1024_S1x1024_0_0) hr (is2_fill (inb := inb_S8x1024_S8x1024_0_0) pay3)).to fun v _ => by simp only [fn2, zero_add]

end First

theorem outB_11 (hc : ¬ cond1_0 i) (xo : Vec Ideal S8x1024 .f32) {Ct X G Z W D O : ℕ → ℕ → ℝ} (eo : Is2 xo O)
    (e0 : Is2 x0 Ct) (e1 : Is2 x1 X) (e2 : Is2 x2 G) (e3 : Is2 x3 Z) (e4 : Is2 x4 W) (e5 : Is2 x5 D) :
    Is2 (out1_B_11 c i a1 h1 a2 h2 a3 h3 a4 h4 a5 h5 a6 h6 a7 h7 a8 h8 a9 h9 a10 h10 a11 h11 a12 h12 hc x0 x1 x2 x3 x4 x5 xo) fun i k => if i < 1 then O i k + ∑ j ∈ Finset.range 256, dhOf Z W D Ct j k * xn eps X j k else O i k := by
  unfold out1_B_11 kernelRun1_B
  dsimp only
  sl_unfold_words
  simp only [View.readAt_eq_ld, h1.read_unread, h2.read_unread, h3.read_unread, h4.read_unread, h5.read_unread, h6.read_unread, h12.read_unread]
  have hr := pay1 (pay35_dh x0 x3 x4 x5 e0 e3 e4 e5) (pay38 (e1.ld (inb := inb_S256x1024_S256x1024_0_0))) (eo.ld (inb := inb_S8x1024_S1x1024_0_0))
  refine (is2_firstRow (inb := inb_S8x1024_S1x1024_0_0) hr (B := O) ?_).to fun v _ => by simp only [fn2, zero_add]
  rw [View.writes_nil, h12.read_unread]
  exact eo

/-! The first point's results are the other points' too, but for the row. -/

theorem out_eq_6 (i' : grid1.Coords) (hc : ¬ cond1_0 i) (hc' : cond1_0 i') (xo : Vec Ideal S8x1024 .f32) :
    out1_B_6 c i a1 h1 a2 h2 a3 h3 a4 h4 a5 h5 a6 h6 a7 h7 a8 h8 a9 h9 a10 h10 a11 h11 a12 h12 hc x0 x1 x2 x3 x4 x5 xo = out1_A_6 c i' a1 h1 a2 h2 a3 h3 a4 h4 a5 h5 a6 h6 a7 h7 a8 h8 a9 h9 a10 h10 a11 h11 a12 h12 hc' x0 x1 x2 x3 x4 x5 := by
  unfold out1_B_6 out1_A_6 kernelRun1_B kernelRun1_A
  rfl

theorem out_eq_7 (i' : grid1.Coords) (hc : ¬ cond1_0 i) (hc' : cond1_0 i') (xo : Vec Ideal S8x1024 .f32) :
    out1_B_7 c i a1 h1 a2 h2 a3 h3 a4 h4 a5 h5 a6 h6 a7 h7 a8 h8 a9 h9 a10 h10 a11 h11 a12 h12 hc x0 x1 x2 x3 x4 x5 xo = out1_A_7 c i' a1 h1 a2 h2 a3 h3 a4 h4 a5 h5 a6 h6 a7 h7 a8 h8 a9 h9 a10 h10 a11 h11 a12 h12 hc' x0 x1 x2 x3 x4 x5 := by
  unfold out1_B_7 out1_A_7 kernelRun1_B kernelRun1_A
  rfl

theorem out_eq_8 (i' : grid1.Coords) (hc : ¬ cond1_0 i) (hc' : cond1_0 i') (xo : Vec Ideal S8x1024 .f32) :
    out1_B_8 c i a1 h1 a2 h2 a3 h3 a4 h4 a5 h5 a6 h6 a7 h7 a8 h8 a9 h9 a10 h10 a11 h11 a12 h12 hc x0 x1 x2 x3 x4 x5 xo = out1_A_8 c i' a1 h1 a2 h2 a3 h3 a4 h4 a5 h5 a6 h6 a7 h7 a8 h8 a9 h9 a10 h10 a11 h11 a12 h12 hc' x0 x1 x2 x3 x4 x5 := by
  unfold out1_B_8 out1_A_8 kernelRun1_B kernelRun1_A
  rfl

theorem out_eq_9 (i' : grid1.Coords) (hc : ¬ cond1_0 i) (hc' : cond1_0 i') (xo : Vec Ideal S8x1024 .f32) :
    out1_B_9 c i a1 h1 a2 h2 a3 h3 a4 h4 a5 h5 a6 h6 a7 h7 a8 h8 a9 h9 a10 h10 a11 h11 a12 h12 hc x0 x1 x2 x3 x4 x5 xo = out1_A_9 c i' a1 h1 a2 h2 a3 h3 a4 h4 a5 h5 a6 h6 a7 h7 a8 h8 a9 h9 a10 h10 a11 h11 a12 h12 hc' x0 x1 x2 x3 x4 x5 := by
  unfold out1_B_9 out1_A_9 kernelRun1_B kernelRun1_A
  rfl

theorem out_eq_10 (i' : grid1.Coords) (hc : ¬ cond1_0 i) (hc' : cond1_0 i') (xo : Vec Ideal S8x1024 .f32) :
    out1_B_10 c i a1 h1 a2 h2 a3 h3 a4 h4 a5 h5 a6 h6 a7 h7 a8 h8 a9 h9 a10 h10 a11 h11 a12 h12 hc x0 x1 x2 x3 x4 x5 xo = out1_A_10 c i' a1 h1 a2 h2 a3 h3 a4 h4 a5 h5 a6 h6 a7 h7 a8 h8 a9 h9 a10 h10 a11 h11 a12 h12 hc' x0 x1 x2 x3 x4 x5 := by
  unfold out1_B_10 out1_A_10 kernelRun1_B kernelRun1_A
  rfl

end Cert.KernelIdeal.Bwd

end
-- ==== Proof.BwdArray.lean ====
/-
  The arrays the backward call leaves: blocks of 256 rows, and the gain's gradient, summed over the blocks in the first
  of eight rows.
-/
module

public import proofs.«01_k».proof.Proof.BwdBlock
public import Idealize.ShloMosaic.Lib.Pipeline.ValueKit

@[expose] public section

set_option maxRecDepth 16384

noncomputable section

namespace Cert.KernelIdeal.Bwd

open Cert.KernelIdeal Cert.KernelIdeal.Gen Cert.Reals Cert.Math Idealize.ShloMosaic Idealize.ShloMosaic.TcCoe Idealize.ShloMosaic.Pipeline

variable (V : (c : Dev nD) → (b : Ref sig .tc) → Buf (Elt Ideal) ((c : Thread nD τ).loc b)) (c : Dev nD)
  {Ct X G Z W D : ℕ → ℕ → ℝ}

theorem at_ct (t : Fin cfg1.N) : win1_0.index t 0 = t.val ∧ win1_0.index t 1 = 0 :=
  (by decide +kernel : ∀ t : Fin grid1.N, win1_0.index t 0 = t.val ∧ win1_0.index t 1 = 0) t
theorem at_x (t : Fin cfg1.N) : win1_1.index t 0 = t.val ∧ win1_1.index t 1 = 0 :=
  (by decide +kernel : ∀ t : Fin grid1.N, win1_1.index t 0 = t.val ∧ win1_1.index t 1 = 0) t
theorem at_g (t : Fin cfg1.N) : win1_2.index t 0 = 0 ∧ win1_2.index t 1 = 0 :=
  (by decide +kernel : ∀ t : Fin grid1.N, win1_2.index t 0 = 0 ∧ win1_2.index t 1 = 0) t
theorem at_z (t : Fin cfg1.N) : win1_3.index t 0 = t.val ∧ win1_3.index t 1 = 0 :=
  (by decide +kernel : ∀ t : Fin grid1.N, win1_3.index t 0 = t.val ∧ win1_3.index t 1 = 0) t
theorem at_w (t : Fin cfg1.N) : win1_4.index t 0 = 0 ∧ win1_4.index t 1 = 0 :=
  (by decide +kernel : ∀ t : Fin grid1.N, win1_4.index t 0 = 0 ∧ win1_4.index t 1 = 0) t
theorem at_d (t : Fin cfg1.N) : win1_5.index t 0 = 0 ∧ win1_5.index t 1 = 0 :=
  (by decide +kernel : ∀ t : Fin grid1.N, win1_5.index t 0 = 0 ∧ win1_5.index t 1 = 0) t
theorem at_o6 (t : Fin cfg1.N) : win1_6.index t 0 = t.val ∧ win1_6.index t 1 = 0 :=
  (by decide +kernel : ∀ t : Fin grid1.N, win1_6.index t 0 = t.val ∧ win1_6.index t 1 = 0) t
theorem at_o7 (t : Fin cfg1.N) : win1_7.index t 0 = t.val ∧ win1_7.index t 1 = 0 :=
  (by decide +kernel : ∀ t : Fin grid1.N, win1_7.index t 0 = t.val ∧ win1_7.index t 1 = 0) t
theorem at_o8 (t : Fin cfg1.N) : win1_8.index t 0 = t.val ∧ win1_8.index t 1 = 0 :=
  (by decide +kernel : ∀ t : Fin grid1.N, win1_8.index t 0 = t.val ∧ win1_8.index t 1 = 0) t
theorem at_o9 (t : Fin cfg1.N) : win1_9.index t 0 = t.val ∧ win1_9.index t 1 = 0 :=
  (by decide +kernel : ∀ t : Fin grid1.N, win1_9.index t 0 = t.val ∧ win1_9.index t 1 = 0) t
theorem at_o10 (t : Fin cfg1.N) : win1_10.index t 0 = t.val ∧ win1_10.index t 1 = 0 :=
  (by decide +kernel : ∀ t : Fin grid1.N, win1_10.index t 0 = t.val ∧ win1_10.index t 1 = 0) t
theorem at_dg (t : Fin cfg1.N) : win1_11.index t 0 = 0 ∧ win1_11.index t 1 = 0 :=
  (by decide +kernel : ∀ t : Fin grid1.N, win1_11.index t 0 = 0 ∧ win1_11.index t 1 = 0) t

theorem blk_ct (h : Is2 (V c main_arg4) Ct) (t : Fin cfg1.N) : Is2 (m := 256) (n := 1024) (iblk1 V c 0 t) (fun i k => Ct (t.val * 256 + i) k) := fun y => by
  blk_simp [iblk1]
  refine (h _).trans ?_
  blk_simp
  exact coe_tile Ct (at_ct t).1 (at_ct t).2 256 1024 (y 0).val (y 1).val

theorem blk_x (h : Is2 (V c main_arg0) X) (t : Fin cfg1.N) : Is2 (m := 256) (n := 1024) (iblk1 V c 1 t) (fun i k => X (t.val * 256 + i) k) := fun y => by
  blk_simp [iblk1]
  refine (h _).trans ?_
  blk_simp
  exact coe_tile X (at_x t).1 (at_x t).2 256 1024 (y 0).val (y 1).val

theorem blk_g (h : Is2 (V c main_arg1) G) (t : Fin cfg1.N) : Is2 (m := 1) (n := 1024) (iblk1 V c 2 t) G := fun y => by
  blk_simp [iblk1]
  refine (h _).trans ?_
  blk_simp
  exact coe_whole G (at_g t).1 (at_g t).2 1 1024 (y 0).val (y 1).val

theorem blk_z (h : Is2 (V c main_v2_1) Z) (t : Fin cfg1.N) : Is2 (m := 256) (n := 5632) (iblk1 V c 3 t) (fun i k => Z (t.val * 256 + i) k) := fun y => by
  blk_simp [iblk1]
  refine (h _).trans ?_
  blk_simp
  exact coe_tile Z (at_z t).1 (at_z t).2 256 5632 (y 0).val (y 1).val

theorem blk_w (h : Is2 (V c main_v0) W) (t : Fin cfg1.N) : Is2 (m := 1024) (n := 5632) (iblk1 V c 4 t) W := fun y => by
  blk_simp [iblk1]
  refine (h _).trans ?_
  blk_simp
  exact coe_whole W (at_w t).1 (at_w t).2 1024 5632 (y 0).val (y 1).val

theorem blk_d (h : Is2 (V c main_v1) D) (t : Fin cfg1.N) : Is2 (m := 2816) (n := 1024) (iblk1 V c 5 t) D := fun y => by
  blk_simp [iblk1]
  refine (h _).trans ?_
  blk_simp
  exact coe_whole D (at_d t).1 (at_d t).2 2816 1024 (y 0).val (y 1).val

theorem covers_6 : (cfg1.win 6).Covers := by decide +kernel
theorem covers_7 : (cfg1.win 7).Covers := by decide +kernel
theorem covers_8 : (cfg1.win 8).Covers := by decide +kernel
theorem covers_9 : (cfg1.win 9).Covers := by decide +kernel
theorem covers_10 : (cfg1.win 10).Covers := by decide +kernel
theorem covers_11 : (cfg1.win 11).Covers := by decide +kernel
theorem last_dg : ∀ t : Fin cfg1.N, (cfg1.win 11).flush t = true → t.val = 31 :=
  (by decide +kernel : ∀ t : Fin grid1.N, win1_11.flush t = true → t.val = 31)

/-- The first point, where the sum is started. -/
theorem first : cond1_0 (grid1.coords ⟨0, by decide⟩) := (hcond1_0 ⟨0, by decide⟩).mpr rfl

variable (hct : Is2 (V c main_arg4) Ct) (hx : Is2 (V c main_arg0) X) (hg : Is2 (V c main_arg1) G) (hz : Is2 (V c main_v2_1) Z)
  (hw : Is2 (V c main_v0) W) (hd : Is2 (V c main_v1) D)
include hct hx hg hz hw hd

/-- What one point leaves of the five row-wise results. -/
theorem outs (t : Fin cfg1.N) :
    (Is2 (m := 256) (n := 1024) (outsAt1 V c t.val t.isLt).1 fun i k => (dxOf eps X (G 0) Z W D Ct) (t.val * 256 + i) k)
    ∧ (Is2 (m := 256) (n := 2816) (outsAt1 V c t.val t.isLt).2.1 fun i k => (act Z) (t.val * 256 + i) k)
    ∧ (Is2 (m := 256) (n := 5632) (outsAt1 V c t.val t.isLt).2.2.1 fun i k => (dguOf Z (dact D Ct)) (t.val * 256 + i) k)
    ∧ (Is2 (m := 256) (n := 1024) (outsAt1 V c t.val t.isLt).2.2.2.1 fun i k => (nrm eps X (G 0)) (t.val * 256 + i) k)
    ∧ (Is2 (m := 256) (n := 1024) (outsAt1 V c t.val t.isLt).2.2.2.2.1 fun i k => (Ct) (t.val * 256 + i) k) := by
  by_cases h0 : t.val % 32 = 0
  · rw [outsAt1_A V c t h0]
    dsimp only
    refine ⟨(outA_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) ((hcond1_0 t).mpr h0) (blk_ct V c hct t) (blk_x V c hx t) (blk_g V c hg t) (blk_z V c hz t) (blk_w V c hw t) (blk_d V c hd t)).to fun v _ => rfl,
      (outA_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) ((hcond1_0 t).mpr h0) (blk_ct V c hct t) (blk_x V c hx t) (blk_g V c hg t) (blk_z V c hz t) (blk_w V c hw t) (blk_d V c hd t)).to fun v _ => rfl,
      (outA_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) ((hcond1_0 t).mpr h0) (blk_ct V c hct t) (blk_x V c hx t) (blk_g V c hg t) (blk_z V c hz t) (blk_w V c hw t) (blk_d V c hd t)).to fun v _ => rfl,
      (outA_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) ((hcond1_0 t).mpr h0) (blk_ct V c hct t) (blk_x V c hx t) (blk_g V c hg t) (blk_z V c hz t) (blk_w V c hw t) (blk_d V c hd t)).to fun v _ => rfl,
      (outA_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) ((hcond1_0 t).mpr h0) (blk_ct V c hct t) (blk_x V c hx t) (blk_g V c hg t) (blk_z V c hz t) (blk_w V c hw t) (blk_d V c hd t)).to fun v _ => rfl⟩
  · rw [outsAt1_B V c t h0]
    dsimp only
    rw [out_eq_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) _ (fun h => h0 ((hcond1_0 t).mp h)) first,
      out_eq_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) _ (fun h => h0 ((hcond1_0 t).mp h)) first,
      out_eq_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) _ (fun h => h0 ((hcond1_0 t).mp h)) first,
      out_eq_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) _ (fun h => h0 ((hcond1_0 t).mp h)) first,
      out_eq_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) _ (fun h => h0 ((hcond1_0 t).mp h)) first]
    refine ⟨(outA_6 c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) first (blk_ct V c hct t) (blk_x V c hx t) (blk_g V c hg t) (blk_z V c hz t) (blk_w V c hw t) (blk_d V c hd t)).to fun v _ => rfl,
      (outA_7 c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) first (blk_ct V c hct t) (blk_x V c hx t) (blk_g V c hg t) (blk_z V c hz t) (blk_w V c hw t) (blk_d V c hd t)).to fun v _ => rfl,
      (outA_8 c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) first (blk_ct V c hct t) (blk_x V c hx t) (blk_g V c hg t) (blk_z V c hz t) (blk_w V c hw t) (blk_d V c hd t)).to fun v _ => rfl,
      (outA_9 c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) first (blk_ct V c hct t) (blk_x V c hx t) (blk_g V c hg t) (blk_z V c hz t) (blk_w V c hw t) (blk_d V c hd t)).to fun v _ => rfl,
      (outA_10 c _ (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) first (blk_ct V c hct t) (blk_x V c hx t) (blk_g V c hg t) (blk_z V c hz t) (blk_w V c hw t) (blk_d V c hd t)).to fun v _ => rfl⟩

/-- What a point's 256 rows add to the gain's gradient. -/
theorem dg_first (t : Fin cfg1.N) (h0 : t.val % 32 = 0) : Is2 (m := 8) (n := 1024) (outsAt1 V c t.val t.isLt).2.2.2.2.2
    fun i k => if i < 1 then ∑ j ∈ Finset.range 256, dhOf Z W D Ct (t.val * 256 + j) k * xn eps X (t.val * 256 + j) k else 0 := by
  rw [outsAt1_A V c t h0]
  dsimp only
  exact (outA_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) ((hcond1_0 t).mpr h0) (blk_ct V c hct t) (blk_x V c hx t) (blk_g V c hg t) (blk_z V c hz t) (blk_w V c hw t) (blk_d V c hd t)).to fun v _ => rfl
theorem dg_next (t : Fin cfg1.N) (h0 : ¬ t.val % 32 = 0) {O : ℕ → ℕ → ℝ}
    (hO : Is2 (m := 8) (n := 1024) (outsAt1 V c (t.val - 1) (Nat.lt_of_le_of_lt (Nat.sub_le _ _) t.isLt)).2.2.2.2.2 O) :
    Is2 (m := 8) (n := 1024) (outsAt1 V c t.val t.isLt).2.2.2.2.2
      fun i k => if i < 1 then O i k + ∑ j ∈ Finset.range 256, dhOf Z W D Ct (t.val * 256 + j) k * xn eps X (t.val * 256 + j) k else O i k := by
  rw [outsAt1_B V c t h0]
  dsimp only
  exact (outB_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (fun h => h0 ((hcond1_0 t).mp h)) _ hO (blk_ct V c hct t) (blk_x V c hx t) (blk_g V c hg t) (blk_z V c hz t) (blk_w V c hw t) (blk_d V c hd t)).to fun v _ => rfl

/-- The gain's gradient after point `n`: the sum over the rows so far, in the first row. -/
theorem outs_dg : ∀ (n : ℕ) (h : n < cfg1.N), Is2 (m := 8) (n := 1024) (outsAt1 V c n h).2.2.2.2.2
    fun i k => if i < 1 then ∑ j ∈ Finset.range (256 * (n + 1)), dhOf Z W D Ct j k * xn eps X j k else 0
  | 0, h => (dg_first V c hct hx hg hz hw hd ⟨0, h⟩ rfl).to fun v _ => by simp only [fn2, Nat.zero_mul, Nat.zero_add, Nat.mul_one]
  | n + 1, h => by
    have hn : n + 1 < 32 := h
    refine (dg_next V c hct hx hg hz hw hd ⟨n + 1, h⟩ (fun h0 => by dsimp only at h0; omega) (outs_dg n (Nat.lt_of_succ_lt h))).to fun v _ => ?_
    simp only [fn2]
    split
    · rw [Nat.mul_add_one 256 (n + 1), Finset.sum_range_add, Nat.mul_comm 256 (n + 1)]
    · rfl

/-- The input's gradient. -/
theorem arr_6 : Is2 (m := 8192) (n := 1024) ((dat1 V c).arrAt 6 cfg1.N) (dxOf eps X (G 0) Z W D Ct) :=
  (dat1 V c).arrAt_forall_of_covers 6 (fun i v => v = ((fn2 (dxOf eps X (G 0) Z W D Ct) fun a => (i a).val : ℝ) : EReal)) covers_6 fun t hf y => by
    blk_simp
    rw [after1_6]
    exact ((outs V c hct hx hg hz hw hd t).1 y).trans (coe_tile (dxOf eps X (G 0) Z W D Ct) (at_o6 t).1 (at_o6 t).2 256 1024 (y 0).val (y 1).val).symm

/-- The activation. -/
theorem arr_7 : Is2 (m := 8192) (n := 2816) ((dat1 V c).arrAt 7 cfg1.N) (act Z) :=
  (dat1 V c).arrAt_forall_of_covers 7 (fun i v => v = ((fn2 (act Z) fun a => (i a).val : ℝ) : EReal)) covers_7 fun t hf y => by
    blk_simp
    rw [after1_7]
    exact ((outs V c hct hx hg hz hw hd t).2.1 y).trans (coe_tile (act Z) (at_o7 t).1 (at_o7 t).2 256 2816 (y 0).val (y 1).val).symm

/-- The two projections' gradient. -/
theorem arr_8 : Is2 (m := 8192) (n := 5632) ((dat1 V c).arrAt 8 cfg1.N) (dguOf Z (dact D Ct)) :=
  (dat1 V c).arrAt_forall_of_covers 8 (fun i v => v = ((fn2 (dguOf Z (dact D Ct)) fun a => (i a).val : ℝ) : EReal)) covers_8 fun t hf y => by
    blk_simp
    rw [after1_8]
    exact ((outs V c hct hx hg hz hw hd t).2.2.1 y).trans (coe_tile (dguOf Z (dact D Ct)) (at_o8 t).1 (at_o8 t).2 256 5632 (y 0).val (y 1).val).symm

/-- The normalised rows. -/
theorem arr_9 : Is2 (m := 8192) (n := 1024) ((dat1 V c).arrAt 9 cfg1.N) (nrm eps X (G 0)) :=
  (dat1 V c).arrAt_forall_of_covers 9 (fun i v => v = ((fn2 (nrm eps X (G 0)) fun a => (i a).val : ℝ) : EReal)) covers_9 fun t hf y => by
    blk_simp
    rw [after1_9]
    exact ((outs V c hct hx hg hz hw hd t).2.2.2.1 y).trans (coe_tile (nrm eps X (G 0)) (at_o9 t).1 (at_o9 t).2 256 1024 (y 0).val (y 1).val).symm

/-- The result's gradient, narrowed. -/
theorem arr_10 : Is2 (m := 8192) (n := 1024) ((dat1 V c).arrAt 10 cfg1.N) Ct :=
  (dat1 V c).arrAt_forall_of_covers 10 (fun i v => v = ((fn2 Ct fun a => (i a).val : ℝ) : EReal)) covers_10 fun t hf y => by
    blk_simp
    rw [after1_10]
    exact ((outs V c hct hx hg hz hw hd t).2.2.2.2 y).trans (coe_tile Ct (at_o10 t).1 (at_o10 t).2 256 1024 (y 0).val (y 1).val).symm

/-- The gain's gradient: the sum over all rows, the other seven rows nought. -/
theorem arr_11 : Is2 (m := 8) (n := 1024) ((dat1 V c).arrAt 11 cfg1.N)
    fun i k => if i < 1 then ∑ j ∈ Finset.range 8192, dhOf Z W D Ct j k * xn eps X j k else 0 :=
  (dat1 V c).arrAt_forall_of_covers 11 (fun i v => v = ((fn2 (fun i k => if i < 1 then ∑ j ∈ Finset.range 8192, dhOf Z W D Ct j k * xn eps X j k else 0) fun a => (i a).val : ℝ) : EReal)) covers_11 fun t hf y => by
    blk_simp
    rw [after1_11]
    refine (outs_dg V c hct hx hg hz hw hd t.val t.isLt y).trans ?_
    rw [last_dg t hf]
    exact (coe_whole (fun i k => if i < 1 then ∑ j ∈ Finset.range 8192, dhOf Z W D Ct j k * xn eps X j k else 0) (at_dg t).1 (at_dg t).2 8 1024 (y 0).val (y 1).val).symm

end Cert.KernelIdeal.Bwd

end
-- ==== Proof.Run.lean ====
/-
  The run of the two calls: every buffer ends at the contents named boundary by boundary.
-/
module

public import proofs.«01_k».proof.Proof.Gen.KernelIdeal.Frame

@[expose] public section

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every weakly fair execution ends, nothing faulting, with every unscoped buffer at its contents after the second call. -/
theorem run : θ_run defs (onTc (τ := τ) (main (F := F))) ⟨m, fun _ => 0, ρ⟩ (fun r => (∀ c : Dev nD,
      ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.KernelIdeal.Run

end
-- ==== Proof.Values.lean ====
/-
  The values both calls leave, as functions of the program's arguments.
-/
module

public import proofs.«01_k».proof.Proof.FwdArray
public import proofs.«01_k».proof.Proof.BwdArray
public import proofs.«01_k».proof.Proof.Run

@[expose] public section

set_option maxRecDepth 16384

noncomputable section

namespace Cert.KernelIdeal.Values

open Cert.KernelIdeal Cert.KernelIdeal.Gen Cert.Reals Cert.Math Idealize.ShloMosaic Idealize.ShloMosaic.TcCoe

variable (m : (ℓ : Loc nD τ sig) → Buf (Elt Ideal) ℓ) (ρ : Dev nD → PrngReg) (c : Dev nD) {X G W D Ct : ℕ → ℕ → ℝ}

/-- The host's casts leave the values. -/
theorem w_gu (h : Is2 (m ((c : Thread nD τ).loc main_arg2)) W) : Is2 (V1 m ρ c main_v0) W := by
  show Is2 (StableHlo.after hostOps0 (W0 m ρ c) (Proc.devRef .tc main_v0)) W
  after_results
  exact h.trunc
theorem w_d (h : Is2 (m ((c : Thread nD τ).loc main_arg3)) D) : Is2 (V1 m ρ c main_v1) D := by
  show Is2 (StableHlo.after hostOps0 (W0 m ρ c) (Proc.devRef .tc main_v1)) D
  after_results
  exact h.trunc
theorem w_gu2 (h : Is2 (m ((c : Thread nD τ).loc main_arg2)) W) : Is2 (V2 m ρ c main_v0) W := by
  show Is2 (W2 m ρ c (Proc.devRef .tc main_v0)) W
  rw [W2_of m ρ c main_v0 (by decide)]; exact w_gu m ρ c h
theorem w_d2 (h : Is2 (m ((c : Thread nD τ).loc main_arg3)) D) : Is2 (V2 m ρ c main_v1) D := by
  show Is2 (W2 m ρ c (Proc.devRef .tc main_v1)) D
  rw [W2_of m ρ c main_v1 (by decide)]; exact w_d m ρ c h

/-- An argument as the first and the second call find it. -/
theorem arg1 (a : Ref sig .tc) (ha : a ∈ argRefs) : V1 m ρ c a = m ((c : Thread nD τ).loc a) := W1_args m ρ c a ha
theorem arg2 (a : Ref sig .tc) (ha : a ∈ argRefs) : V2 m ρ c a = m ((c : Thread nD τ).loc a) := W2_args m ρ c a ha

variable (hx : Is2 (m ((c : Thread nD τ).loc main_arg0)) X) (hg : Is2 (m ((c : Thread nD τ).loc main_arg1)) G)
  (hw : Is2 (m ((c : Thread nD τ).loc main_arg2)) W) (hd : Is2 (m ((c : Thread nD τ).loc main_arg3)) D)
include hx hg hw hd

theorem v2_0 : Is2 (m := 8192) (n := 1024) (W2 m ρ c (Proc.devRef .tc main_v2_0)) (out eps X (G 0) W D) := by
  rw [show W2 m ρ c (Proc.devRef .tc main_v2_0) = _ from W2_arr m ρ c 4]
  exact Fwd.arr_out (V1 m ρ) c (arg1 m ρ c main_arg0 (by decide) ▸ hx) (arg1 m ρ c main_arg1 (by decide) ▸ hg) (w_gu m ρ c hw) (w_d m ρ c hd)
theorem v2_1 : Is2 (m := 8192) (n := 5632) (W2 m ρ c (Proc.devRef .tc main_v2_1)) (gu eps X (G 0) W) := by
  rw [show W2 m ρ c (Proc.devRef .tc main_v2_1) = _ from W2_arr m ρ c 5]
  exact Fwd.arr_gu (V1 m ρ) c (arg1 m ρ c main_arg0 (by decide) ▸ hx) (arg1 m ρ c main_arg1 (by decide) ▸ hg) (w_gu m ρ c hw) (w_d m ρ c hd)

/-- The first call's results outlast the second. -/
theorem r0 : Is2 (m := 8192) (n := 1024) (W3 m ρ c (Proc.devRef .tc main_v2_0)) (out eps X (G 0) W D) := by
  rw [W3_of m ρ c main_v2_0 (by decide)]; exact v2_0 m ρ c hx hg hw hd
theorem r1 : Is2 (m := 8192) (n := 5632) (W3 m ρ c (Proc.devRef .tc main_v2_1)) (gu eps X (G 0) W) := by
  rw [W3_of m ρ c main_v2_1 (by decide)]; exact v2_1 m ρ c hx hg hw hd

variable (hct : Is2 (m ((c : Thread nD τ).loc main_arg4)) Ct)
include hct

theorem r2 : Is2 (m := 8192) (n := 1024) (W3 m ρ c (Proc.devRef .tc main_v3_0)) (dx eps X (G 0) W D Ct) := by
  rw [show W3 m ρ c (Proc.devRef .tc main_v3_0) = _ from W3_arr m ρ c 6]
  exact Bwd.arr_6 (V2 m ρ) c (arg2 m ρ c main_arg4 (by decide) ▸ hct) (arg2 m ρ c main_arg0 (by decide) ▸ hx) (arg2 m ρ c main_arg1 (by decide) ▸ hg)
    (v2_1 m ρ c hx hg hw hd) (w_gu2 m ρ c hw) (w_d2 m ρ c hd)
theorem r3 : Is2 (m := 8192) (n := 2816) (W3 m ρ c (Proc.devRef .tc main_v3_1)) (act (gu eps X (G 0) W)) := by
  rw [show W3 m ρ c (Proc.devRef .tc main_v3_1) = _ from W3_arr m ρ c 7]
  exact Bwd.arr_7 (V2 m ρ) c (arg2 m ρ c main_arg4 (by decide) ▸ hct) (arg2 m ρ c main_arg0 (by decide) ▸ hx) (arg2 m ρ c main_arg1 (by decide) ▸ hg)
    (v2_1 m ρ c hx hg hw hd) (w_gu2 m ρ c hw) (w_d2 m ρ c hd)
theorem r4 : Is2 (m := 8192) (n := 5632) (W3 m ρ c (Proc.devRef .tc main_v3_2)) (dgu eps X (G 0) W D Ct) := by
  rw [show W3 m ρ c (Proc.devRef .tc main_v3_2) = _ from W3_arr m ρ c 8]
  exact Bwd.arr_8 (V2 m ρ) c (arg2 m ρ c main_arg4 (by decide) ▸ hct) (arg2 m ρ c main_arg0 (by decide) ▸ hx) (arg2 m ρ c main_arg1 (by decide) ▸ hg)
    (v2_1 m ρ c hx hg hw hd) (w_gu2 m ρ c hw) (w_d2 m ρ c hd)
theorem r5 : Is2 (m := 8192) (n := 1024) (W3 m ρ c (Proc.devRef .tc main_v3_3)) (nrm eps X (G 0)) := by
  rw [show W3 m ρ c (Proc.devRef .tc main_v3_3) = _ from W3_arr m ρ c 9]
  exact Bwd.arr_9 (V2 m ρ) c (arg2 m ρ c main_arg4 (by decide) ▸ hct) (arg2 m ρ c main_arg0 (by decide) ▸ hx) (arg2 m ρ c main_arg1 (by decide) ▸ hg)
    (v2_1 m ρ c hx hg hw hd) (w_gu2 m ρ c hw) (w_d2 m ρ c hd)
theorem r6 : Is2 (m := 8192) (n := 1024) (W3 m ρ c (Proc.devRef .tc main_v3_4)) Ct := by
  rw [show W3 m ρ c (Proc.devRef .tc main_v3_4) = _ from W3_arr m ρ c 10]
  exact Bwd.arr_10 (V2 m ρ) c (arg2 m ρ c main_arg4 (by decide) ▸ hct) (arg2 m ρ c main_arg0 (by decide) ▸ hx) (arg2 m ρ c main_arg1 (by decide) ▸ hg)
    (v2_1 m ρ c hx hg hw hd) (w_gu2 m ρ c hw) (w_d2 m ρ c hd)
theorem r7 : Is2 (m := 8) (n := 1024) (W3 m ρ c (Proc.devRef .tc main_v3_5)) (dgainRows eps X (G 0) W D Ct) := by
  rw [show W3 m ρ c (Proc.devRef .tc main_v3_5) = _ from W3_arr m ρ c 11]
  exact Bwd.arr_11 (V2 m ρ) c (arg2 m ρ c main_arg4 (by decide) ▸ hct) (arg2 m ρ c main_arg0 (by decide) ▸ hx) (arg2 m ρ c main_arg1 (by decide) ▸ hg)
    (v2_1 m ρ c hx hg hw hd) (w_gu2 m ρ c hw) (w_d2 m ρ c hd)

end Cert.KernelIdeal.Values

end
-- ==== Proof.Reference.lean ====
/-
  What the reference computes: each of its results, as a function on the reals.
-/
module

public import proofs.«01_k».proof.Proof.Gen.ReferenceIdeal.Read
public import proofs.«01_k».proof.Proof.Reals
public import proofs.«01_k».proof.Proof.Math

@[expose] public section

noncomputable section

namespace Cert.ReferenceIdeal.Reading

open Cert.ReferenceIdeal Cert.ReferenceIdeal.Gen Cert.ReferenceIdeal.Read Cert.Reals Cert.Math Idealize.ShloMosaic

variable {x0 : (⟨S8192x1024, .f32⟩ : BufTy).Contents (Elt Ideal)} {x1 : (⟨S1x1024, .f32⟩ : BufTy).Contents (Elt Ideal)}
  {x2 : (⟨S1024x5632, .f32⟩ : BufTy).Contents (Elt Ideal)} {x3 : (⟨S2816x1024, .f32⟩ : BufTy).Contents (Elt Ideal)}
  {x4 : (⟨S8192x1024, .f32⟩ : BufTy).Contents (Elt Ideal)} {x g wgu wd ct : ℕ → ℕ → ℝ}

theorem v6 (h0 : Is2 x0 x) : Is2 (val_main_v6 (F := Ideal) x0) fun i _ => msq eps x i := by
  have h : Is2 (val_main_v0 (F := Ideal) x0) fun i k => x i k * x i k := h0.mul h0
  exact ((h.hsumRow fun _ => bits_zero).hcol.hdiv (is_bscalar fun _ => bits_1024) fun _ => by norm_num).add
    (is_bscalar fun _ => bits_eps) |>.to fun v _ => rfl

theorem v7 (h0 : Is2 x0 x) : Is2 (val_main_v7 (F := Ideal) x0) fun i _ => rs eps x i :=
  (v6 h0).hrsqrt (fun v => msq_pos eps_pos x _) |>.to fun v _ => rfl

theorem v10 (h0 : Is2 x0 x) : Is2 (val_main_v10 (F := Ideal) x0) fun i _ => -(1 / 2) * (rs eps x i / msq eps x i) :=
  Is.mul (is_bscalar fun _ => bits_neg_half) ((v7 h0).hdiv (v6 h0) fun v => (msq_pos eps_pos x _).ne') |>.to fun v _ => rfl

theorem v12 (h0 : Is2 x0 x) : Is2 (val_main_v12 (F := Ideal) x0) (xn eps x) :=
  h0.mul (v7 h0).hbcol |>.to fun v _ => rfl

theorem v14 (h0 : Is2 x0 x) (h1 : Is2 x1 g) : Is2 (val_main_v14 (F := Ideal) x0 x1) (nrm eps x (g 0)) :=
  (v12 h0).mul h1.hbrow |>.to fun v _ => rfl

theorem v15 (h0 : Is2 x0 x) (h1 : Is2 x1 g) (h2 : Is2 x2 wgu) : Is2 (val_main_v15 (F := Ideal) x0 x1 x2) (gu eps x (g 0) wgu) :=
  (v14 h0 h1).hdot h2 |>.to fun v _ => rfl

theorem v16 (h0 : Is2 x0 x) (h1 : Is2 x1 g) (h2 : Is2 x2 wgu) : Is2 (val_main_v16 (F := Ideal) x0 x1 x2) (gu eps x (g 0) wgu) :=
  (v15 h0 h1 h2).slice 0 0 |>.to fun v _ => by simp only [fn2, zero_add]

theorem v17 (h0 : Is2 x0 x) (h1 : Is2 x1 g) (h2 : Is2 x2 wgu) :
    Is2 (val_main_v17 (F := Ideal) x0 x1 x2) fun i j => gu eps x (g 0) wgu i (2816 + j) :=
  (v15 h0 h1 h2).slice 0 2816 |>.to fun v _ => by simp only [fn2, zero_add]

theorem v18_2 (h0 : Is2 x0 x) (h1 : Is2 x1 g) (h2 : Is2 x2 wgu) :
    Is2 (val_main_v18_2 (F := Ideal) x0 x1 x2) fun i j => sgm (gu eps x (g 0) wgu i j) :=
  Is.hdiv (is_bscalar fun _ => bits_one) (Is.add (is_bscalar fun _ => bits_one) (v16 h0 h1 h2).hneg.hexp)
    (fun v => sgm_den _) |>.to fun v _ => rfl

theorem v18_1 (h0 : Is2 x0 x) (h1 : Is2 x1 g) (h2 : Is2 x2 wgu) :
    Is2 (val_main_v18_1 (F := Ideal) x0 x1 x2) fun i j => sgm (gu eps x (g 0) wgu i j) * (1 - sgm (gu eps x (g 0) wgu i j)) :=
  (v18_2 h0 h1 h2).mul (Is.sub (is_bscalar fun _ => bits_one) (v18_2 h0 h1 h2)) |>.to fun v _ => rfl

theorem v18_0 (h0 : Is2 x0 x) (h1 : Is2 x1 g) (h2 : Is2 x2 wgu) :
    Is2 (val_main_v18_0 (F := Ideal) x0 x1 x2) fun i j => gu eps x (g 0) wgu i j * sgm (gu eps x (g 0) wgu i j) :=
  (v16 h0 h1 h2).mul (v18_2 h0 h1 h2) |>.to fun v _ => rfl

theorem v19 (h0 : Is2 x0 x) (h1 : Is2 x1 g) (h2 : Is2 x2 wgu) : Is2 (val_main_v19 (F := Ideal) x0 x1 x2) (act (gu eps x (g 0) wgu)) :=
  (v18_0 h0 h1 h2).mul (v17 h0 h1 h2) |>.to fun v _ => rfl

theorem v21 (h0 : Is2 x0 x) (h1 : Is2 x1 g) (h2 : Is2 x2 wgu) (h3 : Is2 x3 wd) :
    Is2 (val_main_v21 (F := Ideal) x0 x1 x2 x3) (out eps x (g 0) wgu wd) :=
  h0.add ((v19 h0 h1 h2).hdot h3) |>.to fun v _ => rfl

theorem v23 (h3 : Is2 x3 wd) (h4 : Is2 x4 ct) : Is2 (val_main_v23 (F := Ideal) x3 x4) (dact wd ct) :=
  Is2.hdotT (h4.shapeCast_self : Is2 _ ct) h3 |>.to fun v _ => rfl

theorem v27 (h0 : Is2 x0 x) (h1 : Is2 x1 g) (h2 : Is2 x2 wgu) (h3 : Is2 x3 wd) (h4 : Is2 x4 ct) :
    Is2 (val_main_v27 (F := Ideal) x0 x1 x2 x3 x4) (dgu eps x (g 0) wgu wd ct) := by
  have h25 : Is2 (val_main_v25 (F := Ideal) x0 x1 x2 x3 x4) fun i j => dact wd ct i j * gu eps x (g 0) wgu i (2816 + j) :=
    (v23 h3 h4).mul (v17 h0 h1 h2) |>.to fun v _ => rfl
  have h26 : Is2 (val_main_v26 (F := Ideal) x0 x1 x2 x3 x4) (gate (gu eps x (g 0) wgu) (fun i j => gu eps x (g 0) wgu i (2816 + j)) (dact wd ct)) :=
    (h25.mul (v18_2 h0 h1 h2)).add (((v16 h0 h1 h2).mul h25).mul (v18_1 h0 h1 h2)) |>.to fun v _ => by
      simp only [fn2, gate]; ring
  have h24 : Is2 (val_main_v24 (F := Ideal) x0 x1 x2 x3 x4) (up (gu eps x (g 0) wgu) (dact wd ct)) :=
    (v18_0 h0 h1 h2).mul (v23 h3 h4) |>.to fun v _ => mul_comm _ _
  exact h26.beside h24 rfl |>.to fun v _ => rfl

theorem v28 (h0 : Is2 x0 x) (h1 : Is2 x1 g) (h2 : Is2 x2 wgu) (h3 : Is2 x3 wd) (h4 : Is2 x4 ct) :
    Is2 (val_main_v28 (F := Ideal) x0 x1 x2 x3 x4) (dh eps x (g 0) wgu wd ct) :=
  (v27 h0 h1 h2 h3 h4).hdotT h2 |>.to fun v _ => rfl

theorem v48 (h0 : Is2 x0 x) (h1 : Is2 x1 g) (h2 : Is2 x2 wgu) (h3 : Is2 x3 wd) (h4 : Is2 x4 ct) :
    Is2 (val_main_v48 (F := Ideal) x0 x1 x2 x3 x4) (dx eps x (g 0) wgu wd ct) := by
  have h33 : Is2 (val_main_v33 (F := Ideal) x0 x1 x2 x3 x4) fun i k => dh eps x (g 0) wgu wd ct i k * g 0 k :=
    (v28 h0 h1 h2 h3 h4).mul h1.hbrow |>.to fun v _ => rfl
  have h34 : Is2 (val_main_v34 (F := Ideal) x0 x1 x2 x3 x4) fun i k => x i k * (dh eps x (g 0) wgu wd ct i k * g 0 k) :=
    h0.mul h33 |>.to fun v _ => rfl
  have h36 : Is2 (val_main_v36 (F := Ideal) x0 x1 x2 x3 x4) fun i _ => ∑ k ∈ Finset.range 1024, x i k * (dh eps x (g 0) wgu wd ct i k * g 0 k) :=
    (h34.hsumRow fun _ => bits_zero).col |>.to fun v _ => rfl
  have h42 : Is2 (val_main_v42 (F := Ideal) x0 x1 x2 x3 x4) fun i _ =>
      (∑ k ∈ Finset.range 1024, x i k * (dh eps x (g 0) wgu wd ct i k * g 0 k)) * (-(1 / 2) * (rs eps x i / msq eps x i)) / 1024 :=
    (h36.mul (v10 h0)).hdiv (is_bscalar fun _ => bits_1024) (fun v => by norm_num) |>.to fun v _ => rfl
  have h44 : Is2 (val_main_v44 (F := Ideal) x0 x1 x2 x3 x4) fun i _ =>
      (∑ k ∈ Finset.range 1024, x i k * (dh eps x (g 0) wgu wd ct i k * g 0 k)) * (-(1 / 2) * (rs eps x i / msq eps x i)) / 1024 :=
    (h42.hsumRow fun _ => bits_zero).hcols |>.to fun v _ => by simp only [fn2, Finset.sum_range_one]
  have h38 : Is2 (val_main_v38 (F := Ideal) x0 x1 x2 x3 x4) fun i k => dh eps x (g 0) wgu wd ct i k * g 0 k * rs eps x i :=
    h33.mul (v7 h0).hbcol |>.to fun v _ => rfl
  exact ((h4.add h38).add (h0.mul h44)).add (h44.mul h0) |>.to fun v _ =>
    nrmBack_eq eps_pos x (fun i k => dh eps x (g 0) wgu wd ct i k * g 0 k) (ct (v 0) (v 1)) (v 0) (v 1) _ rfl

theorem v60 (h0 : Is2 x0 x) (h1 : Is2 x1 g) (h2 : Is2 x2 wgu) (h3 : Is2 x3 wd) (h4 : Is2 x4 ct) :
    Is2 (val_main_v60 (F := Ideal) x0 x1 x2 x3 x4) (dgainRows eps x (g 0) wgu wd ct) := by
  have h29 : Is2 (val_main_v29 (F := Ideal) x0 x1 x2 x3 x4) fun i k => xn eps x i k * dh eps x (g 0) wgu wd ct i k :=
    (v12 h0).mul (v28 h0 h1 h2 h3 h4) |>.to fun v _ => rfl
  have h31 : Is2 (val_main_v31 (F := Ideal) x0 x1 x2 x3 x4) fun _ k => dgain eps x (g 0) wgu wd ct k :=
    (h29.hsumCol fun _ => bits_zero).row |>.to fun v _ => Finset.sum_congr rfl fun i _ => mul_comm _ _
  have h59 : Is2 (val_main_v59 (F := Ideal)) fun _ _ => 0 := is_bscalar fun _ => bits_zero
  exact h31.above h59 rfl |>.to fun v _ => rfl

theorem v61 (h0 : Is2 x0 x) (h1 : Is2 x1 g) (h2 : Is2 x2 wgu) : Is2 (val_main_v61 (F := Ideal) x0 x1 x2) (act (gu eps x (g 0) wgu)) :=
  (v19 h0 h1 h2).trunc |>.to fun v _ => rfl

/-- The second derivative of the gated product is the first's, from the same factors. -/
theorem v58_eq : val_main_v58 (F := Ideal) x0 x1 x2 x3 x4 = val_main_v27 (F := Ideal) x0 x1 x2 x3 x4 := by
  have h : val_main_v22 (F := Ideal) x4 = x4 := shapeCast_self x4 _
  unfold val_main_v27 val_main_v26 val_main_v24 val_main_call1_v1 val_main_call1_v2 val_main_call1_v0 val_main_v25 val_main_v23
  rw [h]
  rfl

theorem v62 (h0 : Is2 x0 x) (h1 : Is2 x1 g) (h2 : Is2 x2 wgu) (h3 : Is2 x3 wd) (h4 : Is2 x4 ct) :
    Is2 (val_main_v62 (F := Ideal) x0 x1 x2 x3 x4) (dgu eps x (g 0) wgu wd ct) :=
  Is.trunc (v58_eq ▸ v27 h0 h1 h2 h3 h4) |>.to fun v _ => rfl

theorem v63 (h0 : Is2 x0 x) (h1 : Is2 x1 g) : Is2 (val_main_v63 (F := Ideal) x0 x1) (nrm eps x (g 0)) :=
  (v14 h0 h1).trunc |>.to fun v _ => rfl

theorem v64 (h4 : Is2 x4 ct) : Is2 (val_main_v64 (F := Ideal) x4) ct := h4.trunc |>.to fun v _ => rfl

end Cert.ReferenceIdeal.Reading

end
-- ==== Proof.Finite.lean ====
/-
  Finite arguments are real numbers.
-/
module

public import proofs.«01_k».proof.Pre_finite
public import proofs.«01_k».proof.Proof.Reals

@[expose] public section

noncomputable section

namespace Cert.Reals

open Idealize.ShloMosaic

theorem bits_inf : (FloatOps.ofBits (F := Ideal) .f32 0x7F800000#32 : EReal) = ⊤ := by
  show Ideal.ofBits .f32 0x7F800000#32 = ⊤
  simp [Ideal.ofBits, Ideal.ieee, -EReal.coe_mul]

theorem abs_lt_top {x : EReal} (h : Ideal.cmp .olt (max x (-x)) ⊤ = 1#1) : ((x.toReal : ℝ) : EReal) = x := by
  refine EReal.coe_toReal ?_ ?_ <;> rintro rfl <;> revert h <;> simp [Ideal.cmp]

/-- An array below infinity in absolute value, as a real function of the coordinates. -/
def reals {m n : ℕ} (x : (⟨2, ![m, n]⟩ : Shape).Idx → EReal) (i j : ℕ) : ℝ :=
  if h : i < m ∧ j < n then (x (fun a => match a with | ⟨0, _⟩ => ⟨i, h.1⟩ | ⟨1, _⟩ => ⟨j, h.2⟩)).toReal else 0

theorem is2_reals {m n : ℕ} {S0 : Shape} (x : FVec Ideal ⟨2, ![m, n]⟩ .f32) {d : Fin S0.rank → Fin 2}
    {hb : S0.BroadcastsInDim ⟨2, ![m, n]⟩ d}
    (h : cmpf .olt (Host.absf x) (broadcastInDim ⟨2, ![m, n]⟩ d hb (constant (F := Ideal) S0 .f32 0x7F800000#32)) = fun _ => 1#1) :
    Is2 (m := m) (n := n) x (reals x) := fun y => by
  have hy : Ideal.cmp .olt (max (x y) (-(x y))) (FloatOps.ofBits (F := Ideal) .f32 0x7F800000#32 : EReal) = 1#1 := congrFun h y
  rw [bits_inf] at hy
  refine (abs_lt_top hy).symm.trans ?_
  show _ = ((reals x (y 0).val (y 1).val : ℝ) : EReal)
  rw [reals, dif_pos ⟨(y 0).isLt, (y 1).isLt⟩]
  congr 2
  congr 1
  funext a
  match a with
  | ⟨0, _⟩ => rfl
  | ⟨1, _⟩ => rfl

end Cert.Reals

end
-- ==== Proof.Ffn.lean ====
/-
  The block of the two calls (gated feed-forward, forward and backward) equals the reference's derivative.
-/
module

public import proofs.«01_k».proof.Defs
public import proofs.«01_k».proof.Proof.Values
public import proofs.«01_k».proof.Proof.Reference
public import proofs.«01_k».proof.Proof.Finite
public import proofs.«01_k».proof.Proof.Gen.Pre_finite
public import proofs.«01_k».proof.Proof.Gen.ReferenceIdeal.Run

@[expose] public section

set_option maxRecDepth 16384

noncomputable section

namespace Cert.Proof.Ffn

open Idealize.ShloMosaic Idealize.ShloMosaic.TcCoe Idealize.SL.Sem Cert.KernelIdeal Cert.KernelIdeal.Gen Cert.Reals

/-- The reference leaves its arguments and declares no semaphore. -/
theorem frame_reference : Cert.quiescent_ReferenceIdeal := fun m ρ _ =>
  (θ_run Cert.ReferenceIdeal.defs _ _).mono
    (fun r h => ⟨fun c => (h c).2.2.2.2.2.2.2.2, Idealize.ShloMosaic.sem_eq_zero_of_no_sems (by decide) r.2⟩)
    (Cert.ReferenceIdeal.Value.run (F := Ideal) m ρ)

/-- The same values, in an equal array. -/
theorem _root_.Cert.Reals.Is2.of_eq {m n : ℕ} {x y : (⟨2, ![m, n]⟩ : Shape).Idx → EReal} {f : ℕ → ℕ → ℝ} (h : Is2 (m := m) (n := n) x f) (e : y = x) :
    Is2 (m := m) (n := n) y f := e ▸ h

/-- Equal real functions, equal arrays: every result of the kernel against the reference's. -/
theorem algebraic : Cert.algebraic_KernelIdeal_ReferenceIdeal_pre_finite := by
  intro m g m' g' hpre hagree
  have hx c := is2_reals _ (hpre c).1
  have hg c := is2_reals _ (hpre c).2.1
  have hw c := is2_reals _ (hpre c).2.2.1
  have hd c := is2_reals _ (hpre c).2.2.2.1
  have ht c := is2_reals _ (hpre c).2.2.2.2
  have kx c := (hx c).of_eq (hagree c).1
  have kg c := (hg c).of_eq (hagree c).2.1
  have kw c := (hw c).of_eq (hagree c).2.2.1
  have kd c := (hd c).of_eq (hagree c).2.2.2.1
  have kt c := (ht c).of_eq (hagree c).2.2.2.2
  refine ⟨fun c => W3 m g c (Proc.devRef .tc main_v2_0), fun c => W3 m g c (Proc.devRef .tc main_v2_1),
    fun c => W3 m g c (Proc.devRef .tc main_v3_0), fun c => W3 m g c (Proc.devRef .tc main_v3_1),
    fun c => W3 m g c (Proc.devRef .tc main_v3_2), fun c => W3 m g c (Proc.devRef .tc main_v3_3),
    fun c => W3 m g c (Proc.devRef .tc main_v3_4), fun c => W3 m g c (Proc.devRef .tc main_v3_5), ?_, ?_⟩
  · exact (θ_run Cert.KernelIdeal.defs _ _).mono
      (fun r h c => ⟨h.1 c _ (mem_uc main_v2_0 (by decide)), h.1 c _ (mem_uc main_v2_1 (by decide)), h.1 c _ (mem_uc main_v3_0 (by decide)),
        h.1 c _ (mem_uc main_v3_1 (by decide)), h.1 c _ (mem_uc main_v3_2 (by decide)), h.1 c _ (mem_uc main_v3_3 (by decide)),
        h.1 c _ (mem_uc main_v3_4 (by decide)), h.1 c _ (mem_uc main_v3_5 (by decide)),
        (h.1 c _ (mem_uc main_arg0 (by decide))).trans (W3_main_arg0 m g c), (h.1 c _ (mem_uc main_arg1 (by decide))).trans (W3_main_arg1 m g c),
        (h.1 c _ (mem_uc main_arg2 (by decide))).trans (W3_main_arg2 m g c), (h.1 c _ (mem_uc main_arg3 (by decide))).trans (W3_main_arg3 m g c),
        (h.1 c _ (mem_uc main_arg4 (by decide))).trans (W3_main_arg4 m g c)⟩)
      (Cert.KernelIdeal.Run.run m g)
  · refine (θ_run Cert.ReferenceIdeal.defs _ _).mono (fun r h c => ?_) (Cert.ReferenceIdeal.Value.run (F := Ideal) m' g')
    obtain ⟨h0, h1, h2, h3, h4, h5, h6, h7, ha⟩ := h c
    exact ⟨(h0.trans (Cert.ReferenceIdeal.Read.val_main_v21_eq _ _ _ _)).trans
        (Is.eq (Cert.ReferenceIdeal.Reading.v21 (kx c) (kg c) (kw c) (kd c)) (Values.r0 m g c (hx c) (hg c) (hw c) (hd c))),
      (h1.trans (Cert.ReferenceIdeal.Read.val_main_v15_eq _ _ _)).trans
        (Is.eq (Cert.ReferenceIdeal.Reading.v15 (kx c) (kg c) (kw c)) (Values.r1 m g c (hx c) (hg c) (hw c) (hd c))),
      (h2.trans (Cert.ReferenceIdeal.Read.val_main_v48_eq m' c)).trans
        (Is.eq (Cert.ReferenceIdeal.Reading.v48 (kx c) (kg c) (kw c) (kd c) (kt c)) (Values.r2 m g c (hx c) (hg c) (hw c) (hd c) (ht c))),
      (h3.trans (Cert.ReferenceIdeal.Read.val_main_v61_eq _ _ _)).trans
        (Is.eq (Cert.ReferenceIdeal.Reading.v61 (kx c) (kg c) (kw c)) (Values.r3 m g c (hx c) (hg c) (hw c) (hd c) (ht c))),
      (h4.trans (Cert.ReferenceIdeal.Read.val_main_v62_eq m' c)).trans
        (Is.eq (Cert.ReferenceIdeal.Reading.v62 (kx c) (kg c) (kw c) (kd c) (kt c)) (Values.r4 m g c (hx c) (hg c) (hw c) (hd c) (ht c))),
      (h5.trans (Cert.ReferenceIdeal.Read.val_main_v63_eq _ _)).trans
        (Is.eq (Cert.ReferenceIdeal.Reading.v63 (kx c) (kg c)) (Values.r5 m g c (hx c) (hg c) (hw c) (hd c) (ht c))),
      (h6.trans (Cert.ReferenceIdeal.Read.val_main_v64_eq _)).trans
        (Is.eq (Cert.ReferenceIdeal.Reading.v64 (kt c)) (Values.r6 m g c (hx c) (hg c) (hw c) (hd c) (ht c))),
      (h7.trans (Cert.ReferenceIdeal.Read.val_main_v60_eq m' c)).trans
        (Is.eq (Cert.ReferenceIdeal.Reading.v60 (kx c) (kg c) (kw c) (kd c) (kt c)) (Values.r7 m g c (hx c) (hg c) (hw c) (hd c) (ht c))), ha⟩

end Cert.Proof.Ffn

end
-- ==== Proof.AMath.lean ====
/-
  Sliding-window attention on the reals, one block of 128 queries against its 256 keys, and its gradients, as functions
  of natural-number coordinates.  Sixteen query heads of 64 columns share four key heads; a query of row `r` sees the keys
  `s` of the window `r < s ≤ r + 128`, the first 128 keys (the block before) not at all in a sequence's first block, and a
  sink of its head.
-/
module

public import Mathlib.Analysis.SpecialFunctions.Exp
public import Mathlib.Tactic.Ring
public import Mathlib.Tactic.FieldSimp
public import Mathlib.Tactic.Positivity

@[expose] public section

noncomputable section

namespace Cert.Math

open scoped BigOperators
open Finset (range)

/-- What one block's attention reads: queries, keys, values, the output's gradient, the slope and the sink of each head, and
    whether it is the first block of its sequence. -/
structure Blk where
  q : ℕ → ℕ → ℝ
  k : ℕ → ℕ → ℝ
  v : ℕ → ℕ → ℝ
  o : ℕ → ℕ → ℝ
  sl : ℕ → ℝ
  sk : ℕ → ℝ
  first : Bool

/-- The keys that row `r` sees. -/
def vis (first : Bool) (r s : ℕ) : Bool := decide (r < s) && decide (s ≤ r + 128) && (!first || decide (128 ≤ s))

namespace Blk

variable (B : Blk)

/-- The score of row `r` and key `s` under head `h`, with its distance penalty. -/
def sc (h r s : ℕ) : ℝ :=
  (∑ d ∈ range 64, B.q r (64 * h + d) * B.k s (64 * (h / 4) + d)) - B.sl h * ((r : ℝ) + 128 - s)

/-- The weights before they are normalised, their sum with the sink's, and the weights. -/
def ex (h r s : ℕ) : ℝ := if vis B.first r s then Real.exp (B.sc h r s) else 0
def den (h r : ℕ) : ℝ := (∑ s ∈ range 256, B.ex h r s) + Real.exp (B.sk h)
def p (h r s : ℕ) : ℝ := B.ex h r s / B.den h r
def ps (h r : ℕ) : ℝ := Real.exp (B.sk h) / B.den h r

/-- The block's output. -/
def out (r c : ℕ) : ℝ := ∑ s ∈ range 256, B.p (c / 64) r s * B.v s (64 * (c / 64 / 4) + c % 64)

/-- The gradient of the weights, its mean under the weights, and the gradient of the scores. -/
def dp (h r s : ℕ) : ℝ := ∑ d ∈ range 64, B.o r (64 * h + d) * B.v s (64 * (h / 4) + d)
def dl (h r : ℕ) : ℝ := ∑ s ∈ range 256, B.p h r s * B.dp h r s
def ds (h r s : ℕ) : ℝ := B.p h r s * (B.dp h r s - B.dl h r)

/-- The gradients of the queries, of the keys and the values (a head's part of them), and of the sinks. -/
def dq (r c : ℕ) : ℝ := ∑ s ∈ range 256, B.ds (c / 64) r s * B.k s (64 * (c / 64 / 4) + c % 64)
def dkh (h s d : ℕ) : ℝ := ∑ r ∈ range 128, B.ds h r s * B.q r (64 * h + d)
def dvh (h s d : ℕ) : ℝ := ∑ r ∈ range 128, B.p h r s * B.o r (64 * h + d)
def dk (s c : ℕ) : ℝ := ∑ g ∈ range 4, B.dkh (4 * (c / 64) + g) s (c % 64)
def dv (s c : ℕ) : ℝ := ∑ g ∈ range 4, B.dvh (4 * (c / 64) + g) s (c % 64)
def dsk (h : ℕ) : ℝ := ∑ r ∈ range 128, -(B.ps h r * B.dl h r)

theorem ex_nonneg (h r s : ℕ) : 0 ≤ B.ex h r s := by
  unfold ex; split
  · exact (Real.exp_pos _).le
  · exact le_rfl

theorem den_pos (h r : ℕ) : 0 < B.den h r :=
  add_pos_of_nonneg_of_pos (Finset.sum_nonneg fun _ _ => B.ex_nonneg _ _ _) (Real.exp_pos _)

theorem p_hidden {h r s : ℕ} (hv : vis B.first r s = false) : B.p h r s = 0 := by
  simp [p, ex, hv]

/-! ## Keys that no row sees do not matter -/

/-- Two blocks that agree where a row looks. -/
structure Same (B C : Blk) : Prop where
  q : ∀ r c, r < 128 → c < 1024 → B.q r c = C.q r c
  o : ∀ r c, r < 128 → c < 1024 → B.o r c = C.o r c
  k : ∀ s c, s < 256 → c < 256 → (B.first = true → 128 ≤ s) → B.k s c = C.k s c
  v : ∀ s c, s < 256 → c < 256 → (B.first = true → 128 ≤ s) → B.v s c = C.v s c
  sl : ∀ h, h < 16 → B.sl h = C.sl h
  sk : ∀ h, h < 16 → B.sk h = C.sk h
  first : B.first = C.first

theorem seen {f : Bool} {r s : ℕ} (hv : vis f r s = true) : r < s ∧ s ≤ r + 128 ∧ (f = true → 128 ≤ s) := by
  simp only [vis, Bool.and_eq_true, decide_eq_true_eq, Bool.or_eq_true, Bool.not_eq_true'] at hv
  exact ⟨hv.1.1, hv.1.2, fun hf => hv.2.elim (fun h => absurd hf (by simp [h])) id⟩

variable {B} {C : Blk} (H : Same B C)
include H

theorem Same.ex_eq {h r s : ℕ} (hh : h < 16) (hr : r < 128) (hs : s < 256) : B.ex h r s = C.ex h r s := by
  unfold ex; rw [← H.first]
  split
  · next hv =>
    have hw := seen hv
    unfold sc
    rw [H.sl h hh]
    refine congrArg Real.exp (congrArg (· - _) (Finset.sum_congr rfl fun d hd => ?_))
    have := Finset.mem_range.1 hd
    rw [H.q _ _ hr (by omega), H.k _ _ hs (by omega) hw.2.2]
  · rfl

theorem Same.den_eq {h r : ℕ} (hh : h < 16) (hr : r < 128) : B.den h r = C.den h r := by
  unfold den
  rw [H.sk h hh, Finset.sum_congr rfl fun s hs => H.ex_eq hh hr (Finset.mem_range.1 hs)]

theorem Same.p_eq {h r s : ℕ} (hh : h < 16) (hr : r < 128) (hs : s < 256) : B.p h r s = C.p h r s := by
  unfold p; rw [H.ex_eq hh hr hs, H.den_eq hh hr]

theorem Same.ps_eq {h r : ℕ} (hh : h < 16) (hr : r < 128) : B.ps h r = C.ps h r := by
  unfold ps; rw [H.sk h hh, H.den_eq hh hr]

/-- A sum under the weights only looks at visible keys. -/
theorem Same.p_mul {h r s : ℕ} (hh : h < 16) (hr : r < 128) (hs : s < 256) {x y : ℝ}
    (hxy : (B.first = true → 128 ≤ s) → x = y) : B.p h r s * x = C.p h r s * y := by
  rw [H.p_eq hh hr hs]
  by_cases hv : vis C.first r s = true
  · rw [hxy (by rw [H.first]; exact (seen hv).2.2)]
  · rw [C.p_hidden (by simpa using hv), zero_mul, zero_mul]

theorem Same.dp_eq {h r s : ℕ} (hh : h < 16) (hr : r < 128) (hs : s < 256) (hv : B.first = true → 128 ≤ s) :
    B.dp h r s = C.dp h r s := by
  refine Finset.sum_congr rfl fun d hd => ?_
  have := Finset.mem_range.1 hd
  rw [H.o _ _ hr (by omega), H.v _ _ hs (by omega) hv]

theorem Same.dl_eq {h r : ℕ} (hh : h < 16) (hr : r < 128) : B.dl h r = C.dl h r :=
  Finset.sum_congr rfl fun _ hs => H.p_mul hh hr (Finset.mem_range.1 hs) fun hv => H.dp_eq hh hr (Finset.mem_range.1 hs) hv

theorem Same.ds_mul {h r s : ℕ} (hh : h < 16) (hr : r < 128) (hs : s < 256) {x y : ℝ}
    (hxy : (B.first = true → 128 ≤ s) → x = y) : B.ds h r s * x = C.ds h r s * y := by
  unfold ds
  rw [mul_assoc, mul_assoc]
  exact H.p_mul hh hr hs fun hv => by rw [H.dp_eq hh hr hs hv, H.dl_eq hh hr, hxy hv]

theorem Same.out_eq {r c : ℕ} (hr : r < 128) (hc : c < 1024) : B.out r c = C.out r c :=
  Finset.sum_congr rfl fun _ hs => H.p_mul (by omega) hr (Finset.mem_range.1 hs) fun hv =>
    H.v _ _ (Finset.mem_range.1 hs) (by omega) hv

theorem Same.dq_eq {r c : ℕ} (hr : r < 128) (hc : c < 1024) : B.dq r c = C.dq r c :=
  Finset.sum_congr rfl fun _ hs => H.ds_mul (by omega) hr (Finset.mem_range.1 hs) fun hv =>
    H.k _ _ (Finset.mem_range.1 hs) (by omega) hv

theorem Same.dk_eq {s c : ℕ} (hs : s < 256) (hc : c < 256) : B.dk s c = C.dk s c := by
  refine Finset.sum_congr rfl fun g hg => Finset.sum_congr rfl fun r hr => ?_
  have := Finset.mem_range.1 hg
  exact H.ds_mul (by omega) (Finset.mem_range.1 hr) hs fun _ => H.q _ _ (Finset.mem_range.1 hr) (by omega)

theorem Same.dv_eq {s c : ℕ} (hs : s < 256) (hc : c < 256) : B.dv s c = C.dv s c := by
  refine Finset.sum_congr rfl fun g hg => Finset.sum_congr rfl fun r hr => ?_
  have := Finset.mem_range.1 hg
  exact H.p_mul (by omega) (Finset.mem_range.1 hr) hs fun _ => H.o _ _ (Finset.mem_range.1 hr) (by omega)

theorem Same.dsk_eq {h : ℕ} (hh : h < 16) : B.dsk h = C.dsk h :=
  Finset.sum_congr rfl fun r hr => by rw [H.ps_eq hh (Finset.mem_range.1 hr), H.dl_eq hh (Finset.mem_range.1 hr)]

end Blk

/-! ## The window folded on 128 columns -/

/-- The key that column `j` of row `r` stands for: of the block itself up to the diagonal, of the block before beyond it. -/
def fold (r j : ℕ) : ℕ := if j ≤ r then 128 + j else j

theorem sum_fold (first : Bool) (F : ℕ → ℝ) {r : ℕ} (hr : r < 128) (h0 : ∀ s, vis first r s = false → F s = 0) :
    ∑ s ∈ range 256, F s = ∑ j ∈ range 128, F (fold r j) := by
  have h256 : (256 : ℕ) = 128 + 128 := rfl
  rw [h256, Finset.sum_range_add, ← Finset.sum_add_distrib]
  refine Finset.sum_congr rfl fun j hj => ?_
  have := Finset.mem_range.1 hj
  unfold fold
  split
  · rw [h0 j, zero_add]
    simp [vis]; omega
  · rw [h0 (128 + j), add_zero]
    simp [vis]; omega

theorem vis_fold {first : Bool} {r j : ℕ} (hr : r < 128) (hj : j < 128) :
    vis first r (fold r j) = !(first && decide (r < j)) := by
  unfold fold vis
  split
  · next h =>
    rw [decide_eq_true (show r < 128 + j by omega), decide_eq_true (show 128 + j ≤ r + 128 by omega),
      decide_eq_true (show 128 ≤ 128 + j by omega), decide_eq_false (show ¬ r < j by omega)]
    cases first <;> rfl
  · next h =>
    rw [decide_eq_true (show r < j by omega), decide_eq_true (show j ≤ r + 128 by omega),
      decide_eq_false (show ¬ 128 ≤ j by omega)]
    cases first <;> rfl

theorem sum_unfold (F : ℕ → ℝ) (r : ℕ) (hr : r < 128) :
    ∑ i ∈ range 256, (if i < 128 then (if i ≤ r then 0 else F i) else (if i - 128 ≤ r then F i else 0)) = ∑ j ∈ range 128, F (fold r j) := by
  have h256 : (256 : ℕ) = 128 + 128 := rfl
  rw [h256, Finset.sum_range_add, ← Finset.sum_add_distrib]
  refine Finset.sum_congr rfl fun j hj => ?_
  have := Finset.mem_range.1 hj
  have h1 : ¬ 128 + j < 128 := by omega
  have h2 : 128 + j - 128 = j := by omega
  rw [if_pos this, if_neg h1, h2]
  unfold fold
  split <;> simp

end Cert.Math
-- ==== Proof.ATile.lean ====
/-
  The attention's tiles on the reals.  A step handles one key head at a time: the two column tiles of its four query
  heads stacked (256 rows, even heads in the lanes below 64, odd heads above), its keys and its values with the lanes of
  the other parity cleared (512 rows), and scores folded to 128 columns, each holding the one of two keys 128 apart that
  the row may see.  Below: each such step as a function on the reals.
-/
module

public import proofs.«01_k».proof.Proof.Gen.Kernel2Ideal.Skeleton
public import proofs.«01_k».proof.Proof.Reals
public import proofs.«01_k».proof.Proof.AMath
public import Idealize.ShloMosaic.PureOps.IdealRules

@[expose] public section

set_option maxRecDepth 16384

noncomputable section

namespace Cert.Tile

open Idealize.ShloMosaic Cert.Reals Cert.Math Cert.Kernel2Ideal Cert.Kernel2Ideal.Gen
open scoped BigOperators
open Finset (range)

/-! ## Choices between two arrays -/

/-- The bit array `X` says where `g` holds. -/
def Bits {S : Shape} (X : S.Idx → BitVec 1) (g : (Fin S.rank → ℕ) → Bool) : Prop :=
  ∀ i : S.Idx, X i = if g fun a => (i a).val then 1#1 else 0#1

theorem select_bool {α : Type} (b : Bool) (x y : α) : Scalar.select (if b then 1#1 else 0#1) x y = if b then x else y := by
  cases b <;> rfl

theorem Bits.sel {S : Shape} {c : S.Idx → BitVec 1} {g : (Fin S.rank → ℕ) → Bool} {X Y : S.Idx → EReal}
    {f f' : (Fin S.rank → ℕ) → ℝ} (h : Bits c g) (hX : Is X f) (hY : Is Y f') :
    Is (select c X Y) fun v => if g v then f v else f' v := fun i => by
  show Scalar.select (c i) (X i) (Y i) = _
  rw [h i, select_bool, hX i, hY i]
  show _ = ((if g (fun a => (i a).val) then f (fun a => (i a).val) else f' (fun a => (i a).val) : ℝ) : EReal)
  split <;> rfl

theorem Bits.sel2 {m n : ℕ} {c : (⟨2, ![m, n]⟩ : Shape).Idx → BitVec 1} {g : (Fin 2 → ℕ) → Bool}
    {X Y : (⟨2, ![m, n]⟩ : Shape).Idx → EReal} {A B : ℕ → ℕ → ℝ} (h : Bits c g) (hX : Is2 X A) (hY : Is2 Y B) :
    Is2 (m := m) (n := n) (select c X Y) fun i j => if g ![i, j] then A i j else B i j :=
  (Bits.sel h hX hY).to fun v _ => by
    have e : (![v 0, v 1] : Fin 2 → ℕ) = v := by funext a; fin_cases a <;> rfl
    simp only [fn2, e]

/-- The lanes below 64. -/
theorem lo_bits : Bits (S := S1x128) k0_pay2 fun v => decide (v 1 < 64) := fun i => by
  show BitVec.ofBool ((BitVec.ofNat 32 (0 * 128 + (i 1).val)).slt 64#32) = if decide ((i 1).val < 64) then 1#1 else 0#1
  have h : (i 1).val < 128 := (i 1).isLt
  generalize (i 1).val = n at h
  revert n; decide +kernel

/-- The columns up to the row's own number in its half. -/
theorem tri_bits : Bits (S := S256x128) k0_pay3 fun v => decide (v 1 ≤ v 0 % 128) := fun i => by
  show BitVec.ofBool ((BitVec.ofNat 32 (0 * 128 + (i 1).val)).sle (BitVec.ofNat 32 (0 * 256 + (i 0).val) &&& 127#32))
    = if decide ((i 1).val ≤ (i 0).val % 128) then 1#1 else 0#1
  have h : (i 1).val < 128 := (i 1).isLt
  have h' : (i 0).val < 256 := (i 0).isLt
  generalize (i 1).val = n at h
  generalize (i 0).val = m at h'
  revert n; revert m; decide +kernel

/-- A mask of lanes, for every row. -/
theorem lo_rows {m : ℕ} {h1 : S1x128.ShapeCasts S1x128} {hb : S1x128.Broadcasts ⟨2, ![m, 128]⟩} :
    Bits (S := ⟨2, ![m, 128]⟩) (broadcastTo ⟨2, ![m, 128]⟩ (shapeCast S1x128 k0_pay2 h1) hb) fun v => decide (v 1 < 64) := fun i => by
  rw [Idealize.ShloMosaic.shapeCast_self, broadcastTo_apply k0_pay2 hb i (fun a => match a with | ⟨0, _⟩ => ⟨0, Nat.one_pos⟩ | ⟨1, _⟩ => ⟨(i 1).val, (i 1).isLt⟩) (fun a => by
    match a with
    | ⟨0, _⟩ => rfl
    | ⟨1, _⟩ =>
      show (i 1).val = if 128 = 1 then 0 else (i 1).val
      rfl)]
  exact lo_bits _

theorem bits_bot : Ideal.ofBits .f32 0xFF800000#32 = (⊥ : EReal) := by simp [Ideal.ofBits, Ideal.ieee]
theorem bits_zero16 : Ideal.ofBits .bf16 0x0000#16 = ((0 : ℝ) : EReal) := by simp

/-! ## A key head's operands -/

variable {Q0 Q1 P C : ℕ → ℕ → ℝ}

/-- Two tiles stacked. -/
theorem stack {q0 q1 : Vec Ideal S128x128 .bf16} (h0 : Is2 q0 Q0) (h1 : Is2 q1 Q1) :
    Is2 (k0_pay4 q0 q1) fun R l => if R < 128 then Q0 R l else Q1 (R - 128) l := by
  unfold k0_pay4
  exact Is2.above h0.shapeCast_self h1.shapeCast_self rfl

/-- The keys (or values) of both blocks, even heads' lanes kept in the first half, odd heads' in the second. -/
theorem halves {kp kc : Vec Ideal S128x128 .bf16} (hp : Is2 kp P) (hc : Is2 kc C) :
    Is2 (k0_pay5 kp kc) fun i l => if decide (i < 256) = decide (l < 64) then (if i % 256 < 128 then P (i % 256) l else C (i % 256 - 128) l) else 0 := by
  unfold k0_pay5
  have hd := Is2.above (hp.shapeCast_self (hc := shapeCasts_S128x128_S128x128)) (hc.shapeCast_self (hc := shapeCasts_S128x128_S128x128))
    (hc := concatenates_S128x128_S128x128_S256x128_d0) rfl
  have hz : Is2 (m := 256) (n := 128) (broadcast S256x128 (Scalar.ofBits (F := Ideal) .bf16 0x0000#16)) fun _ _ => 0 := is_const bits_zero16
  refine Is.to (Is2.above (lo_rows.sel2 hd hz) (lo_rows.sel2 hz hd) rfl) fun v hv => ?_
  have h0 : v 0 < 512 := hv 0
  have h1 : v 1 < 128 := hv 1
  dsimp only [fn2]
  simp only [decide_eq_true_eq]
  by_cases h : v 0 < 256
  · rw [if_pos h, Nat.mod_eq_of_lt h]
    simp [h]
  · rw [if_neg h, show v 0 % 256 = v 0 - 256 by omega]
    by_cases hl : v 1 < 64 <;> simp [h, hl]

/-- All scores of the stacked queries. -/
theorem scores {l : FVec Ideal S256x128 .bf16} {r : FVec Ideal S512x128 .bf16} {L R : ℕ → ℕ → ℝ} (hl : Is2 l L) (hr : Is2 r R) :
    Is2 (k0_pay18 l r) fun i j => ∑ q ∈ range 128, L i q * R j q := by
  unfold k0_pay18; exact hl.dotT hr

/-- One key head's page of a table. -/
theorem page {b : Vec Ideal S1x256x256 .f32} {f : ℕ → ℕ → ℕ → ℝ} (h : Is (S := S1x256x256) b fun v => f (v 0) (v 1) (v 2)) :
    Is2 (k0_pay22 b) fun i j => f 0 i j := fun i => by
  unfold k0_pay22
  have e := shapeCast_apply b shapeCasts_S1x256x256_S256x256 i (fun a => match a with | ⟨0, _⟩ => ⟨0, Nat.one_pos⟩ | ⟨1, _⟩ => ⟨(i 0).val, (i 0).isLt⟩ | ⟨2, _⟩ => ⟨(i 1).val, (i 1).isLt⟩) (by
    rw [Shape.rowMajor_val_three, Shape.rowMajor_val_two]
    show (0 * 256 + (i 0).val) * 256 + (i 1).val = (i 0).val * 256 + (i 1).val
    omega)
  exact e.trans (h _)

/-! ## Scores with the mask, and the weights -/

/-- The scores `f` where `g` holds, and −∞ elsewhere. -/
def Masked (s : S256x128.Idx → EReal) (f : ℕ → ℕ → ℝ) (g : ℕ → ℕ → Bool) : Prop :=
  ∀ i, s i = if g (i 0).val (i 1).val then (f (i 0).val (i 1).val : EReal) else ⊥

theorem masked_eq : (Named.named (F := Ideal) (φ := .f32) κ "mask" 0xF149F2CA#32 : EReal) = ⊥ :=
  IdealRules.named_const.ideal_named_scalar _ _ _ _ rfl

/-- The folded scores of a parity: columns `c` of the keys' second block where the triangle allows, of the first block
    elsewhere unless the sequence has none. -/
theorem seen_general {S : FVec Ideal S256x512 .f32} {A : ℕ → ℕ → ℝ} (hS : Is2 S A) {b : FVec Ideal S256x128 .f32} {E : ℕ → ℕ → ℝ} (hb : Is2 b E)
    (c : ℕ) {h1 : S256x512.Slices ![0, c + 128] S256x128} {h0 : S256x512.Slices ![0, c] S256x128} (first : Bool) (w : BitVec 1)
    (hw : w = if first then 1#1 else 0#1) :
    Masked (addf (F := Ideal) (φ := .f32) (select k0_pay3 (extractStridedSlice S256x128 ![0, c + 128] S h1)
        (Scalar.select w (broadcast S256x128 (Named.named (F := Ideal) (φ := .f32) κ "mask" 0xF149F2CA#32)) (extractStridedSlice S256x128 ![0, c] S h0))) b)
      (fun R j => A R (c + fold (R % 128) j) + E R j) fun R j => !(first && decide (R % 128 < j)) := fun i => by
  show Scalar.select (k0_pay3 i) _ ((Scalar.select w (broadcast S256x128 (Named.named (F := Ideal) (φ := .f32) κ "mask" 0xF149F2CA#32)) (extractStridedSlice S256x128 ![0, c] S h0)) i) + b i = _
  have e1 := hS.slice 0 (c + 128) (hs := h1) i
  have e0 := hS.slice 0 c (hs := h0) i
  rw [tri_bits i, select_bool, hb i, e1, hw, select_bool]
  dsimp only [fn2]
  rw [Nat.zero_add]
  by_cases ht : (i 1).val ≤ (i 0).val % 128
  · have hn : ¬ (i 0).val % 128 < (i 1).val := by omega
    have hf : fold ((i 0).val % 128) (i 1).val = 128 + (i 1).val := if_pos ht
    simp only [ht, hn, decide_true, decide_false, Bool.and_false, Bool.not_false, if_true, hf, EReal.coe_add, Nat.add_assoc]
  · have hn : (i 0).val % 128 < (i 1).val := by omega
    have hf : fold ((i 0).val % 128) (i 1).val = (i 1).val := if_neg ht
    cases first
    · simp only [Bool.false_eq_true, if_false, ht, decide_false, hf, Bool.false_and, Bool.not_false, if_true]
      rw [e0]
      dsimp only [fn2]
      rw [Nat.zero_add, EReal.coe_add]
    · simp only [ht, hn, decide_true, decide_false, if_true, Bool.and_self, Bool.not_true, Bool.false_eq_true, if_false]
      show Named.named (F := Ideal) (φ := .f32) κ "mask" 0xF149F2CA#32 + _ = _
      rw [masked_eq, EReal.bot_add]

/-- The weights before they are normalised, up to a positive factor of each row. -/
theorem soft {s k : FVec Ideal S256x128 .f32} {f : ℕ → ℕ → ℝ} {g : ℕ → ℕ → Bool} {t : ℕ → ℝ} (hs : Masked s f g) (hk : Is2 k fun R _ => t R) :
    ∃ w : ℕ → ℝ, (∀ R, 0 < w R) ∧ Is2 (k0_pay32 s k) (fun R j => w R * if g R j then Real.exp (f R j) else 0)
      ∧ Is2 (k0_pay33 s k) fun R _ => w R * Real.exp (t R) := by
  let r : S256.Idx → EReal := multiReduction (F := Ideal) (φ := .f32) .maximumf [1] S256 s 0xFF800000#32 reduces_S256x128_S256 (.inl rfl) rfl
  have hr : ∀ j, r j < ⊤ := fun j => by
    show multiReduction (F := Ideal) (φ := .f32) .maximumf [1] S256 s 0xFF800000#32 reduces_S256x128_S256 (.inl rfl) rfl j < ⊤
    refine lt_of_eq_of_lt (Ideal.multiReduction_maximumf_single s _ reduces_S256x128_S256 (.inl rfl) rfl j) ?_
    rw [Finset.fold_max_lt]
    refine ⟨lt_of_eq_of_lt (show Ideal.ofBits .f32 0xFF800000#32 = ⊥ from bits_bot) bot_lt_top, fun q _ => ?_⟩
    show s _ < ⊤
    rw [hs]
    split
    · exact EReal.coe_lt_top _
    · exact bot_lt_top
  let M : ℕ → ℝ := fun R => if h : R < 256 then (max (r fun a => match a with | ⟨0, _⟩ => ⟨R, h⟩) (t R : EReal)).toReal else 0
  have hM : ∀ i : S256x128.Idx, k0_pay31 s k i = ((M (i 0).val : ℝ) : EReal) := fun i => by
    have hi : (i 0).val < 256 := (i 0).isLt
    have e : k0_pay31 s k i = max (r fun a => match a with | ⟨0, _⟩ => ⟨(i 0).val, hi⟩) (t (i 0).val : EReal) := by
      show max (broadcastTo S256x128 (shapeCast S256x1 r shapeCasts_S256_S256x1) broadcasts_S256x1_S256x128 i) (k i) = _
      rw [hk i, broadcastTo_apply _ broadcasts_S256x1_S256x128 i (fun a => match a with | ⟨0, _⟩ => ⟨(i 0).val, hi⟩ | ⟨1, _⟩ => ⟨0, Nat.one_pos⟩) (fun a => by
        match a with
        | ⟨0, _⟩ => rfl
        | ⟨1, _⟩ => rfl), shapeCast_apply r shapeCasts_S256_S256x1 _ (fun a => match a with | ⟨0, _⟩ => ⟨(i 0).val, hi⟩) (by
        rw [Shape.rowMajor_val_one, Shape.rowMajor_val_two]
        show (i 0).val = (i 0).val * 1 + 0
        omega)]
    rw [e]
    show _ = ((if h : (i 0).val < 256 then _ else _ : ℝ) : EReal)
    rw [dif_pos hi, EReal.coe_toReal]
    · exact (max_lt (hr _) (EReal.coe_lt_top _)).ne
    · exact ne_bot_of_le_ne_bot (EReal.coe_ne_bot _) (le_max_right _ _)
  refine ⟨fun R => Real.exp (-M R), fun R => Real.exp_pos _, fun i => ?_, fun i => ?_⟩
  · show Ideal.exp (s i - k0_pay31 s k i) = _
    rw [hM i, hs i]
    dsimp only [fn2]
    split
    · rw [← EReal.coe_sub, Ideal.exp_coe, ← Real.exp_add]
      congr 2; ring
    · rw [EReal.bot_sub, Ideal.exp_bot, mul_zero]; rfl
  · show Ideal.exp (k i - k0_pay31 s k i) = _
    rw [hM i, hk i]
    dsimp only [fn2]
    rw [← EReal.coe_sub, Ideal.exp_coe, ← Real.exp_add]
    congr 2; ring

/-- A row's sum of weights, with the sink's. -/
theorem total {e es : FVec Ideal S256x128 .f32} {A B : ℕ → ℕ → ℝ} (he : Is2 e A) (hs : Is2 es B) :
    Is2 (k0_pay70 e es) fun R j => (∑ q ∈ range 128, A R q) + B R j := by
  unfold k0_pay70
  exact he.sumRow.col.bcol.add hs

/-- A folded array laid out over the keys again, for both parities. -/
theorem flat {e0 e1 : FVec Ideal S256x128 .f32} {A B : ℕ → ℕ → ℝ} (h0 : Is2 e0 A) (h1 : Is2 e1 B) :
    Is2 (k0_pay79 k0_pay3 e0 e1) fun R i =>
      if i < 256 then (if i < 128 then (if i ≤ R % 128 then 0 else A R i) else (if i - 128 ≤ R % 128 then A R (i - 128) else 0))
      else (if i - 256 < 128 then (if i - 256 ≤ R % 128 then 0 else B R (i - 256)) else (if i - 256 - 128 ≤ R % 128 then B R (i - 256 - 128) else 0)) := by
  unfold k0_pay79
  have hz : Is2 (m := 256) (n := 128) (broadcast S256x128 (Scalar.ofBits (F := Ideal) .f32 0x00000000#32)) fun _ _ => 0 := is_const bits_zero
  refine Is.to (Is.trunc (Is2.beside (Is2.beside (tri_bits.sel2 hz h0) (tri_bits.sel2 h0 hz) rfl) (Is2.beside (tri_bits.sel2 hz h1) (tri_bits.sel2 h1 hz) rfl) rfl)) fun v _ => ?_
  simp only [fn2, decide_eq_true_eq]
  rfl

end Cert.Tile
-- ==== Proof.ABlock.lean ====
/-
  One key head of one block on the reals: from what its tiles hold, its part of the output and of the gradients.
-/
module

public import proofs.«01_k».proof.Proof.ATile

@[expose] public section

set_option maxRecDepth 16384

noncomputable section

namespace Cert.Tile

open Idealize.ShloMosaic Cert.Reals Cert.Math Cert.Kernel2Ideal Cert.Kernel2Ideal.Gen
open scoped BigOperators
open Finset (range)

/-! ## Sums over the lanes and over the keys -/

/-- Of 128 lanes, the half that parity `p` keeps. -/
theorem sum_lanes (F : ℕ → ℝ) {i p : ℕ} (hp : p < 2) (hi : i / 256 = p) :
    ∑ l ∈ range 128, (if decide (i < 256) = decide (l < 64) then F l else 0) = ∑ d ∈ range 64, F (64 * p + d) := by
  have h128 : (128 : ℕ) = 64 + 64 := rfl
  rw [h128, Finset.sum_range_add]
  have h0 : ∀ d ∈ range 64, (decide (d < 64) = true) := fun d hd => decide_eq_true (Finset.mem_range.1 hd)
  have h1 : ∀ d ∈ range 64, (decide (64 + d < 64) = false) := fun d _ => decide_eq_false (by omega)
  obtain rfl | rfl : p = 0 ∨ p = 1 := by omega
  · have hi' : decide (i < 256) = true := decide_eq_true (by omega)
    rw [Finset.sum_congr rfl fun d hd => by rw [h0 d hd, hi', if_pos rfl], Finset.sum_congr (s₁ := range 64) (f := fun d => ite _ _ _) rfl fun d hd => by
      rw [h1 d hd, hi', if_neg (by decide)], Finset.sum_const_zero, add_zero]
    exact Finset.sum_congr rfl fun d _ => by rw [Nat.mul_zero, Nat.zero_add]
  · have hi' : decide (i < 256) = false := decide_eq_false (by omega)
    rw [Finset.sum_congr rfl fun d hd => by rw [h0 d hd, hi', if_neg (by decide)], Finset.sum_congr (s₁ := range 64) (f := fun d => ite _ _ _) rfl fun d hd => by
      rw [h1 d hd, hi', if_pos rfl], Finset.sum_const_zero, zero_add]

/-- Of 512 rows, the half whose lanes keep column `c`. -/
theorem sum_rows (F : ℕ → ℝ) {c p : ℕ} (hp : p < 2) (hc : c / 64 = p) :
    ∑ i ∈ range 512, (if decide (i < 256) = decide (c < 64) then F i else 0) = ∑ s ∈ range 256, F (256 * p + s) := by
  have h512 : (512 : ℕ) = 256 + 256 := rfl
  rw [h512, Finset.sum_range_add]
  have h0 : ∀ d ∈ range 256, (decide (d < 256) = true) := fun d hd => decide_eq_true (Finset.mem_range.1 hd)
  have h1 : ∀ d ∈ range 256, (decide (256 + d < 256) = false) := fun d _ => decide_eq_false (by omega)
  obtain rfl | rfl : p = 0 ∨ p = 1 := by omega
  · have hi' : decide (c < 64) = true := decide_eq_true (by omega)
    rw [Finset.sum_congr rfl fun d hd => by rw [h0 d hd, hi', if_pos rfl], Finset.sum_congr (s₁ := range 256) (f := fun d => ite _ _ _) rfl fun d hd => by
      rw [h1 d hd, hi', if_neg (by decide)], Finset.sum_const_zero, add_zero]
    exact Finset.sum_congr rfl fun d _ => by rw [Nat.mul_zero, Nat.zero_add]
  · have hi' : decide (c < 64) = false := decide_eq_false (by omega)
    rw [Finset.sum_congr rfl fun d hd => by rw [h0 d hd, hi', if_neg (by decide)], Finset.sum_congr (s₁ := range 256) (f := fun d => ite _ _ _) rfl fun d hd => by
      rw [h1 d hd, hi', if_pos rfl], Finset.sum_const_zero, zero_add]

/-- A folded array whose function of the keys vanishes outside the window, laid out over the keys again. -/
theorem flat_keys {e0 e1 : FVec Ideal S256x128 .f32} {A0 A1 : ℕ → ℕ → ℝ} (h0 : Is2 e0 fun R j => A0 R (fold (R % 128) j))
    (h1 : Is2 e1 fun R j => A1 R (fold (R % 128) j)) (z0 : ∀ R s, ¬(R % 128 < s ∧ s ≤ R % 128 + 128) → A0 R s = 0)
    (z1 : ∀ R s, ¬(R % 128 < s ∧ s ≤ R % 128 + 128) → A1 R s = 0) :
    Is2 (k0_pay79 k0_pay3 e0 e1) fun R i => if i < 256 then A0 R i else A1 R (i - 256) := by
  have key : ∀ (A : ℕ → ℕ → ℝ), (∀ R s, ¬(R % 128 < s ∧ s ≤ R % 128 + 128) → A R s = 0) → ∀ R i,
      (if i < 128 then (if i ≤ R % 128 then 0 else A R (fold (R % 128) i)) else (if i - 128 ≤ R % 128 then A R (fold (R % 128) (i - 128)) else 0)) = A R i := by
    intro A z R i
    by_cases hi : i < 128
    · rw [if_pos hi]
      split
      · next h => exact (z R i (by omega)).symm
      · next h => rw [fold, if_neg h]
    · rw [if_neg hi]
      split
      · next h => rw [fold, if_pos h, show 128 + (i - 128) = i by omega]
      · next h => exact (z R i (by omega)).symm
  refine (flat h0 h1).to fun v _ => ?_
  dsimp only [fn2]
  rw [key A0 z0, key A1 z1]

/-! ## A key head's tiles -/

/-- What the tiles of key head `kh` hold, of block `B`. -/
structure Reads (B : Blk) (kh : ℕ) (q0 q1 kp kc vp vc : Vec Ideal S128x128 .bf16) (b t : Vec Ideal S1x256x256 .f32) (w : BitVec 1) : Prop where
  hk : kh < 4
  q0 : Is2 q0 fun r l => B.q r (256 * kh + l)
  q1 : Is2 q1 fun r l => B.q r (256 * kh + 128 + l)
  kp : Is2 kp fun s l => B.k s (64 * kh + l % 64)
  kc : Is2 kc fun s l => B.k (128 + s) (64 * kh + l % 64)
  vp : Is2 vp fun s l => B.v s (64 * kh + l % 64)
  vc : Is2 vc fun s l => B.v (128 + s) (64 * kh + l % 64)
  b : Is (S := S1x256x256) b fun v => -(B.sl (4 * kh + 2 * (v 1 / 128) + v 2 / 128) * (((v 1 % 128 : ℕ) : ℝ) + 128 - (fold (v 1 % 128) (v 2 % 128) : ℕ)))
  t : Is (S := S1x256x256) t fun v => B.sk (4 * kh + 2 * (v 1 / 128) + v 2 / 128)
  w : w = if B.first then 1#1 else 0#1

/-- Stacked tiles of a block's columns. -/
theorem stacked {A : ℕ → ℕ → ℝ} {kh : ℕ} {q0 q1 : Vec Ideal S128x128 .bf16} (h0 : Is2 q0 fun r l => A r (256 * kh + l)) (h1 : Is2 q1 fun r l => A r (256 * kh + 128 + l)) :
    Is2 (k0_pay4 q0 q1) fun R l => A (R % 128) (256 * kh + 128 * (R / 128) + l) := (stack h0 h1).to fun v hv => by
  have : v 0 < 256 := hv 0
  dsimp only [fn2]
  split
  · next h => rw [Nat.mod_eq_of_lt h, Nat.div_eq_of_lt h]; rfl
  · next h => rw [show v 0 % 128 = v 0 - 128 by omega, show v 0 / 128 = 1 by omega]

/-- The halves of a key head's keys. -/
theorem halved {K : ℕ → ℕ → ℝ} {kh : ℕ} {kp kc : Vec Ideal S128x128 .bf16} (hp : Is2 kp fun s l => K s (64 * kh + l % 64)) (hc : Is2 kc fun s l => K (128 + s) (64 * kh + l % 64)) :
    Is2 (k0_pay5 kp kc) fun i l => if decide (i < 256) = decide (l < 64) then K (i % 256) (64 * kh + l % 64) else 0 := (halves hp hc).to fun v hv => by
  dsimp only [fn2]
  congr 1
  split
  · rfl
  · next h => rw [show 128 + (v 0 % 256 - 128) = v 0 % 256 by omega]

/-- Products of stacked rows with halves: a head's rows with a key head's keys. -/
theorem crossed {A K : ℕ → ℕ → ℝ} {kh : ℕ} {l : FVec Ideal S256x128 .bf16} {r : FVec Ideal S512x128 .bf16}
    (hl : Is2 l fun R l => A (R % 128) (256 * kh + 128 * (R / 128) + l))
    (hr : Is2 r fun i l => if decide (i < 256) = decide (l < 64) then K (i % 256) (64 * kh + l % 64) else 0) :
    Is2 (k0_pay18 l r) fun R i => ∑ d ∈ range 64, A (R % 128) (64 * (4 * kh + 2 * (R / 128) + i / 256) + d) * K (i % 256) (64 * kh + d) :=
  (scores hl hr).to fun v hv => by
    have : v 1 < 512 := hv 1
    dsimp only [fn2]
    simp only [mul_ite, mul_zero]
    rw [sum_lanes (fun l => A (v 0 % 128) (256 * kh + 128 * (v 0 / 128) + l) * K (v 1 % 256) (64 * kh + l % 64)) (p := v 1 / 256) (by omega) rfl]
    refine Finset.sum_congr rfl fun d hd => ?_
    have := Finset.mem_range.1 hd
    rw [show 256 * kh + 128 * (v 0 / 128) + (64 * (v 1 / 256) + d) = 64 * (4 * kh + 2 * (v 0 / 128) + v 1 / 256) + d by ring,
      show (64 * (v 1 / 256) + d) % 64 = d by omega]

/-! The words of the scores: the folded scores of the even and of the odd heads, and their sinks. -/

def seen0 (w : BitVec 1) (S : FVec Ideal S256x512 .f32) (b : Vec Ideal S1x256x256 .f32) : FVec Ideal S256x128 .f32 :=
  addf (F := Ideal) (φ := .f32) (select k0_pay3 (extractStridedSlice S256x128 ![0, 128] S slices_S256x512_o0_128_S256x128)
    (Scalar.select w (broadcast S256x128 (Named.named (F := Ideal) (φ := .f32) κ "mask" 0xF149F2CA#32))
      (extractStridedSlice S256x128 ![0, 0] S slices_S256x512_o0_0_S256x128)))
    (extractStridedSlice S256x128 ![0, 0] (k0_pay22 b) slices_S256x256_o0_0_S256x128)

def seen1 (w : BitVec 1) (S : FVec Ideal S256x512 .f32) (b : Vec Ideal S1x256x256 .f32) : FVec Ideal S256x128 .f32 :=
  addf (F := Ideal) (φ := .f32) (select k0_pay3 (extractStridedSlice S256x128 ![0, 384] S slices_S256x512_o0_384_S256x128)
    (Scalar.select w (broadcast S256x128 (Named.named (F := Ideal) (φ := .f32) κ "mask" 0xF149F2CA#32))
      (extractStridedSlice S256x128 ![0, 256] S slices_S256x512_o0_256_S256x128)))
    (extractStridedSlice S256x128 ![0, 128] (k0_pay22 b) slices_S256x256_o0_128_S256x128)

def snk0 (t : Vec Ideal S1x256x256 .f32) : FVec Ideal S256x128 .f32 :=
  extractStridedSlice S256x128 ![0, 0] (k0_pay22 t) slices_S256x256_o0_0_S256x128

def snk1 (t : Vec Ideal S1x256x256 .f32) : FVec Ideal S256x128 .f32 :=
  extractStridedSlice S256x128 ![0, 128] (k0_pay22 t) slices_S256x256_o0_128_S256x128

section Head

variable {B : Blk} {kh : ℕ} {q0 q1 kp kc vp vc : Vec Ideal S128x128 .bf16} {b t : Vec Ideal S1x256x256 .f32} {w : BitVec 1}
  (H : Reads B kh q0 q1 kp kc vp vc b t w)
include H

/-- The folded scores are the block's, with the keys that a row may not see at −∞. -/
theorem seen_is : Masked (seen0 w (k0_pay18 (k0_pay4 q0 q1) (k0_pay5 kp kc)) b) (fun R j => B.sc (4 * kh + 2 * (R / 128) + 0) (R % 128) (fold (R % 128) j))
      (fun R j => vis B.first (R % 128) (fold (R % 128) j))
    ∧ Masked (seen1 w (k0_pay18 (k0_pay4 q0 q1) (k0_pay5 kp kc)) b) (fun R j => B.sc (4 * kh + 2 * (R / 128) + 1) (R % 128) (fold (R % 128) j))
      (fun R j => vis B.first (R % 128) (fold (R % 128) j)) := by
  have hS := crossed (stacked H.q0 H.q1) (halved H.kp H.kc)
  have hk := H.hk
  have hb := page (b := b) (f := fun _ i j => -(B.sl (4 * kh + 2 * (i / 128) + j / 128) * (((i % 128 : ℕ) : ℝ) + 128 - (fold (i % 128) (j % 128) : ℕ)))) H.b
  have fin : ∀ (p : ℕ), p < 2 → ∀ R j, R < 256 → j < 128 →
      (∑ d ∈ range 64, B.q (R % 128) (64 * (4 * kh + 2 * (R / 128) + (256 * p + fold (R % 128) j) / 256) + d) * B.k ((256 * p + fold (R % 128) j) % 256) (64 * kh + d))
        + -(B.sl (4 * kh + 2 * (R / 128) + (128 * p + j) / 128) * (((R % 128 : ℕ) : ℝ) + 128 - (fold (R % 128) ((128 * p + j) % 128) : ℕ)))
        = B.sc (4 * kh + 2 * (R / 128) + p) (R % 128) (fold (R % 128) j) := by
    intro p hp R j hR hj
    have hf : fold (R % 128) j < 256 := by unfold fold; split <;> omega
    rw [show (256 * p + fold (R % 128) j) / 256 = p by omega, show (256 * p + fold (R % 128) j) % 256 = fold (R % 128) j by omega,
      show (128 * p + j) / 128 = p by omega, show (128 * p + j) % 128 = j by omega]
    unfold Blk.sc
    rw [show (4 * kh + 2 * (R / 128) + p) / 4 = kh by omega]
    ring
  constructor
  · intro i
    have hi0 : (i 0).val < 256 := (i 0).isLt
    have hi1 : (i 1).val < 128 := (i 1).isLt
    refine (seen_general hS (hb.slice 0 0) 0 B.first w H.w i).trans ?_
    refine ite_congr (by dsimp only; rw [vis_fold (Nat.mod_lt (i 0).val (by decide)) hi1]) (fun _ => ?_) fun _ => rfl
    dsimp only
    rw [← fin 0 (by decide) _ _ hi0 hi1]
    simp only [Nat.mul_zero, Nat.zero_add]
  · intro i
    have hi0 : (i 0).val < 256 := (i 0).isLt
    have hi1 : (i 1).val < 128 := (i 1).isLt
    refine (seen_general hS (hb.slice 0 128) 256 B.first w H.w i).trans ?_
    refine ite_congr (by dsimp only; rw [vis_fold (Nat.mod_lt (i 0).val (by decide)) hi1]) (fun _ => ?_) fun _ => rfl
    dsimp only
    rw [← fin 1 (by decide) _ _ hi0 hi1]
    simp only [Nat.mul_one, Nat.zero_add]

theorem snk_is : Is2 (snk0 t) (fun R _ => B.sk (4 * kh + 2 * (R / 128) + 0)) ∧ Is2 (snk1 t) (fun R _ => B.sk (4 * kh + 2 * (R / 128) + 1)) := by
  have ht := page (b := t) (f := fun _ i j => B.sk (4 * kh + 2 * (i / 128) + j / 128)) H.t
  constructor
  · refine (ht.slice 0 0).to fun v hv => ?_
    have : v 1 < 128 := hv 1
    dsimp only [fn2]
    rw [show (0 + v 1) / 128 = 0 by omega, Nat.zero_add]
  · refine (ht.slice 0 128).to fun v hv => ?_
    have : v 1 < 128 := hv 1
    dsimp only [fn2]
    rw [show (128 + v 1) / 128 = 1 by omega, Nat.zero_add]

end Head

/-- The weights of the heads of one parity, up to a positive factor of each row, and their sums. -/
theorem weights {B : Blk} {s k : FVec Ideal S256x128 .f32} {hd : ℕ → ℕ} (hs : Masked s (fun R j => B.sc (hd R) (R % 128) (fold (R % 128) j)) fun R j => vis B.first (R % 128) (fold (R % 128) j))
    (hk : Is2 k fun R _ => B.sk (hd R)) :
    ∃ w : ℕ → ℝ, (∀ R, 0 < w R) ∧ Is2 (k0_pay32 s k) (fun R j => w R * B.ex (hd R) (R % 128) (fold (R % 128) j))
      ∧ Is2 (k0_pay33 s k) (fun R _ => w R * Real.exp (B.sk (hd R)))
      ∧ Is2 (k0_pay70 (k0_pay32 s k) (k0_pay33 s k)) fun R _ => w R * B.den (hd R) (R % 128) := by
  obtain ⟨w, hw, he, hes⟩ := soft hs hk
  refine ⟨w, hw, he, hes, (total he hes).to fun v hv => ?_⟩
  dsimp only [fn2]
  unfold Blk.den
  rw [mul_add, sum_fold B.first (fun s => B.ex (hd (v 0)) (v 0 % 128) s) (Nat.mod_lt (v 0) (by decide)) fun s hs => by simp [Blk.ex, hs], Finset.mul_sum]
  rfl

theorem ex_zero {B : Blk} {h r s : ℕ} (hs : ¬(r < s ∧ s ≤ r + 128)) : B.ex h r s = 0 := by
  have : vis B.first r s = false := by
    unfold vis
    rw [Bool.and_eq_false_iff, Bool.and_eq_false_iff, decide_eq_false_iff_not, decide_eq_false_iff_not]
    left; omega
  simp [Blk.ex, this]

/-! ## The output of a key head's four query heads -/

def outw (q0 q1 kp kc vp vc : Vec Ideal S128x128 .bf16) (b t : Vec Ideal S1x256x256 .f32) (w : BitVec 1) : FVec Ideal S256x128 .f32 :=
  let S := k0_pay18 (k0_pay4 q0 q1) (k0_pay5 kp kc)
  let e0 := k0_pay32 (seen0 w S b) (snk0 t)
  let e1 := k0_pay32 (seen1 w S b) (snk1 t)
  k0_pay92 k0_pay2 (k0_pay5 vp vc) (k0_pay70 e0 (k0_pay33 (seen0 w S b) (snk0 t))) (k0_pay70 e1 (k0_pay33 (seen1 w S b) (snk1 t)))
    (k0_pay79 k0_pay3 e0 e1)

theorem outw_is {B : Blk} {kh : ℕ} {q0 q1 kp kc vp vc : Vec Ideal S128x128 .bf16} {b t : Vec Ideal S1x256x256 .f32} {w : BitVec 1}
    (H : Reads B kh q0 q1 kp kc vp vc b t w) :
    Is2 (outw q0 q1 kp kc vp vc b t w) fun R c => B.out (R % 128) (256 * kh + 128 * (R / 128) + c) := by
  have hk := H.hk
  obtain ⟨w0, hw0, he0, hs0, hd0⟩ := weights (seen_is H).1 (snk_is H).1
  obtain ⟨w1, hw1, he1, hs1, hd1⟩ := weights (seen_is H).2 (snk_is H).2
  have hf := flat_keys (A0 := fun R s => w0 R * B.ex (4 * kh + 2 * (R / 128) + 0) (R % 128) s) (A1 := fun R s => w1 R * B.ex (4 * kh + 2 * (R / 128) + 1) (R % 128) s)
    he0 he1 (fun R s h => by rw [ex_zero h, mul_zero]) (fun R s h => by rw [ex_zero h, mul_zero])
  have hv := halved H.vp H.vc
  have hden := (lo_rows (h1 := shapeCasts_S1x128_S1x128) (hb := broadcasts_S1x128_S256x128)).sel2 hd0 hd1
  unfold outw k0_pay92
  refine ((hf.dot hv).div (hden.to (g := fun v => if decide (v 1 < 64) then w0 (v 0) * B.den (4 * kh + 2 * (v 0 / 128) + 0) (v 0 % 128) else w1 (v 0) * B.den (4 * kh + 2 * (v 0 / 128) + 1) (v 0 % 128)) fun _ _ => rfl) fun v => ?_).to fun v hv' => ?_
  · split
    · exact (mul_pos (hw0 _) (B.den_pos _ _)).ne'
    · exact (mul_pos (hw1 _) (B.den_pos _ _)).ne'
  · have h0 : v 0 < 256 := hv' 0
    have h1 : v 1 < 128 := hv' 1
    dsimp only [fn2]
    simp only [mul_ite, mul_zero, decide_eq_true_eq]
    rw [sum_rows (fun i => (if i < 256 then w0 (v 0) * B.ex (4 * kh + 2 * (v 0 / 128) + 0) (v 0 % 128) i else w1 (v 0) * B.ex (4 * kh + 2 * (v 0 / 128) + 1) (v 0 % 128) (i - 256)) * B.v (i % 256) (64 * kh + v 1 % 64)) (p := v 1 / 64) (by omega) rfl]
    unfold Blk.out Blk.p
    by_cases hl : v 1 < 64
    · rw [if_pos hl, Finset.sum_div]
      refine Finset.sum_congr rfl fun s hs => ?_
      have := Finset.mem_range.1 hs
      rw [show v 1 / 64 = 0 by omega, if_pos (show 256 * 0 + s < 256 by omega), show 256 * 0 + s = s by omega, show s % 256 = s by omega,
        show (256 * kh + 128 * (v 0 / 128) + v 1) / 64 = 4 * kh + 2 * (v 0 / 128) + 0 by omega, show (4 * kh + 2 * (v 0 / 128) + 0) / 4 = kh by omega,
        show (256 * kh + 128 * (v 0 / 128) + v 1) % 64 = v 1 % 64 by omega]
      have := (hw0 (v 0)).ne'
      have := (B.den_pos (4 * kh + 2 * (v 0 / 128) + 0) (v 0 % 128)).ne'
      field_simp
    · rw [if_neg hl, Finset.sum_div]
      refine Finset.sum_congr rfl fun s hs => ?_
      have := Finset.mem_range.1 hs
      rw [show v 1 / 64 = 1 by omega, if_neg (show ¬ 256 * 1 + s < 256 by omega), show 256 * 1 + s - 256 = s by omega, show (256 * 1 + s) % 256 = s by omega,
        show (256 * kh + 128 * (v 0 / 128) + v 1) / 64 = 4 * kh + 2 * (v 0 / 128) + 1 by omega, show (4 * kh + 2 * (v 0 / 128) + 1) / 4 = kh by omega,
        show (256 * kh + 128 * (v 0 / 128) + v 1) % 64 = v 1 % 64 by omega]
      have := (hw1 (v 0)).ne'
      have := (B.den_pos (4 * kh + 2 * (v 0 / 128) + 1) (v 0 % 128)).ne'
      field_simp

end Cert.Tile
-- ==== Proof.ABack.lean ====
/-
  One key head of one block going back: the weights, the gradients of the queries, the keys, the values and the sinks.
-/
module

public import proofs.«01_k».proof.Proof.ABlock

@[expose] public section

set_option maxRecDepth 16384

noncomputable section

namespace Cert.Tile

open Idealize.ShloMosaic Cert.Reals Cert.Math Cert.Kernel2Ideal Cert.Kernel2Ideal.Gen
open scoped BigOperators
open Finset (range)

/-! ## A product over the rows of both sides -/

theorem dot_cc {m n k : ℕ} {d : DotDims ⟨2, ![k, m]⟩ ⟨2, ![k, n]⟩ ⟨2, ![m, n]⟩}
    (hd : d.lhsContracting = [0] ∧ d.rhsContracting = [0] ∧ d.lhsNonContracting = [1] ∧ d.rhsNonContracting = [1] ∧ d.lhsBatch = [] ∧ d.rhsBatch = [])
    {L : (⟨2, ![k, m]⟩ : Shape).Idx → EReal} {R : (⟨2, ![k, n]⟩ : Shape).Idx → EReal} {A B : ℕ → ℕ → ℝ} (hL : Is2 L A) (hR : Is2 R B)
    (j : (⟨2, ![m, n]⟩ : Shape).Idx) :
    ∑ q : d.contr.Idx, L (d.lhsIdx j q) * R (d.rhsIdx j q) = ((∑ q ∈ Finset.range k, A q (j 0).val * B q (j 1).val : ℝ) : EReal) := by
  obtain ⟨lc, rc, ln, rn, lb, rb, wf⟩ := d
  obtain ⟨h1, h2, h3, h4, h5, h6⟩ := hd
  dsimp only at h1 h2 h3 h4 h5 h6
  subst h1 h2 h3 h4 h5 h6
  set d : DotDims ⟨2, ![k, m]⟩ ⟨2, ![k, n]⟩ ⟨2, ![m, n]⟩ := ⟨[0], [0], [1], [1], [], [], wf⟩ with hd
  rw [← Equiv.sum_comp (ValueIdx.contrEquiv1 d k rfl rfl).symm, Finset.sum_range, ← coe_sum]
  refine Finset.sum_congr rfl fun q _ => ?_
  have hq := ValueIdx.contrEquiv1_symm_val d k rfl rfl q
  rw [hL, hR, ← EReal.coe_mul]
  have l0 : (d.lhsIdx j ((ValueIdx.contrEquiv1 d k rfl rfl).symm q) 0).val = q.val := by
    simp [DotDims.lhsIdx, hd]; exact hq
  have l1 : (d.lhsIdx j ((ValueIdx.contrEquiv1 d k rfl rfl).symm q) 1).val = (j 0).val := by
    simp [DotDims.lhsIdx, hd]; rfl
  have r0 : (d.rhsIdx j ((ValueIdx.contrEquiv1 d k rfl rfl).symm q) 0).val = q.val := by
    simp [DotDims.rhsIdx, hd]; exact hq
  have r1 : (d.rhsIdx j ((ValueIdx.contrEquiv1 d k rfl rfl).symm q) 1).val = (j 1).val := by
    simp [DotDims.rhsIdx, hd]; rfl
  exact congrArg _ (congrArg₂ (· * ·) (congrArg₂ A l0 l1) (congrArg₂ B r0 r1))

theorem dotC {m n k : ℕ} {φ₁ φ₂ : FTy} {d : DotDims ⟨2, ![k, m]⟩ ⟨2, ![k, n]⟩ ⟨2, ![m, n]⟩} {L : (⟨2, ![k, m]⟩ : Shape).Idx → EReal} {R : (⟨2, ![k, n]⟩ : Shape).Idx → EReal}
    {A B : ℕ → ℕ → ℝ} (hL : Is2 L A) (hR : Is2 R B)
    (hd : d.lhsContracting = [0] ∧ d.rhsContracting = [0] ∧ d.lhsNonContracting = [1] ∧ d.rhsNonContracting = [1] ∧ d.lhsBatch = [] ∧ d.rhsBatch = []
      := by exact ⟨rfl, rfl, rfl, rfl, rfl, rfl⟩) :
    Is2 (m := m) (n := n) (matmul (F := Ideal) (φ₁ := φ₁) (φ₂ := φ₂) d none L R (constant ⟨2, ![m, n]⟩ .f32 0x00000000#32))
      fun i j => ∑ q ∈ Finset.range k, A q i * B q j := fun j =>
  (Ideal.matmul_constant_zero_apply (φ₁ := φ₁) (φ₂ := φ₂) d none L R j).trans (dot_cc hd hL hR j)

/-! ## The heads of one parity -/

def pw (e es : FVec Ideal S256x128 .f32) : FVec Ideal S256x128 .f32 := mulf (F := Ideal) (φ := .f32) e (k1_pay101 e es)

def deltaw (p dp : FVec Ideal S256x128 .f32) : FVec Ideal S256x1 .f32 :=
  shapeCast S256x1 (multiReduction (F := Ideal) (φ := .f32) .add [1] S256 (mulf (F := Ideal) (φ := .f32) p dp) 0x00000000#32 reduces_S256x128_S256 (.inl rfl) rfl) shapeCasts_S256_S256x1

def dsw (p dp : FVec Ideal S256x128 .f32) : FVec Ideal S256x128 .f32 :=
  mulf (F := Ideal) (φ := .f32) p (subf (F := Ideal) (φ := .f32) dp (broadcastTo S256x128 (deltaw p dp) broadcasts_S256x1_S256x128))

def dskw (e es dp : FVec Ideal S256x128 .f32) : FVec Ideal S256x128 .f32 :=
  subf (F := Ideal) (φ := .f32) (broadcast S256x128 (Scalar.ofBits (F := Ideal) .f32 0x00000000#32))
    (mulf (F := Ideal) (φ := .f32) (mulf (F := Ideal) (φ := .f32) es (k1_pay101 e es)) (broadcastTo S256x128 (deltaw (pw e es) dp) broadcasts_S256x1_S256x128))

/-- The weights, the scores' gradients and the sinks' gradients before they are summed. -/
theorem parity {B : Blk} {s k dp : FVec Ideal S256x128 .f32} {hd : ℕ → ℕ} (hs : Masked s (fun R j => B.sc (hd R) (R % 128) (fold (R % 128) j)) fun R j => vis B.first (R % 128) (fold (R % 128) j))
    (hk : Is2 k fun R _ => B.sk (hd R)) (hdp : Is2 dp fun R j => B.dp (hd R) (R % 128) (fold (R % 128) j)) :
    Is2 (pw (k0_pay32 s k) (k0_pay33 s k)) (fun R j => B.p (hd R) (R % 128) (fold (R % 128) j))
    ∧ Is2 (dsw (pw (k0_pay32 s k) (k0_pay33 s k)) dp) (fun R j => B.ds (hd R) (R % 128) (fold (R % 128) j))
    ∧ Is2 (dskw (k0_pay32 s k) (k0_pay33 s k) dp) (fun R _ => -(B.ps (hd R) (R % 128) * B.dl (hd R) (R % 128))) := by
  obtain ⟨w, hw, he, hes, htot⟩ := weights hs hk
  have hden : Is2 (broadcast S256x128 (Scalar.ofBits (F := Ideal) .f32 0x3F800000#32)) fun _ _ => 1 := is_const bits_one
  have hinv : Is2 (k1_pay101 (k0_pay32 s k) (k0_pay33 s k)) fun R _ => 1 / (w R * B.den (hd R) (R % 128)) := by
    refine (hden.div htot fun v => ?_).to fun v _ => rfl
    exact (mul_pos (hw _) (B.den_pos _ _)).ne'
  have hp : Is2 (pw (k0_pay32 s k) (k0_pay33 s k)) fun R j => B.p (hd R) (R % 128) (fold (R % 128) j) := by
    refine (he.mul hinv).to fun v _ => ?_
    dsimp only [fn2]
    unfold Blk.p
    have := (hw (v 0)).ne'
    have := (B.den_pos (hd (v 0)) (v 0 % 128)).ne'
    field_simp
  have hdl : Is2 (m := 256) (n := 1) (deltaw (pw (k0_pay32 s k) (k0_pay33 s k)) dp) fun R _ => B.dl (hd R) (R % 128) := by
    have hm : Is2 (m := 256) (n := 128) (mulf (F := Ideal) (φ := .f32) (pw (k0_pay32 s k) (k0_pay33 s k)) dp)
        fun R j => B.p (hd R) (R % 128) (fold (R % 128) j) * B.dp (hd R) (R % 128) (fold (R % 128) j) := (hp.mul hdp).to fun v _ => rfl
    refine (Is2.sumRow hm).col.to fun v _ => ?_
    dsimp only [fn2]
    unfold Blk.dl
    rw [sum_fold B.first (fun s => B.p (hd (v 0)) (v 0 % 128) s * B.dp (hd (v 0)) (v 0 % 128) s) (Nat.mod_lt (v 0) (by decide)) fun s hs => by rw [B.p_hidden hs, zero_mul]]
  have hz : Is2 (m := 256) (n := 128) (broadcast S256x128 (Scalar.ofBits (F := Ideal) .f32 0x00000000#32)) fun _ _ => 0 := is_const bits_zero
  refine ⟨hp, (hp.mul (hdp.sub hdl.bcol)).to fun v _ => rfl, (hz.sub ((hes.mul hinv).mul hdl.bcol)).to fun v _ => ?_⟩
  dsimp only [fn2]
  unfold Blk.ps
  have := (hw (v 0)).ne'
  have := (B.den_pos (hd (v 0)) (v 0 % 128)).ne'
  field_simp
  ring

/-! ## A key head's words -/

section Words

variable (Q O : FVec Ideal S256x128 .bf16) (K V : FVec Ideal S512x128 .bf16) (b t : Vec Ideal S1x256x256 .f32) (w : BitVec 1)

def e0 : FVec Ideal S256x128 .f32 := k0_pay32 (seen0 w (k0_pay18 Q K) b) (snk0 t)
def e1 : FVec Ideal S256x128 .f32 := k0_pay32 (seen1 w (k0_pay18 Q K) b) (snk1 t)
def es0 : FVec Ideal S256x128 .f32 := k0_pay33 (seen0 w (k0_pay18 Q K) b) (snk0 t)
def es1 : FVec Ideal S256x128 .f32 := k0_pay33 (seen1 w (k0_pay18 Q K) b) (snk1 t)
def dp0 : FVec Ideal S256x128 .f32 := k1_pay103 k0_pay3 (k0_pay18 O V)
def dp1 : FVec Ideal S256x128 .f32 := k1_pay130 k0_pay3 (k0_pay18 O V)
def pf : FVec Ideal S256x512 .bf16 := k0_pay79 k0_pay3 (pw (e0 Q K b t w) (es0 Q K b t w)) (pw (e1 Q K b t w) (es1 Q K b t w))
def dsf : FVec Ideal S256x512 .bf16 :=
  k0_pay79 k0_pay3 (dsw (pw (e0 Q K b t w) (es0 Q K b t w)) (dp0 O V)) (dsw (pw (e1 Q K b t w) (es1 Q K b t w)) (dp1 O V))
def dqw : FVec Ideal S256x128 .f32 := k1_pay180 K (dsf Q O K V b t w)
def dkw : FVec Ideal S256x128 .f32 := k1_pay194 k0_pay2 Q (dsf Q O K V b t w)
def dvw : FVec Ideal S256x128 .f32 := k1_pay194 k0_pay2 O (pf Q K b t w)
def dsk0 : FVec Ideal S256x128 .f32 := dskw (e0 Q K b t w) (es0 Q K b t w) (dp0 O V)
def dsk1 : FVec Ideal S256x128 .f32 := dskw (e1 Q K b t w) (es1 Q K b t w) (dp1 O V)

end Words

section Head

variable {B : Blk} {kh : ℕ} {q0 q1 kp kc vp vc o0 o1 : Vec Ideal S128x128 .bf16} {b t : Vec Ideal S1x256x256 .f32} {w : BitVec 1}
  (H : Reads B kh q0 q1 kp kc vp vc b t w) (h0 : Is2 o0 fun r l => B.o r (256 * kh + l)) (h1 : Is2 o1 fun r l => B.o r (256 * kh + 128 + l))
include H h0 h1

theorem dp_is : Is2 (dp0 (k0_pay4 o0 o1) (k0_pay5 vp vc)) (fun R j => B.dp (4 * kh + 2 * (R / 128) + 0) (R % 128) (fold (R % 128) j))
    ∧ Is2 (dp1 (k0_pay4 o0 o1) (k0_pay5 vp vc)) (fun R j => B.dp (4 * kh + 2 * (R / 128) + 1) (R % 128) (fold (R % 128) j)) := by
  have hD := crossed (stacked h0 h1) (halved H.vp H.vc)
  have fin : ∀ (p : ℕ), p < 2 → ∀ R j, R < 256 → j < 128 →
      (∑ d ∈ range 64, B.o (R % 128) (64 * (4 * kh + 2 * (R / 128) + (256 * p + fold (R % 128) j) / 256) + d) * B.v ((256 * p + fold (R % 128) j) % 256) (64 * kh + d))
        = B.dp (4 * kh + 2 * (R / 128) + p) (R % 128) (fold (R % 128) j) := by
    intro p hp R j hR hj
    have hf : fold (R % 128) j < 256 := by unfold fold; split <;> omega
    rw [show (256 * p + fold (R % 128) j) / 256 = p by omega, show (256 * p + fold (R % 128) j) % 256 = fold (R % 128) j by omega]
    unfold Blk.dp
    rw [show (4 * kh + 2 * (R / 128) + p) / 4 = kh by omega]
  constructor
  · refine (tri_bits.sel2 (hD.slice 0 128) (hD.slice 0 0)).to fun v hv => ?_
    simp only [fn2, decide_eq_true_eq, Nat.zero_add]
    rw [← fin 0 (by decide) _ _ (hv 0) (hv 1)]
    unfold fold
    rw [Nat.mul_zero, Nat.zero_add]
    show (if v 1 ≤ v 0 % 128 then _ else _) = _
    split <;> rfl
  · refine (tri_bits.sel2 (hD.slice 0 384) (hD.slice 0 256)).to fun v hv => ?_
    simp only [fn2, decide_eq_true_eq, Nat.zero_add]
    rw [← fin 1 (by decide) _ _ (hv 0) (hv 1)]
    unfold fold
    show (if v 1 ≤ v 0 % 128 then _ else _) = _
    split
    · rw [show 256 * 1 + (128 + v 1) = 384 + v 1 by omega]
    · rw [Nat.mul_one]

/-- The weights and the scores' gradients over the keys. -/
theorem flat_is : Is2 (pf (k0_pay4 q0 q1) (k0_pay5 kp kc) b t w) (fun R i => if i < 256 then B.p (4 * kh + 2 * (R / 128) + 0) (R % 128) i else B.p (4 * kh + 2 * (R / 128) + 1) (R % 128) (i - 256))
    ∧ Is2 (dsf (k0_pay4 q0 q1) (k0_pay4 o0 o1) (k0_pay5 kp kc) (k0_pay5 vp vc) b t w)
      (fun R i => if i < 256 then B.ds (4 * kh + 2 * (R / 128) + 0) (R % 128) i else B.ds (4 * kh + 2 * (R / 128) + 1) (R % 128) (i - 256)) := by
  have p0 := parity (seen_is H).1 (snk_is H).1 (dp_is H h0 h1).1
  have p1 := parity (seen_is H).2 (snk_is H).2 (dp_is H h0 h1).2
  have z : ∀ (h r s : ℕ), ¬(r < s ∧ s ≤ r + 128) → B.p h r s = 0 := fun h r s hs => by unfold Blk.p; rw [ex_zero hs, zero_div]
  have z' : ∀ (h r s : ℕ), ¬(r < s ∧ s ≤ r + 128) → B.ds h r s = 0 := fun h r s hs => by unfold Blk.ds; rw [z _ _ _ hs, zero_mul]
  exact ⟨flat_keys (A0 := fun R s => B.p (4 * kh + 2 * (R / 128) + 0) (R % 128) s) (A1 := fun R s => B.p (4 * kh + 2 * (R / 128) + 1) (R % 128) s) p0.1 p1.1 (fun R s => z _ _ _) fun R s => z _ _ _,
    flat_keys (A0 := fun R s => B.ds (4 * kh + 2 * (R / 128) + 0) (R % 128) s) (A1 := fun R s => B.ds (4 * kh + 2 * (R / 128) + 1) (R % 128) s) p0.2.1 p1.2.1 (fun R s => z' _ _ _) fun R s => z' _ _ _⟩

theorem dq_is : Is2 (dqw (k0_pay4 q0 q1) (k0_pay4 o0 o1) (k0_pay5 kp kc) (k0_pay5 vp vc) b t w) fun R c => B.dq (R % 128) (256 * kh + 128 * (R / 128) + c) := by
  have hk := H.hk
  refine ((flat_is H h0 h1).2.dot (halved H.kp H.kc)).to fun v hv => ?_
  have hv0 : v 0 < 256 := hv 0
  have hv1 : v 1 < 128 := hv 1
  dsimp only [fn2]
  simp only [mul_ite, mul_zero]
  rw [sum_rows (fun i => (if i < 256 then B.ds (4 * kh + 2 * (v 0 / 128) + 0) (v 0 % 128) i else B.ds (4 * kh + 2 * (v 0 / 128) + 1) (v 0 % 128) (i - 256)) * B.k (i % 256) (64 * kh + v 1 % 64)) (p := v 1 / 64) (by omega) rfl]
  unfold Blk.dq
  refine Finset.sum_congr rfl fun s hs => ?_
  have hs' := Finset.mem_range.1 hs
  by_cases hl : v 1 < 64
  · rw [show v 1 / 64 = 0 by omega, if_pos (show 256 * 0 + s < 256 by omega), show 256 * 0 + s = s by omega, show s % 256 = s by omega,
      show (256 * kh + 128 * (v 0 / 128) + v 1) / 64 = 4 * kh + 2 * (v 0 / 128) + 0 by omega, show (4 * kh + 2 * (v 0 / 128) + 0) / 4 = kh by omega,
      show (256 * kh + 128 * (v 0 / 128) + v 1) % 64 = v 1 % 64 by omega]
  · rw [show v 1 / 64 = 1 by omega, if_neg (show ¬ 256 * 1 + s < 256 by omega), show 256 * 1 + s - 256 = s by omega, show (256 * 1 + s) % 256 = s by omega,
      show (256 * kh + 128 * (v 0 / 128) + v 1) / 64 = 4 * kh + 2 * (v 0 / 128) + 1 by omega, show (4 * kh + 2 * (v 0 / 128) + 1) / 4 = kh by omega,
      show (256 * kh + 128 * (v 0 / 128) + v 1) % 64 = v 1 % 64 by omega]

omit h0 h1 in
/-- Of a product over the rows, the lanes that keep each parity's half, for the two query heads that share the rows. -/
theorem dup_is {f : FVec Ideal S256x512 .bf16} {a : FVec Ideal S256x128 .bf16} {W : ℕ → ℕ → ℕ → ℝ} {A : ℕ → ℕ → ℝ}
    (hf : Is2 f fun R i => if i < 256 then W (4 * kh + 2 * (R / 128) + 0) (R % 128) i else W (4 * kh + 2 * (R / 128) + 1) (R % 128) (i - 256))
    (ha : Is2 a fun R l => A (R % 128) (256 * kh + 128 * (R / 128) + l)) :
    Is2 (k1_pay194 k0_pay2 a f) fun s l => (∑ r ∈ range 128, W (4 * kh + l / 64) r s * A r (64 * (4 * kh + l / 64) + l % 64))
      + ∑ r ∈ range 128, W (4 * kh + 2 + l / 64) r s * A r (64 * (4 * kh + 2 + l / 64) + l % 64) := by
  unfold k1_pay194
  have hm := dotC (φ₁ := .bf16) (φ₂ := .bf16) (d := dot_S256x512_S256x128_S512x128_0_0_1_1_n_n) hf ha
  refine ((lo_rows (h1 := shapeCasts_S1x128_S1x128) (hb := broadcasts_S1x128_S256x128)).sel2 (hm.slice 0 0) (hm.slice 256 0)).to fun v hv => ?_
  have hv0 : v 0 < 256 := hv 0
  have hv1 : v 1 < 128 := hv 1
  have h256 : (256 : ℕ) = 128 + 128 := rfl
  have hh : ∀ x, x < 128 → (128 + x) / 128 = 1 ∧ (128 + x) % 128 = x ∧ x / 128 = 0 ∧ x % 128 = x := fun x hx => by omega
  simp only [fn2, decide_eq_true_eq]
  show (if v 1 < 64 then ∑ q ∈ range 256, _ else ∑ q ∈ range 256, _) = _
  split
  · next hl =>
    rw [h256, Finset.sum_range_add]
    congr 1
    · refine Finset.sum_congr rfl fun r hr => ?_
      obtain ⟨-, -, a1, a2⟩ := hh r (Finset.mem_range.1 hr)
      rw [if_pos (by omega), a1, a2, show v 1 / 64 = 0 by omega]
      congr 2 <;> omega
    · refine Finset.sum_congr rfl fun r hr => ?_
      obtain ⟨a1, a2, -, -⟩ := hh r (Finset.mem_range.1 hr)
      rw [if_pos (by omega), a1, a2, show v 1 / 64 = 0 by omega]
      congr 2 <;> omega
  · next hl =>
    rw [h256, Finset.sum_range_add]
    congr 1
    · refine Finset.sum_congr rfl fun r hr => ?_
      obtain ⟨-, -, a1, a2⟩ := hh r (Finset.mem_range.1 hr)
      rw [if_neg (by omega), a1, a2, show v 1 / 64 = 1 by omega]
      congr 2 <;> omega
    · refine Finset.sum_congr rfl fun r hr => ?_
      obtain ⟨a1, a2, -, -⟩ := hh r (Finset.mem_range.1 hr)
      rw [if_neg (by omega), a1, a2, show v 1 / 64 = 1 by omega]
      congr 2 <;> omega

/-- The keys' gradient, each half of the lanes a sum over two of the four query heads. -/
theorem dk_is : Is2 (dkw (k0_pay4 q0 q1) (k0_pay4 o0 o1) (k0_pay5 kp kc) (k0_pay5 vp vc) b t w) fun s l => B.dkh (4 * kh + l / 64) s (l % 64) + B.dkh (4 * kh + 2 + l / 64) s (l % 64) :=
  dup_is (W := B.ds) (A := B.q) H (flat_is H h0 h1).2 (stacked H.q0 H.q1)

theorem dv_is : Is2 (dvw (k0_pay4 q0 q1) (k0_pay4 o0 o1) (k0_pay5 kp kc) b t w) fun s l => B.dvh (4 * kh + l / 64) s (l % 64) + B.dvh (4 * kh + 2 + l / 64) s (l % 64) :=
  dup_is (W := B.p) (A := B.o) H (flat_is H h0 h1).1 (stacked h0 h1)

theorem dsk_is : Is2 (dsk0 (k0_pay4 q0 q1) (k0_pay4 o0 o1) (k0_pay5 kp kc) (k0_pay5 vp vc) b t w) (fun R _ => -(B.ps (4 * kh + 2 * (R / 128) + 0) (R % 128) * B.dl (4 * kh + 2 * (R / 128) + 0) (R % 128)))
    ∧ Is2 (dsk1 (k0_pay4 q0 q1) (k0_pay4 o0 o1) (k0_pay5 kp kc) (k0_pay5 vp vc) b t w) (fun R _ => -(B.ps (4 * kh + 2 * (R / 128) + 1) (R % 128) * B.dl (4 * kh + 2 * (R / 128) + 1) (R % 128))) :=
  ⟨(parity (seen_is H).1 (snk_is H).1 (dp_is H h0 h1).1).2.2, (parity (seen_is H).2 (snk_is H).2 (dp_is H h0 h1).2).2.2⟩

end Head

/-! ## The sinks' gradients, one lane a head -/

def up (x : FVec Ideal S256x128 .f32) : FVec Ideal S1x128 .f32 :=
  shapeCast S1x128 (multiReduction (F := Ideal) (φ := .f32) .add [0] S128 (extractStridedSlice S128x128 ![0, 0] x slices_S256x128_o0_0_S128x128) 0x00000000#32 reduces_S128x128_S128 (.inl rfl) rfl) shapeCasts_S128_S1x128

def down (x : FVec Ideal S256x128 .f32) : FVec Ideal S1x128 .f32 :=
  shapeCast S1x128 (multiReduction (F := Ideal) (φ := .f32) .add [0] S128 (extractStridedSlice S128x128 ![128, 0] x slices_S256x128_o128_0_S128x128) 0x00000000#32 reduces_S128x128_S128 (.inl rfl) rfl) shapeCasts_S128_S1x128

def lane (acc x : FVec Ideal S1x128 .f32) (n : BitVec 32) : FVec Ideal S1x128 .f32 :=
  addf (F := Ideal) (φ := .f32) acc (select (cmpi .eq (iota .tc S1x128 32 [1] iota_S1x128_d1_w32) (broadcast S1x128 n)) x (broadcast S1x128 (Scalar.ofBits (F := Ideal) .f32 0x00000000#32)))

/-- The sums of a head's rows, for the heads of both halves of the rows. -/
theorem halves_sum {B : Blk} {x : FVec Ideal S256x128 .f32} {kh p : ℕ} (h : Is2 x fun R _ => -(B.ps (4 * kh + 2 * (R / 128) + p) (R % 128) * B.dl (4 * kh + 2 * (R / 128) + p) (R % 128))) :
    Is2 (up x) (fun _ _ => B.dsk (4 * kh + p)) ∧ Is2 (down x) (fun _ _ => B.dsk (4 * kh + 2 + p)) := by
  constructor
  · refine (h.slice 0 0).sumCol.row.to fun v _ => ?_
    dsimp only [fn2]
    refine Finset.sum_congr rfl fun r hr => ?_
    have := Finset.mem_range.1 hr
    rw [show (0 + r) / 128 = 0 by omega, show (0 + r) % 128 = r by omega, Nat.mul_zero, Nat.add_zero]
  · refine (h.slice 128 0).sumCol.row.to fun v _ => ?_
    dsimp only [fn2]
    refine Finset.sum_congr rfl fun r hr => ?_
    have := Finset.mem_range.1 hr
    rw [show (128 + r) / 128 = 1 by omega, show (128 + r) % 128 = r by omega, Nat.mul_one]

/-- One lane receives a head's sum. -/
theorem lane_is {acc x : FVec Ideal S1x128 .f32} {f : ℕ → ℝ} {r : ℝ} {n : ℕ} (ha : Is2 acc fun _ c => f c) (hx : Is2 x fun _ _ => r) (hn : n < 128) :
    Is2 (lane acc x (BitVec.ofNat 32 n)) fun _ c => f c + if c = n then r else 0 := by
  have hb : Bits (S := S1x128) (cmpi .eq (iota .tc S1x128 32 [1] iota_S1x128_d1_w32) (broadcast S1x128 (BitVec.ofNat 32 n))) fun v => decide (v 1 = n) := fun i => by
    have hi : (i 1).val < 128 := (i 1).isLt
    show BitVec.ofBool (BitVec.ofNat 32 (0 * 128 + (i 1).val) == BitVec.ofNat 32 n) = _
    rw [Nat.zero_mul, Nat.zero_add]
    by_cases h : (i 1).val = n
    · simp [h]
    · have : (BitVec.ofNat 32 (i 1).val == BitVec.ofNat 32 n) = false := by
        rw [beq_eq_false_iff_ne]
        intro he
        have := congrArg BitVec.toNat he
        simp only [BitVec.toNat_ofNat] at this
        omega
      rw [this]; simp [h]
  have hz : Is2 (m := 1) (n := 128) (broadcast S1x128 (Scalar.ofBits (F := Ideal) .f32 0x00000000#32)) fun _ _ => 0 := is_const bits_zero
  refine (ha.add (hb.sel2 hx hz)).to fun v _ => ?_
  simp only [fn2, decide_eq_true_eq]
  rfl

end Cert.Tile
-- ==== Proof.AFwd.lean ====
/-
  One block of the attention's forward call: what its tiles hold, and the 128 rows of the output.
-/
module

public import proofs.«01_k».proof.Proof.Gen.Kernel2Ideal.Frame
public import proofs.«01_k».proof.Proof.ABlock
public import proofs.«01_k».proof.Proof.Blocks

@[expose] public section

set_option maxRecDepth 16384

noncomputable section

namespace Cert.Tile

open Idealize.ShloMosaic Cert.Reals Cert.Math Cert.Kernel2Ideal Cert.Kernel2Ideal.Gen

/-- What the windows of block `B` hold: its rows, its keys and values, each column twice, and the tables. -/
structure Block (B : Blk) (x0 : Vec Ideal S128x1024 .bf16) (x1 x2 x3 x4 : Vec Ideal S128x512 .bf16) (x5 x6 : Vec Ideal S4x256x256 .f32) (w : BitVec 1) : Prop where
  q : Is2 x0 B.q
  kc : Is2 x1 fun s l => B.k (128 + s) (64 * (l / 128) + l % 64)
  kp : Is2 x2 fun s l => B.k s (64 * (l / 128) + l % 64)
  vc : Is2 x3 fun s l => B.v (128 + s) (64 * (l / 128) + l % 64)
  vp : Is2 x4 fun s l => B.v s (64 * (l / 128) + l % 64)
  b : Is (S := S4x256x256) x5 fun v => -(B.sl (4 * v 0 + 2 * (v 1 / 128) + v 2 / 128) * (((v 1 % 128 : ℕ) : ℝ) + 128 - (fold (v 1 % 128) (v 2 % 128) : ℕ)))
  t : Is (S := S4x256x256) x6 fun v => B.sk (4 * v 0 + 2 * (v 1 / 128) + v 2 / 128)
  w : w = if B.first then 1#1 else 0#1

/-- One of the four pages of a table. -/
theorem ld_page {X : S4x256x256.Idx → Elt Ideal .f32} {f : (Fin 3 → ℕ) → ℝ} {k : ℕ} (h : Is (S := S4x256x256) X f)
    {inb : ∀ a, (![k, 0, 0] : Fin 3 → ℕ) a + (![1, 256, 256] : Fin 3 → ℕ) a ≤ S4x256x256.size a} :
    Is (S := S1x256x256) (View.ld (Val := Elt Ideal) (e' := .f32) X (Rect.unit (s := S4x256x256) ![k, 0, 0] ![1, 256, 256] inb)) fun v => f ![k, v 1, v 2] := fun i => by
  refine (h _).trans ?_
  congr 2
  funext a
  have h0 : (i 0).val < 1 := (i 0).isLt
  fin_cases a
  · show k + 1 * (i 0).val = k
    omega
  · show 0 + 1 * (i 1).val = (i 1).val
    omega
  · show 0 + 1 * (i 2).val = (i 2).val
    omega

variable {B : Blk} {x0 : Vec Ideal S128x1024 .bf16} {x1 x2 x3 x4 : Vec Ideal S128x512 .bf16} {x5 x6 : Vec Ideal S4x256x256 .f32} {w : BitVec 1}

/-- The tiles of one key head. -/
theorem Block.reads (H : Block B x0 x1 x2 x3 x4 x5 x6 w) {kh a a' l : ℕ} (hk : kh < 4) (ha : a = 256 * kh) (ha' : a' = 256 * kh + 128) (hl : l = 128 * kh)
    {i0 : ∀ d, (![0, a] : Fin 2 → ℕ) d + (![128, 128] : Fin 2 → ℕ) d ≤ S128x1024.size d}
    {i1 : ∀ d, (![0, a'] : Fin 2 → ℕ) d + (![128, 128] : Fin 2 → ℕ) d ≤ S128x1024.size d}
    {i2 : ∀ d, (![0, l] : Fin 2 → ℕ) d + (![128, 128] : Fin 2 → ℕ) d ≤ S128x512.size d}
    {i3 : ∀ d, (![kh, 0, 0] : Fin 3 → ℕ) d + (![1, 256, 256] : Fin 3 → ℕ) d ≤ S4x256x256.size d} :
    Reads B kh (View.ld (Val := Elt Ideal) (e' := .bf16) x0 (Rect.unit (s := S128x1024) ![0, a] ![128, 128] i0))
      (View.ld (Val := Elt Ideal) (e' := .bf16) x0 (Rect.unit (s := S128x1024) ![0, a'] ![128, 128] i1))
      (View.ld (Val := Elt Ideal) (e' := .bf16) x2 (Rect.unit (s := S128x512) ![0, l] ![128, 128] i2))
      (View.ld (Val := Elt Ideal) (e' := .bf16) x1 (Rect.unit (s := S128x512) ![0, l] ![128, 128] i2))
      (View.ld (Val := Elt Ideal) (e' := .bf16) x4 (Rect.unit (s := S128x512) ![0, l] ![128, 128] i2))
      (View.ld (Val := Elt Ideal) (e' := .bf16) x3 (Rect.unit (s := S128x512) ![0, l] ![128, 128] i2))
      (View.ld (Val := Elt Ideal) (e' := .f32) x5 (Rect.unit (s := S4x256x256) ![kh, 0, 0] ![1, 256, 256] i3))
      (View.ld (Val := Elt Ideal) (e' := .f32) x6 (Rect.unit (s := S4x256x256) ![kh, 0, 0] ![1, 256, 256] i3)) w := by
  subst ha ha' hl
  have col : ∀ j, j < 128 → 64 * ((128 * kh + j) / 128) + (128 * kh + j) % 64 = 64 * kh + j % 64 := fun j hj => by omega
  refine ⟨hk, H.q.ldb.to fun v _ => ?_, H.q.ldb.to fun v _ => ?_, H.kp.ldb.to fun v hv => ?_, H.kc.ldb.to fun v hv => ?_, H.vp.ldb.to fun v hv => ?_,
    H.vc.ldb.to fun v hv => ?_, ld_page H.b, ld_page H.t, H.w⟩
  · simp only [fn2, Nat.zero_add]
  · simp only [fn2, Nat.zero_add]
  all_goals
    have h1 : v 1 < 128 := hv 1
    simp only [fn2, Nat.zero_add, col _ h1]

/-- The two stored tiles of a key head's output. -/
theorem out_tiles {kh : ℕ} {q0 q1 kp kc vp vc : Vec Ideal S128x128 .bf16} {b t : Vec Ideal S1x256x256 .f32} (H : Reads B kh q0 q1 kp kc vp vc b t w) :
    Is2 (truncf .bf16 (extractStridedSlice S128x128 ![0, 0] (outw q0 q1 kp kc vp vc b t w) slices_S256x128_o0_0_S128x128 : FVec Ideal S128x128 .f32) bitsLt_bf16_f32) (fun r c => B.out (0 + r) (256 * kh + c))
    ∧ Is2 (truncf .bf16 (extractStridedSlice S128x128 ![128, 0] (outw q0 q1 kp kc vp vc b t w) slices_S256x128_o128_0_S128x128 : FVec Ideal S128x128 .f32) bitsLt_bf16_f32) (fun r c => B.out (0 + r) (256 * kh + 128 + c)) := by
  constructor
  · refine ((outw_is H).slice 0 0).trunc.to fun v hv => ?_
    have : v 0 < 128 := hv 0
    dsimp only [fn2]
    rw [show (0 + v 0) % 128 = 0 + v 0 by omega, show (0 + v 0) / 128 = 0 by omega, Nat.zero_add (v 1)]
    rfl
  · refine ((outw_is H).slice 128 0).trunc.to fun v hv => ?_
    have : v 0 < 128 := hv 0
    dsimp only [fn2]
    rw [show (128 + v 0) % 128 = 0 + v 0 by omega, show (128 + v 0) / 128 = 1 by omega, Nat.zero_add (v 1)]

/-- The block's 128 rows of the output. -/
theorem out_block (i : grid0.Coords) (H : Block B x0 x1 x2 x3 x4 x5 x6 (Scalar.cmpi .eq (BitVec.ofNat 32 (i 1).val) 0#32)) :
    Is2 (out0_7 i x0 x1 x2 x3 x4 x5 x6) B.out := by
  unfold out0_7
  refine is2_canonb (cover0_7 _ _ _ _ _ _ _ _) ⟨?_, ?_, ?_, ?_, ?_, ?_, ?_, ?_, trivial⟩
  · exact Is2.piece (inb := inb_S128x1024_S128x128_0_896) (out_tiles (H.reads (kh := 3) (by decide) rfl rfl rfl)).2
  · exact Is2.piece (inb := inb_S128x1024_S128x128_0_768) (out_tiles (H.reads (kh := 3) (by decide) rfl rfl rfl)).1
  · exact Is2.piece (inb := inb_S128x1024_S128x128_0_640) (out_tiles (H.reads (kh := 2) (by decide) rfl rfl rfl)).2
  · exact Is2.piece (inb := inb_S128x1024_S128x128_0_512) (out_tiles (H.reads (kh := 2) (by decide) rfl rfl rfl)).1
  · exact Is2.piece (inb := inb_S128x1024_S128x128_0_384) (out_tiles (H.reads (kh := 1) (by decide) rfl rfl rfl)).2
  · exact Is2.piece (inb := inb_S128x1024_S128x128_0_256) (out_tiles (H.reads (kh := 1) (by decide) rfl rfl rfl)).1
  · exact Is2.piece (inb := inb_S128x1024_S128x128_0_128) (out_tiles (H.reads (kh := 0) (by decide) rfl rfl rfl)).2
  · exact Is2.piece (inb := inb_S128x1024_S128x128_0_0) (out_tiles (H.reads (kh := 0) (by decide) rfl rfl rfl)).1

end Cert.Tile
-- ==== Proof.ABwd.lean ====
/-
  One block of the backward call: 128 rows of the queries' gradient, what the block adds to the gradients of its own keys and
  values and of those before it, and the row that the sinks' gradient grows by.
-/
module

public import proofs.«01_k».proof.Proof.ABack
public import proofs.«01_k».proof.Proof.AFwd

@[expose] public section

set_option maxRecDepth 16384

noncomputable section

namespace Cert.Tile

open Idealize.ShloMosaic Idealize.ShloMosaic.Tactic Cert.Reals Cert.Math Cert.Kernel2Ideal Cert.Kernel2Ideal.Gen
open scoped BigOperators
open Finset (range)

/-- The two halves of a key head's lanes, each a sum over two of the four query heads. -/
def wide (F : ℕ → ℕ → ℕ → ℝ) (s x : ℕ) : ℝ := F (4 * (x / 128) + x % 128 / 64) s (x % 64) + F (4 * (x / 128) + 2 + x % 128 / 64) s (x % 64)

/-- Of an array over the 256 keys, the rows of the keys before the block and the rows of its own. -/
def Split (F : ℕ → ℕ → ℕ → ℝ) (kh : ℕ) (x : FVec Ideal S256x128 .f32) : Prop :=
    Is2 (truncf .bf16 (extractStridedSlice S128x128 ![0, 0] x slices_S256x128_o0_0_S128x128 : FVec Ideal S128x128 .f32) bitsLt_bf16_f32) (fun r c => wide F (0 + r) (128 * kh + c))
    ∧ Is2 (truncf .bf16 (extractStridedSlice S128x128 ![128, 0] x slices_S256x128_o128_0_S128x128 : FVec Ideal S128x128 .f32) bitsLt_bf16_f32) (fun r c => wide F (128 + (0 + r)) (128 * kh + c))

section Tiles

variable {B : Blk} {kh : ℕ} {q0 q1 kp kc vp vc o0 o1 : Vec Ideal S128x128 .bf16} {b t : Vec Ideal S1x256x256 .f32} {w : BitVec 1}
  (H : Reads B kh q0 q1 kp kc vp vc b t w) (h0 : Is2 o0 fun r l => B.o r (256 * kh + l)) (h1 : Is2 o1 fun r l => B.o r (256 * kh + 128 + l))
include H h0 h1

/-- The two stored tiles of a key head's part of the queries' gradient. -/
theorem dq_tiles :
    Is2 (extractStridedSlice S128x128 ![0, 0] (dqw (k0_pay4 q0 q1) (k0_pay4 o0 o1) (k0_pay5 kp kc) (k0_pay5 vp vc) b t w) slices_S256x128_o0_0_S128x128) (fun r c => B.dq (0 + r) (256 * kh + c))
    ∧ Is2 (extractStridedSlice S128x128 ![128, 0] (dqw (k0_pay4 q0 q1) (k0_pay4 o0 o1) (k0_pay5 kp kc) (k0_pay5 vp vc) b t w) slices_S256x128_o128_0_S128x128) (fun r c => B.dq (0 + r) (256 * kh + 128 + c)) := by
  constructor
  · refine ((dq_is H h0 h1).slice 0 0).to fun v hv => ?_
    have : v 0 < 128 := hv 0
    dsimp only [fn2]
    rw [show (0 + v 0) % 128 = 0 + v 0 by omega, show (0 + v 0) / 128 = 0 by omega, Nat.zero_add (v 1)]
    rfl
  · refine ((dq_is H h0 h1).slice 128 0).to fun v hv => ?_
    have : v 0 < 128 := hv 0
    dsimp only [fn2]
    rw [show (128 + v 0) % 128 = 0 + v 0 by omega, show (128 + v 0) / 128 = 1 by omega, Nat.zero_add (v 1)]

omit H h0 h1 in
theorem wide_tiles {x : FVec Ideal S256x128 .f32} {F : ℕ → ℕ → ℕ → ℝ} (h : Is2 x fun s l => F (4 * kh + l / 64) s (l % 64) + F (4 * kh + 2 + l / 64) s (l % 64)) :
    Split F kh x := by
  have key : ∀ c, c < 128 → (128 * kh + c) / 128 = kh ∧ (128 * kh + c) % 128 = c ∧ (128 * kh + c) % 64 = c % 64 := fun c hc => by omega
  constructor
  · refine (h.slice 0 0).trunc.to fun v hv => ?_
    obtain ⟨e1, e2, e3⟩ := key (v 1) (hv 1)
    dsimp only [fn2, wide]
    rw [e1, e2, e3, Nat.zero_add (v 1)]
  · refine (h.slice 128 0).trunc.to fun v hv => ?_
    obtain ⟨e1, e2, e3⟩ := key (v 1) (hv 1)
    dsimp only [fn2, wide]
    rw [e1, e2, e3, Nat.zero_add (v 1), Nat.zero_add (v 0)]

theorem dk_tiles : Split B.dkh kh (dkw (k0_pay4 q0 q1) (k0_pay4 o0 o1) (k0_pay5 kp kc) (k0_pay5 vp vc) b t w) := wide_tiles (F := B.dkh) (dk_is H h0 h1)
theorem dv_tiles : Split B.dvh kh (dvw (k0_pay4 q0 q1) (k0_pay4 o0 o1) (k0_pay5 kp kc) b t w) := wide_tiles (F := B.dvh) (dv_is H h0 h1)

/-- The four sums of a key head, each into its own lane. -/
def four (kh : ℕ) (acc : FVec Ideal S1x128 .f32) (Q O : FVec Ideal S256x128 .bf16) (K V : FVec Ideal S512x128 .bf16) (b t : Vec Ideal S1x256x256 .f32) (w : BitVec 1) : FVec Ideal S1x128 .f32 :=
  lane (lane (lane (lane acc (up (dsk0 Q O K V b t w)) (BitVec.ofNat 32 (4 * kh + 0))) (down (dsk0 Q O K V b t w)) (BitVec.ofNat 32 (4 * kh + 2 + 0)))
    (up (dsk1 Q O K V b t w)) (BitVec.ofNat 32 (4 * kh + 1))) (down (dsk1 Q O K V b t w)) (BitVec.ofNat 32 (4 * kh + 2 + 1))

theorem four_is {acc : FVec Ideal S1x128 .f32} (ha : Is2 acc fun _ c => if c < 4 * kh then B.dsk c else 0) :
    Is2 (four kh acc (k0_pay4 q0 q1) (k0_pay4 o0 o1) (k0_pay5 kp kc) (k0_pay5 vp vc) b t w) fun _ c => if c < 4 * kh + 4 then B.dsk c else 0 := by
  have hk := H.hk
  have s0 := halves_sum (dsk_is H h0 h1).1
  have s1 := halves_sum (dsk_is H h0 h1).2
  refine (lane_is (lane_is (lane_is (lane_is ha s0.1 (by omega)) s0.2 (by omega)) s1.1 (by omega)) s1.2 (by omega)).to fun v _ => ?_
  simp only [fn2, Nat.add_zero]
  rcases Nat.lt_or_ge (v 1) (4 * kh) with h | h
  · rw [if_pos h, if_neg (by omega), if_neg (by omega), if_neg (by omega), if_neg (by omega), if_pos (by omega)]; ring
  · rw [if_neg (by omega)]
    rcases Nat.lt_or_ge (v 1) (4 * kh + 4) with h' | h'
    · rw [if_pos h']
      obtain h2 | h2 | h2 | h2 : v 1 = 4 * kh ∨ v 1 = 4 * kh + 1 ∨ v 1 = 4 * kh + 2 ∨ v 1 = 4 * kh + 3 := by omega
      · rw [h2, if_pos rfl, if_neg (by omega), if_neg (by omega), if_neg (by omega)]; ring
      · rw [h2, if_neg (by omega), if_neg (by omega), if_pos rfl, if_neg (by omega)]; ring
      · rw [h2, if_neg (by omega), if_pos rfl, if_neg (by omega), if_neg (by omega)]; ring
      · rw [h2, if_neg (by omega), if_neg (by omega), if_neg (by omega), if_pos rfl]; ring
    · rw [if_neg (by omega), if_neg (by omega), if_neg (by omega), if_neg (by omega), if_neg (by omega)]; ring

end Tiles

/-- The row the sinks' gradient grows by, added to what stands there. -/
theorem grown {B : Blk} {acc r : FVec Ideal S1x128 .f32} {O : ℕ → ℕ → ℝ} (hr : Is2 r O) (ha : Is2 acc fun _ c => if c < 16 then B.dsk c else 0) :
    Is2 (addf (F := Ideal) (φ := .f32) (shapeCast S1x128 r shapeCasts_S1x128_S1x128) acc) fun i c => O i c + if c < 16 then B.dsk c else 0 :=
  hr.shapeCast_self.add ha

theorem no_row : Is2 (m := 1) (n := 128) (k1_pay100 (F := Ideal)) fun _ _ => 0 := is_const bits_zero
theorem no_rows : Is2 (m := 8) (n := 128) (k1_pay8 (F := Ideal)) fun _ _ => 0 := is_const bits_zero

/-! ## A key head's tiles out of a block's windows -/

section Windows

variable (x0 : Vec Ideal S128x1024 .bf16) (x1 x2 : Vec Ideal S128x512 .bf16) (x6 : Vec Ideal S4x256x256 .f32) (k : ℕ) (hk : k < 4)

theorem in_rows (a : ℕ) (ha : a + 128 ≤ 1024) : ∀ d, (![0, a] : Fin 2 → ℕ) d + (![128, 128] : Fin 2 → ℕ) d ≤ S128x1024.size d
  | ⟨0, _⟩ => Nat.le_refl 128
  | ⟨1, _⟩ => ha
theorem in_keys (a : ℕ) (ha : a + 128 ≤ 512) : ∀ d, (![0, a] : Fin 2 → ℕ) d + (![128, 128] : Fin 2 → ℕ) d ≤ S128x512.size d
  | ⟨0, _⟩ => Nat.le_refl 128
  | ⟨1, _⟩ => ha
theorem in_pages (a : ℕ) (ha : a + 1 ≤ 4) : ∀ d, (![a, 0, 0] : Fin 3 → ℕ) d + (![1, 256, 256] : Fin 3 → ℕ) d ≤ S4x256x256.size d
  | ⟨0, _⟩ => ha
  | ⟨1, _⟩ => Nat.le_refl 256
  | ⟨2, _⟩ => Nat.le_refl 256

def rowsOf : FVec Ideal S256x128 .bf16 :=
  k0_pay4 (View.ld (Val := Elt Ideal) (e' := .bf16) x0 (Rect.unit (s := S128x1024) ![0, 256 * k] ![128, 128] (in_rows _ (by omega))))
    (View.ld (Val := Elt Ideal) (e' := .bf16) x0 (Rect.unit (s := S128x1024) ![0, 256 * k + 128] ![128, 128] (in_rows _ (by omega))))
def keysOf : FVec Ideal S512x128 .bf16 :=
  k0_pay5 (View.ld (Val := Elt Ideal) (e' := .bf16) x2 (Rect.unit (s := S128x512) ![0, 128 * k] ![128, 128] (in_keys _ (by omega))))
    (View.ld (Val := Elt Ideal) (e' := .bf16) x1 (Rect.unit (s := S128x512) ![0, 128 * k] ![128, 128] (in_keys _ (by omega))))
def pageOf : Vec Ideal S1x256x256 .f32 := View.ld (Val := Elt Ideal) (e' := .f32) x6 (Rect.unit (s := S4x256x256) ![k, 0, 0] ![1, 256, 256] (in_pages _ (by omega)))

end Windows

section Block

variable (x0 : Vec Ideal S128x1024 .bf16) (x1 x2 x3 x4 : Vec Ideal S128x512 .bf16) (x5 : Vec Ideal S128x1024 .bf16) (x6 x7 : Vec Ideal S4x256x256 .f32) (w : BitVec 1)

def dqT (k : ℕ) (hk : k < 4) := dqw (rowsOf x0 k hk) (rowsOf x5 k hk) (keysOf x1 x2 k hk) (keysOf x3 x4 k hk) (pageOf x6 k hk) (pageOf x7 k hk) w
def dkT (k : ℕ) (hk : k < 4) := dkw (rowsOf x0 k hk) (rowsOf x5 k hk) (keysOf x1 x2 k hk) (keysOf x3 x4 k hk) (pageOf x6 k hk) (pageOf x7 k hk) w
def dvT (k : ℕ) (hk : k < 4) := dvw (rowsOf x0 k hk) (rowsOf x5 k hk) (keysOf x1 x2 k hk) (pageOf x6 k hk) (pageOf x7 k hk) w
def fourT (k : ℕ) (hk : k < 4) (acc : FVec Ideal S1x128 .f32) :=
  four k acc (rowsOf x0 k hk) (rowsOf x5 k hk) (keysOf x1 x2 k hk) (keysOf x3 x4 k hk) (pageOf x6 k hk) (pageOf x7 k hk) w
/-- The sixteen sums, the key heads in turn. -/
def sinkT : FVec Ideal S1x128 .f32 :=
  fourT x0 x1 x2 x3 x4 x5 x6 x7 w 3 (by decide) (fourT x0 x1 x2 x3 x4 x5 x6 x7 w 2 (by decide)
    (fourT x0 x1 x2 x3 x4 x5 x6 x7 w 1 (by decide) (fourT x0 x1 x2 x3 x4 x5 x6 x7 w 0 (by decide) k1_pay100)))

/-- The stores of the queries' gradient: two tiles a key head, the last stored first. -/
def rowStores (T : (k : ℕ) → k < 4 → FVec Ideal S256x128 .f32) : List (View.Piece (Elt Ideal) S128x1024 .f32) :=
  [⟨Rect.unit (s := S128x1024) ![0, 896] ![128, 128] inb_S128x1024_S128x128_0_896, extractStridedSlice S128x128 ![128, 0] (T 3 (by decide)) slices_S256x128_o128_0_S128x128⟩,
    ⟨Rect.unit (s := S128x1024) ![0, 768] ![128, 128] inb_S128x1024_S128x128_0_768, extractStridedSlice S128x128 ![0, 0] (T 3 (by decide)) slices_S256x128_o0_0_S128x128⟩,
    ⟨Rect.unit (s := S128x1024) ![0, 640] ![128, 128] inb_S128x1024_S128x128_0_640, extractStridedSlice S128x128 ![128, 0] (T 2 (by decide)) slices_S256x128_o128_0_S128x128⟩,
    ⟨Rect.unit (s := S128x1024) ![0, 512] ![128, 128] inb_S128x1024_S128x128_0_512, extractStridedSlice S128x128 ![0, 0] (T 2 (by decide)) slices_S256x128_o0_0_S128x128⟩,
    ⟨Rect.unit (s := S128x1024) ![0, 384] ![128, 128] inb_S128x1024_S128x128_0_384, extractStridedSlice S128x128 ![128, 0] (T 1 (by decide)) slices_S256x128_o128_0_S128x128⟩,
    ⟨Rect.unit (s := S128x1024) ![0, 256] ![128, 128] inb_S128x1024_S128x128_0_256, extractStridedSlice S128x128 ![0, 0] (T 1 (by decide)) slices_S256x128_o0_0_S128x128⟩,
    ⟨Rect.unit (s := S128x1024) ![0, 128] ![128, 128] inb_S128x1024_S128x128_0_128, extractStridedSlice S128x128 ![128, 0] (T 0 (by decide)) slices_S256x128_o128_0_S128x128⟩,
    ⟨Rect.unit (s := S128x1024) ![0, 0] ![128, 128] inb_S128x1024_S128x128_0_0, extractStridedSlice S128x128 ![0, 0] (T 0 (by decide)) slices_S256x128_o0_0_S128x128⟩]

/-- The stores of one half of the rows of an array over the keys: a tile a key head. -/
def keyStores (T : (k : ℕ) → k < 4 → FVec Ideal S128x128 .bf16) : List (View.Piece (Elt Ideal) S128x512 .bf16) :=
  [⟨Rect.unit (s := S128x512) ![0, 384] ![128, 128] inb_S128x512_S128x128_0_384, T 3 (by decide)⟩,
    ⟨Rect.unit (s := S128x512) ![0, 256] ![128, 128] inb_S128x512_S128x128_0_256, T 2 (by decide)⟩,
    ⟨Rect.unit (s := S128x512) ![0, 128] ![128, 128] inb_S128x512_S128x128_0_128, T 1 (by decide)⟩,
    ⟨Rect.unit (s := S128x512) ![0, 0] ![128, 128] inb_S128x512_S128x128_0_0, T 0 (by decide)⟩]
def before (T : (k : ℕ) → k < 4 → FVec Ideal S256x128 .f32) (k : ℕ) (hk : k < 4) : FVec Ideal S128x128 .bf16 :=
  truncf .bf16 (extractStridedSlice S128x128 ![0, 0] (T k hk) slices_S256x128_o0_0_S128x128 : FVec Ideal S128x128 .f32) bitsLt_bf16_f32
def within (T : (k : ℕ) → k < 4 → FVec Ideal S256x128 .f32) (k : ℕ) (hk : k < 4) : FVec Ideal S128x128 .bf16 :=
  truncf .bf16 (extractStridedSlice S128x128 ![128, 0] (T k hk) slices_S256x128_o128_0_S128x128 : FVec Ideal S128x128 .f32) bitsLt_bf16_f32

theorem key_stores {T : (k : ℕ) → k < 4 → FVec Ideal S128x128 .bf16} {A : ℕ → ℕ → ℝ} (h : ∀ k hk, Is2 (T k hk) fun r c => A (0 + r) (128 * k + c)) :
    View.PiecesOf (at2 128 512 A) (keyStores T) :=
  ⟨Is2.piece (inb := inb_S128x512_S128x128_0_384) (h 3 (by decide)), Is2.piece (inb := inb_S128x512_S128x128_0_256) (h 2 (by decide)),
    Is2.piece (inb := inb_S128x512_S128x128_0_128) (h 1 (by decide)), Is2.piece (inb := inb_S128x512_S128x128_0_0) (h 0 (by decide)), trivial⟩

variable {x0 x1 x2 x3 x4 x5 x6 x7 w} {B : Blk} (H : Block B x0 x1 x2 x3 x4 x6 x7 w) (ho : Is2 x5 B.o)
include H ho

theorem row_stores : View.PiecesOf (at2 128 1024 B.dq) (rowStores (dqT x0 x1 x2 x3 x4 x5 x6 x7 w)) := by
  have h : ∀ k hk, _ := fun k hk => dq_tiles (B := B) (H.reads (kh := k) hk rfl rfl rfl (i0 := in_rows (256 * k) (by omega)) (i1 := in_rows (256 * k + 128) (by omega)) (i2 := in_keys (128 * k) (by omega)) (i3 := in_pages k (by omega))) ((ho.ldb (inb := in_rows (256 * k) (by omega))).to fun v _ => by simp only [fn2, Nat.zero_add])
    ((ho.ldb (inb := in_rows (256 * k + 128) (by omega))).to fun v _ => by simp only [fn2, Nat.zero_add])
  exact ⟨Is2.piece (inb := inb_S128x1024_S128x128_0_896) (h 3 (by decide)).2, Is2.piece (inb := inb_S128x1024_S128x128_0_768) (h 3 (by decide)).1,
    Is2.piece (inb := inb_S128x1024_S128x128_0_640) (h 2 (by decide)).2, Is2.piece (inb := inb_S128x1024_S128x128_0_512) (h 2 (by decide)).1,
    Is2.piece (inb := inb_S128x1024_S128x128_0_384) (h 1 (by decide)).2, Is2.piece (inb := inb_S128x1024_S128x128_0_256) (h 1 (by decide)).1,
    Is2.piece (inb := inb_S128x1024_S128x128_0_128) (h 0 (by decide)).2, Is2.piece (inb := inb_S128x1024_S128x128_0_0) (h 0 (by decide)).1, trivial⟩

theorem dk_stores (k : ℕ) (hk : k < 4) : Split B.dkh k (dkT x0 x1 x2 x3 x4 x5 x6 x7 w k hk) := dk_tiles (B := B) (H.reads (kh := k) hk rfl rfl rfl (i0 := in_rows (256 * k) (by omega)) (i1 := in_rows (256 * k + 128) (by omega)) (i2 := in_keys (128 * k) (by omega)) (i3 := in_pages k (by omega))) ((ho.ldb (inb := in_rows (256 * k) (by omega))).to fun v _ => by simp only [fn2, Nat.zero_add])
    ((ho.ldb (inb := in_rows (256 * k + 128) (by omega))).to fun v _ => by simp only [fn2, Nat.zero_add])
theorem dv_stores (k : ℕ) (hk : k < 4) : Split B.dvh k (dvT x0 x1 x2 x5 x6 x7 w k hk) := dv_tiles (B := B) (H.reads (kh := k) hk rfl rfl rfl (i0 := in_rows (256 * k) (by omega)) (i1 := in_rows (256 * k + 128) (by omega)) (i2 := in_keys (128 * k) (by omega)) (i3 := in_pages k (by omega))) ((ho.ldb (inb := in_rows (256 * k) (by omega))).to fun v _ => by simp only [fn2, Nat.zero_add])
    ((ho.ldb (inb := in_rows (256 * k + 128) (by omega))).to fun v _ => by simp only [fn2, Nat.zero_add])

theorem dkc_stores : View.PiecesOf (at2 128 512 fun r x => wide B.dkh (128 + r) x) (keyStores (within (dkT x0 x1 x2 x3 x4 x5 x6 x7 w))) := key_stores fun k hk => (dk_stores H ho k hk).2
theorem dkp_stores : View.PiecesOf (at2 128 512 (wide B.dkh)) (keyStores (before (dkT x0 x1 x2 x3 x4 x5 x6 x7 w))) := key_stores fun k hk => (dk_stores H ho k hk).1
theorem dvc_stores : View.PiecesOf (at2 128 512 fun r x => wide B.dvh (128 + r) x) (keyStores (within (dvT x0 x1 x2 x5 x6 x7 w))) := key_stores fun k hk => (dv_stores H ho k hk).2
theorem dvp_stores : View.PiecesOf (at2 128 512 (wide B.dvh)) (keyStores (before (dvT x0 x1 x2 x5 x6 x7 w))) := key_stores fun k hk => (dv_stores H ho k hk).1

theorem sinks_is : Is2 (sinkT x0 x1 x2 x3 x4 x5 x6 x7 w) fun _ c => if c < 16 then B.dsk c else 0 := by
  have h : ∀ k hk acc, _ := fun k hk acc => four_is (B := B) (acc := acc) (H.reads (kh := k) hk rfl rfl rfl (i0 := in_rows (256 * k) (by omega)) (i1 := in_rows (256 * k + 128) (by omega)) (i2 := in_keys (128 * k) (by omega)) (i3 := in_pages k (by omega))) ((ho.ldb (inb := in_rows (256 * k) (by omega))).to fun v _ => by simp only [fn2, Nat.zero_add])
    ((ho.ldb (inb := in_rows (256 * k + 128) (by omega))).to fun v _ => by simp only [fn2, Nat.zero_add])
  exact h 3 (by decide) _ (h 2 (by decide) _ (h 1 (by decide) _ (h 0 (by decide) _ (no_row.to fun v _ => (if_neg (Nat.not_lt_zero _)).symm))))

end Block

variable (c : Dev nD) (i : grid1.Coords)
  (a2 : Memref sig .tc .vmem S128x1024 .bf16) (h2 : a2.IsWhole)
  (a3 : Memref sig .tc .vmem S128x512 .bf16) (h3 : a3.IsWhole)
  (a4 : Memref sig .tc .vmem S128x512 .bf16) (h4 : a4.IsWhole)
  (a5 : Memref sig .tc .vmem S128x512 .bf16) (h5 : a5.IsWhole)
  (a6 : Memref sig .tc .vmem S128x512 .bf16) (h6 : a6.IsWhole)
  (a7 : Memref sig .tc .vmem S128x1024 .bf16) (h7 : a7.IsWhole)
  (a8 : Memref sig .tc .vmem S4x256x256 .f32) (h8 : a8.IsWhole)
  (a9 : Memref sig .tc .vmem S4x256x256 .f32) (h9 : a9.IsWhole)
  (a10 : Memref sig .tc .vmem S128x1024 .f32) (h10 : a10.IsWhole)
  (a11 : Memref sig .tc .vmem S128x512 .bf16) (h11 : a11.IsWhole)
  (a12 : Memref sig .tc .vmem S128x512 .bf16) (h12 : a12.IsWhole)
  (a13 : Memref sig .tc .vmem S128x512 .bf16) (h13 : a13.IsWhole)
  (a14 : Memref sig .tc .vmem S128x512 .bf16) (h14 : a14.IsWhole)
  (a15 : Memref sig .tc .vmem S8x128 .f32) (h15 : a15.IsWhole)
  (x0 : Vec Ideal S128x1024 .bf16) (x1 x2 x3 x4 : Vec Ideal S128x512 .bf16) (x5 : Vec Ideal S128x1024 .bf16) (x6 x7 : Vec Ideal S4x256x256 .f32)
  {B : Blk} (H : Block B x0 x1 x2 x3 x4 x6 x7 (Scalar.cmpi .eq (BitVec.ofNat 32 (i 1).val) 0#32)) (ho : Is2 x5 B.o)
include H ho

theorem outA_8 (hc : cond1_0 i) : Is2 (out1_A_8 c i a2 h2 a3 h3 a4 h4 a5 h5 a6 h6 a7 h7 a8 h8 a9 h9 a10 h10 a11 h11 a12 h12 a13 h13 a14 h14 a15 h15 hc x0 x1 x2 x3 x4 x5 x6 x7) (B.dq) := by
  unfold out1_A_8
  rw [View.read_writes_eq_canon _ _ _ (cover1_A_8 c i a2 h2 a3 h3 a4 h4 a5 h5 a6 h6 a7 h7 a8 h8 a9 h9 a10 h10 a11 h11 a12 h12 a13 h13 a14 h14 a15 h15 hc x0 x1 x2 x3 x4 x5 x6 x7)]
  refine is2_canonf (cover1_A_8 c i a2 h2 a3 h3 a4 h4 a5 h5 a6 h6 a7 h7 a8 h8 a9 h9 a10 h10 a11 h11 a12 h12 a13 h13 a14 h14 a15 h15 hc x0 x1 x2 x3 x4 x5 x6 x7) ?_
  unfold kernelRun1_A
  dsimp only
  sl_unfold_words
  simp only [View.readAt_eq_ld, h2.read_unread, h3.read_unread, h4.read_unread, h5.read_unread, h6.read_unread, h7.read_unread, h8.read_unread, h9.read_unread]
  exact row_stores H ho

theorem outB_8 (hc : ¬ cond1_0 i) (xo : Vec Ideal S8x128 .f32) : Is2 (out1_B_8 c i a2 h2 a3 h3 a4 h4 a5 h5 a6 h6 a7 h7 a8 h8 a9 h9 a10 h10 a11 h11 a12 h12 a13 h13 a14 h14 a15 h15 hc x0 x1 x2 x3 x4 x5 x6 x7 xo) (B.dq) := by
  unfold out1_B_8
  rw [View.read_writes_eq_canon _ _ _ (cover1_B_8 c i a2 h2 a3 h3 a4 h4 a5 h5 a6 h6 a7 h7 a8 h8 a9 h9 a10 h10 a11 h11 a12 h12 a13 h13 a14 h14 a15 h15 hc x0 x1 x2 x3 x4 x5 x6 x7 xo)]
  refine is2_canonf (cover1_B_8 c i a2 h2 a3 h3 a4 h4 a5 h5 a6 h6 a7 h7 a8 h8 a9 h9 a10 h10 a11 h11 a12 h12 a13 h13 a14 h14 a15 h15 hc x0 x1 x2 x3 x4 x5 x6 x7 xo) ?_
  unfold kernelRun1_B
  dsimp only
  sl_unfold_words
  simp only [View.readAt_eq_ld, h2.read_unread, h3.read_unread, h4.read_unread, h5.read_unread, h6.read_unread, h7.read_unread, h8.read_unread, h9.read_unread]
  exact row_stores H ho

theorem outA_9 (hc : cond1_0 i) : Is2 (out1_A_9 c i a2 h2 a3 h3 a4 h4 a5 h5 a6 h6 a7 h7 a8 h8 a9 h9 a10 h10 a11 h11 a12 h12 a13 h13 a14 h14 a15 h15 hc x0 x1 x2 x3 x4 x5 x6 x7) (fun r x => wide B.dkh (128 + r) x) := by
  unfold out1_A_9
  rw [View.read_writes_eq_canon _ _ _ (cover1_A_9 c i a2 h2 a3 h3 a4 h4 a5 h5 a6 h6 a7 h7 a8 h8 a9 h9 a10 h10 a11 h11 a12 h12 a13 h13 a14 h14 a15 h15 hc x0 x1 x2 x3 x4 x5 x6 x7)]
  refine is2_canonb (cover1_A_9 c i a2 h2 a3 h3 a4 h4 a5 h5 a6 h6 a7 h7 a8 h8 a9 h9 a10 h10 a11 h11 a12 h12 a13 h13 a14 h14 a15 h15 hc x0 x1 x2 x3 x4 x5 x6 x7) ?_
  unfold kernelRun1_A
  dsimp only
  sl_unfold_words
  simp only [View.readAt_eq_ld, h2.read_unread, h3.read_unread, h4.read_unread, h5.read_unread, h6.read_unread, h7.read_unread, h8.read_unread, h9.read_unread]
  exact dkc_stores H ho

theorem outB_9 (hc : ¬ cond1_0 i) (xo : Vec Ideal S8x128 .f32) : Is2 (out1_B_9 c i a2 h2 a3 h3 a4 h4 a5 h5 a6 h6 a7 h7 a8 h8 a9 h9 a10 h10 a11 h11 a12 h12 a13 h13 a14 h14 a15 h15 hc x0 x1 x2 x3 x4 x5 x6 x7 xo) (fun r x => wide B.dkh (128 + r) x) := by
  unfold out1_B_9
  rw [View.read_writes_eq_canon _ _ _ (cover1_B_9 c i a2 h2 a3 h3 a4 h4 a5 h5 a6 h6 a7 h7 a8 h8 a9 h9 a10 h10 a11 h11 a12 h12 a13 h13 a14 h14 a15 h15 hc x0 x1 x2 x3 x4 x5 x6 x7 xo)]
  refine is2_canonb (cover1_B_9 c i a2 h2 a3 h3 a4 h4 a5 h5 a6 h6 a7 h7 a8 h8 a9 h9 a10 h10 a11 h11 a12 h12 a13 h13 a14 h14 a15 h15 hc x0 x1 x2 x3 x4 x5 x6 x7 xo) ?_
  unfold kernelRun1_B
  dsimp only
  sl_unfold_words
  simp only [View.readAt_eq_ld, h2.read_unread, h3.read_unread, h4.read_unread, h5.read_unread, h6.read_unread, h7.read_unread, h8.read_unread, h9.read_unread]
  exact dkc_stores H ho

theorem outA_10 (hc : cond1_0 i) : Is2 (out1_A_10 c i a2 h2 a3 h3 a4 h4 a5 h5 a6 h6 a7 h7 a8 h8 a9 h9 a10 h10 a11 h11 a12 h12 a13 h13 a14 h14 a15 h15 hc x0 x1 x2 x3 x4 x5 x6 x7) (wide B.dkh) := by
  unfold out1_A_10
  rw [View.read_writes_eq_canon _ _ _ (cover1_A_10 c i a2 h2 a3 h3 a4 h4 a5 h5 a6 h6 a7 h7 a8 h8 a9 h9 a10 h10 a11 h11 a12 h12 a13 h13 a14 h14 a15 h15 hc x0 x1 x2 x3 x4 x5 x6 x7)]
  refine is2_canonb (cover1_A_10 c i a2 h2 a3 h3 a4 h4 a5 h5 a6 h6 a7 h7 a8 h8 a9 h9 a10 h10 a11 h11 a12 h12 a13 h13 a14 h14 a15 h15 hc x0 x1 x2 x3 x4 x5 x6 x7) ?_
  unfold kernelRun1_A
  dsimp only
  sl_unfold_words
  simp only [View.readAt_eq_ld, h2.read_unread, h3.read_unread, h4.read_unread, h5.read_unread, h6.read_unread, h7.read_unread, h8.read_unread, h9.read_unread]
  exact dkp_stores H ho

theorem outB_10 (hc : ¬ cond1_0 i) (xo : Vec Ideal S8x128 .f32) : Is2 (out1_B_10 c i a2 h2 a3 h3 a4 h4 a5 h5 a6 h6 a7 h7 a8 h8 a9 h9 a10 h10 a11 h11 a12 h12 a13 h13 a14 h14 a15 h15 hc x0 x1 x2 x3 x4 x5 x6 x7 xo) (wide B.dkh) := by
  unfold out1_B_10
  rw [View.read_writes_eq_canon _ _ _ (cover1_B_10 c i a2 h2 a3 h3 a4 h4 a5 h5 a6 h6 a7 h7 a8 h8 a9 h9 a10 h10 a11 h11 a12 h12 a13 h13 a14 h14 a15 h15 hc x0 x1 x2 x3 x4 x5 x6 x7 xo)]
  refine is2_canonb (cover1_B_10 c i a2 h2 a3 h3 a4 h4 a5 h5 a6 h6 a7 h7 a8 h8 a9 h9 a10 h10 a11 h11 a12 h12 a13 h13 a14 h14 a15 h15 hc x0 x1 x2 x3 x4 x5 x6 x7 xo) ?_
  unfold kernelRun1_B
  dsimp only
  sl_unfold_words
  simp only [View.readAt_eq_ld, h2.read_unread, h3.read_unread, h4.read_unread, h5.read_unread, h6.read_unread, h7.read_unread, h8.read_unread, h9.read_unread]
  exact dkp_stores H ho

theorem outA_11 (hc : cond1_0 i) : Is2 (out1_A_11 c i a2 h2 a3 h3 a4 h4 a5 h5 a6 h6 a7 h7 a8 h8 a9 h9 a10 h10 a11 h11 a12 h12 a13 h13 a14 h14 a15 h15 hc x0 x1 x2 x3 x4 x5 x6 x7) (fun r x => wide B.dvh (128 + r) x) := by
  unfold out1_A_11
  rw [View.read_writes_eq_canon _ _ _ (cover1_A_11 c i a2 h2 a3 h3 a4 h4 a5 h5 a6 h6 a7 h7 a8 h8 a9 h9 a10 h10 a11 h11 a12 h12 a13 h13 a14 h14 a15 h15 hc x0 x1 x2 x3 x4 x5 x6 x7)]
  refine is2_canonb (cover1_A_11 c i a2 h2 a3 h3 a4 h4 a5 h5 a6 h6 a7 h7 a8 h8 a9 h9 a10 h10 a11 h11 a12 h12 a13 h13 a14 h14 a15 h15 hc x0 x1 x2 x3 x4 x5 x6 x7) ?_
  unfold kernelRun1_A
  dsimp only
  sl_unfold_words
  simp only [View.readAt_eq_ld, h2.read_unread, h3.read_unread, h4.read_unread, h5.read_unread, h6.read_unread, h7.read_unread, h8.read_unread, h9.read_unread]
  exact dvc_stores H ho

theorem outB_11 (hc : ¬ cond1_0 i) (xo : Vec Ideal S8x128 .f32) : Is2 (out1_B_11 c i a2 h2 a3 h3 a4 h4 a5 h5 a6 h6 a7 h7 a8 h8 a9 h9 a10 h10 a11 h11 a12 h12 a13 h13 a14 h14 a15 h15 hc x0 x1 x2 x3 x4 x5 x6 x7 xo) (fun r x => wide B.dvh (128 + r) x) := by
  unfold out1_B_11
  rw [View.read_writes_eq_canon _ _ _ (cover1_B_11 c i a2 h2 a3 h3 a4 h4 a5 h5 a6 h6 a7 h7 a8 h8 a9 h9 a10 h10 a11 h11 a12 h12 a13 h13 a14 h14 a15 h15 hc x0 x1 x2 x3 x4 x5 x6 x7 xo)]
  refine is2_canonb (cover1_B_11 c i a2 h2 a3 h3 a4 h4 a5 h5 a6 h6 a7 h7 a8 h8 a9 h9 a10 h10 a11 h11 a12 h12 a13 h13 a14 h14 a15 h15 hc x0 x1 x2 x3 x4 x5 x6 x7 xo) ?_
  unfold kernelRun1_B
  dsimp only
  sl_unfold_words
  simp only [View.readAt_eq_ld, h2.read_unread, h3.read_unread, h4.read_unread, h5.read_unread, h6.read_unread, h7.read_unread, h8.read_unread, h9.read_unread]
  exact dvc_stores H ho

theorem outA_12 (hc : cond1_0 i) : Is2 (out1_A_12 c i a2 h2 a3 h3 a4 h4 a5 h5 a6 h6 a7 h7 a8 h8 a9 h9 a10 h10 a11 h11 a12 h12 a13 h13 a14 h14 a15 h15 hc x0 x1 x2 x3 x4 x5 x6 x7) (wide B.dvh) := by
  unfold out1_A_12
  rw [View.read_writes_eq_canon _ _ _ (cover1_A_12 c i a2 h2 a3 h3 a4 h4 a5 h5 a6 h6 a7 h7 a8 h8 a9 h9 a10 h10 a11 h11 a12 h12 a13 h13 a14 h14 a15 h15 hc x0 x1 x2 x3 x4 x5 x6 x7)]
  refine is2_canonb (cover1_A_12 c i a2 h2 a3 h3 a4 h4 a5 h5 a6 h6 a7 h7 a8 h8 a9 h9 a10 h10 a11 h11 a12 h12 a13 h13 a14 h14 a15 h15 hc x0 x1 x2 x3 x4 x5 x6 x7) ?_
  unfold kernelRun1_A
  dsimp only
  sl_unfold_words
  simp only [View.readAt_eq_ld, h2.read_unread, h3.read_unread, h4.read_unread, h5.read_unread, h6.read_unread, h7.read_unread, h8.read_unread, h9.read_unread]
  exact dvp_stores H ho

theorem outB_12 (hc : ¬ cond1_0 i) (xo : Vec Ideal S8x128 .f32) : Is2 (out1_B_12 c i a2 h2 a3 h3 a4 h4 a5 h5 a6 h6 a7 h7 a8 h8 a9 h9 a10 h10 a11 h11 a12 h12 a13 h13 a14 h14 a15 h15 hc x0 x1 x2 x3 x4 x5 x6 x7 xo) (wide B.dvh) := by
  unfold out1_B_12
  rw [View.read_writes_eq_canon _ _ _ (cover1_B_12 c i a2 h2 a3 h3 a4 h4 a5 h5 a6 h6 a7 h7 a8 h8 a9 h9 a10 h10 a11 h11 a12 h12 a13 h13 a14 h14 a15 h15 hc x0 x1 x2 x3 x4 x5 x6 x7 xo)]
  refine is2_canonb (cover1_B_12 c i a2 h2 a3 h3 a4 h4 a5 h5 a6 h6 a7 h7 a8 h8 a9 h9 a10 h10 a11 h11 a12 h12 a13 h13 a14 h14 a15 h15 hc x0 x1 x2 x3 x4 x5 x6 x7 xo) ?_
  unfold kernelRun1_B
  dsimp only
  sl_unfold_words
  simp only [View.readAt_eq_ld, h2.read_unread, h3.read_unread, h4.read_unread, h5.read_unread, h6.read_unread, h7.read_unread, h8.read_unread, h9.read_unread]
  exact dvp_stores H ho

theorem outA_13 (hc : cond1_0 i) : Is2 (out1_A_13 c i a2 h2 a3 h3 a4 h4 a5 h5 a6 h6 a7 h7 a8 h8 a9 h9 a10 h10 a11 h11 a12 h12 a13 h13 a14 h14 a15 h15 hc x0 x1 x2 x3 x4 x5 x6 x7) fun r l => if r < 1 then (if l < 16 then B.dsk l else 0) else 0 := by
  unfold out1_A_13 kernelRun1_A
  dsimp only
  sl_unfold_words
  simp only [View.readAt_eq_ld, h2.read_unread, h3.read_unread, h4.read_unread, h5.read_unread, h6.read_unread, h7.read_unread, h8.read_unread, h9.read_unread]
  rw [View.readCov_fill _ _ _ _ _ fun a => by fin_cases a <;> rfl]
  have hr := grown (no_rows.ld (inb := inb_S8x128_S1x128_0_0)) (sinks_is H ho)
  exact (is2_firstRow (inb := inb_S8x128_S1x128_0_0) hr (is2_fill (inb := inb_S8x128_S8x128_0_0) no_rows)).to fun v _ => by simp only [fn2, zero_add]

theorem outB_13 (hc : ¬ cond1_0 i) (xo : Vec Ideal S8x128 .f32) {O : ℕ → ℕ → ℝ}
    (eo : Is2 xo O) : Is2 (out1_B_13 c i a2 h2 a3 h3 a4 h4 a5 h5 a6 h6 a7 h7 a8 h8 a9 h9 a10 h10 a11 h11 a12 h12 a13 h13 a14 h14 a15 h15 hc x0 x1 x2 x3 x4 x5 x6 x7 xo) fun r l => if r < 1 then O r l + (if l < 16 then B.dsk l else 0) else O r l := by
  unfold out1_B_13 kernelRun1_B
  dsimp only
  sl_unfold_words
  simp only [View.readAt_eq_ld, h2.read_unread, h3.read_unread, h4.read_unread, h5.read_unread, h6.read_unread, h7.read_unread, h8.read_unread, h9.read_unread, h15.read_unread]
  have hr := grown (eo.ld (inb := inb_S8x128_S1x128_0_0)) (sinks_is H ho)
  refine (is2_firstRow (inb := inb_S8x128_S1x128_0_0) hr (B := O) ?_).to fun v _ => by simp only [fn2, Nat.zero_add]
  rw [View.writes_nil, h15.read_unread]
  exact eo

end Cert.Tile
-- ==== Proof.AArr.lean ====
/-
  The arrays the attention's two calls leave: block by block, of 128 rows each.
-/
module

public import proofs.«01_k».proof.Proof.ABwd
public import Idealize.ShloMosaic.Lib.Pipeline.ValueKit

@[expose] public section

set_option maxRecDepth 16384

noncomputable section

namespace Cert.Tile

open Idealize.ShloMosaic Idealize.ShloMosaic.TcCoe Idealize.ShloMosaic.Pipeline Cert.Reals Cert.Math Cert.Kernel2Ideal Cert.Kernel2Ideal.Gen
open scoped BigOperators
open Finset (range)

/-- What the attention reads: the scaled queries, the keys, the values, the output's gradient, and each head's slope and sink. -/
structure Att where
  q : ℕ → ℕ → ℝ
  k : ℕ → ℕ → ℝ
  v : ℕ → ℕ → ℝ
  o : ℕ → ℕ → ℝ
  sl : ℕ → ℝ
  sk : ℕ → ℝ

/-- The `n`-th block of 128 rows: its own keys after those of the block before. -/
def Att.blk (D : Att) (n : ℕ) : Blk where
  q r c := D.q (n * 128 + r) c
  k s c := if s < 128 then D.k ((n - 1) * 128 + s) c else D.k (n * 128 + (s - 128)) c
  v s c := if s < 128 then D.v ((n - 1) * 128 + s) c else D.v (n * 128 + (s - 128)) c
  o r c := D.o (n * 128 + r) c
  sl := D.sl
  sk := D.sk
  first := decide (n % 16 = 0)

/-- The element of a block's tile in the array it is a tile of. -/
theorem coe_block (F : ℕ → ℕ → ℕ → ℝ) {p q n : ℕ} (hp : p = n) (hq : q = 0) {i : ℕ} (hi : i < 128) (s j : ℕ) :
    ((F ((p * 128 + i) / 128) ((p * 128 + i) % 128) (q * s + j) : ℝ) : EReal) = ((F n i j : ℝ) : EReal) := by
  rw [hp, hq, Nat.zero_mul, Nat.zero_add, show (n * 128 + i) / 128 = n by omega, show (n * 128 + i) % 128 = i by omega]

variable (V : (c : Dev nD) → (b : Ref sig .tc) → Buf (Elt Ideal) ((c : Thread nD τ).loc b)) (c : Dev nD)

/-- The arrays as the calls find them. -/
structure Found (D : Att) : Prop where
  q : Is2 (V c main_v39) D.q
  k : Is2 (V c main_v51) fun i l => D.k i (64 * (l / 128) + l % 64)
  v : Is2 (V c main_v63) fun i l => D.v i (64 * (l / 128) + l % 64)
  b : Is (S := S4x256x256) (V c main_v35) fun v => -(D.sl (4 * v 0 + 2 * (v 1 / 128) + v 2 / 128) * (((v 1 % 128 : ℕ) : ℝ) + 128 - (fold (v 1 % 128) (v 2 % 128) : ℕ)))
  t : Is (S := S4x256x256) (V c main_v36) fun v => D.sk (4 * v 0 + 2 * (v 1 / 128) + v 2 / 128)

variable {V c} {D : Att} (H : Found V c D)

/-! ## The forward call -/

theorem at0_0 (t : Fin cfg0.N) : win0_0.index t 0 = t.val ∧ win0_0.index t 1 = 0 :=
  (by decide +kernel : ∀ t : Fin grid0.N, win0_0.index t 0 = t.val ∧ win0_0.index t 1 = 0) t
theorem at0_1 (t : Fin cfg0.N) : win0_1.index t 0 = t.val ∧ win0_1.index t 1 = 0 :=
  (by decide +kernel : ∀ t : Fin grid0.N, win0_1.index t 0 = t.val ∧ win0_1.index t 1 = 0) t
theorem at0_2 (t : Fin cfg0.N) : win0_2.index t 0 = t.val - 1 ∧ win0_2.index t 1 = 0 :=
  (by decide +kernel : ∀ t : Fin grid0.N, win0_2.index t 0 = t.val - 1 ∧ win0_2.index t 1 = 0) t
theorem at0_3 (t : Fin cfg0.N) : win0_3.index t 0 = t.val ∧ win0_3.index t 1 = 0 :=
  (by decide +kernel : ∀ t : Fin grid0.N, win0_3.index t 0 = t.val ∧ win0_3.index t 1 = 0) t
theorem at0_4 (t : Fin cfg0.N) : win0_4.index t 0 = t.val - 1 ∧ win0_4.index t 1 = 0 :=
  (by decide +kernel : ∀ t : Fin grid0.N, win0_4.index t 0 = t.val - 1 ∧ win0_4.index t 1 = 0) t
theorem at0_5 (t : Fin cfg0.N) : ∀ a, win0_5.index t a = 0 :=
  (by decide +kernel : ∀ t : Fin grid0.N, ∀ a, win0_5.index t a = 0) t
theorem at0_6 (t : Fin cfg0.N) : ∀ a, win0_6.index t a = 0 :=
  (by decide +kernel : ∀ t : Fin grid0.N, ∀ a, win0_6.index t a = 0) t
theorem at0_7 (t : Fin cfg0.N) : win0_7.index t 0 = t.val ∧ win0_7.index t 1 = 0 :=
  (by decide +kernel : ∀ t : Fin grid0.N, win0_7.index t 0 = t.val ∧ win0_7.index t 1 = 0) t
theorem blk0_0 {A : ℕ → ℕ → ℝ} (h : Is2 (V c main_v39) A) (t : Fin cfg0.N) : Is2 (m := 128) (n := 1024) (iblk0 V c 0 t) fun i j => A (t.val * 128 + i) j := fun y => by
  blk_simp [iblk0]
  refine (h _).trans ?_
  blk_simp
  exact coe_tile A (at0_0 t).1 (at0_0 t).2 128 1024 (y 0).val (y 1).val
theorem blk0_1 {A : ℕ → ℕ → ℝ} (h : Is2 (V c main_v51) A) (t : Fin cfg0.N) : Is2 (m := 128) (n := 512) (iblk0 V c 1 t) fun i j => A (t.val * 128 + i) j := fun y => by
  blk_simp [iblk0]
  refine (h _).trans ?_
  blk_simp
  exact coe_tile A (at0_1 t).1 (at0_1 t).2 128 512 (y 0).val (y 1).val
theorem blk0_2 {A : ℕ → ℕ → ℝ} (h : Is2 (V c main_v51) A) (t : Fin cfg0.N) : Is2 (m := 128) (n := 512) (iblk0 V c 2 t) fun i j => A ((t.val - 1) * 128 + i) j := fun y => by
  blk_simp [iblk0]
  refine (h _).trans ?_
  blk_simp
  exact coe_tile A (at0_2 t).1 (at0_2 t).2 128 512 (y 0).val (y 1).val
theorem blk0_3 {A : ℕ → ℕ → ℝ} (h : Is2 (V c main_v63) A) (t : Fin cfg0.N) : Is2 (m := 128) (n := 512) (iblk0 V c 3 t) fun i j => A (t.val * 128 + i) j := fun y => by
  blk_simp [iblk0]
  refine (h _).trans ?_
  blk_simp
  exact coe_tile A (at0_3 t).1 (at0_3 t).2 128 512 (y 0).val (y 1).val
theorem blk0_4 {A : ℕ → ℕ → ℝ} (h : Is2 (V c main_v63) A) (t : Fin cfg0.N) : Is2 (m := 128) (n := 512) (iblk0 V c 4 t) fun i j => A ((t.val - 1) * 128 + i) j := fun y => by
  blk_simp [iblk0]
  refine (h _).trans ?_
  blk_simp
  exact coe_tile A (at0_4 t).1 (at0_4 t).2 128 512 (y 0).val (y 1).val
theorem blk0_5 {f : (Fin 3 → ℕ) → ℝ} (h : Is (S := S4x256x256) (V c main_v35) f) (t : Fin cfg0.N) : Is (S := S4x256x256) (iblk0 V c 5 t) f := fun y => by
  blk_simp [iblk0]
  refine (h _).trans ?_
  blk_simp
  congr 2
  funext a
  show win0_5.index t a * _ + (y a).val = (y a).val
  rw [at0_5 t a, Nat.zero_mul, Nat.zero_add]
theorem blk0_6 {f : (Fin 3 → ℕ) → ℝ} (h : Is (S := S4x256x256) (V c main_v36) f) (t : Fin cfg0.N) : Is (S := S4x256x256) (iblk0 V c 6 t) f := fun y => by
  blk_simp [iblk0]
  refine (h _).trans ?_
  blk_simp
  congr 2
  funext a
  show win0_6.index t a * _ + (y a).val = (y a).val
  rw [at0_6 t a, Nat.zero_mul, Nat.zero_add]

theorem first0 (t : Fin cfg0.N) : Scalar.cmpi .eq (BitVec.ofNat 32 ((grid0.coords t) 1).val) 0#32 = if decide (t.val % 16 = 0) then 1#1 else 0#1 :=
  (by decide +kernel : ∀ t : Fin grid0.N, Scalar.cmpi .eq (BitVec.ofNat 32 ((grid0.coords t) 1).val) 0#32 = if decide (t.val % 16 = 0) then 1#1 else 0#1) t

include H in
/-- The windows of one point hold its block. -/
theorem block0 (t : Fin cfg0.N) :
    Block (D.blk t.val) (iblk0 V c 0 t) (iblk0 V c 1 t) (iblk0 V c 2 t) (iblk0 V c 3 t) (iblk0 V c 4 t) (iblk0 V c 5 t) (iblk0 V c 6 t)
      (Scalar.cmpi .eq (BitVec.ofNat 32 ((grid0.coords t) 1).val) 0#32) where
  q := blk0_0 H.q t
  kc := (blk0_1 H.k t).to fun v _ => by
    simp only [fn2, Att.blk]
    rw [if_neg (by omega), Nat.add_sub_cancel_left]
  kp := (blk0_2 H.k t).to fun v hv => by
    have : v 0 < 128 := hv 0
    simp only [fn2, Att.blk]
    rw [if_pos this]
  vc := (blk0_3 H.v t).to fun v _ => by
    simp only [fn2, Att.blk]
    rw [if_neg (by omega), Nat.add_sub_cancel_left]
  vp := (blk0_4 H.v t).to fun v hv => by
    have : v 0 < 128 := hv 0
    simp only [fn2, Att.blk]
    rw [if_pos this]
  b := blk0_5 H.b t
  t := blk0_6 H.t t
  w := first0 t

theorem covers0_7 : (cfg0.win 7).Covers := by decide +kernel

include H in
/-- The attention's output. -/
theorem arr0_7 : Is2 (m := 8192) (n := 1024) ((dat0 V c).arrAt 7 cfg0.N) fun i j => (D.blk (i / 128)).out (i % 128) j :=
  (dat0 V c).arrAt_forall_of_covers 7 (fun i v => v = ((fn2 (fun i j => (D.blk (i / 128)).out (i % 128) j) fun a => (i a).val : ℝ) : EReal)) covers0_7 fun t hf y => by
    blk_simp
    rw [after0_7]
    exact (out_block (grid0.coords t) (block0 H t) y).trans (coe_block (fun n => (D.blk n).out) (at0_7 t).1 (at0_7 t).2 (y 0).isLt 1024 (y 1).val).symm

/-! ## The backward call -/

theorem at1_0 (t : Fin cfg1.N) : win1_0.index t 0 = t.val ∧ win1_0.index t 1 = 0 :=
  (by decide +kernel : ∀ t : Fin grid1.N, win1_0.index t 0 = t.val ∧ win1_0.index t 1 = 0) t
theorem at1_1 (t : Fin cfg1.N) : win1_1.index t 0 = t.val ∧ win1_1.index t 1 = 0 :=
  (by decide +kernel : ∀ t : Fin grid1.N, win1_1.index t 0 = t.val ∧ win1_1.index t 1 = 0) t
theorem at1_2 (t : Fin cfg1.N) : win1_2.index t 0 = t.val - 1 ∧ win1_2.index t 1 = 0 :=
  (by decide +kernel : ∀ t : Fin grid1.N, win1_2.index t 0 = t.val - 1 ∧ win1_2.index t 1 = 0) t
theorem at1_3 (t : Fin cfg1.N) : win1_3.index t 0 = t.val ∧ win1_3.index t 1 = 0 :=
  (by decide +kernel : ∀ t : Fin grid1.N, win1_3.index t 0 = t.val ∧ win1_3.index t 1 = 0) t
theorem at1_4 (t : Fin cfg1.N) : win1_4.index t 0 = t.val - 1 ∧ win1_4.index t 1 = 0 :=
  (by decide +kernel : ∀ t : Fin grid1.N, win1_4.index t 0 = t.val - 1 ∧ win1_4.index t 1 = 0) t
theorem at1_5 (t : Fin cfg1.N) : win1_5.index t 0 = t.val ∧ win1_5.index t 1 = 0 :=
  (by decide +kernel : ∀ t : Fin grid1.N, win1_5.index t 0 = t.val ∧ win1_5.index t 1 = 0) t
theorem at1_6 (t : Fin cfg1.N) : ∀ a, win1_6.index t a = 0 :=
  (by decide +kernel : ∀ t : Fin grid1.N, ∀ a, win1_6.index t a = 0) t
theorem at1_7 (t : Fin cfg1.N) : ∀ a, win1_7.index t a = 0 :=
  (by decide +kernel : ∀ t : Fin grid1.N, ∀ a, win1_7.index t a = 0) t
theorem at1_8 (t : Fin cfg1.N) : win1_8.index t 0 = t.val ∧ win1_8.index t 1 = 0 :=
  (by decide +kernel : ∀ t : Fin grid1.N, win1_8.index t 0 = t.val ∧ win1_8.index t 1 = 0) t
theorem at1_9 (t : Fin cfg1.N) : win1_9.index t 0 = t.val ∧ win1_9.index t 1 = 0 :=
  (by decide +kernel : ∀ t : Fin grid1.N, win1_9.index t 0 = t.val ∧ win1_9.index t 1 = 0) t
theorem at1_10 (t : Fin cfg1.N) : win1_10.index t 0 = t.val ∧ win1_10.index t 1 = 0 :=
  (by decide +kernel : ∀ t : Fin grid1.N, win1_10.index t 0 = t.val ∧ win1_10.index t 1 = 0) t
theorem at1_11 (t : Fin cfg1.N) : win1_11.index t 0 = t.val ∧ win1_11.index t 1 = 0 :=
  (by decide +kernel : ∀ t : Fin grid1.N, win1_11.index t 0 = t.val ∧ win1_11.index t 1 = 0) t
theorem at1_12 (t : Fin cfg1.N) : win1_12.index t 0 = t.val ∧ win1_12.index t 1 = 0 :=
  (by decide +kernel : ∀ t : Fin grid1.N, win1_12.index t 0 = t.val ∧ win1_12.index t 1 = 0) t
theorem at1_13 (t : Fin cfg1.N) : win1_13.index t 0 = 0 ∧ win1_13.index t 1 = 0 :=
  (by decide +kernel : ∀ t : Fin grid1.N, win1_13.index t 0 = 0 ∧ win1_13.index t 1 = 0) t
theorem blk1_0 {A : ℕ → ℕ → ℝ} (h : Is2 (V c main_v39) A) (t : Fin cfg1.N) : Is2 (m := 128) (n := 1024) (iblk1 V c 0 t) fun i j => A (t.val * 128 + i) j := fun y => by
  blk_simp [iblk1]
  refine (h _).trans ?_
  blk_simp
  exact coe_tile A (at1_0 t).1 (at1_0 t).2 128 1024 (y 0).val (y 1).val
theorem blk1_1 {A : ℕ → ℕ → ℝ} (h : Is2 (V c main_v51) A) (t : Fin cfg1.N) : Is2 (m := 128) (n := 512) (iblk1 V c 1 t) fun i j => A (t.val * 128 + i) j := fun y => by
  blk_simp [iblk1]
  refine (h _).trans ?_
  blk_simp
  exact coe_tile A (at1_1 t).1 (at1_1 t).2 128 512 (y 0).val (y 1).val
theorem blk1_2 {A : ℕ → ℕ → ℝ} (h : Is2 (V c main_v51) A) (t : Fin cfg1.N) : Is2 (m := 128) (n := 512) (iblk1 V c 2 t) fun i j => A ((t.val - 1) * 128 + i) j := fun y => by
  blk_simp [iblk1]
  refine (h _).trans ?_
  blk_simp
  exact coe_tile A (at1_2 t).1 (at1_2 t).2 128 512 (y 0).val (y 1).val
theorem blk1_3 {A : ℕ → ℕ → ℝ} (h : Is2 (V c main_v63) A) (t : Fin cfg1.N) : Is2 (m := 128) (n := 512) (iblk1 V c 3 t) fun i j => A (t.val * 128 + i) j := fun y => by
  blk_simp [iblk1]
  refine (h _).trans ?_
  blk_simp
  exact coe_tile A (at1_3 t).1 (at1_3 t).2 128 512 (y 0).val (y 1).val
theorem blk1_4 {A : ℕ → ℕ → ℝ} (h : Is2 (V c main_v63) A) (t : Fin cfg1.N) : Is2 (m := 128) (n := 512) (iblk1 V c 4 t) fun i j => A ((t.val - 1) * 128 + i) j := fun y => by
  blk_simp [iblk1]
  refine (h _).trans ?_
  blk_simp
  exact coe_tile A (at1_4 t).1 (at1_4 t).2 128 512 (y 0).val (y 1).val
theorem blk1_5 {A : ℕ → ℕ → ℝ} (h : Is2 (V c main_v65) A) (t : Fin cfg1.N) : Is2 (m := 128) (n := 1024) (iblk1 V c 5 t) fun i j => A (t.val * 128 + i) j := fun y => by
  blk_simp [iblk1]
  refine (h _).trans ?_
  blk_simp
  exact coe_tile A (at1_5 t).1 (at1_5 t).2 128 1024 (y 0).val (y 1).val
theorem blk1_6 {f : (Fin 3 → ℕ) → ℝ} (h : Is (S := S4x256x256) (V c main_v35) f) (t : Fin cfg1.N) : Is (S := S4x256x256) (iblk1 V c 6 t) f := fun y => by
  blk_simp [iblk1]
  refine (h _).trans ?_
  blk_simp
  congr 2
  funext a
  show win1_6.index t a * _ + (y a).val = (y a).val
  rw [at1_6 t a, Nat.zero_mul, Nat.zero_add]
theorem blk1_7 {f : (Fin 3 → ℕ) → ℝ} (h : Is (S := S4x256x256) (V c main_v36) f) (t : Fin cfg1.N) : Is (S := S4x256x256) (iblk1 V c 7 t) f := fun y => by
  blk_simp [iblk1]
  refine (h _).trans ?_
  blk_simp
  congr 2
  funext a
  show win1_7.index t a * _ + (y a).val = (y a).val
  rw [at1_7 t a, Nat.zero_mul, Nat.zero_add]

theorem first1 (t : Fin cfg1.N) : Scalar.cmpi .eq (BitVec.ofNat 32 ((grid1.coords t) 1).val) 0#32 = if decide (t.val % 16 = 0) then 1#1 else 0#1 :=
  (by decide +kernel : ∀ t : Fin grid1.N, Scalar.cmpi .eq (BitVec.ofNat 32 ((grid1.coords t) 1).val) 0#32 = if decide (t.val % 16 = 0) then 1#1 else 0#1) t

include H in
/-- The windows of one point hold its block. -/
theorem block1 (t : Fin cfg1.N) :
    Block (D.blk t.val) (iblk1 V c 0 t) (iblk1 V c 1 t) (iblk1 V c 2 t) (iblk1 V c 3 t) (iblk1 V c 4 t) (iblk1 V c 6 t) (iblk1 V c 7 t)
      (Scalar.cmpi .eq (BitVec.ofNat 32 ((grid1.coords t) 1).val) 0#32) where
  q := blk1_0 H.q t
  kc := (blk1_1 H.k t).to fun v _ => by
    simp only [fn2, Att.blk]
    rw [if_neg (by omega), Nat.add_sub_cancel_left]
  kp := (blk1_2 H.k t).to fun v hv => by
    have : v 0 < 128 := hv 0
    simp only [fn2, Att.blk]
    rw [if_pos this]
  vc := (blk1_3 H.v t).to fun v _ => by
    simp only [fn2, Att.blk]
    rw [if_neg (by omega), Nat.add_sub_cancel_left]
  vp := (blk1_4 H.v t).to fun v hv => by
    have : v 0 < 128 := hv 0
    simp only [fn2, Att.blk]
    rw [if_pos this]
  b := blk1_6 H.b t
  t := blk1_7 H.t t
  w := first1 t

theorem covers1_8 : (cfg1.win 8).Covers := by decide +kernel
theorem covers1_9 : (cfg1.win 9).Covers := by decide +kernel
theorem covers1_10 : (cfg1.win 10).Covers := by decide +kernel
theorem covers1_11 : (cfg1.win 11).Covers := by decide +kernel
theorem covers1_12 : (cfg1.win 12).Covers := by decide +kernel
theorem covers1_13 : (cfg1.win 13).Covers := by decide +kernel
theorem last1_13 : ∀ t : Fin cfg1.N, (cfg1.win 13).flush t = true → t.val = 63 :=
  (by decide +kernel : ∀ t : Fin grid1.N, win1_13.flush t = true → t.val = 63)

variable (ho : Is2 (V c main_v65) D.o)
include H ho

/-- What one point leaves of the five row-wise results. -/
theorem outs1 (t : Fin cfg1.N) :
(Is2 (m := 128) (n := 1024) (outsAt1 V c t.val t.isLt).1 fun r x => (D.blk t.val).dq r x)
    ∧ (Is2 (m := 128) (n := 512) (outsAt1 V c t.val t.isLt).2.1 fun r x => wide (D.blk t.val).dkh (128 + r) x)
    ∧ (Is2 (m := 128) (n := 512) (outsAt1 V c t.val t.isLt).2.2.1 fun r x => wide (D.blk t.val).dkh r x)
    ∧ (Is2 (m := 128) (n := 512) (outsAt1 V c t.val t.isLt).2.2.2.1 fun r x => wide (D.blk t.val).dvh (128 + r) x)
    ∧ (Is2 (m := 128) (n := 512) (outsAt1 V c t.val t.isLt).2.2.2.2.1 fun r x => wide (D.blk t.val).dvh r x) := by
  by_cases h0 : t.val % 64 = 0
  · rw [outsAt1_A V c t h0]
    dsimp only
    exact ⟨outA_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) ((hcond1_0 t).mpr h0),
      outA_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) ((hcond1_0 t).mpr h0),
      outA_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) ((hcond1_0 t).mpr h0),
      outA_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) ((hcond1_0 t).mpr h0),
      outA_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) ((hcond1_0 t).mpr h0)⟩
  · rw [outsAt1_B V c t h0]
    dsimp only
    exact ⟨outB_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) (fun h => h0 ((hcond1_0 t).mp h)) (outsAt1 V c (t.val - 1) (Nat.lt_of_le_of_lt (Nat.sub_le _ _) t.isLt)).2.2.2.2.2,
      outB_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) (fun h => h0 ((hcond1_0 t).mp h)) (outsAt1 V c (t.val - 1) (Nat.lt_of_le_of_lt (Nat.sub_le _ _) t.isLt)).2.2.2.2.2,
      outB_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) (fun h => h0 ((hcond1_0 t).mp h)) (outsAt1 V c (t.val - 1) (Nat.lt_of_le_of_lt (Nat.sub_le _ _) t.isLt)).2.2.2.2.2,
      outB_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) (fun h => h0 ((hcond1_0 t).mp h)) (outsAt1 V c (t.val - 1) (Nat.lt_of_le_of_lt (Nat.sub_le _ _) t.isLt)).2.2.2.2.2,
      outB_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) (fun h => h0 ((hcond1_0 t).mp h)) (outsAt1 V c (t.val - 1) (Nat.lt_of_le_of_lt (Nat.sub_le _ _) t.isLt)).2.2.2.2.2⟩

/-- What a point adds to the sinks' gradient. -/
theorem sinks_first (t : Fin cfg1.N) (h0 : t.val % 64 = 0) :
    Is2 (m := 8) (n := 128) (outsAt1 V c t.val t.isLt).2.2.2.2.2 fun r l => if r < 1 then (if l < 16 then (D.blk t.val).dsk l else 0) else 0 := by
  rw [outsAt1_A V c t h0]
  dsimp only
  exact outA_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) ((hcond1_0 t).mpr h0)
theorem sinks_next (t : Fin cfg1.N) (h0 : ¬ t.val % 64 = 0) {O : ℕ → ℕ → ℝ}
    (hO : Is2 (m := 8) (n := 128) (outsAt1 V c (t.val - 1) (Nat.lt_of_le_of_lt (Nat.sub_le _ _) t.isLt)).2.2.2.2.2 O) :
    Is2 (m := 8) (n := 128) (outsAt1 V c t.val t.isLt).2.2.2.2.2 fun r l => if r < 1 then O r l + (if l < 16 then (D.blk t.val).dsk l else 0) else O r l := by
  rw [outsAt1_B V c t h0]
  dsimp only
  exact outB_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (iblk1 V c 0 t) (iblk1 V c 1 t) (iblk1 V c 2 t) (iblk1 V c 3 t) (iblk1 V c 4 t) (iblk1 V c 5 t) (iblk1 V c 6 t) (iblk1 V c 7 t) (block1 H t) (blk1_5 ho t) (fun h => h0 ((hcond1_0 t).mp h)) _ hO

/-- The sinks' gradient after point `n`: the sum over the blocks so far, in the first row. -/
theorem sinks1 : ∀ (n : ℕ) (h : n < cfg1.N), Is2 (m := 8) (n := 128) (outsAt1 V c n h).2.2.2.2.2
    fun r l => if r < 1 then (if l < 16 then ∑ b ∈ range (n + 1), (D.blk b).dsk l else 0) else 0
  | 0, h => (sinks_first H ho ⟨0, h⟩ rfl).to fun v _ => by simp only [fn2, Nat.zero_add, Finset.sum_range_one]
  | n + 1, h => by
    have hn : n + 1 < 64 := h
    refine (sinks_next H ho ⟨n + 1, h⟩ (fun h0 => by dsimp only at h0; omega) (sinks1 n (Nat.lt_of_succ_lt h))).to fun v _ => ?_
    simp only [fn2]
    split
    · next h1 =>
      split
      · rw [Finset.sum_range_succ (fun b => (D.blk b).dsk (v 1)) (n + 1)]
      · rw [add_zero]
    · rfl

/-- The queries' gradient. -/
theorem arr1_8 : Is2 (m := 8192) (n := 1024) ((dat1 V c).arrAt 8 cfg1.N) fun i j => (D.blk (i / 128)).dq (i % 128) j :=
  (dat1 V c).arrAt_forall_of_covers 8 (fun i v => v = ((fn2 (fun i j => (D.blk (i / 128)).dq (i % 128) j) fun a => (i a).val : ℝ) : EReal)) covers1_8 fun t hf y => by
    blk_simp
    rw [after1_8]
    exact ((outs1 H ho t).1 y).trans (coe_block (fun n r x => (D.blk n).dq r x) (at1_8 t).1 (at1_8 t).2 (y 0).isLt 1024 (y 1).val).symm

/-- What the blocks add to their own keys' gradient. -/
theorem arr1_9 : Is2 (m := 8192) (n := 512) ((dat1 V c).arrAt 9 cfg1.N) fun i j => wide (D.blk (i / 128)).dkh (128 + (i % 128)) j :=
  (dat1 V c).arrAt_forall_of_covers 9 (fun i v => v = ((fn2 (fun i j => wide (D.blk (i / 128)).dkh (128 + (i % 128)) j) fun a => (i a).val : ℝ) : EReal)) covers1_9 fun t hf y => by
    blk_simp
    rw [after1_9]
    exact ((outs1 H ho t).2.1 y).trans (coe_block (fun n r x => wide (D.blk n).dkh (128 + r) x) (at1_9 t).1 (at1_9 t).2 (y 0).isLt 512 (y 1).val).symm

/-- What the blocks add to the gradient of the keys before them. -/
theorem arr1_10 : Is2 (m := 8192) (n := 512) ((dat1 V c).arrAt 10 cfg1.N) fun i j => wide (D.blk (i / 128)).dkh (i % 128) j :=
  (dat1 V c).arrAt_forall_of_covers 10 (fun i v => v = ((fn2 (fun i j => wide (D.blk (i / 128)).dkh (i % 128) j) fun a => (i a).val : ℝ) : EReal)) covers1_10 fun t hf y => by
    blk_simp
    rw [after1_10]
    exact ((outs1 H ho t).2.2.1 y).trans (coe_block (fun n r x => wide (D.blk n).dkh r x) (at1_10 t).1 (at1_10 t).2 (y 0).isLt 512 (y 1).val).symm

/-- What the blocks add to their own values' gradient. -/
theorem arr1_11 : Is2 (m := 8192) (n := 512) ((dat1 V c).arrAt 11 cfg1.N) fun i j => wide (D.blk (i / 128)).dvh (128 + (i % 128)) j :=
  (dat1 V c).arrAt_forall_of_covers 11 (fun i v => v = ((fn2 (fun i j => wide (D.blk (i / 128)).dvh (128 + (i % 128)) j) fun a => (i a).val : ℝ) : EReal)) covers1_11 fun t hf y => by
    blk_simp
    rw [after1_11]
    exact ((outs1 H ho t).2.2.2.1 y).trans (coe_block (fun n r x => wide (D.blk n).dvh (128 + r) x) (at1_11 t).1 (at1_11 t).2 (y 0).isLt 512 (y 1).val).symm

/-- What the blocks add to the gradient of the values before them. -/
theorem arr1_12 : Is2 (m := 8192) (n := 512) ((dat1 V c).arrAt 12 cfg1.N) fun i j => wide (D.blk (i / 128)).dvh (i % 128) j :=
  (dat1 V c).arrAt_forall_of_covers 12 (fun i v => v = ((fn2 (fun i j => wide (D.blk (i / 128)).dvh (i % 128) j) fun a => (i a).val : ℝ) : EReal)) covers1_12 fun t hf y => by
    blk_simp
    rw [after1_12]
    exact ((outs1 H ho t).2.2.2.2 y).trans (coe_block (fun n r x => wide (D.blk n).dvh r x) (at1_12 t).1 (at1_12 t).2 (y 0).isLt 512 (y 1).val).symm

/-- The sinks' gradient: the sum over all blocks, in the first row. -/
theorem arr1_13 : Is2 (m := 8) (n := 128) ((dat1 V c).arrAt 13 cfg1.N)
    fun r l => if r < 1 then (if l < 16 then ∑ b ∈ range 64, (D.blk b).dsk l else 0) else 0 :=
  (dat1 V c).arrAt_forall_of_covers 13 (fun i v => v = ((fn2 (fun r l => if r < 1 then (if l < 16 then ∑ b ∈ range 64, (D.blk b).dsk l else 0) else 0) fun a => (i a).val : ℝ) : EReal)) covers1_13 fun t hf y => by
    blk_simp
    rw [after1_13]
    refine (sinks1 H ho t.val t.isLt y).trans ?_
    rw [last1_13 t hf]
    exact (coe_whole (fun r l => if r < 1 then (if l < 16 then ∑ b ∈ range 64, (D.blk b).dsk l else 0) else 0) (at1_13 t).1 (at1_13 t).2 8 128 (y 0).val (y 1).val).symm

end Cert.Tile
-- ==== Proof.ARun.lean ====
/-
  The run of the attention's two calls with the host code around them: every buffer ends at the contents named boundary by boundary.
-/
module

public import proofs.«01_k».proof.Proof.Gen.Kernel2Ideal.Frame

@[expose] public section

set_option maxRecDepth 16384

noncomputable section

namespace Cert.Kernel2Ideal.Run

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- Every weakly fair execution ends, nothing faulting, with every unscoped buffer at its contents after the last of the host operations. -/
theorem run : θ_run defs (onTc (τ := τ) (main (F := F))) ⟨m, fun _ => 0, ρ⟩ (fun r => (∀ c : Dev nD,
      ∀ b ∈ Pipeline.ucRefs τ sig, r.2.mem (((c : Thread nD τ)).1, b) = W11 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

end Cert.Kernel2Ideal.Run

end
-- ==== Proof.ATab.lean ====
/-
  Arrays read out of order: an array whose every element is an element of another.  And each head's slope: the head
  number's power of two, computed by an exponential.
-/
module

public import proofs.«01_k».proof.Proof.Reals

@[expose] public section

noncomputable section

namespace Cert.Reals

open Idealize.ShloMosaic
open scoped BigOperators

/-- Each element of `Y` is the element of `X` at `k`. -/
theorem Is.reads {S T : Shape} {X : S.Idx → EReal} {Y : T.Idx → EReal} {f : (Fin S.rank → ℕ) → ℝ} {g : (Fin T.rank → ℕ) → ℝ} (h : Is X f)
    (k : T.Idx → S.Idx) (hY : ∀ i, Y i = X (k i)) (hg : ∀ i : T.Idx, f (fun a => (k i a).val) = g (fun a => (i a).val)) : Is Y g :=
  fun i => by rw [hY, h, hg]

theorem bits_eighth : Ideal.ofBits .f32 0x3E000000#32 = ((1 / 8 : ℝ) : EReal) := by
  simp [Ideal.ofBits, Ideal.ieee, -EReal.coe_mul]; norm_num
theorem bits_neg_8 : Ideal.ofBits .f32 0xC1000000#32 = ((-8 : ℝ) : EReal) := by
  simp [Ideal.ofBits, Ideal.ieee, -EReal.coe_mul, -EReal.coe_neg]; norm_num
theorem bits_16 : Ideal.ofBits .f32 0x41800000#32 = ((16 : ℝ) : EReal) := by
  simp [Ideal.ofBits, Ideal.ieee, -EReal.coe_mul]; norm_num

/-- The real the literal for the logarithm of two denotes. -/
def ln2 : ℝ := 11629080 * (2 : ℝ) ^ (-24 : ℤ)
theorem bits_ln2 : Ideal.ofBits .f32 0x3F317218#32 = (ln2 : EReal) := by
  unfold ln2
  simp [Ideal.ofBits, Ideal.ieee, -EReal.coe_mul]

/-- Head `h`'s slope. -/
def slope (h : ℕ) : ℝ := Real.exp (ln2 * (-8 * (1 + (h : ℝ)) / 16))

/-- The host's table of the slopes. -/
theorem is_slope {b : (⟨0, ![]⟩ : Shape).BroadcastsInDim ⟨1, ![16]⟩ ![]} :
    Is1 (m := 16) (Host.exp (F := Ideal) (φ := .f32) (mulf (broadcastInDim ⟨1, ![16]⟩ ![] b (constant ⟨0, ![]⟩ .f32 0x3F317218#32))
      (Host.divf (mulf (broadcastInDim ⟨1, ![16]⟩ ![] b (constant ⟨0, ![]⟩ .f32 0xC1000000#32))
        (addf (broadcastInDim ⟨1, ![16]⟩ ![] b (constant ⟨0, ![]⟩ .f32 0x3F800000#32)) (sitofp .f32 (iotaInDim ⟨1, ![16]⟩ 32 0))))
        (broadcastInDim ⟨1, ![16]⟩ ![] b (constant ⟨0, ![]⟩ .f32 0x41800000#32))))) slope := by
  have hi : Is1 (m := 16) (sitofp (F := Ideal) .f32 (iotaInDim ⟨1, ![16]⟩ 32 0)) fun h => (h : ℝ) := fun i => by
    show (((BitVec.ofNat 32 (i 0).val).toInt : ℝ) : EReal) = (((i 0).val : ℝ) : EReal)
    have h : (i 0).val < 16 := (i 0).isLt
    have : (BitVec.ofNat 32 (i 0).val).toInt = ((i 0).val : ℤ) := by
      generalize (i 0).val = n at h
      revert n; decide
    rw [this, Int.cast_natCast]
  exact (Is.mul (is_bscalar fun _ => bits_ln2) (Is.hdiv (Is.mul (is_bscalar fun _ => bits_neg_8) (Is.add (is_bscalar fun _ => bits_one) hi))
    (is_bscalar fun _ => bits_16) fun _ => by norm_num)).hexp

end Cert.Reals

end
-- ==== Proof.AHost.lean ====
/-
  The host's part of the attention: what it gives the two calls, and how it combines what they leave.
-/
module

public import proofs.«01_k».proof.Proof.AArr
public import proofs.«01_k».proof.Proof.ARun
public import proofs.«01_k».proof.Proof.ATab

@[expose] public section

set_option maxRecDepth 16384

noncomputable section

namespace Cert.Tile

open Cert.Kernel2Ideal Cert.Kernel2Ideal.Gen Cert.Reals Cert.Math Idealize.ShloMosaic Idealize.ShloMosaic.TcCoe
open scoped BigOperators
open Finset (range)

/-- The attention of the program's arguments: the queries scaled, the slopes by the head's number. -/
def att (Q K V S O : ℕ → ℕ → ℝ) : Att where
  q i j := Q i j * (1 / 8)
  k := K
  v := V
  o := O
  sl := slope
  sk := S 0

variable (m : (ℓ : Loc nD τ sig) → Buf (Elt Ideal) ℓ) (ρ : Dev nD → PrngReg) (c : Dev nD) {Q K V S O : ℕ → ℕ → ℝ}

/-- A table of 16 heads, one head to each place of the pages. -/
theorem heads_at {X : S16.Idx → EReal} {A : ℕ → ℝ} (h : Is1 (m := 16) X A) :
    Is (S := S4x2x1x2x1) (shapeCast S4x2x1x2x1 X shapeCasts_S16_S4x2x1x2x1) fun v => A (4 * v 0 + 2 * v 1 + v 3) :=
  h.reads (fun i a => match a with
    | ⟨0, _⟩ => ⟨4 * (i 0).val + 2 * (i 1).val + (i 3).val, by
      have h0 : (i 0).val < 4 := (i 0).isLt; have h1 : (i 1).val < 2 := (i 1).isLt; have h3 : (i 3).val < 2 := (i 3).isLt
      show _ < 16; omega⟩) (fun i => shapeCast_apply X _ i _ (by
      rewrite [Shape.rowMajor_val_one, Shape.rowMajor_val_five]
      have h2 : (i 2).val < 1 := (i 2).isLt; have h4 : (i 4).val < 1 := (i 4).isLt
      show 4 * (i 0).val + 2 * (i 1).val + (i 3).val = ((((i 0).val * 2 + (i 1).val) * 1 + (i 2).val) * 2 + (i 3).val) * 1 + (i 4).val; omega)) fun i => rfl
theorem sinks_at {X : S1x16.Idx → EReal} {A : ℕ → ℕ → ℝ} (h : Is2 (m := 1) (n := 16) X A) :
    Is (S := S4x2x1x2x1) (shapeCast S4x2x1x2x1 X shapeCasts_S1x16_S4x2x1x2x1) fun v => A 0 (4 * v 0 + 2 * v 1 + v 3) :=
  h.reads (fun i a => match a with
    | ⟨0, _⟩ => ⟨0, Nat.one_pos⟩
    | ⟨1, _⟩ => ⟨4 * (i 0).val + 2 * (i 1).val + (i 3).val, by
      have h0 : (i 0).val < 4 := (i 0).isLt; have h1 : (i 1).val < 2 := (i 1).isLt; have h3 : (i 3).val < 2 := (i 3).isLt
      show _ < 16; omega⟩) (fun i => shapeCast_apply X _ i _ (by
      rewrite [Shape.rowMajor_val_two, Shape.rowMajor_val_five]
      have h2 : (i 2).val < 1 := (i 2).isLt; have h4 : (i 4).val < 1 := (i 4).isLt
      show 0 * 16 + (4 * (i 0).val + 2 * (i 1).val + (i 3).val) = ((((i 0).val * 2 + (i 1).val) * 1 + (i 2).val) * 2 + (i 3).val) * 1 + (i 4).val; omega)) fun i => rfl

/-- A place's value over its 128 rows and columns, and over all heads. -/
theorem places {X : S4x2x1x2x1.Idx → EReal} {A : ℕ → ℝ} (h : Is (S := S4x2x1x2x1) X fun v => A (4 * v 0 + 2 * v 1 + v 3)) :
    Is (S := S4x2x128x2x128) (broadcastInDim S4x2x128x2x128 ![0, 1, 2, 3, 4] bcast_S4x2x1x2x1_S4x2x128x2x128_0_1_2_3_4 X) fun v => A (4 * v 0 + 2 * v 1 + v 3) :=
  h.reads (fun i a => match a with
    | ⟨0, _⟩ => ⟨(i 0).val, (i 0).isLt⟩
    | ⟨1, _⟩ => ⟨(i 1).val, (i 1).isLt⟩
    | ⟨2, _⟩ => ⟨0, Nat.one_pos⟩
    | ⟨3, _⟩ => ⟨(i 3).val, (i 3).isLt⟩
    | ⟨4, _⟩ => ⟨0, Nat.one_pos⟩) (fun i => broadcastInDim_apply _ _ X i _ fun a => match a with
    | ⟨0, _⟩ => rfl | ⟨1, _⟩ => rfl | ⟨2, _⟩ => rfl | ⟨3, _⟩ => rfl | ⟨4, _⟩ => rfl) fun i => rfl
theorem dists {X : S128x128.Idx → EReal} {A : ℕ → ℕ → ℝ} (h : Is2 (m := 128) (n := 128) X A) :
    Is (S := S4x2x128x2x128) (broadcastInDim S4x2x128x2x128 ![0, 1, 2, 3, 4] bcast_S1x1x128x1x128_S4x2x128x2x128_0_1_2_3_4
      (broadcastInDim S1x1x128x1x128 ![2, 4] bcast_S128x128_S1x1x128x1x128_2_4 X)) fun v => A (v 2) (v 4) :=
  h.reads (fun i a => match a with
    | ⟨0, _⟩ => ⟨(i 2).val, (i 2).isLt⟩
    | ⟨1, _⟩ => ⟨(i 4).val, (i 4).isLt⟩) (fun i => (broadcastInDim_apply _ bcast_S1x1x128x1x128_S4x2x128x2x128_0_1_2_3_4 (broadcastInDim S1x1x128x1x128 ![2, 4] bcast_S128x128_S1x1x128x1x128_2_4 X) i (fun a => match a with
      | ⟨0, _⟩ => ⟨0, Nat.one_pos⟩ | ⟨1, _⟩ => ⟨0, Nat.one_pos⟩ | ⟨2, _⟩ => ⟨(i 2).val, (i 2).isLt⟩ | ⟨3, _⟩ => ⟨0, Nat.one_pos⟩ | ⟨4, _⟩ => ⟨(i 4).val, (i 4).isLt⟩)
      fun a => match a with
    | ⟨0, _⟩ => rfl | ⟨1, _⟩ => rfl | ⟨2, _⟩ => rfl | ⟨3, _⟩ => rfl | ⟨4, _⟩ => rfl).trans (broadcastInDim_apply _ _ X _ _ fun a => match a with
    | ⟨0, _⟩ => rfl | ⟨1, _⟩ => rfl)) fun i => rfl

/-- The places laid out as pages of 256 rows and columns. -/
theorem pages {X : S4x2x128x2x128.Idx → EReal} {A : ℕ → ℕ → ℕ → ℝ} (h : Is (S := S4x2x128x2x128) X fun v => A (4 * v 0 + 2 * v 1 + v 3) (v 2) (v 4)) :
    Is (S := S4x256x256) (shapeCast S4x256x256 X shapeCasts_S4x2x128x2x128_S4x256x256) fun v => A (4 * v 0 + 2 * (v 1 / 128) + v 2 / 128) (v 1 % 128) (v 2 % 128) :=
  h.reads (fun i a => match a with
    | ⟨0, _⟩ => ⟨(i 0).val, (i 0).isLt⟩
    | ⟨1, _⟩ => ⟨(i 1).val / 128, by have h1 : (i 1).val < 256 := (i 1).isLt; show _ < 2; omega⟩
    | ⟨2, _⟩ => ⟨(i 1).val % 128, by show _ < 128; omega⟩
    | ⟨3, _⟩ => ⟨(i 2).val / 128, by have h1 : (i 2).val < 256 := (i 2).isLt; show _ < 2; omega⟩
    | ⟨4, _⟩ => ⟨(i 2).val % 128, by show _ < 128; omega⟩) (fun i => shapeCast_apply X _ i _ (by
      rewrite [Shape.rowMajor_val_three, Shape.rowMajor_val_five]
      show (((((i 0).val * 2 + (i 1).val / 128) * 128 + (i 1).val % 128) * 2 + (i 2).val / 128) * 128 + (i 2).val % 128 : ℕ) = ((i 0).val * 256 + (i 1).val) * 256 + (i 2).val
      omega)) fun i => rfl

/-- Each key head's lanes twice. -/
theorem twice {X : S8192x256.Idx → EReal} {A : ℕ → ℕ → ℝ} (h : Is2 (m := 8192) (n := 256) X A) {r0 r1 r2 r3} {s : Shape.Concatenates [S8192x64, S8192x64] S8192x128 1} {w : Shape.Concatenates [S8192x128, S8192x128] S8192x256 1} :
    Is2 (m := 8192) (n := 512) (concatenate S8192x512 1
      [⟨S8192x256, concatenate S8192x256 1
        [⟨S8192x128, concatenate S8192x128 1 [⟨S8192x64, extractStridedSlice S8192x64 ![0, 0] X r0⟩, ⟨S8192x64, extractStridedSlice S8192x64 ![0, 0] X r0⟩] s⟩,
         ⟨S8192x128, concatenate S8192x128 1 [⟨S8192x64, extractStridedSlice S8192x64 ![0, 64] X r1⟩, ⟨S8192x64, extractStridedSlice S8192x64 ![0, 64] X r1⟩] s⟩] w⟩,
       ⟨S8192x256, concatenate S8192x256 1
        [⟨S8192x128, concatenate S8192x128 1 [⟨S8192x64, extractStridedSlice S8192x64 ![0, 128] X r2⟩, ⟨S8192x64, extractStridedSlice S8192x64 ![0, 128] X r2⟩] s⟩,
         ⟨S8192x128, concatenate S8192x128 1 [⟨S8192x64, extractStridedSlice S8192x64 ![0, 192] X r3⟩, ⟨S8192x64, extractStridedSlice S8192x64 ![0, 192] X r3⟩] s⟩] w⟩]
      concatenates_S8192x256_S8192x256_S8192x512_d1) fun i l => A i (64 * (l / 128) + l % 64) := by
  have h0 := h.slice (p := 8192) (q := 64) 0 0 (hs := r0)
  have h1 := h.slice (p := 8192) (q := 64) 0 64 (hs := r1)
  have h2 := h.slice (p := 8192) (q := 64) 0 128 (hs := r2)
  have h3 := h.slice (p := 8192) (q := 64) 0 192 (hs := r3)
  have p := Is2.beside (Is2.beside (Is2.beside h0 h0 (hc := s) rfl) (Is2.beside h1 h1 (hc := s) rfl) (hc := w) rfl)
    (Is2.beside (Is2.beside h2 h2 (hc := s) rfl) (Is2.beside h3 h3 (hc := s) rfl) (hc := w) rfl) (n := 512) (hc := concatenates_S8192x256_S8192x256_S8192x512_d1) rfl
  refine p.to fun v hv => ?_
  have hl : v 1 < 512 := hv 1
  simp only [fn2]
  split_ifs <;> exact congrArg₂ A (by omega) (by omega)

/-- The row and the column numbers of the folded scores. -/
abbrev rowsT : S128x128.Idx → BitVec 32 :=
  broadcastInDim S128x128 ![0, 1] bcast_S128x1_S128x128_0_1 (broadcastInDim S128x1 ![0] bcast_S128_S128x1_0 (iotaInDim S128 32 0))
abbrev colsT : S128x128.Idx → BitVec 32 :=
  broadcastInDim S128x128 ![0, 1] bcast_S1x128_S128x128_0_1 (broadcastInDim S1x128 ![1] bcast_S128_S1x128_1 (iotaInDim S128 32 0))
abbrev pastT : S128x128.Idx → BitVec 32 :=
  broadcastInDim S128x128 ![0, 1] bcast_S128x1_S128x128_0_1 (addi (broadcastInDim S128x1 ![0] bcast_S128_S128x1_0 (iotaInDim S128 32 0)) (broadcastInDim S128x1 ![] bcast_S_S128x1 (constantI S_ 32 128#32)))

theorem rowsT_at (i : S128x128.Idx) : rowsT i = BitVec.ofNat 32 (i 0).val := rfl
theorem colsT_at (i : S128x128.Idx) : colsT i = BitVec.ofNat 32 (i 1).val := rfl
theorem pastT_at (i : S128x128.Idx) : pastT i = BitVec.ofNat 32 (i 0).val + 128#32 := rfl

theorem dist_bits : ∀ r < 128, ∀ j < 128, (Scalar.select (BitVec.ofBool ((BitVec.ofNat 32 j).sle (BitVec.ofNat 32 r)))
    (BitVec.ofNat 32 r - BitVec.ofNat 32 j) (BitVec.ofNat 32 r + 128#32 - BitVec.ofNat 32 j)).toInt = (r : ℤ) + 128 - (fold r j : ℕ) := by
  decide +kernel

/-- How far each row's key lies behind it. -/
theorem dist_is : Is2 (m := 128) (n := 128) (sitofp (F := Ideal) .f32 (select (cmpi .sle colsT rowsT) (subi rowsT colsT) (subi pastT colsT)))
    fun r j => (r : ℝ) + 128 - (fold r j : ℕ) := fun i => by
  show (((Scalar.select _ _ _ : BitVec 32).toInt : ℝ) : EReal) = (((i 0).val : ℝ) + 128 - (fold (i 0).val (i 1).val : ℕ) : ℝ)
  have h := dist_bits (i 0).val (i 0).isLt (i 1).val (i 1).isLt
  refine congrArg _ ((congrArg (Int.cast (R := ℝ)) h).trans ?_)
  push_cast; rfl

variable (hQ : Is2 (m ((c : Thread nD τ).loc main_arg0)) Q) (hK : Is2 (m ((c : Thread nD τ).loc main_arg1)) K)
  (hV : Is2 (m ((c : Thread nD τ).loc main_arg2)) V) (hS : Is2 (m ((c : Thread nD τ).loc main_arg3)) S)
include hQ hK hV hS

/-- The arrays the first call finds. -/
theorem found : Found (V3 m ρ) c (att Q K V S O) where
  q := by
    show Is2 (StableHlo.after hostOps0_2 (W2 m ρ c) (Proc.devRef .tc main_v39)) _
    after_results
    exact Is.trunc (Is.mul hQ (is_bscalar fun _ => bits_eighth))
  k := by
    show Is2 (StableHlo.after hostOps0_2 (W2 m ρ c) (Proc.devRef .tc main_v51)) _
    after_results
    exact (twice hK).trunc
  v := by
    show Is2 (StableHlo.after hostOps0_2 (W2 m ρ c) (Proc.devRef .tc main_v63)) _
    after_results
    exact (twice hV).trunc
  b := by
    have h := pages (A := fun h r j => -slope h * ((r : ℝ) + 128 - (fold r j : ℕ)))
      (Is.mul (φ := .f32) (places (A := fun h => -slope h) (Is.hneg (φ := .f32) (heads_at (is_slope (b := bcast_S_S16))))) (dists dist_is))
    show Is (S := S4x256x256) (StableHlo.after hostOps0_2 (W2 m ρ c) (Proc.devRef .tc main_v35)) _
    after_results
    exact h.to fun v _ => neg_mul _ _
  t := by
    have h := pages (A := fun h r j => S 0 h) (places (A := fun h => S 0 h) (sinks_at hS))
    show Is (S := S4x256x256) (StableHlo.after hostOps0_2 (W2 m ρ c) (Proc.devRef .tc main_v36)) _
    after_results
    exact h

end Cert.Tile

end
-- ==== Proof.AOut.lean ====
/-
  The attention's results: what the host makes of the arrays the two calls leave.
-/
module

public import proofs.«01_k».proof.Proof.AHost

@[expose] public section

set_option maxRecDepth 16384

noncomputable section

namespace Cert.Tile

open Cert.Kernel2Ideal Cert.Kernel2Ideal.Gen Cert.Reals Cert.Math Idealize.ShloMosaic Idealize.ShloMosaic.TcCoe
open scoped BigOperators
open Finset (range)

/-- The gradient of row `i`: what its own block gives, and the block after it unless the sequence ends there. -/
def own (F : ℕ → ℕ → ℕ → ℝ) (i c : ℕ) : ℝ := F (i / 128) (128 + i % 128) c + if i / 128 % 16 = 15 then 0 else F (i / 128 + 1) (i % 128) c
def Att.gk (D : Att) : ℕ → ℕ → ℝ := own fun n => (D.blk n).dk
def Att.gv (D : Att) : ℕ → ℕ → ℝ := own fun n => (D.blk n).dv

/-- The last 128 rows of each sequence of 2048. -/
theorem last_bits : Bits (S := S8192x512) (cmpi .sge (andi (iotaInDim S8192x512 32 0) (broadcastInDim S8192x512 ![] bcast_S_S8192x512 (constantI S_ 32 2047#32)))
    (broadcastInDim S8192x512 ![] bcast_S_S8192x512 (constantI S_ 32 1920#32))) fun v => decide (v 0 / 128 % 16 = 15) := fun i => by
  show BitVec.ofBool ((1920#32).sle (BitVec.ofNat 32 (i 0).val &&& 2047#32)) = if decide ((i 0).val / 128 % 16 = 15) then 1#1 else 0#1
  have h : (i 0).val < 8192 := (i 0).isLt
  generalize (i 0).val = n at h
  have e : BitVec.ofNat 32 n &&& 2047#32 = BitVec.ofNat 32 (n % 2048) := by
    apply BitVec.eq_of_toNat_eq
    simp only [BitVec.toNat_and, BitVec.toNat_ofNat]
    rw [Nat.mod_eq_of_lt (show n < 2 ^ 32 by omega), Nat.mod_eq_of_lt (show n % 2048 < 2 ^ 32 by omega)]
    exact Nat.and_two_pow_sub_one_eq_mod n 11
  have t : (BitVec.ofNat 32 (n % 2048)).toInt = (n % 2048 : ℕ) := by
    rw [BitVec.toInt_eq_toNat_cond, BitVec.toNat_ofNat, Nat.mod_eq_of_lt (show n % 2048 < 2 ^ 32 by omega), if_pos (by omega)]
  rw [e, BitVec.sle, t, show (1920#32).toInt = 1920 from rfl]
  by_cases h' : n / 128 % 16 = 15
  · rw [decide_eq_true (show (1920 : ℤ) ≤ (n % 2048 : ℕ) by omega), decide_eq_true h']; rfl
  · rw [decide_eq_false (show ¬ (1920 : ℤ) ≤ (n % 2048 : ℕ) by omega), decide_eq_false h']; rfl

/-- The two sums a row's gradient is made of, put together. -/
theorem joined {P N : S8192x512.Idx → EReal} {F : ℕ → ℕ → ℕ → ℝ} (hN : Is2 (m := 8192) (n := 512) N fun i l => F (i / 128) (128 + i % 128) l)
    (hP : Is2 (m := 8192) (n := 512) P fun i l => F (i / 128) (i % 128) l) :
    Is2 (m := 8192) (n := 512) (addf (F := Ideal) (φ := .f32) N (select
      (cmpi .sge (andi (iotaInDim S8192x512 32 0) (broadcastInDim S8192x512 ![] bcast_S_S8192x512 (constantI S_ 32 2047#32)))
        (broadcastInDim S8192x512 ![] bcast_S_S8192x512 (constantI S_ 32 1920#32)))
      (broadcastInDim S8192x512 ![] bcast_S_S8192x512 (constant (F := Ideal) S_ .f32 0x00000000#32))
      (concatenate S8192x512 0 [⟨S8064x512, extractStridedSlice S8064x512 ![128, 0] P slices_S8192x512_S8064x512_128_0⟩,
        ⟨S128x512, broadcastInDim S128x512 ![] bcast_S_S128x512 (constant (F := Ideal) S_ .f32 0x00000000#32)⟩] concatenates_S8064x512_S128x512_S8192x512_d0))) (own F) := by
  have hz : Is2 (m := 128) (n := 512) (broadcastInDim S128x512 ![] bcast_S_S128x512 (constant (F := Ideal) S_ .f32 0x00000000#32)) fun _ _ => 0 := is_bscalar fun _ => bits_zero
  have ha := Is2.above (hP.slice (p := 8064) (q := 512) 128 0 (hs := slices_S8192x512_S8064x512_128_0)) hz (hc := concatenates_S8064x512_S128x512_S8192x512_d0) rfl
  refine (Is.add hN (last_bits.sel (is_bscalar (r := 0) fun _ => bits_zero) ha)).to fun v hv => ?_
  have h0 : v 0 < 8192 := hv 0
  simp only [fn2, own, decide_eq_true_eq]
  congr 1
  by_cases h : v 0 / 128 % 16 = 15
  · rw [if_pos h, if_pos h]
  · rw [if_neg h, if_neg h, if_pos (show v 0 < 8064 by omega), show (128 + v 0) / 128 = v 0 / 128 + 1 by omega,
      show (128 + v 0) % 128 = v 0 % 128 by omega, Nat.zero_add]

/-- The lanes of one key head's two parities, added. -/
theorem added {X : S8192x512.Idx → EReal} {A : ℕ → ℕ → ℝ} (h : Is2 (m := 8192) (n := 512) X A) {r0 r1 r2 r3 r4 r5 r6 r7}
    {s : Shape.Concatenates [S8192x64, S8192x64] S8192x128 1} :
    Is2 (m := 8192) (n := 256) (concatenate S8192x256 1
      [⟨S8192x128, concatenate S8192x128 1
        [⟨S8192x64, addf (F := Ideal) (φ := .f32) (extractStridedSlice S8192x64 ![0, 0] X r0) (extractStridedSlice S8192x64 ![0, 64] X r1)⟩,
         ⟨S8192x64, addf (F := Ideal) (φ := .f32) (extractStridedSlice S8192x64 ![0, 128] X r2) (extractStridedSlice S8192x64 ![0, 192] X r3)⟩] s⟩,
       ⟨S8192x128, concatenate S8192x128 1
        [⟨S8192x64, addf (F := Ideal) (φ := .f32) (extractStridedSlice S8192x64 ![0, 256] X r4) (extractStridedSlice S8192x64 ![0, 320] X r5)⟩,
         ⟨S8192x64, addf (F := Ideal) (φ := .f32) (extractStridedSlice S8192x64 ![0, 384] X r6) (extractStridedSlice S8192x64 ![0, 448] X r7)⟩] s⟩]
      concatenates_S8192x128_S8192x128_S8192x256_d1) fun i c => A i (128 * (c / 64) + c % 64) + A i (128 * (c / 64) + 64 + c % 64) := by
  have pr : ∀ (p q : ℕ) (rp) (rq), Is2 (m := 8192) (n := 64) (addf (F := Ideal) (φ := .f32) (extractStridedSlice S8192x64 ![0, p] X rp) (extractStridedSlice S8192x64 ![0, q] X rq))
      fun i j => A (0 + i) (p + j) + A (0 + i) (q + j) := fun p q _ _ => Is.add (h.slice 0 p) (h.slice 0 q)
  have g := Is2.beside (Is2.beside (pr 0 64 r0 r1) (pr 128 192 r2 r3) (hc := s) rfl) (Is2.beside (pr 256 320 r4 r5) (pr 384 448 r6 r7) (hc := s) rfl) (n := 256)
    (hc := concatenates_S8192x128_S8192x128_S8192x256_d1) rfl
  refine g.to fun v hv => ?_
  have hl : v 1 < 256 := hv 1
  simp only [fn2]
  split_ifs <;> exact congrArg₂ (· + ·) (congrArg₂ A (by omega) (by omega)) (congrArg₂ A (by omega) (by omega))

/-- A key head's four query heads, two to a lane. -/
theorem own_wide (F : ℕ → ℕ → ℕ → ℕ → ℝ) (i c : ℕ) :
    own (fun n => wide (F n)) i (128 * (c / 64) + c % 64) + own (fun n => wide (F n)) i (128 * (c / 64) + 64 + c % 64) =
      own (fun n s c => ∑ g ∈ range 4, F n (4 * (c / 64) + g) s (c % 64)) i c := by
  have e1 : (128 * (c / 64) + c % 64) / 128 = c / 64 := by omega
  have e2 : (128 * (c / 64) + 64 + c % 64) / 128 = c / 64 := by omega
  have e3 : (128 * (c / 64) + c % 64) % 128 / 64 = 0 := by omega
  have e4 : (128 * (c / 64) + 64 + c % 64) % 128 / 64 = 1 := by omega
  have e5 : (128 * (c / 64) + c % 64) % 64 = c % 64 := by omega
  have e6 : (128 * (c / 64) + 64 + c % 64) % 64 = c % 64 := by omega
  simp only [own, wide, e1, e2, e3, e4, e5, e6, Finset.sum_range_succ, Finset.sum_range_zero]
  split_ifs <;> ring_nf

variable (m : (ℓ : Loc nD τ sig) → Buf (Elt Ideal) ℓ) (ρ : Dev nD → PrngReg) (c : Dev nD) {Q K V S O : ℕ → ℕ → ℝ}
  (hQ : Is2 (m ((c : Thread nD τ).loc main_arg0)) Q) (hK : Is2 (m ((c : Thread nD τ).loc main_arg1)) K)
  (hV : Is2 (m ((c : Thread nD τ).loc main_arg2)) V) (hS : Is2 (m ((c : Thread nD τ).loc main_arg3)) S)
  (hO : Is2 (m ((c : Thread nD τ).loc main_arg4)) O)
include hQ hK hV hS hO

/-- The arrays the second call finds are those the first found, and the output's gradient. -/
theorem found2 : Found (V5 m ρ) c (att Q K V S O) := by
  have h := found m ρ c (O := O) hQ hK hV hS
  have e : ∀ b ∈ [main_v39, main_v51, main_v63, main_v35, main_v36], V5 m ρ c b = V3 m ρ c b := by
    intro b hb
    have h1 : b ∉ hostOps1_W := by revert b; decide
    exact (W5_of m ρ c b h1).trans (W4_of m ρ c b (by revert b; decide))
  exact ⟨e main_v39 (by simp) ▸ h.q, e main_v51 (by simp) ▸ h.k, e main_v63 (by simp) ▸ h.v, e main_v35 (by simp) ▸ h.b, e main_v36 (by simp) ▸ h.t⟩

theorem found_o : Is2 (V5 m ρ c main_v65) (att Q K V S O).o := by
  show Is2 (StableHlo.after hostOps1 (W4 m ρ c) (Proc.devRef .tc main_v65)) _
  after_results
  rw [W4_args m ρ c main_arg4 (by decide)]
  exact hO.trunc

/-! ## The results -/

/-- The output. -/
theorem r64 : Is2 (m := 8192) (n := 1024) (W11 m ρ c (Proc.devRef .tc main_v64)) fun i j => ((att Q K V S O).blk (i / 128)).out (i % 128) j := by
  rw [W11_of m ρ c main_v64 (by decide), W10_of m ρ c main_v64 (by decide), W9_of m ρ c main_v64 (by decide), W8_of m ρ c main_v64 (by decide),
    W7_of m ρ c main_v64 (by decide), W6_of m ρ c main_v64 (by decide), W5_of m ρ c main_v64 (by decide),
    show W4 m ρ c (Proc.devRef .tc main_v64) = _ from W4_arr m ρ c 7]
  exact arr0_7 (found m ρ c hQ hK hV hS)

/-- The queries' gradient. -/
theorem r68 : Is2 (m := 8192) (n := 1024) (W11 m ρ c (Proc.devRef .tc main_v68)) fun i j => ((att Q K V S O).blk (i / 128)).dq (i % 128) j * (1 / 8) := by
  have h := arr1_8 (found2 m ρ c hQ hK hV hS hO) (found_o m ρ c hQ hK hV hS hO)
  rw [W11_of m ρ c main_v68 (by decide), W10_of m ρ c main_v68 (by decide), W9_of m ρ c main_v68 (by decide), W8_of m ρ c main_v68 (by decide)]
  show Is2 (StableHlo.after hostOps2 (W6 m ρ c) (Proc.devRef .tc main_v68)) _
  after_results
  rw [show W6 m ρ c (Proc.devRef .tc main_v66_0) = _ from W6_arr m ρ c 8]
  exact Is.mul h (is_bscalar fun _ => bits_eighth)

/-- The keys' gradient. -/
theorem r95 : Is2 (m := 8192) (n := 256) (W11 m ρ c (Proc.devRef .tc main_v95)) (att Q K V S O).gk := by
  have hn := arr1_9 (found2 m ρ c hQ hK hV hS hO) (found_o m ρ c hQ hK hV hS hO)
  have hp := arr1_10 (found2 m ρ c hQ hK hV hS hO) (found_o m ρ c hQ hK hV hS hO)
  have h := (added (s := concatenates_S8192x64_S8192x64_S8192x128_d1) (r0 := slices_S8192x512_S8192x64_0_0) (r1 := slices_S8192x512_S8192x64_0_64) (r2 := slices_S8192x512_S8192x64_0_128) (r3 := slices_S8192x512_S8192x64_0_192)
    (r4 := slices_S8192x512_S8192x64_0_256) (r5 := slices_S8192x512_S8192x64_0_320) (r6 := slices_S8192x512_S8192x64_0_384) (r7 := slices_S8192x512_S8192x64_0_448)
    (joined (F := fun n => wide ((att Q K V S O).blk n).dkh) hn hp)).to fun v _ => own_wide _ _ _
  rw [← show W6 m ρ c (Proc.devRef .tc main_v66_1) = _ from W6_arr m ρ c 9, ← show W6 m ρ c (Proc.devRef .tc main_v66_2) = _ from W6_arr m ρ c 10] at h
  rw [W11_of m ρ c main_v95 (by decide), W10_of m ρ c main_v95 (by decide)]
  show Is2 (StableHlo.after hostOps2_2 (W8 m ρ c) (Proc.devRef .tc main_v95)) _
  after_results
  exact h

/-- The values' gradient. -/
theorem r122 : Is2 (m := 8192) (n := 256) (W11 m ρ c (Proc.devRef .tc main_v122)) (att Q K V S O).gv := by
  have hn := arr1_11 (found2 m ρ c hQ hK hV hS hO) (found_o m ρ c hQ hK hV hS hO)
  have hp := arr1_12 (found2 m ρ c hQ hK hV hS hO) (found_o m ρ c hQ hK hV hS hO)
  have h := (added (s := concatenates_S8192x64_S8192x64_S8192x128_d1) (r0 := slices_S8192x512_S8192x64_0_0) (r1 := slices_S8192x512_S8192x64_0_64) (r2 := slices_S8192x512_S8192x64_0_128) (r3 := slices_S8192x512_S8192x64_0_192)
    (r4 := slices_S8192x512_S8192x64_0_256) (r5 := slices_S8192x512_S8192x64_0_320) (r6 := slices_S8192x512_S8192x64_0_384) (r7 := slices_S8192x512_S8192x64_0_448)
    (joined (F := fun n => wide ((att Q K V S O).blk n).dvh) hn hp)).to fun v _ => own_wide _ _ _
  rw [← show W6 m ρ c (Proc.devRef .tc main_v66_3) = _ from W6_arr m ρ c 11, ← show W6 m ρ c (Proc.devRef .tc main_v66_4) = _ from W6_arr m ρ c 12] at h
  show Is2 (StableHlo.after hostOps2_4 (W10 m ρ c) (Proc.devRef .tc main_v122)) _
  after_results
  exact h

/-- The sinks' gradient. -/
theorem r123 : Is2 (m := 1) (n := 16) (W11 m ρ c (Proc.devRef .tc main_v123)) fun _ l => ∑ b ∈ range 64, ((att Q K V S O).blk b).dsk l := by
  have h := arr1_13 (found2 m ρ c hQ hK hV hS hO) (found_o m ρ c hQ hK hV hS hO)
  have h' := Is2.slice h (p := 1) (q := 16) 0 0 (hs := slices_S8x128_S1x16_0_0)
  rw [← show W6 m ρ c (Proc.devRef .tc main_v66_5) = _ from W6_arr m ρ c 13] at h'
  show Is2 (StableHlo.after hostOps2_4 (W10 m ρ c) (Proc.devRef .tc main_v123)) _
  after_results
  refine h'.to fun v hv => ?_
  have h0 : v 0 < 1 := hv 0
  have h1 : v 1 < 16 := hv 1
  simp only [fn2, Nat.zero_add, if_pos h0, if_pos h1]

end Cert.Tile

end
-- ==== Proof.RGen.lean ====
/-
  Arrays of any rank read as functions of their coordinates: sums of products over one or two axes, sums over one or four
  axes, and a row's maximum, of which it only matters that it is a real number.
-/
module

public import proofs.«01_k».proof.Proof.ATab
public import Idealize.ShloMosaic.Lib.TwoAxisContraction
public import Idealize.ShloMosaic.Lib.KernelVsHost
public import Idealize.ShloMosaic.Lib.IdealHost
public import Idealize.ShloMosaic.Lib.Pointwise.Reduce
public import Idealize.ShloMosaic.Lib.Pointwise.Reshape

@[expose] public section

set_option maxRecDepth 16384

noncomputable section

namespace Cert.Reals

open Idealize.ShloMosaic
open scoped BigOperators
open Finset (range)

section
variable {L R T : Shape} {X : L.Idx → EReal} {Y : R.Idx → EReal} {Z : T.Idx → EReal} {f : (Fin L.rank → ℕ) → ℝ} {g : (Fin R.rank → ℕ) → ℝ} {n p : ℕ}

/-- Each element of `Z` is a sum of products of elements of `X` and `Y`. -/
theorem Is.contract (hX : Is X f) (hY : Is Y g) {l : T.Idx → Fin n → L.Idx} {r : T.Idx → Fin n → R.Idx}
    (hZ : ∀ i, Z i = ∑ k, X (l i k) * Y (r i k)) {F : (Fin T.rank → ℕ) → ℕ → ℝ}
    (hF : ∀ i k, f (fun a => (l i k a).val) * g (fun a => (r i k a).val) = F (fun a => (i a).val) k.val) :
    Is Z fun v => ∑ k ∈ range n, F v k := fun i => by
  show _ = ((∑ k ∈ range n, F (fun a => (i a).val) k : ℝ) : EReal)
  rw [hZ, Finset.sum_range, ← coe_sum]
  exact Finset.sum_congr rfl fun k _ => by rw [hX, hY, ← EReal.coe_mul, hF]

/-- The same over two axes. -/
theorem Is.contract2 (hX : Is X f) (hY : Is Y g) {l : T.Idx → Fin n → Fin p → L.Idx} {r : T.Idx → Fin n → Fin p → R.Idx}
    (hZ : ∀ i, Z i = ∑ k, ∑ q, X (l i k q) * Y (r i k q)) {F : (Fin T.rank → ℕ) → ℕ → ℕ → ℝ}
    (hF : ∀ i k q, f (fun a => (l i k q a).val) * g (fun a => (r i k q a).val) = F (fun a => (i a).val) k.val q.val) :
    Is Z fun v => ∑ k ∈ range n, ∑ q ∈ range p, F v k q := fun i => by
  show _ = ((∑ k ∈ range n, ∑ q ∈ range p, F (fun a => (i a).val) k q : ℝ) : EReal)
  rw [hZ, Finset.sum_range, ← coe_sum]
  refine Finset.sum_congr rfl fun k _ => ?_
  rw [Finset.sum_range, ← coe_sum]
  exact Finset.sum_congr rfl fun q _ => by rw [hX, hY, ← EReal.coe_mul, hF]

/-- Each element of `Z` is a sum of elements of `X`. -/
theorem Is.sums (hX : Is X f) {l : T.Idx → Fin n → L.Idx} {z : EReal} (hz : z = ((0 : ℝ) : EReal))
    (hZ : ∀ i, Z i = z + ∑ k, X (l i k)) {F : (Fin T.rank → ℕ) → ℕ → ℝ}
    (hF : ∀ i k, f (fun a => (l i k a).val) = F (fun a => (i a).val) k.val) : Is Z fun v => ∑ k ∈ range n, F v k := fun i => by
  show _ = ((∑ k ∈ range n, F (fun a => (i a).val) k : ℝ) : EReal)
  rw [hZ, hz, EReal.coe_zero, zero_add, Finset.sum_range, ← coe_sum]
  exact Finset.sum_congr rfl fun k _ => by rw [hX, hF]

end

/-- An array of reals is some function of its coordinates. -/
theorem is_some {S : Shape} {X : S.Idx → EReal} (h : ∀ i, ∃ r : ℝ, X i = r) : ∃ f, Is X f := by
  classical
  refine ⟨fun v => if hv : ∃ i : S.Idx, (fun a => (i a).val) = v then (X hv.choose).toReal else 0, fun i => ?_⟩
  have hv : ∃ j : S.Idx, (fun a => (j a).val) = fun a => (i a).val := ⟨i, rfl⟩
  have e : hv.choose = i := funext fun a => Fin.ext (congrFun hv.choose_spec a)
  show X i = ((if hv : ∃ j : S.Idx, (fun a => (j a).val) = fun a => (i a).val then (X hv.choose).toReal else 0 : ℝ) : EReal)
  rw [dif_pos hv, e]
  obtain ⟨r, hr⟩ := h i
  rw [hr, EReal.toReal_coe]

/-- The greatest of some values, none of them ⊤ and one of them real, is real. -/
theorem max_real {s t u : Shape} {axes : List (Fin s.rank)} {x : s.Idx → EReal} {init : u.Idx → EReal} {h : s.ReducesTo axes t} {hu : 0 < u.numel}
    (h0 : ∀ i, init i = ⊥) (hx : ∀ i, x i < ⊤) (j : t.Idx) {k : s.Idx} (hk : h.drop k = j) (hr : ⊥ < x k) :
    ∃ r : ℝ, Host.reduce (FloatOps.maximumf (F := Ideal) (φ := .f32)) x init h hu j = r := by
  have key : ∀ (l : List (Fin s.numel)) (a : EReal), a < ⊤ →
      (l.foldl (fun r n => (FloatOps.maximumf (F := Ideal) (φ := .f32)) r (x (s.rowMajor.symm n))) a < ⊤) ∧
      a ≤ l.foldl (fun r n => (FloatOps.maximumf (F := Ideal) (φ := .f32)) r (x (s.rowMajor.symm n))) a ∧
      ∀ n ∈ l, x (s.rowMajor.symm n) ≤ l.foldl (fun r n => (FloatOps.maximumf (F := Ideal) (φ := .f32)) r (x (s.rowMajor.symm n))) a := by
    intro l
    induction l with
    | nil => exact fun a ha => ⟨ha, le_rfl, fun n hn => absurd hn (by simp)⟩
    | cons b l ih =>
      intro a ha
      obtain ⟨h1, h2, h3⟩ := ih (max a (x (s.rowMajor.symm b))) (max_lt ha (hx _))
      refine ⟨h1, le_trans (le_max_left _ _) h2, fun n hn => ?_⟩
      rcases List.mem_cons.1 hn with rfl | hn
      · exact le_trans (le_max_right _ _) h2
      · exact h3 n hn
  obtain ⟨h1, _, h3⟩ := key ((List.finRange s.numel).filter fun n => h.drop (s.rowMajor.symm n) = j) (init (Shape.Idx.first hu)) (by rw [h0]; exact bot_lt_top)
  have h4 := h3 (s.rowMajor k) (by simp [hk])
  rw [Equiv.symm_apply_apply] at h4
  exact ⟨_, (EReal.coe_toReal h1.ne (lt_of_lt_of_le hr h4).ne').symm⟩

/-- The sum over the two outer and the two inner axes of six. -/
theorem Is.sum4 {n0 n1 n4 : ℕ} {X : (⟨6, ![n0, n1, 4, 4, n4, 1]⟩ : Shape).Idx → EReal} {f : (Fin 6 → ℕ) → ℝ} (hX : Is X f)
    {u : Shape} {init : u.Idx → EReal} {h : (⟨6, ![n0, n1, 4, 4, n4, 1]⟩ : Shape).ReducesTo [0, 1, 4, 5] ⟨2, ![4, 4]⟩} {hu : 0 < u.numel}
    (h0 : ∀ i, init i = ((0 : ℝ) : EReal)) :
    Is2 (m := 4) (n := 4) (Host.reduceAdd (F := Ideal) (φ := .f32) (axes := [0, 1, 4, 5]) (t := ⟨2, ![4, 4]⟩) X init h hu)
      fun g l => ∑ a ∈ range n0, ∑ b ∈ range n1, ∑ r ∈ range n4, f ![a, b, g, l, r, 0] := fun j => by
  show Ideal.hostReduceAdd h X (init (Shape.Idx.first hu)) j = _
  unfold Ideal.hostReduceAdd
  have fib : ∀ i, h.drop i = j ↔ ∃ k : Fin n0 × Fin n1 × Fin n4, (fun a => match a with
      | ⟨0, _⟩ => k.1 | ⟨1, _⟩ => k.2.1 | ⟨2, _⟩ => ⟨(j 0).val, (j 0).isLt⟩ | ⟨3, _⟩ => ⟨(j 1).val, (j 1).isLt⟩ | ⟨4, _⟩ => k.2.2
      | ⟨5, _⟩ => ⟨0, Nat.one_pos⟩ : (⟨6, ![n0, n1, 4, 4, n4, 1]⟩ : Shape).Idx) = i := by
    intro i
    constructor
    · intro e
      refine ⟨(i 0, i 1, i 4), funext fun a => Fin.ext ?_⟩
      match a with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
      | ⟨5, h5⟩ => exact (Nat.lt_one_iff.1 (i ⟨5, h5⟩).isLt).symm
    · rintro ⟨k, rfl⟩
      refine funext fun b => Fin.ext ?_
      match b with
      | ⟨0, _⟩ => rfl
      | ⟨1, _⟩ => rfl
  rw [Finset.sum_filter_eq_sum_of_fiber (fun i => h.drop i = j) _ (fun k k' e => Prod.ext (congrFun e 0) (Prod.ext (congrFun e 1) (congrFun e 4))) fib,
    h0, EReal.coe_zero, zero_add, Fintype.sum_prod_type]
  show _ = ((∑ a ∈ range n0, ∑ b ∈ range n1, ∑ r ∈ range n4, f ![a, b, (j 0).val, (j 1).val, r, 0] : ℝ) : EReal)
  rw [Finset.sum_range, ← coe_sum]
  refine Finset.sum_congr rfl fun a _ => ?_
  rw [Finset.sum_range, ← coe_sum, Fintype.sum_prod_type]
  refine Finset.sum_congr rfl fun b _ => ?_
  rw [Finset.sum_range, ← coe_sum]
  refine Finset.sum_congr rfl fun r _ => ?_
  rw [hX]
  refine congrArg _ (congrArg f (funext fun a => ?_))
  match a with
  | ⟨0, _⟩ => rfl
  | ⟨1, _⟩ => rfl
  | ⟨2, _⟩ => rfl
  | ⟨3, _⟩ => rfl
  | ⟨4, _⟩ => rfl
  | ⟨5, _⟩ => rfl

/-! ## Rows and columns taken apart: sequence, block, row; key head, query head, lane -/

section
variable {A : ℕ → ℕ → ℝ}

theorem Is2.open6 {X : (⟨2, ![8192, 1024]⟩ : Shape).Idx → EReal} (h : Is2 X A) {hc : (⟨2, ![8192, 1024]⟩ : Shape).ShapeCasts ⟨6, ![4, 16, 128, 4, 4, 64]⟩} :
    Is (S := ⟨6, ![4, 16, 128, 4, 4, 64]⟩) (shapeCast ⟨6, ![4, 16, 128, 4, 4, 64]⟩ X hc)
      fun v => A (2048 * v 0 + 128 * v 1 + v 2) (256 * v 3 + 64 * v 4 + v 5) := fun i => by
  have h0 : (i 0).val < 4 := (i 0).isLt
  have h1 : (i 1).val < 16 := (i 1).isLt
  have h2 : (i 2).val < 128 := (i 2).isLt
  have h3 : (i 3).val < 4 := (i 3).isLt
  have h4 : (i 4).val < 4 := (i 4).isLt
  have h5 : (i 5).val < 64 := (i 5).isLt
  rw [shapeCast_apply X hc i (fun a => match a with
    | ⟨0, _⟩ => ⟨2048 * (i 0).val + 128 * (i 1).val + (i 2).val, show _ < 8192 by omega⟩
    | ⟨1, _⟩ => ⟨256 * (i 3).val + 64 * (i 4).val + (i 5).val, show _ < 1024 by omega⟩) (by
      rewrite [Shape.rowMajor_val_two, rowMajor_val6 i 2097152 131072 1024 256 64 rfl rfl rfl rfl rfl]
      show (2048 * (i 0).val + 128 * (i 1).val + (i 2).val) * 1024 + (256 * (i 3).val + 64 * (i 4).val + (i 5).val) = _
      omega)]
  exact h _

theorem Is.close6 {X : (⟨6, ![4, 16, 128, 4, 4, 64]⟩ : Shape).Idx → EReal}
    (h : Is (S := ⟨6, ![4, 16, 128, 4, 4, 64]⟩) X fun v => A (2048 * v 0 + 128 * v 1 + v 2) (256 * v 3 + 64 * v 4 + v 5))
    {hc : (⟨6, ![4, 16, 128, 4, 4, 64]⟩ : Shape).ShapeCasts ⟨2, ![8192, 1024]⟩} :
    Is2 (m := 8192) (n := 1024) (shapeCast ⟨2, ![8192, 1024]⟩ X hc) A := fun i => by
  have h0 : (i 0).val < 8192 := (i 0).isLt
  have h1 : (i 1).val < 1024 := (i 1).isLt
  have key : ∀ k : (⟨6, ![4, 16, 128, 4, 4, 64]⟩ : Shape).Idx, (k 0).val = (i 0).val / 2048 → (k 1).val = (i 0).val / 128 % 16 → (k 2).val = (i 0).val % 128 →
      (k 3).val = (i 1).val / 256 → (k 4).val = (i 1).val / 64 % 4 → (k 5).val = (i 1).val % 64 → shapeCast ⟨2, ![8192, 1024]⟩ X hc i = ((A (i 0).val (i 1).val : ℝ) : EReal) := by
    intro k e0 e1 e2 e3 e4 e5
    rw [shapeCast_apply X hc i k (by
      rewrite [Shape.rowMajor_val_two, rowMajor_val6 k 2097152 131072 1024 256 64 rfl rfl rfl rfl rfl, e0, e1, e2, e3, e4, e5]
      show _ = (i 0).val * 1024 + (i 1).val
      omega), h k]
    show ((A (2048 * (k 0).val + 128 * (k 1).val + (k 2).val) (256 * (k 3).val + 64 * (k 4).val + (k 5).val) : ℝ) : EReal) = _
    rw [e0, e1, e2, e3, e4, e5, show 2048 * ((i 0).val / 2048) + 128 * ((i 0).val / 128 % 16) + (i 0).val % 128 = (i 0).val by omega,
      show 256 * ((i 1).val / 256) + 64 * ((i 1).val / 64 % 4) + (i 1).val % 64 = (i 1).val by omega]
  exact key (fun a => match a with
    | ⟨0, _⟩ => ⟨(i 0).val / 2048, show _ < 4 by omega⟩
    | ⟨1, _⟩ => ⟨(i 0).val / 128 % 16, show _ < 16 by omega⟩
    | ⟨2, _⟩ => ⟨(i 0).val % 128, show _ < 128 by omega⟩
    | ⟨3, _⟩ => ⟨(i 1).val / 256, show _ < 4 by omega⟩
    | ⟨4, _⟩ => ⟨(i 1).val / 64 % 4, show _ < 4 by omega⟩
    | ⟨5, _⟩ => ⟨(i 1).val % 64, show _ < 64 by omega⟩) rfl rfl rfl rfl rfl rfl

end

end Cert.Reals

end
-- ==== Proof.RIn.lean ====
/-
  The reference's attention, up to the scores: the windows of keys and values, what each row sees, and the scores with their
  distance penalty and the sinks beside them.
-/
module

public import proofs.«01_k».proof.Proof.RGen
public import proofs.«01_k».proof.Proof.AMath
public import proofs.«01_k».proof.Proof.ATile
public import proofs.«01_k».proof.Proof.Gen.Reference2Ideal.Read

@[expose] public section

set_option maxRecDepth 16384

noncomputable section

namespace Cert.Full

open Cert.Reference2Ideal Cert.Reference2Ideal.Gen Cert.Reference2Ideal.Read Cert.Reals Cert.Math Idealize.ShloMosaic
open Cert.Tile (Bits select_bool)
open scoped BigOperators
open Finset (range)

/-- The keys of block `n`: the block before, which a sequence's first block lacks, and its own. -/
def win (K : ℕ → ℕ → ℝ) (n s c : ℕ) : ℝ := if s < 128 then (if n % 16 = 0 then 0 else K ((n - 1) * 128 + s) c) else K (n * 128 + (s - 128)) c

/-- Block `n` as the reference has it. -/
def blk (Q K V S O : ℕ → ℕ → ℝ) (n : ℕ) : Blk where
  q r c := Q (n * 128 + r) c * (1 / 8)
  k := win K n
  v := win V n
  o r c := O (n * 128 + r) c
  sl := Reals.slope
  sk := S 0
  first := decide (n % 16 = 0)

variable {Q K V S O : ℕ → ℕ → ℝ} {x0 x4 : S8192x1024.Idx → EReal} {x1 x2 : S8192x256.Idx → EReal} {x3 : S1x16.Idx → EReal}

/-! ## Keys and values -/

theorem is_rows (h : Is2 (m := 8192) (n := 256) x1 K) : Is (S := S4x2048x4x64) (val_main_v1 (F := Ideal) x1) fun v => K (2048 * v 0 + v 1) (64 * v 2 + v 3) :=
  h.reads idx_main_v1 (val_main_v1_apply (F := Ideal) x1) fun i => by
    have h0 : (i 0).val < 4 := (i 0).isLt
    have h1 : (i 1).val < 2048 := (i 1).isLt
    have h2 : (i 2).val < 4 := (i 2).isLt
    have h3 : (i 3).val < 64 := (i 3).isLt
    show K (((((i 0).val * 2048 + (i 1).val) * 4 + (i 2).val) * 64 + (i 3).val) / 256) (((((i 0).val * 2048 + (i 1).val) * 4 + (i 2).val) * 64 + (i 3).val) % 256) = K (2048 * (i 0).val + (i 1).val) (64 * (i 2).val + (i 3).val)
    exact congrArg₂ K (by omega) (by omega)

theorem is_lead (h : Is2 (m := 8192) (n := 256) x1 K) : Is (S := S4x2176x4x64) (val_main_v6 (F := Ideal) x1)
    fun v => if v 1 < 128 then 0 else K (2048 * v 0 + (v 1 - 128)) (64 * v 2 + v 3) := fun i => by
  have h1 : (i 1).val < 2176 := (i 1).isLt
  show val_main_v6 (F := Ideal) x1 i = ((if (i 1).val < 128 then 0 else K (2048 * (i 0).val + ((i 1).val - 128)) (64 * (i 2).val + (i 3).val) : ℝ) : EReal)
  unfold val_main_v6
  by_cases hp : (i 1).val < 128
  · rw [if_pos hp, concatenate_pair_apply_left 1 _ _ concatenates_S4x128x4x64_S4x2048x4x64_S4x2176x4x64_d1 i rfl
      (fun a => match a with | ⟨0, _⟩ => ⟨(i 0).val, (i 0).isLt⟩ | ⟨1, _⟩ => ⟨(i 1).val, hp⟩ | ⟨2, _⟩ => ⟨(i 2).val, (i 2).isLt⟩ | ⟨3, _⟩ => ⟨(i 3).val, (i 3).isLt⟩)
      (fun b => match b with | ⟨0, _⟩ => rfl | ⟨1, _⟩ => rfl | ⟨2, _⟩ => rfl | ⟨3, _⟩ => rfl)]
    exact bits_zero
  · rw [if_neg hp, concatenate_pair_apply_right 1 _ _ concatenates_S4x128x4x64_S4x2048x4x64_S4x2176x4x64_d1 i rfl rfl
      (fun a => match a with | ⟨0, _⟩ => ⟨(i 0).val, (i 0).isLt⟩ | ⟨1, _⟩ => ⟨(i 1).val - 128, show _ < 2048 by omega⟩ | ⟨2, _⟩ => ⟨(i 2).val, (i 2).isLt⟩ | ⟨3, _⟩ => ⟨(i 3).val, (i 3).isLt⟩)
      (fun b hb => match b with | ⟨0, _⟩ => rfl | ⟨1, _⟩ => absurd rfl hb | ⟨2, _⟩ => rfl | ⟨3, _⟩ => rfl)
      (show (i 1).val - 128 + 128 = (i 1).val by omega)]
    exact is_rows h _

theorem is_pages (h : Is2 (m := 8192) (n := 256) x1 K) : Is (S := S4x17x128x4x64) (val_main_v8 (F := Ideal) x1)
    fun v => if v 1 = 0 then 0 else K (2048 * v 0 + 128 * (v 1 - 1) + v 2) (64 * v 3 + v 4) :=
  (is_lead h).reads idx_main_v8 (val_main_v8_apply (F := Ideal) x1) fun i => by
    have h0 : (i 0).val < 4 := (i 0).isLt
    have h1 : (i 1).val < 17 := (i 1).isLt
    have h2 : (i 2).val < 128 := (i 2).isLt
    have h3 : (i 3).val < 4 := (i 3).isLt
    have h4 : (i 4).val < 64 := (i 4).isLt
    have e : ∀ w, w = ((((i 0).val * 17 + (i 1).val) * 128 + (i 2).val) * 4 + (i 3).val) * 64 + (i 4).val →
        w / 557056 = (i 0).val ∧ w / 256 % 2176 = 128 * (i 1).val + (i 2).val ∧ w / 64 % 4 = (i 3).val ∧ w % 64 = (i 4).val := fun w hw => by omega
    obtain ⟨e0, e1, e2, e3⟩ := e _ rfl
    show (if (((((i 0).val * 17 + (i 1).val) * 128 + (i 2).val) * 4 + (i 3).val) * 64 + (i 4).val) / 256 % 2176 < 128 then (0 : ℝ) else
      K (2048 * ((((((i 0).val * 17 + (i 1).val) * 128 + (i 2).val) * 4 + (i 3).val) * 64 + (i 4).val) / 557056) + ((((((i 0).val * 17 + (i 1).val) * 128 + (i 2).val) * 4 + (i 3).val) * 64 + (i 4).val) / 256 % 2176 - 128))
        (64 * ((((((i 0).val * 17 + (i 1).val) * 128 + (i 2).val) * 4 + (i 3).val) * 64 + (i 4).val) / 64 % 4) + (((((i 0).val * 17 + (i 1).val) * 128 + (i 2).val) * 4 + (i 3).val) * 64 + (i 4).val) % 64))
      = if (i 1).val = 0 then 0 else K (2048 * (i 0).val + 128 * ((i 1).val - 1) + (i 2).val) (64 * (i 3).val + (i 4).val)
    rw [e0, e1, e2, e3]
    by_cases hp : (i 1).val = 0
    · rw [if_pos hp, if_pos (by omega)]
    · rw [if_neg hp, if_neg (by omega)]
      exact congrArg₂ K (by omega) rfl

/-- The windows of the keys. -/
theorem is_win (h : Is2 (m := 8192) (n := 256) x1 K) : Is (S := S4x16x256x4x64) (val_main_v11 (F := Ideal) x1)
    fun v => win K (16 * v 0 + v 1) (v 2) (64 * v 3 + v 4) := fun i => by
  have h0 : (i 0).val < 4 := (i 0).isLt
  have h1 : (i 1).val < 16 := (i 1).isLt
  have h2 : (i 2).val < 256 := (i 2).isLt
  have h9 : Is (S := S4x16x128x4x64) (val_main_v9 (F := Ideal) x1) fun v => if v 1 = 0 then 0 else K (2048 * v 0 + 128 * (v 1 - 1) + v 2) (64 * v 3 + v 4) :=
    (is_pages h).reads idx_main_v9 (val_main_v9_apply (F := Ideal) x1) fun i => rfl
  have h10 : Is (S := S4x16x128x4x64) (val_main_v10 (F := Ideal) x1) fun v => if 1 + v 1 = 0 then 0 else K (2048 * v 0 + 128 * (1 + v 1 - 1) + v 2) (64 * v 3 + v 4) :=
    (is_pages h).reads idx_main_v10 (val_main_v10_apply (F := Ideal) x1) fun i => rfl
  show val_main_v11 (F := Ideal) x1 i = ((win K (16 * (i 0).val + (i 1).val) (i 2).val (64 * (i 3).val + (i 4).val) : ℝ) : EReal)
  unfold val_main_v11 win
  by_cases hp : (i 2).val < 128
  · rw [if_pos hp, concatenate_pair_apply_left 2 _ _ concatenates_S4x16x128x4x64_S4x16x128x4x64_S4x16x256x4x64_d2 i rfl
      (fun a => match a with | ⟨0, _⟩ => ⟨(i 0).val, (i 0).isLt⟩ | ⟨1, _⟩ => ⟨(i 1).val, (i 1).isLt⟩ | ⟨2, _⟩ => ⟨(i 2).val, hp⟩ | ⟨3, _⟩ => ⟨(i 3).val, (i 3).isLt⟩ | ⟨4, _⟩ => ⟨(i 4).val, (i 4).isLt⟩)
      (fun b => match b with | ⟨0, _⟩ => rfl | ⟨1, _⟩ => rfl | ⟨2, _⟩ => rfl | ⟨3, _⟩ => rfl | ⟨4, _⟩ => rfl), h9]
    show ((if (i 1).val = 0 then 0 else K (2048 * (i 0).val + 128 * ((i 1).val - 1) + (i 2).val) (64 * (i 3).val + (i 4).val) : ℝ) : EReal) = _
    by_cases hq : (i 1).val = 0
    · rw [if_pos hq, if_pos (by omega)]
    · rw [if_neg hq, if_neg (by omega)]
      exact congrArg _ (congrArg₂ K (by omega) rfl)
  · rw [if_neg hp, concatenate_pair_apply_right 2 _ _ concatenates_S4x16x128x4x64_S4x16x128x4x64_S4x16x256x4x64_d2 i rfl rfl
      (fun a => match a with | ⟨0, _⟩ => ⟨(i 0).val, (i 0).isLt⟩ | ⟨1, _⟩ => ⟨(i 1).val, (i 1).isLt⟩ | ⟨2, _⟩ => ⟨(i 2).val - 128, show _ < 128 by omega⟩ | ⟨3, _⟩ => ⟨(i 3).val, (i 3).isLt⟩ | ⟨4, _⟩ => ⟨(i 4).val, (i 4).isLt⟩)
      (fun b hb => match b with | ⟨0, _⟩ => rfl | ⟨1, _⟩ => rfl | ⟨2, _⟩ => absurd rfl hb | ⟨3, _⟩ => rfl | ⟨4, _⟩ => rfl)
      (show (i 2).val - 128 + 128 = (i 2).val by omega), h10]
    show ((if 1 + (i 1).val = 0 then 0 else K (2048 * (i 0).val + 128 * (1 + (i 1).val - 1) + ((i 2).val - 128)) (64 * (i 3).val + (i 4).val) : ℝ) : EReal) = _
    rw [if_neg (by omega)]
    exact congrArg _ (congrArg₂ K (by omega) rfl)

theorem is_winV (h : Is2 (m := 8192) (n := 256) x2 V) : Is (S := S4x16x256x4x64) (val_main_v19 (F := Ideal) x2)
    fun v => win V (16 * v 0 + v 1) (v 2) (64 * v 3 + v 4) := is_win (x1 := x2) h

/-- The queries, by sequence, block and row, and by key head, query head and lane. -/
theorem is_q (h : Is2 (m := 8192) (n := 1024) x0 Q) : Is (S := S4x16x128x4x4x64) (val_main_v3 (F := Ideal) x0)
    fun v => Q (2048 * v 0 + 128 * v 1 + v 2) (256 * v 3 + 64 * v 4 + v 5) := by
  unfold val_main_v3 val_main_v0
  rw [shapeCast_comp]
  exact h.open6

/-! ## What a row sees -/

theorem vis_bits {t r s : ℕ} (ht : t < 16) (hr : r < 128) (hs : s < 256) :
    IntOp.andi (IntOp.andi (IntOp.cmpi .sge (IntOp.subi (IntOp.addi (BitVec.ofNat 32 r) 128#32) (BitVec.ofNat 32 s)) 0#32)
      (IntOp.cmpi .slt (IntOp.subi (IntOp.addi (BitVec.ofNat 32 r) 128#32) (BitVec.ofNat 32 s)) 128#32))
      (IntOp.cmpi .sge (IntOp.addi (IntOp.subi (IntOp.muli (BitVec.ofNat 32 t) 128#32) 128#32) (BitVec.ofNat 32 s)) 0#32)
      = if vis (decide (t = 0)) r s then 1#1 else 0#1 := by
  have d : (BitVec.ofNat 32 r + 128#32 - BitVec.ofNat 32 s).toInt = (r : ℤ) + 128 - s := by
    rw [BitVec.toInt_eq_toNat_cond]
    simp only [BitVec.toNat_sub, BitVec.toNat_add, BitVec.toNat_ofNat]
    split_ifs <;> omega
  have e : (BitVec.ofNat 32 t * 128#32 - 128#32 + BitVec.ofNat 32 s).toInt = (t : ℤ) * 128 - 128 + s := by
    rw [BitVec.toInt_eq_toNat_cond]
    simp only [BitVec.toNat_sub, BitVec.toNat_add, BitVec.toNat_mul, BitVec.toNat_ofNat]
    split_ifs <;> omega
  show (BitVec.ofBool ((0#32).sle (BitVec.ofNat 32 r + 128#32 - BitVec.ofNat 32 s)) &&& BitVec.ofBool ((BitVec.ofNat 32 r + 128#32 - BitVec.ofNat 32 s).slt 128#32))
    &&& BitVec.ofBool ((0#32).sle (BitVec.ofNat 32 t * 128#32 - 128#32 + BitVec.ofNat 32 s)) = _
  rw [BitVec.sle, BitVec.sle, BitVec.slt, d, e, show (0#32).toInt = 0 from rfl, show (128#32).toInt = 128 from rfl]
  have v : vis (decide (t = 0)) r s = (decide ((0 : ℤ) ≤ r + 128 - s) && decide ((r : ℤ) + 128 - s < 128) && decide ((0 : ℤ) ≤ t * 128 - 128 + s)) := by
    rw [Bool.eq_iff_iff]
    simp only [vis, Bool.and_eq_true, Bool.or_eq_true, Bool.not_eq_true', decide_eq_true_eq, decide_eq_false_iff_not]
    omega
  rw [v]
  generalize decide ((0 : ℤ) ≤ r + 128 - s) = a
  generalize decide ((r : ℤ) + 128 - s < 128) = b
  generalize decide ((0 : ℤ) ≤ t * 128 - 128 + s) = c
  revert a b c; decide

theorem seen_bits : Bits (S := S4x16x4x4x128x256) (val_main_v77_1 (F := Ideal)) fun v => vis (decide (v 1 = 0)) (v 4) (v 5) := fun i => by
  rw [val_main_v77_1_apply, val_main_v76_apply]
  exact vis_bits (i 1).isLt (i 4).isLt (i 5).isLt

/-! ## Scores -/

theorem is_dist : Is (S := S128x256) (val_main_v68 (F := Ideal)) fun v => (v 0 : ℝ) + 128 - v 1 := fun i => by
  have hr : (i 0).val < 128 := (i 0).isLt
  have hs : (i 1).val < 256 := (i 1).isLt
  show (((BitVec.ofNat 32 (i 0).val + 128#32 - BitVec.ofNat 32 (i 1).val).toInt : ℝ) : EReal) = (((i 0).val + 128 - (i 1).val : ℝ) : EReal)
  generalize (i 0).val = r at hr
  generalize (i 1).val = s at hs
  have d : (BitVec.ofNat 32 r + 128#32 - BitVec.ofNat 32 s).toInt = (r : ℤ) + 128 - s := by
    rw [BitVec.toInt_eq_toNat_cond]
    simp only [BitVec.toNat_sub, BitVec.toNat_add, BitVec.toNat_ofNat]
    split_ifs <;> omega
  rw [d]; push_cast; rfl

theorem is_slopes : Is (S := S16) (val_main_v64 (F := Ideal)) fun v => Reals.slope (v 0) := is_slope (b := bcast_S_S16)

theorem is_penalty : Is (S := S4x16x4x4x128x256) (val_main_v74 (F := Ideal)) fun v => -Reals.slope (4 * v 2 + v 3) * ((v 4 : ℝ) + 128 - v 5) := by
  have h65 : Is (S := S4x4) (val_main_v65 (F := Ideal)) fun v => Reals.slope (v 0 * 4 + v 1) := is_slopes.reads idx_main_v65 (val_main_v65_apply (F := Ideal)) fun i => rfl
  have h66 : Is (S := S4x4x1x1) (val_main_v66 (F := Ideal)) fun v => Reals.slope (v 0 * 4 + v 1) := h65.reads idx_main_v66 (val_main_v66_apply (F := Ideal)) fun i => rfl
  have h67 : Is (S := S4x4x1x1) (val_main_v67 (F := Ideal)) fun v => -Reals.slope (v 0 * 4 + v 1) := Is.hneg (φ := .f32) h66
  have h70 : Is (S := S4x4x128x256) (val_main_v70 (F := Ideal)) fun v => -Reals.slope (v 0 * 4 + v 1) := h67.reads idx_main_v70 (val_main_v70_apply (F := Ideal)) fun i => rfl
  have h69 : Is (S := S1x1x128x256) (val_main_v69 (F := Ideal)) fun v => (v 2 : ℝ) + 128 - v 3 := is_dist.reads idx_main_v69 (val_main_v69_apply (F := Ideal)) fun i => rfl
  have h71 : Is (S := S4x4x128x256) (val_main_v71 (F := Ideal)) fun v => (v 2 : ℝ) + 128 - v 3 := h69.reads idx_main_v71 (val_main_v71_apply (F := Ideal)) fun i => rfl
  have h72 : Is (S := S4x4x128x256) (val_main_v72 (F := Ideal)) fun v => -Reals.slope (v 0 * 4 + v 1) * ((v 2 : ℝ) + 128 - v 3) := Is.mul (φ := .f32) h70 h71
  have h73 : Is (S := S1x1x4x4x128x256) (val_main_v73 (F := Ideal)) fun v => -Reals.slope (v 2 * 4 + v 3) * ((v 4 : ℝ) + 128 - v 5) := h72.reads idx_main_v73 (val_main_v73_apply (F := Ideal)) fun i => rfl
  exact h73.reads idx_main_v74 (val_main_v74_apply (F := Ideal)) fun i => by
    show -Reals.slope ((i 2).val * 4 + (i 3).val) * (((i 4).val : ℝ) + 128 - (i 5).val) = -Reals.slope (4 * (i 2).val + (i 3).val) * (((i 4).val : ℝ) + 128 - (i 5).val)
    rw [Nat.mul_comm]

theorem is_score (hq : Is2 (m := 8192) (n := 1024) x0 Q) (hk : Is2 (m := 8192) (n := 256) x1 K) :
    Is (S := S4x16x4x4x128x256) (val_main_v75 (F := Ideal) x0 x1) fun v => (blk Q K V S O (16 * v 0 + v 1)).sc (4 * v 2 + v 3) (v 4) (v 5) := by
  have h20 : Is (S := S4x16x4x256x128x4) (val_main_v20 (F := Ideal) x0 x1) fun v => ∑ d ∈ range 64, win K (16 * v 0 + v 1) (v 3) (64 * v 2 + d) * Q (2048 * v 0 + 128 * v 1 + v 4) (256 * v 2 + 64 * v 5 + d) :=
    Is.contract (is_win hk) (is_q hq) (val_main_v20_apply x0 x1) fun i k => rfl
  have h21 : Is (S := S4x16x4x4x128x256) (val_main_v21 (F := Ideal) x0 x1) fun v => ∑ d ∈ range 64, win K (16 * v 0 + v 1) (v 5) (64 * v 2 + d) * Q (2048 * v 0 + 128 * v 1 + v 4) (256 * v 2 + 64 * v 3 + d) :=
    h20.reads idx_main_v21 (val_main_v21_apply (F := Ideal) x0 x1) fun i => rfl
  have h23 := Is.mul (φ := .f32) h21 (is_bscalar (T := S4x16x4x4x128x256) (hb := bcast_S_S4x16x4x4x128x256) (x := val_main_cst_3 (F := Ideal)) fun _ => bits_eighth)
  refine (Is.add (φ := .f32) h23 is_penalty).to fun v hv => ?_
  have h3 : v 3 < 4 := hv 3
  show (∑ d ∈ range 64, win K (16 * v 0 + v 1) (v 5) (64 * v 2 + d) * Q (2048 * v 0 + 128 * v 1 + v 4) (256 * v 2 + 64 * v 3 + d)) * (1 / 8) + -Reals.slope (4 * v 2 + v 3) * ((v 4 : ℝ) + 128 - v 5)
    = (∑ d ∈ range 64, Q ((16 * v 0 + v 1) * 128 + v 4) (64 * (4 * v 2 + v 3) + d) * (1 / 8) * win K (16 * v 0 + v 1) (v 5) (64 * ((4 * v 2 + v 3) / 4) + d)) - Reals.slope (4 * v 2 + v 3) * ((v 4 : ℝ) + 128 - v 5)
  rw [Finset.sum_mul, show (4 * v 2 + v 3) / 4 = v 2 by omega, show (16 * v 0 + v 1) * 128 + v 4 = 2048 * v 0 + 128 * v 1 + v 4 by omega,
    neg_mul, ← sub_eq_add_neg]
  refine congrArg (· - _) (Finset.sum_congr rfl fun d _ => ?_)
  rw [show 64 * (4 * v 2 + v 3) + d = 256 * v 2 + 64 * v 3 + d by omega]
  ring

theorem is_sinks (hs : Is2 (m := 1) (n := 16) x3 S) : Is (S := S4x16x4x4x128x1) (val_main_v80 (F := Ideal) x3) fun v => S 0 (4 * v 2 + v 3) := by
  have h78 : Is (S := S4x4) (val_main_v78 (F := Ideal) x3) fun v => S 0 ((v 0 * 4 + v 1) % 16) := hs.reads idx_main_v78 (val_main_v78_apply (F := Ideal) x3) fun i => rfl
  have h79 : Is (S := S1x1x4x4x1x1) (val_main_v79 (F := Ideal) x3) fun v => S 0 ((v 2 * 4 + v 3) % 16) := h78.reads idx_main_v79 (val_main_v79_apply (F := Ideal) x3) fun i => rfl
  exact h79.reads idx_main_v80 (val_main_v80_apply (F := Ideal) x3) fun i => by
    have h2 : (i 2).val < 4 := (i 2).isLt
    have h3 : (i 3).val < 4 := (i 3).isLt
    show S 0 (((i 2).val * 4 + (i 3).val) % 16) = S 0 (4 * (i 2).val + (i 3).val)
    exact congrArg (S 0) (by omega)

end Cert.Full

end
-- ==== Proof.RSoft.lean ====
/-
  The reference's attention: its weights, from the scores with the sink as one column more, shifted by the row's maximum and
  normalised; and its output.
-/
module

public import proofs.«01_k».proof.Proof.RIn

@[expose] public section

set_option maxRecDepth 16384

noncomputable section

namespace Cert.Full

open Cert.Reference2Ideal Cert.Reference2Ideal.Gen Cert.Reference2Ideal.Read Cert.Reals Cert.Math Idealize.ShloMosaic
open Cert.Tile (Bits select_bool)
open scoped BigOperators
open Finset (range)

/-- The weights before they are normalised, the sink's as column 256. -/
def wide (B : Blk) (h r s : ℕ) : ℝ := if s < 256 then B.ex h r s else Real.exp (B.sk h)

theorem sum_wide (B : Blk) (h r : ℕ) : ∑ s ∈ range 257, wide B h r s = B.den h r := by
  rw [Finset.sum_range_succ]
  refine congrArg₂ (· + ·) (Finset.sum_congr rfl fun s hs => ?_) ?_
  · exact if_pos (Finset.mem_range.1 hs)
  · exact if_neg (lt_irrefl _)

/-- One column more, last. -/
theorem column_lo {X : S4x16x4x4x128x256.Idx → EReal} {Y : S4x16x4x4x128x1.Idx → EReal} (i : S4x16x4x4x128x257.Idx) (k : S4x16x4x4x128x256.Idx)
    (e0 : (k 0).val = (i 0).val) (e1 : (k 1).val = (i 1).val) (e2 : (k 2).val = (i 2).val) (e3 : (k 3).val = (i 3).val) (e4 : (k 4).val = (i 4).val) (e5 : (k 5).val = (i 5).val) :
    concatenate S4x16x4x4x128x257 5 [⟨S4x16x4x4x128x256, X⟩, ⟨S4x16x4x4x128x1, Y⟩] concatenates_S4x16x4x4x128x256_S4x16x4x4x128x1_S4x16x4x4x128x257_d5 i = X k :=
  concatenate_pair_apply_left 5 X Y concatenates_S4x16x4x4x128x256_S4x16x4x4x128x1_S4x16x4x4x128x257_d5 i rfl k
    (fun b => match b with | ⟨0, _⟩ => e0 | ⟨1, _⟩ => e1 | ⟨2, _⟩ => e2 | ⟨3, _⟩ => e3 | ⟨4, _⟩ => e4 | ⟨5, _⟩ => e5)

theorem column_hi {X : S4x16x4x4x128x256.Idx → EReal} {Y : S4x16x4x4x128x1.Idx → EReal} (i : S4x16x4x4x128x257.Idx) (k : S4x16x4x4x128x1.Idx)
    (e0 : (k 0).val = (i 0).val) (e1 : (k 1).val = (i 1).val) (e2 : (k 2).val = (i 2).val) (e3 : (k 3).val = (i 3).val) (e4 : (k 4).val = (i 4).val) (e5 : (k 5).val + 256 = (i 5).val) :
    concatenate S4x16x4x4x128x257 5 [⟨S4x16x4x4x128x256, X⟩, ⟨S4x16x4x4x128x1, Y⟩] concatenates_S4x16x4x4x128x256_S4x16x4x4x128x1_S4x16x4x4x128x257_d5 i = Y k :=
  concatenate_pair_apply_right 5 X Y concatenates_S4x16x4x4x128x256_S4x16x4x4x128x1_S4x16x4x4x128x257_d5 i rfl rfl k
    (fun b hb => match b with | ⟨0, _⟩ => e0 | ⟨1, _⟩ => e1 | ⟨2, _⟩ => e2 | ⟨3, _⟩ => e3 | ⟨4, _⟩ => e4 | ⟨5, _⟩ => absurd rfl hb) e5

/-- The index of the same place in a row of 256, of the one column, of a row of 257. -/
theorem place (b t g h r s : ℕ) (hb : b < 4) (ht : t < 16) (hg : g < 4) (hh : h < 4) (hr : r < 128) :
    (s < 256 → ∃ k : S4x16x4x4x128x256.Idx, (k 0).val = b ∧ (k 1).val = t ∧ (k 2).val = g ∧ (k 3).val = h ∧ (k 4).val = r ∧ (k 5).val = s) ∧
    (s < 1 → ∃ k : S4x16x4x4x128x1.Idx, (k 0).val = b ∧ (k 1).val = t ∧ (k 2).val = g ∧ (k 3).val = h ∧ (k 4).val = r ∧ (k 5).val = s) ∧
    (s < 257 → ∃ k : S4x16x4x4x128x257.Idx, (k 0).val = b ∧ (k 1).val = t ∧ (k 2).val = g ∧ (k 3).val = h ∧ (k 4).val = r ∧ (k 5).val = s) := by
  refine ⟨fun hs => ⟨fun a => match a with | ⟨0, _⟩ => ⟨b, hb⟩ | ⟨1, _⟩ => ⟨t, ht⟩ | ⟨2, _⟩ => ⟨g, hg⟩ | ⟨3, _⟩ => ⟨h, hh⟩ | ⟨4, _⟩ => ⟨r, hr⟩ | ⟨5, _⟩ => ⟨s, hs⟩, rfl, rfl, rfl, rfl, rfl, rfl⟩,
    fun hs => ⟨fun a => match a with | ⟨0, _⟩ => ⟨b, hb⟩ | ⟨1, _⟩ => ⟨t, ht⟩ | ⟨2, _⟩ => ⟨g, hg⟩ | ⟨3, _⟩ => ⟨h, hh⟩ | ⟨4, _⟩ => ⟨r, hr⟩ | ⟨5, _⟩ => ⟨s, hs⟩, rfl, rfl, rfl, rfl, rfl, rfl⟩,
    fun hs => ⟨fun a => match a with | ⟨0, _⟩ => ⟨b, hb⟩ | ⟨1, _⟩ => ⟨t, ht⟩ | ⟨2, _⟩ => ⟨g, hg⟩ | ⟨3, _⟩ => ⟨h, hh⟩ | ⟨4, _⟩ => ⟨r, hr⟩ | ⟨5, _⟩ => ⟨s, hs⟩, rfl, rfl, rfl, rfl, rfl, rfl⟩⟩

variable {Q K V S O : ℕ → ℕ → ℝ} {x0 x4 : S8192x1024.Idx → EReal} {x1 x2 : S8192x256.Idx → EReal} {x3 : S1x16.Idx → EReal}
  (hq : Is2 (m := 8192) (n := 1024) x0 Q) (hk : Is2 (m := 8192) (n := 256) x1 K) (hv : Is2 (m := 8192) (n := 256) x2 V)
  (hs : Is2 (m := 1) (n := 16) x3 S) (ho : Is2 (m := 8192) (n := 1024) x4 O)
include hq hk hs

omit hs in
/-- The scores a row sees; −∞ where it does not see. -/
theorem masked (i : S4x16x4x4x128x256.Idx) : val_main_v77_0 (F := Ideal) x0 x1 i =
    if vis (decide ((i 1).val = 0)) (i 4).val (i 5).val then (((blk Q K V S O (16 * (i 0).val + (i 1).val)).sc (4 * (i 2).val + (i 3).val) (i 4).val (i 5).val : ℝ) : EReal) else ⊥ := by
  have hb : val_main_v77_1 (F := Ideal) i = if vis (decide ((i 1).val = 0)) (i 4).val (i 5).val then 1#1 else 0#1 := seen_bits i
  have hc : val_main_v75 (F := Ideal) x0 x1 i = (((blk Q K V S O (16 * (i 0).val + (i 1).val)).sc (4 * (i 2).val + (i 3).val) (i 4).val (i 5).val : ℝ) : EReal) :=
    is_score (V := V) (S := S) (O := O) hq hk i
  have hd : val_main_call0_v2 (F := Ideal) i = (⊥ : EReal) := Tile.bits_bot
  rw [val_main_v77_0_apply, hb, hc, hd, select_bool]

/-- A row of scores and, last, the sink. -/
theorem row_lo (i : S4x16x4x4x128x257.Idx) (hi : (i 5).val < 256) : val_main_v81 (F := Ideal) x0 x1 x3 i =
    if vis (decide ((i 1).val = 0)) (i 4).val (i 5).val then (((blk Q K V S O (16 * (i 0).val + (i 1).val)).sc (4 * (i 2).val + (i 3).val) (i 4).val (i 5).val : ℝ) : EReal) else ⊥ := by
  obtain ⟨k, e0, e1, e2, e3, e4, e5⟩ := (place _ _ _ _ _ _ (i 0).isLt (i 1).isLt (i 2).isLt (i 3).isLt (i 4).isLt).1 hi
  have h := masked (V := V) (S := S) (O := O) hq hk k
  rw [e0, e1, e2, e3, e4, e5] at h
  unfold val_main_v81
  rw [column_lo i k e0 e1 e2 e3 e4 e5, h]

omit hq hk in
theorem row_hi (i : S4x16x4x4x128x257.Idx) (hi : ¬(i 5).val < 256) : val_main_v81 (F := Ideal) x0 x1 x3 i = ((S 0 (4 * (i 2).val + (i 3).val) : ℝ) : EReal) := by
  have h5 : (i 5).val < 257 := (i 5).isLt
  obtain ⟨k, e0, e1, e2, e3, e4, e5⟩ := (place _ _ _ _ _ 0 (i 0).isLt (i 1).isLt (i 2).isLt (i 3).isLt (i 4).isLt).2.1 Nat.one_pos
  have h : val_main_v80 (F := Ideal) x3 k = ((S 0 (4 * (k 2).val + (k 3).val) : ℝ) : EReal) := is_sinks hs k
  rw [e2, e3] at h
  unfold val_main_v81
  rw [column_hi i k e0 e1 e2 e3 e4 (by omega), h]

omit hq hk hs in
/-- A row's place is dropped to its row. -/
theorem dropped (j : S4x16x4x4x128.Idx) : ∃ k : S4x16x4x4x128x257.Idx, (k 5).val = 256 ∧ reducesTo_S4x16x4x4x128x257_S4x16x4x4x128_d5.drop k = j := by
  obtain ⟨k, e0, e1, e2, e3, e4, e5⟩ := (place _ _ _ _ _ 256 (j 0).isLt (j 1).isLt (j 2).isLt (j 3).isLt (j 4).isLt).2.2 (by decide)
  exact ⟨k, e5, funext fun b => Fin.ext (by match b with | ⟨0, _⟩ => exact e0 | ⟨1, _⟩ => exact e1 | ⟨2, _⟩ => exact e2 | ⟨3, _⟩ => exact e3 | ⟨4, _⟩ => exact e4)⟩

theorem max_is : ∃ μ, Is (S := S4x16x4x4x128) (val_main_v82 (F := Ideal) x0 x1 x3) μ := is_some fun j => by
  obtain ⟨k, e5, ek⟩ := dropped j
  refine max_real (fun _ => Tile.bits_bot) (fun i => ?_) j ek ?_
  · by_cases h : (i 5).val < 256
    · rw [row_lo (V := Q) (O := Q) hq hk hs i h]
      split
      · exact EReal.coe_lt_top _
      · exact bot_lt_top
    · rw [row_hi (x0 := x0) (x1 := x1) hs i h]; exact EReal.coe_lt_top _
  · rw [row_hi (x0 := x0) (x1 := x1) hs k (by omega)]; exact EReal.bot_lt_coe _

omit hq hk hs in
theorem exp_seen (b : Bool) (x M : ℝ) : FloatOps.hostUnary (F := Ideal) (φ := .f32) .exp (FloatOps.subf (F := Ideal) (φ := .f32) (if b then (x : EReal) else ⊥) (M : EReal))
    = ((Real.exp (-M) * (if b then Real.exp x else 0) : ℝ) : EReal) := by
  show Ideal.exp ((if b then (x : EReal) else ⊥) - (M : EReal)) = _
  split
  · rw [← EReal.coe_sub, Ideal.exp_coe, ← Real.exp_add, neg_add_eq_sub]
  · rw [EReal.bot_sub, Ideal.exp_bot, mul_zero, EReal.coe_zero]

omit hq hk hs in
theorem exp_sink (x M : ℝ) : FloatOps.hostUnary (F := Ideal) (φ := .f32) .exp (FloatOps.subf (F := Ideal) (φ := .f32) (x : EReal) (M : EReal))
    = ((Real.exp (-M) * Real.exp x : ℝ) : EReal) := exp_seen true x M

/-- The exponentials, all of a row scaled alike. -/
theorem is_exps : ∃ c : (Fin 5 → ℕ) → ℝ, (∀ v, 0 < c v) ∧ Is (S := S4x16x4x4x128x257) (val_main_v102 (F := Ideal) x0 x1 x3)
    fun v => c ![v 0, v 1, v 2, v 3, v 4] * wide (blk Q K V S O (16 * v 0 + v 1)) (4 * v 2 + v 3) (v 4) (v 5) := by
  obtain ⟨μ, hμ⟩ := max_is hq hk hs
  have h89 : Is (S := S4x16x4x4x128) (val_main_v89 (F := Ideal) x0 x1 x3) μ := fun i => by
    rw [val_main_v89_apply, val_main_v88_apply, val_main_cst_16_apply, hμ]
    show max (Ideal.ofBits .f32 0xFF800000#32) _ = _
    rw [Tile.bits_bot, max_eq_right bot_le]
  have h99 : Is (S := S4x16x4x4x128x1) (val_main_v99 (F := Ideal) x0 x1 x3) fun v => μ ![v 0, v 1, v 2, v 3, v 4] :=
    h89.reads idx_main_v99 (val_main_v99_apply (F := Ideal) x0 x1 x3) fun i => congrArg μ (funext fun a => match a with
      | ⟨0, _⟩ => rfl | ⟨1, _⟩ => rfl | ⟨2, _⟩ => rfl | ⟨3, _⟩ => rfl | ⟨4, _⟩ => rfl)
  have h100 : Is (S := S4x16x4x4x128x257) (val_main_v100 (F := Ideal) x0 x1 x3) fun v => μ ![v 0, v 1, v 2, v 3, v 4] :=
    h99.reads idx_main_v100 (val_main_v100_apply (F := Ideal) x0 x1 x3) fun i => rfl
  refine ⟨fun v => Real.exp (-μ v), fun v => Real.exp_pos _, fun i => ?_⟩
  have h1 : (i 1).val < 16 := (i 1).isLt
  rw [val_main_v102_apply, val_main_v101_apply, h100]
  by_cases h : (i 5).val < 256
  · have hf : (blk Q K V S O (16 * (i 0).val + (i 1).val)).first = decide ((i 1).val = 0) := decide_eq_decide.2 (by omega)
    rw [row_lo (V := V) (O := O) hq hk hs i h, exp_seen]
    refine congrArg (fun y : ℝ => ((Real.exp (-μ ![(i 0).val, (i 1).val, (i 2).val, (i 3).val, (i 4).val]) * y : ℝ) : EReal)) ?_
    show _ = wide (blk Q K V S O (16 * (i 0).val + (i 1).val)) (4 * (i 2).val + (i 3).val) (i 4).val (i 5).val
    unfold wide Blk.ex
    rw [if_pos h, hf]
  · rw [row_hi (x0 := x0) (x1 := x1) hs i h, exp_sink]
    refine congrArg (fun y : ℝ => ((Real.exp (-μ ![(i 0).val, (i 1).val, (i 2).val, (i 3).val, (i 4).val]) * y : ℝ) : EReal)) ?_
    show _ = wide (blk Q K V S O (16 * (i 0).val + (i 1).val)) (4 * (i 2).val + (i 3).val) (i 4).val (i 5).val
    unfold wide
    rw [if_neg h]
    rfl

/-- What the gradients read of the softmax: the exponentials, their sums, the inverse squares of the sums. -/
theorem is_softmax : ∃ c : (Fin 5 → ℕ) → ℝ, (∀ v, 0 < c v) ∧ Is (S := S4x16x4x4x128x257) (val_main_v102 (F := Ideal) x0 x1 x3)
      (fun v => c ![v 0, v 1, v 2, v 3, v 4] * wide (blk Q K V S O (16 * v 0 + v 1)) (4 * v 2 + v 3) (v 4) (v 5)) ∧
    Is (S := S4x16x4x4x128x1) (val_main_v104 (F := Ideal) x0 x1 x3)
      (fun v => c ![v 0, v 1, v 2, v 3, v 4] * (blk Q K V S O (16 * v 0 + v 1)).den (4 * v 2 + v 3) (v 4)) := by
  obtain ⟨c, hc, he⟩ := is_exps (V := V) (O := O) hq hk hs
  refine ⟨c, hc, he, ?_⟩
  have h103 : Is (S := S4x16x4x4x128) (val_main_v103 (F := Ideal) x0 x1 x3)
      fun v => ∑ s ∈ range 257, c ![v 0, v 1, v 2, v 3, v 4] * wide (blk Q K V S O (16 * v 0 + v 1)) (4 * v 2 + v 3) (v 4) s :=
    Is.sums he bits_zero (val_main_v103_apply x0 x1 x3) fun i k => rfl
  have h104 : Is (S := S4x16x4x4x128x1) (val_main_v104 (F := Ideal) x0 x1 x3)
      fun v => ∑ s ∈ range 257, c ![v 0, v 1, v 2, v 3, v 4] * wide (blk Q K V S O (16 * v 0 + v 1)) (4 * v 2 + v 3) (v 4) s :=
    h103.reads idx_main_v104 (val_main_v104_apply (F := Ideal) x0 x1 x3) fun i => rfl
  exact h104.to fun v _ => by rw [← Finset.mul_sum, sum_wide]

/-- The weights. -/
theorem is_p : Is (S := S4x16x4x4x128x256) (val_main_v110 (F := Ideal) x0 x1 x3) fun v => (blk Q K V S O (16 * v 0 + v 1)).p (4 * v 2 + v 3) (v 4) (v 5) := by
  obtain ⟨c, hc, he, hd⟩ := is_softmax (V := V) (O := O) hq hk hs
  have h105 : Is (S := S4x16x4x4x128x257) (val_main_v105 (F := Ideal) x0 x1 x3)
      fun v => c ![v 0, v 1, v 2, v 3, v 4] * (blk Q K V S O (16 * v 0 + v 1)).den (4 * v 2 + v 3) (v 4) :=
    hd.reads idx_main_v105 (val_main_v105_apply (F := Ideal) x0 x1 x3) fun i => rfl
  have h106 : Is (S := S4x16x4x4x128x257) (val_main_v106 (F := Ideal) x0 x1 x3) fun v => wide (blk Q K V S O (16 * v 0 + v 1)) (4 * v 2 + v 3) (v 4) (v 5) / (blk Q K V S O (16 * v 0 + v 1)).den (4 * v 2 + v 3) (v 4) :=
    (Is.hdiv (φ := .f32) he h105 fun v => (mul_pos (hc _) (Blk.den_pos _ _ _)).ne').to fun v _ => mul_div_mul_left _ _ (hc _).ne'
  have h110 : Is (S := S4x16x4x4x128x256) (val_main_v110 (F := Ideal) x0 x1 x3) fun v => wide (blk Q K V S O (16 * v 0 + v 1)) (4 * v 2 + v 3) (v 4) (v 5) / (blk Q K V S O (16 * v 0 + v 1)).den (4 * v 2 + v 3) (v 4) :=
    h106.reads idx_main_v110 (val_main_v110_apply (F := Ideal) x0 x1 x3) fun i => rfl
  exact h110.to fun v hv => by
    have h5 : v 5 < 256 := hv 5
    show wide _ _ _ _ / _ = _
    unfold wide
    rw [if_pos h5]; rfl

include hv

/-- The output. -/
theorem is_out : Is2 (m := 8192) (n := 1024) (val_main_v114 (F := Ideal) x0 x1 x2 x3) fun i j => (blk Q K V S O (i / 128)).out (i % 128) j := by
  have h111 : Is (S := S4x16x4x64x4x128) (val_main_v111 (F := Ideal) x0 x1 x2 x3)
      fun v => ∑ s ∈ range 256, win V (16 * v 0 + v 1) s (64 * v 2 + v 3) * (blk Q K V S O (16 * v 0 + v 1)).p (4 * v 2 + v 4) (v 5) s :=
    Is.contract (is_winV hv) (is_p (V := V) (O := O) hq hk hs) (val_main_v111_apply x0 x1 x2 x3) fun i k => rfl
  have h112 : Is (S := S4x16x128x4x4x64) (val_main_v112 (F := Ideal) x0 x1 x2 x3)
      fun v => ∑ s ∈ range 256, win V (16 * v 0 + v 1) s (64 * v 3 + v 5) * (blk Q K V S O (16 * v 0 + v 1)).p (4 * v 3 + v 4) (v 2) s :=
    h111.reads idx_main_v112 (val_main_v112_apply (F := Ideal) x0 x1 x2 x3) fun i => rfl
  refine Is.trunc (φ := .f32) (ψ := .bf16) (Is.close6 (h112.to fun v hb => ?_))
  have h2 : v 2 < 128 := hb 2
  have h3 : v 3 < 4 := hb 3
  have h4 : v 4 < 4 := hb 4
  have h5 : v 5 < 64 := hb 5
  show _ = ∑ s ∈ range 256, (blk Q K V S O ((2048 * v 0 + 128 * v 1 + v 2) / 128)).p ((256 * v 3 + 64 * v 4 + v 5) / 64) ((2048 * v 0 + 128 * v 1 + v 2) % 128) s
    * win V ((2048 * v 0 + 128 * v 1 + v 2) / 128) s (64 * ((256 * v 3 + 64 * v 4 + v 5) / 64 / 4) + (256 * v 3 + 64 * v 4 + v 5) % 64)
  rw [show (2048 * v 0 + 128 * v 1 + v 2) / 128 = 16 * v 0 + v 1 by omega, show (2048 * v 0 + 128 * v 1 + v 2) % 128 = v 2 by omega,
    show (256 * v 3 + 64 * v 4 + v 5) / 64 = 4 * v 3 + v 4 by omega, show (256 * v 3 + 64 * v 4 + v 5) % 64 = v 5 by omega, show (4 * v 3 + v 4) / 4 = v 3 by omega]
  exact Finset.sum_congr rfl fun s _ => mul_comm _ _

end Cert.Full

end
-- ==== Proof.RLay.lean ====
/-
  The reference's gradients: how arrays are laid out, padded and put together, over any contents, and its two products
  that sum over two axes.
-/
module

public import proofs.«01_k».proof.Proof.RIn

@[expose] public section

set_option maxRecDepth 16384

noncomputable section

namespace Cert.Full

open Cert.Reference2Ideal Cert.Reference2Ideal.Gen Cert.Reference2Ideal.Read Cert.Reals Cert.Math Idealize.ShloMosaic Idealize.ShloMosaic.ValueIdx
open scoped BigOperators
open Finset (range)

/-! ## Rows of scores -/

section
variable {d d' o hi w : Fin 6 → ℕ} {f : (Fin 6 → ℕ) → ℝ}

/-- A zero after each row. -/
theorem Is.zero_last {X : (⟨6, d⟩ : Shape).Idx → EReal} {z : S_.Idx → EReal} (h : Is X f) (hz : ∀ i, z i = ((0 : ℝ) : EReal))
    (e : ∀ a, a ≠ 5 → d' a ≤ d a) (ho : ∀ a, o a = 0) (hw : ∀ a, w a = 0) {hp : (⟨6, d⟩ : Shape).Pads o hi w ⟨6, d'⟩} {hu : 0 < S_.numel} :
    Is (S := ⟨6, d'⟩) (pad ⟨6, d'⟩ o hi w X z hp hu) fun v => if v 5 < d 5 then f v else 0 := fun i => by
  show _ = ((if (i 5).val < d 5 then f (fun a => (i a).val) else 0 : ℝ) : EReal)
  by_cases h5 : (i 5).val < d 5
  · have lt : ∀ a, (i a).val < d a := fun a => by
      by_cases ha : a = 5
      · rw [ha]; exact h5
      · exact lt_of_lt_of_le (i a).isLt (e a ha)
    rw [if_pos h5, pad_apply_of_inside o hi w X z hp hu i (fun a => ⟨(i a).val, lt a⟩) (fun a => by
      rw [ho, hw]
      show (i a).val = 0 + (i a).val * 1
      omega), h]
  · rw [if_neg h5, pad_apply_of_not_inside o hi w X z hp hu i 5 (fun hc => h5 (by
      have h3 := hc.2.2
      rw [ho, hw] at h3
      have h4 : ((i 5).val - 0) / 1 < d 5 := h3
      omega))]
    exact hz _

/-- Each row without its last. -/
theorem Is.drop_last {X : (⟨6, d⟩ : Shape).Idx → EReal} (h : Is X f) (e : ∀ a, d' a ≤ d a) (ho : ∀ a, o a = 0) {hs : (⟨6, d⟩ : Shape).Slices o ⟨6, d'⟩} :
    Is (S := ⟨6, d'⟩) (extractStridedSlice ⟨6, d'⟩ o X hs) f := fun i => by
  rw [extractStridedSlice_apply o X hs i (fun a => ⟨(i a).val, lt_of_lt_of_le (i a).isLt (e a)⟩) (fun a => by
    rw [ho]
    show (i a).val = 0 + (i a).val
    omega), h]

end

/-- A row's sum as a row of one. -/
theorem Is.unit_last {X : S4x16x4x4x128.Idx → EReal} {f : (Fin 5 → ℕ) → ℝ} (h : Is (S := S4x16x4x4x128) X f) :
    Is (S := S4x16x4x4x128x1) (shapeCast S4x16x4x4x128x1 X shapeCasts_S4x16x4x4x128_S4x16x4x4x128x1) fun v => f ![v 0, v 1, v 2, v 3, v 4] := fun i => by
  rw [shapeCast_apply X _ i (fun a => match a with | ⟨0, _⟩ => ⟨(i 0).val, (i 0).isLt⟩ | ⟨1, _⟩ => ⟨(i 1).val, (i 1).isLt⟩ | ⟨2, _⟩ => ⟨(i 2).val, (i 2).isLt⟩ | ⟨3, _⟩ => ⟨(i 3).val, (i 3).isLt⟩ | ⟨4, _⟩ => ⟨(i 4).val, (i 4).isLt⟩) (by
    have h5 : (i 5).val < 1 := (i 5).isLt
    rewrite [Shape.rowMajor_val_five, rowMajor_val6 i 32768 2048 512 128 1 rfl rfl rfl rfl rfl]
    show ((((i 0).val * 16 + (i 1).val) * 4 + (i 2).val) * 4 + (i 3).val) * 128 + (i 4).val = _
    omega), h]
  exact congrArg (fun v => ((f v : ℝ) : EReal)) (funext fun a => match a with | ⟨0, _⟩ => rfl | ⟨1, _⟩ => rfl | ⟨2, _⟩ => rfl | ⟨3, _⟩ => rfl | ⟨4, _⟩ => rfl)

/-! ## Products that sum over the heads of a key head and the rows of a block -/

abbrev headsRows := dot_S4x16x4x64x4x128_S4x16x4x4x128x256_S4x16x4x64x256_45_34_3_5_012_012

theorem Is.heads_rows {X : S4x16x4x64x4x128.Idx → EReal} {Y : S4x16x4x4x128x256.Idx → EReal} {f g : (Fin 6 → ℕ) → ℝ} (hX : Is (S := S4x16x4x64x4x128) X f) (hY : Is (S := S4x16x4x4x128x256) Y g) :
    Is (S := S4x16x4x64x256) (Host.dotGeneral (F := Ideal) (φ₁ := .f32) (φ₂ := .f32) dot_S4x16x4x64x4x128_S4x16x4x4x128x256_S4x16x4x64x256_45_34_3_5_012_012 none X Y)
      fun v => ∑ h ∈ range 4, ∑ r ∈ range 128, f ![v 0, v 1, v 2, v 3, h, r] * g ![v 0, v 1, v 2, h, r, v 4] := by
  have l0 : ∀ (i : S4x16x4x64x256.Idx) (q : headsRows.contr.Idx), (headsRows.lhsIdx i q 0).val = (i 0).val := fun i q => by
    unfold DotDims.lhsIdx; rw [dif_pos (show (0 : Fin S4x16x4x64x4x128.rank) ∈ headsRows.lhsBatch by decide)]; rfl
  have l1 : ∀ (i : S4x16x4x64x256.Idx) (q : headsRows.contr.Idx), (headsRows.lhsIdx i q 1).val = (i 1).val := fun i q => by
    unfold DotDims.lhsIdx; rw [dif_pos (show (1 : Fin S4x16x4x64x4x128.rank) ∈ headsRows.lhsBatch by decide)]; rfl
  have l2 : ∀ (i : S4x16x4x64x256.Idx) (q : headsRows.contr.Idx), (headsRows.lhsIdx i q 2).val = (i 2).val := fun i q => by
    unfold DotDims.lhsIdx; rw [dif_pos (show (2 : Fin S4x16x4x64x4x128.rank) ∈ headsRows.lhsBatch by decide)]; rfl
  have l3 : ∀ (i : S4x16x4x64x256.Idx) (q : headsRows.contr.Idx), (headsRows.lhsIdx i q 3).val = (i 3).val := fun i q => by
    unfold DotDims.lhsIdx; rw [dif_neg (show ¬(3 : Fin S4x16x4x64x4x128.rank) ∈ headsRows.lhsBatch by decide), dif_pos (show (3 : Fin S4x16x4x64x4x128.rank) ∈ headsRows.lhsNonContracting by decide)]; rfl
  have l4 : ∀ (i : S4x16x4x64x256.Idx) (q : headsRows.contr.Idx), (headsRows.lhsIdx i q 4).val = (q ⟨0, by decide⟩).val := fun i q => by
    unfold DotDims.lhsIdx; rw [dif_neg (show ¬(4 : Fin S4x16x4x64x4x128.rank) ∈ headsRows.lhsBatch by decide), dif_neg (show ¬(4 : Fin S4x16x4x64x4x128.rank) ∈ headsRows.lhsNonContracting by decide)]; rfl
  have l5 : ∀ (i : S4x16x4x64x256.Idx) (q : headsRows.contr.Idx), (headsRows.lhsIdx i q 5).val = (q ⟨1, by decide⟩).val := fun i q => by
    unfold DotDims.lhsIdx; rw [dif_neg (show ¬(5 : Fin S4x16x4x64x4x128.rank) ∈ headsRows.lhsBatch by decide), dif_neg (show ¬(5 : Fin S4x16x4x64x4x128.rank) ∈ headsRows.lhsNonContracting by decide)]; rfl
  have r0 : ∀ (i : S4x16x4x64x256.Idx) (q : headsRows.contr.Idx), (headsRows.rhsIdx i q 0).val = (i 0).val := fun i q => by
    unfold DotDims.rhsIdx; rw [dif_pos (show (0 : Fin S4x16x4x4x128x256.rank) ∈ headsRows.rhsBatch by decide)]; rfl
  have r1 : ∀ (i : S4x16x4x64x256.Idx) (q : headsRows.contr.Idx), (headsRows.rhsIdx i q 1).val = (i 1).val := fun i q => by
    unfold DotDims.rhsIdx; rw [dif_pos (show (1 : Fin S4x16x4x4x128x256.rank) ∈ headsRows.rhsBatch by decide)]; rfl
  have r2 : ∀ (i : S4x16x4x64x256.Idx) (q : headsRows.contr.Idx), (headsRows.rhsIdx i q 2).val = (i 2).val := fun i q => by
    unfold DotDims.rhsIdx; rw [dif_pos (show (2 : Fin S4x16x4x4x128x256.rank) ∈ headsRows.rhsBatch by decide)]; rfl
  have r3 : ∀ (i : S4x16x4x64x256.Idx) (q : headsRows.contr.Idx), (headsRows.rhsIdx i q 3).val = (q ⟨0, by decide⟩).val := fun i q => by
    unfold DotDims.rhsIdx; rw [dif_neg (show ¬(3 : Fin S4x16x4x4x128x256.rank) ∈ headsRows.rhsBatch by decide), dif_neg (show ¬(3 : Fin S4x16x4x4x128x256.rank) ∈ headsRows.rhsNonContracting by decide)]; rfl
  have r4 : ∀ (i : S4x16x4x64x256.Idx) (q : headsRows.contr.Idx), (headsRows.rhsIdx i q 4).val = (q ⟨1, by decide⟩).val := fun i q => by
    unfold DotDims.rhsIdx; rw [dif_neg (show ¬(4 : Fin S4x16x4x4x128x256.rank) ∈ headsRows.rhsBatch by decide), dif_neg (show ¬(4 : Fin S4x16x4x4x128x256.rank) ∈ headsRows.rhsNonContracting by decide)]; rfl
  have r5 : ∀ (i : S4x16x4x64x256.Idx) (q : headsRows.contr.Idx), (headsRows.rhsIdx i q 5).val = (i 4).val := fun i q => by
    unfold DotDims.rhsIdx; rw [dif_neg (show ¬(5 : Fin S4x16x4x4x128x256.rank) ∈ headsRows.rhsBatch by decide), dif_pos (show (5 : Fin S4x16x4x4x128x256.rank) ∈ headsRows.rhsNonContracting by decide)]; rfl
  refine Is.contract2 (n := 4) (p := 128) hX hY
    (l := fun (i : S4x16x4x64x256.Idx) h r a => match a with | ⟨0, _⟩ => ⟨(i 0).val, (i 0).isLt⟩ | ⟨1, _⟩ => ⟨(i 1).val, (i 1).isLt⟩ | ⟨2, _⟩ => ⟨(i 2).val, (i 2).isLt⟩ | ⟨3, _⟩ => ⟨(i 3).val, (i 3).isLt⟩ | ⟨4, _⟩ => h | ⟨5, _⟩ => r)
    (r := fun (i : S4x16x4x64x256.Idx) h r a => match a with | ⟨0, _⟩ => ⟨(i 0).val, (i 0).isLt⟩ | ⟨1, _⟩ => ⟨(i 1).val, (i 1).isLt⟩ | ⟨2, _⟩ => ⟨(i 2).val, (i 2).isLt⟩ | ⟨3, _⟩ => h | ⟨4, _⟩ => r | ⟨5, _⟩ => ⟨(i 4).val, (i 4).isLt⟩)
    (fun i => ?_) fun i h r => congrArg₂ (f · * g ·)
      (funext fun a => match a with | ⟨0, _⟩ => rfl | ⟨1, _⟩ => rfl | ⟨2, _⟩ => rfl | ⟨3, _⟩ => rfl | ⟨4, _⟩ => rfl | ⟨5, _⟩ => rfl)
      (funext fun a => match a with | ⟨0, _⟩ => rfl | ⟨1, _⟩ => rfl | ⟨2, _⟩ => rfl | ⟨3, _⟩ => rfl | ⟨4, _⟩ => rfl | ⟨5, _⟩ => rfl)
  simp only [Host.dotGeneral]
  rw [Ideal.dotGeneral_apply, sum_contr2 headsRows 4 128 rfl rfl rfl]
  refine Finset.sum_congr rfl fun h _ => Finset.sum_congr rfl fun r _ => ?_
  have e0 := contrEquiv2_symm_val0 headsRows 4 128 rfl rfl rfl (h, r)
  have e1 := contrEquiv2_symm_val1 headsRows 4 128 rfl rfl rfl (h, r)
  exact congrArg₂ (X · * Y ·)
    (funext fun a => Fin.ext (match a with | ⟨0, _⟩ => l0 _ _ | ⟨1, _⟩ => l1 _ _ | ⟨2, _⟩ => l2 _ _ | ⟨3, _⟩ => l3 _ _ | ⟨4, _⟩ => (l4 _ _).trans e0 | ⟨5, _⟩ => (l5 _ _).trans e1))
    (funext fun a => Fin.ext (match a with | ⟨0, _⟩ => r0 _ _ | ⟨1, _⟩ => r1 _ _ | ⟨2, _⟩ => r2 _ _ | ⟨3, _⟩ => (r3 _ _).trans e0 | ⟨4, _⟩ => (r4 _ _).trans e1 | ⟨5, _⟩ => r5 _ _))

abbrev rowsHeads := dot_S4x16x4x256x128x4_S4x16x128x4x4x64_S4x16x4x256x64_45_24_3_5_012_013

theorem Is.rows_heads {X : S4x16x4x256x128x4.Idx → EReal} {Y : S4x16x128x4x4x64.Idx → EReal} {f g : (Fin 6 → ℕ) → ℝ} (hX : Is (S := S4x16x4x256x128x4) X f) (hY : Is (S := S4x16x128x4x4x64) Y g) :
    Is (S := S4x16x4x256x64) (Host.dotGeneral (F := Ideal) (φ₁ := .f32) (φ₂ := .f32) dot_S4x16x4x256x128x4_S4x16x128x4x4x64_S4x16x4x256x64_45_24_3_5_012_013 none X Y)
      fun v => ∑ r ∈ range 128, ∑ h ∈ range 4, f ![v 0, v 1, v 2, v 3, r, h] * g ![v 0, v 1, r, v 2, h, v 4] := by
  have l0 : ∀ (i : S4x16x4x256x64.Idx) (q : rowsHeads.contr.Idx), (rowsHeads.lhsIdx i q 0).val = (i 0).val := fun i q => by
    unfold DotDims.lhsIdx; rw [dif_pos (show (0 : Fin S4x16x4x256x128x4.rank) ∈ rowsHeads.lhsBatch by decide)]; rfl
  have l1 : ∀ (i : S4x16x4x256x64.Idx) (q : rowsHeads.contr.Idx), (rowsHeads.lhsIdx i q 1).val = (i 1).val := fun i q => by
    unfold DotDims.lhsIdx; rw [dif_pos (show (1 : Fin S4x16x4x256x128x4.rank) ∈ rowsHeads.lhsBatch by decide)]; rfl
  have l2 : ∀ (i : S4x16x4x256x64.Idx) (q : rowsHeads.contr.Idx), (rowsHeads.lhsIdx i q 2).val = (i 2).val := fun i q => by
    unfold DotDims.lhsIdx; rw [dif_pos (show (2 : Fin S4x16x4x256x128x4.rank) ∈ rowsHeads.lhsBatch by decide)]; rfl
  have l3 : ∀ (i : S4x16x4x256x64.Idx) (q : rowsHeads.contr.Idx), (rowsHeads.lhsIdx i q 3).val = (i 3).val := fun i q => by
    unfold DotDims.lhsIdx; rw [dif_neg (show ¬(3 : Fin S4x16x4x256x128x4.rank) ∈ rowsHeads.lhsBatch by decide), dif_pos (show (3 : Fin S4x16x4x256x128x4.rank) ∈ rowsHeads.lhsNonContracting by decide)]; rfl
  have l4 : ∀ (i : S4x16x4x256x64.Idx) (q : rowsHeads.contr.Idx), (rowsHeads.lhsIdx i q 4).val = (q ⟨0, by decide⟩).val := fun i q => by
    unfold DotDims.lhsIdx; rw [dif_neg (show ¬(4 : Fin S4x16x4x256x128x4.rank) ∈ rowsHeads.lhsBatch by decide), dif_neg (show ¬(4 : Fin S4x16x4x256x128x4.rank) ∈ rowsHeads.lhsNonContracting by decide)]; rfl
  have l5 : ∀ (i : S4x16x4x256x64.Idx) (q : rowsHeads.contr.Idx), (rowsHeads.lhsIdx i q 5).val = (q ⟨1, by decide⟩).val := fun i q => by
    unfold DotDims.lhsIdx; rw [dif_neg (show ¬(5 : Fin S4x16x4x256x128x4.rank) ∈ rowsHeads.lhsBatch by decide), dif_neg (show ¬(5 : Fin S4x16x4x256x128x4.rank) ∈ rowsHeads.lhsNonContracting by decide)]; rfl
  have r0 : ∀ (i : S4x16x4x256x64.Idx) (q : rowsHeads.contr.Idx), (rowsHeads.rhsIdx i q 0).val = (i 0).val := fun i q => by
    unfold DotDims.rhsIdx; rw [dif_pos (show (0 : Fin S4x16x128x4x4x64.rank) ∈ rowsHeads.rhsBatch by decide)]; rfl
  have r1 : ∀ (i : S4x16x4x256x64.Idx) (q : rowsHeads.contr.Idx), (rowsHeads.rhsIdx i q 1).val = (i 1).val := fun i q => by
    unfold DotDims.rhsIdx; rw [dif_pos (show (1 : Fin S4x16x128x4x4x64.rank) ∈ rowsHeads.rhsBatch by decide)]; rfl
  have r2 : ∀ (i : S4x16x4x256x64.Idx) (q : rowsHeads.contr.Idx), (rowsHeads.rhsIdx i q 2).val = (q ⟨0, by decide⟩).val := fun i q => by
    unfold DotDims.rhsIdx; rw [dif_neg (show ¬(2 : Fin S4x16x128x4x4x64.rank) ∈ rowsHeads.rhsBatch by decide), dif_neg (show ¬(2 : Fin S4x16x128x4x4x64.rank) ∈ rowsHeads.rhsNonContracting by decide)]; rfl
  have r3 : ∀ (i : S4x16x4x256x64.Idx) (q : rowsHeads.contr.Idx), (rowsHeads.rhsIdx i q 3).val = (i 2).val := fun i q => by
    unfold DotDims.rhsIdx; rw [dif_pos (show (3 : Fin S4x16x128x4x4x64.rank) ∈ rowsHeads.rhsBatch by decide)]; rfl
  have r4 : ∀ (i : S4x16x4x256x64.Idx) (q : rowsHeads.contr.Idx), (rowsHeads.rhsIdx i q 4).val = (q ⟨1, by decide⟩).val := fun i q => by
    unfold DotDims.rhsIdx; rw [dif_neg (show ¬(4 : Fin S4x16x128x4x4x64.rank) ∈ rowsHeads.rhsBatch by decide), dif_neg (show ¬(4 : Fin S4x16x128x4x4x64.rank) ∈ rowsHeads.rhsNonContracting by decide)]; rfl
  have r5 : ∀ (i : S4x16x4x256x64.Idx) (q : rowsHeads.contr.Idx), (rowsHeads.rhsIdx i q 5).val = (i 4).val := fun i q => by
    unfold DotDims.rhsIdx; rw [dif_neg (show ¬(5 : Fin S4x16x128x4x4x64.rank) ∈ rowsHeads.rhsBatch by decide), dif_pos (show (5 : Fin S4x16x128x4x4x64.rank) ∈ rowsHeads.rhsNonContracting by decide)]; rfl
  refine Is.contract2 (n := 128) (p := 4) hX hY
    (l := fun (i : S4x16x4x256x64.Idx) r h a => match a with | ⟨0, _⟩ => ⟨(i 0).val, (i 0).isLt⟩ | ⟨1, _⟩ => ⟨(i 1).val, (i 1).isLt⟩ | ⟨2, _⟩ => ⟨(i 2).val, (i 2).isLt⟩ | ⟨3, _⟩ => ⟨(i 3).val, (i 3).isLt⟩ | ⟨4, _⟩ => r | ⟨5, _⟩ => h)
    (r := fun (i : S4x16x4x256x64.Idx) r h a => match a with | ⟨0, _⟩ => ⟨(i 0).val, (i 0).isLt⟩ | ⟨1, _⟩ => ⟨(i 1).val, (i 1).isLt⟩ | ⟨2, _⟩ => r | ⟨3, _⟩ => ⟨(i 2).val, (i 2).isLt⟩ | ⟨4, _⟩ => h | ⟨5, _⟩ => ⟨(i 4).val, (i 4).isLt⟩)
    (fun i => ?_) fun i r h => congrArg₂ (f · * g ·)
      (funext fun a => match a with | ⟨0, _⟩ => rfl | ⟨1, _⟩ => rfl | ⟨2, _⟩ => rfl | ⟨3, _⟩ => rfl | ⟨4, _⟩ => rfl | ⟨5, _⟩ => rfl)
      (funext fun a => match a with | ⟨0, _⟩ => rfl | ⟨1, _⟩ => rfl | ⟨2, _⟩ => rfl | ⟨3, _⟩ => rfl | ⟨4, _⟩ => rfl | ⟨5, _⟩ => rfl)
  simp only [Host.dotGeneral]
  rw [Ideal.dotGeneral_apply, sum_contr2 rowsHeads 128 4 rfl rfl rfl]
  refine Finset.sum_congr rfl fun r _ => Finset.sum_congr rfl fun h _ => ?_
  have e0 := contrEquiv2_symm_val0 rowsHeads 128 4 rfl rfl rfl (r, h)
  have e1 := contrEquiv2_symm_val1 rowsHeads 128 4 rfl rfl rfl (r, h)
  exact congrArg₂ (X · * Y ·)
    (funext fun a => Fin.ext (match a with | ⟨0, _⟩ => l0 _ _ | ⟨1, _⟩ => l1 _ _ | ⟨2, _⟩ => l2 _ _ | ⟨3, _⟩ => l3 _ _ | ⟨4, _⟩ => (l4 _ _).trans e0 | ⟨5, _⟩ => (l5 _ _).trans e1))
    (funext fun a => Fin.ext (match a with | ⟨0, _⟩ => r0 _ _ | ⟨1, _⟩ => r1 _ _ | ⟨2, _⟩ => (r2 _ _).trans e0 | ⟨3, _⟩ => r3 _ _ | ⟨4, _⟩ => (r4 _ _).trans e1 | ⟨5, _⟩ => r5 _ _))

/-! ## The windows' gradients put together -/

section
variable {X : S4x16x128x4x64.Idx → EReal} {z : S_.Idx → EReal} {f : (Fin 5 → ℕ) → ℝ}

/-- A page of zeros before, or after, each sequence's pages. -/
theorem Is.page_first (h : Is (S := S4x16x128x4x64) X f) (hz : ∀ i, z i = ((0 : ℝ) : EReal)) :
    Is (S := S4x17x128x4x64) (pad S4x17x128x4x64 ![0, 1, 0, 0, 0] ![0, 0, 0, 0, 0] ![0, 0, 0, 0, 0] X z pads_S4x16x128x4x64_S4x17x128x4x64_000_100_000_000_000 h_S_)
      fun v => if v 1 = 0 then 0 else f ![v 0, v 1 - 1, v 2, v 3, v 4] := fun i => by
  have h17 : (i 1).val < 17 := (i 1).isLt
  show _ = ((if (i 1).val = 0 then 0 else f ![(i 0).val, (i 1).val - 1, (i 2).val, (i 3).val, (i 4).val] : ℝ) : EReal)
  by_cases h1 : (i 1).val = 0
  · rw [if_pos h1, pad_apply_of_not_inside ![0, 1, 0, 0, 0] ![0, 0, 0, 0, 0] ![0, 0, 0, 0, 0] X z _ _ i 1 (fun hc => absurd (show 1 ≤ (i 1).val from hc.1) (by omega))]
    exact hz _
  · rw [if_neg h1, pad_apply_of_inside ![0, 1, 0, 0, 0] ![0, 0, 0, 0, 0] ![0, 0, 0, 0, 0] X z _ _ i
      (fun a => match a with | ⟨0, _⟩ => ⟨(i 0).val, (i 0).isLt⟩ | ⟨1, _⟩ => ⟨(i 1).val - 1, show _ < 16 by omega⟩ | ⟨2, _⟩ => ⟨(i 2).val, (i 2).isLt⟩ | ⟨3, _⟩ => ⟨(i 3).val, (i 3).isLt⟩ | ⟨4, _⟩ => ⟨(i 4).val, (i 4).isLt⟩)
      (fun a => match a with
        | ⟨0, _⟩ => show (i 0).val = 0 + (i 0).val * 1 by omega
        | ⟨1, _⟩ => show (i 1).val = 1 + ((i 1).val - 1) * 1 by omega
        | ⟨2, _⟩ => show (i 2).val = 0 + (i 2).val * 1 by omega
        | ⟨3, _⟩ => show (i 3).val = 0 + (i 3).val * 1 by omega
        | ⟨4, _⟩ => show (i 4).val = 0 + (i 4).val * 1 by omega), h]
    exact congrArg (fun v => ((f v : ℝ) : EReal)) (funext fun a => match a with | ⟨0, _⟩ => rfl | ⟨1, _⟩ => rfl | ⟨2, _⟩ => rfl | ⟨3, _⟩ => rfl | ⟨4, _⟩ => rfl)

theorem Is.page_last (h : Is (S := S4x16x128x4x64) X f) (hz : ∀ i, z i = ((0 : ℝ) : EReal)) :
    Is (S := S4x17x128x4x64) (pad S4x17x128x4x64 ![0, 0, 0, 0, 0] ![0, 1, 0, 0, 0] ![0, 0, 0, 0, 0] X z pads_S4x16x128x4x64_S4x17x128x4x64_000_010_000_000_000 h_S_)
      fun v => if v 1 < 16 then f ![v 0, v 1, v 2, v 3, v 4] else 0 := fun i => by
  show _ = ((if (i 1).val < 16 then f ![(i 0).val, (i 1).val, (i 2).val, (i 3).val, (i 4).val] else 0 : ℝ) : EReal)
  by_cases h1 : (i 1).val < 16
  · rw [if_pos h1, pad_apply_of_inside ![0, 0, 0, 0, 0] ![0, 1, 0, 0, 0] ![0, 0, 0, 0, 0] X z _ _ i
      (fun a => match a with | ⟨0, _⟩ => ⟨(i 0).val, (i 0).isLt⟩ | ⟨1, _⟩ => ⟨(i 1).val, h1⟩ | ⟨2, _⟩ => ⟨(i 2).val, (i 2).isLt⟩ | ⟨3, _⟩ => ⟨(i 3).val, (i 3).isLt⟩ | ⟨4, _⟩ => ⟨(i 4).val, (i 4).isLt⟩)
      (fun a => match a with
        | ⟨0, _⟩ => show (i 0).val = 0 + (i 0).val * 1 by omega
        | ⟨1, _⟩ => show (i 1).val = 0 + (i 1).val * 1 by omega
        | ⟨2, _⟩ => show (i 2).val = 0 + (i 2).val * 1 by omega
        | ⟨3, _⟩ => show (i 3).val = 0 + (i 3).val * 1 by omega
        | ⟨4, _⟩ => show (i 4).val = 0 + (i 4).val * 1 by omega), h]
    exact congrArg (fun v => ((f v : ℝ) : EReal)) (funext fun a => match a with | ⟨0, _⟩ => rfl | ⟨1, _⟩ => rfl | ⟨2, _⟩ => rfl | ⟨3, _⟩ => rfl | ⟨4, _⟩ => rfl)
  · rw [if_neg h1, pad_apply_of_not_inside ![0, 0, 0, 0, 0] ![0, 1, 0, 0, 0] ![0, 0, 0, 0, 0] X z _ _ i 1 (fun hc => h1 (by
      have h3 : ((i 1).val - 0) / 1 < 16 := hc.2.2
      omega))]
    exact hz _

end

/-- Half of each window: `o` is 0 for the keys of the block before, 128 for the block's own. -/
theorem Is.half {X : S4x16x256x4x64.Idx → EReal} {f : (Fin 5 → ℕ) → ℝ} (h : Is (S := S4x16x256x4x64) X f) (o : ℕ) (ho : o ≤ 128)
    {hs : S4x16x256x4x64.Slices ![0, 0, o, 0, 0] S4x16x128x4x64} :
    Is (S := S4x16x128x4x64) (extractStridedSlice S4x16x128x4x64 ![0, 0, o, 0, 0] X hs) fun v => f ![v 0, v 1, o + v 2, v 3, v 4] := fun i => by
  have h2 : (i 2).val < 128 := (i 2).isLt
  rw [extractStridedSlice_apply _ X hs i
    (fun a => match a with | ⟨0, _⟩ => ⟨(i 0).val, (i 0).isLt⟩ | ⟨1, _⟩ => ⟨(i 1).val, (i 1).isLt⟩ | ⟨2, _⟩ => ⟨o + (i 2).val, show _ < 256 by omega⟩ | ⟨3, _⟩ => ⟨(i 3).val, (i 3).isLt⟩ | ⟨4, _⟩ => ⟨(i 4).val, (i 4).isLt⟩)
    (fun a => match a with
      | ⟨0, _⟩ => show (i 0).val = 0 + (i 0).val by omega
      | ⟨1, _⟩ => show (i 1).val = 0 + (i 1).val by omega
      | ⟨2, _⟩ => show o + (i 2).val = o + (i 2).val from rfl
      | ⟨3, _⟩ => show (i 3).val = 0 + (i 3).val by omega
      | ⟨4, _⟩ => show (i 4).val = 0 + (i 4).val by omega), h]
  exact congrArg (fun v => ((f v : ℝ) : EReal)) (funext fun a => match a with | ⟨0, _⟩ => rfl | ⟨1, _⟩ => rfl | ⟨2, _⟩ => rfl | ⟨3, _⟩ => rfl | ⟨4, _⟩ => rfl)

/-- Pages of 128 rows end to end, the first left out. -/
theorem Is.unpaged {X : S4x17x128x4x64.Idx → EReal} {f : (Fin 5 → ℕ) → ℝ} (h : Is (S := S4x17x128x4x64) X f) :
    Is2 (m := 8192) (n := 256) (shapeCast S8192x256 (extractStridedSlice S4x2048x4x64 ![0, 128, 0, 0] (shapeCast S4x2176x4x64 X shapeCasts_S4x17x128x4x64_S4x2176x4x64)
      slices_S4x2176x4x64_S4x2048x4x64_0_128_0_0) shapeCasts_S4x2048x4x64_S8192x256) fun i c => f ![i / 2048, i % 2048 / 128 + 1, i % 128, c / 64, c % 64] := by
  have ha : Is (S := S4x2176x4x64) (shapeCast S4x2176x4x64 X shapeCasts_S4x17x128x4x64_S4x2176x4x64) fun v => f ![v 0, v 1 / 128, v 1 % 128, v 2, v 3] := fun i => by
    have h1 : (i 1).val < 2176 := (i 1).isLt
    rw [shapeCast_apply X _ i
      (fun a => match a with | ⟨0, _⟩ => ⟨(i 0).val, (i 0).isLt⟩ | ⟨1, _⟩ => ⟨(i 1).val / 128, show _ < 17 by omega⟩ | ⟨2, _⟩ => ⟨(i 1).val % 128, show _ < 128 by omega⟩ | ⟨3, _⟩ => ⟨(i 2).val, (i 2).isLt⟩ | ⟨4, _⟩ => ⟨(i 3).val, (i 3).isLt⟩) (by
        rewrite [Shape.rowMajor_val_four, Shape.rowMajor_val_five]
        show ((((i 0).val * 17 + (i 1).val / 128) * 128 + (i 1).val % 128) * 4 + (i 2).val) * 64 + (i 3).val = (((i 0).val * 2176 + (i 1).val) * 4 + (i 2).val) * 64 + (i 3).val
        omega), h]
    exact congrArg (fun v => ((f v : ℝ) : EReal)) (funext fun a => match a with | ⟨0, _⟩ => rfl | ⟨1, _⟩ => rfl | ⟨2, _⟩ => rfl | ⟨3, _⟩ => rfl | ⟨4, _⟩ => rfl)
  have hb : Is (S := S4x2048x4x64) (extractStridedSlice S4x2048x4x64 ![0, 128, 0, 0] (shapeCast S4x2176x4x64 X shapeCasts_S4x17x128x4x64_S4x2176x4x64)
      slices_S4x2176x4x64_S4x2048x4x64_0_128_0_0) fun v => f ![v 0, (128 + v 1) / 128, (128 + v 1) % 128, v 2, v 3] := fun i => by
    have h1 : (i 1).val < 2048 := (i 1).isLt
    rw [extractStridedSlice_apply _ _ slices_S4x2176x4x64_S4x2048x4x64_0_128_0_0 i
      (fun a => match a with | ⟨0, _⟩ => ⟨(i 0).val, (i 0).isLt⟩ | ⟨1, _⟩ => ⟨128 + (i 1).val, show _ < 2176 by omega⟩ | ⟨2, _⟩ => ⟨(i 2).val, (i 2).isLt⟩ | ⟨3, _⟩ => ⟨(i 3).val, (i 3).isLt⟩)
      (fun a => match a with
        | ⟨0, _⟩ => show (i 0).val = 0 + (i 0).val by omega
        | ⟨1, _⟩ => show 128 + (i 1).val = 128 + (i 1).val from rfl
        | ⟨2, _⟩ => show (i 2).val = 0 + (i 2).val by omega
        | ⟨3, _⟩ => show (i 3).val = 0 + (i 3).val by omega), ha]
  intro i
  have h0 : (i 0).val < 8192 := (i 0).isLt
  have h1 : (i 1).val < 256 := (i 1).isLt
  rw [shapeCast_apply _ shapeCasts_S4x2048x4x64_S8192x256 i
    (fun a => match a with | ⟨0, _⟩ => ⟨(i 0).val / 2048, show _ < 4 by omega⟩ | ⟨1, _⟩ => ⟨(i 0).val % 2048, show _ < 2048 by omega⟩ | ⟨2, _⟩ => ⟨(i 1).val / 64, show _ < 4 by omega⟩ | ⟨3, _⟩ => ⟨(i 1).val % 64, show _ < 64 by omega⟩) (by
      rewrite [Shape.rowMajor_val_four, Shape.rowMajor_val_two]
      show (((i 0).val / 2048 * 2048 + (i 0).val % 2048) * 4 + (i 1).val / 64) * 64 + (i 1).val % 64 = (i 0).val * 256 + (i 1).val
      omega), hb]
  show ((f ![(i 0).val / 2048, (128 + (i 0).val % 2048) / 128, (128 + (i 0).val % 2048) % 128, (i 1).val / 64, (i 1).val % 64] : ℝ) : EReal)
    = ((f ![(i 0).val / 2048, (i 0).val % 2048 / 128 + 1, (i 0).val % 128, (i 1).val / 64, (i 1).val % 64] : ℝ) : EReal)
  rw [show (128 + (i 0).val % 2048) / 128 = (i 0).val % 2048 / 128 + 1 by omega, show (128 + (i 0).val % 2048) % 128 = (i 0).val % 128 by omega]

/-- The windows' gradients put together: to a row's own block the block after it adds, unless the sequence ends there. -/
theorem Is.joined {X : S4x16x256x4x64.Idx → EReal} {z z' : S_.Idx → EReal} {F : ℕ → ℕ → ℕ → ℝ} (h : Is (S := S4x16x256x4x64) X fun v => F (16 * v 0 + v 1) (v 2) (64 * v 3 + v 4))
    (hz : ∀ i, z i = ((0 : ℝ) : EReal)) (hz' : ∀ i, z' i = ((0 : ℝ) : EReal)) :
    Is2 (m := 8192) (n := 256) (shapeCast S8192x256 (extractStridedSlice S4x2048x4x64 ![0, 128, 0, 0] (shapeCast S4x2176x4x64 (addf (F := Ideal) (φ := .f32)
      (pad S4x17x128x4x64 ![0, 1, 0, 0, 0] ![0, 0, 0, 0, 0] ![0, 0, 0, 0, 0] (extractStridedSlice S4x16x128x4x64 ![0, 0, 128, 0, 0] X slices_S4x16x256x4x64_S4x16x128x4x64_0_0_128_0_0) z pads_S4x16x128x4x64_S4x17x128x4x64_000_100_000_000_000 h_S_)
      (pad S4x17x128x4x64 ![0, 0, 0, 0, 0] ![0, 1, 0, 0, 0] ![0, 0, 0, 0, 0] (extractStridedSlice S4x16x128x4x64 ![0, 0, 0, 0, 0] X slices_S4x16x256x4x64_S4x16x128x4x64_0_0_0_0_0) z' pads_S4x16x128x4x64_S4x17x128x4x64_000_010_000_000_000 h_S_))
      shapeCasts_S4x17x128x4x64_S4x2176x4x64) slices_S4x2176x4x64_S4x2048x4x64_0_128_0_0) shapeCasts_S4x2048x4x64_S8192x256)
      fun i c => F (i / 128) (128 + i % 128) c + if i / 128 % 16 = 15 then 0 else F (i / 128 + 1) (i % 128) c := by
  have hf := Is.page_first (Is.half h 128 le_rfl (hs := slices_S4x16x256x4x64_S4x16x128x4x64_0_0_128_0_0)) hz
  have hl := Is.page_last (Is.half h 0 (Nat.zero_le _) (hs := slices_S4x16x256x4x64_S4x16x128x4x64_0_0_0_0_0)) hz'
  refine (Is.unpaged (Is.add (φ := .f32) hf hl)).to fun v hv => ?_
  show (if v 0 % 2048 / 128 + 1 = 0 then (0 : ℝ) else F (16 * (v 0 / 2048) + (v 0 % 2048 / 128 + 1 - 1)) (128 + v 0 % 128) (64 * (v 1 / 64) + v 1 % 64))
      + (if v 0 % 2048 / 128 + 1 < 16 then F (16 * (v 0 / 2048) + (v 0 % 2048 / 128 + 1)) (0 + v 0 % 128) (64 * (v 1 / 64) + v 1 % 64) else 0)
    = F (v 0 / 128) (128 + v 0 % 128) (v 1) + if v 0 / 128 % 16 = 15 then 0 else F (v 0 / 128 + 1) (v 0 % 128) (v 1)
  rw [if_neg (Nat.succ_ne_zero _), show 64 * (v 1 / 64) + v 1 % 64 = v 1 by omega, show 16 * (v 0 / 2048) + (v 0 % 2048 / 128 + 1 - 1) = v 0 / 128 by omega,
    show 16 * (v 0 / 2048) + (v 0 % 2048 / 128 + 1) = v 0 / 128 + 1 by omega, Nat.zero_add]
  by_cases hc : v 0 / 128 % 16 = 15
  · rw [if_pos hc, if_neg (by omega)]
  · rw [if_neg hc, if_pos (by omega)]

end Cert.Full

end
-- ==== Proof.RGrad.lean ====
/-
  The reference's gradients, as the gradients of its blocks.
-/
module

public import proofs.«01_k».proof.Proof.RSoft
public import proofs.«01_k».proof.Proof.RLay

@[expose] public section

set_option maxRecDepth 16384

noncomputable section

namespace Cert.Full

open Cert.Reference2Ideal Cert.Reference2Ideal.Gen Cert.Reference2Ideal.Read Cert.Reals Cert.Math Idealize.ShloMosaic
open scoped BigOperators
open Finset (range)

/-! ## The sums, over real numbers -/

/-- The gradient of the weights with a zero for the sink. -/
def dpx (B : Blk) (h r s : ℕ) : ℝ := if s < 256 then B.dp h r s else 0

theorem sum_dl (B : Blk) {c : ℝ} (hc : 0 < c) (h r : ℕ) :
    ∑ s ∈ range 257, dpx B h r s * (1 / (c * B.den h r * (c * B.den h r))) * (c * wide B h r s) = B.dl h r / (c * B.den h r) := by
  have hd := B.den_pos h r
  rw [Finset.sum_range_succ, show dpx B h r 256 = 0 from rfl, zero_mul, zero_mul, add_zero]
  unfold Blk.dl
  rw [Finset.sum_div]
  refine Finset.sum_congr rfl fun s hs => ?_
  have h5 := Finset.mem_range.1 hs
  unfold dpx wide Blk.p
  rw [if_pos h5, if_pos h5]
  field_simp

theorem score_grad (B : Blk) {c : ℝ} (hc : 0 < c) (h r s : ℕ) :
    (dpx B h r s / (c * B.den h r) + -(B.dl h r / (c * B.den h r))) * (c * wide B h r s) = wide B h r s / B.den h r * (dpx B h r s - B.dl h r) := by
  have hd := B.den_pos h r
  field_simp
  ring

theorem score_lo (B : Blk) {h r s : ℕ} (hs : s < 256) : wide B h r s / B.den h r * (dpx B h r s - B.dl h r) = B.ds h r s := by
  unfold wide dpx; rw [if_pos hs, if_pos hs]; rfl

theorem score_hi (B : Blk) (h r : ℕ) : wide B h r 256 / B.den h r * (dpx B h r 256 - B.dl h r) = -(B.ps h r * B.dl h r) := by
  rw [show dpx B h r 256 = 0 from rfl, zero_sub, mul_neg]; rfl

theorem sum_blocks (F : ℕ → ℝ) (m : ℕ) : ∑ a ∈ range m, ∑ b ∈ range 16, F (16 * a + b) = ∑ n ∈ range (16 * m), F n := by
  induction m with
  | zero => rfl
  | succ m ih => rw [Finset.sum_range_succ, ih, Nat.mul_succ, Finset.sum_range_add]

variable {Q K V S O : ℕ → ℕ → ℝ} {x0 x4 : S8192x1024.Idx → EReal} {x1 x2 : S8192x256.Idx → EReal} {x3 : S1x16.Idx → EReal}
  (hq : Is2 (m := 8192) (n := 1024) x0 Q) (hk : Is2 (m := 8192) (n := 256) x1 K) (hv : Is2 (m := 8192) (n := 256) x2 V)
  (hs : Is2 (m := 1) (n := 16) x3 S) (ho : Is2 (m := 8192) (n := 1024) x4 O)

/-! ## The gradients of the scores -/

include ho in
theorem is_cot : Is (S := S4x16x4x64x4x128) (val_main_v116 (F := Ideal) x4) fun v => O (2048 * v 0 + 128 * v 1 + v 5) (256 * v 2 + 64 * v 4 + v 3) := by
  have h115 : Is (S := S4x16x128x4x4x64) (val_main_v115 (F := Ideal) x4) fun v => O (2048 * v 0 + 128 * v 1 + v 2) (256 * v 3 + 64 * v 4 + v 5) := ho.open6
  exact h115.reads idx_main_v116 (val_main_v116_apply (F := Ideal) x4) fun i => rfl

include hv ho in
theorem is_dp : Is (S := S4x16x4x4x128x256) (val_main_v117 (F := Ideal) x2 x4) fun v => (blk Q K V S O (16 * v 0 + v 1)).dp (4 * v 2 + v 3) (v 4) (v 5) := by
  have h117 : Is (S := S4x16x4x4x128x256) (val_main_v117 (F := Ideal) x2 x4)
      fun v => ∑ d ∈ range 64, O (2048 * v 0 + 128 * v 1 + v 4) (256 * v 2 + 64 * v 3 + d) * win V (16 * v 0 + v 1) (v 5) (64 * v 2 + d) :=
    Is.contract (is_cot ho) (is_winV hv) (val_main_v117_apply x2 x4) fun i k => rfl
  refine h117.to fun v hb => ?_
  have h3 : v 3 < 4 := hb 3
  show _ = ∑ d ∈ range 64, O ((16 * v 0 + v 1) * 128 + v 4) (64 * (4 * v 2 + v 3) + d) * win V (16 * v 0 + v 1) (v 5) (64 * ((4 * v 2 + v 3) / 4) + d)
  rw [show (4 * v 2 + v 3) / 4 = v 2 by omega, show (16 * v 0 + v 1) * 128 + v 4 = 2048 * v 0 + 128 * v 1 + v 4 by omega]
  exact Finset.sum_congr rfl fun d _ => by rw [show 64 * (4 * v 2 + v 3) + d = 256 * v 2 + 64 * v 3 + d by omega]

include hv ho in
theorem is_dpx : Is (S := S4x16x4x4x128x257) (val_main_v120 (F := Ideal) x2 x4) fun v => dpx (blk Q K V S O (16 * v 0 + v 1)) (4 * v 2 + v 3) (v 4) (v 5) :=
  Is.zero_last (d := ![4, 16, 4, 4, 128, 256]) (d' := ![4, 16, 4, 4, 128, 257]) (is_dp (Q := Q) (K := K) (S := S) hv ho) (fun _ => bits_zero) (by decide) (by decide) (by decide)

include hq hk hv hs ho

theorem is_scores : Is (S := S4x16x4x4x128x257) (val_main_v132 (F := Ideal) x0 x1 x2 x3 x4)
    fun v => wide (blk Q K V S O (16 * v 0 + v 1)) (4 * v 2 + v 3) (v 4) (v 5) / (blk Q K V S O (16 * v 0 + v 1)).den (4 * v 2 + v 3) (v 4)
      * (dpx (blk Q K V S O (16 * v 0 + v 1)) (4 * v 2 + v 3) (v 4) (v 5) - (blk Q K V S O (16 * v 0 + v 1)).dl (4 * v 2 + v 3) (v 4)) := by
  obtain ⟨c, hc, he, hd⟩ := is_softmax (V := V) (O := O) hq hk hs
  have hx := is_dpx (Q := Q) (K := K) (S := S) hv ho
  have n0 : ∀ v : Fin 6 → ℕ, c ![v 0, v 1, v 2, v 3, v 4] * (blk Q K V S O (16 * v 0 + v 1)).den (4 * v 2 + v 3) (v 4) ≠ 0 := fun v => (mul_pos (hc _) (Blk.den_pos _ _ _)).ne'
  have h108 : Is (S := S4x16x4x4x128x1) (val_main_v108 (F := Ideal)) fun _ => 1 := is_bscalar (hb := bcast_S_S4x16x4x4x128x1) fun _ => bits_one
  have h109 := Is.hdiv (φ := .f32) h108 (Is.mul (φ := .f32) hd hd) fun v => mul_ne_zero (n0 v) (n0 v)
  have h121 : Is (S := S4x16x4x4x128x257) (val_main_v121 (F := Ideal) x0 x1 x3) fun v => 1 / (c ![v 0, v 1, v 2, v 3, v 4] * (blk Q K V S O (16 * v 0 + v 1)).den (4 * v 2 + v 3) (v 4)
      * (c ![v 0, v 1, v 2, v 3, v 4] * (blk Q K V S O (16 * v 0 + v 1)).den (4 * v 2 + v 3) (v 4))) :=
    Is.reads (X := val_main_v109 (F := Ideal) x0 x1 x3) h109 idx_main_v121 (val_main_v121_apply (F := Ideal) x0 x1 x3) fun i => rfl
  have h123 := Is.mul (φ := .f32) (Is.mul (φ := .f32) hx h121) he
  have h124 : Is (S := S4x16x4x4x128) (val_main_v124 (F := Ideal) x0 x1 x2 x3 x4) fun v => (blk Q K V S O (16 * v 0 + v 1)).dl (4 * v 2 + v 3) (v 4) / (c ![v 0, v 1, v 2, v 3, v 4] * (blk Q K V S O (16 * v 0 + v 1)).den (4 * v 2 + v 3) (v 4)) :=
    (Is.sums (X := val_main_v123 (F := Ideal) x0 x1 x2 x3 x4) h123 bits_zero (val_main_v124_apply x0 x1 x2 x3 x4)
      (F := fun v s => dpx (blk Q K V S O (16 * v 0 + v 1)) (4 * v 2 + v 3) (v 4) s
        * (1 / (c ![v 0, v 1, v 2, v 3, v 4] * (blk Q K V S O (16 * v 0 + v 1)).den (4 * v 2 + v 3) (v 4) * (c ![v 0, v 1, v 2, v 3, v 4] * (blk Q K V S O (16 * v 0 + v 1)).den (4 * v 2 + v 3) (v 4))))
        * (c ![v 0, v 1, v 2, v 3, v 4] * wide (blk Q K V S O (16 * v 0 + v 1)) (4 * v 2 + v 3) (v 4) s)) fun i k => rfl).to fun v _ => sum_dl _ (hc _) _ _
  have h126 : Is (S := S4x16x4x4x128x1) (val_main_v126 (F := Ideal) x0 x1 x2 x3 x4) fun v => -((blk Q K V S O (16 * v 0 + v 1)).dl (4 * v 2 + v 3) (v 4) / (c ![v 0, v 1, v 2, v 3, v 4] * (blk Q K V S O (16 * v 0 + v 1)).den (4 * v 2 + v 3) (v 4))) :=
    Is.hneg (φ := .f32) (Is.unit_last h124)
  have h129 : Is (S := S4x16x4x4x128) (val_main_v129 (F := Ideal) x0 x1 x2 x3 x4) fun v => -((blk Q K V S O (16 * v 0 + v 1)).dl (4 * v 2 + v 3) (v 4) / (c ![v 0, v 1, v 2, v 3, v 4] * (blk Q K V S O (16 * v 0 + v 1)).den (4 * v 2 + v 3) (v 4))) :=
    (Is.sums h126 bits_zero (val_main_v129_apply x0 x1 x2 x3 x4)
      (F := fun v _ => -((blk Q K V S O (16 * v 0 + v 1)).dl (4 * v 2 + v 3) (v 4) / (c ![v 0, v 1, v 2, v 3, v 4] * (blk Q K V S O (16 * v 0 + v 1)).den (4 * v 2 + v 3) (v 4)))) fun i k => rfl).to fun v _ => Finset.sum_range_one _
  have h130 : Is (S := S4x16x4x4x128x257) (val_main_v130 (F := Ideal) x0 x1 x2 x3 x4) fun v => -((blk Q K V S O (16 * v 0 + v 1)).dl (4 * v 2 + v 3) (v 4) / (c ![v 0, v 1, v 2, v 3, v 4] * (blk Q K V S O (16 * v 0 + v 1)).den (4 * v 2 + v 3) (v 4))) :=
    h129.reads idx_main_v130 (val_main_v130_apply (F := Ideal) x0 x1 x2 x3 x4) fun i => rfl
  have h127 : Is (S := S4x16x4x4x128x257) (val_main_v127 (F := Ideal) x0 x1 x3) fun v => c ![v 0, v 1, v 2, v 3, v 4] * (blk Q K V S O (16 * v 0 + v 1)).den (4 * v 2 + v 3) (v 4) :=
    hd.reads idx_main_v127 (val_main_v127_apply (F := Ideal) x0 x1 x3) fun i => rfl
  exact (Is.mul (φ := .f32) (Is.add (φ := .f32) (Is.hdiv (φ := .f32) hx h127 n0) h130) he).to fun v _ => score_grad _ (hc _) _ _ _

/-- The gradients of the scores: hidden ones have none. -/
theorem is_ds : Is (S := S4x16x4x4x128x256) (val_main_v141 (F := Ideal) x0 x1 x2 x3 x4) fun v => (blk Q K V S O (16 * v 0 + v 1)).ds (4 * v 2 + v 3) (v 4) (v 5) * (1 / 8) := by
  have h133 : Is (S := S4x16x4x4x128x256) (val_main_v133 (F := Ideal) x0 x1 x2 x3 x4) fun v => wide (blk Q K V S O (16 * v 0 + v 1)) (4 * v 2 + v 3) (v 4) (v 5) / (blk Q K V S O (16 * v 0 + v 1)).den (4 * v 2 + v 3) (v 4)
      * (dpx (blk Q K V S O (16 * v 0 + v 1)) (4 * v 2 + v 3) (v 4) (v 5) - (blk Q K V S O (16 * v 0 + v 1)).dl (4 * v 2 + v 3) (v 4)) :=
    Is.drop_last (d := ![4, 16, 4, 4, 128, 257]) (d' := ![4, 16, 4, 4, 128, 256]) (is_scores hq hk hv hs ho) (by decide) (by decide)
  have hz : Is (S := S4x16x4x4x128x256) (val_main_call1_v0 (F := Ideal)) fun _ => 0 := is_bscalar (hb := bcast_S_S4x16x4x4x128x256) fun _ => bits_zero
  have h140 : Is (S := S4x16x4x4x128x256) (val_main_v140 (F := Ideal)) fun _ => 1 / 8 := is_bscalar (hb := bcast_S_S4x16x4x4x128x256) fun _ => bits_eighth
  refine (Is.mul (φ := .f32) (seen_bits.sel h133 hz) h140).to fun v hb => ?_
  have h1 : v 1 < 16 := hb 1
  rw [score_lo _ (hb 5)]
  refine congrArg (· * _) ?_
  have hf : (blk Q K V S O (16 * v 0 + v 1)).first = decide (v 1 = 0) := decide_eq_decide.2 (by omega)
  by_cases hw : vis (decide (v 1 = 0)) (v 4) (v 5) = true
  · rw [if_pos hw]
  · rw [if_neg hw]
    unfold Blk.ds
    rw [Blk.p_hidden _ (by rw [hf]; simpa using hw), zero_mul]

/-! ## The gradients of the sinks, the queries, the keys and the values -/

theorem is_dsk : Is2 (m := 1) (n := 16) (val_main_v138 (F := Ideal) x0 x1 x2 x3 x4) fun _ l => ∑ n ∈ range 64, (blk Q K V S O n).dsk l := by
  have h134 : Is (S := S4x16x4x4x128x1) (val_main_v134 (F := Ideal) x0 x1 x2 x3 x4) fun v => wide (blk Q K V S O (16 * v 0 + v 1)) (4 * v 2 + v 3) (v 4) (256 + v 5) / (blk Q K V S O (16 * v 0 + v 1)).den (4 * v 2 + v 3) (v 4)
      * (dpx (blk Q K V S O (16 * v 0 + v 1)) (4 * v 2 + v 3) (v 4) (256 + v 5) - (blk Q K V S O (16 * v 0 + v 1)).dl (4 * v 2 + v 3) (v 4)) :=
    (is_scores hq hk hv hs ho).reads idx_main_v134 (val_main_v134_apply (F := Ideal) x0 x1 x2 x3 x4) fun i => rfl
  have h135 : Is2 (m := 4) (n := 4) (val_main_v135 (F := Ideal) x0 x1 x2 x3 x4) fun g l => ∑ a ∈ range 4, ∑ b ∈ range 16, (blk Q K V S O (16 * a + b)).dsk (4 * g + l) :=
    (Is.sum4 (n0 := 4) (n1 := 16) (n4 := 128) h134 fun _ => bits_zero).to fun v _ => Finset.sum_congr rfl fun a _ => Finset.sum_congr rfl fun b _ => Finset.sum_congr rfl fun r _ => score_hi _ _ _
  have h136 : Is (S := S1x1x4x4x1x1) (val_main_v136 (F := Ideal) x0 x1 x2 x3 x4) fun v => ∑ a ∈ range 4, ∑ b ∈ range 16, (blk Q K V S O (16 * a + b)).dsk (4 * v 2 + v 3) :=
    h135.reads idx_main_v136 (val_main_v136_apply (F := Ideal) x0 x1 x2 x3 x4) fun i => rfl
  have h137 : Is2 (m := 4) (n := 4) (val_main_v137 (F := Ideal) x0 x1 x2 x3 x4) fun g l => ∑ a ∈ range 4, ∑ b ∈ range 16, (blk Q K V S O (16 * a + b)).dsk (4 * g + l) :=
    (Is.sum4 (n0 := 1) (n1 := 1) (n4 := 1) h136 fun _ => bits_zero).to fun v _ => by
      show ∑ a ∈ range 1, ∑ b ∈ range 1, ∑ r ∈ range 1, _ = _
      rw [Finset.sum_range_one, Finset.sum_range_one, Finset.sum_range_one]
      rfl
  have h138 : Is2 (m := 1) (n := 16) (val_main_v138 (F := Ideal) x0 x1 x2 x3 x4) fun i l => ∑ a ∈ range 4, ∑ b ∈ range 16, (blk Q K V S O (16 * a + b)).dsk (4 * ((i * 16 + l) / 4) + (i * 16 + l) % 4) :=
    h137.reads idx_main_v138 (val_main_v138_apply (F := Ideal) x0 x1 x2 x3 x4) fun i => rfl
  refine h138.to fun v hb => ?_
  have h0 : v 0 < 1 := hb 0
  show ∑ a ∈ range 4, ∑ b ∈ range 16, (blk Q K V S O (16 * a + b)).dsk (4 * ((v 0 * 16 + v 1) / 4) + (v 0 * 16 + v 1) % 4) = ∑ n ∈ range 64, (blk Q K V S O n).dsk (v 1)
  rw [show 4 * ((v 0 * 16 + v 1) / 4) + (v 0 * 16 + v 1) % 4 = v 1 by omega]
  exact sum_blocks (fun n => (blk Q K V S O n).dsk (v 1)) 4

theorem is_dst : Is (S := S4x16x4x256x128x4) (val_main_v142 (F := Ideal) x0 x1 x2 x3 x4) fun v => (blk Q K V S O (16 * v 0 + v 1)).ds (4 * v 2 + v 5) (v 4) (v 3) * (1 / 8) :=
  (is_ds hq hk hv hs ho).reads idx_main_v142 (val_main_v142_apply (F := Ideal) x0 x1 x2 x3 x4) fun i => rfl

theorem is_dq : Is2 (m := 8192) (n := 1024) (val_main_v166 (F := Ideal) x0 x1 x2 x3 x4) fun i j => (blk Q K V S O (i / 128)).dq (i % 128) j * (1 / 8) := by
  have h143 : Is (S := S4x16x4x128x4x64) (val_main_v143 (F := Ideal) x0 x1 x2 x3 x4)
      fun v => ∑ s ∈ range 256, (blk Q K V S O (16 * v 0 + v 1)).ds (4 * v 2 + v 4) (v 3) s * (1 / 8) * win K (16 * v 0 + v 1) s (64 * v 2 + v 5) :=
    Is.contract (is_dst hq hk hv hs ho) (is_win hk) (val_main_v143_apply x0 x1 x2 x3 x4) fun i k => rfl
  have h144 : Is (S := S4x16x128x4x4x64) (val_main_v144 (F := Ideal) x0 x1 x2 x3 x4)
      fun v => ∑ s ∈ range 256, (blk Q K V S O (16 * v 0 + v 1)).ds (4 * v 3 + v 4) (v 2) s * (1 / 8) * win K (16 * v 0 + v 1) s (64 * v 3 + v 5) :=
    h143.reads idx_main_v144 (val_main_v144_apply (F := Ideal) x0 x1 x2 x3 x4) fun i => rfl
  unfold val_main_v166 val_main_v163
  rw [shapeCast_comp]
  refine Is.close6 (h144.to fun v hb => ?_)
  have h2 : v 2 < 128 := hb 2
  have h3 : v 3 < 4 := hb 3
  have h4 : v 4 < 4 := hb 4
  have h5 : v 5 < 64 := hb 5
  show _ = (∑ s ∈ range 256, (blk Q K V S O ((2048 * v 0 + 128 * v 1 + v 2) / 128)).ds ((256 * v 3 + 64 * v 4 + v 5) / 64) ((2048 * v 0 + 128 * v 1 + v 2) % 128) s
    * win K ((2048 * v 0 + 128 * v 1 + v 2) / 128) s (64 * ((256 * v 3 + 64 * v 4 + v 5) / 64 / 4) + (256 * v 3 + 64 * v 4 + v 5) % 64)) * (1 / 8)
  rw [show (2048 * v 0 + 128 * v 1 + v 2) / 128 = 16 * v 0 + v 1 by omega, show (2048 * v 0 + 128 * v 1 + v 2) % 128 = v 2 by omega,
    show (256 * v 3 + 64 * v 4 + v 5) / 64 = 4 * v 3 + v 4 by omega, show (256 * v 3 + 64 * v 4 + v 5) % 64 = v 5 by omega, show (4 * v 3 + v 4) / 4 = v 3 by omega, Finset.sum_mul]
  exact Finset.sum_congr rfl fun s _ => by ring

theorem is_dk : Is2 (m := 8192) (n := 256) (val_main_v165 (F := Ideal) x0 x1 x2 x3 x4)
    fun i c => (blk Q K V S O (i / 128)).dk (128 + i % 128) c + if i / 128 % 16 = 15 then 0 else (blk Q K V S O (i / 128 + 1)).dk (i % 128) c := by
  have hr := Is.rows_heads (is_dst hq hk hv hs ho) (is_q hq)
  have h145 : Is (S := S4x16x4x256x64) (val_main_v145 (F := Ideal) x0 x1 x2 x3 x4)
      fun v => ∑ r ∈ range 128, ∑ h ∈ range 4, (blk Q K V S O (16 * v 0 + v 1)).ds (4 * v 2 + h) r (v 3) * (1 / 8) * Q (2048 * v 0 + 128 * v 1 + r) (256 * v 2 + 64 * h + v 4) :=
    hr.to fun v _ => rfl
  have h146 : Is (S := S4x16x256x4x64) (val_main_v146 (F := Ideal) x0 x1 x2 x3 x4)
      fun v => ∑ r ∈ range 128, ∑ h ∈ range 4, (blk Q K V S O (16 * v 0 + v 1)).ds (4 * v 3 + h) r (v 2) * (1 / 8) * Q (2048 * v 0 + 128 * v 1 + r) (256 * v 3 + 64 * h + v 4) :=
    h145.reads idx_main_v146 (val_main_v146_apply (F := Ideal) x0 x1 x2 x3 x4) fun i => rfl
  have h146' : Is (S := S4x16x256x4x64) (val_main_v146 (F := Ideal) x0 x1 x2 x3 x4) fun v => (blk Q K V S O (16 * v 0 + v 1)).dk (v 2) (64 * v 3 + v 4) := h146.to fun v hb => by
    have h4 : v 4 < 64 := hb 4
    show _ = ∑ g ∈ range 4, ∑ r ∈ range 128, (blk Q K V S O (16 * v 0 + v 1)).ds (4 * ((64 * v 3 + v 4) / 64) + g) r (v 2)
      * (Q ((16 * v 0 + v 1) * 128 + r) (64 * (4 * ((64 * v 3 + v 4) / 64) + g) + (64 * v 3 + v 4) % 64) * (1 / 8))
    rw [Finset.sum_comm, show (64 * v 3 + v 4) / 64 = v 3 by omega, show (64 * v 3 + v 4) % 64 = v 4 by omega]
    refine Finset.sum_congr rfl fun g _ => Finset.sum_congr rfl fun r _ => ?_
    rw [show (16 * v 0 + v 1) * 128 + r = 2048 * v 0 + 128 * v 1 + r by omega, show 64 * (4 * v 3 + g) + v 4 = 256 * v 3 + 64 * g + v 4 by omega]
    ring
  exact Is.joined (F := fun n => (blk Q K V S O n).dk) h146' (fun _ => bits_zero) fun _ => bits_zero

omit hv in
theorem is_dv : Is2 (m := 8192) (n := 256) (val_main_v164 (F := Ideal) x0 x1 x3 x4)
    fun i c => (blk Q K V S O (i / 128)).dv (128 + i % 128) c + if i / 128 % 16 = 15 then 0 else (blk Q K V S O (i / 128 + 1)).dv (i % 128) c := by
  have hr := Is.heads_rows (is_cot ho) (is_p (V := V) (O := O) hq hk hs)
  have h118 : Is (S := S4x16x4x64x256) (val_main_v118 (F := Ideal) x0 x1 x3 x4)
      fun v => ∑ h ∈ range 4, ∑ r ∈ range 128, O (2048 * v 0 + 128 * v 1 + r) (256 * v 2 + 64 * h + v 3) * (blk Q K V S O (16 * v 0 + v 1)).p (4 * v 2 + h) r (v 4) :=
    hr.to fun v _ => rfl
  have h119 : Is (S := S4x16x256x4x64) (val_main_v119 (F := Ideal) x0 x1 x3 x4)
      fun v => ∑ h ∈ range 4, ∑ r ∈ range 128, O (2048 * v 0 + 128 * v 1 + r) (256 * v 3 + 64 * h + v 4) * (blk Q K V S O (16 * v 0 + v 1)).p (4 * v 3 + h) r (v 2) :=
    h118.reads idx_main_v119 (val_main_v119_apply (F := Ideal) x0 x1 x3 x4) fun i => rfl
  have h119' : Is (S := S4x16x256x4x64) (val_main_v119 (F := Ideal) x0 x1 x3 x4) fun v => (blk Q K V S O (16 * v 0 + v 1)).dv (v 2) (64 * v 3 + v 4) := h119.to fun v hb => by
    have h4 : v 4 < 64 := hb 4
    show _ = ∑ g ∈ range 4, ∑ r ∈ range 128, (blk Q K V S O (16 * v 0 + v 1)).p (4 * ((64 * v 3 + v 4) / 64) + g) r (v 2)
      * O ((16 * v 0 + v 1) * 128 + r) (64 * (4 * ((64 * v 3 + v 4) / 64) + g) + (64 * v 3 + v 4) % 64)
    rw [show (64 * v 3 + v 4) / 64 = v 3 by omega, show (64 * v 3 + v 4) % 64 = v 4 by omega]
    refine Finset.sum_congr rfl fun g _ => Finset.sum_congr rfl fun r _ => ?_
    rw [show (16 * v 0 + v 1) * 128 + r = 2048 * v 0 + 128 * v 1 + r by omega, show 64 * (4 * v 3 + g) + v 4 = 256 * v 3 + 64 * g + v 4 by omega]
    ring
  exact Is.joined (F := fun n => (blk Q K V S O n).dv) h119' (fun _ => bits_zero) fun _ => bits_zero

end Cert.Full

end
-- ==== Proof.Attn.lean ====
/-
  The two calls of the windowed attention, forward and backward, equal the reference's derivative.
-/
module

public import proofs.«01_k».proof.Defs
public import proofs.«01_k».proof.Proof.AOut
public import proofs.«01_k».proof.Proof.ARun
public import proofs.«01_k».proof.Proof.RGrad
public import proofs.«01_k».proof.Proof.Ffn
public import proofs.«01_k».proof.Proof.Gen.Pre_finite2
public import proofs.«01_k».proof.Proof.Gen.Reference2Ideal.Run

@[expose] public section

set_option maxRecDepth 16384

noncomputable section

namespace Cert.Proof.Attn

open Idealize.ShloMosaic Idealize.ShloMosaic.TcCoe Idealize.SL.Sem Cert.Kernel2Ideal Cert.Kernel2Ideal.Gen Cert.Reals Cert.Math Cert.Tile Cert.Full

/-- The reference leaves its arguments and declares no semaphore. -/
theorem frame_reference : Cert.quiescent_Reference2Ideal := fun m ρ _ =>
  (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m ρ)

/-- The mask's constant stands for minus infinity. -/
theorem preserves : Cert.preserves_Kernel2_Kernel2Ideal := IdealRules.named_const.statement Cert.Kernel2Ideal.κ "mask" .f32 0xF149F2CA#32 ⊥ rfl

variable (Q K V S O : ℕ → ℕ → ℝ)

/-- A block of the reference and the block of the calls agree where a row may look: the first block of a sequence sees nothing before it. -/
theorem same (n : ℕ) : Blk.Same (blk Q K V S O n) ((att Q K V S O).blk n) where
  q _ _ _ _ := rfl
  o _ _ _ _ := rfl
  k s c _ _ h := window K n s c h
  v s c _ _ h := window V n s c h
  sl _ _ := rfl
  sk _ _ := rfl
  first := rfl
where
  window (X : ℕ → ℕ → ℝ) (n s c : ℕ) (h : decide (n % 16 = 0) = true → 128 ≤ s) :
      win X n s c = if s < 128 then X ((n - 1) * 128 + s) c else X (n * 128 + (s - 128)) c := by
    unfold win
    by_cases hs : s < 128
    · rw [if_pos hs, if_pos hs, if_neg fun h0 => absurd (h (decide_eq_true h0)) (by omega)]
    · rw [if_neg hs, if_neg hs]

/-- Equal real functions, equal arrays: every result of the kernel against the reference's. -/
theorem algebraic : Cert.algebraic_Kernel2Ideal_Reference2Ideal_pre_finite2 := by
  intro m g m' g' hpre hagree
  have hq c := is2_reals _ (hpre c).1
  have hk c := is2_reals _ (hpre c).2.1
  have hv c := is2_reals _ (hpre c).2.2.1
  have hs c := is2_reals _ (hpre c).2.2.2.1
  have ho c := is2_reals _ (hpre c).2.2.2.2
  have kq c := (hq c).of_eq (hagree c).1
  have kk c := (hk c).of_eq (hagree c).2.1
  have kv c := (hv c).of_eq (hagree c).2.2.1
  have ks c := (hs c).of_eq (hagree c).2.2.2.1
  have ko c := (ho c).of_eq (hagree c).2.2.2.2
  refine ⟨fun c => W11 m g c (Proc.devRef .tc main_v64), fun c => W11 m g c (Proc.devRef .tc main_v68), fun c => W11 m g c (Proc.devRef .tc main_v95),
    fun c => W11 m g c (Proc.devRef .tc main_v122), fun c => W11 m g c (Proc.devRef .tc main_v123), ?_, ?_⟩
  · exact (θ_run Cert.Kernel2Ideal.defs _ _).mono
      (fun r h c => ⟨h.1 c _ (mem_uc main_v64 (by decide)), h.1 c _ (mem_uc main_v68 (by decide)), h.1 c _ (mem_uc main_v95 (by decide)),
        h.1 c _ (mem_uc main_v122 (by decide)), h.1 c _ (mem_uc main_v123 (by decide)),
        (h.1 c _ (mem_uc main_arg0 (by decide))).trans (W11_main_arg0 m g c), (h.1 c _ (mem_uc main_arg1 (by decide))).trans (W11_main_arg1 m g c),
        (h.1 c _ (mem_uc main_arg2 (by decide))).trans (W11_main_arg2 m g c), (h.1 c _ (mem_uc main_arg3 (by decide))).trans (W11_main_arg3 m g c),
        (h.1 c _ (mem_uc main_arg4 (by decide))).trans (W11_main_arg4 m g c)⟩)
      (Cert.Kernel2Ideal.Run.run m g)
  · refine (θ_run Cert.Reference2Ideal.defs _ _).mono (fun r h c => ?_) (Cert.Reference2Ideal.Value.run (F := Ideal) m' g')
    obtain ⟨h0, h1, h2, h3, h4, ha⟩ := h c
    have b : ∀ n, Blk.Same (blk _ _ _ _ _ n) _ := same (reals (m ((c : Thread nD τ).loc main_arg0))) (reals (m ((c : Thread nD τ).loc main_arg1)))
      (reals (m ((c : Thread nD τ).loc main_arg2))) (reals (m ((c : Thread nD τ).loc main_arg3))) (reals (m ((c : Thread nD τ).loc main_arg4)))
    refine ⟨(h0.trans (Cert.Reference2Ideal.Read.val_main_v114_eq _)).trans (Is.eq ((is_out (O := reals (m ((c : Thread nD τ).loc main_arg4))) (kq c) (kk c) (kv c) (ks c)).to fun v hb => ?_) (r64 m g c (hq c) (hk c) (hv c) (hs c) (ho c))),
      (h1.trans (Cert.Reference2Ideal.Read.val_main_v166_eq _)).trans (Is.eq ((is_dq (kq c) (kk c) (kv c) (ks c) (ko c)).to fun v hb => ?_) (r68 m g c (hq c) (hk c) (hv c) (hs c) (ho c))),
      (h2.trans (Cert.Reference2Ideal.Read.val_main_v165_eq _)).trans (Is.eq ((is_dk (kq c) (kk c) (kv c) (ks c) (ko c)).to fun v hb => ?_) (r95 m g c (hq c) (hk c) (hv c) (hs c) (ho c))),
      (h3.trans (Cert.Reference2Ideal.Read.val_main_v164_eq _)).trans (Is.eq ((is_dv (V := reals (m ((c : Thread nD τ).loc main_arg2))) (kq c) (kk c) (ks c) (ko c)).to fun v hb => ?_) (r122 m g c (hq c) (hk c) (hv c) (hs c) (ho c))),
      (h4.trans (Cert.Reference2Ideal.Read.val_main_v138_eq _)).trans (Is.eq ((is_dsk (kq c) (kk c) (kv c) (ks c) (ko c)).to fun v hb => ?_) (r123 m g c (hq c) (hk c) (hv c) (hs c) (ho c))), ha⟩
    · exact (b _).out_eq (Nat.mod_lt _ (by decide)) (hb 1)
    · exact congrArg (· * (1 / 8 : ℝ)) ((b _).dq_eq (Nat.mod_lt _ (by decide)) (hb 1))
    · have h1 : v 0 % 128 < 128 := Nat.mod_lt _ (by decide)
      exact congrArg₂ (· + ·) ((b _).dk_eq (by omega) (hb 1)) (by split <;> [rfl; exact (b _).dk_eq (by omega) (hb 1)])
    · have h1 : v 0 % 128 < 128 := Nat.mod_lt _ (by decide)
      exact congrArg₂ (· + ·) ((b _).dv_eq (by omega) (hb 1)) (by split <;> [rfl; exact (b _).dv_eq (by omega) (hb 1)])
    · exact Finset.sum_congr rfl fun n _ => (b n).dsk_eq (hb 1)

end Cert.Proof.Attn

end
-- ==== Proof.ConvPay.lean ====
/-
  The convolution's backward call: what each value of the body is, from the block's reals.
-/
module

public import proofs.«01_k».proof.Proof.Gen.Kernel3Ideal.Frame
public import proofs.«01_k».proof.Proof.Blocks
public import proofs.«01_k».proof.Proof.ATile

@[expose] public section

set_option maxRecDepth 16384

noncomputable section

namespace Cert.Math.Conv

open Cert.Math

variable (c b y wo w p q d0 d1 d2 n : ℕ → ℕ → ℝ)

/-- The gradients of the two factors `y` and `c` of the gated product, from the result's: the convolution's output and the gate. -/
def dy (i j : ℕ) : ℝ := mmT 1024 c wo i j * b i (1024 + j)
def dc (i j : ℕ) : ℝ := mmT 1024 c wo i j * y i j

/-- The convolution's input: the first and the last third of the projection. -/
def arg (i j : ℕ) : ℝ := b i j * b i (2048 + j)

/-- The rows `s` further on in a block of 512, and past its end the rows of the next one. -/
def ahead (s : ℕ) (y n : ℕ → ℕ → ℝ) (i k : ℕ) : ℝ := if i + s < 512 then y (i + s) k else n (i + s - 512) k

/-- The gradient of the convolution's input, from its output's at the same row, at the next and at the one after. -/
def du (i j : ℕ) : ℝ := w 2 j * d0 i j + w 1 j * d1 i j + w 0 j * d2 i j

/-- The projection's gradient: its three thirds. -/
def dbcx (i j : ℕ) : ℝ :=
  if j < 1024 then p i j * b i (2048 + j) else if j < 2048 then q i (j - 1024) else p i (j - 2048) * b i (j - 2048)

end Cert.Math.Conv

namespace Cert.Kernel3Ideal.Bwd

open Cert.Math.Conv Cert.Tile Cert.Kernel3Ideal Cert.Kernel3Ideal.Gen Cert.Reals Cert.Math Idealize.ShloMosaic Idealize.ShloMosaic.Tactic

section Rows
variable {v17 v32 v22 v27 v28 v26 v29 v35 v43 v56 v34 : Vec Ideal S512x1024 .f32} {v20 : Vec Ideal S1024x1024 .bf16} {v23 : Vec Ideal S512x3072 .bf16}
  {v36 : Vec Ideal S8x1024 .f32} {v61 v72 : Vec Ideal S1x1024 .f32} {v31 : Vec Ideal S3x1024 .f32} {C B W Y D N U D1 D2 O K A : ℕ → ℕ → ℝ}

theorem pay10 (h : Is2 v17 C) (hw : Is2 v20 W) : Is2 (k0_pay10 (F := Ideal) v17 v20) (mmT 1024 C W) :=
  (Is2.dotT (L := k0_pay9 (F := Ideal) v17) h.trunc hw.shapeCast_self).to fun v _ => rfl
theorem pay12 (h : Is2 v23 B) : Is2 (k0_pay12 (F := Ideal) v23) B :=
  (Is2.slice (X := k0_pay11 (F := Ideal) v23) h.shapeCast_self 0 0 (p := 512) (q := 1024) (hs := slices_S512x3072_o0_0_S512x1024)).to fun v _ => by simp only [fn2, zero_add]
theorem pay13 (h : Is2 v23 B) : Is2 (k0_pay13 (F := Ideal) v23) fun i j => B i (1024 + j) :=
  (Is2.slice (X := k0_pay11 (F := Ideal) v23) h.shapeCast_self 0 1024 (p := 512) (q := 1024) (hs := slices_S512x3072_o0_1024_S512x1024)).to fun v _ => by simp only [fn2, zero_add]
theorem pay14 (h : Is2 v23 B) : Is2 (k0_pay14 (F := Ideal) v23) fun i j => B i (2048 + j) :=
  (Is2.slice (X := k0_pay11 (F := Ideal) v23) h.shapeCast_self 0 2048 (p := 512) (q := 1024) (hs := slices_S512x3072_o0_2048_S512x1024)).to fun v _ => by simp only [fn2, zero_add]
theorem pay15 (h : Is2 v23 B) : Is2 (k0_pay15 (F := Ideal) v23) (arg B) := (pay12 h).mul (pay14 h)
theorem pay16 (h : Is2 v22 D) (hy : Is2 v32 Y) : Is2 (k0_pay16 (F := Ideal) v22 v32) fun i j => D i j * Y i j := h.mul hy.shapeCast_self
theorem pay17 (h : Is2 v22 D) (hc : Is2 v27 Y) : Is2 (k0_pay17 (F := Ideal) v22 v27) fun i j => D i j * Y i j := h.mul hc

/-- A block's rows turned round. -/
theorem roll {X : FVec Ideal S512x1024 .f32} (h : Is2 X Y) (n : BitVec 32) {hr : S512x1024.Rotates 0 none} :
    Is2 (m := 512) (n := 1024) (dynamicRotate 0 n none X hr) fun i k => Y ((i + 512 - n.toNat % 512) % 512) k := fun i => (h _).trans rfl

/-- The row whose number is `n`. -/
theorem row_bits (n : ℕ) (hn : n < 512) {hi : S512x1024.Iotas .tc 32 [0]} :
    Bits (S := S512x1024) (cmpi .eq (iota .tc S512x1024 32 [0] hi) (broadcast S512x1024 (BitVec.ofNat 32 n))) fun v => decide (v 0 = n) := fun i => by
  have h0 : (i 0).val < 512 := (i 0).isLt
  show BitVec.ofBool (BitVec.ofNat 32 (0 * 512 + (i 0).val) == BitVec.ofNat 32 n) = _
  rw [Nat.zero_mul, Nat.zero_add]
  by_cases h : (i 0).val = n
  · simp [h]
  · have : (BitVec.ofNat 32 (i 0).val == BitVec.ofNat 32 n) = false := by
      rw [beq_eq_false_iff_ne]
      intro he
      have := congrArg BitVec.toNat he
      simp only [BitVec.toNat_ofNat] at this
      omega
    rw [this]; simp [h]

/-- A row of the carried eight, for every row. -/
theorem carried (h : Is2 v36 N) (r : ℕ) {hs : S8x1024.Slices ![r, 0] S1x1024} {hc : S1x1024.ShapeCasts S1x1024} {hb : S1x1024.Broadcasts S512x1024} :
    Is2 (m := 512) (n := 1024) (broadcastTo S512x1024 (shapeCast S1x1024 (extractStridedSlice S1x1024 ![r, 0] v36 hs) hc) hb) fun _ k => N r k := by
  have h1 : Is2 (m := 1) (n := 1024) (extractStridedSlice S1x1024 ![r, 0] v36 hs) fun i j => N (r + i) (0 + j) := h.slice r 0
  have h2 : Is2 (m := 1) (n := 1024) (shapeCast S1x1024 (extractStridedSlice S1x1024 ![r, 0] v36 hs) hc) fun i j => N (r + i) (0 + j) := h1.shapeCast_self
  exact h2.brow.to fun v _ => by simp only [fn2, zero_add, add_zero]

theorem pay18 (h : Is2 (k0_pay17 (F := Ideal) v22 v27) Y) (hn : Is2 v36 N) :
    Is2 (k0_pay18 (F := Ideal) v22 v27 (iota .tc S512x1024 32 [0] iota_S512x1024_d0_w32) v36) (ahead 1 Y N) :=
  ((row_bits 511 (by decide)).sel2 (carried hn 0) (roll h 511#32)).to fun v hv => by
    simp only [fn2, Matrix.cons_val_zero, BitVec.toNat_ofNat, Nat.reducePow, Nat.reduceMod]
    exact key _ (v 1) (hv 0)
where
  key (a k : ℕ) (ha : a < 512) : (if decide (a = 511) = true then N 0 k else Y ((a + 512 - 511) % 512) k) = ahead 1 Y N a k := by
    unfold ahead
    by_cases h : a = 511
    · rw [if_pos (decide_eq_true h), if_neg (by omega), show a + 1 - 512 = 0 by omega]
    · rw [if_neg fun e => h (of_decide_eq_true e), if_pos (by omega), show (a + 512 - 511) % 512 = a + 1 by omega]

theorem pay19 (h : Is2 (k0_pay17 (F := Ideal) v22 v27) Y) (hn : Is2 v36 N) :
    Is2 (k0_pay19 (F := Ideal) v22 v27 (iota .tc S512x1024 32 [0] iota_S512x1024_d0_w32) v36) (ahead 2 Y N) :=
  ((row_bits 511 (by decide)).sel2 (carried hn 1) ((row_bits 510 (by decide)).sel2 (carried hn 0) (roll h 510#32))).to fun v hv => by
    simp only [fn2, Matrix.cons_val_zero, BitVec.toNat_ofNat, Nat.reducePow, Nat.reduceMod]
    exact key _ (v 1) (hv 0)
where
  key (a k : ℕ) (ha : a < 512) :
      (if decide (a = 511) = true then N 1 k else if decide (a = 510) = true then N 0 k else Y ((a + 512 - 510) % 512) k) = ahead 2 Y N a k := by
    unfold ahead
    by_cases h : a = 511
    · rw [if_pos (decide_eq_true h), if_neg (by omega), show a + 2 - 512 = 1 by omega]
    · rw [if_neg fun e => h (of_decide_eq_true e)]
      by_cases h' : a = 510
      · rw [if_pos (decide_eq_true h'), if_neg (by omega), show a + 2 - 512 = 0 by omega]
      · rw [if_neg fun e => h' (of_decide_eq_true e), if_pos (by omega), show (a + 512 - 510) % 512 = a + 2 by omega]

theorem pay20 (h : Is2 (k0_pay17 (F := Ideal) v22 v27) Y) : Is2 (k0_pay20 (F := Ideal) v22 v27) Y :=
  (Is2.slice (X := k0_pay17 (F := Ideal) v22 v27) h 0 0 (p := 8) (q := 1024) (hs := slices_S512x1024_o0_0_S8x1024)).shapeCast_self.to fun v _ => by
    simp only [fn2, zero_add]

/-- A row that grows by a block's sum. -/
theorem grown {X V : FVec Ideal S512x1024 .f32} (ho : Is2 v61 O) (hx : Is2 X A) (hv : Is2 V U) {hc : S1x1024.ShapeCasts S1x1024}
    {hr : S512x1024.Reduces [0] S1024} {hφ : FKind.Formats .f32} {hacc : (0x00000000#32 : BitVec FTy.f32.bits) = FKind.add.neutral .f32 hφ} {hs : S1024.ShapeCasts S1x1024} :
    Is2 (m := 1) (n := 1024) (addf (F := Ideal) (φ := .f32) (shapeCast S1x1024 v61 hc)
      (shapeCast S1x1024 (multiReduction (F := Ideal) (φ := .f32) .add [0] S1024 (mulf (F := Ideal) (φ := .f32) X V) 0x00000000#32 hr hφ hacc) hs))
      fun i k => O i k + ∑ j ∈ Finset.range 512, A j k * U j k := by
  have hm : Is2 (mulf (F := Ideal) (φ := .f32) X V) fun i k => A i k * U i k := hx.mul hv
  exact ho.shapeCast_self.add hm.sumCol.row

theorem pay21 (h : Is2 (k0_pay19 (F := Ideal) v22 v27 (iota .tc S512x1024 32 [0] iota_S512x1024_d0_w32) v36) D2) (hu : Is2 v29 U) (ho : Is2 v61 O) :
    Is2 (k0_pay21 (F := Ideal) v22 v27 v29 (iota .tc S512x1024 32 [0] iota_S512x1024_d0_w32) v36 v61) fun i k => O i k + ∑ j ∈ Finset.range 512, D2 j k * U j k :=
  grown ho h hu
theorem pay24 (h : Is2 (k0_pay18 (F := Ideal) v22 v27 (iota .tc S512x1024 32 [0] iota_S512x1024_d0_w32) v36) D1) (hu : Is2 v29 U) (ho : Is2 v61 O) :
    Is2 (k0_pay24 (F := Ideal) (k0_pay22 v61) (k0_pay23 (F := Ideal) v22 v27 v29 (iota .tc S512x1024 32 [0] iota_S512x1024_d0_w32) v36))
      fun i k => O i k + ∑ j ∈ Finset.range 512, D1 j k * U j k :=
  grown ho h hu
theorem pay25 (hu : Is2 v29 U) (h : Is2 v35 Y) (ho : Is2 v61 O) :
    Is2 (k0_pay25 (F := Ideal) v29 v35 v61) fun i k => O i k + ∑ j ∈ Finset.range 512, Y j k * U j k :=
  grown ho h hu

/-- A tap of the convolution, for every row. -/
theorem tap (h : Is2 v31 K) (r : ℕ) {hs : S3x1024.Slices ![r, 0] S1x1024} {hb : S1x1024.Broadcasts S512x1024} :
    Is2 (m := 512) (n := 1024) (broadcastTo S512x1024 (extractStridedSlice S1x1024 ![r, 0] v31 hs) hb) fun _ k => K r k := by
  have h1 : Is2 (m := 1) (n := 1024) (extractStridedSlice S1x1024 ![r, 0] v31 hs) fun i j => K (r + i) (0 + j) := h.slice r 0
  exact h1.brow.to fun v _ => by simp only [fn2, zero_add, add_zero]

theorem pay26 (hk : Is2 v31 K) (h : Is2 v35 Y) (h1 : Is2 v43 D1) (h2 : Is2 v56 D2) : Is2 (k0_pay26 (F := Ideal) v31 v35 v43 v56) (du K Y D1 D2) :=
  (((tap hk 2).mul h).add ((tap hk 1).mul h1)).add ((tap hk 0).mul h2)
theorem pay27 (hx : Is2 v28 A) (hk : Is2 v31 K) (h : Is2 v35 Y) (h1 : Is2 v43 D1) (h2 : Is2 v56 D2) :
    Is2 (k0_pay27 (F := Ideal) v28 v31 v35 v43 v56) fun i j => du K Y D1 D2 i j * A i j := ((pay26 hk h h1 h2).mul hx).trunc
theorem pay29 (hx : Is2 v26 A) (hk : Is2 v31 K) (h : Is2 v35 Y) (h1 : Is2 v43 D1) (h2 : Is2 v56 D2) :
    Is2 (k0_pay29 (F := Ideal) v26 v31 v35 v43 v56) fun i j => du K Y D1 D2 i j * A i j := ((pay26 hk h h1 h2).mul hx).trunc

theorem nought6 : Is2 (k0_pay6 (F := Ideal)) fun _ _ => 0 := is_const bits_zero
theorem nought7 : Is2 (k0_pay7 (F := Ideal)) fun _ _ => 0 := is_const bits_zero
theorem nought8 : Is2 (k0_pay8 (F := Ideal)) fun _ _ => 0 := (is_const (S := S8x1024) bits_zero).shapeCast_self

end Rows

section Norm
variable {v101 : Vec Ideal S512x3072 .bf16} {v103 : Vec Ideal S1024x3072 .bf16} {v17 v105 v106 : Vec Ideal S512x1024 .f32} {v115 v139 : Vec Ideal S1x1024 .f32}
  {C E X G P W O : ℕ → ℕ → ℝ}

theorem pay30 (h : Is2 v101 P) (hw : Is2 v103 W) : Is2 (k0_pay30 (F := Ideal) v101 v103) (mmT 3072 P W) :=
  (Is2.dotT (L := shapeCast S512x3072 v101 shapeCasts_S512x3072_S512x3072) h.shapeCast_self hw.shapeCast_self).to fun v _ => rfl
theorem pay1 (h : Is2 v106 X) : Is2 (k0_pay1 (F := Ideal) (k0_pay31 v106)) fun i _ => rs eps X i := h.rs
theorem pay3 (h : Is2 v106 X) : Is2 (k0_pay3 (F := Ideal) v106 (k0_pay31 v106)) (xn eps X) := h.mul (pay1 h).bcol
theorem pay2 (h : Is2 v106 X) (hg : Is2 v115 G) : Is2 (k0_pay2 (F := Ideal) v106 (k0_pay31 v106) v115) (nrm eps X (G 0)) :=
  ((pay3 h).mul hg.brow).trunc
theorem pay4 (hd : Is2 v105 E) (hx : Is2 v106 X) (ho : Is2 v139 O) :
    Is2 (k0_pay4 (F := Ideal) v105 v106 (k0_pay31 v106) v139) fun i k => O i k + ∑ j ∈ Finset.range 512, E j k * xn eps X j k :=
  grown ho hd (pay3 hx)
theorem pay5 (hc : Is2 v17 C) (hd : Is2 v105 E) (hx : Is2 v106 X) (hg : Is2 v115 G) :
    Is2 (k0_pay5 (F := Ideal) v17 v105 v106 (k0_pay31 v106) v115) fun i k => C i k + nrmBack eps X (fun i k => E i k * G 0 k) i k := by
  have he : Is2 (mulf (F := Ideal) (φ := .f32) v105 (broadcastTo S512x1024 v115 broadcasts_S1x1024_S512x1024)) fun i k => E i k * G 0 k := hd.mul hg.brow
  have hm : Is2 (mulf (F := Ideal) (φ := .f32) (mulf (F := Ideal) (φ := .f32) v105 (broadcastTo S512x1024 v115 broadcasts_S1x1024_S512x1024)) (k0_pay3 (F := Ideal) v106 (k0_pay31 v106)))
    fun i k => E i k * G 0 k * xn eps X i k := he.mul (pay3 hx)
  have hs : Is2 (m := 512) (n := 1) (shapeCast S512x1 (multiReduction (F := Ideal) (φ := .f32) .add [1] S512 (mulf (F := Ideal) (φ := .f32) (mulf (F := Ideal) (φ := .f32) v105 (broadcastTo S512x1024 v115 broadcasts_S1x1024_S512x1024)) (k0_pay3 (F := Ideal) v106 (k0_pay31 v106))) 0x00000000#32 reduces_S512x1024_S512 (.inl rfl) rfl) shapeCasts_S512_S512x1)
    fun i _ => ∑ k ∈ Finset.range 1024, E i k * G 0 k * xn eps X i k := hm.sumRow.col
  have hq := hs.div (φ := .f32) (is_const (S := S512x1) bits_1024) fun _ => by norm_num
  exact hc.add ((pay1 hx).bcol.mul (he.sub ((pay3 hx).mul (Is2.bcol (A := fun i _ => (∑ k ∈ Finset.range 1024, E i k * G 0 k * xn eps X i k) / 1024) hq))))

end Norm

/-- Three blocks of 1024 columns stored side by side. -/
abbrev stored (P0 P1 P2 : Vec Ideal S512x1024 .bf16) : List (View.Piece (Elt Ideal) S512x3072 .bf16) :=
  [⟨Rect.unit (s := S512x3072) ![0, 2048] ![512, 1024] inb_S512x3072_S512x1024_0_2048, P2⟩,
    ⟨Rect.unit (s := S512x3072) ![0, 1024] ![512, 1024] inb_S512x3072_S512x1024_0_1024, P1⟩,
    ⟨Rect.unit (s := S512x3072) ![0, 0] ![512, 1024] inb_S512x3072_S512x1024_0_0, P0⟩]

/-- The three thirds of the projection's gradient, stored side by side and read back. -/
theorem thirds {P0 P1 P2 : Vec Ideal S512x1024 .bf16} {B P Q : ℕ → ℕ → ℝ}
    (h0 : Is2 (m := 512) (n := 1024) P0 fun i j => P i j * B i (2048 + j)) (h1 : Is2 (m := 512) (n := 1024) P1 Q) (h2 : Is2 (m := 512) (n := 1024) P2 fun i j => P i j * B i j) :
    View.PiecesOf (at2 512 3072 (dbcx B P Q)) (stored P0 P1 P2) := by
  refine ⟨Is2.piece (inb := inb_S512x3072_S512x1024_0_2048) (h2.to fun v _ => ?_), Is2.piece (inb := inb_S512x3072_S512x1024_0_1024) (h1.to fun v hv => ?_),
    Is2.piece (inb := inb_S512x3072_S512x1024_0_0) (h0.to fun v hv => ?_), trivial⟩
  · simp only [fn2, dbcx, zero_add]
    rw [if_neg (by omega), if_neg (by omega), Nat.add_sub_cancel_left]
  · have h : v 1 < 1024 := hv 1
    simp only [fn2, dbcx, zero_add]
    rw [if_neg (by omega), if_pos (by omega), Nat.add_sub_cancel_left]
  · have h : v 1 < 1024 := hv 1
    simp only [fn2, dbcx, zero_add]
    rw [if_pos h]

theorem thirds_read {sp : Space} {v : View sig .tc sp S512x3072 .bf16} {P0 P1 P2 : Vec Ideal S512x1024 .bf16} {B P Q : ℕ → ℕ → ℝ}
    (h0 : Is2 (m := 512) (n := 1024) P0 fun i j => P i j * B i (2048 + j)) (h1 : Is2 (m := 512) (n := 1024) P1 Q) (h2 : Is2 (m := 512) (n := 1024) P2 fun i j => P i j * B i j) :
    Is2 (m := 512) (n := 3072) (v.readCov (stored P0 P1 P2)
      (Rect.unit (s := S512x3072) ![0, 0] ![512, 3072] inb_S512x3072_S512x3072_0_0).toLoadRect) (dbcx B P Q) := by
  have hc : ∀ y, ∃ p ∈ stored P0 P1 P2, y ∈ p.1.set := fun y => View.cover_of_tiledL (stored P0 P1 P2) S512x1024.size (by sl_kernel_rfl) y
  rw [View.readCov_eq_canon_ld _ _ _ hc]
  have h := is2_canonb hc (thirds h0 h1 h2)
  exact (h.ldb (inb := inb_S512x3072_S512x3072_0_0)).to fun v _ => by simp only [fn2, zero_add]

/-- A store into row `r`: that row's new contents, the other rows as they were. -/
theorem is2_row {sp : Space} {v : View sig .tc sp S8x1024 .f32} {f : v.ty.Contents (Elt Ideal)}
    {L : List (View.Piece (Elt Ideal) S8x1024 .f32)} {P : Vec Ideal S1x1024 .f32} {A B : ℕ → ℕ → ℝ} {r : ℕ}
    {inb : ∀ a, (![r, 0] : Fin 2 → ℕ) a + (![1, 1024] : Fin 2 → ℕ) a ≤ S8x1024.size a}
    (hP : Is2 (m := 1) (n := 1024) P A) (hL : Is2 (m := 8) (n := 1024) (v.read (Elt Ideal) (v.writes (Elt Ideal) f L)) B) :
    Is2 (m := 8) (n := 1024) (v.read (Elt Ideal) (v.writes (Elt Ideal) f (⟨Rect.unit (s := S8x1024) ![r, 0] ![1, 1024] inb, P⟩ :: L)))
      fun i k => if i = r then A 0 k else B i k := fun y => by
  by_cases h : (y 0).val = r
  · refine (View.read_writes_cons_hit_of_coords v f (Rect.unit (s := S8x1024) ![r, 0] ![1, 1024] inb) P L
      (fun a => match a with | ⟨0, _⟩ => ⟨0, Nat.one_pos⟩ | ⟨1, _⟩ => ⟨(y 1).val, (y 1).isLt⟩) y fun a => ?_).trans ?_
    · match a with
      | ⟨0, _⟩ => show (y 0).val = r + 1 * 0; omega
      | ⟨1, _⟩ => show (y 1).val = 0 + 1 * (y 1).val; omega
    · refine (hP _).trans ?_
      show ((A 0 (y 1).val : ℝ) : EReal) = ((if (y 0).val = r then A 0 (y 1).val else B (y 0).val (y 1).val : ℝ) : EReal)
      rw [if_pos h]
  · refine (View.read_writes_cons_miss_of_axis v f _ L y 0 r 1 rfl rfl rfl (by omega)).trans ?_
    refine (hL y).trans ?_
    show ((B (y 0).val (y 1).val : ℝ) : EReal) = ((if (y 0).val = r then A 0 (y 1).val else B (y 0).val (y 1).val : ℝ) : EReal)
    rw [if_neg h]

end Cert.Kernel3Ideal.Bwd

end
-- ==== Proof.ConvBlock.lean ====
/-
  One block of the convolution's backward call: 512 rows of each result, what the two sums grow by, and the rows carried to
  the block before.
-/
module

public import proofs.«01_k».proof.Proof.ConvPay

@[expose] public section

set_option maxRecDepth 16384

noncomputable section

namespace Cert.Math.Conv

open Cert.Math

variable (c x b y w wi wo d1 d2 : ℕ → ℕ → ℝ) (g : ℕ → ℝ)

/-- The projection's gradient, from the convolution's at the next row and at the one after. -/
def dproj : ℕ → ℕ → ℝ := dbcx b (du w (dy c b wo) d1 d2) (dc c y wo)

/-- The gradient of the normalised rows, and of the input: the residual's and the norm's. -/
def dh : ℕ → ℕ → ℝ := mmT 3072 (dproj c b y w wo d1 d2) wi
def dx (e : ℝ) (i k : ℕ) : ℝ := c i k + nrmBack e x (fun i k => dh c b y w wi wo d1 d2 i k * g k) i k

/-- What 512 rows add to the three taps' gradients, and to the gain's. -/
def taps (i k : ℕ) : ℝ :=
  if i = 2 then ∑ j ∈ Finset.range 512, dy c b wo j k * arg b j k else if i = 1 then ∑ j ∈ Finset.range 512, d1 j k * arg b j k
  else if i = 0 then ∑ j ∈ Finset.range 512, d2 j k * arg b j k else 0
def gain (e : ℝ) (i k : ℕ) : ℝ := if i < 1 then ∑ j ∈ Finset.range 512, dh c b y w wi wo d1 d2 j k * xn e x j k else 0

end Cert.Math.Conv

namespace Cert.Kernel3Ideal.Bwd

open Cert.Math.Conv Cert.Kernel3Ideal Cert.Kernel3Ideal.Gen Cert.Reals Cert.Math Idealize.ShloMosaic Idealize.ShloMosaic.Tactic

/-- A block's arrays hold these reals; `D1` and `D2` are the convolution's gradient at the next row and at the one after. -/
structure Blk (v0 v1 : Vec Ideal S512x1024 .f32) (v2 : Vec Ideal S1x1024 .f32) (v3 : Vec Ideal S512x3072 .bf16) (v4 : Vec Ideal S512x1024 .f32)
    (v5 : Vec Ideal S3x1024 .f32) (v6 : Vec Ideal S1024x3072 .bf16) (v7 : Vec Ideal S1024x1024 .bf16) (z : Vec Ideal S8x1024 .f32)
    (C X G B Y K Wi Wo N D1 D2 : ℕ → ℕ → ℝ) : Prop where
  e0 : Is2 v0 C
  e1 : Is2 v1 X
  e2 : Is2 v2 G
  e3 : Is2 v3 B
  e4 : Is2 v4 Y
  e5 : Is2 v5 K
  e6 : Is2 v6 Wi
  e7 : Is2 v7 Wo
  ez : Is2 z N
  a1 : ∀ i k, i < 512 → ahead 1 (dy C B Wo) N i k = D1 i k
  a2 : ∀ i k, i < 512 → ahead 2 (dy C B Wo) N i k = D2 i k

/-- A whole array, loaded. -/
theorem all {m n : ℕ} {X : (⟨2, ![m, n]⟩ : Shape).Idx → Elt Ideal .f32} {A : ℕ → ℕ → ℝ} (h : Is2 X A)
    {inb : ∀ a, (![0, 0] : Fin 2 → ℕ) a + (![m, n] : Fin 2 → ℕ) a ≤ (⟨2, ![m, n]⟩ : Shape).size a} :
    Is2 (m := m) (n := n) (View.ld (Val := Elt Ideal) (e' := .f32) X (Rect.unit (s := ⟨2, ![m, n]⟩) ![0, 0] ![m, n] inb)) A :=
  (h.ld (inb := inb)).to fun v _ => by simp only [fn2, zero_add]
theorem allb {m n : ℕ} {X : (⟨2, ![m, n]⟩ : Shape).Idx → Elt Ideal .bf16} {A : ℕ → ℕ → ℝ} (h : Is2 X A)
    {inb : ∀ a, (![0, 0] : Fin 2 → ℕ) a + (![m, n] : Fin 2 → ℕ) a ≤ (⟨2, ![m, n]⟩ : Shape).size a} :
    Is2 (m := m) (n := n) (View.ld (Val := Elt Ideal) (e' := .bf16) X (Rect.unit (s := ⟨2, ![m, n]⟩) ![0, 0] ![m, n] inb)) A :=
  (h.ldb (inb := inb)).to fun v _ => by simp only [fn2, zero_add]

namespace Blk
variable {v0 v1 v4 : Vec Ideal S512x1024 .f32} {v2 : Vec Ideal S1x1024 .f32} {v3 : Vec Ideal S512x3072 .bf16} {v5 : Vec Ideal S3x1024 .f32}
  {v6 : Vec Ideal S1024x3072 .bf16} {v7 : Vec Ideal S1024x1024 .bf16} {z : Vec Ideal S8x1024 .f32} {C X G B Y K Wi Wo N D1 D2 O : ℕ → ℕ → ℝ}
  (H : Blk v0 v1 v2 v3 v4 v5 v6 v7 z C X G B Y K Wi Wo N D1 D2)
include H

theorem ld : Blk (View.ld v0 (Rect.unit ![0, 0] ![512, 1024] inb_S512x1024_S512x1024_0_0)) (View.ld v1 (Rect.unit ![0, 0] ![512, 1024] inb_S512x1024_S512x1024_0_0))
    (View.ld v2 (Rect.unit ![0, 0] ![1, 1024] inb_S1x1024_S1x1024_0_0)) (View.ld v3 (Rect.unit ![0, 0] ![512, 3072] inb_S512x3072_S512x3072_0_0))
    (View.ld v4 (Rect.unit ![0, 0] ![512, 1024] inb_S512x1024_S512x1024_0_0)) (View.ld v5 (Rect.unit ![0, 0] ![3, 1024] inb_S3x1024_S3x1024_0_0))
    (View.ld v6 (Rect.unit ![0, 0] ![1024, 3072] inb_S1024x3072_S1024x3072_0_0)) (View.ld v7 (Rect.unit ![0, 0] ![1024, 1024] inb_S1024x1024_S1024x1024_0_0))
    (View.ld z (Rect.unit ![0, 0] ![8, 1024] inb_S8x1024_S8x1024_0_0)) C X G B Y K Wi Wo N D1 D2 :=
  ⟨all H.e0, all H.e1, all H.e2, allb H.e3, all H.e4, all H.e5, allb H.e6, allb H.e7, all H.ez, H.a1, H.a2⟩

theorem d0 : Is2 (k0_pay17 (F := Ideal) (k0_pay10 v0 v7) (k0_pay13 v3)) (dy C B Wo) := pay17 (pay10 H.e0 H.e7) (pay13 H.e3)
theorem d1 : Is2 (k0_pay18 (F := Ideal) (k0_pay10 v0 v7) (k0_pay13 v3) (iota .tc S512x1024 32 [0] iota_S512x1024_d0_w32) z) D1 := (pay18 H.d0 H.ez).to fun v hv => H.a1 _ _ (hv 0)
theorem d2 : Is2 (k0_pay19 (F := Ideal) (k0_pay10 v0 v7) (k0_pay13 v3) (iota .tc S512x1024 32 [0] iota_S512x1024_d0_w32) z) D2 := (pay19 H.d0 H.ez).to fun v hv => H.a2 _ _ (hv 0)
theorem t0 : Is2 (k0_pay27 (F := Ideal) (k0_pay14 v3) v5 (k0_pay17 (F := Ideal) (k0_pay10 v0 v7) (k0_pay13 v3)) (k0_pay18 (F := Ideal) (k0_pay10 v0 v7) (k0_pay13 v3) (iota .tc S512x1024 32 [0] iota_S512x1024_d0_w32) z) (k0_pay19 (F := Ideal) (k0_pay10 v0 v7) (k0_pay13 v3) (iota .tc S512x1024 32 [0] iota_S512x1024_d0_w32) z)) fun i j => du K (dy C B Wo) D1 D2 i j * B i (2048 + j) := pay27 (pay14 H.e3) H.e5 H.d0 H.d1 H.d2
theorem t1 : Is2 (k0_pay28 (F := Ideal) (k0_pay16 (k0_pay10 v0 v7) v4)) (dc C Y Wo) := (pay16 (pay10 H.e0 H.e7) H.e4).trunc
theorem t2 : Is2 (k0_pay29 (F := Ideal) (k0_pay12 v3) v5 (k0_pay17 (F := Ideal) (k0_pay10 v0 v7) (k0_pay13 v3)) (k0_pay18 (F := Ideal) (k0_pay10 v0 v7) (k0_pay13 v3) (iota .tc S512x1024 32 [0] iota_S512x1024_d0_w32) z) (k0_pay19 (F := Ideal) (k0_pay10 v0 v7) (k0_pay13 v3) (iota .tc S512x1024 32 [0] iota_S512x1024_d0_w32) z)) fun i j => du K (dy C B Wo) D1 D2 i j * B i j := pay29 (pay12 H.e3) H.e5 H.d0 H.d1 H.d2
theorem dh {sp : Space} (v : View sig .tc sp S512x3072 .bf16) : Is2 (k0_pay30 (F := Ideal) (v.readCov (stored (k0_pay27 (F := Ideal) (k0_pay14 v3) v5 (k0_pay17 (F := Ideal) (k0_pay10 v0 v7) (k0_pay13 v3)) (k0_pay18 (F := Ideal) (k0_pay10 v0 v7) (k0_pay13 v3) (iota .tc S512x1024 32 [0] iota_S512x1024_d0_w32) z) (k0_pay19 (F := Ideal) (k0_pay10 v0 v7) (k0_pay13 v3) (iota .tc S512x1024 32 [0] iota_S512x1024_d0_w32) z)) (k0_pay28 (F := Ideal) (k0_pay16 (k0_pay10 v0 v7) v4)) (k0_pay29 (F := Ideal) (k0_pay12 v3) v5 (k0_pay17 (F := Ideal) (k0_pay10 v0 v7) (k0_pay13 v3)) (k0_pay18 (F := Ideal) (k0_pay10 v0 v7) (k0_pay13 v3) (iota .tc S512x1024 32 [0] iota_S512x1024_d0_w32) z) (k0_pay19 (F := Ideal) (k0_pay10 v0 v7) (k0_pay13 v3) (iota .tc S512x1024 32 [0] iota_S512x1024_d0_w32) z))) (Rect.unit (s := S512x3072) ![0, 0] ![512, 3072] inb_S512x3072_S512x3072_0_0).toLoadRect) v6) (dh C B Y K Wi Wo D1 D2) :=
  pay30 (thirds_read H.t0 H.t1 H.t2) H.e6

/-- The stores of the three taps' sums, the rows as they were before first. -/
theorem taps {sp : Space} {v : View sig .tc sp S8x1024 .f32} {f : v.ty.Contents (Elt Ideal)} {L : List (View.Piece (Elt Ideal) S8x1024 .f32)}
    {o0 o1 o2 : Vec Ideal S1x1024 .f32} (h0 : Is2 (m := 1) (n := 1024) o0 fun i k => O (0 + i) (0 + k)) (h1 : Is2 (m := 1) (n := 1024) o1 fun i k => O (1 + i) (0 + k))
    (h2 : Is2 (m := 1) (n := 1024) o2 fun i k => O (2 + i) (0 + k)) (hL : Is2 (m := 8) (n := 1024) (v.read (Elt Ideal) (v.writes (Elt Ideal) f L)) O) :
    Is2 (m := 8) (n := 1024) (v.read (Elt Ideal) (v.writes (Elt Ideal) f
      (⟨Rect.unit (s := S8x1024) ![2, 0] ![1, 1024] inb_S8x1024_S1x1024_2_0, k0_pay25 (F := Ideal) (k0_pay15 v3) (k0_pay17 (F := Ideal) (k0_pay10 v0 v7) (k0_pay13 v3)) o2⟩ ::
        ⟨Rect.unit (s := S8x1024) ![1, 0] ![1, 1024] inb_S8x1024_S1x1024_1_0, k0_pay24 (F := Ideal) (k0_pay22 o1) (k0_pay23 (k0_pay10 v0 v7) (k0_pay13 v3) (k0_pay15 v3) (iota .tc S512x1024 32 [0] iota_S512x1024_d0_w32) z)⟩ ::
        ⟨Rect.unit (s := S8x1024) ![0, 0] ![1, 1024] inb_S8x1024_S1x1024_0_0, k0_pay21 (F := Ideal) (k0_pay10 v0 v7) (k0_pay13 v3) (k0_pay15 v3) (iota .tc S512x1024 32 [0] iota_S512x1024_d0_w32) z o0⟩ :: L)))
      fun i k => O i k + taps C B Wo D1 D2 i k := by
  refine (is2_row (pay25 (pay15 H.e3) H.d0 h2) (is2_row (pay24 H.d1 (pay15 H.e3) h1) (is2_row (pay21 H.d2 (pay15 H.e3) h0) hL))).to fun v _ => key (v 0) (v 1)
where
  key (i k : ℕ) : (if i = 2 then O (2 + 0) (0 + k) + ∑ j ∈ Finset.range 512, dy C B Wo j k * arg B j k
      else if i = 1 then O (1 + 0) (0 + k) + ∑ j ∈ Finset.range 512, D1 j k * arg B j k
      else if i = 0 then O (0 + 0) (0 + k) + ∑ j ∈ Finset.range 512, D2 j k * arg B j k else O i k) = O i k + Conv.taps C B Wo D1 D2 i k := by
    unfold Conv.taps
    simp only [zero_add, add_zero]
    split <;> [skip; split <;> [skip; split]]
    all_goals first | (next h => rw [h]) | rw [add_zero]

/-- The same where the rows were nought. -/
theorem taps_nought {sp : Space} {v : View sig .tc sp S8x1024 .f32} {f : v.ty.Contents (Elt Ideal)} {L : List (View.Piece (Elt Ideal) S8x1024 .f32)}
    {o0 o1 o2 : Vec Ideal S1x1024 .f32} (h0 : Is2 (m := 1) (n := 1024) o0 fun _ _ => 0) (h1 : Is2 (m := 1) (n := 1024) o1 fun _ _ => 0)
    (h2 : Is2 (m := 1) (n := 1024) o2 fun _ _ => 0) (hL : Is2 (m := 8) (n := 1024) (v.read (Elt Ideal) (v.writes (Elt Ideal) f L)) fun _ _ => 0) :
    Is2 (m := 8) (n := 1024) (v.read (Elt Ideal) (v.writes (Elt Ideal) f
      (⟨Rect.unit (s := S8x1024) ![2, 0] ![1, 1024] inb_S8x1024_S1x1024_2_0, k0_pay25 (F := Ideal) (k0_pay15 v3) (k0_pay17 (F := Ideal) (k0_pay10 v0 v7) (k0_pay13 v3)) o2⟩ ::
        ⟨Rect.unit (s := S8x1024) ![1, 0] ![1, 1024] inb_S8x1024_S1x1024_1_0, k0_pay24 (F := Ideal) (k0_pay22 o1) (k0_pay23 (k0_pay10 v0 v7) (k0_pay13 v3) (k0_pay15 v3) (iota .tc S512x1024 32 [0] iota_S512x1024_d0_w32) z)⟩ ::
        ⟨Rect.unit (s := S8x1024) ![0, 0] ![1, 1024] inb_S8x1024_S1x1024_0_0, k0_pay21 (F := Ideal) (k0_pay10 v0 v7) (k0_pay13 v3) (k0_pay15 v3) (iota .tc S512x1024 32 [0] iota_S512x1024_d0_w32) z o0⟩ :: L)))
      (Conv.taps C B Wo D1 D2) :=
  (H.taps (O := fun _ _ => 0) h0 h1 h2 hL).to fun v _ => zero_add _

end Blk

variable {c : Dev nD} {i : grid0.Coords}
  {a1 : Memref sig .tc .vmem S512x1024 .f32} {h1 : a1.IsWhole}
  {a2 : Memref sig .tc .vmem S512x1024 .f32} {h2 : a2.IsWhole}
  {a3 : Memref sig .tc .vmem S1x1024 .f32} {h3 : a3.IsWhole}
  {a4 : Memref sig .tc .vmem S512x3072 .bf16} {h4 : a4.IsWhole}
  {a5 : Memref sig .tc .vmem S512x1024 .f32} {h5 : a5.IsWhole}
  {a6 : Memref sig .tc .vmem S3x1024 .f32} {h6 : a6.IsWhole}
  {a7 : Memref sig .tc .vmem S1024x3072 .bf16} {h7 : a7.IsWhole}
  {a8 : Memref sig .tc .vmem S1024x1024 .bf16} {h8 : a8.IsWhole}
  {a9 : Memref sig .tc .vmem S512x1024 .f32} {h9 : a9.IsWhole}
  {a10 : Memref sig .tc .vmem S512x3072 .bf16} {h10 : a10.IsWhole}
  {a11 : Memref sig .tc .vmem S512x1024 .bf16} {h11 : a11.IsWhole}
  {a12 : Memref sig .tc .vmem S512x1024 .bf16} {h12 : a12.IsWhole}
  {a13 : Memref sig .tc .vmem S8x1024 .f32} {h13 : a13.IsWhole}
  {a14 : Memref sig .tc .vmem S8x1024 .f32} {h14 : a14.IsWhole}
  {a15 : Memref sig .tc .vmem S8x1024 .f32} {h15 : a15.IsWhole}
  {x0 : Vec Ideal S512x1024 .f32} {x1 : Vec Ideal S512x1024 .f32} {x2 : Vec Ideal S1x1024 .f32} {x3 : Vec Ideal S512x3072 .bf16} {x4 : Vec Ideal S512x1024 .f32} {x5 : Vec Ideal S3x1024 .f32} {x6 : Vec Ideal S1024x3072 .bf16} {x7 : Vec Ideal S1024x1024 .bf16}
  {C X G B Y K Wi Wo N D1 D2 O O' : ℕ → ℕ → ℝ}

section Next
variable {hc0 : ¬ cond0_0 i} {hc1 : ¬ cond0_1 i} {xo12 xo13 xs0 : Vec Ideal S8x1024 .f32}
  (H : Blk x0 x1 x2 x3 x4 x5 x6 x7 xs0 C X G B Y K Wi Wo N D1 D2)
include H

/-- The input's gradient. -/
theorem outB_8 : Is2 (out0_B_8 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) (dx C X B Y K Wi Wo D1 D2 (G 0) eps) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0)]
  refine is2_canonf (cover0_B_8 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) ?_
  unfold kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread]
  exact ⟨Is2.piece (inb := inb_S512x1024_S512x1024_0_0) (pay5 H.ld.e0 (H.ld.dh _) H.ld.e1 H.ld.e2 |>.to fun v _ => by simp only [fn2, zero_add, Conv.dx]), trivial⟩

/-- The projection's gradient. -/
theorem outB_9 : Is2 (out0_B_9 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) (dproj C B Y K Wo D1 D2) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0)]
  refine is2_canonb (cover0_B_9 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) ?_
  unfold kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread]
  exact thirds H.ld.t0 H.ld.t1 H.ld.t2

/-- The normalised rows. -/
theorem outB_10 : Is2 (out0_B_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) (nrm eps X (G 0)) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0)]
  refine is2_canonb (cover0_B_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) ?_
  unfold kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread]
  exact ⟨Is2.piece (inb := inb_S512x1024_S512x1024_0_0) (pay2 H.ld.e1 H.ld.e2 |>.to fun v _ => by simp only [fn2, zero_add]), trivial⟩

/-- The result's gradient, narrowed. -/
theorem outB_11 : Is2 (out0_B_11 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) C := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0)]
  refine is2_canonb (cover0_B_11 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) ?_
  unfold kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread]
  exact ⟨Is2.piece (inb := inb_S512x1024_S512x1024_0_0) ((H.ld.e0.trunc : Is2 (k0_pay9 (F := Ideal) _) C) |>.to fun v _ => by simp only [fn2, zero_add]), trivial⟩

/-- The taps' gradients grow. -/
theorem outB_12 (ho : Is2 xo12 O) : Is2 (out0_B_12 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) fun i k => O i k + taps C B Wo D1 D2 i k := by
  unfold out0_B_12 kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread]
  refine H.ld.taps (O := O) ho.ld ho.ld ho.ld ?_
  rw [View.writes_nil, h13.read_unread]
  exact ho

/-- The gain's gradient grows. -/
theorem outB_13 (ho : Is2 xo13 O) : Is2 (out0_B_13 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) fun i k => O i k + gain C X B Y K Wi Wo D1 D2 eps i k := by
  unfold out0_B_13 kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread]
  refine (is2_row (r := 0) (pay4 (H.ld.dh _) H.ld.e1 (ho.ld (inb := inb_S8x1024_S1x1024_0_0))) (B := O) ?_).to fun v _ => gained O (v 0) (v 1)
  rw [View.writes_nil, h14.read_unread]
  exact ho
where
  gained (O : ℕ → ℕ → ℝ) (i k : ℕ) : (if i = 0 then O (0 + 0) (0 + k) + ∑ j ∈ Finset.range 512, dh C B Y K Wi Wo D1 D2 j k * xn eps X j k else O i k)
      = O i k + gain C X B Y K Wi Wo D1 D2 eps i k := by
    unfold gain
    simp only [zero_add, Nat.lt_one_iff]
    split
    · next h => rw [h]
    · rw [add_zero]

/-- The block's first rows are carried. -/
theorem soutB : Is2 (sout0_B_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) (dy C B Wo) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0)]
  refine is2_canonf (scover0_B_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13 xs0) ?_
  unfold kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread]
  exact ⟨Is2.piece (inb := inb_S8x1024_S8x1024_0_0) (pay20 H.ld.d0 |>.to fun v _ => by simp only [fn2, zero_add]), trivial⟩

end Next

/-- Read back of a filled array, the fill. -/
theorem refilled {sp : Space} (v : View sig .tc sp S8x1024 .f32) (inb) (Z : Vec Ideal S8x1024 .f32) (L) (r : Rect S8x1024) :
    v.readCov (Val := Elt Ideal) (⟨Rect.unit (s := S8x1024) ![0, 0] ![8, 1024] inb, Z⟩ :: L) r.toLoadRect = View.ld Z r :=
  View.readCov_fill _ _ _ _ _ fun a => by fin_cases a <;> rfl

/-- A row read past the stores of other rows. -/
theorem skipped {sp : Space} (v : View sig .tc sp S8x1024 .f32) {r r' : ℕ} (h : r' ≠ r) (inb) (inb') (Z : Vec Ideal S1x1024 .f32) (L) :
    v.readCov (Val := Elt Ideal) (⟨Rect.unit (s := S8x1024) ![r, 0] ![1, 1024] inb, Z⟩ :: L) (Rect.unit (s := S8x1024) ![r', 0] ![1, 1024] inb').toLoadRect
      = v.readCov (Val := Elt Ideal) L (Rect.unit (s := S8x1024) ![r', 0] ![1, 1024] inb').toLoadRect :=
  View.readCov_skip _ _ _ _ _ (decide_eq_true ⟨(0 : Fin 2), .inr (.inr (by
    show r + 1 * (1 - 1) < r' ∨ r' + 1 * (1 - 1) < r
    omega))⟩)

/-! At a sequence's end the carried rows are nought; else such a point is as another. -/

variable (i' : grid0.Coords) (hc0' : ¬ cond0_0 i') (hc1' : ¬ cond0_1 i') {xo12 xo13 : Vec Ideal S8x1024 .f32}

theorem outC_eq_8 {hc0 : ¬ cond0_0 i} {hc1 : cond0_1 i} : out0_C_8 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13
    = out0_B_8 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_C_8 out0_B_8 kernelRun0_C kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]

theorem outC_eq_9 {hc0 : ¬ cond0_0 i} {hc1 : cond0_1 i} : out0_C_9 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13
    = out0_B_9 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_C_9 out0_B_9 kernelRun0_C kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]

theorem outC_eq_10 {hc0 : ¬ cond0_0 i} {hc1 : cond0_1 i} : out0_C_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13
    = out0_B_10 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_C_10 out0_B_10 kernelRun0_C kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]

theorem outC_eq_11 {hc0 : ¬ cond0_0 i} {hc1 : cond0_1 i} : out0_C_11 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13
    = out0_B_11 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_C_11 out0_B_11 kernelRun0_C kernelRun0_B
  dsimp only

theorem outC_eq_12 {hc0 : ¬ cond0_0 i} {hc1 : cond0_1 i} : out0_C_12 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13
    = out0_B_12 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_C_12 out0_B_12 kernelRun0_C kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]

theorem outC_eq_13 {hc0 : ¬ cond0_0 i} {hc1 : cond0_1 i} : out0_C_13 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13
    = out0_B_13 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_C_13 out0_B_13 kernelRun0_C kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]

theorem outA_eq_8 {hc0 : cond0_0 i} {hc1 : cond0_1 i} : out0_A_8 c i a1 h1 a2 h2 a3 h3 a4 h4 a5 h5 a6 h6 a7 h7 a8 h8 a9 h9 a10 h10 a11 h11 a12 h12 a13 h13 a14 h14 a15 h15 hc0 hc1 x0 x1 x2 x3 x4 x5 x6 x7
    = out0_B_8 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_A_8 out0_B_8 kernelRun0_A kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]

theorem outA_eq_9 {hc0 : cond0_0 i} {hc1 : cond0_1 i} : out0_A_9 c i a1 h1 a2 h2 a3 h3 a4 h4 a5 h5 a6 h6 a7 h7 a8 h8 a9 h9 a10 h10 a11 h11 a12 h12 a13 h13 a14 h14 a15 h15 hc0 hc1 x0 x1 x2 x3 x4 x5 x6 x7
    = out0_B_9 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_A_9 out0_B_9 kernelRun0_A kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]

theorem outA_eq_10 {hc0 : cond0_0 i} {hc1 : cond0_1 i} : out0_A_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7
    = out0_B_10 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_A_10 out0_B_10 kernelRun0_A kernelRun0_B
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]

theorem outA_eq_11 {hc0 : cond0_0 i} {hc1 : cond0_1 i} : out0_A_11 c i a1 h1 a2 h2 a3 h3 a4 h4 a5 h5 a6 h6 a7 h7 a8 h8 a9 h9 a10 h10 a11 h11 a12 h12 a13 h13 a14 h14 a15 h15 hc0 hc1 x0 x1 x2 x3 x4 x5 x6 x7
    = out0_B_11 c i' a1 h1 a2 h2 a3 h3 a4 h4 a5 h5 a6 h6 a7 h7 a8 h8 a9 h9 a10 h10 a11 h11 a12 h12 a13 h13 a14 h14 a15 h15 hc0' hc1' x0 x1 x2 x3 x4 x5 x6 x7 xo12 xo13 (k0_pay8 (F := Ideal)) := by
  unfold out0_A_11 out0_B_11 kernelRun0_A kernelRun0_B
  dsimp only

section Last
variable (H : Blk x0 x1 x2 x3 x4 x5 x6 x7 (k0_pay8 (F := Ideal)) C X G B Y K Wi Wo N D1 D2)
include H

theorem soutC {hc0 : ¬ cond0_0 i} {hc1 : cond0_1 i} : Is2 (sout0_C_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 xo12 xo13) (dy C B Wo) := by
  unfold sout0_C_0 kernelRun0_C
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]
  exact is2_fill (inb := inb_S8x1024_S8x1024_0_0) (pay20 H.ld.d0)

theorem soutA {hc0 : cond0_0 i} {hc1 : cond0_1 i} : Is2 (sout0_A_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7) (dy C B Wo) := by
  unfold sout0_A_0 kernelRun0_A
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]
  exact is2_fill (inb := inb_S8x1024_S8x1024_0_0) (pay20 H.ld.d0)

/-- The first point starts the two sums. -/
theorem outA_12 {hc0 : cond0_0 i} {hc1 : cond0_1 i} : Is2 (out0_A_12 c i a1 h1 a2 h2 a3 h3 a4 h4 a5 h5 a6 h6 a7 h7 a8 h8 a9 h9 a10 h10 a11 h11 a12 h12 a13 h13 a14 h14 a15 h15 hc0 hc1 x0 x1 x2 x3 x4 x5 x6 x7) (taps C B Wo D1 D2) := by
  unfold out0_A_12 kernelRun0_A
  dsimp only
  sl_unfold_words
  simp only [View.readAt_eq_ld, h1.read_unread, h2.read_unread, h3.read_unread, h4.read_unread, h5.read_unread, h6.read_unread, h7.read_unread, h8.read_unread, h13.read_unread, h14.read_unread, h15.read_unread, skipped _ (by decide : (1 : ℕ) ≠ 0), skipped _ (by decide : (2 : ℕ) ≠ 0), skipped _ (by decide : (2 : ℕ) ≠ 1), refilled]
  refine H.ld.taps_nought nought6.ld nought6.ld nought6.ld ?_
  exact is2_fill (inb := inb_S8x1024_S8x1024_0_0) nought6

theorem outA_13 {hc0 : cond0_0 i} {hc1 : cond0_1 i} : Is2 (out0_A_13 c i a1 h1 a2 h2 a3 h3 a4 h4 a5 h5 a6 h6 a7 h7 a8 h8 a9 h9 a10 h10 a11 h11 a12 h12 a13 h13 a14 h14 a15 h15 hc0 hc1 x0 x1 x2 x3 x4 x5 x6 x7) (gain C X B Y K Wi Wo D1 D2 eps) := by
  unfold out0_A_13 kernelRun0_A
  dsimp only
  sl_unfold_words
  simp only [View.readAt_eq_ld, h1.read_unread, h2.read_unread, h3.read_unread, h4.read_unread, h5.read_unread, h6.read_unread, h7.read_unread, h8.read_unread, h13.read_unread, h14.read_unread, h15.read_unread, refilled]
  exact (is2_row (r := 0) (pay4 (H.ld.dh _) H.ld.e1 (nought7.ld (inb := inb_S8x1024_S1x1024_0_0))) (is2_fill (inb := inb_S8x1024_S8x1024_0_0) nought7)).to fun v _ =>
    (outB_13.gained (fun _ _ => 0) (v 0) (v 1)).trans (zero_add _)

end Last

end Cert.Kernel3Ideal.Bwd

end
-- ==== Proof.ConvArray.lean ====
/-
  The arrays the convolution's backward call leaves: the blocks of 512 rows are taken from the last to the first, the rows
  after a block carried to it within a sequence of four blocks.
-/
module

public import proofs.«01_k».proof.Proof.ConvBlock
public import Idealize.ShloMosaic.Lib.Pipeline.ValueKit

@[expose] public section

set_option maxRecDepth 16384

noncomputable section

namespace Cert.Math.Conv

/-- The block of 512 rows a point takes: the last for the first point. -/
def tile (t : ℕ) (A : ℕ → ℕ → ℝ) (i k : ℕ) : ℝ := A ((15 - t) * 512 + i) k

/-- The row `s` later in its sequence of 2048, nought past the end. -/
def later (s : ℕ) (A : ℕ → ℕ → ℝ) (i k : ℕ) : ℝ := if i % 2048 + s < 2048 then A (i + s) k else 0

/-- What a point is carried: nought at a sequence's end, else the first rows of the block after. -/
def carry (A : ℕ → ℕ → ℝ) (t i k : ℕ) : ℝ := if t % 4 = 0 then 0 else tile (t - 1) A i k

theorem ahead_tile (A : ℕ → ℕ → ℝ) {s t i : ℕ} (ht : t < 16) (hs : s ≤ 2) (hi : i < 512) (k : ℕ) :
    ahead s (tile t A) (carry A t) i k = tile t (later s A) i k := by
  unfold ahead carry tile later
  split
  · rw [if_pos (by omega), Nat.add_assoc]
  · split
    · rw [if_neg (by omega)]
    · rw [if_pos (by omega), show (15 - (t - 1)) * 512 + (i + s - 512) = (15 - t) * 512 + i + s by omega]

/-- The sum over the blocks is the sum over the rows. -/
theorem sum_tiles (f : ℕ → ℝ) : ∑ t ∈ Finset.range 16, ∑ j ∈ Finset.range 512, f ((15 - t) * 512 + j) = ∑ j ∈ Finset.range 8192, f j := by
  rw [Finset.sum_range_reflect (fun t => ∑ j ∈ Finset.range 512, f (t * 512 + j)) 16]
  exact blocks 16
where
  blocks : ∀ n : ℕ, ∑ t ∈ Finset.range n, ∑ j ∈ Finset.range 512, f (t * 512 + j) = ∑ j ∈ Finset.range (n * 512), f j
    | 0 => by simp
    | n + 1 => by rw [Finset.sum_range_succ, blocks n, Nat.add_mul, Nat.one_mul, Finset.sum_range_add]

variable (c x b y w wi wo d1 d2 : ℕ → ℕ → ℝ) (e : ℝ)

/-- The three taps' gradients in three rows, and the gain's in the first: sums over all rows. -/
def tapsAll (i k : ℕ) : ℝ :=
  if i = 2 then ∑ j ∈ Finset.range 8192, dy c b wo j k * arg b j k else if i = 1 then ∑ j ∈ Finset.range 8192, d1 j k * arg b j k
  else if i = 0 then ∑ j ∈ Finset.range 8192, d2 j k * arg b j k else 0
def gainAll (i k : ℕ) : ℝ := if i < 1 then ∑ j ∈ Finset.range 8192, dh c b y w wi wo d1 d2 j k * xn e x j k else 0

theorem sum_taps (i k : ℕ) : ∑ t ∈ Finset.range 16, taps (tile t c) (tile t b) wo (tile t d1) (tile t d2) i k = tapsAll c b wo d1 d2 i k := by
  unfold taps tapsAll
  split
  · exact sum_tiles fun j => dy c b wo j k * arg b j k
  · split
    · exact sum_tiles fun j => d1 j k * arg b j k
    · split
      · exact sum_tiles fun j => d2 j k * arg b j k
      · exact Finset.sum_const_zero
theorem sum_gain (i k : ℕ) : ∑ t ∈ Finset.range 16, gain (tile t c) (tile t x) (tile t b) (tile t y) w wi wo (tile t d1) (tile t d2) e i k
    = gainAll c x b y w wi wo d1 d2 e i k := by
  unfold gain gainAll
  split
  · exact sum_tiles fun j => dh c b y w wi wo d1 d2 j k * xn e x j k
  · exact Finset.sum_const_zero

end Cert.Math.Conv

namespace Cert.Kernel3Ideal.Bwd

open Cert.Math.Conv Cert.Kernel3Ideal Cert.Kernel3Ideal.Gen Cert.Reals Cert.Math Idealize.ShloMosaic Idealize.ShloMosaic.Tactic

variable (m : (ℓ : Loc nD τ sig) → Buf (Elt Ideal) ℓ) (c : Dev nD)

/-- The arrays the call reads hold these reals. -/
structure Ins (C X G B Y K Wi Wo : ℕ → ℕ → ℝ) : Prop where
  e0 : Is2 (m := 8192) (n := 1024) (V m c main_arg5) C
  e1 : Is2 (m := 8192) (n := 1024) (V m c main_arg0) X
  e2 : Is2 (m := 1) (n := 1024) (V m c main_arg1) G
  e3 : Is2 (m := 8192) (n := 3072) (V m c main_v40) B
  e4 : Is2 (m := 8192) (n := 1024) (V m c main_v39) Y
  e5 : Is2 (m := 3) (n := 1024) (V m c main_arg3) K
  e6 : Is2 (m := 1024) (n := 3072) (V m c main_v0) Wi
  e7 : Is2 (m := 1024) (n := 1024) (V m c main_v1) Wo

variable {C X G B Y K Wi Wo N : ℕ → ℕ → ℝ}

theorem at_ct (t : Fin cfg0.N) : win0_0.index t 0 = 15 - t.val ∧ win0_0.index t 1 = 0 :=
  (by decide +kernel : ∀ t : Fin grid0.N, win0_0.index t 0 = 15 - t.val ∧ win0_0.index t 1 = 0) t
theorem at_x (t : Fin cfg0.N) : win0_1.index t 0 = 15 - t.val ∧ win0_1.index t 1 = 0 :=
  (by decide +kernel : ∀ t : Fin grid0.N, win0_1.index t 0 = 15 - t.val ∧ win0_1.index t 1 = 0) t
theorem at_g (t : Fin cfg0.N) : win0_2.index t 0 = 0 ∧ win0_2.index t 1 = 0 :=
  (by decide +kernel : ∀ t : Fin grid0.N, win0_2.index t 0 = 0 ∧ win0_2.index t 1 = 0) t
theorem at_b (t : Fin cfg0.N) : win0_3.index t 0 = 15 - t.val ∧ win0_3.index t 1 = 0 :=
  (by decide +kernel : ∀ t : Fin grid0.N, win0_3.index t 0 = 15 - t.val ∧ win0_3.index t 1 = 0) t
theorem at_y (t : Fin cfg0.N) : win0_4.index t 0 = 15 - t.val ∧ win0_4.index t 1 = 0 :=
  (by decide +kernel : ∀ t : Fin grid0.N, win0_4.index t 0 = 15 - t.val ∧ win0_4.index t 1 = 0) t
theorem at_k (t : Fin cfg0.N) : win0_5.index t 0 = 0 ∧ win0_5.index t 1 = 0 :=
  (by decide +kernel : ∀ t : Fin grid0.N, win0_5.index t 0 = 0 ∧ win0_5.index t 1 = 0) t
theorem at_wi (t : Fin cfg0.N) : win0_6.index t 0 = 0 ∧ win0_6.index t 1 = 0 :=
  (by decide +kernel : ∀ t : Fin grid0.N, win0_6.index t 0 = 0 ∧ win0_6.index t 1 = 0) t
theorem at_wo (t : Fin cfg0.N) : win0_7.index t 0 = 0 ∧ win0_7.index t 1 = 0 :=
  (by decide +kernel : ∀ t : Fin grid0.N, win0_7.index t 0 = 0 ∧ win0_7.index t 1 = 0) t
theorem at_o8 (t : Fin cfg0.N) : win0_8.index t 0 = 15 - t.val ∧ win0_8.index t 1 = 0 :=
  (by decide +kernel : ∀ t : Fin grid0.N, win0_8.index t 0 = 15 - t.val ∧ win0_8.index t 1 = 0) t
theorem at_o9 (t : Fin cfg0.N) : win0_9.index t 0 = 15 - t.val ∧ win0_9.index t 1 = 0 :=
  (by decide +kernel : ∀ t : Fin grid0.N, win0_9.index t 0 = 15 - t.val ∧ win0_9.index t 1 = 0) t
theorem at_o10 (t : Fin cfg0.N) : win0_10.index t 0 = 15 - t.val ∧ win0_10.index t 1 = 0 :=
  (by decide +kernel : ∀ t : Fin grid0.N, win0_10.index t 0 = 15 - t.val ∧ win0_10.index t 1 = 0) t
theorem at_o11 (t : Fin cfg0.N) : win0_11.index t 0 = 15 - t.val ∧ win0_11.index t 1 = 0 :=
  (by decide +kernel : ∀ t : Fin grid0.N, win0_11.index t 0 = 15 - t.val ∧ win0_11.index t 1 = 0) t
theorem at_o12 (t : Fin cfg0.N) : win0_12.index t 0 = 0 ∧ win0_12.index t 1 = 0 :=
  (by decide +kernel : ∀ t : Fin grid0.N, win0_12.index t 0 = 0 ∧ win0_12.index t 1 = 0) t
theorem at_o13 (t : Fin cfg0.N) : win0_13.index t 0 = 0 ∧ win0_13.index t 1 = 0 :=
  (by decide +kernel : ∀ t : Fin grid0.N, win0_13.index t 0 = 0 ∧ win0_13.index t 1 = 0) t

theorem blk_ct (H : Ins m c C X G B Y K Wi Wo) (t : Fin cfg0.N) : Is2 (m := 512) (n := 1024) (iblk m c 0 t) (tile t.val C) := fun y => by
  blk_simp [iblk]
  refine (H.e0 _).trans ?_
  blk_simp
  exact coe_tile C (at_ct t).1 (at_ct t).2 512 1024 (y 0).val (y 1).val

theorem blk_x (H : Ins m c C X G B Y K Wi Wo) (t : Fin cfg0.N) : Is2 (m := 512) (n := 1024) (iblk m c 1 t) (tile t.val X) := fun y => by
  blk_simp [iblk]
  refine (H.e1 _).trans ?_
  blk_simp
  exact coe_tile X (at_x t).1 (at_x t).2 512 1024 (y 0).val (y 1).val

theorem blk_g (H : Ins m c C X G B Y K Wi Wo) (t : Fin cfg0.N) : Is2 (m := 1) (n := 1024) (iblk m c 2 t) G := fun y => by
  blk_simp [iblk]
  refine (H.e2 _).trans ?_
  blk_simp
  exact coe_whole G (at_g t).1 (at_g t).2 1 1024 (y 0).val (y 1).val

theorem blk_b (H : Ins m c C X G B Y K Wi Wo) (t : Fin cfg0.N) : Is2 (m := 512) (n := 3072) (iblk m c 3 t) (tile t.val B) := fun y => by
  blk_simp [iblk]
  refine (H.e3 _).trans ?_
  blk_simp
  exact coe_tile B (at_b t).1 (at_b t).2 512 3072 (y 0).val (y 1).val

theorem blk_y (H : Ins m c C X G B Y K Wi Wo) (t : Fin cfg0.N) : Is2 (m := 512) (n := 1024) (iblk m c 4 t) (tile t.val Y) := fun y => by
  blk_simp [iblk]
  refine (H.e4 _).trans ?_
  blk_simp
  exact coe_tile Y (at_y t).1 (at_y t).2 512 1024 (y 0).val (y 1).val

theorem blk_k (H : Ins m c C X G B Y K Wi Wo) (t : Fin cfg0.N) : Is2 (m := 3) (n := 1024) (iblk m c 5 t) K := fun y => by
  blk_simp [iblk]
  refine (H.e5 _).trans ?_
  blk_simp
  exact coe_whole K (at_k t).1 (at_k t).2 3 1024 (y 0).val (y 1).val

theorem blk_wi (H : Ins m c C X G B Y K Wi Wo) (t : Fin cfg0.N) : Is2 (m := 1024) (n := 3072) (iblk m c 6 t) Wi := fun y => by
  blk_simp [iblk]
  refine (H.e6 _).trans ?_
  blk_simp
  exact coe_whole Wi (at_wi t).1 (at_wi t).2 1024 3072 (y 0).val (y 1).val

theorem blk_wo (H : Ins m c C X G B Y K Wi Wo) (t : Fin cfg0.N) : Is2 (m := 1024) (n := 1024) (iblk m c 7 t) Wo := fun y => by
  blk_simp [iblk]
  refine (H.e7 _).trans ?_
  blk_simp
  exact coe_whole Wo (at_wo t).1 (at_wo t).2 1024 1024 (y 0).val (y 1).val

theorem covers_8 : (cfg0.win 8).Covers := by decide +kernel
theorem covers_9 : (cfg0.win 9).Covers := by decide +kernel
theorem covers_10 : (cfg0.win 10).Covers := by decide +kernel
theorem covers_11 : (cfg0.win 11).Covers := by decide +kernel
theorem covers_12 : (cfg0.win 12).Covers := by decide +kernel
theorem covers_13 : (cfg0.win 13).Covers := by decide +kernel
theorem last_12 : ∀ t : Fin cfg0.N, (cfg0.win 12).flush t = true → t.val = 15 :=
  (by decide +kernel : ∀ t : Fin grid0.N, win0_12.flush t = true → t.val = 15)
theorem last_13 : ∀ t : Fin cfg0.N, (cfg0.win 13).flush t = true → t.val = 15 :=
  (by decide +kernel : ∀ t : Fin grid0.N, win0_13.flush t = true → t.val = 15)

/-- A point within a sequence. -/
abbrev mid : Fin cfg0.N := ⟨1, by decide⟩
theorem mid0 : ¬ cond0_0 (grid0.coords mid) := fun h => absurd ((hcond0_0 mid).mp h) (by decide)
theorem mid1 : ¬ cond0_1 (grid0.coords mid) := fun h => absurd ((hcond0_1 mid).mp h) (by decide)

/-- A point's blocks, with what it is carried. -/
theorem Ins.blk (H : Ins m c C X G B Y K Wi Wo) (t : Fin cfg0.N) {z : Vec Ideal S8x1024 .f32} (hz : Is2 z (carry (dy C B Wo) t.val)) :
    Blk (iblk m c 0 t) (iblk m c 1 t) (iblk m c 2 t) (iblk m c 3 t) (iblk m c 4 t) (iblk m c 5 t) (iblk m c 6 t) (iblk m c 7 t) z
      (tile t.val C) (tile t.val X) G (tile t.val B) (tile t.val Y) K Wi Wo (carry (dy C B Wo) t.val) (tile t.val (later 1 (dy C B Wo))) (tile t.val (later 2 (dy C B Wo))) :=
  ⟨blk_ct m c H t, blk_x m c H t, blk_g m c H t, blk_b m c H t, blk_y m c H t, blk_k m c H t, blk_wi m c H t, blk_wo m c H t, hz,
    fun i k hi => ahead_tile (dy C B Wo) (show t.val < 16 from t.isLt) (by decide) hi k, fun i k hi => ahead_tile (dy C B Wo) (show t.val < 16 from t.isLt) (by decide) hi k⟩

/-- What a point leaves: its rows of four results, the two sums so far, and the first rows carried on. -/
def Holds (C X G B Y K Wi Wo S12 S13 : ℕ → ℕ → ℝ) (t : ℕ)
    (o : Vec Ideal S512x1024 .f32 × Vec Ideal S512x3072 .bf16 × Vec Ideal S512x1024 .bf16 × Vec Ideal S512x1024 .bf16 × Vec Ideal S8x1024 .f32 × Vec Ideal S8x1024 .f32 × Vec Ideal S8x1024 .f32) : Prop :=
  Is2 o.1 (tile t (dx C X B Y K Wi Wo (later 1 (dy C B Wo)) (later 2 (dy C B Wo)) (G 0) eps))
    ∧ Is2 o.2.1 (tile t (dproj C B Y K Wo (later 1 (dy C B Wo)) (later 2 (dy C B Wo)))) ∧ Is2 o.2.2.1 (tile t (nrm eps X (G 0))) ∧ Is2 o.2.2.2.1 (tile t C)
    ∧ Is2 o.2.2.2.2.1 S12 ∧ Is2 o.2.2.2.2.2.1 S13 ∧ Is2 o.2.2.2.2.2.2 (tile t (dy C B Wo))

/-- What a point's rows add to the two sums. -/
def tapsAt (C B Wo : ℕ → ℕ → ℝ) (t : ℕ) : ℕ → ℕ → ℝ :=
  taps (tile t C) (tile t B) Wo (tile t (later 1 (dy C B Wo))) (tile t (later 2 (dy C B Wo)))
def gainAt (C X B Y K Wi Wo : ℕ → ℕ → ℝ) (t : ℕ) : ℕ → ℕ → ℝ :=
  gain (tile t C) (tile t X) (tile t B) (tile t Y) K Wi Wo (tile t (later 1 (dy C B Wo))) (tile t (later 2 (dy C B Wo))) eps

variable (H : Ins m c C X G B Y K Wi Wo)
include H

theorem nought_carried (t : ℕ) (h : t % 4 = 0) : Is2 (k0_pay8 (F := Ideal)) (carry (dy C B Wo) t) :=
  nought8.to fun v _ => (if_pos h).symm

theorem point_A (t : Fin cfg0.N) (h0 : t.val % 16 = 0) (h1 : t.val % 4 = 0) :
    Holds C X G B Y K Wi Wo (tapsAt C B Wo t.val) (gainAt C X B Y K Wi Wo t.val) t.val (outsAt0 m c t.val t.isLt) := by
  have hb := H.blk m c t (nought_carried m c H t.val h1)
  rw [outsAt0_A m c t h0 h1]
  unfold Holds
  dsimp only
  rw [outA_eq_8 (grid0.coords mid) mid0 mid1 (xo12 := k0_pay8 (F := Ideal)) (xo13 := k0_pay8 (F := Ideal)),
    outA_eq_9 (grid0.coords mid) mid0 mid1 (xo12 := k0_pay8 (F := Ideal)) (xo13 := k0_pay8 (F := Ideal)),
    outA_eq_10 (grid0.coords mid) mid0 mid1 (xo12 := k0_pay8 (F := Ideal)) (xo13 := k0_pay8 (F := Ideal)),
    outA_eq_11 (grid0.coords mid) mid0 mid1 (xo12 := k0_pay8 (F := Ideal)) (xo13 := k0_pay8 (F := Ideal))]
  exact ⟨(outB_8 hb).to fun v _ => rfl, (outB_9 hb).to fun v _ => rfl, (outB_10 hb).to fun v _ => rfl, outB_11 hb,
    outA_12 hb, outA_13 hb, (soutA hb).to fun v _ => rfl⟩

theorem point_B (t : Fin cfg0.N) (h0 : ¬ t.val % 16 = 0) (h1 : ¬ t.val % 4 = 0) {S12 S13 : ℕ → ℕ → ℝ}
    (hp : Holds C X G B Y K Wi Wo S12 S13 (t.val - 1) (outsAt0 m c (t.val - 1) (Nat.lt_of_le_of_lt (Nat.sub_le _ _) t.isLt))) :
    Holds C X G B Y K Wi Wo (fun i k => S12 i k + tapsAt C B Wo t.val i k) (fun i k => S13 i k + gainAt C X B Y K Wi Wo t.val i k) t.val (outsAt0 m c t.val t.isLt) := by
  obtain ⟨-, -, -, -, p12, p13, ps⟩ := hp
  have hb := H.blk m c t (ps.to fun v _ => (if_neg h1).symm)
  rw [outsAt0_B m c t h0 h1]
  unfold Holds
  dsimp only
  exact ⟨(outB_8 hb).to fun v _ => rfl, (outB_9 hb).to fun v _ => rfl, (outB_10 hb).to fun v _ => rfl, outB_11 hb,
    outB_12 hb p12, outB_13 hb p13, (soutB hb).to fun v _ => rfl⟩

theorem point_C (t : Fin cfg0.N) (h0 : ¬ t.val % 16 = 0) (h1 : t.val % 4 = 0) {S12 S13 : ℕ → ℕ → ℝ}
    (hp : Holds C X G B Y K Wi Wo S12 S13 (t.val - 1) (outsAt0 m c (t.val - 1) (Nat.lt_of_le_of_lt (Nat.sub_le _ _) t.isLt))) :
    Holds C X G B Y K Wi Wo (fun i k => S12 i k + tapsAt C B Wo t.val i k) (fun i k => S13 i k + gainAt C X B Y K Wi Wo t.val i k) t.val (outsAt0 m c t.val t.isLt) := by
  obtain ⟨-, -, -, -, p12, p13, -⟩ := hp
  have hb := H.blk m c t (nought_carried m c H t.val h1)
  rw [outsAt0_C m c t h0 h1]
  unfold Holds
  dsimp only
  rw [outC_eq_8 (grid0.coords mid) mid0 mid1, outC_eq_9 (grid0.coords mid) mid0 mid1,
    outC_eq_10 (grid0.coords mid) mid0 mid1, outC_eq_11 (grid0.coords mid) mid0 mid1,
    outC_eq_12 (grid0.coords mid) mid0 mid1, outC_eq_13 (grid0.coords mid) mid0 mid1]
  exact ⟨(outB_8 hb).to fun v _ => rfl, (outB_9 hb).to fun v _ => rfl, (outB_10 hb).to fun v _ => rfl, outB_11 hb,
    outB_12 hb p12, outB_13 hb p13, (soutC hb).to fun v _ => rfl⟩

/-- After point `n`: the sums over the points so far. -/
theorem holds : ∀ (n : ℕ) (h : n < cfg0.N), Holds C X G B Y K Wi Wo (fun i k => ∑ t ∈ Finset.range (n + 1), tapsAt C B Wo t i k)
    (fun i k => ∑ t ∈ Finset.range (n + 1), gainAt C X B Y K Wi Wo t i k) n (outsAt0 m c n h)
  | 0, h => by
    simp only [Nat.zero_add, Finset.sum_range_one]
    exact point_A m c H ⟨0, h⟩ rfl rfl
  | n + 1, h => by
    have hn : n + 1 < 16 := h
    have h0 : ¬ (n + 1) % 16 = 0 := by omega
    simp only [Finset.sum_range_succ _ (n + 1)]
    by_cases h1 : (n + 1) % 4 = 0
    · exact point_C m c H ⟨n + 1, h⟩ h0 h1 (holds n (Nat.lt_of_succ_lt h))
    · exact point_B m c H ⟨n + 1, h⟩ h0 h1 (holds n (Nat.lt_of_succ_lt h))

/-- The input's gradient. -/
theorem arr_8 : Is2 (m := 8192) (n := 1024) ((dats m 0 c).arrAt 8 cfg0.N) (dx C X B Y K Wi Wo (later 1 (dy C B Wo)) (later 2 (dy C B Wo)) (G 0) eps) :=
  (dats m 0 c).arrAt_forall_of_covers 8 (fun i v => v = ((fn2 (dx C X B Y K Wi Wo (later 1 (dy C B Wo)) (later 2 (dy C B Wo)) (G 0) eps) fun a => (i a).val : ℝ) : EReal)) covers_8 fun t hf y => by
    blk_simp
    rw [after0_8]
    exact ((holds m c H t.val t.isLt).1 y).trans (coe_tile (dx C X B Y K Wi Wo (later 1 (dy C B Wo)) (later 2 (dy C B Wo)) (G 0) eps) (at_o8 t).1 (at_o8 t).2 512 1024 (y 0).val (y 1).val).symm

/-- The projection's gradient. -/
theorem arr_9 : Is2 (m := 8192) (n := 3072) ((dats m 0 c).arrAt 9 cfg0.N) (dproj C B Y K Wo (later 1 (dy C B Wo)) (later 2 (dy C B Wo))) :=
  (dats m 0 c).arrAt_forall_of_covers 9 (fun i v => v = ((fn2 (dproj C B Y K Wo (later 1 (dy C B Wo)) (later 2 (dy C B Wo))) fun a => (i a).val : ℝ) : EReal)) covers_9 fun t hf y => by
    blk_simp
    rw [after0_9]
    exact ((holds m c H t.val t.isLt).2.1 y).trans (coe_tile (dproj C B Y K Wo (later 1 (dy C B Wo)) (later 2 (dy C B Wo))) (at_o9 t).1 (at_o9 t).2 512 3072 (y 0).val (y 1).val).symm

/-- The normalised rows. -/
theorem arr_10 : Is2 (m := 8192) (n := 1024) ((dats m 0 c).arrAt 10 cfg0.N) (nrm eps X (G 0)) :=
  (dats m 0 c).arrAt_forall_of_covers 10 (fun i v => v = ((fn2 (nrm eps X (G 0)) fun a => (i a).val : ℝ) : EReal)) covers_10 fun t hf y => by
    blk_simp
    rw [after0_10]
    exact ((holds m c H t.val t.isLt).2.2.1 y).trans (coe_tile (nrm eps X (G 0)) (at_o10 t).1 (at_o10 t).2 512 1024 (y 0).val (y 1).val).symm

/-- The result's gradient, narrowed. -/
theorem arr_11 : Is2 (m := 8192) (n := 1024) ((dats m 0 c).arrAt 11 cfg0.N) C :=
  (dats m 0 c).arrAt_forall_of_covers 11 (fun i v => v = ((fn2 C fun a => (i a).val : ℝ) : EReal)) covers_11 fun t hf y => by
    blk_simp
    rw [after0_11]
    exact ((holds m c H t.val t.isLt).2.2.2.1 y).trans (coe_tile C (at_o11 t).1 (at_o11 t).2 512 1024 (y 0).val (y 1).val).symm

/-- The taps' gradients: sums over all rows. -/
theorem arr_12 : Is2 (m := 8) (n := 1024) ((dats m 0 c).arrAt 12 cfg0.N) (tapsAll C B Wo (later 1 (dy C B Wo)) (later 2 (dy C B Wo))) :=
  (dats m 0 c).arrAt_forall_of_covers 12 (fun i v => v = ((fn2 (tapsAll C B Wo (later 1 (dy C B Wo)) (later 2 (dy C B Wo))) fun a => (i a).val : ℝ) : EReal)) covers_12 fun t hf y => by
    blk_simp
    rw [after0_12]
    refine ((holds m c H t.val t.isLt).2.2.2.2.1 y).trans ?_
    rw [last_12 t hf]
    exact (congrArg (fun r : ℝ => (r : EReal)) (sum_taps C B Wo _ _ (y 0).val (y 1).val)).trans (coe_whole (tapsAll C B Wo (later 1 (dy C B Wo)) (later 2 (dy C B Wo))) (at_o12 t).1 (at_o12 t).2 8 1024 (y 0).val (y 1).val).symm

/-- The gain's gradient: a sum over all rows. -/
theorem arr_13 : Is2 (m := 8) (n := 1024) ((dats m 0 c).arrAt 13 cfg0.N) (gainAll C X B Y K Wi Wo (later 1 (dy C B Wo)) (later 2 (dy C B Wo)) eps) :=
  (dats m 0 c).arrAt_forall_of_covers 13 (fun i v => v = ((fn2 (gainAll C X B Y K Wi Wo (later 1 (dy C B Wo)) (later 2 (dy C B Wo)) eps) fun a => (i a).val : ℝ) : EReal)) covers_13 fun t hf y => by
    blk_simp
    rw [after0_13]
    refine ((holds m c H t.val t.isLt).2.2.2.2.2.1 y).trans ?_
    rw [last_13 t hf]
    exact (congrArg (fun r : ℝ => (r : EReal)) (sum_gain C X B Y K Wi Wo _ _ eps (y 0).val (y 1).val)).trans (coe_whole (gainAll C X B Y K Wi Wo (later 1 (dy C B Wo)) (later 2 (dy C B Wo)) eps) (at_o13 t).1 (at_o13 t).2 8 1024 (y 0).val (y 1).val).symm

end Cert.Kernel3Ideal.Bwd

end
-- ==== Proof.ConvShapes.lean ====
/-
  Four sequences of 2048 rows each: the rows one or two back, padding and trimming, a tap along every row, and sums over all
  rows. `IsQ X A`: the array `X`, taken apart into sequences, holds the table `A` of all 8192 rows.
-/
module

public import proofs.«01_k».proof.Proof.RGen

@[expose] public section

set_option maxRecDepth 16384

noncomputable section

namespace Cert.Math.Conv

/-- `U`, `s` rows back, zero before its sequence begins. -/
def earlier (s : ℕ) (U : ℕ → ℕ → ℝ) (i k : ℕ) : ℝ := if i % 2048 < s then 0 else U (i - s) k

/-- The causal convolution by three taps `K`. -/
def conv (K U : ℕ → ℕ → ℝ) (i k : ℕ) : ℝ := K 0 k * earlier 2 U i k + K 1 k * earlier 1 U i k + K 2 k * U i k

end Cert.Math.Conv

namespace Cert.Reals

open Idealize.ShloMosaic Cert.Math.Conv
open scoped BigOperators
open Finset (range)

abbrev IsQ (X : (⟨3, ![4, 2048, 1024]⟩ : Shape).Idx → EReal) (A : ℕ → ℕ → ℝ) : Prop := Is X fun v => A (2048 * v 0 + v 1) (v 2)

variable {A : ℕ → ℕ → ℝ}

theorem Is2.opened {X : (⟨2, ![8192, 1024]⟩ : Shape).Idx → EReal} (h : Is2 X A) {hc : (⟨2, ![8192, 1024]⟩ : Shape).ShapeCasts ⟨3, ![4, 2048, 1024]⟩} :
    IsQ (shapeCast ⟨3, ![4, 2048, 1024]⟩ X hc) A :=
  h.reads (fun i a => match a with
    | ⟨0, _⟩ => ⟨2048 * (i 0).val + (i 1).val, by have h0 : (i 0).val < 4 := (i 0).isLt; have h1 : (i 1).val < 2048 := (i 1).isLt; show _ < 8192; omega⟩
    | ⟨1, _⟩ => ⟨(i 2).val, (i 2).isLt⟩) (fun i => shapeCast_apply X _ i _ (by
      rewrite [Shape.rowMajor_val_two, Shape.rowMajor_val_three]
      show (2048 * (i 0).val + (i 1).val) * 1024 + (i 2).val = ((i 0).val * 2048 + (i 1).val) * 1024 + (i 2).val
      omega)) fun i => rfl

theorem IsQ.closed {X : (⟨3, ![4, 2048, 1024]⟩ : Shape).Idx → EReal} (h : IsQ X A) {hc : (⟨3, ![4, 2048, 1024]⟩ : Shape).ShapeCasts ⟨2, ![8192, 1024]⟩} :
    Is2 (m := 8192) (n := 1024) (shapeCast ⟨2, ![8192, 1024]⟩ X hc) A := fun i => by
  have h0 : (i 0).val < 8192 := (i 0).isLt
  rw [shapeCast_apply X hc i
    (fun a => match a with | ⟨0, _⟩ => ⟨(i 0).val / 2048, show _ < 4 by omega⟩ | ⟨1, _⟩ => ⟨(i 0).val % 2048, show _ < 2048 by omega⟩ | ⟨2, _⟩ => ⟨(i 1).val, (i 1).isLt⟩) (by
      rewrite [Shape.rowMajor_val_three, Shape.rowMajor_val_two]
      show ((i 0).val / 2048 * 2048 + (i 0).val % 2048) * 1024 + (i 1).val = (i 0).val * 1024 + (i 1).val
      omega), h]
  show ((A (2048 * ((i 0).val / 2048) + (i 0).val % 2048) (i 1).val : ℝ) : EReal) = ((A (i 0).val (i 1).val : ℝ) : EReal)
  rw [Nat.div_add_mod]

/-- Two rows of zeros before each sequence, then its first 2048 rows, or those one or two later. -/
theorem IsQ.behind {X : (⟨3, ![4, 2048, 1024]⟩ : Shape).Idx → EReal} (h : IsQ X A) {Z : (⟨3, ![4, 2, 1024]⟩ : Shape).Idx → EReal} (hz : ∀ i, Z i = ((0 : ℝ) : EReal))
    (o s : ℕ) (ho : o + s = 2) {hc : Shape.Concatenates [⟨3, ![4, 2, 1024]⟩, ⟨3, ![4, 2048, 1024]⟩] ⟨3, ![4, 2050, 1024]⟩ 1}
    {hs : (⟨3, ![4, 2050, 1024]⟩ : Shape).Slices ![0, o, 0] ⟨3, ![4, 2048, 1024]⟩} :
    IsQ (extractStridedSlice ⟨3, ![4, 2048, 1024]⟩ ![0, o, 0] (concatenate ⟨3, ![4, 2050, 1024]⟩ 1 [⟨⟨3, ![4, 2, 1024]⟩, Z⟩, ⟨⟨3, ![4, 2048, 1024]⟩, X⟩] hc) hs)
      (earlier s A) := fun i => by
  have h1 : (i 1).val < 2048 := (i 1).isLt
  rw [extractStridedSlice_apply _ _ hs i
    (fun a => match a with | ⟨0, _⟩ => ⟨(i 0).val, (i 0).isLt⟩ | ⟨1, _⟩ => ⟨o + (i 1).val, show _ < 2050 by omega⟩ | ⟨2, _⟩ => ⟨(i 2).val, (i 2).isLt⟩)
    (fun a => match a with
      | ⟨0, _⟩ => show (i 0).val = 0 + (i 0).val by omega
      | ⟨1, _⟩ => show o + (i 1).val = o + (i 1).val from rfl
      | ⟨2, _⟩ => show (i 2).val = 0 + (i 2).val by omega)]
  show _ = ((earlier s A (2048 * (i 0).val + (i 1).val) (i 2).val : ℝ) : EReal)
  unfold earlier
  by_cases hlt : (i 1).val < s
  · rw [if_pos (by omega), concatenate_pair_apply_left 1 Z X hc _ rfl
      (fun a => match a with | ⟨0, _⟩ => ⟨(i 0).val, (i 0).isLt⟩ | ⟨1, _⟩ => ⟨o + (i 1).val, show _ < 2 by omega⟩ | ⟨2, _⟩ => ⟨(i 2).val, (i 2).isLt⟩)
      (fun b => match b with | ⟨0, _⟩ => rfl | ⟨1, _⟩ => rfl | ⟨2, _⟩ => rfl)]
    exact hz _
  · rw [if_neg (by omega)]
    refine Eq.trans (concatenate_pair_apply_right 1 Z X hc _ rfl rfl
      (fun a => match a with | ⟨0, _⟩ => ⟨(i 0).val, (i 0).isLt⟩ | ⟨1, _⟩ => ⟨o + (i 1).val - 2, show _ < 2048 by omega⟩ | ⟨2, _⟩ => ⟨(i 2).val, (i 2).isLt⟩)
      (by exact fun b hb => match b with | ⟨0, _⟩ => rfl | ⟨1, _⟩ => absurd rfl hb | ⟨2, _⟩ => rfl)
      (by show o + (i 1).val - 2 + 2 = o + (i 1).val; omega)) ?_
    rw [h]
    show ((A (2048 * (i 0).val + (o + (i 1).val - 2)) (i 2).val : ℝ) : EReal) = ((A (2048 * (i 0).val + (i 1).val - s) (i 2).val : ℝ) : EReal)
    rw [show 2048 * (i 0).val + (o + (i 1).val - 2) = 2048 * (i 0).val + (i 1).val - s by omega]

/-- A tap: one row along every row of every sequence. -/
theorem Is2.along {X : (⟨2, ![1, 1024]⟩ : Shape).Idx → EReal} (h : Is2 X A) {hb : (⟨2, ![1, 1024]⟩ : Shape).BroadcastsInDim ⟨3, ![1, 1, 1024]⟩ ![1, 2]}
    {hb' : (⟨3, ![1, 1, 1024]⟩ : Shape).BroadcastsInDim ⟨3, ![4, 2048, 1024]⟩ ![0, 1, 2]} :
    IsQ (broadcastInDim ⟨3, ![4, 2048, 1024]⟩ ![0, 1, 2] hb' (broadcastInDim ⟨3, ![1, 1, 1024]⟩ ![1, 2] hb X)) fun _ k => A 0 k :=
  h.reads (fun i a => match a with
    | ⟨0, _⟩ => ⟨0, Nat.one_pos⟩
    | ⟨1, _⟩ => ⟨(i 2).val, (i 2).isLt⟩) (fun i => (broadcastInDim_apply _ hb' (broadcastInDim ⟨3, ![1, 1, 1024]⟩ ![1, 2] hb X) i (fun a => match a with
      | ⟨0, _⟩ => ⟨0, Nat.one_pos⟩ | ⟨1, _⟩ => ⟨0, Nat.one_pos⟩ | ⟨2, _⟩ => ⟨(i 2).val, (i 2).isLt⟩)
      fun a => match a with | ⟨0, _⟩ => rfl | ⟨1, _⟩ => rfl | ⟨2, _⟩ => rfl).trans (broadcastInDim_apply _ hb X _ _ fun a => match a with
    | ⟨0, _⟩ => rfl | ⟨1, _⟩ => rfl)) fun i => rfl

/-- Two rows of zeros about each sequence, `lo` before and `hi` after. -/
theorem IsQ.padded {X : (⟨3, ![4, 2048, 1024]⟩ : Shape).Idx → EReal} (h : IsQ X A) {u : Shape} {z : u.Idx → EReal} (hz : ∀ i, z i = ((0 : ℝ) : EReal)) (lo hi : ℕ)
    {hp : (⟨3, ![4, 2048, 1024]⟩ : Shape).Pads ![0, lo, 0] ![0, hi, 0] ![0, 0, 0] ⟨3, ![4, 2050, 1024]⟩} {hu : 0 < u.numel} :
    Is (S := ⟨3, ![4, 2050, 1024]⟩) (pad ⟨3, ![4, 2050, 1024]⟩ ![0, lo, 0] ![0, hi, 0] ![0, 0, 0] X z hp hu)
      fun v => if lo ≤ v 1 ∧ v 1 < lo + 2048 then A (2048 * v 0 + (v 1 - lo)) (v 2) else 0 := fun i => by
  show _ = ((if lo ≤ (i 1).val ∧ (i 1).val < lo + 2048 then A (2048 * (i 0).val + ((i 1).val - lo)) (i 2).val else 0 : ℝ) : EReal)
  by_cases h1 : lo ≤ (i 1).val ∧ (i 1).val < lo + 2048
  · rw [if_pos h1, pad_apply_of_inside ![0, lo, 0] ![0, hi, 0] ![0, 0, 0] X z _ _ i
      (fun a => match a with | ⟨0, _⟩ => ⟨(i 0).val, (i 0).isLt⟩ | ⟨1, _⟩ => ⟨(i 1).val - lo, show _ < 2048 by omega⟩ | ⟨2, _⟩ => ⟨(i 2).val, (i 2).isLt⟩)
      (fun a => match a with
        | ⟨0, _⟩ => show (i 0).val = 0 + (i 0).val * 1 by omega
        | ⟨1, _⟩ => show (i 1).val = lo + ((i 1).val - lo) * 1 by omega
        | ⟨2, _⟩ => show (i 2).val = 0 + (i 2).val * 1 by omega), h]
  · rw [if_neg h1, pad_apply_of_not_inside ![0, lo, 0] ![0, hi, 0] ![0, 0, 0] X z _ _ i 1 (fun hc => h1 (by
      have h2 : lo ≤ (i 1).val := hc.1
      have h3 : ((i 1).val - lo) / 1 < 2048 := hc.2.2
      omega))]
    exact hz _

/-- The two rows before each sequence left out. -/
theorem Is.trimmed {X : (⟨3, ![4, 2050, 1024]⟩ : Shape).Idx → EReal} {f : (Fin 3 → ℕ) → ℝ} (h : Is X f)
    {hs : (⟨3, ![4, 2050, 1024]⟩ : Shape).Slices ![0, 2, 0] ⟨3, ![4, 2048, 1024]⟩} :
    Is (S := ⟨3, ![4, 2048, 1024]⟩) (extractStridedSlice ⟨3, ![4, 2048, 1024]⟩ ![0, 2, 0] X hs) fun v => f ![v 0, 2 + v 1, v 2] := fun i => by
  have h1 : (i 1).val < 2048 := (i 1).isLt
  rw [extractStridedSlice_apply _ _ hs i
    (fun a => match a with | ⟨0, _⟩ => ⟨(i 0).val, (i 0).isLt⟩ | ⟨1, _⟩ => ⟨2 + (i 1).val, show _ < 2050 by omega⟩ | ⟨2, _⟩ => ⟨(i 2).val, (i 2).isLt⟩)
    (fun a => match a with
      | ⟨0, _⟩ => show (i 0).val = 0 + (i 0).val by omega
      | ⟨1, _⟩ => show 2 + (i 1).val = 2 + (i 1).val from rfl
      | ⟨2, _⟩ => show (i 2).val = 0 + (i 2).val by omega), h]
  exact congrArg (fun v => ((f v : ℝ) : EReal)) (funext fun a => match a with | ⟨0, _⟩ => rfl | ⟨1, _⟩ => rfl | ⟨2, _⟩ => rfl)

/-- The sum over the first two of three axes. -/
theorem Is.sum2 {p q n : ℕ} {X : (⟨3, ![p, q, n]⟩ : Shape).Idx → EReal} {f : (Fin 3 → ℕ) → ℝ} (hX : Is X f) {u : Shape} {init : u.Idx → EReal}
    {h : (⟨3, ![p, q, n]⟩ : Shape).ReducesTo [0, 1] ⟨1, ![n]⟩} {hu : 0 < u.numel} (h0 : ∀ i, init i = ((0 : ℝ) : EReal)) :
    Is1 (m := n) (Host.reduceAdd (F := Ideal) (φ := .f32) (axes := [0, 1]) (t := ⟨1, ![n]⟩) X init h hu)
      fun k => ∑ a ∈ range p, ∑ b ∈ range q, f ![a, b, k] := fun j => by
  show Ideal.hostReduceAdd h X (init (Shape.Idx.first hu)) j = _
  unfold Ideal.hostReduceAdd
  have fib : ∀ i, h.drop i = j ↔ ∃ k : Fin p × Fin q, (fun a => match a with
      | ⟨0, _⟩ => k.1 | ⟨1, _⟩ => k.2 | ⟨2, _⟩ => ⟨(j 0).val, (j 0).isLt⟩ : (⟨3, ![p, q, n]⟩ : Shape).Idx) = i := by
    intro i
    constructor
    · intro e
      refine ⟨(i 0, i 1), funext fun a => Fin.ext ?_⟩
      match a with
      | ⟨0, _⟩ => rfl
      | ⟨1, _⟩ => rfl
      | ⟨2, _⟩ => exact (congrArg Fin.val (congrFun e 0)).symm
    · rintro ⟨k, rfl⟩
      refine funext fun b => Fin.ext ?_
      match b with
      | ⟨0, _⟩ => rfl
  rw [Finset.sum_filter_eq_sum_of_fiber (fun i => h.drop i = j) _ (fun k k' e => Prod.ext (congrFun e 0) (congrFun e 1)) fib,
    h0, EReal.coe_zero, zero_add, Fintype.sum_prod_type]
  show _ = ((∑ a ∈ range p, ∑ b ∈ range q, f ![a, b, (j 0).val] : ℝ) : EReal)
  rw [Finset.sum_range, ← coe_sum]
  refine Finset.sum_congr rfl fun a _ => ?_
  rw [Finset.sum_range, ← coe_sum]
  refine Finset.sum_congr rfl fun b _ => ?_
  rw [hX]
  refine congrArg _ (congrArg f (funext fun a => ?_))
  match a with
  | ⟨0, _⟩ => rfl
  | ⟨1, _⟩ => rfl
  | ⟨2, _⟩ => rfl

/-- Sequence by sequence is row by row. -/
theorem sum_rows (f : ℕ → ℝ) : ∑ a ∈ range 4, ∑ b ∈ range 2048, f (2048 * a + b) = ∑ i ∈ range 8192, f i := by
  have key : ∀ n : ℕ, ∑ a ∈ range n, ∑ b ∈ range 2048, f (2048 * a + b) = ∑ i ∈ range (2048 * n), f i := by
    intro n
    induction n with
    | zero => simp
    | succ n ih => rw [Finset.sum_range_succ, ih, Nat.mul_succ, Finset.sum_range_add]
  exact key 4

theorem IsQ.sum {X : (⟨3, ![4, 2048, 1024]⟩ : Shape).Idx → EReal} (hX : IsQ X A) {u : Shape} {init : u.Idx → EReal}
    {h : (⟨3, ![4, 2048, 1024]⟩ : Shape).ReducesTo [0, 1] ⟨1, ![1024]⟩} {hu : 0 < u.numel} (h0 : ∀ i, init i = ((0 : ℝ) : EReal)) :
    Is1 (m := 1024) (Host.reduceAdd (F := Ideal) (φ := .f32) (axes := [0, 1]) (t := ⟨1, ![1024]⟩) X init h hu) fun k => ∑ i ∈ range 8192, A i k :=
  Is.to (Is.sum2 hX h0) fun v _ => sum_rows fun i => A i (v 0)

/-- A row reshaped, summed over its two axes of one element and laid flat again. -/
theorem Is1.flat {X : (⟨1, ![1024]⟩ : Shape).Idx → EReal} {B : ℕ → ℝ} (hX : Is1 X B) {u : Shape} {init : u.Idx → EReal}
    {hc : (⟨1, ![1024]⟩ : Shape).ShapeCasts ⟨3, ![1, 1, 1024]⟩} {h : (⟨3, ![1, 1, 1024]⟩ : Shape).ReducesTo [0, 1] ⟨1, ![1024]⟩} {hu : 0 < u.numel}
    {hb : (⟨1, ![1024]⟩ : Shape).BroadcastsInDim ⟨2, ![1, 1024]⟩ ![1]} (h0 : ∀ i, init i = ((0 : ℝ) : EReal)) :
    Is2 (m := 1) (n := 1024) (broadcastInDim ⟨2, ![1, 1024]⟩ ![1] hb (Host.reduceAdd (F := Ideal) (φ := .f32) (axes := [0, 1]) (t := ⟨1, ![1024]⟩)
      (shapeCast ⟨3, ![1, 1, 1024]⟩ X hc) init h hu)) fun _ k => B k := by
  have h3 : Is (S := ⟨3, ![1, 1, 1024]⟩) (shapeCast ⟨3, ![1, 1, 1024]⟩ X hc) fun v => B (v 2) :=
    Is.reads hX (fun i a => match a with | ⟨0, _⟩ => ⟨(i 2).val, (i 2).isLt⟩) (fun i => shapeCast_apply X _ i _ (by
      rewrite [Shape.rowMajor_val_one, Shape.rowMajor_val_three]
      have e0 : (i 0).val < 1 := (i 0).isLt; have e1 : (i 1).val < 1 := (i 1).isLt
      show (i 2).val = ((i 0).val * 1 + (i 1).val) * 1024 + (i 2).val
      omega)) fun i => rfl
  have h4 := Is.sum2 h3 (h := h) (hu := hu) h0
  refine Is.to (Is.reads h4 (T := ⟨2, ![1, 1024]⟩) (g := fun v => ∑ a ∈ range 1, ∑ b ∈ range 1, B (v 1)) (fun i a => match a with | ⟨0, _⟩ => ⟨(i 1).val, (i 1).isLt⟩) (fun i => broadcastInDim_apply ![1] hb (Host.reduceAdd (F := Ideal) (φ := .f32) (axes := [0, 1]) (t := ⟨1, ![1024]⟩)
    (shapeCast ⟨3, ![1, 1, 1024]⟩ X hc) init h hu) i (fun a => match a with | ⟨0, _⟩ => ⟨(i 1).val, (i 1).isLt⟩) fun a => match a with
    | ⟨0, _⟩ => rfl) fun i => rfl) fun v _ => ?_
  show ∑ a ∈ range 1, ∑ b ∈ range 1, B (v 1) = B (v 1)
  rw [Finset.sum_range_one, Finset.sum_range_one]

/-- Three tables side by side. -/
theorem Is2.beside3 {X Y Z : (⟨2, ![8192, 1024]⟩ : Shape).Idx → EReal} {B C : ℕ → ℕ → ℝ} (hX : Is2 X A) (hY : Is2 Y B) (hZ : Is2 Z C)
    {hc : Shape.Concatenates [⟨2, ![8192, 1024]⟩, ⟨2, ![8192, 1024]⟩, ⟨2, ![8192, 1024]⟩] ⟨2, ![8192, 3072]⟩ 1} :
    Is2 (m := 8192) (n := 3072) (concatenate ⟨2, ![8192, 3072]⟩ 1 [⟨⟨2, ![8192, 1024]⟩, X⟩, ⟨⟨2, ![8192, 1024]⟩, Y⟩, ⟨⟨2, ![8192, 1024]⟩, Z⟩] hc)
      fun i j => if j < 1024 then A i j else if j < 2048 then B i (j - 1024) else C i (j - 2048) := fun i => by
  have h1 : (i 1).val < 3072 := (i 1).isLt
  have piece : ∀ (k : ℕ) (hk : k < 3) (W : (⟨2, ![8192, 1024]⟩ : Shape).Idx → EReal) (D : ℕ → ℕ → ℝ), Is2 W D →
      ([⟨⟨2, ![8192, 1024]⟩, X⟩, ⟨⟨2, ![8192, 1024]⟩, Y⟩, ⟨⟨2, ![8192, 1024]⟩, Z⟩] : List ((s : Shape) × (s.Idx → EReal)))[k]'hk = ⟨⟨2, ![8192, 1024]⟩, W⟩ →
      1024 * k ≤ (i 1).val → (i 1).val < 1024 * k + 1024 →
      concatenate ⟨2, ![8192, 3072]⟩ 1 [⟨⟨2, ![8192, 1024]⟩, X⟩, ⟨⟨2, ![8192, 1024]⟩, Y⟩, ⟨⟨2, ![8192, 1024]⟩, Z⟩] hc i = ((D (i 0).val ((i 1).val - 1024 * k) : ℝ) : EReal) := by
    intro k hk W D hW e hl hr
    refine (concatenate_apply_piece 1 [⟨⟨2, ![8192, 1024]⟩, X⟩, ⟨⟨2, ![8192, 1024]⟩, Y⟩, ⟨⟨2, ![8192, 1024]⟩, Z⟩] hc i k hk _ W e rfl (1024 * k)
      (match k, hk with | 0, _ => rfl | 1, _ => rfl | 2, _ => rfl)
      (fun a => match a with | ⟨0, _⟩ => ⟨(i 0).val, (i 0).isLt⟩ | ⟨1, _⟩ => ⟨(i 1).val - 1024 * k, show _ < 1024 by omega⟩)
      (by exact fun b hb => match b with | ⟨0, _⟩ => rfl | ⟨1, _⟩ => absurd rfl hb)
      (by show 1024 * k + ((i 1).val - 1024 * k) = (i 1).val; omega)).trans ?_
    rw [hW]
  show _ = ((if (i 1).val < 1024 then A (i 0).val (i 1).val else if (i 1).val < 2048 then B (i 0).val ((i 1).val - 1024) else C (i 0).val ((i 1).val - 2048) : ℝ) : EReal)
  by_cases e1 : (i 1).val < 1024
  · rw [if_pos e1]; exact piece 0 (by omega) X A hX rfl (by omega) (by omega)
  · rw [if_neg e1]
    by_cases e2 : (i 1).val < 2048
    · rw [if_pos e2]; exact piece 1 (by omega) Y B hY rfl (by omega) (by omega)
    · rw [if_neg e2]; exact piece 2 (by omega) Z C hZ rfl (by omega) (by omega)

/-- One row of three, the other two zero. -/
theorem Is2.only {X : (⟨2, ![1, 1024]⟩ : Shape).Idx → EReal} {B : ℕ → ℝ} (h : Is2 X fun _ k => B k) {u : Shape} {z : u.Idx → EReal} (hz : ∀ i, z i = ((0 : ℝ) : EReal))
    (lo hi : ℕ) {hp : (⟨2, ![1, 1024]⟩ : Shape).Pads ![lo, 0] ![hi, 0] ![0, 0] ⟨2, ![3, 1024]⟩} {hu : 0 < u.numel} :
    Is2 (m := 3) (n := 1024) (pad ⟨2, ![3, 1024]⟩ ![lo, 0] ![hi, 0] ![0, 0] X z hp hu) fun i k => if i = lo then B k else 0 := fun i => by
  show _ = ((if (i 0).val = lo then B (i 1).val else 0 : ℝ) : EReal)
  by_cases h1 : (i 0).val = lo
  · rw [if_pos h1, pad_apply_of_inside ![lo, 0] ![hi, 0] ![0, 0] X z _ _ i
      (fun a => match a with | ⟨0, _⟩ => ⟨0, Nat.one_pos⟩ | ⟨1, _⟩ => ⟨(i 1).val, (i 1).isLt⟩)
      (fun a => match a with
        | ⟨0, _⟩ => show (i 0).val = lo + 0 * 1 by omega
        | ⟨1, _⟩ => show (i 1).val = 0 + (i 1).val * 1 by omega), h]
  · rw [if_neg h1, pad_apply_of_not_inside ![lo, 0] ![hi, 0] ![0, 0] X z _ _ i 0 (fun hc => h1 (by
      have h2 : lo ≤ (i 0).val := hc.1
      have h3 : ((i 0).val - lo) / 1 < 1 := hc.2.2
      omega))]
    exact hz _

end Cert.Reals

end
-- ==== Proof.ConvHost.lean ====
/-
  What the convolution's backward call is handed: the forward's projections and their convolution, from the program's own lines.
-/
module

public import proofs.«01_k».proof.Proof.ConvArray
public import proofs.«01_k».proof.Proof.ConvShapes

@[expose] public section

set_option maxRecDepth 16384

noncomputable section

namespace Cert.Kernel3Ideal.Bwd

open Cert.Kernel3Ideal Cert.Kernel3Ideal.Gen Cert.Reals Cert.Math Cert.Math.Conv Idealize.ShloMosaic Idealize.ShloMosaic.TcCoe

variable (m : (ℓ : Loc nD τ sig) → Buf (Elt Ideal) ℓ) (c : Dev nD) {X G Wi K Wo C : ℕ → ℕ → ℝ}

/-! ## The lines, as arrays -/

def meanSq (x : S8192x1024.Idx → EReal) : S8192x1.Idx → EReal :=
  addf (F := Ideal) (φ := .f32) (Host.divf (F := Ideal) (φ := .f32) (broadcastInDim S8192x1 ![0] bcast_S8192_S8192x1_0
    (Host.reduceAdd (F := Ideal) (φ := .f32) (mulf (F := Ideal) (φ := .f32) x x) (constant (F := Ideal) S_ .f32 0x00000000#32) reducesTo_S8192x1024_S8192_d1 h_S_))
    (broadcastInDim S8192x1 ![] bcast_S_S8192x1 (constant (F := Ideal) S_ .f32 0x44800000#32)))
    (broadcastInDim S8192x1 ![] bcast_S_S8192x1 (constant (F := Ideal) S_ .f32 0x358637BD#32))
def normed (x : S8192x1024.Idx → EReal) (g : S1x1024.Idx → EReal) : S8192x1024.Idx → EReal :=
  mulf (F := Ideal) (φ := .f32) (mulf (F := Ideal) (φ := .f32) x (broadcastInDim S8192x1024 ![0, 1] bcast_S8192x1_S8192x1024_0_1
    (Host.rsqrt (F := Ideal) (φ := .f32) (meanSq x)))) (broadcastInDim S8192x1024 ![0, 1] bcast_S1x1024_S8192x1024_0_1 g)
def proj (x : S8192x1024.Idx → EReal) (g : S1x1024.Idx → EReal) (w : S1024x3072.Idx → EReal) : S8192x3072.Idx → EReal :=
  Host.dotGeneral (F := Ideal) (φ₁ := .bf16) (φ₂ := .bf16) dot_S8192x1024_S1024x3072_S8192x3072_1_0_0_1_n_n none (truncf (F := Ideal) (φ := .f32) .bf16 (normed x g) bitsLt_bf16_f32)
    (truncf (F := Ideal) (φ := .f32) .bf16 w bitsLt_bf16_f32)
def seqs (p : S8192x3072.Idx → EReal) : S4x2048x1024.Idx → EReal :=
  shapeCast S4x2048x1024 (mulf (F := Ideal) (φ := .f32) (extractStridedSlice S8192x1024 ![0, 0] p slices_S8192x3072_S8192x1024_0_0)
    (extractStridedSlice S8192x1024 ![0, 2048] p slices_S8192x3072_S8192x1024_0_2048)) shapeCasts_S8192x1024_S4x2048x1024
def longer (u : S4x2048x1024.Idx → EReal) : S4x2050x1024.Idx → EReal :=
  concatenate S4x2050x1024 1 [⟨S4x2x1024, broadcastInDim S4x2x1024 ![] bcast_S_S4x2x1024 (constant (F := Ideal) S_ .f32 0x00000000#32)⟩, ⟨S4x2048x1024, u⟩]
    concatenates_S4x2x1024_S4x2048x1024_S4x2050x1024_d1
def rowTap (k : S1x1024.Idx → EReal) : S4x2048x1024.Idx → EReal :=
  broadcastInDim S4x2048x1024 ![0, 1, 2] bcast_S1x1x1024_S4x2048x1024_0_1_2 (broadcastInDim S1x1x1024 ![1, 2] bcast_S1x1024_S1x1x1024_1_2 k)
def convolved (k : S3x1024.Idx → EReal) (u : S4x2048x1024.Idx → EReal) : S8192x1024.Idx → EReal :=
  shapeCast S8192x1024 (addf (F := Ideal) (φ := .f32) (addf (F := Ideal) (φ := .f32)
    (mulf (F := Ideal) (φ := .f32) (rowTap (extractStridedSlice S1x1024 ![0, 0] k slices_S3x1024_S1x1024_0_0))
      (extractStridedSlice S4x2048x1024 ![0, 0, 0] (longer u) slices_S4x2050x1024_S4x2048x1024_0_0_0))
    (mulf (F := Ideal) (φ := .f32) (rowTap (extractStridedSlice S1x1024 ![1, 0] k slices_S3x1024_S1x1024_1_0))
      (extractStridedSlice S4x2048x1024 ![0, 1, 0] (longer u) slices_S4x2050x1024_S4x2048x1024_0_1_0)))
    (mulf (F := Ideal) (φ := .f32) (rowTap (extractStridedSlice S1x1024 ![2, 0] k slices_S3x1024_S1x1024_2_0)) u)) shapeCasts_S4x2048x1024_S8192x1024

theorem is_meanSq {x : S8192x1024.Idx → EReal} (hx : Is2 (m := 8192) (n := 1024) x X) : Is2 (m := 8192) (n := 1) (meanSq x) fun i _ => msq eps X i := by
  have h : Is2 (m := 8192) (n := 1024) (mulf (F := Ideal) (φ := .f32) x x) fun i k => X i k * X i k := hx.mul hx
  exact Is.add ((h.hsumRow fun _ => bits_zero).hcol.hdiv (is_bscalar fun _ => bits_1024) fun _ => by norm_num) (is_bscalar fun _ => bits_eps) |>.to fun v _ => rfl
theorem is_normed {x : S8192x1024.Idx → EReal} {g : S1x1024.Idx → EReal} (hx : Is2 (m := 8192) (n := 1024) x X) (hg : Is2 (m := 1) (n := 1024) g G) :
    Is2 (m := 8192) (n := 1024) (normed x g) (nrm eps X (G 0)) := by
  have hr : Is2 (m := 8192) (n := 1) (Host.rsqrt (F := Ideal) (φ := .f32) (meanSq x)) fun i _ => rs eps X i := (is_meanSq hx).hrsqrt (fun v => msq_pos eps_pos X _) |>.to fun v _ => rfl
  exact Is.mul (Is.mul hx hr.hbcol) hg.hbrow |>.to fun v _ => rfl
theorem is_proj {x : S8192x1024.Idx → EReal} {g : S1x1024.Idx → EReal} {w : S1024x3072.Idx → EReal}
    (hx : Is2 (m := 8192) (n := 1024) x X) (hg : Is2 (m := 1) (n := 1024) g G) (hw : Is2 (m := 1024) (n := 3072) w Wi) :
    Is2 (m := 8192) (n := 3072) (proj x g w) (mm 1024 (nrm eps X (G 0)) Wi) := by
  have h1 : Is2 (m := 8192) (n := 1024) (truncf (F := Ideal) (φ := .f32) .bf16 (normed x g) bitsLt_bf16_f32) (nrm eps X (G 0)) := (is_normed hx hg).trunc
  have h2 : Is2 (m := 1024) (n := 3072) (truncf (F := Ideal) (φ := .f32) .bf16 w bitsLt_bf16_f32) Wi := hw.trunc
  exact h1.hdot h2 |>.to fun v _ => rfl
theorem is_convolved {k : S3x1024.Idx → EReal} {p : S8192x3072.Idx → EReal} {P : ℕ → ℕ → ℝ} (hk : Is2 (m := 3) (n := 1024) k K) (hp : Is2 (m := 8192) (n := 3072) p P) :
    Is2 (m := 8192) (n := 1024) (convolved k (seqs p)) (conv K (arg P)) := by
  have hu : IsQ (seqs p) (arg P) := by
    have h : Is2 (m := 8192) (n := 1024) (mulf (F := Ideal) (φ := .f32) (extractStridedSlice S8192x1024 ![0, 0] p slices_S8192x3072_S8192x1024_0_0)
        (extractStridedSlice S8192x1024 ![0, 2048] p slices_S8192x3072_S8192x1024_0_2048)) (arg P) :=
      Is.mul (hp.slice 0 0) (hp.slice 0 2048) |>.to fun v _ => by simp only [fn2, zero_add, arg]
    exact h.opened
  have ht (r : ℕ) {hs : S3x1024.Slices ![r, 0] S1x1024} : IsQ (rowTap (extractStridedSlice S1x1024 ![r, 0] k hs)) fun _ j => K r j :=
    (hk.slice r 0).along |>.to fun v _ => by simp only [add_zero, zero_add]
  have h0 : IsQ (extractStridedSlice S4x2048x1024 ![0, 0, 0] (longer (seqs p)) slices_S4x2050x1024_S4x2048x1024_0_0_0) (earlier 2 (arg P)) := hu.behind (fun _ => bits_zero) 0 2 rfl
  have h1 : IsQ (extractStridedSlice S4x2048x1024 ![0, 1, 0] (longer (seqs p)) slices_S4x2050x1024_S4x2048x1024_0_1_0) (earlier 1 (arg P)) := hu.behind (fun _ => bits_zero) 1 1 rfl
  exact IsQ.closed (A := conv K (arg P)) (Is.add (Is.add (Is.mul (ht 0) h0) (Is.mul (ht 1) h1)) (Is.mul (ht 2) hu))

/-! ## The same lines, as the program runs them -/

variable (hx : Is2 (m ((c : Thread nD τ).loc main_arg0)) X) (hg : Is2 (m ((c : Thread nD τ).loc main_arg1)) G)
  (hw : Is2 (m ((c : Thread nD τ).loc main_arg2)) Wi) (hk : Is2 (m ((c : Thread nD τ).loc main_arg3)) K)
  (hwo : Is2 (m ((c : Thread nD τ).loc main_arg4)) Wo) (hct : Is2 (m ((c : Thread nD τ).loc main_arg5)) C)
include hx hg hw

theorem host_proj : Is2 (m := 8192) (n := 3072) (V m c main_v40) (mm 1024 (nrm eps X (G 0)) Wi) := by
  have e : V m c main_v40 = truncf (F := Ideal) (φ := .f32) .bf16 (proj (m ((c : Thread nD τ).loc main_arg0)) (m ((c : Thread nD τ).loc main_arg1)) (m ((c : Thread nD τ).loc main_arg2))) bitsLt_bf16_f32 := by
    show StableHlo.after hostOps0 (fun b => m (c, b)) (Proc.devRef .tc main_v40) = _
    after_results
    rfl
  exact e ▸ (is_proj hx hg hw).trunc

include hk in
theorem host_conv : Is2 (m := 8192) (n := 1024) (V m c main_v39) (conv K (arg (mm 1024 (nrm eps X (G 0)) Wi))) := by
  have e : V m c main_v39 = convolved (m ((c : Thread nD τ).loc main_arg3))
      (seqs (proj (m ((c : Thread nD τ).loc main_arg0)) (m ((c : Thread nD τ).loc main_arg1)) (m ((c : Thread nD τ).loc main_arg2)))) := by
    show StableHlo.after hostOps0 (fun b => m (c, b)) (Proc.devRef .tc main_v39) = _
    after_results
    rfl
  exact e ▸ is_convolved hk (is_proj hx hg hw)

include hk hwo hct in
/-- The call's arrays, from the program's arguments. -/
theorem ins : Ins m c C X G (mm 1024 (nrm eps X (G 0)) Wi) (conv K (arg (mm 1024 (nrm eps X (G 0)) Wi))) K Wi Wo where
  e0 := V_main_arg5 m c ▸ hct
  e1 := V_main_arg0 m c ▸ hx
  e2 := V_main_arg1 m c ▸ hg
  e3 := host_proj m c hx hg hw
  e4 := host_conv m c hx hg hw hk
  e5 := V_main_arg3 m c ▸ hk
  e6 := by
    show Is2 (StableHlo.after hostOps0 (fun b => m (c, b)) (Proc.devRef .tc main_v0)) _
    after_results
    exact hw.trunc
  e7 := by
    show Is2 (StableHlo.after hostOps0 (fun b => m (c, b)) (Proc.devRef .tc main_v1)) _
    after_results
    exact hwo.trunc

end Cert.Kernel3Ideal.Bwd

end
-- ==== Proof.ConvReference.lean ====
/-
  What the convolution's reference computes: each of its results, as a function on the reals.
-/
module

public import proofs.«01_k».proof.Proof.Gen.Reference3Ideal.Read
public import proofs.«01_k».proof.Proof.ConvArray
public import proofs.«01_k».proof.Proof.ConvShapes

@[expose] public section

set_option maxRecDepth 16384

noncomputable section

namespace Cert.Math.Conv

open Finset (range)

/-- Moving one factor back, or the other on, within each sequence. -/
theorem sum_shift (D U : ℕ → ℕ → ℝ) (s k : ℕ) (hs : s ≤ 2048) :
    ∑ i ∈ range 8192, D i k * earlier s U i k = ∑ i ∈ range 8192, later s D i k * U i k := by
  rw [← Cert.Reals.sum_rows fun i => D i k * earlier s U i k, ← Cert.Reals.sum_rows fun i => later s D i k * U i k]
  refine Finset.sum_congr rfl fun a _ => ?_
  obtain ⟨n, rfl⟩ : ∃ n, n = 2048 - s := ⟨_, rfl⟩
  have h1 : ∑ b ∈ range (s + (2048 - s)), D (2048 * a + b) k * earlier s U (2048 * a + b) k
      = ∑ b ∈ range (2048 - s), D (2048 * a + (s + b)) k * U (2048 * a + b) k := by
    rw [Finset.sum_range_add, Finset.sum_eq_zero fun b hb => ?_, zero_add]
    · refine Finset.sum_congr rfl fun b hb => ?_
      have hb' := Finset.mem_range.1 hb
      unfold earlier
      rw [if_neg (by omega), show 2048 * a + (s + b) - s = 2048 * a + b by omega]
    · have hb' := Finset.mem_range.1 hb
      unfold earlier
      rw [if_pos (by omega), mul_zero]
  have h2 : ∑ b ∈ range ((2048 - s) + s), later s D (2048 * a + b) k * U (2048 * a + b) k
      = ∑ b ∈ range (2048 - s), D (2048 * a + (s + b)) k * U (2048 * a + b) k := by
    rw [Finset.sum_range_add, Finset.sum_eq_zero (s := range s) fun b hb => ?_, add_zero]
    · refine Finset.sum_congr rfl fun b hb => ?_
      have hb' := Finset.mem_range.1 hb
      unfold later
      rw [if_pos (by omega), show 2048 * a + b + s = 2048 * a + (s + b) by omega]
    · have hb' := Finset.mem_range.1 hb
      unfold later
      rw [if_neg (by omega), zero_mul]
  rw [show s + (2048 - s) = 2048 by omega] at h1
  rw [show (2048 - s) + s = 2048 by omega] at h2
  rw [h1, h2]

end Cert.Math.Conv

namespace Cert.Reference3Ideal.Reading

open Cert.Reference3Ideal Cert.Reference3Ideal.Gen Cert.Reference3Ideal.Read Cert.Reals Cert.Math Cert.Math.Conv Idealize.ShloMosaic
open Finset (range)

variable {x0 : (⟨S8192x1024, .f32⟩ : BufTy).Contents (Elt Ideal)} {x1 : (⟨S1x1024, .f32⟩ : BufTy).Contents (Elt Ideal)}
  {x2 : (⟨S1024x3072, .f32⟩ : BufTy).Contents (Elt Ideal)} {x3 : (⟨S3x1024, .f32⟩ : BufTy).Contents (Elt Ideal)}
  {x4 : (⟨S1024x1024, .f32⟩ : BufTy).Contents (Elt Ideal)} {x5 : (⟨S8192x1024, .f32⟩ : BufTy).Contents (Elt Ideal)} {x g wi cw wo ct : ℕ → ℕ → ℝ}

/-- The projection's three thirds, the convolution's result, and the gradient of that result, with the gradient of the rows after. -/
abbrev P (x g wi : ℕ → ℕ → ℝ) : ℕ → ℕ → ℝ := mm 1024 (nrm eps x (g 0)) wi
abbrev Y (x g wi cw : ℕ → ℕ → ℝ) : ℕ → ℕ → ℝ := conv cw (arg (P x g wi))
abbrev D (x g wi wo ct : ℕ → ℕ → ℝ) : ℕ → ℕ → ℝ := dy ct (P x g wi) wo
abbrev DU (x g wi cw wo ct : ℕ → ℕ → ℝ) : ℕ → ℕ → ℝ := du cw (D x g wi wo ct) (later 1 (D x g wi wo ct)) (later 2 (D x g wi wo ct))
abbrev DP (x g wi cw wo ct : ℕ → ℕ → ℝ) : ℕ → ℕ → ℝ := dproj ct (P x g wi) (Y x g wi cw) cw wo (later 1 (D x g wi wo ct)) (later 2 (D x g wi wo ct))
abbrev DH (x g wi cw wo ct : ℕ → ℕ → ℝ) : ℕ → ℕ → ℝ := Conv.dh ct (P x g wi) (Y x g wi cw) cw wi wo (later 1 (D x g wi wo ct)) (later 2 (D x g wi wo ct))

section
variable (h0 : Is2 x0 x)
include h0

theorem v6 : Is2 (val_main_v6 (F := Ideal) x0) fun i _ => msq eps x i := by
  have h : Is2 (val_main_v0 (F := Ideal) x0) fun i k => x i k * x i k := h0.mul h0
  exact ((h.hsumRow fun _ => bits_zero).hcol.hdiv (is_bscalar fun _ => bits_1024) fun _ => by norm_num).add
    (is_bscalar fun _ => bits_eps) |>.to fun v _ => rfl
theorem v7 : Is2 (val_main_v7 (F := Ideal) x0) fun i _ => rs eps x i := (v6 h0).hrsqrt (fun v => msq_pos eps_pos x _) |>.to fun v _ => rfl
theorem v10 : Is2 (val_main_v10 (F := Ideal) x0) fun i _ => -(1 / 2) * (rs eps x i / msq eps x i) :=
  Is.mul (is_bscalar fun _ => bits_neg_half) ((v7 h0).hdiv (v6 h0) fun v => (msq_pos eps_pos x _).ne') |>.to fun v _ => rfl
theorem v12 : Is2 (val_main_v12 (F := Ideal) x0) (xn eps x) := h0.mul (v7 h0).hbcol |>.to fun v _ => rfl

variable (h1 : Is2 x1 g)
include h1
theorem v14 : Is2 (val_main_v14 (F := Ideal) x0 x1) (nrm eps x (g 0)) := (v12 h0).mul h1.hbrow |>.to fun v _ => rfl
theorem v158 : Is2 (val_main_v158 (F := Ideal) x0 x1) (nrm eps x (g 0)) := (v14 h0 h1).trunc |>.to fun v _ => rfl

variable (h2 : Is2 x2 wi)
include h2
theorem v15 : Is2 (val_main_v15 (F := Ideal) x0 x1 x2) (P x g wi) := (v14 h0 h1).hdot h2 |>.to fun v _ => rfl
theorem v16 : Is2 (val_main_v16 (F := Ideal) x0 x1 x2) (P x g wi) := (v15 h0 h1 h2).slice 0 0 |>.to fun v _ => by simp only [fn2, zero_add]
theorem v17 : Is2 (val_main_v17 (F := Ideal) x0 x1 x2) fun i j => P x g wi i (1024 + j) := (v15 h0 h1 h2).slice 0 1024 |>.to fun v _ => by simp only [fn2, zero_add]
theorem v18 : Is2 (val_main_v18 (F := Ideal) x0 x1 x2) fun i j => P x g wi i (2048 + j) := (v15 h0 h1 h2).slice 0 2048 |>.to fun v _ => by simp only [fn2, zero_add]
theorem v20 : IsQ (val_main_v20 (F := Ideal) x0 x1 x2) (arg (P x g wi)) := by
  have h : Is2 (val_main_v19 (F := Ideal) x0 x1 x2) (arg (P x g wi)) := (v16 h0 h1 h2).mul (v18 h0 h1 h2) |>.to fun v _ => rfl
  exact h.opened

/-- The products, two rows back, one row back, and in place. -/
theorem v25 : IsQ (val_main_v25 (F := Ideal) x0 x1 x2) (earlier 2 (arg (P x g wi))) := (v20 h0 h1 h2).behind (fun _ => bits_zero) 0 2 rfl
theorem v30 : IsQ (val_main_v30 (F := Ideal) x0 x1 x2) (earlier 1 (arg (P x g wi))) := (v20 h0 h1 h2).behind (fun _ => bits_zero) 1 1 rfl
theorem v36 : IsQ (val_main_v36 (F := Ideal) x0 x1 x2) (arg (P x g wi)) := (v20 h0 h1 h2).behind (fun _ => bits_zero) 2 0 rfl
end

section
variable (h3 : Is2 x3 cw)
include h3
theorem v27 : IsQ (val_main_v27 (F := Ideal) x3) fun _ k => cw 0 k := (h3.slice 0 0).along |>.to fun v _ => by simp only [add_zero, zero_add]
theorem v32 : IsQ (val_main_v32 (F := Ideal) x3) fun _ k => cw 1 k := (h3.slice 1 0).along |>.to fun v _ => by simp only [add_zero, zero_add]
theorem v38 : IsQ (val_main_v38 (F := Ideal) x3) fun _ k => cw 2 k := (h3.slice 2 0).along |>.to fun v _ => by simp only [add_zero, zero_add]
end

variable (h0 : Is2 x0 x) (h1 : Is2 x1 g) (h2 : Is2 x2 wi) (h3 : Is2 x3 cw) (h4 : Is2 x4 wo) (h5 : Is2 x5 ct)

include h0 h1 h2 h3 in
theorem v41 : Is2 (val_main_v41 (F := Ideal) x0 x1 x2 x3) (Y x g wi cw) := by
  have h : IsQ (val_main_v40 (F := Ideal) x0 x1 x2 x3) (Y x g wi cw) :=
    Is.add (Is.add (Is.mul (v27 h3) (v25 h0 h1 h2)) (Is.mul (v32 h3) (v30 h0 h1 h2))) (Is.mul (v38 h3) (v36 h0 h1 h2))
  exact h.closed

include h4 h5 in
theorem v46 : Is2 (val_main_v46 (F := Ideal) x4 x5) (mmT 1024 ct wo) := Is2.hdotT (h5.shapeCast_self : Is2 _ ct) h4 |>.to fun v _ => rfl
include h0 h1 h2 h4 h5 in
theorem v49 : IsQ (val_main_v49 (F := Ideal) x0 x1 x2 x4 x5) (D x g wi wo ct) := by
  have h : Is2 (val_main_v47 (F := Ideal) x0 x1 x2 x4 x5) (D x g wi wo ct) := (v17 h0 h1 h2).mul (v46 h4 h5) |>.to fun v _ => mul_comm _ _
  exact h.opened

/-! ## The taps' gradients -/

section
include h0 h1 h2 h4 h5
theorem v58 : Is2 (val_main_v58 (F := Ideal) x0 x1 x2 x4 x5) fun i k => if i = 2 then ∑ j ∈ range 8192, D x g wi wo ct j k * arg (P x g wi) j k else 0 := by
  have h : IsQ (val_main_v52 (F := Ideal) x0 x1 x2 x4 x5) fun j k => D x g wi wo ct j k * arg (P x g wi) j k := Is.mul (v49 h0 h1 h2 h4 h5) (v36 h0 h1 h2)
  exact ((h.sum fun _ => bits_zero).flat fun _ => bits_zero).only (fun _ => bits_zero) 2 0
theorem v68 : Is2 (val_main_v68 (F := Ideal) x0 x1 x2 x4 x5) fun i k => if i = 1 then ∑ j ∈ range 8192, D x g wi wo ct j k * earlier 1 (arg (P x g wi)) j k else 0 := by
  have h : IsQ (val_main_v61 (F := Ideal) x0 x1 x2 x4 x5) fun j k => D x g wi wo ct j k * earlier 1 (arg (P x g wi)) j k := Is.mul (v49 h0 h1 h2 h4 h5) (v30 h0 h1 h2)
  exact ((h.sum fun _ => bits_zero).flat fun _ => bits_zero).only (fun _ => bits_zero) 1 1
theorem v79 : Is2 (val_main_v79 (F := Ideal) x0 x1 x2 x4 x5) fun i k => if i = 0 then ∑ j ∈ range 8192, D x g wi wo ct j k * earlier 2 (arg (P x g wi)) j k else 0 := by
  have h : IsQ (val_main_v72 (F := Ideal) x0 x1 x2 x4 x5) fun j k => D x g wi wo ct j k * earlier 2 (arg (P x g wi)) j k := Is.mul (v49 h0 h1 h2 h4 h5) (v25 h0 h1 h2)
  exact ((h.sum fun _ => bits_zero).flat fun _ => bits_zero).only (fun _ => bits_zero) 0 2
theorem v161 : Is2 (m := 8) (n := 1024) (val_main_v161 (F := Ideal) x0 x1 x2 x4 x5) (tapsAll ct (P x g wi) wo (later 1 (D x g wi wo ct)) (later 2 (D x g wi wo ct))) := by
  have h80 : Is2 (m := 3) (n := 1024) (val_main_v80 (F := Ideal) x0 x1 x2 x4 x5) (tapsAll ct (P x g wi) wo (later 1 (D x g wi wo ct)) (later 2 (D x g wi wo ct))) :=
    ((v58 h0 h1 h2 h4 h5).add (v68 h0 h1 h2 h4 h5)).add (v79 h0 h1 h2 h4 h5) |>.to fun v _ => rows (v 0) (v 1)
  have hz : Is2 (m := 5) (n := 1024) (val_main_v160 (F := Ideal)) fun _ _ => 0 := is_bscalar fun _ => bits_zero
  exact h80.above hz rfl |>.to fun v _ => below (v 0) (v 1)
where
  rows (i k : ℕ) : (if i = 2 then ∑ j ∈ range 8192, D x g wi wo ct j k * arg (P x g wi) j k else 0)
      + (if i = 1 then ∑ j ∈ range 8192, D x g wi wo ct j k * earlier 1 (arg (P x g wi)) j k else 0)
      + (if i = 0 then ∑ j ∈ range 8192, D x g wi wo ct j k * earlier 2 (arg (P x g wi)) j k else 0)
      = tapsAll ct (P x g wi) wo (later 1 (D x g wi wo ct)) (later 2 (D x g wi wo ct)) i k := by
    rw [sum_shift _ _ 1 k (by omega), sum_shift _ _ 2 k (by omega)]
    unfold tapsAll
    by_cases e2 : i = 2
    · subst e2; simp
    · by_cases e1 : i = 1
      · subst e1; simp
      · by_cases e0 : i = 0
        · subst e0; simp
        · simp [e2, e1, e0]
  below (i k : ℕ) : (if i < 3 then tapsAll ct (P x g wi) wo (later 1 (D x g wi wo ct)) (later 2 (D x g wi wo ct)) i k else 0)
      = tapsAll ct (P x g wi) wo (later 1 (D x g wi wo ct)) (later 2 (D x g wi wo ct)) i k := by
    split
    · rfl
    · unfold tapsAll
      rw [if_neg (by omega), if_neg (by omega), if_neg (by omega)]
end

/-! ## The projection's gradient, the input's and the gain's -/

section
include h0 h1 h2 h3 h4 h5
theorem v83 : Is2 (m := 8192) (n := 1024) (val_main_v83 (F := Ideal) x0 x1 x2 x3 x4 x5) (DU x g wi cw wo ct) := by
  have h57 := IsQ.padded (A := fun i k => cw 2 k * D x g wi wo ct i k) (X := val_main_v51 (F := Ideal) x0 x1 x2 x3 x4 x5)
    (Is.mul (v38 h3) (v49 h0 h1 h2 h4 h5)) (z := val_main_cst_7 (F := Ideal)) (fun _ => bits_zero) 2 0 (hp := pads_S4x2048x1024_S4x2050x1024_000_200_000) (hu := h_S_)
  have h66 := IsQ.padded (A := fun i k => cw 1 k * D x g wi wo ct i k) (X := val_main_v60 (F := Ideal) x0 x1 x2 x3 x4 x5)
    (Is.mul (v32 h3) (v49 h0 h1 h2 h4 h5)) (z := val_main_cst_7 (F := Ideal)) (fun _ => bits_zero) 1 1 (hp := pads_S4x2048x1024_S4x2050x1024_000_110_000) (hu := h_S_)
  have h77 := IsQ.padded (A := fun i k => cw 0 k * D x g wi wo ct i k) (X := val_main_v71 (F := Ideal) x0 x1 x2 x3 x4 x5)
    (Is.mul (v27 h3) (v49 h0 h1 h2 h4 h5)) (z := val_main_cst_7 (F := Ideal)) (fun _ => bits_zero) 0 2 (hp := pads_S4x2048x1024_S4x2050x1024_000_020_000) (hu := h_S_)
  have h82 : IsQ (val_main_v82 (F := Ideal) x0 x1 x2 x3 x4 x5) (DU x g wi cw wo ct) := Is.to (Is.trimmed ((h57.add h66).add h77)) fun v hv => key (v 0) (v 1) (v 2) (hv 1)
  exact h82.closed
where
  key (a b k : ℕ) (hb : b < 2048) :
      (if 2 ≤ 2 + b ∧ 2 + b < 2 + 2048 then cw 2 k * D x g wi wo ct (2048 * a + (2 + b - 2)) k else 0)
        + (if 1 ≤ 2 + b ∧ 2 + b < 1 + 2048 then cw 1 k * D x g wi wo ct (2048 * a + (2 + b - 1)) k else 0)
        + (if 0 ≤ 2 + b ∧ 2 + b < 0 + 2048 then cw 0 k * D x g wi wo ct (2048 * a + (2 + b - 0)) k else 0)
      = DU x g wi cw wo ct (2048 * a + b) k := by
    unfold DU du later
    rw [if_pos (by omega), show 2048 * a + (2 + b - 2) = 2048 * a + b by omega]
    congr 1
    · congr 1
      by_cases e : b + 1 < 2048
      · rw [if_pos (by omega), if_pos (by omega), show 2048 * a + (2 + b - 1) = 2048 * a + b + 1 by omega]
      · rw [if_neg (by omega), if_neg (by omega), mul_zero]
    · by_cases e : b + 2 < 2048
      · rw [if_pos (by omega), if_pos (by omega), show 2048 * a + (2 + b - 0) = 2048 * a + b + 2 by omega]
      · rw [if_neg (by omega), if_neg (by omega), mul_zero]

theorem v86 : Is2 (m := 8192) (n := 3072) (val_main_v86 (F := Ideal) x0 x1 x2 x3 x4 x5) (DP x g wi cw wo ct) := by
  have h85 : Is2 (m := 8192) (n := 1024) (val_main_v85 (F := Ideal) x0 x1 x2 x3 x4 x5) fun i j => DU x g wi cw wo ct i j * P x g wi i (2048 + j) :=
    (v83 h0 h1 h2 h3 h4 h5).mul (v18 h0 h1 h2)
  have h48 : Is2 (m := 8192) (n := 1024) (val_main_v48 (F := Ideal) x0 x1 x2 x3 x4 x5) (dc ct (Y x g wi cw) wo) :=
    (v46 h4 h5).mul (v41 h0 h1 h2 h3)
  have h84 : Is2 (m := 8192) (n := 1024) (val_main_v84 (F := Ideal) x0 x1 x2 x3 x4 x5) fun i j => DU x g wi cw wo ct i j * P x g wi i j :=
    (v16 h0 h1 h2).mul (v83 h0 h1 h2 h3 h4 h5) |>.to fun v _ => mul_comm _ _
  exact h85.beside3 h48 h84
theorem v87 : Is2 (m := 8192) (n := 1024) (val_main_v87 (F := Ideal) x0 x1 x2 x3 x4 x5) (DH x g wi cw wo ct) :=
  (v86 h0 h1 h2 h3 h4 h5).hdotT h2 |>.to fun v _ => rfl

theorem v107 : Is2 (m := 8192) (n := 1024) (val_main_v107 (F := Ideal) x0 x1 x2 x3 x4 x5)
    (Conv.dx ct x (P x g wi) (Y x g wi cw) cw wi wo (later 1 (D x g wi wo ct)) (later 2 (D x g wi wo ct)) (g 0) eps) := by
  have h92 : Is2 (val_main_v92 (F := Ideal) x0 x1 x2 x3 x4 x5) fun i k => DH x g wi cw wo ct i k * g 0 k :=
    (v87 h0 h1 h2 h3 h4 h5).mul h1.hbrow |>.to fun v _ => rfl
  have h93 : Is2 (val_main_v93 (F := Ideal) x0 x1 x2 x3 x4 x5) fun i k => x i k * (DH x g wi cw wo ct i k * g 0 k) := h0.mul h92 |>.to fun v _ => rfl
  have h95 : Is2 (val_main_v95 (F := Ideal) x0 x1 x2 x3 x4 x5) fun i _ => ∑ k ∈ range 1024, x i k * (DH x g wi cw wo ct i k * g 0 k) :=
    (h93.hsumRow fun _ => bits_zero).col |>.to fun v _ => rfl
  have h101 : Is2 (val_main_v101 (F := Ideal) x0 x1 x2 x3 x4 x5) fun i _ =>
      (∑ k ∈ range 1024, x i k * (DH x g wi cw wo ct i k * g 0 k)) * (-(1 / 2) * (rs eps x i / msq eps x i)) / 1024 :=
    (h95.mul (v10 h0)).hdiv (is_bscalar fun _ => bits_1024) (fun v => by norm_num) |>.to fun v _ => rfl
  have h103 : Is2 (val_main_v103 (F := Ideal) x0 x1 x2 x3 x4 x5) fun i _ =>
      (∑ k ∈ range 1024, x i k * (DH x g wi cw wo ct i k * g 0 k)) * (-(1 / 2) * (rs eps x i / msq eps x i)) / 1024 :=
    (h101.hsumRow fun _ => bits_zero).hcols |>.to fun v _ => by simp only [fn2, Finset.sum_range_one]
  have h97 : Is2 (val_main_v97 (F := Ideal) x0 x1 x2 x3 x4 x5) fun i k => DH x g wi cw wo ct i k * g 0 k * rs eps x i :=
    h92.mul (v7 h0).hbcol |>.to fun v _ => rfl
  exact ((h5.add h97).add (h0.mul h103)).add (h103.mul h0) |>.to fun v _ =>
    nrmBack_eq eps_pos x (fun i k => DH x g wi cw wo ct i k * g 0 k) (ct (v 0) (v 1)) (v 0) (v 1) _ rfl

theorem v163 : Is2 (m := 8) (n := 1024) (val_main_v163 (F := Ideal) x0 x1 x2 x3 x4 x5)
    (gainAll ct x (P x g wi) (Y x g wi cw) cw wi wo (later 1 (D x g wi wo ct)) (later 2 (D x g wi wo ct)) eps) := by
  have h88 : Is2 (val_main_v88 (F := Ideal) x0 x1 x2 x3 x4 x5) fun i k => xn eps x i k * DH x g wi cw wo ct i k :=
    (v12 h0).mul (v87 h0 h1 h2 h3 h4 h5) |>.to fun v _ => rfl
  have h90 : Is2 (val_main_v90 (F := Ideal) x0 x1 x2 x3 x4 x5) fun _ k => ∑ i ∈ range 8192, DH x g wi cw wo ct i k * xn eps x i k :=
    (h88.hsumCol fun _ => bits_zero).row |>.to fun v _ => Finset.sum_congr rfl fun i _ => mul_comm _ _
  have hz : Is2 (m := 7) (n := 1024) (val_main_v162 (F := Ideal)) fun _ _ => 0 := is_bscalar fun _ => bits_zero
  exact h90.above hz rfl |>.to fun v _ => rfl
end

/-- The second derivation of the projection's gradient is the first's, from the same factors. -/
theorem v156_eq : val_main_v156 (F := Ideal) x0 x1 x2 x3 x4 x5 = val_main_v86 (F := Ideal) x0 x1 x2 x3 x4 x5 := by
  have h : val_main_v45 (F := Ideal) x5 = x5 := shapeCast_self x5 _
  have h46 : val_main_v46 (F := Ideal) x4 x5 = val_main_v136 (F := Ideal) x4 x5 := by unfold val_main_v46; rw [h]; rfl
  unfold val_main_v86 val_main_v85 val_main_v84 val_main_v83 val_main_v82 val_main_v78 val_main_v77 val_main_v67 val_main_v66 val_main_v57
    val_main_v71 val_main_v60 val_main_v51 val_main_v49 val_main_v48 val_main_v47
  rw [h46]
  rfl

section
include h0 h1 h2 h3 h4 h5
theorem v157 : Is2 (m := 8192) (n := 3072) (val_main_v157 (F := Ideal) x0 x1 x2 x3 x4 x5) (DP x g wi cw wo ct) :=
  Is.trunc (v156_eq ▸ v86 h0 h1 h2 h3 h4 h5) |>.to fun v _ => rfl
end
include h5 in
theorem v159 : Is2 (m := 8192) (n := 1024) (val_main_v159 (F := Ideal) x5) ct := h5.trunc |>.to fun v _ => rfl

end Cert.Reference3Ideal.Reading

end
-- ==== Proof.Conv.lean ====
/-
  The backward call of the gated short convolution equals the reference's derivative.
-/
module

public import proofs.«01_k».proof.Defs
public import proofs.«01_k».proof.Proof.ConvHost
public import proofs.«01_k».proof.Proof.ConvReference
public import proofs.«01_k».proof.Proof.Ffn
public import proofs.«01_k».proof.Proof.Gen.Pre_finite3
public import proofs.«01_k».proof.Proof.Gen.Reference3Ideal.Run

@[expose] public section

set_option maxRecDepth 16384

noncomputable section

namespace Cert.Proof.Conv

open Idealize.ShloMosaic Idealize.ShloMosaic.TcCoe Idealize.SL.Sem Cert.Kernel3Ideal Cert.Kernel3Ideal.Gen Cert.Reals

/-- The reference leaves its arguments and declares no semaphore. -/
theorem frame_reference : Cert.quiescent_Reference3Ideal := fun m ρ _ =>
  (θ_run Cert.Reference3Ideal.defs _ _).mono
    (fun r h => ⟨fun c => (h c).2.2.2.2.2.2, Idealize.ShloMosaic.sem_eq_zero_of_no_sems (by decide) r.2⟩)
    (Cert.Reference3Ideal.Value.run (F := Ideal) m ρ)

/-- Equal real functions, equal arrays: every result of the kernel against the reference's. -/
theorem algebraic : Cert.algebraic_Kernel3Ideal_Reference3Ideal_pre_finite3 := by
  intro m g m' g' hpre hagree
  have hx c := is2_reals _ (hpre c).1
  have hg c := is2_reals _ (hpre c).2.1
  have hw c := is2_reals _ (hpre c).2.2.1
  have hk c := is2_reals _ (hpre c).2.2.2.1
  have ho c := is2_reals _ (hpre c).2.2.2.2.1
  have ht c := is2_reals _ (hpre c).2.2.2.2.2
  have kx c := (hx c).of_eq (hagree c).1
  have kg c := (hg c).of_eq (hagree c).2.1
  have kw c := (hw c).of_eq (hagree c).2.2.1
  have kk c := (hk c).of_eq (hagree c).2.2.2.1
  have ko c := (ho c).of_eq (hagree c).2.2.2.2.1
  have kt c := (ht c).of_eq (hagree c).2.2.2.2.2
  have H c := Bwd.ins m c (hx c) (hg c) (hw c) (hk c) (ho c) (ht c)
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N, ?_, ?_⟩
  · exact (θ_run Cert.Kernel3Ideal.defs _ _).mono
      (fun r h c => ⟨(h.1 c).1 8, (h.1 c).1 9, (h.1 c).1 10, (h.1 c).1 11, (h.1 c).1 12, (h.1 c).1 13, h.2 c⟩)
      (θ_run_and (Cert.Kernel3Ideal.Gen.run_main m g) (Cert.Kernel3Ideal.Gen.unchanged m g))
  · refine (θ_run Cert.Reference3Ideal.defs _ _).mono (fun r h c => ?_) (Cert.Reference3Ideal.Value.run (F := Ideal) m' g')
    obtain ⟨h0, h1, h2, h3, h4, h5, ha⟩ := h c
    exact ⟨(h0.trans (Cert.Reference3Ideal.Read.val_main_v107_eq _)).trans
        (Is.eq (Cert.Reference3Ideal.Reading.v107 (kx c) (kg c) (kw c) (kk c) (ko c) (kt c)) (Bwd.arr_8 m c (H c))),
      (h1.trans (Cert.Reference3Ideal.Read.val_main_v157_eq _)).trans
        (Is.eq (Cert.Reference3Ideal.Reading.v157 (kx c) (kg c) (kw c) (kk c) (ko c) (kt c)) (Bwd.arr_9 m c (H c))),
      (h2.trans (Cert.Reference3Ideal.Read.val_main_v158_eq _)).trans
        (Is.eq (Cert.Reference3Ideal.Reading.v158 (kx c) (kg c)) (Bwd.arr_10 m c (H c))),
      (h3.trans (Cert.Reference3Ideal.Read.val_main_v159_eq _)).trans
        (Is.eq (Cert.Reference3Ideal.Reading.v159 (kt c)) (Bwd.arr_11 m c (H c))),
      (h4.trans (Cert.Reference3Ideal.Read.val_main_v161_eq _)).trans
        (Is.eq (Cert.Reference3Ideal.Reading.v161 (kx c) (kg c) (kw c) (ko c) (kt c)) (Bwd.arr_12 m c (H c))),
      (h5.trans (Cert.Reference3Ideal.Read.val_main_v163_eq _)).trans
        (Is.eq (Cert.Reference3Ideal.Reading.v163 (kx c) (kg c) (kw c) (kk c) (ko c) (kt c)) (Bwd.arr_13 m c (H c))), ha⟩

end Cert.Proof.Conv

end
-- ==== Proof.LMath.lean ====
/-
  The second layer's end on the reals: the product with the output weight, the layer, and the loss.
-/
module

public import proofs.«01_k».proof.Proof.Math

@[expose] public section

set_option maxRecDepth 16384

noncomputable section

namespace Cert.Math

/-- The layer's input: the attention's result through the output weight, on the residual. -/
def xin (x ao wo : ℕ → ℕ → ℝ) (i k : ℕ) : ℝ := x i k + mm 1024 ao wo i k

section Loss
variable (e : ℝ) (x : ℕ → ℕ → ℝ) (g : ℕ → ℝ) (wgu wd t : ℕ → ℕ → ℝ)

/-- The layer's result less the target. -/
def err (i k : ℕ) : ℝ := out e x g wgu wd i k - t i k

/-- The derivative of half the rows' mean squared error, summed. -/
def errCt (i k : ℕ) : ℝ := err e x g wgu wd t i k * (1 / 1024)

/-- The squared error of the first `n` rows. -/
def sse (n : ℕ) : ℝ := ∑ i ∈ Finset.range n, ∑ k ∈ Finset.range 1024, err e x g wgu wd t i k * err e x g wgu wd t i k
end Loss

end Cert.Math

end
-- ==== Proof.LFwd.lean ====
/-
  One block of the second layer's forward call: 256 rows of the layer's input, of the loss's derivative and of the two
  projections, and what the block adds to the squared error.
-/
module

public import proofs.«01_k».proof.Proof.Gen.Kernel4Ideal.Frame
public import proofs.«01_k».proof.Proof.Blocks
public import proofs.«01_k».proof.Proof.LMath

@[expose] public section

set_option maxRecDepth 16384

noncomputable section

namespace Cert.Kernel4Ideal.Fwd

open Cert.Kernel4Ideal Cert.Kernel4Ideal.Gen Cert.Reals Cert.Math Idealize.ShloMosaic Idealize.ShloMosaic.Tactic

theorem bits_1024th : Ideal.ofBits .f32 0x3A800000#32 = ((1 / 1024 : ℝ) : EReal) := by
  simp [Ideal.ofBits, Ideal.ieee, -EReal.coe_mul]; norm_num

/-- One number, spread over an array. -/
theorem bone {m n : ℕ} {Y : (⟨2, ![1, 1]⟩ : Shape).Idx → EReal} {B : ℕ → ℕ → ℝ} (h : Is2 Y B) {hb : (⟨2, ![1, 1]⟩ : Shape).Broadcasts ⟨2, ![m, n]⟩} :
    Is2 (m := m) (n := n) (broadcastTo ⟨2, ![m, n]⟩ Y hb) fun _ _ => B 0 0 := fun i => by
  rw [broadcastTo_apply Y hb i (fun a => match a with | ⟨0, _⟩ => ⟨0, Nat.one_pos⟩ | ⟨1, _⟩ => ⟨0, Nat.one_pos⟩)
    (fun a => match a with | ⟨0, _⟩ => rfl | ⟨1, _⟩ => rfl)]
  exact h _

section Payloads
variable {v0 : Vec Ideal S256x1024 .f32} {v1 : Vec Ideal S256x1024 .bf16} {v3 : Vec Ideal S1024x1024 .bf16} {v18 : Vec Ideal S1x1024 .f32}
  {x ao wo xi g A B C : ℕ → ℕ → ℝ} {w w' d d' : Vec Ideal S1024x1024 .bf16}

theorem pay2 (h0 : Is2 v0 x) (h1 : Is2 v1 ao) (h3 : Is2 v3 wo) : Is2 (k0_pay2 (F := Ideal) v0 v1 v3) (xin x ao wo) :=
  h0.add (Is2.dot (A := ao) h1.shapeCast_self h3.shapeCast_self) |>.to fun v _ => rfl

variable (hp : Is2 (k0_pay2 (F := Ideal) v0 v1 v3) xi) (hg : Is2 v18 g)
include hp hg

theorem pay3 : Is2 (k0_pay3 (F := Ideal) v0 v1 v3 v18) (nrm eps xi (g 0)) :=
  ((hp.mul (hp.rs).bcol).mul hg.brow).trunc |>.to fun v _ => rfl
theorem pay4 (hw : Is2 w A) : Is2 (k0_pay4 (F := Ideal) v0 v1 v3 v18 w) (mm 1024 (nrm eps xi (g 0)) A) :=
  (pay3 hp hg).dot hw.shapeCast_self |>.to fun v _ => rfl
theorem pay5 (hw : Is2 w A) : Is2 (k0_pay5 (F := Ideal) v0 v1 v3 v18 w) (mm 1024 (nrm eps xi (g 0)) A) :=
  (pay3 hp hg).dot hw.shapeCast_self |>.to fun v _ => rfl

omit hp hg
variable {h : Vec Ideal S256x1024 .bf16} {H R Z U D D' T : ℕ → ℕ → ℝ} {u u' : Vec Ideal S1024x768 .bf16} {q : Vec Ideal S768x1024 .bf16}
  {s t z z' : Vec Ideal S256x1024 .f32}

theorem pay7 (hh : Is2 h H) (hw : Is2 w A) : Is2 (k0_pay7 (F := Ideal) h w) (mm 1024 H A) := hh.dot hw.shapeCast_self |>.to fun v _ => rfl
theorem pay8 (hh : Is2 h H) (hw : Is2 w A) : Is2 (k0_pay8 (F := Ideal) h w) (mm 1024 H A) := hh.dot hw.shapeCast_self |>.to fun v _ => rfl
theorem pay10 (hh : Is2 h H) (hw : Is2 u A) : Is2 (k0_pay10 (F := Ideal) h u) (mm 1024 H A) := hh.dot hw.shapeCast_self |>.to fun v _ => rfl
theorem pay11 (hh : Is2 h H) (hw : Is2 u A) : Is2 (k0_pay11 (F := Ideal) h u) (mm 1024 H A) := hh.dot hw.shapeCast_self |>.to fun v _ => rfl

/-- The first two parts of the layer's result, on its input. -/
theorem pay9 (hs : Is2 s R) (hh : Is2 h H) (hz : Is2 z Z) (hz' : Is2 z' U) (hd : Is2 d D) (hw : Is2 w A) (hw' : Is2 w' B) (hd' : Is2 d' D') :
    Is2 (k0_pay9 (F := Ideal) s h z z' k0_pay6 d w w' d') fun i j => R i j + mm 1024 (fun i j => Z i j * sgm (Z i j) * U i j) D i j
      + mm 1024 (fun i j => mm 1024 H A i j * sgm (mm 1024 H A i j) * mm 1024 H B i j) D' i j :=
  (hs.add (Is2.dot (A := fun i j => Z i j * sgm (Z i j) * U i j) (hz.gated hz' bits_one bits_one bits_zero) hd.shapeCast_self)).add
    (Is2.dot (A := fun i j => mm 1024 H A i j * sgm (mm 1024 H A i j) * mm 1024 H B i j)
      ((pay7 hh hw).gated (pay8 hh hw') bits_one bits_one bits_zero) hd'.shapeCast_self) |>.to fun v _ => rfl

/-- The third part, less the target. -/
theorem pay13 (hh : Is2 h H) (hs : Is2 s R) (hw : Is2 u A) (hw' : Is2 u' B) (hd : Is2 q D) (ht : Is2 t T) :
    Is2 (k0_pay13 (F := Ideal) h s u u' q t) fun i j => R i j
      + mm 768 (fun i j => mm 1024 H A i j * sgm (mm 1024 H A i j) * mm 1024 H B i j) D i j - T i j :=
  (hs.add (Is2.dot (A := fun i j => mm 1024 H A i j * sgm (mm 1024 H A i j) * mm 1024 H B i j)
    ((pay10 hh hw).gated (pay11 hh hw') bits_one bits_one bits_zero) hd.shapeCast_self)).sub ht |>.to fun v _ => rfl

theorem pay12 : Is2 (k0_pay12 (F := Ideal)) fun _ _ => 0 := is_const bits_zero

/-- The squares' sum, added in every place. -/
theorem pay1 {r : Vec Ideal S8x128 .f32} (hr : Is2 r R) (hs : Is2 s A) :
    Is2 (k0_pay1 (F := Ideal) (k0_pay15 r) s) fun i j => R i j + ∑ a ∈ Finset.range 256, ∑ b ∈ Finset.range 1024, A a b :=
  hr.shapeCast_self.add (bone hs.sumRow.col.sumCol.row) |>.to fun v _ => rfl

end Payloads

variable (c : Dev nD) (i : grid0.Coords)
  (a1 : Memref sig .tc .vmem S256x1024 .f32) (h1 : a1.IsWhole)
  (a2 : Memref sig .tc .vmem S1x1024 .f32) (h2 : a2.IsWhole)
  (a3 : Memref sig .tc .vmem S1024x5632 .bf16) (h3 : a3.IsWhole)
  (a4 : Memref sig .tc .vmem S2816x1024 .bf16) (h4 : a4.IsWhole)
  (a5 : Memref sig .tc .vmem S256x1024 .bf16) (h5 : a5.IsWhole)
  (a6 : Memref sig .tc .vmem S1024x1024 .bf16) (h6 : a6.IsWhole)
  (a7 : Memref sig .tc .vmem S256x1024 .f32) (h7 : a7.IsWhole)
  (a8 : Memref sig .tc .vmem S256x1024 .f32) (h8 : a8.IsWhole)
  (a9 : Memref sig .tc .vmem S256x1024 .f32) (h9 : a9.IsWhole)
  (a10 : Memref sig .tc .vmem S256x5632 .f32) (h10 : a10.IsWhole)
  (a11 : Memref sig .tc .vmem S8x128 .f32) (h11 : a11.IsWhole)
  (x0 : Vec Ideal S256x1024 .f32) (x1 : Vec Ideal S1x1024 .f32) (x2 : Vec Ideal S1024x5632 .bf16) (x3 : Vec Ideal S2816x1024 .bf16) (x4 : Vec Ideal S256x1024 .bf16) (x5 : Vec Ideal S1024x1024 .bf16) (x6 : Vec Ideal S256x1024 .f32)

section Errors
variable {X G W D Ao O T : ℕ → ℕ → ℝ}

/-- The layer's result on the block, less the target. -/
theorem err_pay (e0 : Is2 x0 X) (e1 : Is2 x1 G) (e2 : Is2 x2 W) (e3 : Is2 x3 D) (e4 : Is2 x4 Ao) (e5 : Is2 x5 O) (e6 : Is2 x6 T) :
    Is2 (k0_pay13 (F := Ideal) (k0_pay3 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0))) (k0_pay9 (k0_pay2 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0))) (k0_pay3 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0))) (k0_pay4 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0)) (View.ld x2 (Rect.unit ![0, 0] ![1024, 1024] inb_S1024x5632_S1024x1024_0_0))) (k0_pay5 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0)) (View.ld x2 (Rect.unit ![0, 2816] ![1024, 1024] inb_S1024x5632_S1024x1024_0_2816))) k0_pay6 (View.ld x3 (Rect.unit ![0, 0] ![1024, 1024] inb_S2816x1024_S1024x1024_0_0)) (View.ld x2 (Rect.unit ![0, 1024] ![1024, 1024] inb_S1024x5632_S1024x1024_0_1024)) (View.ld x2 (Rect.unit ![0, 3840] ![1024, 1024] inb_S1024x5632_S1024x1024_0_3840)) (View.ld x3 (Rect.unit ![1024, 0] ![1024, 1024] inb_S2816x1024_S1024x1024_1024_0))) (View.ld x2 (Rect.unit ![0, 2048] ![1024, 768] inb_S1024x5632_S1024x768_0_2048)) (View.ld x2 (Rect.unit ![0, 4864] ![1024, 768] inb_S1024x5632_S1024x768_0_4864)) (View.ld x3 (Rect.unit ![2048, 0] ![768, 1024] inb_S2816x1024_S768x1024_2048_0)) (View.ld x6 (Rect.unit ![0, 0] ![256, 1024] inb_S256x1024_S256x1024_0_0))) (err eps (xin X Ao O) (G 0) W D T) := by
  have hp := pay2 (e0.ld (inb := inb_S256x1024_S256x1024_0_0)) (e4.ldb (inb := inb_S256x1024_S256x1024_0_0)) (e5.ldb (inb := inb_S1024x1024_S1024x1024_0_0))
  have hg := (e1.ld (inb := inb_S1x1024_S1x1024_0_0))
  have hh := pay3 hp hg
  have h9 := pay9 hp hh (pay4 hp hg (e2.ldb (inb := inb_S1024x5632_S1024x1024_0_0))) (pay5 hp hg (e2.ldb (inb := inb_S1024x5632_S1024x1024_0_2816))) (e3.ldb (inb := inb_S2816x1024_S1024x1024_0_0)) (e2.ldb (inb := inb_S1024x5632_S1024x1024_0_1024)) (e2.ldb (inb := inb_S1024x5632_S1024x1024_0_3840)) (e3.ldb (inb := inb_S2816x1024_S1024x1024_1024_0))
  have h13 := pay13 hh h9 (e2.ldb (inb := inb_S1024x5632_S1024x768_0_2048)) (e2.ldb (inb := inb_S1024x5632_S1024x768_0_4864)) (e3.ldb (inb := inb_S2816x1024_S768x1024_2048_0)) (e6.ld (inb := inb_S256x1024_S256x1024_0_0))
  clear hp hg hh h9 e0 e1 e2 e3 e4 e5 e6
  refine h13.to fun v _ => ?_
  clear h13
  simp only [fn2, err, out, zero_add, mm, sum_parts, ← add_assoc, act, gu, Nat.reduceAdd]

/-- What the block adds to the squared error. -/
theorem sq_pay {r : Vec Ideal S8x128 .f32} {R : ℕ → ℕ → ℝ} (hr : Is2 r R) (e0 : Is2 x0 X) (e1 : Is2 x1 G) (e2 : Is2 x2 W) (e3 : Is2 x3 D) (e4 : Is2 x4 Ao) (e5 : Is2 x5 O) (e6 : Is2 x6 T) :
    Is2 (k0_pay1 (F := Ideal) (k0_pay15 r) (k0_pay16 (k0_pay3 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0))) (k0_pay9 (k0_pay2 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0))) (k0_pay3 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0))) (k0_pay4 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0)) (View.ld x2 (Rect.unit ![0, 0] ![1024, 1024] inb_S1024x5632_S1024x1024_0_0))) (k0_pay5 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0)) (View.ld x2 (Rect.unit ![0, 2816] ![1024, 1024] inb_S1024x5632_S1024x1024_0_2816))) k0_pay6 (View.ld x3 (Rect.unit ![0, 0] ![1024, 1024] inb_S2816x1024_S1024x1024_0_0)) (View.ld x2 (Rect.unit ![0, 1024] ![1024, 1024] inb_S1024x5632_S1024x1024_0_1024)) (View.ld x2 (Rect.unit ![0, 3840] ![1024, 1024] inb_S1024x5632_S1024x1024_0_3840)) (View.ld x3 (Rect.unit ![1024, 0] ![1024, 1024] inb_S2816x1024_S1024x1024_1024_0))) (View.ld x2 (Rect.unit ![0, 2048] ![1024, 768] inb_S1024x5632_S1024x768_0_2048)) (View.ld x2 (Rect.unit ![0, 4864] ![1024, 768] inb_S1024x5632_S1024x768_0_4864)) (View.ld x3 (Rect.unit ![2048, 0] ![768, 1024] inb_S2816x1024_S768x1024_2048_0)) (View.ld x6 (Rect.unit ![0, 0] ![256, 1024] inb_S256x1024_S256x1024_0_0)))) fun i j => R i j + sse eps (xin X Ao O) (G 0) W D T 256 := by
  have he := err_pay x0 x1 x2 x3 x4 x5 x6 e0 e1 e2 e3 e4 e5 e6
  have hm : Is2 (k0_pay16 (F := Ideal) (k0_pay3 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0))) (k0_pay9 (k0_pay2 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0))) (k0_pay3 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0))) (k0_pay4 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0)) (View.ld x2 (Rect.unit ![0, 0] ![1024, 1024] inb_S1024x5632_S1024x1024_0_0))) (k0_pay5 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0)) (View.ld x2 (Rect.unit ![0, 2816] ![1024, 1024] inb_S1024x5632_S1024x1024_0_2816))) k0_pay6 (View.ld x3 (Rect.unit ![0, 0] ![1024, 1024] inb_S2816x1024_S1024x1024_0_0)) (View.ld x2 (Rect.unit ![0, 1024] ![1024, 1024] inb_S1024x5632_S1024x1024_0_1024)) (View.ld x2 (Rect.unit ![0, 3840] ![1024, 1024] inb_S1024x5632_S1024x1024_0_3840)) (View.ld x3 (Rect.unit ![1024, 0] ![1024, 1024] inb_S2816x1024_S1024x1024_1024_0))) (View.ld x2 (Rect.unit ![0, 2048] ![1024, 768] inb_S1024x5632_S1024x768_0_2048)) (View.ld x2 (Rect.unit ![0, 4864] ![1024, 768] inb_S1024x5632_S1024x768_0_4864)) (View.ld x3 (Rect.unit ![2048, 0] ![768, 1024] inb_S2816x1024_S768x1024_2048_0)) (View.ld x6 (Rect.unit ![0, 0] ![256, 1024] inb_S256x1024_S256x1024_0_0))) fun i k => err eps (xin X Ao O) (G 0) W D T i k * err eps (xin X Ao O) (G 0) W D T i k := he.mul he
  exact (pay1 hr hm).to fun v _ => rfl

end Errors

section First
variable (hc : cond0_0 i) {X G W D Ao O T : ℕ → ℕ → ℝ}

theorem outA_7 (e0 : Is2 x0 X) (e1 : Is2 x1 G) (e2 : Is2 x2 W) (e3 : Is2 x3 D) (e4 : Is2 x4 Ao) (e5 : Is2 x5 O) (e6 : Is2 x6 T) :
    Is2 (out0_A_7 c i a1 h1 a2 h2 a3 h3 a4 h4 a5 h5 a6 h6 a7 h7 a8 h8 a9 h9 a10 h10 a11 h11 hc x0 x1 x2 x3 x4 x5 x6) (xin X Ao O) := by
  unfold out0_A_7
  have hv := cover0_A_7 c i a1 h1 a2 h2 a3 h3 a4 h4 a5 h5 a6 h6 a7 h7 a8 h8 a9 h9 a10 h10 a11 h11 hc x0 x1 x2 x3 x4 x5 x6
  rw [View.read_writes_eq_canon _ _ _ hv]
  refine is2_canonf hv ?_
  unfold kernelRun0_A
  dsimp only
  sl_unfold_words
  simp only [View.readAt_eq_ld, h1.read_unread, h2.read_unread, h3.read_unread, h4.read_unread, h5.read_unread, h6.read_unread, h7.read_unread]
  have hp : Is2 (k0_pay2 (F := Ideal) (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0))) (xin X Ao O) := (pay2 (e0.ld (inb := inb_S256x1024_S256x1024_0_0)) (e4.ldb (inb := inb_S256x1024_S256x1024_0_0)) (e5.ldb (inb := inb_S1024x1024_S1024x1024_0_0))).to fun v _ => by simp only [fn2, xin, mm, zero_add]
  exact ⟨Is2.piece (inb := inb_S256x1024_S256x1024_0_0) (hp.to fun v _ => by simp only [fn2, zero_add]), trivial⟩

theorem outA_8 (e0 : Is2 x0 X) (e1 : Is2 x1 G) (e2 : Is2 x2 W) (e3 : Is2 x3 D) (e4 : Is2 x4 Ao) (e5 : Is2 x5 O) (e6 : Is2 x6 T) :
    Is2 (out0_A_8 c i a1 h1 a2 h2 a3 h3 a4 h4 a5 h5 a6 h6 a7 h7 a8 h8 a9 h9 a10 h10 a11 h11 hc x0 x1 x2 x3 x4 x5 x6) (errCt eps (xin X Ao O) (G 0) W D T) := by
  unfold out0_A_8
  have hv := cover0_A_8 c i a1 h1 a2 h2 a3 h3 a4 h4 a5 h5 a6 h6 a7 h7 a8 h8 a9 h9 a10 h10 a11 h11 hc x0 x1 x2 x3 x4 x5 x6
  rw [View.read_writes_eq_canon _ _ _ hv]
  refine is2_canonf hv ?_
  unfold kernelRun0_A
  dsimp only
  sl_unfold_words
  simp only [View.readAt_eq_ld, h1.read_unread, h2.read_unread, h3.read_unread, h4.read_unread, h5.read_unread, h6.read_unread, h7.read_unread]
  have hp : Is2 (k0_pay14 (F := Ideal) (k0_pay3 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0))) (k0_pay9 (k0_pay2 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0))) (k0_pay3 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0))) (k0_pay4 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0)) (View.ld x2 (Rect.unit ![0, 0] ![1024, 1024] inb_S1024x5632_S1024x1024_0_0))) (k0_pay5 (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0)) (View.ld x1 (Rect.unit ![0, 0] ![1, 1024] inb_S1x1024_S1x1024_0_0)) (View.ld x2 (Rect.unit ![0, 2816] ![1024, 1024] inb_S1024x5632_S1024x1024_0_2816))) k0_pay6 (View.ld x3 (Rect.unit ![0, 0] ![1024, 1024] inb_S2816x1024_S1024x1024_0_0)) (View.ld x2 (Rect.unit ![0, 1024] ![1024, 1024] inb_S1024x5632_S1024x1024_0_1024)) (View.ld x2 (Rect.unit ![0, 3840] ![1024, 1024] inb_S1024x5632_S1024x1024_0_3840)) (View.ld x3 (Rect.unit ![1024, 0] ![1024, 1024] inb_S2816x1024_S1024x1024_1024_0))) (View.ld x2 (Rect.unit ![0, 2048] ![1024, 768] inb_S1024x5632_S1024x768_0_2048)) (View.ld x2 (Rect.unit ![0, 4864] ![1024, 768] inb_S1024x5632_S1024x768_0_4864)) (View.ld x3 (Rect.unit ![2048, 0] ![768, 1024] inb_S2816x1024_S768x1024_2048_0)) (View.ld x6 (Rect.unit ![0, 0] ![256, 1024] inb_S256x1024_S256x1024_0_0))) (errCt eps (xin X Ao O) (G 0) W D T) := ((err_pay x0 x1 x2 x3 x4 x5 x6 e0 e1 e2 e3 e4 e5 e6).mul (is_const bits_1024th)).to fun v _ => rfl
  exact ⟨Is2.piece (inb := inb_S256x1024_S256x1024_0_0) (hp.to fun v _ => by simp only [fn2, zero_add]), trivial⟩

theorem outA_9 (e0 : Is2 x0 X) (e1 : Is2 x1 G) (e2 : Is2 x2 W) (e3 : Is2 x3 D) (e4 : Is2 x4 Ao) (e5 : Is2 x5 O) (e6 : Is2 x6 T) :
    Is2 (out0_A_9 c i a1 h1 a2 h2 a3 h3 a4 h4 a5 h5 a6 h6 a7 h7 a8 h8 a9 h9 a10 h10 a11 h11 hc x0 x1 x2 x3 x4 x5 x6) (gu eps (xin X Ao O) (G 0) W) := by
  unfold out0_A_9
  have hv := cover0_A_9 c i a1 h1 a2 h2 a3 h3 a4 h4 a5 h5 a6 h6 a7 h7 a8 h8 a9 h9 a10 h10 a11 h11 hc x0 x1 x2 x3 x4 x5 x6
  rw [View.read_writes_eq_canon _ _ _ hv]
  refine is2_canonf hv ?_
  unfold kernelRun0_A
  dsimp only
  sl_unfold_words
  simp only [View.readAt_eq_ld, h1.read_unread, h2.read_unread, h3.read_unread, h4.read_unread, h5.read_unread, h6.read_unread, h7.read_unread]
  have hp : Is2 (k0_pay2 (F := Ideal) (View.ld x0 (Rect.unit ![0, 0] ![256, 1024] inb_S256x1024_S256x1024_0_0)) (View.ld x4 (Rect.unit ![0, 0] ![256, 1024] inb_S256x1024_S256x1024_0_0)) (View.ld x5 (Rect.unit ![0, 0] ![1024, 1024] inb_S1024x1024_S1024x1024_0_0))) (xin X Ao O) := (pay2 (e0.ld (inb := inb_S256x1024_S256x1024_0_0)) (e4.ldb (inb := inb_S256x1024_S256x1024_0_0)) (e5.ldb (inb := inb_S1024x1024_S1024x1024_0_0))).to fun v _ => by simp only [fn2, xin, mm, zero_add]
  have hg := (e1.ld (inb := inb_S1x1024_S1x1024_0_0))
  have hh := pay3 hp hg
  refine ⟨Is2.piece (inb := inb_S256x5632_S256x768_0_4864) (pay11 hh (e2.ldb (inb := inb_S1024x5632_S1024x768_0_4864)) |>.to ?_),
    Is2.piece (inb := inb_S256x5632_S256x768_0_2048) (pay10 hh (e2.ldb (inb := inb_S1024x5632_S1024x768_0_2048)) |>.to ?_),
    Is2.piece (inb := inb_S256x5632_S256x1024_0_3840) (pay8 hh (e2.ldb (inb := inb_S1024x5632_S1024x1024_0_3840)) |>.to ?_),
    Is2.piece (inb := inb_S256x5632_S256x1024_0_1024) (pay7 hh (e2.ldb (inb := inb_S1024x5632_S1024x1024_0_1024)) |>.to ?_),
    Is2.piece (inb := inb_S256x5632_S256x1024_0_2816) (pay5 hp hg (e2.ldb (inb := inb_S1024x5632_S1024x1024_0_2816)) |>.to ?_),
    Is2.piece (inb := inb_S256x5632_S256x1024_0_0) (pay4 hp hg (e2.ldb (inb := inb_S1024x5632_S1024x1024_0_0)) |>.to ?_), trivial⟩ <;>
  exact fun v _ => by simp only [fn2, gu, mm, zero_add]

theorem outA_10 (e0 : Is2 x0 X) (e1 : Is2 x1 G) (e2 : Is2 x2 W) (e3 : Is2 x3 D) (e4 : Is2 x4 Ao) (e5 : Is2 x5 O) (e6 : Is2 x6 T) :
    Is2 (out0_A_10 c i a1 h1 a2 h2 a3 h3 a4 h4 a5 h5 a6 h6 a7 h7 a8 h8 a9 h9 a10 h10 a11 h11 hc x0 x1 x2 x3 x4 x5 x6) fun _ _ => sse eps (xin X Ao O) (G 0) W D T 256 := by
  unfold out0_A_10 kernelRun0_A
  dsimp only
  sl_unfold_words
  simp only [View.readAt_eq_ld, h1.read_unread, h2.read_unread, h3.read_unread, h4.read_unread, h5.read_unread, h6.read_unread, h7.read_unread]
  rw [View.readCov_fill _ _ _ _ _ fun a => by fin_cases a <;> rfl]
  have hr := sq_pay x0 x1 x2 x3 x4 x5 x6 (pay12.ld (inb := inb_S8x128_S8x128_0_0)) e0 e1 e2 e3 e4 e5 e6
  exact (is2_fill (inb := inb_S8x128_S8x128_0_0) hr).to fun v _ => by simp only [fn2, zero_add]

/-- The three row-wise results of a block, at the first point. -/
theorem outsA (e0 : Is2 x0 X) (e1 : Is2 x1 G) (e2 : Is2 x2 W) (e3 : Is2 x3 D) (e4 : Is2 x4 Ao) (e5 : Is2 x5 O) (e6 : Is2 x6 T) :
    Is2 (out0_A_7 c i a1 h1 a2 h2 a3 h3 a4 h4 a5 h5 a6 h6 a7 h7 a8 h8 a9 h9 a10 h10 a11 h11 hc x0 x1 x2 x3 x4 x5 x6) (xin X Ao O)
    ∧ Is2 (out0_A_8 c i a1 h1 a2 h2 a3 h3 a4 h4 a5 h5 a6 h6 a7 h7 a8 h8 a9 h9 a10 h10 a11 h11 hc x0 x1 x2 x3 x4 x5 x6) (errCt eps (xin X Ao O) (G 0) W D T)
    ∧ Is2 (out0_A_9 c i a1 h1 a2 h2 a3 h3 a4 h4 a5 h5 a6 h6 a7 h7 a8 h8 a9 h9 a10 h10 a11 h11 hc x0 x1 x2 x3 x4 x5 x6) (gu eps (xin X Ao O) (G 0) W) :=
  ⟨outA_7 c i a1 h1 a2 h2 a3 h3 a4 h4 a5 h5 a6 h6 a7 h7 a8 h8 a9 h9 a10 h10 a11 h11 x0 x1 x2 x3 x4 x5 x6 hc e0 e1 e2 e3 e4 e5 e6, outA_8 c i a1 h1 a2 h2 a3 h3 a4 h4 a5 h5 a6 h6 a7 h7 a8 h8 a9 h9 a10 h10 a11 h11 x0 x1 x2 x3 x4 x5 x6 hc e0 e1 e2 e3 e4 e5 e6, outA_9 c i a1 h1 a2 h2 a3 h3 a4 h4 a5 h5 a6 h6 a7 h7 a8 h8 a9 h9 a10 h10 a11 h11 x0 x1 x2 x3 x4 x5 x6 hc e0 e1 e2 e3 e4 e5 e6⟩

end First

section Next
variable (hc : ¬ cond0_0 i) (xo : Vec Ideal S8x128 .f32) {X G W D Ao O T R : ℕ → ℕ → ℝ}

theorem outB_10 (eo : Is2 xo R) (e0 : Is2 x0 X) (e1 : Is2 x1 G) (e2 : Is2 x2 W) (e3 : Is2 x3 D) (e4 : Is2 x4 Ao) (e5 : Is2 x5 O) (e6 : Is2 x6 T) :
    Is2 (out0_B_10 c i a1 h1 a2 h2 a3 h3 a4 h4 a5 h5 a6 h6 a7 h7 a8 h8 a9 h9 a10 h10 a11 h11 hc x0 x1 x2 x3 x4 x5 x6 xo) fun i j => R i j + sse eps (xin X Ao O) (G 0) W D T 256 := by
  unfold out0_B_10 kernelRun0_B
  dsimp only
  sl_unfold_words
  simp only [View.readAt_eq_ld, h1.read_unread, h2.read_unread, h3.read_unread, h4.read_unread, h5.read_unread, h6.read_unread, h7.read_unread, h11.read_unread]
  have hr := sq_pay x0 x1 x2 x3 x4 x5 x6 (eo.ld (inb := inb_S8x128_S8x128_0_0)) e0 e1 e2 e3 e4 e5 e6
  exact (is2_fill (inb := inb_S8x128_S8x128_0_0) hr).to fun v _ => by simp only [fn2, zero_add]

/-! The first point's row-wise results are the other points' too. -/

theorem out_eq_7 (i' : grid0.Coords) (hc' : cond0_0 i') : out0_B_7 c i a1 h1 a2 h2 a3 h3 a4 h4 a5 h5 a6 h6 a7 h7 a8 h8 a9 h9 a10 h10 a11 h11 hc x0 x1 x2 x3 x4 x5 x6 xo = out0_A_7 c i' a1 h1 a2 h2 a3 h3 a4 h4 a5 h5 a6 h6 a7 h7 a8 h8 a9 h9 a10 h10 a11 h11 hc' x0 x1 x2 x3 x4 x5 x6 := by
  unfold out0_B_7 out0_A_7 kernelRun0_B kernelRun0_A
  dsimp only
theorem out_eq_8 (i' : grid0.Coords) (hc' : cond0_0 i') : out0_B_8 c i a1 h1 a2 h2 a3 h3 a4 h4 a5 h5 a6 h6 a7 h7 a8 h8 a9 h9 a10 h10 a11 h11 hc x0 x1 x2 x3 x4 x5 x6 xo = out0_A_8 c i' a1 h1 a2 h2 a3 h3 a4 h4 a5 h5 a6 h6 a7 h7 a8 h8 a9 h9 a10 h10 a11 h11 hc' x0 x1 x2 x3 x4 x5 x6 := by
  unfold out0_B_8 out0_A_8 kernelRun0_B kernelRun0_A
  dsimp only
  sl_unfold_words
  simp only [View.readAt_eq_ld, h1.read_unread, h2.read_unread, h3.read_unread, h4.read_unread, h5.read_unread, h6.read_unread, h7.read_unread]
theorem out_eq_9 (i' : grid0.Coords) (hc' : cond0_0 i') : out0_B_9 c i a1 h1 a2 h2 a3 h3 a4 h4 a5 h5 a6 h6 a7 h7 a8 h8 a9 h9 a10 h10 a11 h11 hc x0 x1 x2 x3 x4 x5 x6 xo = out0_A_9 c i' a1 h1 a2 h2 a3 h3 a4 h4 a5 h5 a6 h6 a7 h7 a8 h8 a9 h9 a10 h10 a11 h11 hc' x0 x1 x2 x3 x4 x5 x6 := by
  unfold out0_B_9 out0_A_9 kernelRun0_B kernelRun0_A
  dsimp only
  sl_unfold_words
  simp only [View.readAt_eq_ld, h1.read_unread, h2.read_unread, h3.read_unread, h4.read_unread, h5.read_unread, h6.read_unread, h7.read_unread]

theorem outsB (i' : grid0.Coords) (hc' : cond0_0 i') (e0 : Is2 x0 X) (e1 : Is2 x1 G) (e2 : Is2 x2 W) (e3 : Is2 x3 D) (e4 : Is2 x4 Ao) (e5 : Is2 x5 O) (e6 : Is2 x6 T) :
    Is2 (out0_B_7 c i a1 h1 a2 h2 a3 h3 a4 h4 a5 h5 a6 h6 a7 h7 a8 h8 a9 h9 a10 h10 a11 h11 hc x0 x1 x2 x3 x4 x5 x6 xo) (xin X Ao O)
    ∧ Is2 (out0_B_8 c i a1 h1 a2 h2 a3 h3 a4 h4 a5 h5 a6 h6 a7 h7 a8 h8 a9 h9 a10 h10 a11 h11 hc x0 x1 x2 x3 x4 x5 x6 xo) (errCt eps (xin X Ao O) (G 0) W D T)
    ∧ Is2 (out0_B_9 c i a1 h1 a2 h2 a3 h3 a4 h4 a5 h5 a6 h6 a7 h7 a8 h8 a9 h9 a10 h10 a11 h11 hc x0 x1 x2 x3 x4 x5 x6 xo) (gu eps (xin X Ao O) (G 0) W) := by
  rw [out_eq_7 c i a1 h1 a2 h2 a3 h3 a4 h4 a5 h5 a6 h6 a7 h7 a8 h8 a9 h9 a10 h10 a11 h11 x0 x1 x2 x3 x4 x5 x6 hc xo i' hc', out_eq_8 c i a1 h1 a2 h2 a3 h3 a4 h4 a5 h5 a6 h6 a7 h7 a8 h8 a9 h9 a10 h10 a11 h11 x0 x1 x2 x3 x4 x5 x6 hc xo i' hc', out_eq_9 c i a1 h1 a2 h2 a3 h3 a4 h4 a5 h5 a6 h6 a7 h7 a8 h8 a9 h9 a10 h10 a11 h11 x0 x1 x2 x3 x4 x5 x6 hc xo i' hc']
  exact outsA c i' a1 h1 a2 h2 a3 h3 a4 h4 a5 h5 a6 h6 a7 h7 a8 h8 a9 h9 a10 h10 a11 h11 x0 x1 x2 x3 x4 x5 x6 hc' e0 e1 e2 e3 e4 e5 e6

end Next

end Cert.Kernel4Ideal.Fwd

end
-- ==== Proof.LFwdArray.lean ====
/-
  The arrays the second layer's forward call leaves: blocks of 256 rows, and the squared error, summed over the blocks.
-/
module

public import proofs.«01_k».proof.Proof.LFwd
public import Idealize.ShloMosaic.Lib.Pipeline.ValueKit

@[expose] public section

set_option maxRecDepth 16384

noncomputable section

namespace Cert.Kernel4Ideal.Fwd

open Cert.Kernel4Ideal Cert.Kernel4Ideal.Gen Cert.Reals Cert.Math Idealize.ShloMosaic Idealize.ShloMosaic.TcCoe Idealize.ShloMosaic.Pipeline

variable (V : (c : Dev nD) → (b : Ref sig .tc) → Buf (Elt Ideal) ((c : Thread nD τ).loc b)) (c : Dev nD)
  {X G W D Ao O T : ℕ → ℕ → ℝ}

/-! The windows' places: the rows' blocks follow the point, the weights stay. -/

theorem at_0 (t : Fin cfg0.N) : win0_0.index t 0 = t.val ∧ win0_0.index t 1 = 0 :=
  (by decide +kernel : ∀ t : Fin grid0.N, win0_0.index t 0 = t.val ∧ win0_0.index t 1 = 0) t
theorem at_1 (t : Fin cfg0.N) : win0_1.index t 0 = 0 ∧ win0_1.index t 1 = 0 :=
  (by decide +kernel : ∀ t : Fin grid0.N, win0_1.index t 0 = 0 ∧ win0_1.index t 1 = 0) t
theorem at_2 (t : Fin cfg0.N) : win0_2.index t 0 = 0 ∧ win0_2.index t 1 = 0 :=
  (by decide +kernel : ∀ t : Fin grid0.N, win0_2.index t 0 = 0 ∧ win0_2.index t 1 = 0) t
theorem at_3 (t : Fin cfg0.N) : win0_3.index t 0 = 0 ∧ win0_3.index t 1 = 0 :=
  (by decide +kernel : ∀ t : Fin grid0.N, win0_3.index t 0 = 0 ∧ win0_3.index t 1 = 0) t
theorem at_4 (t : Fin cfg0.N) : win0_4.index t 0 = t.val ∧ win0_4.index t 1 = 0 :=
  (by decide +kernel : ∀ t : Fin grid0.N, win0_4.index t 0 = t.val ∧ win0_4.index t 1 = 0) t
theorem at_5 (t : Fin cfg0.N) : win0_5.index t 0 = 0 ∧ win0_5.index t 1 = 0 :=
  (by decide +kernel : ∀ t : Fin grid0.N, win0_5.index t 0 = 0 ∧ win0_5.index t 1 = 0) t
theorem at_6 (t : Fin cfg0.N) : win0_6.index t 0 = t.val ∧ win0_6.index t 1 = 0 :=
  (by decide +kernel : ∀ t : Fin grid0.N, win0_6.index t 0 = t.val ∧ win0_6.index t 1 = 0) t
theorem at_7 (t : Fin cfg0.N) : win0_7.index t 0 = t.val ∧ win0_7.index t 1 = 0 :=
  (by decide +kernel : ∀ t : Fin grid0.N, win0_7.index t 0 = t.val ∧ win0_7.index t 1 = 0) t
theorem at_8 (t : Fin cfg0.N) : win0_8.index t 0 = t.val ∧ win0_8.index t 1 = 0 :=
  (by decide +kernel : ∀ t : Fin grid0.N, win0_8.index t 0 = t.val ∧ win0_8.index t 1 = 0) t
theorem at_9 (t : Fin cfg0.N) : win0_9.index t 0 = t.val ∧ win0_9.index t 1 = 0 :=
  (by decide +kernel : ∀ t : Fin grid0.N, win0_9.index t 0 = t.val ∧ win0_9.index t 1 = 0) t
theorem at_10 (t : Fin cfg0.N) : win0_10.index t 0 = 0 ∧ win0_10.index t 1 = 0 :=
  (by decide +kernel : ∀ t : Fin grid0.N, win0_10.index t 0 = 0 ∧ win0_10.index t 1 = 0) t

theorem blk_0 (h : Is2 (V c main_arg0) X) (t : Fin cfg0.N) : Is2 (m := 256) (n := 1024) (iblk0 V c 0 t) (fun i k => X (t.val * 256 + i) k) := fun y => by
  blk_simp [iblk0]
  refine (h _).trans ?_
  blk_simp
  exact coe_tile X (at_0 t).1 (at_0 t).2 256 1024 (y 0).val (y 1).val
theorem blk_1 (h : Is2 (V c main_arg3) G) (t : Fin cfg0.N) : Is2 (m := 1) (n := 1024) (iblk0 V c 1 t) G := fun y => by
  blk_simp [iblk0]
  refine (h _).trans ?_
  blk_simp
  exact coe_whole G (at_1 t).1 (at_1 t).2 1 1024 (y 0).val (y 1).val
theorem blk_2 (h : Is2 (V c main_v0) W) (t : Fin cfg0.N) : Is2 (m := 1024) (n := 5632) (iblk0 V c 2 t) W := fun y => by
  blk_simp [iblk0]
  refine (h _).trans ?_
  blk_simp
  exact coe_whole W (at_2 t).1 (at_2 t).2 1024 5632 (y 0).val (y 1).val
theorem blk_3 (h : Is2 (V c main_v1) D) (t : Fin cfg0.N) : Is2 (m := 2816) (n := 1024) (iblk0 V c 3 t) D := fun y => by
  blk_simp [iblk0]
  refine (h _).trans ?_
  blk_simp
  exact coe_whole D (at_3 t).1 (at_3 t).2 2816 1024 (y 0).val (y 1).val
theorem blk_4 (h : Is2 (V c main_v3) Ao) (t : Fin cfg0.N) : Is2 (m := 256) (n := 1024) (iblk0 V c 4 t) (fun i k => Ao (t.val * 256 + i) k) := fun y => by
  blk_simp [iblk0]
  refine (h _).trans ?_
  blk_simp
  exact coe_tile Ao (at_4 t).1 (at_4 t).2 256 1024 (y 0).val (y 1).val
theorem blk_5 (h : Is2 (V c main_v2) O) (t : Fin cfg0.N) : Is2 (m := 1024) (n := 1024) (iblk0 V c 5 t) O := fun y => by
  blk_simp [iblk0]
  refine (h _).trans ?_
  blk_simp
  exact coe_whole O (at_5 t).1 (at_5 t).2 1024 1024 (y 0).val (y 1).val
theorem blk_6 (h : Is2 (V c main_arg6) T) (t : Fin cfg0.N) : Is2 (m := 256) (n := 1024) (iblk0 V c 6 t) (fun i k => T (t.val * 256 + i) k) := fun y => by
  blk_simp [iblk0]
  refine (h _).trans ?_
  blk_simp
  exact coe_tile T (at_6 t).1 (at_6 t).2 256 1024 (y 0).val (y 1).val

theorem covers_7 : (cfg0.win 7).Covers := by decide +kernel
theorem covers_8 : (cfg0.win 8).Covers := by decide +kernel
theorem covers_9 : (cfg0.win 9).Covers := by decide +kernel
theorem covers_10 : (cfg0.win 10).Covers := by decide +kernel
theorem last : ∀ t : Fin cfg0.N, (cfg0.win 10).flush t = true → t.val = 31 :=
  (by decide +kernel : ∀ t : Fin grid0.N, win0_10.flush t = true → t.val = 31)

/-- The first point, where the sum is started. -/
theorem first : cond0_0 (grid0.coords ⟨0, by decide⟩) := (hcond0_0 ⟨0, by decide⟩).mpr rfl

variable (i0 : Is2 (V c main_arg0) X) (i1 : Is2 (V c main_arg3) G) (i2 : Is2 (V c main_v0) W) (i3 : Is2 (V c main_v1) D) (i4 : Is2 (V c main_v3) Ao) (i5 : Is2 (V c main_v2) O) (i6 : Is2 (V c main_arg6) T)
include i0 i1 i2 i3 i4 i5 i6

/-- What one point leaves of the row-wise results. -/
theorem outs (t : Fin cfg0.N) :
    Is2 (m := 256) (n := 1024) (outsAt0 V c t.val t.isLt).1 (fun i k => (xin X Ao O) (t.val * 256 + i) k)
    ∧ Is2 (m := 256) (n := 1024) (outsAt0 V c t.val t.isLt).2.1 (fun i k => (errCt eps (xin X Ao O) (G 0) W D T) (t.val * 256 + i) k)
    ∧ Is2 (m := 256) (n := 5632) (outsAt0 V c t.val t.isLt).2.2.1 (fun i k => (gu eps (xin X Ao O) (G 0) W) (t.val * 256 + i) k) := by
  by_cases h0 : t.val % 32 = 0
  · rw [outsAt0_A V c t h0]
    dsimp only
    have h := outsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk0 V c 0 t) (iblk0 V c 1 t) (iblk0 V c 2 t) (iblk0 V c 3 t) (iblk0 V c 4 t) (iblk0 V c 5 t) (iblk0 V c 6 t) ((hcond0_0 t).mpr h0) (blk_0 V c i0 t) (blk_1 V c i1 t) (blk_2 V c i2 t) (blk_3 V c i3 t) (blk_4 V c i4 t) (blk_5 V c i5 t) (blk_6 V c i6 t)
    exact ⟨h.1.to fun v _ => rfl, h.2.1.to fun v _ => rfl, h.2.2.to fun v _ => rfl⟩
  · rw [outsAt0_B V c t h0]
    dsimp only
    have h := outsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk0 V c 0 t) (iblk0 V c 1 t) (iblk0 V c 2 t) (iblk0 V c 3 t) (iblk0 V c 4 t) (iblk0 V c 5 t) (iblk0 V c 6 t) (fun h => h0 ((hcond0_0 t).mp h)) (outsAt0 V c (t.val - 1) (Nat.lt_of_le_of_lt (Nat.sub_le _ _) t.isLt)).2.2.2 _ first (blk_0 V c i0 t) (blk_1 V c i1 t) (blk_2 V c i2 t) (blk_3 V c i3 t) (blk_4 V c i4 t) (blk_5 V c i5 t) (blk_6 V c i6 t)
    exact ⟨h.1.to fun v _ => rfl, h.2.1.to fun v _ => rfl, h.2.2.to fun v _ => rfl⟩

/-- What a point's 256 rows add to the squared error. -/
theorem sum_first (t : Fin cfg0.N) (h0 : t.val % 32 = 0) : Is2 (m := 8) (n := 128) (outsAt0 V c t.val t.isLt).2.2.2
    fun _ _ => ∑ j ∈ Finset.range 256, ∑ k ∈ Finset.range 1024, err eps (xin X Ao O) (G 0) W D T (t.val * 256 + j) k * err eps (xin X Ao O) (G 0) W D T (t.val * 256 + j) k := by
  rw [outsAt0_A V c t h0]
  dsimp only
  exact (outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk0 V c 0 t) (iblk0 V c 1 t) (iblk0 V c 2 t) (iblk0 V c 3 t) (iblk0 V c 4 t) (iblk0 V c 5 t) (iblk0 V c 6 t) ((hcond0_0 t).mpr h0) (blk_0 V c i0 t) (blk_1 V c i1 t) (blk_2 V c i2 t) (blk_3 V c i3 t) (blk_4 V c i4 t) (blk_5 V c i5 t) (blk_6 V c i6 t)).to fun v _ => rfl
theorem sum_next (t : Fin cfg0.N) (h0 : ¬ t.val % 32 = 0) {R : ℕ → ℕ → ℝ}
    (hR : Is2 (m := 8) (n := 128) (outsAt0 V c (t.val - 1) (Nat.lt_of_le_of_lt (Nat.sub_le _ _) t.isLt)).2.2.2 R) :
    Is2 (m := 8) (n := 128) (outsAt0 V c t.val t.isLt).2.2.2
      fun i k => R i k + ∑ j ∈ Finset.range 256, ∑ k ∈ Finset.range 1024, err eps (xin X Ao O) (G 0) W D T (t.val * 256 + j) k * err eps (xin X Ao O) (G 0) W D T (t.val * 256 + j) k := by
  rw [outsAt0_B V c t h0]
  dsimp only
  exact (outB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk0 V c 0 t) (iblk0 V c 1 t) (iblk0 V c 2 t) (iblk0 V c 3 t) (iblk0 V c 4 t) (iblk0 V c 5 t) (iblk0 V c 6 t) (fun h => h0 ((hcond0_0 t).mp h)) _ hR (blk_0 V c i0 t) (blk_1 V c i1 t) (blk_2 V c i2 t) (blk_3 V c i3 t) (blk_4 V c i4 t) (blk_5 V c i5 t) (blk_6 V c i6 t)).to fun v _ => rfl

/-- The squared error after point `n`: the sum over the rows so far, in every place. -/
theorem outs_sum : ∀ (n : ℕ) (h : n < cfg0.N), Is2 (m := 8) (n := 128) (outsAt0 V c n h).2.2.2
    fun _ _ => sse eps (xin X Ao O) (G 0) W D T (256 * (n + 1))
  | 0, h => (sum_first V c i0 i1 i2 i3 i4 i5 i6 ⟨0, h⟩ rfl).to fun v _ => by simp only [fn2, sse, Nat.zero_mul, Nat.zero_add, Nat.mul_one]
  | n + 1, h => by
    have hn : n + 1 < 32 := h
    refine (sum_next V c i0 i1 i2 i3 i4 i5 i6 ⟨n + 1, h⟩ (fun h0 => by dsimp only at h0; omega) (outs_sum n (Nat.lt_of_succ_lt h))).to fun v _ => ?_
    simp only [fn2, sse]
    rw [Nat.mul_add_one 256 (n + 1), Finset.sum_range_add, Nat.mul_comm 256 (n + 1)]

/-- The layer's input. -/
theorem arr_7 : Is2 (m := 8192) (n := 1024) ((dat0 V c).arrAt 7 cfg0.N) (xin X Ao O) :=
  (dat0 V c).arrAt_forall_of_covers 7 (fun i v => v = ((fn2 (xin X Ao O) fun a => (i a).val : ℝ) : EReal)) covers_7 fun t hf y => by
    blk_simp
    rw [after0_7]
    exact ((outs V c i0 i1 i2 i3 i4 i5 i6 t).1 y).trans (coe_tile (xin X Ao O) (at_7 t).1 (at_7 t).2 256 1024 (y 0).val (y 1).val).symm

/-- The loss's derivative. -/
theorem arr_8 : Is2 (m := 8192) (n := 1024) ((dat0 V c).arrAt 8 cfg0.N) (errCt eps (xin X Ao O) (G 0) W D T) :=
  (dat0 V c).arrAt_forall_of_covers 8 (fun i v => v = ((fn2 (errCt eps (xin X Ao O) (G 0) W D T) fun a => (i a).val : ℝ) : EReal)) covers_8 fun t hf y => by
    blk_simp
    rw [after0_8]
    exact ((outs V c i0 i1 i2 i3 i4 i5 i6 t).2.1 y).trans (coe_tile (errCt eps (xin X Ao O) (G 0) W D T) (at_8 t).1 (at_8 t).2 256 1024 (y 0).val (y 1).val).symm

/-- The two projections. -/
theorem arr_9 : Is2 (m := 8192) (n := 5632) ((dat0 V c).arrAt 9 cfg0.N) (gu eps (xin X Ao O) (G 0) W) :=
  (dat0 V c).arrAt_forall_of_covers 9 (fun i v => v = ((fn2 (gu eps (xin X Ao O) (G 0) W) fun a => (i a).val : ℝ) : EReal)) covers_9 fun t hf y => by
    blk_simp
    rw [after0_9]
    exact ((outs V c i0 i1 i2 i3 i4 i5 i6 t).2.2 y).trans (coe_tile (gu eps (xin X Ao O) (G 0) W) (at_9 t).1 (at_9 t).2 256 5632 (y 0).val (y 1).val).symm

/-- The squared error of all rows, in every place. -/
theorem arr_10 : Is2 (m := 8) (n := 128) ((dat0 V c).arrAt 10 cfg0.N) (fun _ _ => sse eps (xin X Ao O) (G 0) W D T 8192) :=
  (dat0 V c).arrAt_forall_of_covers 10 (fun i v => v = ((fn2 (fun _ _ => sse eps (xin X Ao O) (G 0) W D T 8192) fun a => (i a).val : ℝ) : EReal)) covers_10 fun t hf y => by
    blk_simp
    rw [after0_10]
    refine (outs_sum V c i0 i1 i2 i3 i4 i5 i6 t.val t.isLt y).trans ?_
    rw [last t hf]

end Cert.Kernel4Ideal.Fwd

end
-- ==== Proof.LBwd.lean ====
/-
  One block of the second layer's backward call: 256 rows of each result, and the row that the gain's gradient grows by.
  Its values are those of the first layer's backward call, rounded and multiplied by the output weight at the end.
-/
module

public import proofs.«01_k».proof.Proof.Gen.Kernel4Ideal.Frame
public import proofs.«01_k».proof.Proof.BwdBlock

@[expose] public section

set_option maxRecDepth 16384

noncomputable section

namespace Cert.Kernel4Ideal.Bwd

open Cert.Kernel4Ideal Cert.Kernel4Ideal.Gen Cert.Reals Cert.Math Idealize.ShloMosaic Idealize.ShloMosaic.Tactic

variable (c : Dev nD) (i : grid1.Coords)
  (a1 : Memref sig .tc .vmem S256x1024 .f32) (h1 : a1.IsWhole)
  (a2 : Memref sig .tc .vmem S256x1024 .f32) (h2 : a2.IsWhole)
  (a3 : Memref sig .tc .vmem S1x1024 .f32) (h3 : a3.IsWhole)
  (a4 : Memref sig .tc .vmem S256x5632 .f32) (h4 : a4.IsWhole)
  (a5 : Memref sig .tc .vmem S1024x5632 .bf16) (h5 : a5.IsWhole)
  (a6 : Memref sig .tc .vmem S2816x1024 .bf16) (h6 : a6.IsWhole)
  (a7 : Memref sig .tc .vmem S1024x1024 .bf16) (h7 : a7.IsWhole)
  (a8 : Memref sig .tc .vmem S256x1024 .f32) (h8 : a8.IsWhole)
  (a9 : Memref sig .tc .vmem S256x2816 .bf16) (h9 : a9.IsWhole)
  (a10 : Memref sig .tc .vmem S256x5632 .bf16) (h10 : a10.IsWhole)
  (a11 : Memref sig .tc .vmem S256x1024 .bf16) (h11 : a11.IsWhole)
  (a12 : Memref sig .tc .vmem S256x1024 .bf16) (h12 : a12.IsWhole)
  (a13 : Memref sig .tc .vmem S8x1024 .f32) (h13 : a13.IsWhole)
  (a14 : Memref sig .tc .vmem S256x1024 .bf16) (h14 : a14.IsWhole)
  (a15 : Memref sig .tc .vmem S256x1024 .bf16) (h15 : a15.IsWhole)
  (x0 : Vec Ideal S256x1024 .f32) (x1 : Vec Ideal S256x1024 .f32) (x2 : Vec Ideal S1x1024 .f32) (x3 : Vec Ideal S256x5632 .f32) (x4 : Vec Ideal S1024x5632 .bf16) (x5 : Vec Ideal S2816x1024 .bf16) (x6 : Vec Ideal S1024x1024 .bf16)

section Payloads
variable {Ct X G Z W D : ℕ → ℕ → ℝ}

/-! A cast to the same shape leaves the array, so the payloads are the first layer's. -/

theorem pay7_eq (v : Vec Ideal S256x1024 .f32) : k1_pay7 (F := Ideal) v = KernelIdeal.Gen.k1_pay4 (F := Ideal) v := by
  show KernelIdeal.Gen.k1_pay4 (F := Ideal) (shapeCast S256x1024 v shapeCasts_S256x1024_S256x1024) = _
  rw [shapeCast_self]
theorem pay15_eq (v v' v'' : Vec Ideal S256x1024 .f32) (w : Vec Ideal S1024x1024 .bf16) :
    k1_pay15 (F := Ideal) v v' v'' w = KernelIdeal.Gen.k1_pay12 (F := Ideal) v v' v'' w := by
  show KernelIdeal.Gen.k1_pay12 (F := Ideal) (shapeCast S256x1024 v shapeCasts_S256x1024_S256x1024) v' v'' w = _
  rw [shapeCast_self]
theorem pay16_eq (v v' : Vec Ideal S256x1024 .f32) (w : Vec Ideal S1024x1024 .bf16) :
    k1_pay16 (F := Ideal) v v' w = KernelIdeal.Gen.k1_pay13 (F := Ideal) v v' w := by
  show KernelIdeal.Gen.k1_pay13 (F := Ideal) (shapeCast S256x1024 v shapeCasts_S256x1024_S256x1024) v' w = _
  rw [shapeCast_self]

/-! The operands of the last sums: a block's rows, the gain's row, and the partial and whole gradients of the normalised rows. -/

abbrev rows (x : Vec Ideal S256x1024 .f32) := View.ld x (Rect.unit ![0, 0] ![256, 1024] inb_S256x1024_S256x1024_0_0)
abbrev gain (x : Vec Ideal S1x1024 .f32) := View.ld x (Rect.unit ![0, 0] ![1, 1024] inb_S1x1024_S1x1024_0_0)
abbrev dhPart := (k1_pay26
        (k1_pay17 k1_pay8 (k1_pay15 (rows x0) (View.ld x3 (Rect.unit ![0, 0] ![256, 1024] inb_S256x5632_S256x1024_0_0)) (View.ld x3 (Rect.unit ![0, 2816] ![256, 1024] inb_S256x5632_S256x1024_0_2816)) (View.ld x5 (Rect.unit ![0, 0] ![1024, 1024] inb_S2816x1024_S1024x1024_0_0))) (k1_pay16 (rows x0) (View.ld x3 (Rect.unit ![0, 0] ![256, 1024] inb_S256x5632_S256x1024_0_0)) (View.ld x5 (Rect.unit ![0, 0] ![1024, 1024] inb_S2816x1024_S1024x1024_0_0))) (View.ld x4 (Rect.unit ![0, 0] ![1024, 1024] inb_S1024x5632_S1024x1024_0_0)) (View.ld x4 (Rect.unit ![0, 2816] ![1024, 1024] inb_S1024x5632_S1024x1024_0_2816)))
        (k1_pay20 (k1_pay7 (rows x0)) (View.ld x5 (Rect.unit ![1024, 0] ![1024, 1024] inb_S2816x1024_S1024x1024_1024_0))) (k1_pay22 (View.ld x3 (Rect.unit ![0, 1024] ![256, 1024] inb_S256x5632_S256x1024_0_1024)))
        (k1_pay24 (k1_pay7 (rows x0)) (View.ld x3 (Rect.unit ![0, 1024] ![256, 1024] inb_S256x5632_S256x1024_0_1024)) (View.ld x3 (Rect.unit ![0, 3840] ![256, 1024] inb_S256x5632_S256x1024_0_3840)) (View.ld x5 (Rect.unit ![1024, 0] ![1024, 1024] inb_S2816x1024_S1024x1024_1024_0))) (View.ld x4 (Rect.unit ![0, 1024] ![1024, 1024] inb_S1024x5632_S1024x1024_0_1024)) (View.ld x4 (Rect.unit ![0, 3840] ![1024, 1024] inb_S1024x5632_S1024x1024_0_3840)))
abbrev dhV := k1_pay37 (F := Ideal) (dhPart x0 x3 x4 x5)
      (k1_pay29 (k1_pay7 (rows x0)) (View.ld x5 (Rect.unit ![2048, 0] ![768, 1024] inb_S2816x1024_S768x1024_2048_0))) (k1_pay30 (View.ld x3 (Rect.unit ![0, 2048] ![256, 768] inb_S256x5632_S256x768_0_2048))) (k1_pay31 (View.ld x3 (Rect.unit ![0, 2048] ![256, 768] inb_S256x5632_S256x768_0_2048)))
      (k1_pay33 (k1_pay7 (rows x0)) (View.ld x3 (Rect.unit ![0, 4864] ![256, 768] inb_S256x5632_S256x768_0_4864)) (View.ld x5 (Rect.unit ![2048, 0] ![768, 1024] inb_S2816x1024_S768x1024_2048_0))) (k1_pay34 (View.ld x3 (Rect.unit ![0, 2048] ![256, 768] inb_S256x5632_S256x768_0_2048)))
      (View.ld x4 (Rect.unit ![0, 2048] ![1024, 768] inb_S1024x5632_S1024x768_0_2048)) (View.ld x4 (Rect.unit ![0, 4864] ![1024, 768] inb_S1024x5632_S1024x768_0_4864))
abbrev dhG := k1_pay42 (F := Ideal) (dhPart x0 x3 x4 x5)
      (k1_pay29 (k1_pay7 (rows x0)) (View.ld x5 (Rect.unit ![2048, 0] ![768, 1024] inb_S2816x1024_S768x1024_2048_0))) (k1_pay30 (View.ld x3 (Rect.unit ![0, 2048] ![256, 768] inb_S256x5632_S256x768_0_2048))) (k1_pay31 (View.ld x3 (Rect.unit ![0, 2048] ![256, 768] inb_S256x5632_S256x768_0_2048)))
      (k1_pay33 (k1_pay7 (rows x0)) (View.ld x3 (Rect.unit ![0, 4864] ![256, 768] inb_S256x5632_S256x768_0_4864)) (View.ld x5 (Rect.unit ![2048, 0] ![768, 1024] inb_S2816x1024_S768x1024_2048_0))) (k1_pay34 (View.ld x3 (Rect.unit ![0, 2048] ![256, 768] inb_S256x5632_S256x768_0_2048)))
      (View.ld x4 (Rect.unit ![0, 2048] ![1024, 768] inb_S1024x5632_S1024x768_0_2048)) (View.ld x4 (Rect.unit ![0, 4864] ![1024, 768] inb_S1024x5632_S1024x768_0_4864)) (gain x2)
abbrev dhGX := k1_pay43 (F := Ideal) (dhPart x0 x3 x4 x5)
      (k1_pay29 (k1_pay7 (rows x0)) (View.ld x5 (Rect.unit ![2048, 0] ![768, 1024] inb_S2816x1024_S768x1024_2048_0))) (k1_pay30 (View.ld x3 (Rect.unit ![0, 2048] ![256, 768] inb_S256x5632_S256x768_0_2048))) (k1_pay31 (View.ld x3 (Rect.unit ![0, 2048] ![256, 768] inb_S256x5632_S256x768_0_2048)))
      (k1_pay33 (k1_pay7 (rows x0)) (View.ld x3 (Rect.unit ![0, 4864] ![256, 768] inb_S256x5632_S256x768_0_4864)) (View.ld x5 (Rect.unit ![2048, 0] ![768, 1024] inb_S2816x1024_S768x1024_2048_0))) (k1_pay34 (View.ld x3 (Rect.unit ![0, 2048] ![256, 768] inb_S256x5632_S256x768_0_2048)))
      (View.ld x4 (Rect.unit ![0, 2048] ![1024, 768] inb_S1024x5632_S1024x768_0_2048)) (View.ld x4 (Rect.unit ![0, 4864] ![1024, 768] inb_S1024x5632_S1024x768_0_4864)) (rows x1) (gain x2)

/-- The gradient of the normalised rows is the first layer's function of the same blocks. -/
theorem dh_pay (e0 : Is2 x0 Ct) (e3 : Is2 x3 Z) (e4 : Is2 x4 W) (e5 : Is2 x5 D) :
    Is2 (dhV x0 x3 x4 x5) (dhOf Z W D Ct) := by
  unfold dhV dhPart rows
  rw [pay7_eq, pay15_eq, pay16_eq]
  exact KernelIdeal.Bwd.pay35_dh x0 x3 x4 x5 e0 e3 e4 e5

/-- The input's gradient: the residual's and the norm's. -/
theorem dx_pay (e0 : Is2 x0 Ct) (e1 : Is2 x1 X) (e2 : Is2 x2 G) (e3 : Is2 x3 Z) (e4 : Is2 x4 W) (e5 : Is2 x5 D) :
    Is2 (k1_pay2 (F := Ideal) (k1_pay6 (rows x0)) (k1_pay39 (rows x1)) (k1_pay41 (rows x1))
      (dhG x0 x2 x3 x4 x5) (dhGX x0 x1 x2 x3 x4 x5))
      (dxOf eps X (G 0) Z W D Ct) := by
  have h37 := dh_pay x0 x3 x4 x5 e0 e3 e4 e5
  have eG : Is2 (gain x2) G := (e2.ld (inb := inb_S1x1024_S1x1024_0_0)).to fun v _ => by simp only [fn2, zero_add]
  have eX : Is2 (rows x1) X := (e1.ld (inb := inb_S256x1024_S256x1024_0_0)).to fun v _ => by simp only [fn2, zero_add]
  have h38 : Is2 (k1_pay38 (F := Ideal) (rows x1)) X := eX.shapeCast_self
  have h39 : Is2 (k1_pay39 (F := Ideal) (rows x1)) fun i _ => rs eps X i := h38.rs
  have h41 : Is2 (k1_pay41 (F := Ideal) (rows x1)) (xn eps X) := h38.mul h39.bcol
  have h42 : Is2 (dhG x0 x2 x3 x4 x5) fun i k => dhOf Z W D Ct i k * G 0 k := h37.mul eG.brow
  have h43 : Is2 (dhGX x0 x1 x2 x3 x4 x5) fun i k => dhOf Z W D Ct i k * G 0 k * xn eps X i k := h42.mul h41
  exact (KernelIdeal.Bwd.pay2 (e0.ld (inb := inb_S256x1024_S256x1024_0_0)).shapeCast_self h39 h41 h42 h43.sumRow.col).to fun v _ => by simp only [fn2, dxOf, zero_add]

/-- What the block adds to the gain's gradient, in one row. -/
theorem dg_pay {v : Vec Ideal S1x1024 .f32} {R : ℕ → ℕ → ℝ} (e0 : Is2 x0 Ct) (e1 : Is2 x1 X) (e3 : Is2 x3 Z) (e4 : Is2 x4 W) (e5 : Is2 x5 D) (hv : Is2 v R) :
    Is2 (k1_pay1 (F := Ideal) (dhV x0 x3 x4 x5) (k1_pay41 (rows x1)) v)
      fun i k => R i k + ∑ j ∈ Finset.range 256, dhOf Z W D Ct j k * xn eps X j k := by
  have eX : Is2 (rows x1) X := (e1.ld (inb := inb_S256x1024_S256x1024_0_0)).to fun v _ => by simp only [fn2, zero_add]
  have hx : Is2 (k1_pay41 (F := Ideal) (rows x1)) (xn eps X) := KernelIdeal.Bwd.pay38 eX.shapeCast_self
  have hm : Is2 (mulf (F := Ideal) (φ := .f32) (dhV x0 x3 x4 x5) (k1_pay41 (rows x1))) fun i k => dhOf Z W D Ct i k * xn eps X i k :=
    (dh_pay x0 x3 x4 x5 e0 e3 e4 e5).mul hx
  exact hv.shapeCast_self.add hm.sumCol.row

theorem zero_pay : Is2 (k1_pay5 (F := Ideal)) fun _ _ => 0 := is_const bits_zero

end Payloads

section First
variable (hc : cond1_0 i) {Ct X G Z W D O : ℕ → ℕ → ℝ}

theorem outA_7 (e0 : Is2 x0 Ct) (e1 : Is2 x1 X) (e2 : Is2 x2 G) (e3 : Is2 x3 Z) (e4 : Is2 x4 W) (e5 : Is2 x5 D) (e6 : Is2 x6 O) :
    Is2 (out1_A_7 c i a1 h1 a2 h2 a3 h3 a4 h4 a5 h5 a6 h6 a7 h7 a8 h8 a9 h9 a10 h10 a11 h11 a12 h12 a13 h13 a14 h14 a15 h15 hc x0 x1 x2 x3 x4 x5 x6) (dxOf eps X (G 0) Z W D Ct) := by
  unfold out1_A_7
  have hv := cover1_A_7 c i a1 h1 a2 h2 a3 h3 a4 h4 a5 h5 a6 h6 a7 h7 a8 h8 a9 h9 a10 h10 a11 h11 a12 h12 a13 h13 a14 h14 a15 h15 hc x0 x1 x2 x3 x4 x5 x6
  rw [View.read_writes_eq_canon _ _ _ hv]
  refine is2_canonf hv ?_
  unfold kernelRun1_A
  dsimp only
  sl_unfold_words
  simp only [View.readAt_eq_ld, h1.read_unread, h2.read_unread, h3.read_unread, h4.read_unread, h5.read_unread, h6.read_unread, h7.read_unread]
  exact ⟨Is2.piece (inb := inb_S256x1024_S256x1024_0_0) ((dx_pay x0 x1 x2 x3 x4 x5 e0 e1 e2 e3 e4 e5).to fun v _ => by simp only [fn2, zero_add]), trivial⟩

theorem outA_8 (e0 : Is2 x0 Ct) (e1 : Is2 x1 X) (e2 : Is2 x2 G) (e3 : Is2 x3 Z) (e4 : Is2 x4 W) (e5 : Is2 x5 D) (e6 : Is2 x6 O) :
    Is2 (out1_A_8 c i a1 h1 a2 h2 a3 h3 a4 h4 a5 h5 a6 h6 a7 h7 a8 h8 a9 h9 a10 h10 a11 h11 a12 h12 a13 h13 a14 h14 a15 h15 hc x0 x1 x2 x3 x4 x5 x6) (act Z) := by
  unfold out1_A_8
  have hv := cover1_A_8 c i a1 h1 a2 h2 a3 h3 a4 h4 a5 h5 a6 h6 a7 h7 a8 h8 a9 h9 a10 h10 a11 h11 a12 h12 a13 h13 a14 h14 a15 h15 hc x0 x1 x2 x3 x4 x5 x6
  rw [View.read_writes_eq_canon _ _ _ hv]
  refine is2_canonb hv ?_
  unfold kernelRun1_A
  dsimp only
  sl_unfold_words
  simp only [View.readAt_eq_ld, h1.read_unread, h2.read_unread, h3.read_unread, h4.read_unread, h5.read_unread, h6.read_unread, h7.read_unread]
  refine ⟨Is2.piece (inb := inb_S256x2816_S256x768_0_2048) (KernelIdeal.Bwd.pay30 (e3.ld (inb := inb_S256x5632_S256x768_0_2048)) (e3.ld (inb := inb_S256x5632_S256x768_0_4864)) |>.to ?_),
    Is2.piece (inb := inb_S256x2816_S256x1024_0_1024) (KernelIdeal.Bwd.pay20 (e3.ld (inb := inb_S256x5632_S256x1024_0_1024)) (e3.ld (inb := inb_S256x5632_S256x1024_0_3840)) |>.to ?_),
    Is2.piece (inb := inb_S256x2816_S256x1024_0_0) (KernelIdeal.Bwd.pay11 (e3.ld (inb := inb_S256x5632_S256x1024_0_0)) (e3.ld (inb := inb_S256x5632_S256x1024_0_2816)) |>.to ?_), trivial⟩ <;>
  exact fun v _ => by simp only [fn2, zero_add, act, ← add_assoc, Nat.reduceAdd]

theorem outA_9 (e0 : Is2 x0 Ct) (e1 : Is2 x1 X) (e2 : Is2 x2 G) (e3 : Is2 x3 Z) (e4 : Is2 x4 W) (e5 : Is2 x5 D) (e6 : Is2 x6 O) :
    Is2 (out1_A_9 c i a1 h1 a2 h2 a3 h3 a4 h4 a5 h5 a6 h6 a7 h7 a8 h8 a9 h9 a10 h10 a11 h11 a12 h12 a13 h13 a14 h14 a15 h15 hc x0 x1 x2 x3 x4 x5 x6) (dguOf Z (dact D Ct)) := by
  unfold out1_A_9
  have hv := cover1_A_9 c i a1 h1 a2 h2 a3 h3 a4 h4 a5 h5 a6 h6 a7 h7 a8 h8 a9 h9 a10 h10 a11 h11 a12 h12 a13 h13 a14 h14 a15 h15 hc x0 x1 x2 x3 x4 x5 x6
  rw [View.read_writes_eq_canon _ _ _ hv]
  refine is2_canonb hv ?_
  unfold kernelRun1_A
  dsimp only
  sl_unfold_words
  simp only [View.readAt_eq_ld, h1.read_unread, h2.read_unread, h3.read_unread, h4.read_unread, h5.read_unread, h6.read_unread, h7.read_unread]
  exact ⟨Is2.piece (inb := inb_S256x5632_S256x768_0_4864) (KernelIdeal.Bwd.pay34 (KernelIdeal.Bwd.pay27 (KernelIdeal.Bwd.pay4 ((e0.ld (inb := inb_S256x1024_S256x1024_0_0)).shapeCast_self)) (e5.ldb (inb := inb_S2816x1024_S768x1024_2048_0))) (KernelIdeal.Bwd.pay29 (e3.ld (inb := inb_S256x5632_S256x768_0_2048))) |>.to fun v _ => (KernelIdeal.Bwd.up_part Z D Ct 2048 4864 rfl _ _).symm),
    Is2.piece (inb := inb_S256x5632_S256x768_0_2048) (KernelIdeal.Bwd.pay33 (KernelIdeal.Bwd.pay31 (KernelIdeal.Bwd.pay4 ((e0.ld (inb := inb_S256x1024_S256x1024_0_0)).shapeCast_self)) (e3.ld (inb := inb_S256x5632_S256x768_0_4864)) (e5.ldb (inb := inb_S2816x1024_S768x1024_2048_0))) (KernelIdeal.Bwd.pay32 (e3.ld (inb := inb_S256x5632_S256x768_0_2048))) |>.to fun v h => (KernelIdeal.Bwd.gate_part Z D Ct 2048 4864 rfl _ _ (h 1) (by decide)).symm),
    Is2.piece (inb := inb_S256x5632_S256x1024_0_3840) (KernelIdeal.Bwd.pay23 (KernelIdeal.Bwd.pay22 (KernelIdeal.Bwd.pay4 ((e0.ld (inb := inb_S256x1024_S256x1024_0_0)).shapeCast_self)) (e3.ld (inb := inb_S256x5632_S256x1024_0_1024)) (e5.ldb (inb := inb_S2816x1024_S1024x1024_1024_0))) |>.to fun v _ => (KernelIdeal.Bwd.up_part Z D Ct 1024 3840 rfl _ _).symm),
    Is2.piece (inb := inb_S256x5632_S256x1024_0_1024) (KernelIdeal.Bwd.pay21 (KernelIdeal.Bwd.pay4 ((e0.ld (inb := inb_S256x1024_S256x1024_0_0)).shapeCast_self)) (e3.ld (inb := inb_S256x5632_S256x1024_0_1024)) (e3.ld (inb := inb_S256x5632_S256x1024_0_3840)) (e5.ldb (inb := inb_S2816x1024_S1024x1024_1024_0)) |>.to fun v h => (KernelIdeal.Bwd.gate_part Z D Ct 1024 3840 rfl _ _ (h 1) (by decide)).symm),
    Is2.piece (inb := inb_S256x5632_S256x1024_0_2816) (KernelIdeal.Bwd.pay13 ((e0.ld (inb := inb_S256x1024_S256x1024_0_0)).shapeCast_self) (e3.ld (inb := inb_S256x5632_S256x1024_0_0)) (e5.ldb (inb := inb_S2816x1024_S1024x1024_0_0)) |>.to fun v _ => (KernelIdeal.Bwd.up_part Z D Ct 0 2816 rfl _ _).symm),
    Is2.piece (inb := inb_S256x5632_S256x1024_0_0) (KernelIdeal.Bwd.pay12 ((e0.ld (inb := inb_S256x1024_S256x1024_0_0)).shapeCast_self) (e3.ld (inb := inb_S256x5632_S256x1024_0_0)) (e3.ld (inb := inb_S256x5632_S256x1024_0_2816)) (e5.ldb (inb := inb_S2816x1024_S1024x1024_0_0)) |>.to fun v h => (KernelIdeal.Bwd.gate_part Z D Ct 0 2816 rfl _ _ (h 1) (by decide)).symm), trivial⟩

theorem outA_10 (e0 : Is2 x0 Ct) (e1 : Is2 x1 X) (e2 : Is2 x2 G) (e3 : Is2 x3 Z) (e4 : Is2 x4 W) (e5 : Is2 x5 D) (e6 : Is2 x6 O) :
    Is2 (out1_A_10 c i a1 h1 a2 h2 a3 h3 a4 h4 a5 h5 a6 h6 a7 h7 a8 h8 a9 h9 a10 h10 a11 h11 a12 h12 a13 h13 a14 h14 a15 h15 hc x0 x1 x2 x3 x4 x5 x6) (nrm eps X (G 0)) := by
  unfold out1_A_10
  have hv := cover1_A_10 c i a1 h1 a2 h2 a3 h3 a4 h4 a5 h5 a6 h6 a7 h7 a8 h8 a9 h9 a10 h10 a11 h11 a12 h12 a13 h13 a14 h14 a15 h15 hc x0 x1 x2 x3 x4 x5 x6
  rw [View.read_writes_eq_canon _ _ _ hv]
  refine is2_canonb hv ?_
  unfold kernelRun1_A
  dsimp only
  sl_unfold_words
  simp only [View.readAt_eq_ld, h1.read_unread, h2.read_unread, h3.read_unread, h4.read_unread, h5.read_unread, h6.read_unread, h7.read_unread]
  refine ⟨Is2.piece (inb := inb_S256x1024_S256x1024_0_0) (KernelIdeal.Bwd.pay37 ((e1.ld (inb := inb_S256x1024_S256x1024_0_0)).shapeCast_self) (e2.ld (inb := inb_S1x1024_S1x1024_0_0)) |>.to ?_), trivial⟩
  exact fun v _ => by simp only [fn2, zero_add, nrm, xn, rs, msq]

theorem outA_11 (e0 : Is2 x0 Ct) (e1 : Is2 x1 X) (e2 : Is2 x2 G) (e3 : Is2 x3 Z) (e4 : Is2 x4 W) (e5 : Is2 x5 D) (e6 : Is2 x6 O) :
    Is2 (out1_A_11 c i a1 h1 a2 h2 a3 h3 a4 h4 a5 h5 a6 h6 a7 h7 a8 h8 a9 h9 a10 h10 a11 h11 a12 h12 a13 h13 a14 h14 a15 h15 hc x0 x1 x2 x3 x4 x5 x6) Ct := by
  unfold out1_A_11
  have hv := cover1_A_11 c i a1 h1 a2 h2 a3 h3 a4 h4 a5 h5 a6 h6 a7 h7 a8 h8 a9 h9 a10 h10 a11 h11 a12 h12 a13 h13 a14 h14 a15 h15 hc x0 x1 x2 x3 x4 x5 x6
  rw [View.read_writes_eq_canon _ _ _ hv]
  refine is2_canonb hv ?_
  unfold kernelRun1_A
  dsimp only
  sl_unfold_words
  simp only [View.readAt_eq_ld, h1.read_unread, h2.read_unread, h3.read_unread, h4.read_unread, h5.read_unread, h6.read_unread, h7.read_unread]
  refine ⟨Is2.piece (inb := inb_S256x1024_S256x1024_0_0) ((KernelIdeal.Bwd.pay4 ((e0.ld (inb := inb_S256x1024_S256x1024_0_0)).shapeCast_self)).to ?_), trivial⟩
  exact fun v _ => by simp only [fn2, zero_add]

theorem outA_13 (e0 : Is2 x0 Ct) (e1 : Is2 x1 X) (e2 : Is2 x2 G) (e3 : Is2 x3 Z) (e4 : Is2 x4 W) (e5 : Is2 x5 D) (e6 : Is2 x6 O) :
    Is2 (out1_A_13 c i a1 h1 a2 h2 a3 h3 a4 h4 a5 h5 a6 h6 a7 h7 a8 h8 a9 h9 a10 h10 a11 h11 a12 h12 a13 h13 a14 h14 a15 h15 hc x0 x1 x2 x3 x4 x5 x6) (dxOf eps X (G 0) Z W D Ct) := by
  unfold out1_A_13
  have hv := cover1_A_13 c i a1 h1 a2 h2 a3 h3 a4 h4 a5 h5 a6 h6 a7 h7 a8 h8 a9 h9 a10 h10 a11 h11 a12 h12 a13 h13 a14 h14 a15 h15 hc x0 x1 x2 x3 x4 x5 x6
  rw [View.read_writes_eq_canon _ _ _ hv]
  refine is2_canonb hv ?_
  unfold kernelRun1_A
  dsimp only
  sl_unfold_words
  simp only [View.readAt_eq_ld, h1.read_unread, h2.read_unread, h3.read_unread, h4.read_unread, h5.read_unread, h6.read_unread, h7.read_unread]
  exact ⟨Is2.piece (inb := inb_S256x1024_S256x1024_0_0) ((dx_pay x0 x1 x2 x3 x4 x5 e0 e1 e2 e3 e4 e5).trunc.to fun v _ => by simp only [fn2, zero_add]), trivial⟩

theorem outA_14 (e0 : Is2 x0 Ct) (e1 : Is2 x1 X) (e2 : Is2 x2 G) (e3 : Is2 x3 Z) (e4 : Is2 x4 W) (e5 : Is2 x5 D) (e6 : Is2 x6 O) :
    Is2 (out1_A_14 c i a1 h1 a2 h2 a3 h3 a4 h4 a5 h5 a6 h6 a7 h7 a8 h8 a9 h9 a10 h10 a11 h11 a12 h12 a13 h13 a14 h14 a15 h15 hc x0 x1 x2 x3 x4 x5 x6) (mmT 1024 (dxOf eps X (G 0) Z W D Ct) O) := by
  unfold out1_A_14
  have hv := cover1_A_14 c i a1 h1 a2 h2 a3 h3 a4 h4 a5 h5 a6 h6 a7 h7 a8 h8 a9 h9 a10 h10 a11 h11 a12 h12 a13 h13 a14 h14 a15 h15 hc x0 x1 x2 x3 x4 x5 x6
  rw [View.read_writes_eq_canon _ _ _ hv]
  refine is2_canonb hv ?_
  unfold kernelRun1_A
  dsimp only
  sl_unfold_words
  simp only [View.readAt_eq_ld, h1.read_unread, h2.read_unread, h3.read_unread, h4.read_unread, h5.read_unread, h6.read_unread, h7.read_unread]
  exact ⟨Is2.piece (inb := inb_S256x1024_S256x1024_0_0) ((Is2.dotT (dx_pay x0 x1 x2 x3 x4 x5 e0 e1 e2 e3 e4 e5).trunc (e6.ldb (inb := inb_S1024x1024_S1024x1024_0_0)).shapeCast_self).trunc.to
    fun v _ => by simp only [fn2, mmT, zero_add]), trivial⟩

theorem outA_12 (e0 : Is2 x0 Ct) (e1 : Is2 x1 X) (e2 : Is2 x2 G) (e3 : Is2 x3 Z) (e4 : Is2 x4 W) (e5 : Is2 x5 D) (e6 : Is2 x6 O) :
    Is2 (out1_A_12 c i a1 h1 a2 h2 a3 h3 a4 h4 a5 h5 a6 h6 a7 h7 a8 h8 a9 h9 a10 h10 a11 h11 a12 h12 a13 h13 a14 h14 a15 h15 hc x0 x1 x2 x3 x4 x5 x6) fun i k => if i < 1 then ∑ j ∈ Finset.range 256, dhOf Z W D Ct j k * xn eps X j k else 0 := by
  unfold out1_A_12 kernelRun1_A
  dsimp only
  sl_unfold_words
  simp only [View.readAt_eq_ld, h1.read_unread, h2.read_unread, h3.read_unread, h4.read_unread, h5.read_unread, h6.read_unread, h7.read_unread]
  rw [View.readCov_fill _ _ _ _ _ fun a => by fin_cases a <;> rfl]
  have hr := dg_pay x0 x1 x3 x4 x5 e0 e1 e3 e4 e5 (zero_pay.ld (inb := inb_S8x1024_S1x1024_0_0))
  exact (is2_firstRow (inb := inb_S8x1024_S1x1024_0_0) hr (is2_fill (inb := inb_S8x1024_S8x1024_0_0) zero_pay)).to fun v _ => by simp only [fn2, zero_add]

/-- The seven row-wise results of a block, at the first point. -/
theorem outsA (e0 : Is2 x0 Ct) (e1 : Is2 x1 X) (e2 : Is2 x2 G) (e3 : Is2 x3 Z) (e4 : Is2 x4 W) (e5 : Is2 x5 D) (e6 : Is2 x6 O) :
    Is2 (out1_A_7 c i a1 h1 a2 h2 a3 h3 a4 h4 a5 h5 a6 h6 a7 h7 a8 h8 a9 h9 a10 h10 a11 h11 a12 h12 a13 h13 a14 h14 a15 h15 hc x0 x1 x2 x3 x4 x5 x6) (dxOf eps X (G 0) Z W D Ct)
    ∧ Is2 (out1_A_8 c i a1 h1 a2 h2 a3 h3 a4 h4 a5 h5 a6 h6 a7 h7 a8 h8 a9 h9 a10 h10 a11 h11 a12 h12 a13 h13 a14 h14 a15 h15 hc x0 x1 x2 x3 x4 x5 x6) (act Z)
    ∧ Is2 (out1_A_9 c i a1 h1 a2 h2 a3 h3 a4 h4 a5 h5 a6 h6 a7 h7 a8 h8 a9 h9 a10 h10 a11 h11 a12 h12 a13 h13 a14 h14 a15 h15 hc x0 x1 x2 x3 x4 x5 x6) (dguOf Z (dact D Ct))
    ∧ Is2 (out1_A_10 c i a1 h1 a2 h2 a3 h3 a4 h4 a5 h5 a6 h6 a7 h7 a8 h8 a9 h9 a10 h10 a11 h11 a12 h12 a13 h13 a14 h14 a15 h15 hc x0 x1 x2 x3 x4 x5 x6) (nrm eps X (G 0))
    ∧ Is2 (out1_A_11 c i a1 h1 a2 h2 a3 h3 a4 h4 a5 h5 a6 h6 a7 h7 a8 h8 a9 h9 a10 h10 a11 h11 a12 h12 a13 h13 a14 h14 a15 h15 hc x0 x1 x2 x3 x4 x5 x6) Ct
    ∧ Is2 (out1_A_13 c i a1 h1 a2 h2 a3 h3 a4 h4 a5 h5 a6 h6 a7 h7 a8 h8 a9 h9 a10 h10 a11 h11 a12 h12 a13 h13 a14 h14 a15 h15 hc x0 x1 x2 x3 x4 x5 x6) (dxOf eps X (G 0) Z W D Ct)
    ∧ Is2 (out1_A_14 c i a1 h1 a2 h2 a3 h3 a4 h4 a5 h5 a6 h6 a7 h7 a8 h8 a9 h9 a10 h10 a11 h11 a12 h12 a13 h13 a14 h14 a15 h15 hc x0 x1 x2 x3 x4 x5 x6) (mmT 1024 (dxOf eps X (G 0) Z W D Ct) O) := by
  exact ⟨outA_7 c i a1 h1 a2 h2 a3 h3 a4 h4 a5 h5 a6 h6 a7 h7 a8 h8 a9 h9 a10 h10 a11 h11 a12 h12 a13 h13 a14 h14 a15 h15 x0 x1 x2 x3 x4 x5 x6 hc e0 e1 e2 e3 e4 e5 e6, outA_8 c i a1 h1 a2 h2 a3 h3 a4 h4 a5 h5 a6 h6 a7 h7 a8 h8 a9 h9 a10 h10 a11 h11 a12 h12 a13 h13 a14 h14 a15 h15 x0 x1 x2 x3 x4 x5 x6 hc e0 e1 e2 e3 e4 e5 e6, outA_9 c i a1 h1 a2 h2 a3 h3 a4 h4 a5 h5 a6 h6 a7 h7 a8 h8 a9 h9 a10 h10 a11 h11 a12 h12 a13 h13 a14 h14 a15 h15 x0 x1 x2 x3 x4 x5 x6 hc e0 e1 e2 e3 e4 e5 e6, outA_10 c i a1 h1 a2 h2 a3 h3 a4 h4 a5 h5 a6 h6 a7 h7 a8 h8 a9 h9 a10 h10 a11 h11 a12 h12 a13 h13 a14 h14 a15 h15 x0 x1 x2 x3 x4 x5 x6 hc e0 e1 e2 e3 e4 e5 e6, outA_11 c i a1 h1 a2 h2 a3 h3 a4 h4 a5 h5 a6 h6 a7 h7 a8 h8 a9 h9 a10 h10 a11 h11 a12 h12 a13 h13 a14 h14 a15 h15 x0 x1 x2 x3 x4 x5 x6 hc e0 e1 e2 e3 e4 e5 e6, outA_13 c i a1 h1 a2 h2 a3 h3 a4 h4 a5 h5 a6 h6 a7 h7 a8 h8 a9 h9 a10 h10 a11 h11 a12 h12 a13 h13 a14 h14 a15 h15 x0 x1 x2 x3 x4 x5 x6 hc e0 e1 e2 e3 e4 e5 e6, outA_14 c i a1 h1 a2 h2 a3 h3 a4 h4 a5 h5 a6 h6 a7 h7 a8 h8 a9 h9 a10 h10 a11 h11 a12 h12 a13 h13 a14 h14 a15 h15 x0 x1 x2 x3 x4 x5 x6 hc e0 e1 e2 e3 e4 e5 e6⟩

end First

section Next
variable (hc : ¬ cond1_0 i) (xo : Vec Ideal S8x1024 .f32) {Ct X G Z W D O R : ℕ → ℕ → ℝ}

theorem outB_12 (eo : Is2 xo R) (e0 : Is2 x0 Ct) (e1 : Is2 x1 X) (e2 : Is2 x2 G) (e3 : Is2 x3 Z) (e4 : Is2 x4 W) (e5 : Is2 x5 D) (e6 : Is2 x6 O) :
    Is2 (out1_B_12 c i a1 h1 a2 h2 a3 h3 a4 h4 a5 h5 a6 h6 a7 h7 a8 h8 a9 h9 a10 h10 a11 h11 a12 h12 a13 h13 a14 h14 a15 h15 hc x0 x1 x2 x3 x4 x5 x6 xo) fun i k => if i < 1 then R i k + ∑ j ∈ Finset.range 256, dhOf Z W D Ct j k * xn eps X j k else R i k := by
  unfold out1_B_12 kernelRun1_B
  dsimp only
  sl_unfold_words
  simp only [View.readAt_eq_ld, h1.read_unread, h2.read_unread, h3.read_unread, h4.read_unread, h5.read_unread, h6.read_unread, h7.read_unread, h13.read_unread]
  have hr := dg_pay x0 x1 x3 x4 x5 e0 e1 e3 e4 e5 (eo.ld (inb := inb_S8x1024_S1x1024_0_0))
  refine (is2_firstRow (inb := inb_S8x1024_S1x1024_0_0) hr (B := R) ?_).to fun v _ => by simp only [fn2, zero_add]
  rw [View.writes_nil, h13.read_unread]
  exact eo

/-- The first point's row-wise results are the other points' too. -/
theorem outs_eq (i' : grid1.Coords) (hc' : cond1_0 i') :
    out1_B_7 c i a1 h1 a2 h2 a3 h3 a4 h4 a5 h5 a6 h6 a7 h7 a8 h8 a9 h9 a10 h10 a11 h11 a12 h12 a13 h13 a14 h14 a15 h15 hc x0 x1 x2 x3 x4 x5 x6 xo = out1_A_7 c i' a1 h1 a2 h2 a3 h3 a4 h4 a5 h5 a6 h6 a7 h7 a8 h8 a9 h9 a10 h10 a11 h11 a12 h12 a13 h13 a14 h14 a15 h15 hc' x0 x1 x2 x3 x4 x5 x6
    ∧ out1_B_8 c i a1 h1 a2 h2 a3 h3 a4 h4 a5 h5 a6 h6 a7 h7 a8 h8 a9 h9 a10 h10 a11 h11 a12 h12 a13 h13 a14 h14 a15 h15 hc x0 x1 x2 x3 x4 x5 x6 xo = out1_A_8 c i' a1 h1 a2 h2 a3 h3 a4 h4 a5 h5 a6 h6 a7 h7 a8 h8 a9 h9 a10 h10 a11 h11 a12 h12 a13 h13 a14 h14 a15 h15 hc' x0 x1 x2 x3 x4 x5 x6
    ∧ out1_B_9 c i a1 h1 a2 h2 a3 h3 a4 h4 a5 h5 a6 h6 a7 h7 a8 h8 a9 h9 a10 h10 a11 h11 a12 h12 a13 h13 a14 h14 a15 h15 hc x0 x1 x2 x3 x4 x5 x6 xo = out1_A_9 c i' a1 h1 a2 h2 a3 h3 a4 h4 a5 h5 a6 h6 a7 h7 a8 h8 a9 h9 a10 h10 a11 h11 a12 h12 a13 h13 a14 h14 a15 h15 hc' x0 x1 x2 x3 x4 x5 x6
    ∧ out1_B_10 c i a1 h1 a2 h2 a3 h3 a4 h4 a5 h5 a6 h6 a7 h7 a8 h8 a9 h9 a10 h10 a11 h11 a12 h12 a13 h13 a14 h14 a15 h15 hc x0 x1 x2 x3 x4 x5 x6 xo = out1_A_10 c i' a1 h1 a2 h2 a3 h3 a4 h4 a5 h5 a6 h6 a7 h7 a8 h8 a9 h9 a10 h10 a11 h11 a12 h12 a13 h13 a14 h14 a15 h15 hc' x0 x1 x2 x3 x4 x5 x6
    ∧ out1_B_11 c i a1 h1 a2 h2 a3 h3 a4 h4 a5 h5 a6 h6 a7 h7 a8 h8 a9 h9 a10 h10 a11 h11 a12 h12 a13 h13 a14 h14 a15 h15 hc x0 x1 x2 x3 x4 x5 x6 xo = out1_A_11 c i' a1 h1 a2 h2 a3 h3 a4 h4 a5 h5 a6 h6 a7 h7 a8 h8 a9 h9 a10 h10 a11 h11 a12 h12 a13 h13 a14 h14 a15 h15 hc' x0 x1 x2 x3 x4 x5 x6
    ∧ out1_B_13 c i a1 h1 a2 h2 a3 h3 a4 h4 a5 h5 a6 h6 a7 h7 a8 h8 a9 h9 a10 h10 a11 h11 a12 h12 a13 h13 a14 h14 a15 h15 hc x0 x1 x2 x3 x4 x5 x6 xo = out1_A_13 c i' a1 h1 a2 h2 a3 h3 a4 h4 a5 h5 a6 h6 a7 h7 a8 h8 a9 h9 a10 h10 a11 h11 a12 h12 a13 h13 a14 h14 a15 h15 hc' x0 x1 x2 x3 x4 x5 x6
    ∧ out1_B_14 c i a1 h1 a2 h2 a3 h3 a4 h4 a5 h5 a6 h6 a7 h7 a8 h8 a9 h9 a10 h10 a11 h11 a12 h12 a13 h13 a14 h14 a15 h15 hc x0 x1 x2 x3 x4 x5 x6 xo = out1_A_14 c i' a1 h1 a2 h2 a3 h3 a4 h4 a5 h5 a6 h6 a7 h7 a8 h8 a9 h9 a10 h10 a11 h11 a12 h12 a13 h13 a14 h14 a15 h15 hc' x0 x1 x2 x3 x4 x5 x6 := by
  refine ⟨?_, ?_, ?_, ?_, ?_, ?_, ?_⟩
  · unfold out1_B_7 out1_A_7 kernelRun1_B kernelRun1_A; rfl
  · unfold out1_B_8 out1_A_8 kernelRun1_B kernelRun1_A; rfl
  · unfold out1_B_9 out1_A_9 kernelRun1_B kernelRun1_A; rfl
  · unfold out1_B_10 out1_A_10 kernelRun1_B kernelRun1_A; rfl
  · unfold out1_B_11 out1_A_11 kernelRun1_B kernelRun1_A; rfl
  · unfold out1_B_13 out1_A_13 kernelRun1_B kernelRun1_A; rfl
  · unfold out1_B_14 out1_A_14 kernelRun1_B kernelRun1_A; rfl

/-- The row-wise results are the same at the other points. -/
theorem outsB (i' : grid1.Coords) (hc' : cond1_0 i') (e0 : Is2 x0 Ct) (e1 : Is2 x1 X) (e2 : Is2 x2 G) (e3 : Is2 x3 Z) (e4 : Is2 x4 W) (e5 : Is2 x5 D) (e6 : Is2 x6 O) :
    Is2 (out1_B_7 c i a1 h1 a2 h2 a3 h3 a4 h4 a5 h5 a6 h6 a7 h7 a8 h8 a9 h9 a10 h10 a11 h11 a12 h12 a13 h13 a14 h14 a15 h15 hc x0 x1 x2 x3 x4 x5 x6 xo) (dxOf eps X (G 0) Z W D Ct)
    ∧ Is2 (out1_B_8 c i a1 h1 a2 h2 a3 h3 a4 h4 a5 h5 a6 h6 a7 h7 a8 h8 a9 h9 a10 h10 a11 h11 a12 h12 a13 h13 a14 h14 a15 h15 hc x0 x1 x2 x3 x4 x5 x6 xo) (act Z)
    ∧ Is2 (out1_B_9 c i a1 h1 a2 h2 a3 h3 a4 h4 a5 h5 a6 h6 a7 h7 a8 h8 a9 h9 a10 h10 a11 h11 a12 h12 a13 h13 a14 h14 a15 h15 hc x0 x1 x2 x3 x4 x5 x6 xo) (dguOf Z (dact D Ct))
    ∧ Is2 (out1_B_10 c i a1 h1 a2 h2 a3 h3 a4 h4 a5 h5 a6 h6 a7 h7 a8 h8 a9 h9 a10 h10 a11 h11 a12 h12 a13 h13 a14 h14 a15 h15 hc x0 x1 x2 x3 x4 x5 x6 xo) (nrm eps X (G 0))
    ∧ Is2 (out1_B_11 c i a1 h1 a2 h2 a3 h3 a4 h4 a5 h5 a6 h6 a7 h7 a8 h8 a9 h9 a10 h10 a11 h11 a12 h12 a13 h13 a14 h14 a15 h15 hc x0 x1 x2 x3 x4 x5 x6 xo) Ct
    ∧ Is2 (out1_B_13 c i a1 h1 a2 h2 a3 h3 a4 h4 a5 h5 a6 h6 a7 h7 a8 h8 a9 h9 a10 h10 a11 h11 a12 h12 a13 h13 a14 h14 a15 h15 hc x0 x1 x2 x3 x4 x5 x6 xo) (dxOf eps X (G 0) Z W D Ct)
    ∧ Is2 (out1_B_14 c i a1 h1 a2 h2 a3 h3 a4 h4 a5 h5 a6 h6 a7 h7 a8 h8 a9 h9 a10 h10 a11 h11 a12 h12 a13 h13 a14 h14 a15 h15 hc x0 x1 x2 x3 x4 x5 x6 xo) (mmT 1024 (dxOf eps X (G 0) Z W D Ct) O) := by
  obtain ⟨q7, q8, q9, q10, q11, q13, q14⟩ := outs_eq c i a1 h1 a2 h2 a3 h3 a4 h4 a5 h5 a6 h6 a7 h7 a8 h8 a9 h9 a10 h10 a11 h11 a12 h12 a13 h13 a14 h14 a15 h15 x0 x1 x2 x3 x4 x5 x6 hc xo i' hc'
  rw [q7, q8, q9, q10, q11, q13, q14]
  exact outsA c i' a1 h1 a2 h2 a3 h3 a4 h4 a5 h5 a6 h6 a7 h7 a8 h8 a9 h9 a10 h10 a11 h11 a12 h12 a13 h13 a14 h14 a15 h15 x0 x1 x2 x3 x4 x5 x6 hc' e0 e1 e2 e3 e4 e5 e6

end Next

end Cert.Kernel4Ideal.Bwd

end
-- ==== Proof.LBwdArray.lean ====
/-
  The arrays the second layer's backward call leaves: blocks of 256 rows, and the gain's gradient, summed over the blocks in
  the first of eight rows.
-/
module

public import proofs.«01_k».proof.Proof.LBwd
public import Idealize.ShloMosaic.Lib.Pipeline.ValueKit

@[expose] public section

set_option maxRecDepth 16384

noncomputable section

namespace Cert.Kernel4Ideal.Bwd

open Cert.Kernel4Ideal Cert.Kernel4Ideal.Gen Cert.Reals Cert.Math Idealize.ShloMosaic Idealize.ShloMosaic.TcCoe Idealize.ShloMosaic.Pipeline

variable (V : (c : Dev nD) → (b : Ref sig .tc) → Buf (Elt Ideal) ((c : Thread nD τ).loc b)) (c : Dev nD)
  {Ct X G Z W D O : ℕ → ℕ → ℝ}

/-! The windows' places: the rows' blocks follow the point, the weights stay. -/

theorem at_0 (t : Fin cfg1.N) : win1_0.index t 0 = t.val ∧ win1_0.index t 1 = 0 :=
  (by decide +kernel : ∀ t : Fin grid1.N, win1_0.index t 0 = t.val ∧ win1_0.index t 1 = 0) t
theorem at_1 (t : Fin cfg1.N) : win1_1.index t 0 = t.val ∧ win1_1.index t 1 = 0 :=
  (by decide +kernel : ∀ t : Fin grid1.N, win1_1.index t 0 = t.val ∧ win1_1.index t 1 = 0) t
theorem at_2 (t : Fin cfg1.N) : win1_2.index t 0 = 0 ∧ win1_2.index t 1 = 0 :=
  (by decide +kernel : ∀ t : Fin grid1.N, win1_2.index t 0 = 0 ∧ win1_2.index t 1 = 0) t
theorem at_3 (t : Fin cfg1.N) : win1_3.index t 0 = t.val ∧ win1_3.index t 1 = 0 :=
  (by decide +kernel : ∀ t : Fin grid1.N, win1_3.index t 0 = t.val ∧ win1_3.index t 1 = 0) t
theorem at_4 (t : Fin cfg1.N) : win1_4.index t 0 = 0 ∧ win1_4.index t 1 = 0 :=
  (by decide +kernel : ∀ t : Fin grid1.N, win1_4.index t 0 = 0 ∧ win1_4.index t 1 = 0) t
theorem at_5 (t : Fin cfg1.N) : win1_5.index t 0 = 0 ∧ win1_5.index t 1 = 0 :=
  (by decide +kernel : ∀ t : Fin grid1.N, win1_5.index t 0 = 0 ∧ win1_5.index t 1 = 0) t
theorem at_6 (t : Fin cfg1.N) : win1_6.index t 0 = 0 ∧ win1_6.index t 1 = 0 :=
  (by decide +kernel : ∀ t : Fin grid1.N, win1_6.index t 0 = 0 ∧ win1_6.index t 1 = 0) t
theorem at_7 (t : Fin cfg1.N) : win1_7.index t 0 = t.val ∧ win1_7.index t 1 = 0 :=
  (by decide +kernel : ∀ t : Fin grid1.N, win1_7.index t 0 = t.val ∧ win1_7.index t 1 = 0) t
theorem at_8 (t : Fin cfg1.N) : win1_8.index t 0 = t.val ∧ win1_8.index t 1 = 0 :=
  (by decide +kernel : ∀ t : Fin grid1.N, win1_8.index t 0 = t.val ∧ win1_8.index t 1 = 0) t
theorem at_9 (t : Fin cfg1.N) : win1_9.index t 0 = t.val ∧ win1_9.index t 1 = 0 :=
  (by decide +kernel : ∀ t : Fin grid1.N, win1_9.index t 0 = t.val ∧ win1_9.index t 1 = 0) t
theorem at_10 (t : Fin cfg1.N) : win1_10.index t 0 = t.val ∧ win1_10.index t 1 = 0 :=
  (by decide +kernel : ∀ t : Fin grid1.N, win1_10.index t 0 = t.val ∧ win1_10.index t 1 = 0) t
theorem at_11 (t : Fin cfg1.N) : win1_11.index t 0 = t.val ∧ win1_11.index t 1 = 0 :=
  (by decide +kernel : ∀ t : Fin grid1.N, win1_11.index t 0 = t.val ∧ win1_11.index t 1 = 0) t
theorem at_13 (t : Fin cfg1.N) : win1_13.index t 0 = t.val ∧ win1_13.index t 1 = 0 :=
  (by decide +kernel : ∀ t : Fin grid1.N, win1_13.index t 0 = t.val ∧ win1_13.index t 1 = 0) t
theorem at_14 (t : Fin cfg1.N) : win1_14.index t 0 = t.val ∧ win1_14.index t 1 = 0 :=
  (by decide +kernel : ∀ t : Fin grid1.N, win1_14.index t 0 = t.val ∧ win1_14.index t 1 = 0) t
theorem at_12 (t : Fin cfg1.N) : win1_12.index t 0 = 0 ∧ win1_12.index t 1 = 0 :=
  (by decide +kernel : ∀ t : Fin grid1.N, win1_12.index t 0 = 0 ∧ win1_12.index t 1 = 0) t

theorem blk_0 (h : Is2 (V c main_v4_1) Ct) (t : Fin cfg1.N) : Is2 (m := 256) (n := 1024) (iblk1 V c 0 t) (fun i k => Ct (t.val * 256 + i) k) := fun y => by
  blk_simp [iblk1]
  refine (h _).trans ?_
  blk_simp
  exact coe_tile Ct (at_0 t).1 (at_0 t).2 256 1024 (y 0).val (y 1).val
theorem blk_1 (h : Is2 (V c main_v4_0) X) (t : Fin cfg1.N) : Is2 (m := 256) (n := 1024) (iblk1 V c 1 t) (fun i k => X (t.val * 256 + i) k) := fun y => by
  blk_simp [iblk1]
  refine (h _).trans ?_
  blk_simp
  exact coe_tile X (at_1 t).1 (at_1 t).2 256 1024 (y 0).val (y 1).val
theorem blk_2 (h : Is2 (V c main_arg3) G) (t : Fin cfg1.N) : Is2 (m := 1) (n := 1024) (iblk1 V c 2 t) G := fun y => by
  blk_simp [iblk1]
  refine (h _).trans ?_
  blk_simp
  exact coe_whole G (at_2 t).1 (at_2 t).2 1 1024 (y 0).val (y 1).val
theorem blk_3 (h : Is2 (V c main_v4_2) Z) (t : Fin cfg1.N) : Is2 (m := 256) (n := 5632) (iblk1 V c 3 t) (fun i k => Z (t.val * 256 + i) k) := fun y => by
  blk_simp [iblk1]
  refine (h _).trans ?_
  blk_simp
  exact coe_tile Z (at_3 t).1 (at_3 t).2 256 5632 (y 0).val (y 1).val
theorem blk_4 (h : Is2 (V c main_v0) W) (t : Fin cfg1.N) : Is2 (m := 1024) (n := 5632) (iblk1 V c 4 t) W := fun y => by
  blk_simp [iblk1]
  refine (h _).trans ?_
  blk_simp
  exact coe_whole W (at_4 t).1 (at_4 t).2 1024 5632 (y 0).val (y 1).val
theorem blk_5 (h : Is2 (V c main_v1) D) (t : Fin cfg1.N) : Is2 (m := 2816) (n := 1024) (iblk1 V c 5 t) D := fun y => by
  blk_simp [iblk1]
  refine (h _).trans ?_
  blk_simp
  exact coe_whole D (at_5 t).1 (at_5 t).2 2816 1024 (y 0).val (y 1).val
theorem blk_6 (h : Is2 (V c main_v2) O) (t : Fin cfg1.N) : Is2 (m := 1024) (n := 1024) (iblk1 V c 6 t) O := fun y => by
  blk_simp [iblk1]
  refine (h _).trans ?_
  blk_simp
  exact coe_whole O (at_6 t).1 (at_6 t).2 1024 1024 (y 0).val (y 1).val

theorem covers_7 : (cfg1.win 7).Covers := by decide +kernel
theorem covers_8 : (cfg1.win 8).Covers := by decide +kernel
theorem covers_9 : (cfg1.win 9).Covers := by decide +kernel
theorem covers_10 : (cfg1.win 10).Covers := by decide +kernel
theorem covers_11 : (cfg1.win 11).Covers := by decide +kernel
theorem covers_13 : (cfg1.win 13).Covers := by decide +kernel
theorem covers_14 : (cfg1.win 14).Covers := by decide +kernel
theorem covers_12 : (cfg1.win 12).Covers := by decide +kernel
theorem last : ∀ t : Fin cfg1.N, (cfg1.win 12).flush t = true → t.val = 31 :=
  (by decide +kernel : ∀ t : Fin grid1.N, win1_12.flush t = true → t.val = 31)

/-- The first point, where the sum is started. -/
theorem first : cond1_0 (grid1.coords ⟨0, by decide⟩) := (hcond1_0 ⟨0, by decide⟩).mpr rfl

variable (i0 : Is2 (V c main_v4_1) Ct) (i1 : Is2 (V c main_v4_0) X) (i2 : Is2 (V c main_arg3) G) (i3 : Is2 (V c main_v4_2) Z) (i4 : Is2 (V c main_v0) W) (i5 : Is2 (V c main_v1) D) (i6 : Is2 (V c main_v2) O)
include i0 i1 i2 i3 i4 i5 i6

/-- What one point leaves of the row-wise results. -/
theorem outs (t : Fin cfg1.N) :
    Is2 (m := 256) (n := 1024) (outsAt1 V c t.val t.isLt).1 (fun i k => (dxOf eps X (G 0) Z W D Ct) (t.val * 256 + i) k)
    ∧ Is2 (m := 256) (n := 2816) (outsAt1 V c t.val t.isLt).2.1 (fun i k => (act Z) (t.val * 256 + i) k)
    ∧ Is2 (m := 256) (n := 5632) (outsAt1 V c t.val t.isLt).2.2.1 (fun i k => (dguOf Z (dact D Ct)) (t.val * 256 + i) k)
    ∧ Is2 (m := 256) (n := 1024) (outsAt1 V c t.val t.isLt).2.2.2.1 (fun i k => (nrm eps X (G 0)) (t.val * 256 + i) k)
    ∧ Is2 (m := 256) (n := 1024) (outsAt1 V c t.val t.isLt).2.2.2.2.1 (fun i k => Ct (t.val * 256 + i) k)
    ∧ Is2 (m := 256) (n := 1024) (outsAt1 V c t.val t.isLt).2.2.2.2.2.2.1 (fun i k => (dxOf eps X (G 0) Z W D Ct) (t.val * 256 + i) k)
    ∧ Is2 (m := 256) (n := 1024) (outsAt1 V c t.val t.isLt).2.2.2.2.2.2.2 (fun i k => (mmT 1024 (dxOf eps X (G 0) Z W D Ct) O) (t.val * 256 + i) k) := by
  by_cases h0 : t.val % 32 = 0
  · rw [outsAt1_A V c t h0]
    dsimp only
    have h := outsA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (iblk1 V c 0 t) (iblk1 V c 1 t) (iblk1 V c 2 t) (iblk1 V c 3 t) (iblk1 V c 4 t) (iblk1 V c 5 t) (iblk1 V c 6 t) ((hcond1_0 t).mpr h0) (blk_0 V c i0 t) (blk_1 V c i1 t) (blk_2 V c i2 t) (blk_3 V c i3 t) (blk_4 V c i4 t) (blk_5 V c i5 t) (blk_6 V c i6 t)
    exact ⟨h.1.to fun v _ => rfl, h.2.1.to fun v _ => rfl, h.2.2.1.to fun v _ => rfl, h.2.2.2.1.to fun v _ => rfl, h.2.2.2.2.1.to fun v _ => rfl, h.2.2.2.2.2.1.to fun v _ => rfl, h.2.2.2.2.2.2.to fun v _ => rfl⟩
  · rw [outsAt1_B V c t h0]
    dsimp only
    have h := outsB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (iblk1 V c 0 t) (iblk1 V c 1 t) (iblk1 V c 2 t) (iblk1 V c 3 t) (iblk1 V c 4 t) (iblk1 V c 5 t) (iblk1 V c 6 t) (fun h => h0 ((hcond1_0 t).mp h)) (outsAt1 V c (t.val - 1) (Nat.lt_of_le_of_lt (Nat.sub_le _ _) t.isLt)).2.2.2.2.2.1 _ first (blk_0 V c i0 t) (blk_1 V c i1 t) (blk_2 V c i2 t) (blk_3 V c i3 t) (blk_4 V c i4 t) (blk_5 V c i5 t) (blk_6 V c i6 t)
    exact ⟨h.1.to fun v _ => rfl, h.2.1.to fun v _ => rfl, h.2.2.1.to fun v _ => rfl, h.2.2.2.1.to fun v _ => rfl, h.2.2.2.2.1.to fun v _ => rfl, h.2.2.2.2.2.1.to fun v _ => rfl, h.2.2.2.2.2.2.to fun v _ => rfl⟩

/-- What a point's 256 rows add to the gain's gradient. -/
theorem sum_first (t : Fin cfg1.N) (h0 : t.val % 32 = 0) : Is2 (m := 8) (n := 1024) (outsAt1 V c t.val t.isLt).2.2.2.2.2.1
    fun i k => if i < 1 then ∑ j ∈ Finset.range 256, dhOf Z W D Ct (t.val * 256 + j) k * xn eps X (t.val * 256 + j) k else 0 := by
  rw [outsAt1_A V c t h0]
  dsimp only
  exact (outA_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (iblk1 V c 0 t) (iblk1 V c 1 t) (iblk1 V c 2 t) (iblk1 V c 3 t) (iblk1 V c 4 t) (iblk1 V c 5 t) (iblk1 V c 6 t) ((hcond1_0 t).mpr h0) (blk_0 V c i0 t) (blk_1 V c i1 t) (blk_2 V c i2 t) (blk_3 V c i3 t) (blk_4 V c i4 t) (blk_5 V c i5 t) (blk_6 V c i6 t)).to fun v _ => rfl
theorem sum_next (t : Fin cfg1.N) (h0 : ¬ t.val % 32 = 0) {R : ℕ → ℕ → ℝ}
    (hR : Is2 (m := 8) (n := 1024) (outsAt1 V c (t.val - 1) (Nat.lt_of_le_of_lt (Nat.sub_le _ _) t.isLt)).2.2.2.2.2.1 R) :
    Is2 (m := 8) (n := 1024) (outsAt1 V c t.val t.isLt).2.2.2.2.2.1
      fun i k => if i < 1 then R i k + ∑ j ∈ Finset.range 256, dhOf Z W D Ct (t.val * 256 + j) k * xn eps X (t.val * 256 + j) k else R i k := by
  rw [outsAt1_B V c t h0]
  dsimp only
  exact (outB_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (iblk1 V c 0 t) (iblk1 V c 1 t) (iblk1 V c 2 t) (iblk1 V c 3 t) (iblk1 V c 4 t) (iblk1 V c 5 t) (iblk1 V c 6 t) (fun h => h0 ((hcond1_0 t).mp h)) _ hR (blk_0 V c i0 t) (blk_1 V c i1 t) (blk_2 V c i2 t) (blk_3 V c i3 t) (blk_4 V c i4 t) (blk_5 V c i5 t) (blk_6 V c i6 t)).to fun v _ => rfl

/-- The gain's gradient after point `n`: the sum over the rows so far, in the first row. -/
theorem outs_sum : ∀ (n : ℕ) (h : n < cfg1.N), Is2 (m := 8) (n := 1024) (outsAt1 V c n h).2.2.2.2.2.1
    fun i k => if i < 1 then ∑ j ∈ Finset.range (256 * (n + 1)), dhOf Z W D Ct j k * xn eps X j k else 0
  | 0, h => (sum_first V c i0 i1 i2 i3 i4 i5 i6 ⟨0, h⟩ rfl).to fun v _ => by simp only [fn2, Nat.zero_mul, Nat.zero_add, Nat.mul_one]
  | n + 1, h => by
    have hn : n + 1 < 32 := h
    refine (sum_next V c i0 i1 i2 i3 i4 i5 i6 ⟨n + 1, h⟩ (fun h0 => by dsimp only at h0; omega) (outs_sum n (Nat.lt_of_succ_lt h))).to fun v _ => ?_
    simp only [fn2]
    split
    · rw [Nat.mul_add_one 256 (n + 1), Finset.sum_range_add, Nat.mul_comm 256 (n + 1)]
    · rfl

/-- The input's gradient. -/
theorem arr_7 : Is2 (m := 8192) (n := 1024) ((dat1 V c).arrAt 7 cfg1.N) (dxOf eps X (G 0) Z W D Ct) :=
  (dat1 V c).arrAt_forall_of_covers 7 (fun i v => v = ((fn2 (dxOf eps X (G 0) Z W D Ct) fun a => (i a).val : ℝ) : EReal)) covers_7 fun t hf y => by
    blk_simp
    rw [after1_7]
    exact ((outs V c i0 i1 i2 i3 i4 i5 i6 t).1 y).trans (coe_tile (dxOf eps X (G 0) Z W D Ct) (at_7 t).1 (at_7 t).2 256 1024 (y 0).val (y 1).val).symm

/-- The activation. -/
theorem arr_8 : Is2 (m := 8192) (n := 2816) ((dat1 V c).arrAt 8 cfg1.N) (act Z) :=
  (dat1 V c).arrAt_forall_of_covers 8 (fun i v => v = ((fn2 (act Z) fun a => (i a).val : ℝ) : EReal)) covers_8 fun t hf y => by
    blk_simp
    rw [after1_8]
    exact ((outs V c i0 i1 i2 i3 i4 i5 i6 t).2.1 y).trans (coe_tile (act Z) (at_8 t).1 (at_8 t).2 256 2816 (y 0).val (y 1).val).symm

/-- The two projections' gradient. -/
theorem arr_9 : Is2 (m := 8192) (n := 5632) ((dat1 V c).arrAt 9 cfg1.N) (dguOf Z (dact D Ct)) :=
  (dat1 V c).arrAt_forall_of_covers 9 (fun i v => v = ((fn2 (dguOf Z (dact D Ct)) fun a => (i a).val : ℝ) : EReal)) covers_9 fun t hf y => by
    blk_simp
    rw [after1_9]
    exact ((outs V c i0 i1 i2 i3 i4 i5 i6 t).2.2.1 y).trans (coe_tile (dguOf Z (dact D Ct)) (at_9 t).1 (at_9 t).2 256 5632 (y 0).val (y 1).val).symm

/-- The normalised rows. -/
theorem arr_10 : Is2 (m := 8192) (n := 1024) ((dat1 V c).arrAt 10 cfg1.N) (nrm eps X (G 0)) :=
  (dat1 V c).arrAt_forall_of_covers 10 (fun i v => v = ((fn2 (nrm eps X (G 0)) fun a => (i a).val : ℝ) : EReal)) covers_10 fun t hf y => by
    blk_simp
    rw [after1_10]
    exact ((outs V c i0 i1 i2 i3 i4 i5 i6 t).2.2.2.1 y).trans (coe_tile (nrm eps X (G 0)) (at_10 t).1 (at_10 t).2 256 1024 (y 0).val (y 1).val).symm

/-- The result's gradient, narrowed. -/
theorem arr_11 : Is2 (m := 8192) (n := 1024) ((dat1 V c).arrAt 11 cfg1.N) Ct :=
  (dat1 V c).arrAt_forall_of_covers 11 (fun i v => v = ((fn2 Ct fun a => (i a).val : ℝ) : EReal)) covers_11 fun t hf y => by
    blk_simp
    rw [after1_11]
    exact ((outs V c i0 i1 i2 i3 i4 i5 i6 t).2.2.2.2.1 y).trans (coe_tile Ct (at_11 t).1 (at_11 t).2 256 1024 (y 0).val (y 1).val).symm

/-- The input's gradient, narrowed. -/
theorem arr_13 : Is2 (m := 8192) (n := 1024) ((dat1 V c).arrAt 13 cfg1.N) (dxOf eps X (G 0) Z W D Ct) :=
  (dat1 V c).arrAt_forall_of_covers 13 (fun i v => v = ((fn2 (dxOf eps X (G 0) Z W D Ct) fun a => (i a).val : ℝ) : EReal)) covers_13 fun t hf y => by
    blk_simp
    rw [after1_13]
    exact ((outs V c i0 i1 i2 i3 i4 i5 i6 t).2.2.2.2.2.1 y).trans (coe_tile (dxOf eps X (G 0) Z W D Ct) (at_13 t).1 (at_13 t).2 256 1024 (y 0).val (y 1).val).symm

/-- The attention's result's gradient. -/
theorem arr_14 : Is2 (m := 8192) (n := 1024) ((dat1 V c).arrAt 14 cfg1.N) (mmT 1024 (dxOf eps X (G 0) Z W D Ct) O) :=
  (dat1 V c).arrAt_forall_of_covers 14 (fun i v => v = ((fn2 (mmT 1024 (dxOf eps X (G 0) Z W D Ct) O) fun a => (i a).val : ℝ) : EReal)) covers_14 fun t hf y => by
    blk_simp
    rw [after1_14]
    exact ((outs V c i0 i1 i2 i3 i4 i5 i6 t).2.2.2.2.2.2 y).trans (coe_tile (mmT 1024 (dxOf eps X (G 0) Z W D Ct) O) (at_14 t).1 (at_14 t).2 256 1024 (y 0).val (y 1).val).symm

/-- The gain's gradient: the sum over all rows, the other seven rows nought. -/
theorem arr_12 : Is2 (m := 8) (n := 1024) ((dat1 V c).arrAt 12 cfg1.N) (fun i k => if i < 1 then ∑ j ∈ Finset.range 8192, dhOf Z W D Ct j k * xn eps X j k else 0) :=
  (dat1 V c).arrAt_forall_of_covers 12 (fun i v => v = ((fn2 (fun i k => if i < 1 then ∑ j ∈ Finset.range 8192, dhOf Z W D Ct j k * xn eps X j k else 0) fun a => (i a).val : ℝ) : EReal)) covers_12 fun t hf y => by
    blk_simp
    rw [after1_12]
    refine (outs_sum V c i0 i1 i2 i3 i4 i5 i6 t.val t.isLt y).trans ?_
    rw [last t hf]
    exact (coe_whole (fun i k => if i < 1 then ∑ j ∈ Finset.range 8192, dhOf Z W D Ct j k * xn eps X j k else 0) (at_12 t).1 (at_12 t).2 8 1024 (y 0).val (y 1).val).symm

end Cert.Kernel4Ideal.Bwd

end
-- ==== Proof.LRun.lean ====
/-
  The run of the second layer's two calls: every buffer ends at the contents named boundary by boundary.
-/
module

public import proofs.«01_k».proof.Proof.Gen.Kernel4Ideal.Frame

@[expose] public section

set_option maxRecDepth 16384

noncomputable section

namespace Cert.Kernel4Ideal.Run

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every weakly fair execution ends, nothing faulting, with every unscoped buffer at its contents after the second call. -/
theorem run : θ_run defs (onTc (τ := τ) (main (F := F))) ⟨m, fun _ => 0, ρ⟩ (fun r => (∀ c : Dev nD,
      ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.Kernel4Ideal.Run

end
-- ==== Proof.LValues.lean ====
/-
  The values the second layer's two calls leave, as functions of the program's arguments.
-/
module

public import proofs.«01_k».proof.Proof.LFwdArray
public import proofs.«01_k».proof.Proof.LBwdArray
public import proofs.«01_k».proof.Proof.LRun

@[expose] public section

set_option maxRecDepth 16384

noncomputable section

namespace Cert.Kernel4Ideal.Values

open Cert.Kernel4Ideal Cert.Kernel4Ideal.Gen Cert.Reals Cert.Math Idealize.ShloMosaic Idealize.ShloMosaic.TcCoe

variable (m : (ℓ : Loc nD τ sig) → Buf (Elt Ideal) ℓ) (ρ : Dev nD → PrngReg) (c : Dev nD) {X Ao O G W D T B : ℕ → ℕ → ℝ}

/-! The host's casts leave the values; the first call leaves the casts. -/

theorem cast_main_v0 (h : Is2 (m ((c : Thread nD τ).loc main_arg4)) B) : Is2 (V1 m ρ c main_v0) B := by
  show Is2 (StableHlo.after hostOps0 (W0 m ρ c) (Proc.devRef .tc main_v0)) B
  after_results
  exact h.trunc
theorem second_main_v0 (h : Is2 (m ((c : Thread nD τ).loc main_arg4)) B) : Is2 (V2 m ρ c main_v0) B := by
  show Is2 (W2 m ρ c (Proc.devRef .tc main_v0)) B
  rw [W2_of m ρ c main_v0 (by decide)]; exact cast_main_v0 m ρ c h
theorem cast_main_v1 (h : Is2 (m ((c : Thread nD τ).loc main_arg5)) B) : Is2 (V1 m ρ c main_v1) B := by
  show Is2 (StableHlo.after hostOps0 (W0 m ρ c) (Proc.devRef .tc main_v1)) B
  after_results
  exact h.trunc
theorem second_main_v1 (h : Is2 (m ((c : Thread nD τ).loc main_arg5)) B) : Is2 (V2 m ρ c main_v1) B := by
  show Is2 (W2 m ρ c (Proc.devRef .tc main_v1)) B
  rw [W2_of m ρ c main_v1 (by decide)]; exact cast_main_v1 m ρ c h
theorem cast_main_v2 (h : Is2 (m ((c : Thread nD τ).loc main_arg2)) B) : Is2 (V1 m ρ c main_v2) B := by
  show Is2 (StableHlo.after hostOps0 (W0 m ρ c) (Proc.devRef .tc main_v2)) B
  after_results
  exact h.trunc
theorem second_main_v2 (h : Is2 (m ((c : Thread nD τ).loc main_arg2)) B) : Is2 (V2 m ρ c main_v2) B := by
  show Is2 (W2 m ρ c (Proc.devRef .tc main_v2)) B
  rw [W2_of m ρ c main_v2 (by decide)]; exact cast_main_v2 m ρ c h
theorem cast_main_v3 (h : Is2 (m ((c : Thread nD τ).loc main_arg1)) B) : Is2 (V1 m ρ c main_v3) B := by
  show Is2 (StableHlo.after hostOps0 (W0 m ρ c) (Proc.devRef .tc main_v3)) B
  after_results
  exact h.trunc

/-- An argument as the first and the second call find it. -/
theorem arg1 (a : Ref sig .tc) (ha : a ∈ argRefs) : V1 m ρ c a = m ((c : Thread nD τ).loc a) := W1_args m ρ c a ha
theorem arg2 (a : Ref sig .tc) (ha : a ∈ argRefs) : V2 m ρ c a = m ((c : Thread nD τ).loc a) := W2_args m ρ c a ha

variable (hx : Is2 (m ((c : Thread nD τ).loc main_arg0)) X)
  (ha : Is2 (m ((c : Thread nD τ).loc main_arg1)) Ao)
  (ho : Is2 (m ((c : Thread nD τ).loc main_arg2)) O)
  (hg : Is2 (m ((c : Thread nD τ).loc main_arg3)) G)
  (hw : Is2 (m ((c : Thread nD τ).loc main_arg4)) W)
  (hd : Is2 (m ((c : Thread nD τ).loc main_arg5)) D)
  (ht : Is2 (m ((c : Thread nD τ).loc main_arg6)) T)
include hx ha ho hg hw hd ht

theorem v4_0 : Is2 (m := 8192) (n := 1024) (W2 m ρ c (Proc.devRef .tc main_v4_0)) (xin X Ao O) := by
  rw [show W2 m ρ c (Proc.devRef .tc main_v4_0) = _ from W2_arr m ρ c 7]
  exact Fwd.arr_7 (V1 m ρ) c (arg1 m ρ c main_arg0 (by decide) ▸ hx) (arg1 m ρ c main_arg3 (by decide) ▸ hg) (cast_main_v0 m ρ c hw) (cast_main_v1 m ρ c hd)
    (cast_main_v3 m ρ c ha) (cast_main_v2 m ρ c ho) (arg1 m ρ c main_arg6 (by decide) ▸ ht)
theorem v4_1 : Is2 (m := 8192) (n := 1024) (W2 m ρ c (Proc.devRef .tc main_v4_1)) (errCt eps (xin X Ao O) (G 0) W D T) := by
  rw [show W2 m ρ c (Proc.devRef .tc main_v4_1) = _ from W2_arr m ρ c 8]
  exact Fwd.arr_8 (V1 m ρ) c (arg1 m ρ c main_arg0 (by decide) ▸ hx) (arg1 m ρ c main_arg3 (by decide) ▸ hg) (cast_main_v0 m ρ c hw) (cast_main_v1 m ρ c hd)
    (cast_main_v3 m ρ c ha) (cast_main_v2 m ρ c ho) (arg1 m ρ c main_arg6 (by decide) ▸ ht)
theorem v4_2 : Is2 (m := 8192) (n := 5632) (W2 m ρ c (Proc.devRef .tc main_v4_2)) (gu eps (xin X Ao O) (G 0) W) := by
  rw [show W2 m ρ c (Proc.devRef .tc main_v4_2) = _ from W2_arr m ρ c 9]
  exact Fwd.arr_9 (V1 m ρ) c (arg1 m ρ c main_arg0 (by decide) ▸ hx) (arg1 m ρ c main_arg3 (by decide) ▸ hg) (cast_main_v0 m ρ c hw) (cast_main_v1 m ρ c hd)
    (cast_main_v3 m ρ c ha) (cast_main_v2 m ρ c ho) (arg1 m ρ c main_arg6 (by decide) ▸ ht)
theorem v4_3 : Is2 (m := 8) (n := 128) (W2 m ρ c (Proc.devRef .tc main_v4_3)) (fun _ _ => sse eps (xin X Ao O) (G 0) W D T 8192) := by
  rw [show W2 m ρ c (Proc.devRef .tc main_v4_3) = _ from W2_arr m ρ c 10]
  exact Fwd.arr_10 (V1 m ρ) c (arg1 m ρ c main_arg0 (by decide) ▸ hx) (arg1 m ρ c main_arg3 (by decide) ▸ hg) (cast_main_v0 m ρ c hw) (cast_main_v1 m ρ c hd)
    (cast_main_v3 m ρ c ha) (cast_main_v2 m ρ c ho) (arg1 m ρ c main_arg6 (by decide) ▸ ht)

/-- What the second call finds. -/
theorem found : Is2 (V2 m ρ c main_v4_1) (errCt eps (xin X Ao O) (G 0) W D T) ∧ Is2 (V2 m ρ c main_v4_0) (xin X Ao O) ∧ Is2 (V2 m ρ c main_arg3) G
    ∧ Is2 (V2 m ρ c main_v4_2) (gu eps (xin X Ao O) (G 0) W) ∧ Is2 (V2 m ρ c main_v0) W ∧ Is2 (V2 m ρ c main_v1) D ∧ Is2 (V2 m ρ c main_v2) O :=
  ⟨v4_1 m ρ c hx ha ho hg hw hd ht, v4_0 m ρ c hx ha ho hg hw hd ht, arg2 m ρ c main_arg3 (by decide) ▸ hg, v4_2 m ρ c hx ha ho hg hw hd ht, second_main_v0 m ρ c hw, second_main_v1 m ρ c hd,
    second_main_v2 m ρ c ho⟩

/-- The twelve results: the first call's outlast the second. -/
theorem results : Is2 (m := 8192) (n := 1024) (W3 m ρ c (Proc.devRef .tc main_v4_0)) (xin X Ao O)
    ∧ Is2 (m := 8192) (n := 1024) (W3 m ρ c (Proc.devRef .tc main_v4_1)) (errCt eps (xin X Ao O) (G 0) W D T)
    ∧ Is2 (m := 8192) (n := 5632) (W3 m ρ c (Proc.devRef .tc main_v4_2)) (gu eps (xin X Ao O) (G 0) W)
    ∧ Is2 (m := 8) (n := 128) (W3 m ρ c (Proc.devRef .tc main_v4_3)) (fun _ _ => sse eps (xin X Ao O) (G 0) W D T 8192)
    ∧ Is2 (m := 8192) (n := 1024) (W3 m ρ c (Proc.devRef .tc main_v5_0)) (dx eps (xin X Ao O) (G 0) W D (errCt eps (xin X Ao O) (G 0) W D T))
    ∧ Is2 (m := 8192) (n := 2816) (W3 m ρ c (Proc.devRef .tc main_v5_1)) (act (gu eps (xin X Ao O) (G 0) W))
    ∧ Is2 (m := 8192) (n := 5632) (W3 m ρ c (Proc.devRef .tc main_v5_2)) (dgu eps (xin X Ao O) (G 0) W D (errCt eps (xin X Ao O) (G 0) W D T))
    ∧ Is2 (m := 8192) (n := 1024) (W3 m ρ c (Proc.devRef .tc main_v5_3)) (nrm eps (xin X Ao O) (G 0))
    ∧ Is2 (m := 8192) (n := 1024) (W3 m ρ c (Proc.devRef .tc main_v5_4)) (errCt eps (xin X Ao O) (G 0) W D T)
    ∧ Is2 (m := 8) (n := 1024) (W3 m ρ c (Proc.devRef .tc main_v5_5)) (dgainRows eps (xin X Ao O) (G 0) W D (errCt eps (xin X Ao O) (G 0) W D T))
    ∧ Is2 (m := 8192) (n := 1024) (W3 m ρ c (Proc.devRef .tc main_v5_6)) (dx eps (xin X Ao O) (G 0) W D (errCt eps (xin X Ao O) (G 0) W D T))
    ∧ Is2 (m := 8192) (n := 1024) (W3 m ρ c (Proc.devRef .tc main_v5_7)) (mmT 1024 (dx eps (xin X Ao O) (G 0) W D (errCt eps (xin X Ao O) (G 0) W D T)) O) := by
  obtain ⟨i0, i1, i2, i3, i4, i5, i6⟩ := found m ρ c hx ha ho hg hw hd ht
  refine ⟨?_, ?_, ?_, ?_, ?_, ?_, ?_, ?_, ?_, ?_, ?_, ?_⟩
  · rw [W3_of m ρ c main_v4_0 (by decide)]; exact v4_0 m ρ c hx ha ho hg hw hd ht
  · rw [W3_of m ρ c main_v4_1 (by decide)]; exact v4_1 m ρ c hx ha ho hg hw hd ht
  · rw [W3_of m ρ c main_v4_2 (by decide)]; exact v4_2 m ρ c hx ha ho hg hw hd ht
  · rw [W3_of m ρ c main_v4_3 (by decide)]; exact v4_3 m ρ c hx ha ho hg hw hd ht
  · rw [show W3 m ρ c (Proc.devRef .tc main_v5_0) = _ from W3_arr m ρ c 7]
    exact Bwd.arr_7 (V2 m ρ) c i0 i1 i2 i3 i4 i5 i6
  · rw [show W3 m ρ c (Proc.devRef .tc main_v5_1) = _ from W3_arr m ρ c 8]
    exact Bwd.arr_8 (V2 m ρ) c i0 i1 i2 i3 i4 i5 i6
  · rw [show W3 m ρ c (Proc.devRef .tc main_v5_2) = _ from W3_arr m ρ c 9]
    exact Bwd.arr_9 (V2 m ρ) c i0 i1 i2 i3 i4 i5 i6
  · rw [show W3 m ρ c (Proc.devRef .tc main_v5_3) = _ from W3_arr m ρ c 10]
    exact Bwd.arr_10 (V2 m ρ) c i0 i1 i2 i3 i4 i5 i6
  · rw [show W3 m ρ c (Proc.devRef .tc main_v5_4) = _ from W3_arr m ρ c 11]
    exact Bwd.arr_11 (V2 m ρ) c i0 i1 i2 i3 i4 i5 i6
  · rw [show W3 m ρ c (Proc.devRef .tc main_v5_5) = _ from W3_arr m ρ c 12]
    exact Bwd.arr_12 (V2 m ρ) c i0 i1 i2 i3 i4 i5 i6
  · rw [show W3 m ρ c (Proc.devRef .tc main_v5_6) = _ from W3_arr m ρ c 13]
    exact Bwd.arr_13 (V2 m ρ) c i0 i1 i2 i3 i4 i5 i6
  · rw [show W3 m ρ c (Proc.devRef .tc main_v5_7) = _ from W3_arr m ρ c 14]
    exact Bwd.arr_14 (V2 m ρ) c i0 i1 i2 i3 i4 i5 i6

end Cert.Kernel4Ideal.Values

end
-- ==== Proof.LReference.lean ====
/-
  What the reference of the second layer's end computes: each of its results, as a function on the reals.  From the layer's
  input and the loss's derivative on, its lines are those of the first layer's reference.
-/
module

public import proofs.«01_k».proof.Proof.Gen.Reference4Ideal.Read
public import proofs.«01_k».proof.Proof.Reference
public import proofs.«01_k».proof.Proof.LMath
public import Idealize.ShloMosaic.Lib.ValueIdxCore

@[expose] public section

set_option maxRecDepth 16384

noncomputable section

namespace Cert.Reference4Ideal.Reading

open Cert.Reference4Ideal Cert.Reference4Ideal.Gen Cert.Reference4Ideal.Read Cert.Reals Cert.Math Idealize.ShloMosaic

theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num

/-- The sum of all of an array's numbers. -/
theorem is2_sum {m n : ℕ} {Y : (⟨2, ![m, n]⟩ : Shape).Idx → EReal} {B : ℕ → ℕ → ℝ} (h : Is2 Y B) :
    ∑ j, Y j = ((∑ i ∈ Finset.range m, ∑ k ∈ Finset.range n, B i k : ℝ) : EReal) := by
  rw [ValueIdx.sum_idx2, Finset.sum_range, ← coe_sum]
  refine Finset.sum_congr rfl fun a _ => ?_
  rw [Finset.sum_range, ← coe_sum]
  exact Finset.sum_congr rfl fun b _ => h _

variable {x0 x1 : (⟨S8192x1024, .f32⟩ : BufTy).Contents (Elt Ideal)} {x2 : (⟨S1024x1024, .f32⟩ : BufTy).Contents (Elt Ideal)}
  {x3 : (⟨S1x1024, .f32⟩ : BufTy).Contents (Elt Ideal)} {x4 : (⟨S1024x5632, .f32⟩ : BufTy).Contents (Elt Ideal)}
  {x5 : (⟨S2816x1024, .f32⟩ : BufTy).Contents (Elt Ideal)} {x6 : (⟨S8192x1024, .f32⟩ : BufTy).Contents (Elt Ideal)}
  {x ao wo g wgu wd t : ℕ → ℕ → ℝ} (h0 : Is2 x0 x) (h1 : Is2 x1 ao) (h2 : Is2 x2 wo) (h3 : Is2 x3 g) (h4 : Is2 x4 wgu) (h5 : Is2 x5 wd)
  (h6 : Is2 x6 t)

include h0 h1 h2
theorem v1 : Is2 (val_main_v1 (F := Ideal) x0 x1 x2) (xin x ao wo) := h0.add (h1.hdot h2) |>.to fun v _ => rfl

include h3
theorem v84 : Is2 (val_main_v84 (F := Ideal) x0 x1 x2 x3) (nrm eps (xin x ao wo) (g 0)) :=
  Cert.ReferenceIdeal.Reading.v63 (v1 h0 h1 h2) h3

include h4
theorem v17 : Is2 (val_main_v17 (F := Ideal) x0 x1 x2 x3 x4) (gu eps (xin x ao wo) (g 0) wgu) :=
  Cert.ReferenceIdeal.Reading.v15 (v1 h0 h1 h2) h3 h4
theorem v82 : Is2 (val_main_v82 (F := Ideal) x0 x1 x2 x3 x4) (act (gu eps (xin x ao wo) (g 0) wgu)) :=
  Cert.ReferenceIdeal.Reading.v61 (v1 h0 h1 h2) h3 h4

include h5
theorem v23 : Is2 (val_main_v23 (F := Ideal) x0 x1 x2 x3 x4 x5) (out eps (xin x ao wo) (g 0) wgu wd) :=
  Cert.ReferenceIdeal.Reading.v21 (v1 h0 h1 h2) h3 h4 h5

include h6
theorem v24 : Is2 (val_main_v24 (F := Ideal) x0 x1 x2 x3 x4 x5 x6) (err eps (xin x ao wo) (g 0) wgu wd t) :=
  (v23 h0 h1 h2 h3 h4 h5).sub h6 |>.to fun v _ => rfl

theorem v79 : Is2 (m := 8) (n := 128) (val_main_v79 (F := Ideal) x0 x1 x2 x3 x4 x5 x6) fun _ _ => sse eps (xin x ao wo) (g 0) wgu wd t 8192 := by
  have h : Is2 (val_main_v77 (F := Ideal) x0 x1 x2 x3 x4 x5 x6) fun i k => err eps (xin x ao wo) (g 0) wgu wd t i k * err eps (xin x ao wo) (g 0) wgu wd t i k :=
    (v24 h0 h1 h2 h3 h4 h5 h6).mul (v24 h0 h1 h2 h3 h4 h5 h6)
  refine is_bscalar (x := val_main_v78 (F := Ideal) x0 x1 x2 x3 x4 x5 x6) fun i => ?_
  rw [val_main_v78_apply, is2_sum h]
  exact (congrArg (· + _) bits_zero).trans (by rw [EReal.coe_zero, zero_add]; rfl)

/-- The loss's derivative: half of the mean of squares, so the error over the row's length. -/
theorem v38 : Is2 (val_main_v38 (F := Ideal) x0 x1 x2 x3 x4 x5 x6) (errCt eps (xin x ao wo) (g 0) wgu wd t) := by
  have h33 : Is (val_main_v33 (F := Ideal)) fun _ => 1 / 2 * 1 := (is_constant bits_half).mul (is_constant bits_one)
  have h36 : Is1 (m := 8192) (val_main_v36 (F := Ideal)) fun _ => 1 / 2 * 1 / 1024 :=
    (Is.hdiv (is_bscalar fun i => h33 i) (is_bscalar fun _ => bits_1024) fun _ => by norm_num).to fun v _ => rfl
  have h37 : Is2 (m := 8192) (n := 1024) (val_main_v37 (F := Ideal)) fun _ _ => 1 / 2 * 1 / 1024 := h36.hcols
  have h27 : Is2 (val_main_v27 (F := Ideal) x0 x1 x2 x3 x4 x5 x6) fun i k => 2 * err eps (xin x ao wo) (g 0) wgu wd t i k :=
    Is.mul (is_bscalar fun _ => bits_two) (v24 h0 h1 h2 h3 h4 h5 h6)
  exact (h37.mul h27).to fun v _ => by simp only [fn2, errCt]; ring

omit h0 h1 h2 h3 h4 h5 h6

/-! The derivative's lines are the first layer's, of other arguments. -/

theorem v43_eq : val_main_v43 (F := Ideal) x0 x1 x2 x3 x4 x5 x6
    = Cert.ReferenceIdeal.Read.val_main_v27 (F := Ideal) (val_main_v1 (F := Ideal) x0 x1 x2) x3 x4 x5 (val_main_v38 (F := Ideal) x0 x1 x2 x3 x4 x5 x6) := by
  have h : Cert.ReferenceIdeal.Read.val_main_v22 (F := Ideal) (val_main_v38 (F := Ideal) x0 x1 x2 x3 x4 x5 x6) = val_main_v38 (F := Ideal) x0 x1 x2 x3 x4 x5 x6 := shapeCast_self _ _
  unfold Cert.ReferenceIdeal.Read.val_main_v27 Cert.ReferenceIdeal.Read.val_main_v26 Cert.ReferenceIdeal.Read.val_main_v24 Cert.ReferenceIdeal.Read.val_main_call1_v1
    Cert.ReferenceIdeal.Read.val_main_call1_v2 Cert.ReferenceIdeal.Read.val_main_call1_v0 Cert.ReferenceIdeal.Read.val_main_v25 Cert.ReferenceIdeal.Read.val_main_v23
  rw [h]
  rfl

theorem v44_eq : val_main_v44 (F := Ideal) x0 x1 x2 x3 x4 x5 x6
    = Cert.ReferenceIdeal.Read.val_main_v28 (F := Ideal) (val_main_v1 (F := Ideal) x0 x1 x2) x3 x4 x5 (val_main_v38 (F := Ideal) x0 x1 x2 x3 x4 x5 x6) := by
  unfold val_main_v44
  rw [v43_eq]
  rfl

theorem v64_eq : val_main_v64 (F := Ideal) x0 x1 x2 x3 x4 x5 x6
    = Cert.ReferenceIdeal.Read.val_main_v48 (F := Ideal) (val_main_v1 (F := Ideal) x0 x1 x2) x3 x4 x5 (val_main_v38 (F := Ideal) x0 x1 x2 x3 x4 x5 x6) := by
  unfold val_main_v64 val_main_v63 val_main_v62 val_main_v61 val_main_v60 val_main_v59 val_main_v58 val_main_v56 val_main_v55 val_main_v54 val_main_v52
    val_main_v51 val_main_v50 val_main_v49
  rw [v44_eq]
  rfl

theorem v81_eq : val_main_v81 (F := Ideal) x0 x1 x2 x3 x4 x5 x6
    = Cert.ReferenceIdeal.Read.val_main_v60 (F := Ideal) (val_main_v1 (F := Ideal) x0 x1 x2) x3 x4 x5 (val_main_v38 (F := Ideal) x0 x1 x2 x3 x4 x5 x6) := by
  unfold val_main_v81 val_main_v47 val_main_v46 val_main_v45
  rw [v44_eq]
  rfl

include h0 h1 h2 h3 h4 h5 h6

theorem v64 : Is2 (val_main_v64 (F := Ideal) x0 x1 x2 x3 x4 x5 x6) (dx eps (xin x ao wo) (g 0) wgu wd (errCt eps (xin x ao wo) (g 0) wgu wd t)) :=
  v64_eq ▸ Cert.ReferenceIdeal.Reading.v48 (v1 h0 h1 h2) h3 h4 h5 (v38 h0 h1 h2 h3 h4 h5 h6)

theorem v81 : Is2 (val_main_v81 (F := Ideal) x0 x1 x2 x3 x4 x5 x6) (dgainRows eps (xin x ao wo) (g 0) wgu wd (errCt eps (xin x ao wo) (g 0) wgu wd t)) :=
  v81_eq ▸ Cert.ReferenceIdeal.Reading.v60 (v1 h0 h1 h2) h3 h4 h5 (v38 h0 h1 h2 h3 h4 h5 h6)

theorem v83 : Is2 (val_main_v83 (F := Ideal) x0 x1 x2 x3 x4 x5 x6) (dgu eps (xin x ao wo) (g 0) wgu wd (errCt eps (xin x ao wo) (g 0) wgu wd t)) := by
  have h : val_main_v75 (F := Ideal) x0 x1 x2 x3 x4 x5 x6 = val_main_v43 (F := Ideal) x0 x1 x2 x3 x4 x5 x6 := rfl
  have h' : Is2 (val_main_v75 (F := Ideal) x0 x1 x2 x3 x4 x5 x6) (dgu eps (xin x ao wo) (g 0) wgu wd (errCt eps (xin x ao wo) (g 0) wgu wd t)) := by
    rw [h, v43_eq]
    exact Cert.ReferenceIdeal.Reading.v27 (v1 h0 h1 h2) h3 h4 h5 (v38 h0 h1 h2 h3 h4 h5 h6)
  exact h'.trunc

theorem v85 : Is2 (val_main_v85 (F := Ideal) x0 x1 x2 x3 x4 x5 x6) (errCt eps (xin x ao wo) (g 0) wgu wd t) := (v38 h0 h1 h2 h3 h4 h5 h6).trunc
theorem v86 : Is2 (val_main_v86 (F := Ideal) x0 x1 x2 x3 x4 x5 x6) (dx eps (xin x ao wo) (g 0) wgu wd (errCt eps (xin x ao wo) (g 0) wgu wd t)) :=
  (v64 h0 h1 h2 h3 h4 h5 h6).trunc

/-- The gradient of the attention's result. -/
theorem v87 : Is2 (val_main_v87 (F := Ideal) x0 x1 x2 x3 x4 x5 x6) (mmT 1024 (dx eps (xin x ao wo) (g 0) wgu wd (errCt eps (xin x ao wo) (g 0) wgu wd t)) wo) := by
  have h : Is2 (val_main_v65 (F := Ideal) x0 x1 x2 x3 x4 x5 x6) (mmT 1024 (dx eps (xin x ao wo) (g 0) wgu wd (errCt eps (xin x ao wo) (g 0) wgu wd t)) wo) :=
    (v64 h0 h1 h2 h3 h4 h5 h6).hdotT h2 |>.to fun v _ => rfl
  exact h.trunc

end Cert.Reference4Ideal.Reading

end
-- ==== Proof.FfnLoss.lean ====
/-
  The calls of the second layer's feed-forward, with the loss and the product with the output weight, equal the reference's
  derivative.
-/
module

public import proofs.«01_k».proof.Defs
public import proofs.«01_k».proof.Proof.LValues
public import proofs.«01_k».proof.Proof.LReference
public import proofs.«01_k».proof.Proof.Ffn
public import proofs.«01_k».proof.Proof.Gen.Pre_finite4
public import proofs.«01_k».proof.Proof.Gen.Reference4Ideal.Run

@[expose] public section

set_option maxRecDepth 16384

noncomputable section

namespace Cert.Proof.FfnLoss

open Idealize.ShloMosaic Idealize.ShloMosaic.TcCoe Idealize.SL.Sem Cert.Kernel4Ideal Cert.Kernel4Ideal.Gen Cert.Reals

/-- The reference leaves its arguments and declares no semaphore. -/
theorem frame_reference : Cert.quiescent_Reference4Ideal := fun m ρ _ =>
  (θ_run Cert.Reference4Ideal.defs _ _).mono
    (fun r h => ⟨fun c => (h c).2.2.2.2.2.2.2.2.2.2.2.2, Idealize.ShloMosaic.sem_eq_zero_of_no_sems (by decide) r.2⟩)
    (Cert.Reference4Ideal.Value.run (F := Ideal) m ρ)

/-- Equal real functions, equal arrays: every result of the kernel against the reference's. -/
theorem algebraic : Cert.algebraic_Kernel4Ideal_Reference4Ideal_pre_finite4 := by
  intro m g m' g' hpre hagree
  have hx c := is2_reals _ (hpre c).1
  have ha c := is2_reals _ (hpre c).2.1
  have ho c := is2_reals _ (hpre c).2.2.1
  have hg c := is2_reals _ (hpre c).2.2.2.1
  have hw c := is2_reals _ (hpre c).2.2.2.2.1
  have hd c := is2_reals _ (hpre c).2.2.2.2.2.1
  have ht c := is2_reals _ (hpre c).2.2.2.2.2.2
  have k0 c := (hx c).of_eq (hagree c).1
  have k1 c := (ha c).of_eq (hagree c).2.1
  have k2 c := (ho c).of_eq (hagree c).2.2.1
  have k3 c := (hg c).of_eq (hagree c).2.2.2.1
  have k4 c := (hw c).of_eq (hagree c).2.2.2.2.1
  have k5 c := (hd c).of_eq (hagree c).2.2.2.2.2.1
  have k6 c := (ht c).of_eq (hagree c).2.2.2.2.2.2
  refine ⟨fun c => W3 m g c (Proc.devRef .tc main_v4_0), fun c => W3 m g c (Proc.devRef .tc main_v4_1), fun c => W3 m g c (Proc.devRef .tc main_v4_2), fun c => W3 m g c (Proc.devRef .tc main_v4_3), fun c => W3 m g c (Proc.devRef .tc main_v5_0), fun c => W3 m g c (Proc.devRef .tc main_v5_1), fun c => W3 m g c (Proc.devRef .tc main_v5_2), fun c => W3 m g c (Proc.devRef .tc main_v5_3), fun c => W3 m g c (Proc.devRef .tc main_v5_4), fun c => W3 m g c (Proc.devRef .tc main_v5_5), fun c => W3 m g c (Proc.devRef .tc main_v5_6), fun c => W3 m g c (Proc.devRef .tc main_v5_7), ?_, ?_⟩
  · exact (θ_run Cert.Kernel4Ideal.defs _ _).mono
      (fun r h c => ⟨h.1 c _ (mem_uc main_v4_0 (by decide)), h.1 c _ (mem_uc main_v4_1 (by decide)), h.1 c _ (mem_uc main_v4_2 (by decide)), h.1 c _ (mem_uc main_v4_3 (by decide)), h.1 c _ (mem_uc main_v5_0 (by decide)), h.1 c _ (mem_uc main_v5_1 (by decide)), h.1 c _ (mem_uc main_v5_2 (by decide)), h.1 c _ (mem_uc main_v5_3 (by decide)), h.1 c _ (mem_uc main_v5_4 (by decide)), h.1 c _ (mem_uc main_v5_5 (by decide)), h.1 c _ (mem_uc main_v5_6 (by decide)), h.1 c _ (mem_uc main_v5_7 (by decide)),
        (h.1 c _ (mem_uc main_arg0 (by decide))).trans (W3_main_arg0 m g c), (h.1 c _ (mem_uc main_arg1 (by decide))).trans (W3_main_arg1 m g c), (h.1 c _ (mem_uc main_arg2 (by decide))).trans (W3_main_arg2 m g c), (h.1 c _ (mem_uc main_arg3 (by decide))).trans (W3_main_arg3 m g c), (h.1 c _ (mem_uc main_arg4 (by decide))).trans (W3_main_arg4 m g c), (h.1 c _ (mem_uc main_arg5 (by decide))).trans (W3_main_arg5 m g c), (h.1 c _ (mem_uc main_arg6 (by decide))).trans (W3_main_arg6 m g c)⟩)
      (Cert.Kernel4Ideal.Run.run m g)
  · refine (θ_run Cert.Reference4Ideal.defs _ _).mono (fun r h c => ?_) (Cert.Reference4Ideal.Value.run (F := Ideal) m' g')
    obtain ⟨h0, h1, h2, h3, h4, h5, h6, h7, h8, h9, h10, h11, hrest⟩ := h c
    obtain ⟨r0, r1, r2, r3, r4, r5, r6, r7, r8, r9, r10, r11⟩ := Values.results m g c (hx c) (ha c) (ho c) (hg c) (hw c) (hd c) (ht c)
    exact ⟨(h0.trans (Cert.Reference4Ideal.Read.val_main_v1_eq _ _ _)).trans (Is.eq (Cert.Reference4Ideal.Reading.v1 (k0 c) (k1 c) (k2 c)) r0),
      (h1.trans (Cert.Reference4Ideal.Read.val_main_v38_eq m' c)).trans (Is.eq (Cert.Reference4Ideal.Reading.v38 (k0 c) (k1 c) (k2 c) (k3 c) (k4 c) (k5 c) (k6 c)) r1),
      (h2.trans (Cert.Reference4Ideal.Read.val_main_v17_eq _ _ _ _ _)).trans (Is.eq (Cert.Reference4Ideal.Reading.v17 (k0 c) (k1 c) (k2 c) (k3 c) (k4 c)) r2),
      (h3.trans (Cert.Reference4Ideal.Read.val_main_v79_eq m' c)).trans (Is.eq (Cert.Reference4Ideal.Reading.v79 (k0 c) (k1 c) (k2 c) (k3 c) (k4 c) (k5 c) (k6 c)) r3),
      (h4.trans (Cert.Reference4Ideal.Read.val_main_v64_eq m' c)).trans (Is.eq (Cert.Reference4Ideal.Reading.v64 (k0 c) (k1 c) (k2 c) (k3 c) (k4 c) (k5 c) (k6 c)) r4),
      (h5.trans (Cert.Reference4Ideal.Read.val_main_v82_eq m' c)).trans (Is.eq (Cert.Reference4Ideal.Reading.v82 (k0 c) (k1 c) (k2 c) (k3 c) (k4 c)) r5),
      (h6.trans (Cert.Reference4Ideal.Read.val_main_v83_eq m' c)).trans (Is.eq (Cert.Reference4Ideal.Reading.v83 (k0 c) (k1 c) (k2 c) (k3 c) (k4 c) (k5 c) (k6 c)) r6),
      (h7.trans (Cert.Reference4Ideal.Read.val_main_v84_eq _ _ _ _)).trans (Is.eq (Cert.Reference4Ideal.Reading.v84 (k0 c) (k1 c) (k2 c) (k3 c)) r7),
      (h8.trans (Cert.Reference4Ideal.Read.val_main_v85_eq m' c)).trans (Is.eq (Cert.Reference4Ideal.Reading.v85 (k0 c) (k1 c) (k2 c) (k3 c) (k4 c) (k5 c) (k6 c)) r8),
      (h9.trans (Cert.Reference4Ideal.Read.val_main_v81_eq m' c)).trans (Is.eq (Cert.Reference4Ideal.Reading.v81 (k0 c) (k1 c) (k2 c) (k3 c) (k4 c) (k5 c) (k6 c)) r9),
      (h10.trans (Cert.Reference4Ideal.Read.val_main_v86_eq m' c)).trans (Is.eq (Cert.Reference4Ideal.Reading.v86 (k0 c) (k1 c) (k2 c) (k3 c) (k4 c) (k5 c) (k6 c)) r10),
      (h11.trans (Cert.Reference4Ideal.Read.val_main_v87_eq m' c)).trans (Is.eq (Cert.Reference4Ideal.Reading.v87 (k0 c) (k1 c) (k2 c) (k3 c) (k4 c) (k5 c) (k6 c)) r11), hrest⟩

end Cert.Proof.FfnLoss

end
-- ==== Proof.Qkv.lean ====
/-
  The backward call of the norms before the second layer's attention: the frame of its reference.
-/
module

public import proofs.«01_k».proof.Defs
public import proofs.«01_k».proof.Proof.Gen.Reference5Ideal.Run

@[expose] public section

noncomputable section

namespace Cert.Proof.Qkv

open Idealize.ShloMosaic Idealize.ShloMosaic.TcCoe Idealize.SL.Sem

/-- The reference leaves its arguments and declares no semaphore. -/
theorem frame_reference : Cert.quiescent_Reference5Ideal := fun m ρ _ =>
  (θ_run Cert.Reference5Ideal.defs _ _).mono
    (fun r h => ⟨fun c => (h c).2.2.2.2.2, Idealize.ShloMosaic.sem_eq_zero_of_no_sems (by decide) r.2⟩)
    (Cert.Reference5Ideal.Value.run (F := Ideal) m ρ)

end Cert.Proof.Qkv

end
-- ==== Proof.lean ====
/-
  The certificate's claim: the frames of the step's feed-forward, attention and convolution calls, of the second layer's feed-forward with the loss, and of the backward call of the norms before the attention; and the values of all but the last against the derivatives.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Ffn
public import proofs.«01_k».proof.Proof.Attn
public import proofs.«01_k».proof.Proof.Conv
public import proofs.«01_k».proof.Proof.FfnLoss
public import proofs.«01_k».proof.Proof.Qkv
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_finite2.Gen.facts, Cert.Pre_finite3.Gen.facts, Cert.Pre_finite4.Gen.facts,
  fun m ρ _ => Cert.Kernel.Gen.frame m ρ, fun m ρ _ => Cert.KernelIdeal.Gen.frame m ρ, fun m ρ _ => Cert.KernelIdeal.Gen.frame m ρ,
  Ffn.frame_reference, fun m ρ _ => Ffn.frame_reference m ρ trivial,
  fun m ρ _ => Cert.Kernel2.Gen.frame m ρ, fun m ρ _ => Cert.Kernel2Ideal.Gen.frame m ρ, fun m ρ _ => Cert.Kernel2Ideal.Gen.frame m ρ,
  Attn.frame_reference, fun m ρ _ => Attn.frame_reference m ρ trivial,
  fun m ρ _ => Cert.Kernel3.Gen.frame m ρ, fun m ρ _ => Cert.Kernel3Ideal.Gen.frame m ρ, fun m ρ _ => Cert.Kernel3Ideal.Gen.frame m ρ,
  Conv.frame_reference, fun m ρ _ => Conv.frame_reference m ρ trivial,
  fun m ρ _ => Cert.Kernel4.Gen.frame m ρ, fun m ρ _ => Cert.Kernel4Ideal.Gen.frame m ρ, fun m ρ _ => Cert.Kernel4Ideal.Gen.frame m ρ,
  FfnLoss.frame_reference, fun m ρ _ => FfnLoss.frame_reference m ρ trivial,
  fun m ρ _ => Cert.Kernel5.Gen.frame m ρ, fun m ρ _ => Cert.Kernel5Ideal.Gen.frame m ρ, Qkv.frame_reference,
  trivial, Ffn.algebraic, Attn.preserves, Attn.algebraic, trivial, Conv.algebraic, trivial, FfnLoss.algebraic, trivial⟩

end Cert.Proof

end
